-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def Pre_FfDown (m : (ℓ : Loc Cert.FfDown.nD Cert.FfDown.τ Cert.FfDown.sig) → Buf (Elt Bits) ℓ) : Prop :=
  True

def Pre_FfDownIdeal (m : (ℓ : Loc Cert.FfDownIdeal.nD Cert.FfDownIdeal.τ Cert.FfDownIdeal.sig) → Buf (Elt Ideal) ℓ) : Prop :=
  True

def Pre_FfDownIdeal_finite_ff [hPre_finite_ff : Cert.Pre_finite_ff.Facts] (m : (ℓ : Loc Cert.FfDownIdeal.nD Cert.FfDownIdeal.τ Cert.FfDownIdeal.sig) → Buf (Elt Ideal) ℓ) : Prop :=
  ∀ c : Dev Cert.FfDownIdeal.nD,
    (Cert.Pre_finite_ff.fn (F := Ideal) (m ((c.tc : Thread Cert.FfDownIdeal.nD Cert.FfDownIdeal.τ).loc Cert.FfDownIdeal.main_arg0)) (m ((c.tc : Thread Cert.FfDownIdeal.nD Cert.FfDownIdeal.τ).loc Cert.FfDownIdeal.main_arg1)) (m ((c.tc : Thread Cert.FfDownIdeal.nD Cert.FfDownIdeal.τ).loc Cert.FfDownIdeal.main_arg2)) (m ((c.tc : Thread Cert.FfDownIdeal.nD Cert.FfDownIdeal.τ).loc Cert.FfDownIdeal.main_arg3))).1 = (fun _ => 1#1)
    ∧ (Cert.Pre_finite_ff.fn (F := Ideal) (m ((c.tc : Thread Cert.FfDownIdeal.nD Cert.FfDownIdeal.τ).loc Cert.FfDownIdeal.main_arg0)) (m ((c.tc : Thread Cert.FfDownIdeal.nD Cert.FfDownIdeal.τ).loc Cert.FfDownIdeal.main_arg1)) (m ((c.tc : Thread Cert.FfDownIdeal.nD Cert.FfDownIdeal.τ).loc Cert.FfDownIdeal.main_arg2)) (m ((c.tc : Thread Cert.FfDownIdeal.nD Cert.FfDownIdeal.τ).loc Cert.FfDownIdeal.main_arg3))).2.1 = (fun _ => 1#1)
    ∧ (Cert.Pre_finite_ff.fn (F := Ideal) (m ((c.tc : Thread Cert.FfDownIdeal.nD Cert.FfDownIdeal.τ).loc Cert.FfDownIdeal.main_arg0)) (m ((c.tc : Thread Cert.FfDownIdeal.nD Cert.FfDownIdeal.τ).loc Cert.FfDownIdeal.main_arg1)) (m ((c.tc : Thread Cert.FfDownIdeal.nD Cert.FfDownIdeal.τ).loc Cert.FfDownIdeal.main_arg2)) (m ((c.tc : Thread Cert.FfDownIdeal.nD Cert.FfDownIdeal.τ).loc Cert.FfDownIdeal.main_arg3))).2.2.1 = (fun _ => 1#1)
    ∧ (Cert.Pre_finite_ff.fn (F := Ideal) (m ((c.tc : Thread Cert.FfDownIdeal.nD Cert.FfDownIdeal.τ).loc Cert.FfDownIdeal.main_arg0)) (m ((c.tc : Thread Cert.FfDownIdeal.nD Cert.FfDownIdeal.τ).loc Cert.FfDownIdeal.main_arg1)) (m ((c.tc : Thread Cert.FfDownIdeal.nD Cert.FfDownIdeal.τ).loc Cert.FfDownIdeal.main_arg2)) (m ((c.tc : Thread Cert.FfDownIdeal.nD Cert.FfDownIdeal.τ).loc Cert.FfDownIdeal.main_arg3))).2.2.2 = (fun _ => 1#1)

def Pre_FfDownReferenceIdeal (m : (ℓ : Loc Cert.FfDownReferenceIdeal.nD Cert.FfDownReferenceIdeal.τ Cert.FfDownReferenceIdeal.sig) → Buf (Elt Ideal) ℓ) : Prop :=
  True

def Pre_FfDownReferenceIdeal_finite_ff [hPre_finite_ff : Cert.Pre_finite_ff.Facts] (m : (ℓ : Loc Cert.FfDownReferenceIdeal.nD Cert.FfDownReferenceIdeal.τ Cert.FfDownReferenceIdeal.sig) → Buf (Elt Ideal) ℓ) : Prop :=
  ∀ c : Dev Cert.FfDownReferenceIdeal.nD,
    (Cert.Pre_finite_ff.fn (F := Ideal) (m ((c.tc : Thread Cert.FfDownReferenceIdeal.nD Cert.FfDownReferenceIdeal.τ).loc Cert.FfDownReferenceIdeal.main_arg0)) (m ((c.tc : Thread Cert.FfDownReferenceIdeal.nD Cert.FfDownReferenceIdeal.τ).loc Cert.FfDownReferenceIdeal.main_arg1)) (m ((c.tc : Thread Cert.FfDownReferenceIdeal.nD Cert.FfDownReferenceIdeal.τ).loc Cert.FfDownReferenceIdeal.main_arg2)) (m ((c.tc : Thread Cert.FfDownReferenceIdeal.nD Cert.FfDownReferenceIdeal.τ).loc Cert.FfDownReferenceIdeal.main_arg3))).1 = (fun _ => 1#1)
    ∧ (Cert.Pre_finite_ff.fn (F := Ideal) (m ((c.tc : Thread Cert.FfDownReferenceIdeal.nD Cert.FfDownReferenceIdeal.τ).loc Cert.FfDownReferenceIdeal.main_arg0)) (m ((c.tc : Thread Cert.FfDownReferenceIdeal.nD Cert.FfDownReferenceIdeal.τ).loc Cert.FfDownReferenceIdeal.main_arg1)) (m ((c.tc : Thread Cert.FfDownReferenceIdeal.nD Cert.FfDownReferenceIdeal.τ).loc Cert.FfDownReferenceIdeal.main_arg2)) (m ((c.tc : Thread Cert.FfDownReferenceIdeal.nD Cert.FfDownReferenceIdeal.τ).loc Cert.FfDownReferenceIdeal.main_arg3))).2.1 = (fun _ => 1#1)
    ∧ (Cert.Pre_finite_ff.fn (F := Ideal) (m ((c.tc : Thread Cert.FfDownReferenceIdeal.nD Cert.FfDownReferenceIdeal.τ).loc Cert.FfDownReferenceIdeal.main_arg0)) (m ((c.tc : Thread Cert.FfDownReferenceIdeal.nD Cert.FfDownReferenceIdeal.τ).loc Cert.FfDownReferenceIdeal.main_arg1)) (m ((c.tc : Thread Cert.FfDownReferenceIdeal.nD Cert.FfDownReferenceIdeal.τ).loc Cert.FfDownReferenceIdeal.main_arg2)) (m ((c.tc : Thread Cert.FfDownReferenceIdeal.nD Cert.FfDownReferenceIdeal.τ).loc Cert.FfDownReferenceIdeal.main_arg3))).2.2.1 = (fun _ => 1#1)
    ∧ (Cert.Pre_finite_ff.fn (F := Ideal) (m ((c.tc : Thread Cert.FfDownReferenceIdeal.nD Cert.FfDownReferenceIdeal.τ).loc Cert.FfDownReferenceIdeal.main_arg0)) (m ((c.tc : Thread Cert.FfDownReferenceIdeal.nD Cert.FfDownReferenceIdeal.τ).loc Cert.FfDownReferenceIdeal.main_arg1)) (m ((c.tc : Thread Cert.FfDownReferenceIdeal.nD Cert.FfDownReferenceIdeal.τ).loc Cert.FfDownReferenceIdeal.main_arg2)) (m ((c.tc : Thread Cert.FfDownReferenceIdeal.nD Cert.FfDownReferenceIdeal.τ).loc Cert.FfDownReferenceIdeal.main_arg3))).2.2.2 = (fun _ => 1#1)

def Pre_FfUp (m : (ℓ : Loc Cert.FfUp.nD Cert.FfUp.τ Cert.FfUp.sig) → Buf (Elt Bits) ℓ) : Prop :=
  True

def Pre_FfUpIdeal (m : (ℓ : Loc Cert.FfUpIdeal.nD Cert.FfUpIdeal.τ Cert.FfUpIdeal.sig) → Buf (Elt Ideal) ℓ) : Prop :=
  True

def Pre_FfUpReferenceIdeal (m : (ℓ : Loc Cert.FfUpReferenceIdeal.nD Cert.FfUpReferenceIdeal.τ Cert.FfUpReferenceIdeal.sig) → Buf (Elt Ideal) ℓ) : Prop :=
  True

def Pre_NtFf (m : (ℓ : Loc Cert.NtFf.nD Cert.NtFf.τ Cert.NtFf.sig) → Buf (Elt Bits) ℓ) : Prop :=
  True

def Pre_NtFfIdeal (m : (ℓ : Loc Cert.NtFfIdeal.nD Cert.NtFfIdeal.τ Cert.NtFfIdeal.sig) → Buf (Elt Ideal) ℓ) : Prop :=
  True

def Pre_NtFfReferenceIdeal (m : (ℓ : Loc Cert.NtFfReferenceIdeal.nD Cert.NtFfReferenceIdeal.τ Cert.NtFfReferenceIdeal.sig) → Buf (Elt Ideal) ℓ) : Prop :=
  True

def Pre_TnFf (m : (ℓ : Loc Cert.TnFf.nD Cert.TnFf.τ Cert.TnFf.sig) → Buf (Elt Bits) ℓ) : Prop :=
  True

def Pre_TnFfIdeal (m : (ℓ : Loc Cert.TnFfIdeal.nD Cert.TnFfIdeal.τ Cert.TnFfIdeal.sig) → Buf (Elt Ideal) ℓ) : Prop :=
  True

def Pre_TnFfReferenceIdeal (m : (ℓ : Loc Cert.TnFfReferenceIdeal.nD Cert.TnFfReferenceIdeal.τ Cert.TnFfReferenceIdeal.sig) → Buf (Elt Ideal) ℓ) : Prop :=
  True

def Pre_TnFfDown (m : (ℓ : Loc Cert.TnFfDown.nD Cert.TnFfDown.τ Cert.TnFfDown.sig) → Buf (Elt Bits) ℓ) : Prop :=
  True

def Pre_TnFfDownIdeal (m : (ℓ : Loc Cert.TnFfDownIdeal.nD Cert.TnFfDownIdeal.τ Cert.TnFfDownIdeal.sig) → Buf (Elt Ideal) ℓ) : Prop :=
  True

def Pre_TnFfDownReferenceIdeal (m : (ℓ : Loc Cert.TnFfDownReferenceIdeal.nD Cert.TnFfDownReferenceIdeal.τ Cert.TnFfDownReferenceIdeal.sig) → Buf (Elt Ideal) ℓ) : Prop :=
  True

def Pre_NtGate (m : (ℓ : Loc Cert.NtGate.nD Cert.NtGate.τ Cert.NtGate.sig) → Buf (Elt Bits) ℓ) : Prop :=
  True

def Pre_NtGateIdeal (m : (ℓ : Loc Cert.NtGateIdeal.nD Cert.NtGateIdeal.τ Cert.NtGateIdeal.sig) → Buf (Elt Ideal) ℓ) : Prop :=
  True

def Pre_NtGateReferenceIdeal (m : (ℓ : Loc Cert.NtGateReferenceIdeal.nD Cert.NtGateReferenceIdeal.τ Cert.NtGateReferenceIdeal.sig) → Buf (Elt Ideal) ℓ) : Prop :=
  True

def Pre_TnGate (m : (ℓ : Loc Cert.TnGate.nD Cert.TnGate.τ Cert.TnGate.sig) → Buf (Elt Bits) ℓ) : Prop :=
  True

def Pre_TnGateIdeal (m : (ℓ : Loc Cert.TnGateIdeal.nD Cert.TnGateIdeal.τ Cert.TnGateIdeal.sig) → Buf (Elt Ideal) ℓ) : Prop :=
  True

def Pre_TnGateReferenceIdeal (m : (ℓ : Loc Cert.TnGateReferenceIdeal.nD Cert.TnGateReferenceIdeal.τ Cert.TnGateReferenceIdeal.sig) → Buf (Elt Ideal) ℓ) : Prop :=
  True

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdReferenceIdeal (m : (ℓ : Loc Cert.MergeBwdReferenceIdeal.nD Cert.MergeBwdReferenceIdeal.τ Cert.MergeBwdReferenceIdeal.sig) → Buf (Elt Ideal) ℓ) : Prop :=
  True

def Pre_MergeFwd (m : (ℓ : Loc Cert.MergeFwd.nD Cert.MergeFwd.τ Cert.MergeFwd.sig) → Buf (Elt Bits) ℓ) : Prop :=
  True

def Pre_MergeFwdIdeal (m : (ℓ : Loc Cert.MergeFwdIdeal.nD Cert.MergeFwdIdeal.τ Cert.MergeFwdIdeal.sig) → Buf (Elt Ideal) ℓ) : Prop :=
  True

def Pre_MergeFwdReferenceIdeal (m : (ℓ : Loc Cert.MergeFwdReferenceIdeal.nD Cert.MergeFwdReferenceIdeal.τ Cert.MergeFwdReferenceIdeal.sig) → Buf (Elt Ideal) ℓ) : Prop :=
  True

def Pre_MmGate (m : (ℓ : Loc Cert.MmGate.nD Cert.MmGate.τ Cert.MmGate.sig) → Buf (Elt Bits) ℓ) : Prop :=
  True

def Pre_MmGateIdeal (m : (ℓ : Loc Cert.MmGateIdeal.nD Cert.MmGateIdeal.τ Cert.MmGateIdeal.sig) → Buf (Elt Ideal) ℓ) : Prop :=
  True

def Pre_MmGateReferenceIdeal (m : (ℓ : Loc Cert.MmGateReferenceIdeal.nD Cert.MmGateReferenceIdeal.τ Cert.MmGateReferenceIdeal.sig) → Buf (Elt Ideal) ℓ) : Prop :=
  True

def Pre_MmFfDown (m : (ℓ : Loc Cert.MmFfDown.nD Cert.MmFfDown.τ Cert.MmFfDown.sig) → Buf (Elt Bits) ℓ) : Prop :=
  True

def Pre_MmFfDownIdeal (m : (ℓ : Loc Cert.MmFfDownIdeal.nD Cert.MmFfDownIdeal.τ Cert.MmFfDownIdeal.sig) → Buf (Elt Ideal) ℓ) : Prop :=
  True

def Pre_MmFfDownReferenceIdeal (m : (ℓ : Loc Cert.MmFfDownReferenceIdeal.nD Cert.MmFfDownReferenceIdeal.τ Cert.MmFfDownReferenceIdeal.sig) → Buf (Elt Ideal) ℓ) : Prop :=
  True

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInReferenceIdeal (m : (ℓ : Loc Cert.MmInReferenceIdeal.nD Cert.MmInReferenceIdeal.τ Cert.MmInReferenceIdeal.sig) → Buf (Elt Ideal) ℓ) : Prop :=
  True

def Pre_NtIn (m : (ℓ : Loc Cert.NtIn.nD Cert.NtIn.τ Cert.NtIn.sig) → Buf (Elt Bits) ℓ) : Prop :=
  True

def Pre_NtInIdeal (m : (ℓ : Loc Cert.NtInIdeal.nD Cert.NtInIdeal.τ Cert.NtInIdeal.sig) → Buf (Elt Ideal) ℓ) : Prop :=
  True

def Pre_NtInReferenceIdeal (m : (ℓ : Loc Cert.NtInReferenceIdeal.nD Cert.NtInReferenceIdeal.τ Cert.NtInReferenceIdeal.sig) → Buf (Elt Ideal) ℓ) : Prop :=
  True

def Pre_TnIn (m : (ℓ : Loc Cert.TnIn.nD Cert.TnIn.τ Cert.TnIn.sig) → Buf (Elt Bits) ℓ) : Prop :=
  True

def Pre_TnInIdeal (m : (ℓ : Loc Cert.TnInIdeal.nD Cert.TnInIdeal.τ Cert.TnInIdeal.sig) → Buf (Elt Ideal) ℓ) : Prop :=
  True

def Pre_TnInReferenceIdeal (m : (ℓ : Loc Cert.TnInReferenceIdeal.nD Cert.TnInReferenceIdeal.τ Cert.TnInReferenceIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_MmOutReferenceIdeal (m : (ℓ : Loc Cert.MmOutReferenceIdeal.nD Cert.MmOutReferenceIdeal.τ Cert.MmOutReferenceIdeal.sig) → Buf (Elt Ideal) ℓ) : Prop :=
  True

def Pre_NtOut (m : (ℓ : Loc Cert.NtOut.nD Cert.NtOut.τ Cert.NtOut.sig) → Buf (Elt Bits) ℓ) : Prop :=
  True

def Pre_NtOutIdeal (m : (ℓ : Loc Cert.NtOutIdeal.nD Cert.NtOutIdeal.τ Cert.NtOutIdeal.sig) → Buf (Elt Ideal) ℓ) : Prop :=
  True

def Pre_NtOutReferenceIdeal (m : (ℓ : Loc Cert.NtOutReferenceIdeal.nD Cert.NtOutReferenceIdeal.τ Cert.NtOutReferenceIdeal.sig) → Buf (Elt Ideal) ℓ) : Prop :=
  True

def Pre_TnOut (m : (ℓ : Loc Cert.TnOut.nD Cert.TnOut.τ Cert.TnOut.sig) → Buf (Elt Bits) ℓ) : Prop :=
  True

def Pre_TnOutIdeal (m : (ℓ : Loc Cert.TnOutIdeal.nD Cert.TnOutIdeal.τ Cert.TnOutIdeal.sig) → Buf (Elt Ideal) ℓ) : Prop :=
  True

def Pre_TnOutReferenceIdeal (m : (ℓ : Loc Cert.TnOutReferenceIdeal.nD Cert.TnOutReferenceIdeal.τ Cert.TnOutReferenceIdeal.sig) → Buf (Elt Ideal) ℓ) : Prop :=
  True

def Pre_MmAttn (m : (ℓ : Loc Cert.MmAttn.nD Cert.MmAttn.τ Cert.MmAttn.sig) → Buf (Elt Bits) ℓ) : Prop :=
  True

def Pre_MmAttnIdeal (m : (ℓ : Loc Cert.MmAttnIdeal.nD Cert.MmAttnIdeal.τ Cert.MmAttnIdeal.sig) → Buf (Elt Ideal) ℓ) : Prop :=
  True

def Pre_MmAttnReferenceIdeal (m : (ℓ : Loc Cert.MmAttnReferenceIdeal.nD Cert.MmAttnReferenceIdeal.τ Cert.MmAttnReferenceIdeal.sig) → Buf (Elt Ideal) ℓ) : Prop :=
  True

def Pre_NtAttn (m : (ℓ : Loc Cert.NtAttn.nD Cert.NtAttn.τ Cert.NtAttn.sig) → Buf (Elt Bits) ℓ) : Prop :=
  True

def Pre_NtAttnIdeal (m : (ℓ : Loc Cert.NtAttnIdeal.nD Cert.NtAttnIdeal.τ Cert.NtAttnIdeal.sig) → Buf (Elt Ideal) ℓ) : Prop :=
  True

def Pre_NtAttnReferenceIdeal (m : (ℓ : Loc Cert.NtAttnReferenceIdeal.nD Cert.NtAttnReferenceIdeal.τ Cert.NtAttnReferenceIdeal.sig) → Buf (Elt Ideal) ℓ) : Prop :=
  True

def Pre_TnAttn (m : (ℓ : Loc Cert.TnAttn.nD Cert.TnAttn.τ Cert.TnAttn.sig) → Buf (Elt Bits) ℓ) : Prop :=
  True

def Pre_TnAttnIdeal (m : (ℓ : Loc Cert.TnAttnIdeal.nD Cert.TnAttnIdeal.τ Cert.TnAttnIdeal.sig) → Buf (Elt Ideal) ℓ) : Prop :=
  True

def Pre_TnAttnReferenceIdeal (m : (ℓ : Loc Cert.TnAttnReferenceIdeal.nD Cert.TnAttnReferenceIdeal.τ Cert.TnAttnReferenceIdeal.sig) → Buf (Elt Ideal) ℓ) : Prop :=
  True

def Pre_MmBranch (m : (ℓ : Loc Cert.MmBranch.nD Cert.MmBranch.τ Cert.MmBranch.sig) → Buf (Elt Bits) ℓ) : Prop :=
  True

def Pre_MmBranchIdeal (m : (ℓ : Loc Cert.MmBranchIdeal.nD Cert.MmBranchIdeal.τ Cert.MmBranchIdeal.sig) → Buf (Elt Ideal) ℓ) : Prop :=
  True

def Pre_MmBranchReferenceIdeal (m : (ℓ : Loc Cert.MmBranchReferenceIdeal.nD Cert.MmBranchReferenceIdeal.τ Cert.MmBranchReferenceIdeal.sig) → Buf (Elt Ideal) ℓ) : Prop :=
  True

def Pre_NtBranch (m : (ℓ : Loc Cert.NtBranch.nD Cert.NtBranch.τ Cert.NtBranch.sig) → Buf (Elt Bits) ℓ) : Prop :=
  True

def Pre_NtBranchIdeal (m : (ℓ : Loc Cert.NtBranchIdeal.nD Cert.NtBranchIdeal.τ Cert.NtBranchIdeal.sig) → Buf (Elt Ideal) ℓ) : Prop :=
  True

def Pre_NtBranchReferenceIdeal (m : (ℓ : Loc Cert.NtBranchReferenceIdeal.nD Cert.NtBranchReferenceIdeal.τ Cert.NtBranchReferenceIdeal.sig) → Buf (Elt Ideal) ℓ) : Prop :=
  True

def Pre_TnBranch (m : (ℓ : Loc Cert.TnBranch.nD Cert.TnBranch.τ Cert.TnBranch.sig) → Buf (Elt Bits) ℓ) : Prop :=
  True

def Pre_TnBranchIdeal (m : (ℓ : Loc Cert.TnBranchIdeal.nD Cert.TnBranchIdeal.τ Cert.TnBranchIdeal.sig) → Buf (Elt Ideal) ℓ) : Prop :=
  True

def Pre_TnBranchReferenceIdeal (m : (ℓ : Loc Cert.TnBranchReferenceIdeal.nD Cert.TnBranchReferenceIdeal.τ Cert.TnBranchReferenceIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdReferenceIdeal (m : (ℓ : Loc Cert.AdaFwdReferenceIdeal.nD Cert.AdaFwdReferenceIdeal.τ Cert.AdaFwdReferenceIdeal.sig) → Buf (Elt Ideal) ℓ) : Prop :=
  True

def Pre_AdaBwd (m : (ℓ : Loc Cert.AdaBwd.nD Cert.AdaBwd.τ Cert.AdaBwd.sig) → Buf (Elt Bits) ℓ) : Prop :=
  True

def Pre_AdaBwdIdeal (m : (ℓ : Loc Cert.AdaBwdIdeal.nD Cert.AdaBwdIdeal.τ Cert.AdaBwdIdeal.sig) → Buf (Elt Ideal) ℓ) : Prop :=
  True

def Pre_AdaBwdReferenceIdeal (m : (ℓ : Loc Cert.AdaBwdReferenceIdeal.nD Cert.AdaBwdReferenceIdeal.τ Cert.AdaBwdReferenceIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaReferenceIdeal (m : (ℓ : Loc Cert.AdamAdaReferenceIdeal.nD Cert.AdamAdaReferenceIdeal.τ Cert.AdamAdaReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_CctxGrad (m : (ℓ : Loc Cert.CctxGrad.nD Cert.CctxGrad.τ Cert.CctxGrad.sig) → Buf (Elt Bits) ℓ) : Prop :=
  True

def Pre_CctxGradIdeal (m : (ℓ : Loc Cert.CctxGradIdeal.nD Cert.CctxGradIdeal.τ Cert.CctxGradIdeal.sig) → Buf (Elt Ideal) ℓ) : Prop :=
  True

def Pre_CctxGradIdeal_finite_cctx [hPre_finite_cctx : Cert.Pre_finite_cctx.Facts] (m : (ℓ : Loc Cert.CctxGradIdeal.nD Cert.CctxGradIdeal.τ Cert.CctxGradIdeal.sig) → Buf (Elt Ideal) ℓ) : Prop :=
  ∀ c : Dev Cert.CctxGradIdeal.nD,
    (Cert.Pre_finite_cctx.fn (F := Ideal) (m ((c.tc : Thread Cert.CctxGradIdeal.nD Cert.CctxGradIdeal.τ).loc Cert.CctxGradIdeal.main_arg0)) (m ((c.tc : Thread Cert.CctxGradIdeal.nD Cert.CctxGradIdeal.τ).loc Cert.CctxGradIdeal.main_arg1))).1 = (fun _ => 1#1)
    ∧ (Cert.Pre_finite_cctx.fn (F := Ideal) (m ((c.tc : Thread Cert.CctxGradIdeal.nD Cert.CctxGradIdeal.τ).loc Cert.CctxGradIdeal.main_arg0)) (m ((c.tc : Thread Cert.CctxGradIdeal.nD Cert.CctxGradIdeal.τ).loc Cert.CctxGradIdeal.main_arg1))).2 = (fun _ => 1#1)

def Pre_CctxGradReferenceIdeal (m : (ℓ : Loc Cert.CctxGradReferenceIdeal.nD Cert.CctxGradReferenceIdeal.τ Cert.CctxGradReferenceIdeal.sig) → Buf (Elt Ideal) ℓ) : Prop :=
  True

def Pre_CctxGradReferenceIdeal_finite_cctx [hPre_finite_cctx : Cert.Pre_finite_cctx.Facts] (m : (ℓ : Loc Cert.CctxGradReferenceIdeal.nD Cert.CctxGradReferenceIdeal.τ Cert.CctxGradReferenceIdeal.sig) → Buf (Elt Ideal) ℓ) : Prop :=
  ∀ c : Dev Cert.CctxGradReferenceIdeal.nD,
    (Cert.Pre_finite_cctx.fn (F := Ideal) (m ((c.tc : Thread Cert.CctxGradReferenceIdeal.nD Cert.CctxGradReferenceIdeal.τ).loc Cert.CctxGradReferenceIdeal.main_arg0)) (m ((c.tc : Thread Cert.CctxGradReferenceIdeal.nD Cert.CctxGradReferenceIdeal.τ).loc Cert.CctxGradReferenceIdeal.main_arg1))).1 = (fun _ => 1#1)
    ∧ (Cert.Pre_finite_cctx.fn (F := Ideal) (m ((c.tc : Thread Cert.CctxGradReferenceIdeal.nD Cert.CctxGradReferenceIdeal.τ).loc Cert.CctxGradReferenceIdeal.main_arg0)) (m ((c.tc : Thread Cert.CctxGradReferenceIdeal.nD Cert.CctxGradReferenceIdeal.τ).loc Cert.CctxGradReferenceIdeal.main_arg1))).2 = (fun _ => 1#1)

def Pre_ModBwd (m : (ℓ : Loc Cert.ModBwd.nD Cert.ModBwd.τ Cert.ModBwd.sig) → Buf (Elt Bits) ℓ) : Prop :=
  True

def Pre_ModBwdIdeal (m : (ℓ : Loc Cert.ModBwdIdeal.nD Cert.ModBwdIdeal.τ Cert.ModBwdIdeal.sig) → Buf (Elt Ideal) ℓ) : Prop :=
  True

def Pre_ModBwdReferenceIdeal (m : (ℓ : Loc Cert.ModBwdReferenceIdeal.nD Cert.ModBwdReferenceIdeal.τ Cert.ModBwdReferenceIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateReferenceIdeal (m : (ℓ : Loc Cert.ModulateReferenceIdeal.nD Cert.ModulateReferenceIdeal.τ Cert.ModulateReferenceIdeal.sig) → Buf (Elt Ideal) ℓ) : Prop :=
  True

def Pre_LnBwd (m : (ℓ : Loc Cert.LnBwd.nD Cert.LnBwd.τ Cert.LnBwd.sig) → Buf (Elt Bits) ℓ) : Prop :=
  True

def Pre_LnBwdIdeal (m : (ℓ : Loc Cert.LnBwdIdeal.nD Cert.LnBwdIdeal.τ Cert.LnBwdIdeal.sig) → Buf (Elt Ideal) ℓ) : Prop :=
  True

def Pre_LnBwdIdeal_finite_ln [hPre_finite_ln : Cert.Pre_finite_ln.Facts] (m : (ℓ : Loc Cert.LnBwdIdeal.nD Cert.LnBwdIdeal.τ Cert.LnBwdIdeal.sig) → Buf (Elt Ideal) ℓ) : Prop :=
  ∀ c : Dev Cert.LnBwdIdeal.nD,
    (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6)) (m ((c.tc : Thread Cert.LnBwdIdeal.nD Cert.LnBwdIdeal.τ).loc Cert.LnBwdIdeal.main_arg7)) (m ((c.tc : Thread Cert.LnBwdIdeal.nD Cert.LnBwdIdeal.τ).loc Cert.LnBwdIdeal.main_arg8))).1 = (fun _ => 1#1)
    ∧ (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6)) (m ((c.tc : Thread Cert.LnBwdIdeal.nD Cert.LnBwdIdeal.τ).loc Cert.LnBwdIdeal.main_arg7)) (m ((c.tc : Thread Cert.LnBwdIdeal.nD Cert.LnBwdIdeal.τ).loc Cert.LnBwdIdeal.main_arg8))).2.1 = (fun _ => 1#1)
    ∧ (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6)) (m ((c.tc : Thread Cert.LnBwdIdeal.nD Cert.LnBwdIdeal.τ).loc Cert.LnBwdIdeal.main_arg7)) (m ((c.tc : Thread Cert.LnBwdIdeal.nD Cert.LnBwdIdeal.τ).loc Cert.LnBwdIdeal.main_arg8))).2.2.1 = (fun _ => 1#1)
    ∧ (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6)) (m ((c.tc : Thread Cert.LnBwdIdeal.nD Cert.LnBwdIdeal.τ).loc Cert.LnBwdIdeal.main_arg7)) (m ((c.tc : Thread Cert.LnBwdIdeal.nD Cert.LnBwdIdeal.τ).loc Cert.LnBwdIdeal.main_arg8))).2.2.2.1 = (fun _ => 1#1)
    ∧ (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6)) (m ((c.tc : Thread Cert.LnBwdIdeal.nD Cert.LnBwdIdeal.τ).loc Cert.LnBwdIdeal.main_arg7)) (m ((c.tc : Thread Cert.LnBwdIdeal.nD Cert.LnBwdIdeal.τ).loc Cert.LnBwdIdeal.main_arg8))).2.2.2.2.1 = (fun _ => 1#1)
    ∧ (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6)) (m ((c.tc : Thread Cert.LnBwdIdeal.nD Cert.LnBwdIdeal.τ).loc Cert.LnBwdIdeal.main_arg7)) (m ((c.tc : Thread Cert.LnBwdIdeal.nD Cert.LnBwdIdeal.τ).loc Cert.LnBwdIdeal.main_arg8))).2.2.2.2.2.1 = (fun _ => 1#1)
    ∧ (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6)) (m ((c.tc : Thread Cert.LnBwdIdeal.nD Cert.LnBwdIdeal.τ).loc Cert.LnBwdIdeal.main_arg7)) (m ((c.tc : Thread Cert.LnBwdIdeal.nD Cert.LnBwdIdeal.τ).loc Cert.LnBwdIdeal.main_arg8))).2.2.2.2.2.2.1 = (fun _ => 1#1)
    ∧ (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6)) (m ((c.tc : Thread Cert.LnBwdIdeal.nD Cert.LnBwdIdeal.τ).loc Cert.LnBwdIdeal.main_arg7)) (m ((c.tc : Thread Cert.LnBwdIdeal.nD Cert.LnBwdIdeal.τ).loc Cert.LnBwdIdeal.main_arg8))).2.2.2.2.2.2.2.1 = (fun _ => 1#1)
    ∧ (Cert.Pre_finite_ln.fn (F := Ideal) (m ((c.tc : Thread Cert.LnBwdIdeal.nD Cert.LnBwdIdeal.τ).loc Cert.LnBwdIdeal.main_arg0)) (m ((c.tc : Thread Cert.LnBwdIdeal.nD Cert.LnBwdIdeal.τ).loc Cert.LnBwdIdeal.main_arg1)) (m ((c.tc : Thread Cert.LnBwdIdeal.nD Cert.LnBwdIdeal.τ).loc Cert.LnBwdIdeal.main_arg2)) (m ((c.tc : Thread Cert.LnBwdIdeal.nD Cert.LnBwdIdeal.τ).loc Cert.LnBwdIdeal.main_arg3)) (m ((c.tc : Thread Cert.LnBwdIdeal.nD Cert.LnBwdIdeal.τ).loc Cert.LnBwdIdeal.main_arg4)) (m ((c.tc : Thread Cert.LnBwdIdeal.nD Cert.LnBwdIdeal.τ).loc Cert.LnBwdIdeal.main_arg5)) (m ((c.tc : Thread Cert.LnBwdIdeal.nD Cert.LnBwdIdeal.τ).loc Cert.LnBwdIdeal.main_arg6)) (m ((c.tc : Thread Cert.LnBwdIdeal.nD Cert.LnBwdIdeal.τ).loc Cert.LnBwdIdeal.main_arg7)) (m ((c.tc : Thread Cert.LnBwdIdeal.nD Cert.LnBwdIdeal.τ).loc Cert.LnBwdIdeal.main_arg8))).2.2.2.2.2.2.2.2 = (fun _ => 1#1)

def Pre_LnBwdReferenceIdeal (m : (ℓ : Loc Cert.LnBwdReferenceIdeal.nD Cert.LnBwdReferenceIdeal.τ Cert.LnBwdReferenceIdeal.sig) → Buf (Elt Ideal) ℓ) : Prop :=
  True

def Pre_LnBwdReferenceIdeal_finite_ln [hPre_finite_ln : Cert.Pre_finite_ln.Facts] (m : (ℓ : Loc Cert.LnBwdReferenceIdeal.nD Cert.LnBwdReferenceIdeal.τ Cert.LnBwdReferenceIdeal.sig) → Buf (Elt Ideal) ℓ) : Prop :=
  ∀ c : Dev Cert.LnBwdReferenceIdeal.nD,
    (Cert.Pre_finite_ln.fn (F := Ideal) (m ((c.tc : Thread Cert.LnBwdReferenceIdeal.nD Cert.LnBwdReferenceIdeal.τ).loc Cert.LnBwdReferenceIdeal.main_arg0)) (m ((c.tc : Thread Cert.LnBwdReferenceIdeal.nD Cert.LnBwdReferenceIdeal.τ).loc Cert.LnBwdReferenceIdeal.main_arg1)) (m ((c.tc : Thread Cert.LnBwdReferenceIdeal.nD Cert.LnBwdReferenceIdeal.τ).loc Cert.LnBwdReferenceIdeal.main_arg2)) (m ((c.tc : Thread Cert.LnBwdReferenceIdeal.nD Cert.LnBwdReferenceIdeal.τ).loc Cert.LnBwdReferenceIdeal.main_arg3)) (m ((c.tc : Thread Cert.LnBwdReferenceIdeal.nD Cert.LnBwdReferenceIdeal.τ).loc Cert.LnBwdReferenceIdeal.main_arg4)) (m ((c.tc : Thread Cert.LnBwdReferenceIdeal.nD Cert.LnBwdReferenceIdeal.τ).loc Cert.LnBwdReferenceIdeal.main_arg5)) (m ((c.tc : Thread Cert.LnBwdReferenceIdeal.nD Cert.LnBwdReferenceIdeal.τ).loc Cert.LnBwdReferenceIdeal.main_arg6)) (m ((c.tc : Thread Cert.LnBwdReferenceIdeal.nD Cert.LnBwdReferenceIdeal.τ).loc Cert.LnBwdReferenceIdeal.main_arg7)) (m ((c.tc : Thread Cert.LnBwdReferenceIdeal.nD Cert.LnBwdReferenceIdeal.τ).loc Cert.LnBwdReferenceIdeal.main_arg8))).1 = (fun _ => 1#1)
    ∧ (Cert.Pre_finite_ln.fn (F := Ideal) (m ((c.tc : Thread Cert.LnBwdReferenceIdeal.nD Cert.LnBwdReferenceIdeal.τ).loc Cert.LnBwdReferenceIdeal.main_arg0)) (m ((c.tc : Thread Cert.LnBwdReferenceIdeal.nD Cert.LnBwdReferenceIdeal.τ).loc Cert.LnBwdReferenceIdeal.main_arg1)) (m ((c.tc : Thread Cert.LnBwdReferenceIdeal.nD Cert.LnBwdReferenceIdeal.τ).loc Cert.LnBwdReferenceIdeal.main_arg2)) (m ((c.tc : Thread Cert.LnBwdReferenceIdeal.nD Cert.LnBwdReferenceIdeal.τ).loc Cert.LnBwdReferenceIdeal.main_arg3)) (m ((c.tc : Thread Cert.LnBwdReferenceIdeal.nD Cert.LnBwdReferenceIdeal.τ).loc Cert.LnBwdReferenceIdeal.main_arg4)) (m ((c.tc : Thread Cert.LnBwdReferenceIdeal.nD Cert.LnBwdReferenceIdeal.τ).loc Cert.LnBwdReferenceIdeal.main_arg5)) (m ((c.tc : Thread Cert.LnBwdReferenceIdeal.nD Cert.LnBwdReferenceIdeal.τ).loc Cert.LnBwdReferenceIdeal.main_arg6)) (m ((c.tc : Thread Cert.LnBwdReferenceIdeal.nD Cert.LnBwdReferenceIdeal.τ).loc Cert.LnBwdReferenceIdeal.main_arg7)) (m ((c.tc : Thread Cert.LnBwdReferenceIdeal.nD Cert.LnBwdReferenceIdeal.τ).loc Cert.LnBwdReferenceIdeal.main_arg8))).2.1 = (fun _ => 1#1)
    ∧ (Cert.Pre_finite_ln.fn (F := Ideal) (m ((c.tc : Thread Cert.LnBwdReferenceIdeal.nD Cert.LnBwdReferenceIdeal.τ).loc Cert.LnBwdReferenceIdeal.main_arg0)) (m ((c.tc : Thread Cert.LnBwdReferenceIdeal.nD Cert.LnBwdReferenceIdeal.τ).loc Cert.LnBwdReferenceIdeal.main_arg1)) (m ((c.tc : Thread Cert.LnBwdReferenceIdeal.nD Cert.LnBwdReferenceIdeal.τ).loc Cert.LnBwdReferenceIdeal.main_arg2)) (m ((c.tc : Thread Cert.LnBwdReferenceIdeal.nD Cert.LnBwdReferenceIdeal.τ).loc Cert.LnBwdReferenceIdeal.main_arg3)) (m ((c.tc : Thread Cert.LnBwdReferenceIdeal.nD Cert.LnBwdReferenceIdeal.τ).loc Cert.LnBwdReferenceIdeal.main_arg4)) (m ((c.tc : Thread Cert.LnBwdReferenceIdeal.nD Cert.LnBwdReferenceIdeal.τ).loc Cert.LnBwdReferenceIdeal.main_arg5)) (m ((c.tc : Thread Cert.LnBwdReferenceIdeal.nD Cert.LnBwdReferenceIdeal.τ).loc Cert.LnBwdReferenceIdeal.main_arg6)) (m ((c.tc : Thread Cert.LnBwdReferenceIdeal.nD Cert.LnBwdReferenceIdeal.τ).loc Cert.LnBwdReferenceIdeal.main_arg7)) (m ((c.tc : Thread Cert.LnBwdReferenceIdeal.nD Cert.LnBwdReferenceIdeal.τ).loc Cert.LnBwdReferenceIdeal.main_arg8))).2.2.1 = (fun _ => 1#1)
    ∧ (Cert.Pre_finite_ln.fn (F := Ideal) (m ((c.tc : Thread Cert.LnBwdReferenceIdeal.nD Cert.LnBwdReferenceIdeal.τ).loc Cert.LnBwdReferenceIdeal.main_arg0)) (m ((c.tc : Thread Cert.LnBwdReferenceIdeal.nD Cert.LnBwdReferenceIdeal.τ).loc Cert.LnBwdReferenceIdeal.main_arg1)) (m ((c.tc : Thread Cert.LnBwdReferenceIdeal.nD Cert.LnBwdReferenceIdeal.τ).loc Cert.LnBwdReferenceIdeal.main_arg2)) (m ((c.tc : Thread Cert.LnBwdReferenceIdeal.nD Cert.LnBwdReferenceIdeal.τ).loc Cert.LnBwdReferenceIdeal.main_arg3)) (m ((c.tc : Thread Cert.LnBwdReferenceIdeal.nD Cert.LnBwdReferenceIdeal.τ).loc Cert.LnBwdReferenceIdeal.main_arg4)) (m ((c.tc : Thread Cert.LnBwdReferenceIdeal.nD Cert.LnBwdReferenceIdeal.τ).loc Cert.LnBwdReferenceIdeal.main_arg5)) (m ((c.tc : Thread Cert.LnBwdReferenceIdeal.nD Cert.LnBwdReferenceIdeal.τ).loc Cert.LnBwdReferenceIdeal.main_arg6)) (m ((c.tc : Thread Cert.LnBwdReferenceIdeal.nD Cert.LnBwdReferenceIdeal.τ).loc Cert.LnBwdReferenceIdeal.main_arg7)) (m ((c.tc : Thread Cert.LnBwdReferenceIdeal.nD Cert.LnBwdReferenceIdeal.τ).loc Cert.LnBwdReferenceIdeal.main_arg8))).2.2.2.1 = (fun _ => 1#1)
    ∧ (Cert.Pre_finite_ln.fn (F := Ideal) (m ((c.tc : Thread Cert.LnBwdReferenceIdeal.nD Cert.LnBwdReferenceIdeal.τ).loc Cert.LnBwdReferenceIdeal.main_arg0)) (m ((c.tc : Thread Cert.LnBwdReferenceIdeal.nD Cert.LnBwdReferenceIdeal.τ).loc Cert.LnBwdReferenceIdeal.main_arg1)) (m ((c.tc : Thread Cert.LnBwdReferenceIdeal.nD Cert.LnBwdReferenceIdeal.τ).loc Cert.LnBwdReferenceIdeal.main_arg2)) (m ((c.tc : Thread Cert.LnBwdReferenceIdeal.nD Cert.LnBwdReferenceIdeal.τ).loc Cert.LnBwdReferenceIdeal.main_arg3)) (m ((c.tc : Thread Cert.LnBwdReferenceIdeal.nD Cert.LnBwdReferenceIdeal.τ).loc Cert.LnBwdReferenceIdeal.main_arg4)) (m ((c.tc : Thread Cert.LnBwdReferenceIdeal.nD Cert.LnBwdReferenceIdeal.τ).loc Cert.LnBwdReferenceIdeal.main_arg5)) (m ((c.tc : Thread Cert.LnBwdReferenceIdeal.nD Cert.LnBwdReferenceIdeal.τ).loc Cert.LnBwdReferenceIdeal.main_arg6)) (m ((c.tc : Thread Cert.LnBwdReferenceIdeal.nD Cert.LnBwdReferenceIdeal.τ).loc Cert.LnBwdReferenceIdeal.main_arg7)) (m ((c.tc : Thread Cert.LnBwdReferenceIdeal.nD Cert.LnBwdReferenceIdeal.τ).loc Cert.LnBwdReferenceIdeal.main_arg8))).2.2.2.2.1 = (fun _ => 1#1)
    ∧ (Cert.Pre_finite_ln.fn (F := Ideal) (m ((c.tc : Thread Cert.LnBwdReferenceIdeal.nD Cert.LnBwdReferenceIdeal.τ).loc Cert.LnBwdReferenceIdeal.main_arg0)) (m ((c.tc : Thread Cert.LnBwdReferenceIdeal.nD Cert.LnBwdReferenceIdeal.τ).loc Cert.LnBwdReferenceIdeal.main_arg1)) (m ((c.tc : Thread Cert.LnBwdReferenceIdeal.nD Cert.LnBwdReferenceIdeal.τ).loc Cert.LnBwdReferenceIdeal.main_arg2)) (m ((c.tc : Thread Cert.LnBwdReferenceIdeal.nD Cert.LnBwdReferenceIdeal.τ).loc Cert.LnBwdReferenceIdeal.main_arg3)) (m ((c.tc : Thread Cert.LnBwdReferenceIdeal.nD Cert.LnBwdReferenceIdeal.τ).loc Cert.LnBwdReferenceIdeal.main_arg4)) (m ((c.tc : Thread Cert.LnBwdReferenceIdeal.nD Cert.LnBwdReferenceIdeal.τ).loc Cert.LnBwdReferenceIdeal.main_arg5)) (m ((c.tc : Thread Cert.LnBwdReferenceIdeal.nD Cert.LnBwdReferenceIdeal.τ).loc Cert.LnBwdReferenceIdeal.main_arg6)) (m ((c.tc : Thread Cert.LnBwdReferenceIdeal.nD Cert.LnBwdReferenceIdeal.τ).loc Cert.LnBwdReferenceIdeal.main_arg7)) (m ((c.tc : Thread Cert.LnBwdReferenceIdeal.nD Cert.LnBwdReferenceIdeal.τ).loc Cert.LnBwdReferenceIdeal.main_arg8))).2.2.2.2.2.1 = (fun _ => 1#1)
    ∧ (Cert.Pre_finite_ln.fn (F := Ideal) (m ((c.tc : Thread Cert.LnBwdReferenceIdeal.nD Cert.LnBwdReferenceIdeal.τ).loc Cert.LnBwdReferenceIdeal.main_arg0)) (m ((c.tc : Thread Cert.LnBwdReferenceIdeal.nD Cert.LnBwdReferenceIdeal.τ).loc Cert.LnBwdReferenceIdeal.main_arg1)) (m ((c.tc : Thread Cert.LnBwdReferenceIdeal.nD Cert.LnBwdReferenceIdeal.τ).loc Cert.LnBwdReferenceIdeal.main_arg2)) (m ((c.tc : Thread Cert.LnBwdReferenceIdeal.nD Cert.LnBwdReferenceIdeal.τ).loc Cert.LnBwdReferenceIdeal.main_arg3)) (m ((c.tc : Thread Cert.LnBwdReferenceIdeal.nD Cert.LnBwdReferenceIdeal.τ).loc Cert.LnBwdReferenceIdeal.main_arg4)) (m ((c.tc : Thread Cert.LnBwdReferenceIdeal.nD Cert.LnBwdReferenceIdeal.τ).loc Cert.LnBwdReferenceIdeal.main_arg5)) (m ((c.tc : Thread Cert.LnBwdReferenceIdeal.nD Cert.LnBwdReferenceIdeal.τ).loc Cert.LnBwdReferenceIdeal.main_arg6)) (m ((c.tc : Thread Cert.LnBwdReferenceIdeal.nD Cert.LnBwdReferenceIdeal.τ).loc Cert.LnBwdReferenceIdeal.main_arg7)) (m ((c.tc : Thread Cert.LnBwdReferenceIdeal.nD Cert.LnBwdReferenceIdeal.τ).loc Cert.LnBwdReferenceIdeal.main_arg8))).2.2.2.2.2.2.1 = (fun _ => 1#1)
    ∧ (Cert.Pre_finite_ln.fn (F := Ideal) (m ((c.tc : Thread Cert.LnBwdReferenceIdeal.nD Cert.LnBwdReferenceIdeal.τ).loc Cert.LnBwdReferenceIdeal.main_arg0)) (m ((c.tc : Thread Cert.LnBwdReferenceIdeal.nD Cert.LnBwdReferenceIdeal.τ).loc Cert.LnBwdReferenceIdeal.main_arg1)) (m ((c.tc : Thread Cert.LnBwdReferenceIdeal.nD Cert.LnBwdReferenceIdeal.τ).loc Cert.LnBwdReferenceIdeal.main_arg2)) (m ((c.tc : Thread Cert.LnBwdReferenceIdeal.nD Cert.LnBwdReferenceIdeal.τ).loc Cert.LnBwdReferenceIdeal.main_arg3)) (m ((c.tc : Thread Cert.LnBwdReferenceIdeal.nD Cert.LnBwdReferenceIdeal.τ).loc Cert.LnBwdReferenceIdeal.main_arg4)) (m ((c.tc : Thread Cert.LnBwdReferenceIdeal.nD Cert.LnBwdReferenceIdeal.τ).loc Cert.LnBwdReferenceIdeal.main_arg5)) (m ((c.tc : Thread Cert.LnBwdReferenceIdeal.nD Cert.LnBwdReferenceIdeal.τ).loc Cert.LnBwdReferenceIdeal.main_arg6)) (m ((c.tc : Thread Cert.LnBwdReferenceIdeal.nD Cert.LnBwdReferenceIdeal.τ).loc Cert.LnBwdReferenceIdeal.main_arg7)) (m ((c.tc : Thread Cert.LnBwdReferenceIdeal.nD Cert.LnBwdReferenceIdeal.τ).loc Cert.LnBwdReferenceIdeal.main_arg8))).2.2.2.2.2.2.2.1 = (fun _ => 1#1)
    ∧ (Cert.Pre_finite_ln.fn (F := Ideal) (m ((c.tc : Thread Cert.LnBwdReferenceIdeal.nD Cert.LnBwdReferenceIdeal.τ).loc Cert.LnBwdReferenceIdeal.main_arg0)) (m ((c.tc : Thread Cert.LnBwdReferenceIdeal.nD Cert.LnBwdReferenceIdeal.τ).loc Cert.LnBwdReferenceIdeal.main_arg1)) (m ((c.tc : Thread Cert.LnBwdReferenceIdeal.nD Cert.LnBwdReferenceIdeal.τ).loc Cert.LnBwdReferenceIdeal.main_arg2)) (m ((c.tc : Thread Cert.LnBwdReferenceIdeal.nD Cert.LnBwdReferenceIdeal.τ).loc Cert.LnBwdReferenceIdeal.main_arg3)) (m ((c.tc : Thread Cert.LnBwdReferenceIdeal.nD Cert.LnBwdReferenceIdeal.τ).loc Cert.LnBwdReferenceIdeal.main_arg4)) (m ((c.tc : Thread Cert.LnBwdReferenceIdeal.nD Cert.LnBwdReferenceIdeal.τ).loc Cert.LnBwdReferenceIdeal.main_arg5)) (m ((c.tc : Thread Cert.LnBwdReferenceIdeal.nD Cert.LnBwdReferenceIdeal.τ).loc Cert.LnBwdReferenceIdeal.main_arg6)) (m ((c.tc : Thread Cert.LnBwdReferenceIdeal.nD Cert.LnBwdReferenceIdeal.τ).loc Cert.LnBwdReferenceIdeal.main_arg7)) (m ((c.tc : Thread Cert.LnBwdReferenceIdeal.nD Cert.LnBwdReferenceIdeal.τ).loc Cert.LnBwdReferenceIdeal.main_arg8))).2.2.2.2.2.2.2.2 = (fun _ => 1#1)

def Pre_ResidLn (m : (ℓ : Loc Cert.ResidLn.nD Cert.ResidLn.τ Cert.ResidLn.sig) → Buf (Elt Bits) ℓ) : Prop :=
  True

def Pre_ResidLnIdeal (m : (ℓ : Loc Cert.ResidLnIdeal.nD Cert.ResidLnIdeal.τ Cert.ResidLnIdeal.sig) → Buf (Elt Ideal) ℓ) : Prop :=
  True

def Pre_ResidLnReferenceIdeal (m : (ℓ : Loc Cert.ResidLnReferenceIdeal.nD Cert.ResidLnReferenceIdeal.τ Cert.ResidLnReferenceIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadReferenceIdeal (m : (ℓ : Loc Cert.LossHeadReferenceIdeal.nD Cert.LossHeadReferenceIdeal.τ Cert.LossHeadReferenceIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdReferenceIdeal (m : (ℓ : Loc Cert.ConvFwdReferenceIdeal.nD Cert.ConvFwdReferenceIdeal.τ Cert.ConvFwdReferenceIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_finite_keys [hPre_finite_keys : Cert.Pre_finite_keys.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_finite_keys.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).1 = (fun _ => 1#1)
    ∧ (Cert.Pre_finite_keys.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2))).2 = (fun _ => 1#1)

def Pre_AttnFwdReferenceIdeal (m : (ℓ : Loc Cert.AttnFwdReferenceIdeal.nD Cert.AttnFwdReferenceIdeal.τ Cert.AttnFwdReferenceIdeal.sig) → Buf (Elt Ideal) ℓ) : Prop :=
  True

def Pre_AttnFwdReferenceIdeal_finite_keys [hPre_finite_keys : Cert.Pre_finite_keys.Facts] (m : (ℓ : Loc Cert.AttnFwdReferenceIdeal.nD Cert.AttnFwdReferenceIdeal.τ Cert.AttnFwdReferenceIdeal.sig) → Buf (Elt Ideal) ℓ) : Prop :=
  ∀ c : Dev Cert.AttnFwdReferenceIdeal.nD,
    (Cert.Pre_finite_keys.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1)) (m ((c.tc : Thread Cert.AttnFwdReferenceIdeal.nD Cert.AttnFwdReferenceIdeal.τ).loc Cert.AttnFwdReferenceIdeal.main_arg2))).1 = (fun _ => 1#1)
    ∧ (Cert.Pre_finite_keys.fn (F := Ideal) (m ((c.tc : Thread Cert.AttnFwdReferenceIdeal.nD Cert.AttnFwdReferenceIdeal.τ).loc Cert.AttnFwdReferenceIdeal.main_arg0)) (m ((c.tc : Thread Cert.AttnFwdReferenceIdeal.nD Cert.AttnFwdReferenceIdeal.τ).loc Cert.AttnFwdReferenceIdeal.main_arg1)) (m ((c.tc : Thread Cert.AttnFwdReferenceIdeal.nD Cert.AttnFwdReferenceIdeal.τ).loc Cert.AttnFwdReferenceIdeal.main_arg2))).2 = (fun _ => 1#1)

def Pre_SguFwd (m : (ℓ : Loc Cert.SguFwd.nD Cert.SguFwd.τ Cert.SguFwd.sig) → Buf (Elt Bits) ℓ) : Prop :=
  True

def Pre_SguFwdIdeal (m : (ℓ : Loc Cert.SguFwdIdeal.nD Cert.SguFwdIdeal.τ Cert.SguFwdIdeal.sig) → Buf (Elt Ideal) ℓ) : Prop :=
  True

def Pre_SguFwdReferenceIdeal (m : (ℓ : Loc Cert.SguFwdReferenceIdeal.nD Cert.SguFwdReferenceIdeal.τ Cert.SguFwdReferenceIdeal.sig) → Buf (Elt Ideal) ℓ) : Prop :=
  True

def Pre_SlabSum (m : (ℓ : Loc Cert.SlabSum.nD Cert.SlabSum.τ Cert.SlabSum.sig) → Buf (Elt Bits) ℓ) : Prop :=
  True

def Pre_SlabSumIdeal (m : (ℓ : Loc Cert.SlabSumIdeal.nD Cert.SlabSumIdeal.τ Cert.SlabSumIdeal.sig) → Buf (Elt Ideal) ℓ) : Prop :=
  True

def Pre_SlabSumReferenceIdeal (m : (ℓ : Loc Cert.SlabSumReferenceIdeal.nD Cert.SlabSumReferenceIdeal.τ Cert.SlabSumReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfDown [hFfDown : Cert.FfDown.Facts] : Prop :=
  ∀ (m : (ℓ : Loc Cert.FfDown.nD Cert.FfDown.τ Cert.FfDown.sig) → Buf (Elt Bits) ℓ) (g : Dev Cert.FfDown.nD → PrngReg), Pre_FfDown m →
    θ_run (Cert.FfDown.defs (F := Bits)) (onTc (τ := Cert.FfDown.τ) (Cert.FfDown.main (F := Bits))) ⟨m, fun _ => 0, g⟩ (fun r => (∀ c : Dev Cert.FfDown.nD,
      r.2.mem ((c.tc : Thread Cert.FfDown.nD Cert.FfDown.τ).loc Cert.FfDown.main_arg0) = m ((c.tc : Thread Cert.FfDown.nD Cert.FfDown.τ).loc Cert.FfDown.main_arg0)
      ∧ r.2.mem ((c.tc : Thread Cert.FfDown.nD Cert.FfDown.τ).loc Cert.FfDown.main_arg1) = m ((c.tc : Thread Cert.FfDown.nD Cert.FfDown.τ).loc Cert.FfDown.main_arg1)
      ∧ r.2.mem ((c.tc : Thread Cert.FfDown.nD Cert.FfDown.τ).loc Cert.FfDown.main_arg2) = m ((c.tc : Thread Cert.FfDown.nD Cert.FfDown.τ).loc Cert.FfDown.main_arg2)
      ∧ r.2.mem ((c.tc : Thread Cert.FfDown.nD Cert.FfDown.τ).loc Cert.FfDown.main_arg3) = m ((c.tc : Thread Cert.FfDown.nD Cert.FfDown.τ).loc Cert.FfDown.main_arg3))
      ∧ r.2.sem = fun _ => 0)

def quiescent_FfDownIdeal [hFfDownIdeal : Cert.FfDownIdeal.Facts] : Prop :=
  ∀ (m : (ℓ : Loc Cert.FfDownIdeal.nD Cert.FfDownIdeal.τ Cert.FfDownIdeal.sig) → Buf (Elt Ideal) ℓ) (g : Dev Cert.FfDownIdeal.nD → PrngReg), Pre_FfDownIdeal m →
    θ_run (Cert.FfDownIdeal.defs (F := Ideal)) (onTc (τ := Cert.FfDownIdeal.τ) (Cert.FfDownIdeal.main (F := Ideal))) ⟨m, fun _ => 0, g⟩ (fun r => (∀ c : Dev Cert.FfDownIdeal.nD,
      r.2.mem ((c.tc : Thread Cert.FfDownIdeal.nD Cert.FfDownIdeal.τ).loc Cert.FfDownIdeal.main_arg0) = m ((c.tc : Thread Cert.FfDownIdeal.nD Cert.FfDownIdeal.τ).loc Cert.FfDownIdeal.main_arg0)
      ∧ r.2.mem ((c.tc : Thread Cert.FfDownIdeal.nD Cert.FfDownIdeal.τ).loc Cert.FfDownIdeal.main_arg1) = m ((c.tc : Thread Cert.FfDownIdeal.nD Cert.FfDownIdeal.τ).loc Cert.FfDownIdeal.main_arg1)
      ∧ r.2.mem ((c.tc : Thread Cert.FfDownIdeal.nD Cert.FfDownIdeal.τ).loc Cert.FfDownIdeal.main_arg2) = m ((c.tc : Thread Cert.FfDownIdeal.nD Cert.FfDownIdeal.τ).loc Cert.FfDownIdeal.main_arg2)
      ∧ r.2.mem ((c.tc : Thread Cert.FfDownIdeal.nD Cert.FfDownIdeal.τ).loc Cert.FfDownIdeal.main_arg3) = m ((c.tc : Thread Cert.FfDownIdeal.nD Cert.FfDownIdeal.τ).loc Cert.FfDownIdeal.main_arg3))
      ∧ r.2.sem = fun _ => 0)

def quiescent_FfDownIdeal_pre_finite_ff [hFfDownIdeal : Cert.FfDownIdeal.Facts] [hPre_finite_ff : Cert.Pre_finite_ff.Facts] : Prop :=
  ∀ (m : (ℓ : Loc Cert.FfDownIdeal.nD Cert.FfDownIdeal.τ Cert.FfDownIdeal.sig) → Buf (Elt Ideal) ℓ) (g : Dev Cert.FfDownIdeal.nD → PrngReg), Pre_FfDownIdeal_finite_ff m →
    θ_run (Cert.FfDownIdeal.defs (F := Ideal)) (onTc (τ := Cert.FfDownIdeal.τ) (Cert.FfDownIdeal.main (F := Ideal))) ⟨m, fun _ => 0, g⟩ (fun r => (∀ c : Dev Cert.FfDownIdeal.nD,
      r.2.mem ((c.tc : Thread Cert.FfDownIdeal.nD Cert.FfDownIdeal.τ).loc Cert.FfDownIdeal.main_arg0) = m ((c.tc : Thread Cert.FfDownIdeal.nD Cert.FfDownIdeal.τ).loc Cert.FfDownIdeal.main_arg0)
      ∧ r.2.mem ((c.tc : Thread Cert.FfDownIdeal.nD Cert.FfDownIdeal.τ).loc Cert.FfDownIdeal.main_arg1) = m ((c.tc : Thread Cert.FfDownIdeal.nD Cert.FfDownIdeal.τ).loc Cert.FfDownIdeal.main_arg1)
      ∧ r.2.mem ((c.tc : Thread Cert.FfDownIdeal.nD Cert.FfDownIdeal.τ).loc Cert.FfDownIdeal.main_arg2) = m ((c.tc : Thread Cert.FfDownIdeal.nD Cert.FfDownIdeal.τ).loc Cert.FfDownIdeal.main_arg2)
      ∧ r.2.mem ((c.tc : Thread Cert.FfDownIdeal.nD Cert.FfDownIdeal.τ).loc Cert.FfDownIdeal.main_arg3) = m ((c.tc : Thread Cert.FfDownIdeal.nD Cert.FfDownIdeal.τ).loc Cert.FfDownIdeal.main_arg3))
      ∧ r.2.sem = fun _ => 0)

def quiescent_FfDownReferenceIdeal [hFfDownReferenceIdeal : Cert.FfDownReferenceIdeal.Facts] : Prop :=
  ∀ (m : (ℓ : Loc Cert.FfDownReferenceIdeal.nD Cert.FfDownReferenceIdeal.τ Cert.FfDownReferenceIdeal.sig) → Buf (Elt Ideal) ℓ) (g : Dev Cert.FfDownReferenceIdeal.nD → PrngReg), Pre_FfDownReferenceIdeal m →
    θ_run (Cert.FfDownReferenceIdeal.defs (F := Ideal)) (onTc (τ := Cert.FfDownReferenceIdeal.τ) (Cert.FfDownReferenceIdeal.main (F := Ideal))) ⟨m, fun _ => 0, g⟩ (fun r => (∀ c : Dev Cert.FfDownReferenceIdeal.nD,
      r.2.mem ((c.tc : Thread Cert.FfDownReferenceIdeal.nD Cert.FfDownReferenceIdeal.τ).loc Cert.FfDownReferenceIdeal.main_arg0) = m ((c.tc : Thread Cert.FfDownReferenceIdeal.nD Cert.FfDownReferenceIdeal.τ).loc Cert.FfDownReferenceIdeal.main_arg0)
      ∧ r.2.mem ((c.tc : Thread Cert.FfDownReferenceIdeal.nD Cert.FfDownReferenceIdeal.τ).loc Cert.FfDownReferenceIdeal.main_arg1) = m ((c.tc : Thread Cert.FfDownReferenceIdeal.nD Cert.FfDownReferenceIdeal.τ).loc Cert.FfDownReferenceIdeal.main_arg1)
      ∧ r.2.mem ((c.tc : Thread Cert.FfDownReferenceIdeal.nD Cert.FfDownReferenceIdeal.τ).loc Cert.FfDownReferenceIdeal.main_arg2) = m ((c.tc : Thread Cert.FfDownReferenceIdeal.nD Cert.FfDownReferenceIdeal.τ).loc Cert.FfDownReferenceIdeal.main_arg2)
      ∧ r.2.mem ((c.tc : Thread Cert.FfDownReferenceIdeal.nD Cert.FfDownReferenceIdeal.τ).loc Cert.FfDownReferenceIdeal.main_arg3) = m ((c.tc : Thread Cert.FfDownReferenceIdeal.nD Cert.FfDownReferenceIdeal.τ).loc Cert.FfDownReferenceIdeal.main_arg3))
      ∧ r.2.sem = fun _ => 0)

def quiescent_FfDownReferenceIdeal_pre_finite_ff [hFfDownReferenceIdeal : Cert.FfDownReferenceIdeal.Facts] [hPre_finite_ff : Cert.Pre_finite_ff.Facts] : Prop :=
  ∀ (m : (ℓ : Loc Cert.FfDownReferenceIdeal.nD Cert.FfDownReferenceIdeal.τ Cert.FfDownReferenceIdeal.sig) → Buf (Elt Ideal) ℓ) (g : Dev Cert.FfDownReferenceIdeal.nD → PrngReg), Pre_FfDownReferenceIdeal_finite_ff m →
    θ_run (Cert.FfDownReferenceIdeal.defs (F := Ideal)) (onTc (τ := Cert.FfDownReferenceIdeal.τ) (Cert.FfDownReferenceIdeal.main (F := Ideal))) ⟨m, fun _ => 0, g⟩ (fun r => (∀ c : Dev Cert.FfDownReferenceIdeal.nD,
      r.2.mem ((c.tc : Thread Cert.FfDownReferenceIdeal.nD Cert.FfDownReferenceIdeal.τ).loc Cert.FfDownReferenceIdeal.main_arg0) = m ((c.tc : Thread Cert.FfDownReferenceIdeal.nD Cert.FfDownReferenceIdeal.τ).loc Cert.FfDownReferenceIdeal.main_arg0)
      ∧ r.2.mem ((c.tc : Thread Cert.FfDownReferenceIdeal.nD Cert.FfDownReferenceIdeal.τ).loc Cert.FfDownReferenceIdeal.main_arg1) = m ((c.tc : Thread Cert.FfDownReferenceIdeal.nD Cert.FfDownReferenceIdeal.τ).loc Cert.FfDownReferenceIdeal.main_arg1)
      ∧ r.2.mem ((c.tc : Thread Cert.FfDownReferenceIdeal.nD Cert.FfDownReferenceIdeal.τ).loc Cert.FfDownReferenceIdeal.main_arg2) = m ((c.tc : Thread Cert.FfDownReferenceIdeal.nD Cert.FfDownReferenceIdeal.τ).loc Cert.FfDownReferenceIdeal.main_arg2)
      ∧ r.2.mem ((c.tc : Thread Cert.FfDownReferenceIdeal.nD Cert.FfDownReferenceIdeal.τ).loc Cert.FfDownReferenceIdeal.main_arg3) = m ((c.tc : Thread Cert.FfDownReferenceIdeal.nD Cert.FfDownReferenceIdeal.τ).loc Cert.FfDownReferenceIdeal.main_arg3))
      ∧ r.2.sem = fun _ => 0)

def quiescent_FfUp [hFfUp : Cert.FfUp.Facts] : Prop :=
  ∀ (m : (ℓ : Loc Cert.FfUp.nD Cert.FfUp.τ Cert.FfUp.sig) → Buf (Elt Bits) ℓ) (g : Dev Cert.FfUp.nD → PrngReg), Pre_FfUp m →
    θ_run (Cert.FfUp.defs (F := Bits)) (onTc (τ := Cert.FfUp.τ) (Cert.FfUp.main (F := Bits))) ⟨m, fun _ => 0, g⟩ (fun r => (∀ c : Dev Cert.FfUp.nD,
      r.2.mem ((c.tc : Thread Cert.FfUp.nD Cert.FfUp.τ).loc Cert.FfUp.main_arg0) = m ((c.tc : Thread Cert.FfUp.nD Cert.FfUp.τ).loc Cert.FfUp.main_arg0)
      ∧ r.2.mem ((c.tc : Thread Cert.FfUp.nD Cert.FfUp.τ).loc Cert.FfUp.main_arg1) = m ((c.tc : Thread Cert.FfUp.nD Cert.FfUp.τ).loc Cert.FfUp.main_arg1)
      ∧ r.2.mem ((c.tc : Thread Cert.FfUp.nD Cert.FfUp.τ).loc Cert.FfUp.main_arg2) = m ((c.tc : Thread Cert.FfUp.nD Cert.FfUp.τ).loc Cert.FfUp.main_arg2))
      ∧ r.2.sem = fun _ => 0)

def quiescent_FfUpIdeal [hFfUpIdeal : Cert.FfUpIdeal.Facts] : Prop :=
  ∀ (m : (ℓ : Loc Cert.FfUpIdeal.nD Cert.FfUpIdeal.τ Cert.FfUpIdeal.sig) → Buf (Elt Ideal) ℓ) (g : Dev Cert.FfUpIdeal.nD → PrngReg), Pre_FfUpIdeal m →
    θ_run (Cert.FfUpIdeal.defs (F := Ideal)) (onTc (τ := Cert.FfUpIdeal.τ) (Cert.FfUpIdeal.main (F := Ideal))) ⟨m, fun _ => 0, g⟩ (fun r => (∀ c : Dev Cert.FfUpIdeal.nD,
      r.2.mem ((c.tc : Thread Cert.FfUpIdeal.nD Cert.FfUpIdeal.τ).loc Cert.FfUpIdeal.main_arg0) = m ((c.tc : Thread Cert.FfUpIdeal.nD Cert.FfUpIdeal.τ).loc Cert.FfUpIdeal.main_arg0)
      ∧ r.2.mem ((c.tc : Thread Cert.FfUpIdeal.nD Cert.FfUpIdeal.τ).loc Cert.FfUpIdeal.main_arg1) = m ((c.tc : Thread Cert.FfUpIdeal.nD Cert.FfUpIdeal.τ).loc Cert.FfUpIdeal.main_arg1)
      ∧ r.2.mem ((c.tc : Thread Cert.FfUpIdeal.nD Cert.FfUpIdeal.τ).loc Cert.FfUpIdeal.main_arg2) = m ((c.tc : Thread Cert.FfUpIdeal.nD Cert.FfUpIdeal.τ).loc Cert.FfUpIdeal.main_arg2))
      ∧ r.2.sem = fun _ => 0)

def quiescent_FfUpReferenceIdeal [hFfUpReferenceIdeal : Cert.FfUpReferenceIdeal.Facts] : Prop :=
  ∀ (m : (ℓ : Loc Cert.FfUpReferenceIdeal.nD Cert.FfUpReferenceIdeal.τ Cert.FfUpReferenceIdeal.sig) → Buf (Elt Ideal) ℓ) (g : Dev Cert.FfUpReferenceIdeal.nD → PrngReg), Pre_FfUpReferenceIdeal m →
    θ_run (Cert.FfUpReferenceIdeal.defs (F := Ideal)) (onTc (τ := Cert.FfUpReferenceIdeal.τ) (Cert.FfUpReferenceIdeal.main (F := Ideal))) ⟨m, fun _ => 0, g⟩ (fun r => (∀ c : Dev Cert.FfUpReferenceIdeal.nD,
      r.2.mem ((c.tc : Thread Cert.FfUpReferenceIdeal.nD Cert.FfUpReferenceIdeal.τ).loc Cert.FfUpReferenceIdeal.main_arg0) = m ((c.tc : Thread Cert.FfUpReferenceIdeal.nD Cert.FfUpReferenceIdeal.τ).loc Cert.FfUpReferenceIdeal.main_arg0)
      ∧ r.2.mem ((c.tc : Thread Cert.FfUpReferenceIdeal.nD Cert.FfUpReferenceIdeal.τ).loc Cert.FfUpReferenceIdeal.main_arg1) = m ((c.tc : Thread Cert.FfUpReferenceIdeal.nD Cert.FfUpReferenceIdeal.τ).loc Cert.FfUpReferenceIdeal.main_arg1)
      ∧ r.2.mem ((c.tc : Thread Cert.FfUpReferenceIdeal.nD Cert.FfUpReferenceIdeal.τ).loc Cert.FfUpReferenceIdeal.main_arg2) = m ((c.tc : Thread Cert.FfUpReferenceIdeal.nD Cert.FfUpReferenceIdeal.τ).loc Cert.FfUpReferenceIdeal.main_arg2))
      ∧ r.2.sem = fun _ => 0)

def quiescent_NtFf [hNtFf : Cert.NtFf.Facts] : Prop :=
  ∀ (m : (ℓ : Loc Cert.NtFf.nD Cert.NtFf.τ Cert.NtFf.sig) → Buf (Elt Bits) ℓ) (g : Dev Cert.NtFf.nD → PrngReg), Pre_NtFf m →
    θ_run (Cert.NtFf.defs (F := Bits)) (onTc (τ := Cert.NtFf.τ) (Cert.NtFf.main (F := Bits))) ⟨m, fun _ => 0, g⟩ (fun r => (∀ c : Dev Cert.NtFf.nD,
      r.2.mem ((c.tc : Thread Cert.NtFf.nD Cert.NtFf.τ).loc Cert.NtFf.main_arg0) = m ((c.tc : Thread Cert.NtFf.nD Cert.NtFf.τ).loc Cert.NtFf.main_arg0)
      ∧ r.2.mem ((c.tc : Thread Cert.NtFf.nD Cert.NtFf.τ).loc Cert.NtFf.main_arg1) = m ((c.tc : Thread Cert.NtFf.nD Cert.NtFf.τ).loc Cert.NtFf.main_arg1))
      ∧ r.2.sem = fun _ => 0)

def quiescent_NtFfIdeal [hNtFfIdeal : Cert.NtFfIdeal.Facts] : Prop :=
  ∀ (m : (ℓ : Loc Cert.NtFfIdeal.nD Cert.NtFfIdeal.τ Cert.NtFfIdeal.sig) → Buf (Elt Ideal) ℓ) (g : Dev Cert.NtFfIdeal.nD → PrngReg), Pre_NtFfIdeal m →
    θ_run (Cert.NtFfIdeal.defs (F := Ideal)) (onTc (τ := Cert.NtFfIdeal.τ) (Cert.NtFfIdeal.main (F := Ideal))) ⟨m, fun _ => 0, g⟩ (fun r => (∀ c : Dev Cert.NtFfIdeal.nD,
      r.2.mem ((c.tc : Thread Cert.NtFfIdeal.nD Cert.NtFfIdeal.τ).loc Cert.NtFfIdeal.main_arg0) = m ((c.tc : Thread Cert.NtFfIdeal.nD Cert.NtFfIdeal.τ).loc Cert.NtFfIdeal.main_arg0)
      ∧ r.2.mem ((c.tc : Thread Cert.NtFfIdeal.nD Cert.NtFfIdeal.τ).loc Cert.NtFfIdeal.main_arg1) = m ((c.tc : Thread Cert.NtFfIdeal.nD Cert.NtFfIdeal.τ).loc Cert.NtFfIdeal.main_arg1))
      ∧ r.2.sem = fun _ => 0)

def quiescent_NtFfReferenceIdeal [hNtFfReferenceIdeal : Cert.NtFfReferenceIdeal.Facts] : Prop :=
  ∀ (m : (ℓ : Loc Cert.NtFfReferenceIdeal.nD Cert.NtFfReferenceIdeal.τ Cert.NtFfReferenceIdeal.sig) → Buf (Elt Ideal) ℓ) (g : Dev Cert.NtFfReferenceIdeal.nD → PrngReg), Pre_NtFfReferenceIdeal m →
    θ_run (Cert.NtFfReferenceIdeal.defs (F := Ideal)) (onTc (τ := Cert.NtFfReferenceIdeal.τ) (Cert.NtFfReferenceIdeal.main (F := Ideal))) ⟨m, fun _ => 0, g⟩ (fun r => (∀ c : Dev Cert.NtFfReferenceIdeal.nD,
      r.2.mem ((c.tc : Thread Cert.NtFfReferenceIdeal.nD Cert.NtFfReferenceIdeal.τ).loc Cert.NtFfReferenceIdeal.main_arg0) = m ((c.tc : Thread Cert.NtFfReferenceIdeal.nD Cert.NtFfReferenceIdeal.τ).loc Cert.NtFfReferenceIdeal.main_arg0)
      ∧ r.2.mem ((c.tc : Thread Cert.NtFfReferenceIdeal.nD Cert.NtFfReferenceIdeal.τ).loc Cert.NtFfReferenceIdeal.main_arg1) = m ((c.tc : Thread Cert.NtFfReferenceIdeal.nD Cert.NtFfReferenceIdeal.τ).loc Cert.NtFfReferenceIdeal.main_arg1))
      ∧ r.2.sem = fun _ => 0)

def quiescent_TnFf [hTnFf : Cert.TnFf.Facts] : Prop :=
  ∀ (m : (ℓ : Loc Cert.TnFf.nD Cert.TnFf.τ Cert.TnFf.sig) → Buf (Elt Bits) ℓ) (g : Dev Cert.TnFf.nD → PrngReg), Pre_TnFf m →
    θ_run (Cert.TnFf.defs (F := Bits)) (onTc (τ := Cert.TnFf.τ) (Cert.TnFf.main (F := Bits))) ⟨m, fun _ => 0, g⟩ (fun r => (∀ c : Dev Cert.TnFf.nD,
      r.2.mem ((c.tc : Thread Cert.TnFf.nD Cert.TnFf.τ).loc Cert.TnFf.main_arg0) = m ((c.tc : Thread Cert.TnFf.nD Cert.TnFf.τ).loc Cert.TnFf.main_arg0)
      ∧ r.2.mem ((c.tc : Thread Cert.TnFf.nD Cert.TnFf.τ).loc Cert.TnFf.main_arg1) = m ((c.tc : Thread Cert.TnFf.nD Cert.TnFf.τ).loc Cert.TnFf.main_arg1))
      ∧ r.2.sem = fun _ => 0)

def quiescent_TnFfIdeal [hTnFfIdeal : Cert.TnFfIdeal.Facts] : Prop :=
  ∀ (m : (ℓ : Loc Cert.TnFfIdeal.nD Cert.TnFfIdeal.τ Cert.TnFfIdeal.sig) → Buf (Elt Ideal) ℓ) (g : Dev Cert.TnFfIdeal.nD → PrngReg), Pre_TnFfIdeal m →
    θ_run (Cert.TnFfIdeal.defs (F := Ideal)) (onTc (τ := Cert.TnFfIdeal.τ) (Cert.TnFfIdeal.main (F := Ideal))) ⟨m, fun _ => 0, g⟩ (fun r => (∀ c : Dev Cert.TnFfIdeal.nD,
      r.2.mem ((c.tc : Thread Cert.TnFfIdeal.nD Cert.TnFfIdeal.τ).loc Cert.TnFfIdeal.main_arg0) = m ((c.tc : Thread Cert.TnFfIdeal.nD Cert.TnFfIdeal.τ).loc Cert.TnFfIdeal.main_arg0)
      ∧ r.2.mem ((c.tc : Thread Cert.TnFfIdeal.nD Cert.TnFfIdeal.τ).loc Cert.TnFfIdeal.main_arg1) = m ((c.tc : Thread Cert.TnFfIdeal.nD Cert.TnFfIdeal.τ).loc Cert.TnFfIdeal.main_arg1))
      ∧ r.2.sem = fun _ => 0)

def quiescent_TnFfReferenceIdeal [hTnFfReferenceIdeal : Cert.TnFfReferenceIdeal.Facts] : Prop :=
  ∀ (m : (ℓ : Loc Cert.TnFfReferenceIdeal.nD Cert.TnFfReferenceIdeal.τ Cert.TnFfReferenceIdeal.sig) → Buf (Elt Ideal) ℓ) (g : Dev Cert.TnFfReferenceIdeal.nD → PrngReg), Pre_TnFfReferenceIdeal m →
    θ_run (Cert.TnFfReferenceIdeal.defs (F := Ideal)) (onTc (τ := Cert.TnFfReferenceIdeal.τ) (Cert.TnFfReferenceIdeal.main (F := Ideal))) ⟨m, fun _ => 0, g⟩ (fun r => (∀ c : Dev Cert.TnFfReferenceIdeal.nD,
      r.2.mem ((c.tc : Thread Cert.TnFfReferenceIdeal.nD Cert.TnFfReferenceIdeal.τ).loc Cert.TnFfReferenceIdeal.main_arg0) = m ((c.tc : Thread Cert.TnFfReferenceIdeal.nD Cert.TnFfReferenceIdeal.τ).loc Cert.TnFfReferenceIdeal.main_arg0)
      ∧ r.2.mem ((c.tc : Thread Cert.TnFfReferenceIdeal.nD Cert.TnFfReferenceIdeal.τ).loc Cert.TnFfReferenceIdeal.main_arg1) = m ((c.tc : Thread Cert.TnFfReferenceIdeal.nD Cert.TnFfReferenceIdeal.τ).loc Cert.TnFfReferenceIdeal.main_arg1))
      ∧ r.2.sem = fun _ => 0)

def quiescent_TnFfDown [hTnFfDown : Cert.TnFfDown.Facts] : Prop :=
  ∀ (m : (ℓ : Loc Cert.TnFfDown.nD Cert.TnFfDown.τ Cert.TnFfDown.sig) → Buf (Elt Bits) ℓ) (g : Dev Cert.TnFfDown.nD → PrngReg), Pre_TnFfDown m →
    θ_run (Cert.TnFfDown.defs (F := Bits)) (onTc (τ := Cert.TnFfDown.τ) (Cert.TnFfDown.main (F := Bits))) ⟨m, fun _ => 0, g⟩ (fun r => (∀ c : Dev Cert.TnFfDown.nD,
      r.2.mem ((c.tc : Thread Cert.TnFfDown.nD Cert.TnFfDown.τ).loc Cert.TnFfDown.main_arg0) = m ((c.tc : Thread Cert.TnFfDown.nD Cert.TnFfDown.τ).loc Cert.TnFfDown.main_arg0)
      ∧ r.2.mem ((c.tc : Thread Cert.TnFfDown.nD Cert.TnFfDown.τ).loc Cert.TnFfDown.main_arg1) = m ((c.tc : Thread Cert.TnFfDown.nD Cert.TnFfDown.τ).loc Cert.TnFfDown.main_arg1))
      ∧ r.2.sem = fun _ => 0)

def quiescent_TnFfDownIdeal [hTnFfDownIdeal : Cert.TnFfDownIdeal.Facts] : Prop :=
  ∀ (m : (ℓ : Loc Cert.TnFfDownIdeal.nD Cert.TnFfDownIdeal.τ Cert.TnFfDownIdeal.sig) → Buf (Elt Ideal) ℓ) (g : Dev Cert.TnFfDownIdeal.nD → PrngReg), Pre_TnFfDownIdeal m →
    θ_run (Cert.TnFfDownIdeal.defs (F := Ideal)) (onTc (τ := Cert.TnFfDownIdeal.τ) (Cert.TnFfDownIdeal.main (F := Ideal))) ⟨m, fun _ => 0, g⟩ (fun r => (∀ c : Dev Cert.TnFfDownIdeal.nD,
      r.2.mem ((c.tc : Thread Cert.TnFfDownIdeal.nD Cert.TnFfDownIdeal.τ).loc Cert.TnFfDownIdeal.main_arg0) = m ((c.tc : Thread Cert.TnFfDownIdeal.nD Cert.TnFfDownIdeal.τ).loc Cert.TnFfDownIdeal.main_arg0)
      ∧ r.2.mem ((c.tc : Thread Cert.TnFfDownIdeal.nD Cert.TnFfDownIdeal.τ).loc Cert.TnFfDownIdeal.main_arg1) = m ((c.tc : Thread Cert.TnFfDownIdeal.nD Cert.TnFfDownIdeal.τ).loc Cert.TnFfDownIdeal.main_arg1))
      ∧ r.2.sem = fun _ => 0)

def quiescent_TnFfDownReferenceIdeal [hTnFfDownReferenceIdeal : Cert.TnFfDownReferenceIdeal.Facts] : Prop :=
  ∀ (m : (ℓ : Loc Cert.TnFfDownReferenceIdeal.nD Cert.TnFfDownReferenceIdeal.τ Cert.TnFfDownReferenceIdeal.sig) → Buf (Elt Ideal) ℓ) (g : Dev Cert.TnFfDownReferenceIdeal.nD → PrngReg), Pre_TnFfDownReferenceIdeal m →
    θ_run (Cert.TnFfDownReferenceIdeal.defs (F := Ideal)) (onTc (τ := Cert.TnFfDownReferenceIdeal.τ) (Cert.TnFfDownReferenceIdeal.main (F := Ideal))) ⟨m, fun _ => 0, g⟩ (fun r => (∀ c : Dev Cert.TnFfDownReferenceIdeal.nD,
      r.2.mem ((c.tc : Thread Cert.TnFfDownReferenceIdeal.nD Cert.TnFfDownReferenceIdeal.τ).loc Cert.TnFfDownReferenceIdeal.main_arg0) = m ((c.tc : Thread Cert.TnFfDownReferenceIdeal.nD Cert.TnFfDownReferenceIdeal.τ).loc Cert.TnFfDownReferenceIdeal.main_arg0)
      ∧ r.2.mem ((c.tc : Thread Cert.TnFfDownReferenceIdeal.nD Cert.TnFfDownReferenceIdeal.τ).loc Cert.TnFfDownReferenceIdeal.main_arg1) = m ((c.tc : Thread Cert.TnFfDownReferenceIdeal.nD Cert.TnFfDownReferenceIdeal.τ).loc Cert.TnFfDownReferenceIdeal.main_arg1))
      ∧ r.2.sem = fun _ => 0)

def quiescent_NtGate [hNtGate : Cert.NtGate.Facts] : Prop :=
  ∀ (m : (ℓ : Loc Cert.NtGate.nD Cert.NtGate.τ Cert.NtGate.sig) → Buf (Elt Bits) ℓ) (g : Dev Cert.NtGate.nD → PrngReg), Pre_NtGate m →
    θ_run (Cert.NtGate.defs (F := Bits)) (onTc (τ := Cert.NtGate.τ) (Cert.NtGate.main (F := Bits))) ⟨m, fun _ => 0, g⟩ (fun r => (∀ c : Dev Cert.NtGate.nD,
      r.2.mem ((c.tc : Thread Cert.NtGate.nD Cert.NtGate.τ).loc Cert.NtGate.main_arg0) = m ((c.tc : Thread Cert.NtGate.nD Cert.NtGate.τ).loc Cert.NtGate.main_arg0)
      ∧ r.2.mem ((c.tc : Thread Cert.NtGate.nD Cert.NtGate.τ).loc Cert.NtGate.main_arg1) = m ((c.tc : Thread Cert.NtGate.nD Cert.NtGate.τ).loc Cert.NtGate.main_arg1))
      ∧ r.2.sem = fun _ => 0)

def quiescent_NtGateIdeal [hNtGateIdeal : Cert.NtGateIdeal.Facts] : Prop :=
  ∀ (m : (ℓ : Loc Cert.NtGateIdeal.nD Cert.NtGateIdeal.τ Cert.NtGateIdeal.sig) → Buf (Elt Ideal) ℓ) (g : Dev Cert.NtGateIdeal.nD → PrngReg), Pre_NtGateIdeal m →
    θ_run (Cert.NtGateIdeal.defs (F := Ideal)) (onTc (τ := Cert.NtGateIdeal.τ) (Cert.NtGateIdeal.main (F := Ideal))) ⟨m, fun _ => 0, g⟩ (fun r => (∀ c : Dev Cert.NtGateIdeal.nD,
      r.2.mem ((c.tc : Thread Cert.NtGateIdeal.nD Cert.NtGateIdeal.τ).loc Cert.NtGateIdeal.main_arg0) = m ((c.tc : Thread Cert.NtGateIdeal.nD Cert.NtGateIdeal.τ).loc Cert.NtGateIdeal.main_arg0)
      ∧ r.2.mem ((c.tc : Thread Cert.NtGateIdeal.nD Cert.NtGateIdeal.τ).loc Cert.NtGateIdeal.main_arg1) = m ((c.tc : Thread Cert.NtGateIdeal.nD Cert.NtGateIdeal.τ).loc Cert.NtGateIdeal.main_arg1))
      ∧ r.2.sem = fun _ => 0)

def quiescent_NtGateReferenceIdeal [hNtGateReferenceIdeal : Cert.NtGateReferenceIdeal.Facts] : Prop :=
  ∀ (m : (ℓ : Loc Cert.NtGateReferenceIdeal.nD Cert.NtGateReferenceIdeal.τ Cert.NtGateReferenceIdeal.sig) → Buf (Elt Ideal) ℓ) (g : Dev Cert.NtGateReferenceIdeal.nD → PrngReg), Pre_NtGateReferenceIdeal m →
    θ_run (Cert.NtGateReferenceIdeal.defs (F := Ideal)) (onTc (τ := Cert.NtGateReferenceIdeal.τ) (Cert.NtGateReferenceIdeal.main (F := Ideal))) ⟨m, fun _ => 0, g⟩ (fun r => (∀ c : Dev Cert.NtGateReferenceIdeal.nD,
      r.2.mem ((c.tc : Thread Cert.NtGateReferenceIdeal.nD Cert.NtGateReferenceIdeal.τ).loc Cert.NtGateReferenceIdeal.main_arg0) = m ((c.tc : Thread Cert.NtGateReferenceIdeal.nD Cert.NtGateReferenceIdeal.τ).loc Cert.NtGateReferenceIdeal.main_arg0)
      ∧ r.2.mem ((c.tc : Thread Cert.NtGateReferenceIdeal.nD Cert.NtGateReferenceIdeal.τ).loc Cert.NtGateReferenceIdeal.main_arg1) = m ((c.tc : Thread Cert.NtGateReferenceIdeal.nD Cert.NtGateReferenceIdeal.τ).loc Cert.NtGateReferenceIdeal.main_arg1))
      ∧ r.2.sem = fun _ => 0)

def quiescent_TnGate [hTnGate : Cert.TnGate.Facts] : Prop :=
  ∀ (m : (ℓ : Loc Cert.TnGate.nD Cert.TnGate.τ Cert.TnGate.sig) → Buf (Elt Bits) ℓ) (g : Dev Cert.TnGate.nD → PrngReg), Pre_TnGate m →
    θ_run (Cert.TnGate.defs (F := Bits)) (onTc (τ := Cert.TnGate.τ) (Cert.TnGate.main (F := Bits))) ⟨m, fun _ => 0, g⟩ (fun r => (∀ c : Dev Cert.TnGate.nD,
      r.2.mem ((c.tc : Thread Cert.TnGate.nD Cert.TnGate.τ).loc Cert.TnGate.main_arg0) = m ((c.tc : Thread Cert.TnGate.nD Cert.TnGate.τ).loc Cert.TnGate.main_arg0)
      ∧ r.2.mem ((c.tc : Thread Cert.TnGate.nD Cert.TnGate.τ).loc Cert.TnGate.main_arg1) = m ((c.tc : Thread Cert.TnGate.nD Cert.TnGate.τ).loc Cert.TnGate.main_arg1))
      ∧ r.2.sem = fun _ => 0)

def quiescent_TnGateIdeal [hTnGateIdeal : Cert.TnGateIdeal.Facts] : Prop :=
  ∀ (m : (ℓ : Loc Cert.TnGateIdeal.nD Cert.TnGateIdeal.τ Cert.TnGateIdeal.sig) → Buf (Elt Ideal) ℓ) (g : Dev Cert.TnGateIdeal.nD → PrngReg), Pre_TnGateIdeal m →
    θ_run (Cert.TnGateIdeal.defs (F := Ideal)) (onTc (τ := Cert.TnGateIdeal.τ) (Cert.TnGateIdeal.main (F := Ideal))) ⟨m, fun _ => 0, g⟩ (fun r => (∀ c : Dev Cert.TnGateIdeal.nD,
      r.2.mem ((c.tc : Thread Cert.TnGateIdeal.nD Cert.TnGateIdeal.τ).loc Cert.TnGateIdeal.main_arg0) = m ((c.tc : Thread Cert.TnGateIdeal.nD Cert.TnGateIdeal.τ).loc Cert.TnGateIdeal.main_arg0)
      ∧ r.2.mem ((c.tc : Thread Cert.TnGateIdeal.nD Cert.TnGateIdeal.τ).loc Cert.TnGateIdeal.main_arg1) = m ((c.tc : Thread Cert.TnGateIdeal.nD Cert.TnGateIdeal.τ).loc Cert.TnGateIdeal.main_arg1))
      ∧ r.2.sem = fun _ => 0)

def quiescent_TnGateReferenceIdeal [hTnGateReferenceIdeal : Cert.TnGateReferenceIdeal.Facts] : Prop :=
  ∀ (m : (ℓ : Loc Cert.TnGateReferenceIdeal.nD Cert.TnGateReferenceIdeal.τ Cert.TnGateReferenceIdeal.sig) → Buf (Elt Ideal) ℓ) (g : Dev Cert.TnGateReferenceIdeal.nD → PrngReg), Pre_TnGateReferenceIdeal m →
    θ_run (Cert.TnGateReferenceIdeal.defs (F := Ideal)) (onTc (τ := Cert.TnGateReferenceIdeal.τ) (Cert.TnGateReferenceIdeal.main (F := Ideal))) ⟨m, fun _ => 0, g⟩ (fun r => (∀ c : Dev Cert.TnGateReferenceIdeal.nD,
      r.2.mem ((c.tc : Thread Cert.TnGateReferenceIdeal.nD Cert.TnGateReferenceIdeal.τ).loc Cert.TnGateReferenceIdeal.main_arg0) = m ((c.tc : Thread Cert.TnGateReferenceIdeal.nD Cert.TnGateReferenceIdeal.τ).loc Cert.TnGateReferenceIdeal.main_arg0)
      ∧ r.2.mem ((c.tc : Thread Cert.TnGateReferenceIdeal.nD Cert.TnGateReferenceIdeal.τ).loc Cert.TnGateReferenceIdeal.main_arg1) = m ((c.tc : Thread Cert.TnGateReferenceIdeal.nD Cert.TnGateReferenceIdeal.τ).loc Cert.TnGateReferenceIdeal.main_arg1))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ r.2.sem = fun _ => 0)

def quiescent_MergeBwdReferenceIdeal [hMergeBwdReferenceIdeal : Cert.MergeBwdReferenceIdeal.Facts] : Prop :=
  ∀ (m : (ℓ : Loc Cert.MergeBwdReferenceIdeal.nD Cert.MergeBwdReferenceIdeal.τ Cert.MergeBwdReferenceIdeal.sig) → Buf (Elt Ideal) ℓ) (g : Dev Cert.MergeBwdReferenceIdeal.nD → PrngReg), Pre_MergeBwdReferenceIdeal m →
    θ_run (Cert.MergeBwdReferenceIdeal.defs (F := Ideal)) (onTc (τ := Cert.MergeBwdReferenceIdeal.τ) (Cert.MergeBwdReferenceIdeal.main (F := Ideal))) ⟨m, fun _ => 0, g⟩ (fun r => (∀ c : Dev Cert.MergeBwdReferenceIdeal.nD,
      r.2.mem ((c.tc : Thread Cert.MergeBwdReferenceIdeal.nD Cert.MergeBwdReferenceIdeal.τ).loc Cert.MergeBwdReferenceIdeal.main_arg0) = m ((c.tc : Thread Cert.MergeBwdReferenceIdeal.nD Cert.MergeBwdReferenceIdeal.τ).loc Cert.MergeBwdReferenceIdeal.main_arg0)
      ∧ r.2.mem ((c.tc : Thread Cert.MergeBwdReferenceIdeal.nD Cert.MergeBwdReferenceIdeal.τ).loc Cert.MergeBwdReferenceIdeal.main_arg1) = m ((c.tc : Thread Cert.MergeBwdReferenceIdeal.nD Cert.MergeBwdReferenceIdeal.τ).loc Cert.MergeBwdReferenceIdeal.main_arg1)
      ∧ r.2.mem ((c.tc : Thread Cert.MergeBwdReferenceIdeal.nD Cert.MergeBwdReferenceIdeal.τ).loc Cert.MergeBwdReferenceIdeal.main_arg2) = m ((c.tc : Thread Cert.MergeBwdReferenceIdeal.nD Cert.MergeBwdReferenceIdeal.τ).loc Cert.MergeBwdReferenceIdeal.main_arg2)
      ∧ r.2.mem ((c.tc : Thread Cert.MergeBwdReferenceIdeal.nD Cert.MergeBwdReferenceIdeal.τ).loc Cert.MergeBwdReferenceIdeal.main_arg3) = m ((c.tc : Thread Cert.MergeBwdReferenceIdeal.nD Cert.MergeBwdReferenceIdeal.τ).loc Cert.MergeBwdReferenceIdeal.main_arg3)
      ∧ r.2.mem ((c.tc : Thread Cert.MergeBwdReferenceIdeal.nD Cert.MergeBwdReferenceIdeal.τ).loc Cert.MergeBwdReferenceIdeal.main_arg4) = m ((c.tc : Thread Cert.MergeBwdReferenceIdeal.nD Cert.MergeBwdReferenceIdeal.τ).loc Cert.MergeBwdReferenceIdeal.main_arg4)
      ∧ r.2.mem ((c.tc : Thread Cert.MergeBwdReferenceIdeal.nD Cert.MergeBwdReferenceIdeal.τ).loc Cert.MergeBwdReferenceIdeal.main_arg5) = m ((c.tc : Thread Cert.MergeBwdReferenceIdeal.nD Cert.MergeBwdReferenceIdeal.τ).loc Cert.MergeBwdReferenceIdeal.main_arg5))
      ∧ r.2.sem = fun _ => 0)

def quiescent_MergeFwd [hMergeFwd : Cert.MergeFwd.Facts] : Prop :=
  ∀ (m : (ℓ : Loc Cert.MergeFwd.nD Cert.MergeFwd.τ Cert.MergeFwd.sig) → Buf (Elt Bits) ℓ) (g : Dev Cert.MergeFwd.nD → PrngReg), Pre_MergeFwd m →
    θ_run (Cert.MergeFwd.defs (F := Bits)) (onTc (τ := Cert.MergeFwd.τ) (Cert.MergeFwd.main (F := Bits))) ⟨m, fun _ => 0, g⟩ (fun r => (∀ c : Dev Cert.MergeFwd.nD,
      r.2.mem ((c.tc : Thread Cert.MergeFwd.nD Cert.MergeFwd.τ).loc Cert.MergeFwd.main_arg0) = m ((c.tc : Thread Cert.MergeFwd.nD Cert.MergeFwd.τ).loc Cert.MergeFwd.main_arg0)
      ∧ r.2.mem ((c.tc : Thread Cert.MergeFwd.nD Cert.MergeFwd.τ).loc Cert.MergeFwd.main_arg1) = m ((c.tc : Thread Cert.MergeFwd.nD Cert.MergeFwd.τ).loc Cert.MergeFwd.main_arg1)
      ∧ r.2.mem ((c.tc : Thread Cert.MergeFwd.nD Cert.MergeFwd.τ).loc Cert.MergeFwd.main_arg2) = m ((c.tc : Thread Cert.MergeFwd.nD Cert.MergeFwd.τ).loc Cert.MergeFwd.main_arg2)
      ∧ r.2.mem ((c.tc : Thread Cert.MergeFwd.nD Cert.MergeFwd.τ).loc Cert.MergeFwd.main_arg3) = m ((c.tc : Thread Cert.MergeFwd.nD Cert.MergeFwd.τ).loc Cert.MergeFwd.main_arg3)
      ∧ r.2.mem ((c.tc : Thread Cert.MergeFwd.nD Cert.MergeFwd.τ).loc Cert.MergeFwd.main_arg4) = m ((c.tc : Thread Cert.MergeFwd.nD Cert.MergeFwd.τ).loc Cert.MergeFwd.main_arg4))
      ∧ r.2.sem = fun _ => 0)

def quiescent_MergeFwdIdeal [hMergeFwdIdeal : Cert.MergeFwdIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg), Pre_MergeFwdIdeal m →
    θ_run (Cert.MergeFwdIdeal.defs (F := Ideal)) (onTc (τ := Cert.MergeFwdIdeal.τ) (Cert.MergeFwdIdeal.main (F := Ideal))) ⟨m, fun _ => 0, g⟩ (fun r => (∀ c : Dev Cert.MergeFwdIdeal.nD,
      r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
      ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
      ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
      ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
      ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ r.2.sem = fun _ => 0)

def quiescent_MergeFwdReferenceIdeal [hMergeFwdReferenceIdeal : Cert.MergeFwdReferenceIdeal.Facts] : Prop :=
  ∀ (m : (ℓ : Loc Cert.MergeFwdReferenceIdeal.nD Cert.MergeFwdReferenceIdeal.τ Cert.MergeFwdReferenceIdeal.sig) → Buf (Elt Ideal) ℓ) (g : Dev Cert.MergeFwdReferenceIdeal.nD → PrngReg), Pre_MergeFwdReferenceIdeal m →
    θ_run (Cert.MergeFwdReferenceIdeal.defs (F := Ideal)) (onTc (τ := Cert.MergeFwdReferenceIdeal.τ) (Cert.MergeFwdReferenceIdeal.main (F := Ideal))) ⟨m, fun _ => 0, g⟩ (fun r => (∀ c : Dev Cert.MergeFwdReferenceIdeal.nD,
      r.2.mem ((c.tc : Thread Cert.MergeFwdReferenceIdeal.nD Cert.MergeFwdReferenceIdeal.τ).loc Cert.MergeFwdReferenceIdeal.main_arg0) = m ((c.tc : Thread Cert.MergeFwdReferenceIdeal.nD Cert.MergeFwdReferenceIdeal.τ).loc Cert.MergeFwdReferenceIdeal.main_arg0)
      ∧ r.2.mem ((c.tc : Thread Cert.MergeFwdReferenceIdeal.nD Cert.MergeFwdReferenceIdeal.τ).loc Cert.MergeFwdReferenceIdeal.main_arg1) = m ((c.tc : Thread Cert.MergeFwdReferenceIdeal.nD Cert.MergeFwdReferenceIdeal.τ).loc Cert.MergeFwdReferenceIdeal.main_arg1)
      ∧ r.2.mem ((c.tc : Thread Cert.MergeFwdReferenceIdeal.nD Cert.MergeFwdReferenceIdeal.τ).loc Cert.MergeFwdReferenceIdeal.main_arg2) = m ((c.tc : Thread Cert.MergeFwdReferenceIdeal.nD Cert.MergeFwdReferenceIdeal.τ).loc Cert.MergeFwdReferenceIdeal.main_arg2)
      ∧ r.2.mem ((c.tc : Thread Cert.MergeFwdReferenceIdeal.nD Cert.MergeFwdReferenceIdeal.τ).loc Cert.MergeFwdReferenceIdeal.main_arg3) = m ((c.tc : Thread Cert.MergeFwdReferenceIdeal.nD Cert.MergeFwdReferenceIdeal.τ).loc Cert.MergeFwdReferenceIdeal.main_arg3)
      ∧ r.2.mem ((c.tc : Thread Cert.MergeFwdReferenceIdeal.nD Cert.MergeFwdReferenceIdeal.τ).loc Cert.MergeFwdReferenceIdeal.main_arg4) = m ((c.tc : Thread Cert.MergeFwdReferenceIdeal.nD Cert.MergeFwdReferenceIdeal.τ).loc Cert.MergeFwdReferenceIdeal.main_arg4))
      ∧ r.2.sem = fun _ => 0)

def quiescent_MmGate [hMmGate : Cert.MmGate.Facts] : Prop :=
  ∀ (m : (ℓ : Loc Cert.MmGate.nD Cert.MmGate.τ Cert.MmGate.sig) → Buf (Elt Bits) ℓ) (g : Dev Cert.MmGate.nD → PrngReg), Pre_MmGate m →
    θ_run (Cert.MmGate.defs (F := Bits)) (onTc (τ := Cert.MmGate.τ) (Cert.MmGate.main (F := Bits))) ⟨m, fun _ => 0, g⟩ (fun r => (∀ c : Dev Cert.MmGate.nD,
      r.2.mem ((c.tc : Thread Cert.MmGate.nD Cert.MmGate.τ).loc Cert.MmGate.main_arg0) = m ((c.tc : Thread Cert.MmGate.nD Cert.MmGate.τ).loc Cert.MmGate.main_arg0)
      ∧ r.2.mem ((c.tc : Thread Cert.MmGate.nD Cert.MmGate.τ).loc Cert.MmGate.main_arg1) = m ((c.tc : Thread Cert.MmGate.nD Cert.MmGate.τ).loc Cert.MmGate.main_arg1)
      ∧ r.2.mem ((c.tc : Thread Cert.MmGate.nD Cert.MmGate.τ).loc Cert.MmGate.main_arg2) = m ((c.tc : Thread Cert.MmGate.nD Cert.MmGate.τ).loc Cert.MmGate.main_arg2))
      ∧ r.2.sem = fun _ => 0)

def quiescent_MmGateIdeal [hMmGateIdeal : Cert.MmGateIdeal.Facts] : Prop :=
  ∀ (m : (ℓ : Loc Cert.MmGateIdeal.nD Cert.MmGateIdeal.τ Cert.MmGateIdeal.sig) → Buf (Elt Ideal) ℓ) (g : Dev Cert.MmGateIdeal.nD → PrngReg), Pre_MmGateIdeal m →
    θ_run (Cert.MmGateIdeal.defs (F := Ideal)) (onTc (τ := Cert.MmGateIdeal.τ) (Cert.MmGateIdeal.main (F := Ideal))) ⟨m, fun _ => 0, g⟩ (fun r => (∀ c : Dev Cert.MmGateIdeal.nD,
      r.2.mem ((c.tc : Thread Cert.MmGateIdeal.nD Cert.MmGateIdeal.τ).loc Cert.MmGateIdeal.main_arg0) = m ((c.tc : Thread Cert.MmGateIdeal.nD Cert.MmGateIdeal.τ).loc Cert.MmGateIdeal.main_arg0)
      ∧ r.2.mem ((c.tc : Thread Cert.MmGateIdeal.nD Cert.MmGateIdeal.τ).loc Cert.MmGateIdeal.main_arg1) = m ((c.tc : Thread Cert.MmGateIdeal.nD Cert.MmGateIdeal.τ).loc Cert.MmGateIdeal.main_arg1)
      ∧ r.2.mem ((c.tc : Thread Cert.MmGateIdeal.nD Cert.MmGateIdeal.τ).loc Cert.MmGateIdeal.main_arg2) = m ((c.tc : Thread Cert.MmGateIdeal.nD Cert.MmGateIdeal.τ).loc Cert.MmGateIdeal.main_arg2))
      ∧ r.2.sem = fun _ => 0)

def quiescent_MmGateReferenceIdeal [hMmGateReferenceIdeal : Cert.MmGateReferenceIdeal.Facts] : Prop :=
  ∀ (m : (ℓ : Loc Cert.MmGateReferenceIdeal.nD Cert.MmGateReferenceIdeal.τ Cert.MmGateReferenceIdeal.sig) → Buf (Elt Ideal) ℓ) (g : Dev Cert.MmGateReferenceIdeal.nD → PrngReg), Pre_MmGateReferenceIdeal m →
    θ_run (Cert.MmGateReferenceIdeal.defs (F := Ideal)) (onTc (τ := Cert.MmGateReferenceIdeal.τ) (Cert.MmGateReferenceIdeal.main (F := Ideal))) ⟨m, fun _ => 0, g⟩ (fun r => (∀ c : Dev Cert.MmGateReferenceIdeal.nD,
      r.2.mem ((c.tc : Thread Cert.MmGateReferenceIdeal.nD Cert.MmGateReferenceIdeal.τ).loc Cert.MmGateReferenceIdeal.main_arg0) = m ((c.tc : Thread Cert.MmGateReferenceIdeal.nD Cert.MmGateReferenceIdeal.τ).loc Cert.MmGateReferenceIdeal.main_arg0)
      ∧ r.2.mem ((c.tc : Thread Cert.MmGateReferenceIdeal.nD Cert.MmGateReferenceIdeal.τ).loc Cert.MmGateReferenceIdeal.main_arg1) = m ((c.tc : Thread Cert.MmGateReferenceIdeal.nD Cert.MmGateReferenceIdeal.τ).loc Cert.MmGateReferenceIdeal.main_arg1)
      ∧ r.2.mem ((c.tc : Thread Cert.MmGateReferenceIdeal.nD Cert.MmGateReferenceIdeal.τ).loc Cert.MmGateReferenceIdeal.main_arg2) = m ((c.tc : Thread Cert.MmGateReferenceIdeal.nD Cert.MmGateReferenceIdeal.τ).loc Cert.MmGateReferenceIdeal.main_arg2))
      ∧ r.2.sem = fun _ => 0)

def quiescent_MmFfDown [hMmFfDown : Cert.MmFfDown.Facts] : Prop :=
  ∀ (m : (ℓ : Loc Cert.MmFfDown.nD Cert.MmFfDown.τ Cert.MmFfDown.sig) → Buf (Elt Bits) ℓ) (g : Dev Cert.MmFfDown.nD → PrngReg), Pre_MmFfDown m →
    θ_run (Cert.MmFfDown.defs (F := Bits)) (onTc (τ := Cert.MmFfDown.τ) (Cert.MmFfDown.main (F := Bits))) ⟨m, fun _ => 0, g⟩ (fun r => (∀ c : Dev Cert.MmFfDown.nD,
      r.2.mem ((c.tc : Thread Cert.MmFfDown.nD Cert.MmFfDown.τ).loc Cert.MmFfDown.main_arg0) = m ((c.tc : Thread Cert.MmFfDown.nD Cert.MmFfDown.τ).loc Cert.MmFfDown.main_arg0)
      ∧ r.2.mem ((c.tc : Thread Cert.MmFfDown.nD Cert.MmFfDown.τ).loc Cert.MmFfDown.main_arg1) = m ((c.tc : Thread Cert.MmFfDown.nD Cert.MmFfDown.τ).loc Cert.MmFfDown.main_arg1))
      ∧ r.2.sem = fun _ => 0)

def quiescent_MmFfDownIdeal [hMmFfDownIdeal : Cert.MmFfDownIdeal.Facts] : Prop :=
  ∀ (m : (ℓ : Loc Cert.MmFfDownIdeal.nD Cert.MmFfDownIdeal.τ Cert.MmFfDownIdeal.sig) → Buf (Elt Ideal) ℓ) (g : Dev Cert.MmFfDownIdeal.nD → PrngReg), Pre_MmFfDownIdeal m →
    θ_run (Cert.MmFfDownIdeal.defs (F := Ideal)) (onTc (τ := Cert.MmFfDownIdeal.τ) (Cert.MmFfDownIdeal.main (F := Ideal))) ⟨m, fun _ => 0, g⟩ (fun r => (∀ c : Dev Cert.MmFfDownIdeal.nD,
      r.2.mem ((c.tc : Thread Cert.MmFfDownIdeal.nD Cert.MmFfDownIdeal.τ).loc Cert.MmFfDownIdeal.main_arg0) = m ((c.tc : Thread Cert.MmFfDownIdeal.nD Cert.MmFfDownIdeal.τ).loc Cert.MmFfDownIdeal.main_arg0)
      ∧ r.2.mem ((c.tc : Thread Cert.MmFfDownIdeal.nD Cert.MmFfDownIdeal.τ).loc Cert.MmFfDownIdeal.main_arg1) = m ((c.tc : Thread Cert.MmFfDownIdeal.nD Cert.MmFfDownIdeal.τ).loc Cert.MmFfDownIdeal.main_arg1))
      ∧ r.2.sem = fun _ => 0)

def quiescent_MmFfDownReferenceIdeal [hMmFfDownReferenceIdeal : Cert.MmFfDownReferenceIdeal.Facts] : Prop :=
  ∀ (m : (ℓ : Loc Cert.MmFfDownReferenceIdeal.nD Cert.MmFfDownReferenceIdeal.τ Cert.MmFfDownReferenceIdeal.sig) → Buf (Elt Ideal) ℓ) (g : Dev Cert.MmFfDownReferenceIdeal.nD → PrngReg), Pre_MmFfDownReferenceIdeal m →
    θ_run (Cert.MmFfDownReferenceIdeal.defs (F := Ideal)) (onTc (τ := Cert.MmFfDownReferenceIdeal.τ) (Cert.MmFfDownReferenceIdeal.main (F := Ideal))) ⟨m, fun _ => 0, g⟩ (fun r => (∀ c : Dev Cert.MmFfDownReferenceIdeal.nD,
      r.2.mem ((c.tc : Thread Cert.MmFfDownReferenceIdeal.nD Cert.MmFfDownReferenceIdeal.τ).loc Cert.MmFfDownReferenceIdeal.main_arg0) = m ((c.tc : Thread Cert.MmFfDownReferenceIdeal.nD Cert.MmFfDownReferenceIdeal.τ).loc Cert.MmFfDownReferenceIdeal.main_arg0)
      ∧ r.2.mem ((c.tc : Thread Cert.MmFfDownReferenceIdeal.nD Cert.MmFfDownReferenceIdeal.τ).loc Cert.MmFfDownReferenceIdeal.main_arg1) = m ((c.tc : Thread Cert.MmFfDownReferenceIdeal.nD Cert.MmFfDownReferenceIdeal.τ).loc Cert.MmFfDownReferenceIdeal.main_arg1))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ r.2.sem = fun _ => 0)

def quiescent_MmInReferenceIdeal [hMmInReferenceIdeal : Cert.MmInReferenceIdeal.Facts] : Prop :=
  ∀ (m : (ℓ : Loc Cert.MmInReferenceIdeal.nD Cert.MmInReferenceIdeal.τ Cert.MmInReferenceIdeal.sig) → Buf (Elt Ideal) ℓ) (g : Dev Cert.MmInReferenceIdeal.nD → PrngReg), Pre_MmInReferenceIdeal m →
    θ_run (Cert.MmInReferenceIdeal.defs (F := Ideal)) (onTc (τ := Cert.MmInReferenceIdeal.τ) (Cert.MmInReferenceIdeal.main (F := Ideal))) ⟨m, fun _ => 0, g⟩ (fun r => (∀ c : Dev Cert.MmInReferenceIdeal.nD,
      r.2.mem ((c.tc : Thread Cert.MmInReferenceIdeal.nD Cert.MmInReferenceIdeal.τ).loc Cert.MmInReferenceIdeal.main_arg0) = m ((c.tc : Thread Cert.MmInReferenceIdeal.nD Cert.MmInReferenceIdeal.τ).loc Cert.MmInReferenceIdeal.main_arg0)
      ∧ r.2.mem ((c.tc : Thread Cert.MmInReferenceIdeal.nD Cert.MmInReferenceIdeal.τ).loc Cert.MmInReferenceIdeal.main_arg1) = m ((c.tc : Thread Cert.MmInReferenceIdeal.nD Cert.MmInReferenceIdeal.τ).loc Cert.MmInReferenceIdeal.main_arg1))
      ∧ r.2.sem = fun _ => 0)

def quiescent_NtIn [hNtIn : Cert.NtIn.Facts] : Prop :=
  ∀ (m : (ℓ : Loc Cert.NtIn.nD Cert.NtIn.τ Cert.NtIn.sig) → Buf (Elt Bits) ℓ) (g : Dev Cert.NtIn.nD → PrngReg), Pre_NtIn m →
    θ_run (Cert.NtIn.defs (F := Bits)) (onTc (τ := Cert.NtIn.τ) (Cert.NtIn.main (F := Bits))) ⟨m, fun _ => 0, g⟩ (fun r => (∀ c : Dev Cert.NtIn.nD,
      r.2.mem ((c.tc : Thread Cert.NtIn.nD Cert.NtIn.τ).loc Cert.NtIn.main_arg0) = m ((c.tc : Thread Cert.NtIn.nD Cert.NtIn.τ).loc Cert.NtIn.main_arg0)
      ∧ r.2.mem ((c.tc : Thread Cert.NtIn.nD Cert.NtIn.τ).loc Cert.NtIn.main_arg1) = m ((c.tc : Thread Cert.NtIn.nD Cert.NtIn.τ).loc Cert.NtIn.main_arg1))
      ∧ r.2.sem = fun _ => 0)

def quiescent_NtInIdeal [hNtInIdeal : Cert.NtInIdeal.Facts] : Prop :=
  ∀ (m : (ℓ : Loc Cert.NtInIdeal.nD Cert.NtInIdeal.τ Cert.NtInIdeal.sig) → Buf (Elt Ideal) ℓ) (g : Dev Cert.NtInIdeal.nD → PrngReg), Pre_NtInIdeal m →
    θ_run (Cert.NtInIdeal.defs (F := Ideal)) (onTc (τ := Cert.NtInIdeal.τ) (Cert.NtInIdeal.main (F := Ideal))) ⟨m, fun _ => 0, g⟩ (fun r => (∀ c : Dev Cert.NtInIdeal.nD,
      r.2.mem ((c.tc : Thread Cert.NtInIdeal.nD Cert.NtInIdeal.τ).loc Cert.NtInIdeal.main_arg0) = m ((c.tc : Thread Cert.NtInIdeal.nD Cert.NtInIdeal.τ).loc Cert.NtInIdeal.main_arg0)
      ∧ r.2.mem ((c.tc : Thread Cert.NtInIdeal.nD Cert.NtInIdeal.τ).loc Cert.NtInIdeal.main_arg1) = m ((c.tc : Thread Cert.NtInIdeal.nD Cert.NtInIdeal.τ).loc Cert.NtInIdeal.main_arg1))
      ∧ r.2.sem = fun _ => 0)

def quiescent_NtInReferenceIdeal [hNtInReferenceIdeal : Cert.NtInReferenceIdeal.Facts] : Prop :=
  ∀ (m : (ℓ : Loc Cert.NtInReferenceIdeal.nD Cert.NtInReferenceIdeal.τ Cert.NtInReferenceIdeal.sig) → Buf (Elt Ideal) ℓ) (g : Dev Cert.NtInReferenceIdeal.nD → PrngReg), Pre_NtInReferenceIdeal m →
    θ_run (Cert.NtInReferenceIdeal.defs (F := Ideal)) (onTc (τ := Cert.NtInReferenceIdeal.τ) (Cert.NtInReferenceIdeal.main (F := Ideal))) ⟨m, fun _ => 0, g⟩ (fun r => (∀ c : Dev Cert.NtInReferenceIdeal.nD,
      r.2.mem ((c.tc : Thread Cert.NtInReferenceIdeal.nD Cert.NtInReferenceIdeal.τ).loc Cert.NtInReferenceIdeal.main_arg0) = m ((c.tc : Thread Cert.NtInReferenceIdeal.nD Cert.NtInReferenceIdeal.τ).loc Cert.NtInReferenceIdeal.main_arg0)
      ∧ r.2.mem ((c.tc : Thread Cert.NtInReferenceIdeal.nD Cert.NtInReferenceIdeal.τ).loc Cert.NtInReferenceIdeal.main_arg1) = m ((c.tc : Thread Cert.NtInReferenceIdeal.nD Cert.NtInReferenceIdeal.τ).loc Cert.NtInReferenceIdeal.main_arg1))
      ∧ r.2.sem = fun _ => 0)

def quiescent_TnIn [hTnIn : Cert.TnIn.Facts] : Prop :=
  ∀ (m : (ℓ : Loc Cert.TnIn.nD Cert.TnIn.τ Cert.TnIn.sig) → Buf (Elt Bits) ℓ) (g : Dev Cert.TnIn.nD → PrngReg), Pre_TnIn m →
    θ_run (Cert.TnIn.defs (F := Bits)) (onTc (τ := Cert.TnIn.τ) (Cert.TnIn.main (F := Bits))) ⟨m, fun _ => 0, g⟩ (fun r => (∀ c : Dev Cert.TnIn.nD,
      r.2.mem ((c.tc : Thread Cert.TnIn.nD Cert.TnIn.τ).loc Cert.TnIn.main_arg0) = m ((c.tc : Thread Cert.TnIn.nD Cert.TnIn.τ).loc Cert.TnIn.main_arg0)
      ∧ r.2.mem ((c.tc : Thread Cert.TnIn.nD Cert.TnIn.τ).loc Cert.TnIn.main_arg1) = m ((c.tc : Thread Cert.TnIn.nD Cert.TnIn.τ).loc Cert.TnIn.main_arg1))
      ∧ r.2.sem = fun _ => 0)

def quiescent_TnInIdeal [hTnInIdeal : Cert.TnInIdeal.Facts] : Prop :=
  ∀ (m : (ℓ : Loc Cert.TnInIdeal.nD Cert.TnInIdeal.τ Cert.TnInIdeal.sig) → Buf (Elt Ideal) ℓ) (g : Dev Cert.TnInIdeal.nD → PrngReg), Pre_TnInIdeal m →
    θ_run (Cert.TnInIdeal.defs (F := Ideal)) (onTc (τ := Cert.TnInIdeal.τ) (Cert.TnInIdeal.main (F := Ideal))) ⟨m, fun _ => 0, g⟩ (fun r => (∀ c : Dev Cert.TnInIdeal.nD,
      r.2.mem ((c.tc : Thread Cert.TnInIdeal.nD Cert.TnInIdeal.τ).loc Cert.TnInIdeal.main_arg0) = m ((c.tc : Thread Cert.TnInIdeal.nD Cert.TnInIdeal.τ).loc Cert.TnInIdeal.main_arg0)
      ∧ r.2.mem ((c.tc : Thread Cert.TnInIdeal.nD Cert.TnInIdeal.τ).loc Cert.TnInIdeal.main_arg1) = m ((c.tc : Thread Cert.TnInIdeal.nD Cert.TnInIdeal.τ).loc Cert.TnInIdeal.main_arg1))
      ∧ r.2.sem = fun _ => 0)

def quiescent_TnInReferenceIdeal [hTnInReferenceIdeal : Cert.TnInReferenceIdeal.Facts] : Prop :=
  ∀ (m : (ℓ : Loc Cert.TnInReferenceIdeal.nD Cert.TnInReferenceIdeal.τ Cert.TnInReferenceIdeal.sig) → Buf (Elt Ideal) ℓ) (g : Dev Cert.TnInReferenceIdeal.nD → PrngReg), Pre_TnInReferenceIdeal m →
    θ_run (Cert.TnInReferenceIdeal.defs (F := Ideal)) (onTc (τ := Cert.TnInReferenceIdeal.τ) (Cert.TnInReferenceIdeal.main (F := Ideal))) ⟨m, fun _ => 0, g⟩ (fun r => (∀ c : Dev Cert.TnInReferenceIdeal.nD,
      r.2.mem ((c.tc : Thread Cert.TnInReferenceIdeal.nD Cert.TnInReferenceIdeal.τ).loc Cert.TnInReferenceIdeal.main_arg0) = m ((c.tc : Thread Cert.TnInReferenceIdeal.nD Cert.TnInReferenceIdeal.τ).loc Cert.TnInReferenceIdeal.main_arg0)
      ∧ r.2.mem ((c.tc : Thread Cert.TnInReferenceIdeal.nD Cert.TnInReferenceIdeal.τ).loc Cert.TnInReferenceIdeal.main_arg1) = m ((c.tc : Thread Cert.TnInReferenceIdeal.nD Cert.TnInReferenceIdeal.τ).loc Cert.TnInReferenceIdeal.main_arg1))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1))
      ∧ r.2.sem = fun _ => 0)

def quiescent_MmOutReferenceIdeal [hMmOutReferenceIdeal : Cert.MmOutReferenceIdeal.Facts] : Prop :=
  ∀ (m : (ℓ : Loc Cert.MmOutReferenceIdeal.nD Cert.MmOutReferenceIdeal.τ Cert.MmOutReferenceIdeal.sig) → Buf (Elt Ideal) ℓ) (g : Dev Cert.MmOutReferenceIdeal.nD → PrngReg), Pre_MmOutReferenceIdeal m →
    θ_run (Cert.MmOutReferenceIdeal.defs (F := Ideal)) (onTc (τ := Cert.MmOutReferenceIdeal.τ) (Cert.MmOutReferenceIdeal.main (F := Ideal))) ⟨m, fun _ => 0, g⟩ (fun r => (∀ c : Dev Cert.MmOutReferenceIdeal.nD,
      r.2.mem ((c.tc : Thread Cert.MmOutReferenceIdeal.nD Cert.MmOutReferenceIdeal.τ).loc Cert.MmOutReferenceIdeal.main_arg0) = m ((c.tc : Thread Cert.MmOutReferenceIdeal.nD Cert.MmOutReferenceIdeal.τ).loc Cert.MmOutReferenceIdeal.main_arg0)
      ∧ r.2.mem ((c.tc : Thread Cert.MmOutReferenceIdeal.nD Cert.MmOutReferenceIdeal.τ).loc Cert.MmOutReferenceIdeal.main_arg1) = m ((c.tc : Thread Cert.MmOutReferenceIdeal.nD Cert.MmOutReferenceIdeal.τ).loc Cert.MmOutReferenceIdeal.main_arg1))
      ∧ r.2.sem = fun _ => 0)

def quiescent_NtOut [hNtOut : Cert.NtOut.Facts] : Prop :=
  ∀ (m : (ℓ : Loc Cert.NtOut.nD Cert.NtOut.τ Cert.NtOut.sig) → Buf (Elt Bits) ℓ) (g : Dev Cert.NtOut.nD → PrngReg), Pre_NtOut m →
    θ_run (Cert.NtOut.defs (F := Bits)) (onTc (τ := Cert.NtOut.τ) (Cert.NtOut.main (F := Bits))) ⟨m, fun _ => 0, g⟩ (fun r => (∀ c : Dev Cert.NtOut.nD,
      r.2.mem ((c.tc : Thread Cert.NtOut.nD Cert.NtOut.τ).loc Cert.NtOut.main_arg0) = m ((c.tc : Thread Cert.NtOut.nD Cert.NtOut.τ).loc Cert.NtOut.main_arg0)
      ∧ r.2.mem ((c.tc : Thread Cert.NtOut.nD Cert.NtOut.τ).loc Cert.NtOut.main_arg1) = m ((c.tc : Thread Cert.NtOut.nD Cert.NtOut.τ).loc Cert.NtOut.main_arg1))
      ∧ r.2.sem = fun _ => 0)

def quiescent_NtOutIdeal [hNtOutIdeal : Cert.NtOutIdeal.Facts] : Prop :=
  ∀ (m : (ℓ : Loc Cert.NtOutIdeal.nD Cert.NtOutIdeal.τ Cert.NtOutIdeal.sig) → Buf (Elt Ideal) ℓ) (g : Dev Cert.NtOutIdeal.nD → PrngReg), Pre_NtOutIdeal m →
    θ_run (Cert.NtOutIdeal.defs (F := Ideal)) (onTc (τ := Cert.NtOutIdeal.τ) (Cert.NtOutIdeal.main (F := Ideal))) ⟨m, fun _ => 0, g⟩ (fun r => (∀ c : Dev Cert.NtOutIdeal.nD,
      r.2.mem ((c.tc : Thread Cert.NtOutIdeal.nD Cert.NtOutIdeal.τ).loc Cert.NtOutIdeal.main_arg0) = m ((c.tc : Thread Cert.NtOutIdeal.nD Cert.NtOutIdeal.τ).loc Cert.NtOutIdeal.main_arg0)
      ∧ r.2.mem ((c.tc : Thread Cert.NtOutIdeal.nD Cert.NtOutIdeal.τ).loc Cert.NtOutIdeal.main_arg1) = m ((c.tc : Thread Cert.NtOutIdeal.nD Cert.NtOutIdeal.τ).loc Cert.NtOutIdeal.main_arg1))
      ∧ r.2.sem = fun _ => 0)

def quiescent_NtOutReferenceIdeal [hNtOutReferenceIdeal : Cert.NtOutReferenceIdeal.Facts] : Prop :=
  ∀ (m : (ℓ : Loc Cert.NtOutReferenceIdeal.nD Cert.NtOutReferenceIdeal.τ Cert.NtOutReferenceIdeal.sig) → Buf (Elt Ideal) ℓ) (g : Dev Cert.NtOutReferenceIdeal.nD → PrngReg), Pre_NtOutReferenceIdeal m →
    θ_run (Cert.NtOutReferenceIdeal.defs (F := Ideal)) (onTc (τ := Cert.NtOutReferenceIdeal.τ) (Cert.NtOutReferenceIdeal.main (F := Ideal))) ⟨m, fun _ => 0, g⟩ (fun r => (∀ c : Dev Cert.NtOutReferenceIdeal.nD,
      r.2.mem ((c.tc : Thread Cert.NtOutReferenceIdeal.nD Cert.NtOutReferenceIdeal.τ).loc Cert.NtOutReferenceIdeal.main_arg0) = m ((c.tc : Thread Cert.NtOutReferenceIdeal.nD Cert.NtOutReferenceIdeal.τ).loc Cert.NtOutReferenceIdeal.main_arg0)
      ∧ r.2.mem ((c.tc : Thread Cert.NtOutReferenceIdeal.nD Cert.NtOutReferenceIdeal.τ).loc Cert.NtOutReferenceIdeal.main_arg1) = m ((c.tc : Thread Cert.NtOutReferenceIdeal.nD Cert.NtOutReferenceIdeal.τ).loc Cert.NtOutReferenceIdeal.main_arg1))
      ∧ r.2.sem = fun _ => 0)

def quiescent_TnOut [hTnOut : Cert.TnOut.Facts] : Prop :=
  ∀ (m : (ℓ : Loc Cert.TnOut.nD Cert.TnOut.τ Cert.TnOut.sig) → Buf (Elt Bits) ℓ) (g : Dev Cert.TnOut.nD → PrngReg), Pre_TnOut m →
    θ_run (Cert.TnOut.defs (F := Bits)) (onTc (τ := Cert.TnOut.τ) (Cert.TnOut.main (F := Bits))) ⟨m, fun _ => 0, g⟩ (fun r => (∀ c : Dev Cert.TnOut.nD,
      r.2.mem ((c.tc : Thread Cert.TnOut.nD Cert.TnOut.τ).loc Cert.TnOut.main_arg0) = m ((c.tc : Thread Cert.TnOut.nD Cert.TnOut.τ).loc Cert.TnOut.main_arg0)
      ∧ r.2.mem ((c.tc : Thread Cert.TnOut.nD Cert.TnOut.τ).loc Cert.TnOut.main_arg1) = m ((c.tc : Thread Cert.TnOut.nD Cert.TnOut.τ).loc Cert.TnOut.main_arg1))
      ∧ r.2.sem = fun _ => 0)

def quiescent_TnOutIdeal [hTnOutIdeal : Cert.TnOutIdeal.Facts] : Prop :=
  ∀ (m : (ℓ : Loc Cert.TnOutIdeal.nD Cert.TnOutIdeal.τ Cert.TnOutIdeal.sig) → Buf (Elt Ideal) ℓ) (g : Dev Cert.TnOutIdeal.nD → PrngReg), Pre_TnOutIdeal m →
    θ_run (Cert.TnOutIdeal.defs (F := Ideal)) (onTc (τ := Cert.TnOutIdeal.τ) (Cert.TnOutIdeal.main (F := Ideal))) ⟨m, fun _ => 0, g⟩ (fun r => (∀ c : Dev Cert.TnOutIdeal.nD,
      r.2.mem ((c.tc : Thread Cert.TnOutIdeal.nD Cert.TnOutIdeal.τ).loc Cert.TnOutIdeal.main_arg0) = m ((c.tc : Thread Cert.TnOutIdeal.nD Cert.TnOutIdeal.τ).loc Cert.TnOutIdeal.main_arg0)
      ∧ r.2.mem ((c.tc : Thread Cert.TnOutIdeal.nD Cert.TnOutIdeal.τ).loc Cert.TnOutIdeal.main_arg1) = m ((c.tc : Thread Cert.TnOutIdeal.nD Cert.TnOutIdeal.τ).loc Cert.TnOutIdeal.main_arg1))
      ∧ r.2.sem = fun _ => 0)

def quiescent_TnOutReferenceIdeal [hTnOutReferenceIdeal : Cert.TnOutReferenceIdeal.Facts] : Prop :=
  ∀ (m : (ℓ : Loc Cert.TnOutReferenceIdeal.nD Cert.TnOutReferenceIdeal.τ Cert.TnOutReferenceIdeal.sig) → Buf (Elt Ideal) ℓ) (g : Dev Cert.TnOutReferenceIdeal.nD → PrngReg), Pre_TnOutReferenceIdeal m →
    θ_run (Cert.TnOutReferenceIdeal.defs (F := Ideal)) (onTc (τ := Cert.TnOutReferenceIdeal.τ) (Cert.TnOutReferenceIdeal.main (F := Ideal))) ⟨m, fun _ => 0, g⟩ (fun r => (∀ c : Dev Cert.TnOutReferenceIdeal.nD,
      r.2.mem ((c.tc : Thread Cert.TnOutReferenceIdeal.nD Cert.TnOutReferenceIdeal.τ).loc Cert.TnOutReferenceIdeal.main_arg0) = m ((c.tc : Thread Cert.TnOutReferenceIdeal.nD Cert.TnOutReferenceIdeal.τ).loc Cert.TnOutReferenceIdeal.main_arg0)
      ∧ r.2.mem ((c.tc : Thread Cert.TnOutReferenceIdeal.nD Cert.TnOutReferenceIdeal.τ).loc Cert.TnOutReferenceIdeal.main_arg1) = m ((c.tc : Thread Cert.TnOutReferenceIdeal.nD Cert.TnOutReferenceIdeal.τ).loc Cert.TnOutReferenceIdeal.main_arg1))
      ∧ r.2.sem = fun _ => 0)

def quiescent_MmAttn [hMmAttn : Cert.MmAttn.Facts] : Prop :=
  ∀ (m : (ℓ : Loc Cert.MmAttn.nD Cert.MmAttn.τ Cert.MmAttn.sig) → Buf (Elt Bits) ℓ) (g : Dev Cert.MmAttn.nD → PrngReg), Pre_MmAttn m →
    θ_run (Cert.MmAttn.defs (F := Bits)) (onTc (τ := Cert.MmAttn.τ) (Cert.MmAttn.main (F := Bits))) ⟨m, fun _ => 0, g⟩ (fun r => (∀ c : Dev Cert.MmAttn.nD,
      r.2.mem ((c.tc : Thread Cert.MmAttn.nD Cert.MmAttn.τ).loc Cert.MmAttn.main_arg0) = m ((c.tc : Thread Cert.MmAttn.nD Cert.MmAttn.τ).loc Cert.MmAttn.main_arg0)
      ∧ r.2.mem ((c.tc : Thread Cert.MmAttn.nD Cert.MmAttn.τ).loc Cert.MmAttn.main_arg1) = m ((c.tc : Thread Cert.MmAttn.nD Cert.MmAttn.τ).loc Cert.MmAttn.main_arg1))
      ∧ r.2.sem = fun _ => 0)

def quiescent_MmAttnIdeal [hMmAttnIdeal : Cert.MmAttnIdeal.Facts] : Prop :=
  ∀ (m : (ℓ : Loc Cert.MmAttnIdeal.nD Cert.MmAttnIdeal.τ Cert.MmAttnIdeal.sig) → Buf (Elt Ideal) ℓ) (g : Dev Cert.MmAttnIdeal.nD → PrngReg), Pre_MmAttnIdeal m →
    θ_run (Cert.MmAttnIdeal.defs (F := Ideal)) (onTc (τ := Cert.MmAttnIdeal.τ) (Cert.MmAttnIdeal.main (F := Ideal))) ⟨m, fun _ => 0, g⟩ (fun r => (∀ c : Dev Cert.MmAttnIdeal.nD,
      r.2.mem ((c.tc : Thread Cert.MmAttnIdeal.nD Cert.MmAttnIdeal.τ).loc Cert.MmAttnIdeal.main_arg0) = m ((c.tc : Thread Cert.MmAttnIdeal.nD Cert.MmAttnIdeal.τ).loc Cert.MmAttnIdeal.main_arg0)
      ∧ r.2.mem ((c.tc : Thread Cert.MmAttnIdeal.nD Cert.MmAttnIdeal.τ).loc Cert.MmAttnIdeal.main_arg1) = m ((c.tc : Thread Cert.MmAttnIdeal.nD Cert.MmAttnIdeal.τ).loc Cert.MmAttnIdeal.main_arg1))
      ∧ r.2.sem = fun _ => 0)

def quiescent_MmAttnReferenceIdeal [hMmAttnReferenceIdeal : Cert.MmAttnReferenceIdeal.Facts] : Prop :=
  ∀ (m : (ℓ : Loc Cert.MmAttnReferenceIdeal.nD Cert.MmAttnReferenceIdeal.τ Cert.MmAttnReferenceIdeal.sig) → Buf (Elt Ideal) ℓ) (g : Dev Cert.MmAttnReferenceIdeal.nD → PrngReg), Pre_MmAttnReferenceIdeal m →
    θ_run (Cert.MmAttnReferenceIdeal.defs (F := Ideal)) (onTc (τ := Cert.MmAttnReferenceIdeal.τ) (Cert.MmAttnReferenceIdeal.main (F := Ideal))) ⟨m, fun _ => 0, g⟩ (fun r => (∀ c : Dev Cert.MmAttnReferenceIdeal.nD,
      r.2.mem ((c.tc : Thread Cert.MmAttnReferenceIdeal.nD Cert.MmAttnReferenceIdeal.τ).loc Cert.MmAttnReferenceIdeal.main_arg0) = m ((c.tc : Thread Cert.MmAttnReferenceIdeal.nD Cert.MmAttnReferenceIdeal.τ).loc Cert.MmAttnReferenceIdeal.main_arg0)
      ∧ r.2.mem ((c.tc : Thread Cert.MmAttnReferenceIdeal.nD Cert.MmAttnReferenceIdeal.τ).loc Cert.MmAttnReferenceIdeal.main_arg1) = m ((c.tc : Thread Cert.MmAttnReferenceIdeal.nD Cert.MmAttnReferenceIdeal.τ).loc Cert.MmAttnReferenceIdeal.main_arg1))
      ∧ r.2.sem = fun _ => 0)

def quiescent_NtAttn [hNtAttn : Cert.NtAttn.Facts] : Prop :=
  ∀ (m : (ℓ : Loc Cert.NtAttn.nD Cert.NtAttn.τ Cert.NtAttn.sig) → Buf (Elt Bits) ℓ) (g : Dev Cert.NtAttn.nD → PrngReg), Pre_NtAttn m →
    θ_run (Cert.NtAttn.defs (F := Bits)) (onTc (τ := Cert.NtAttn.τ) (Cert.NtAttn.main (F := Bits))) ⟨m, fun _ => 0, g⟩ (fun r => (∀ c : Dev Cert.NtAttn.nD,
      r.2.mem ((c.tc : Thread Cert.NtAttn.nD Cert.NtAttn.τ).loc Cert.NtAttn.main_arg0) = m ((c.tc : Thread Cert.NtAttn.nD Cert.NtAttn.τ).loc Cert.NtAttn.main_arg0)
      ∧ r.2.mem ((c.tc : Thread Cert.NtAttn.nD Cert.NtAttn.τ).loc Cert.NtAttn.main_arg1) = m ((c.tc : Thread Cert.NtAttn.nD Cert.NtAttn.τ).loc Cert.NtAttn.main_arg1))
      ∧ r.2.sem = fun _ => 0)

def quiescent_NtAttnIdeal [hNtAttnIdeal : Cert.NtAttnIdeal.Facts] : Prop :=
  ∀ (m : (ℓ : Loc Cert.NtAttnIdeal.nD Cert.NtAttnIdeal.τ Cert.NtAttnIdeal.sig) → Buf (Elt Ideal) ℓ) (g : Dev Cert.NtAttnIdeal.nD → PrngReg), Pre_NtAttnIdeal m →
    θ_run (Cert.NtAttnIdeal.defs (F := Ideal)) (onTc (τ := Cert.NtAttnIdeal.τ) (Cert.NtAttnIdeal.main (F := Ideal))) ⟨m, fun _ => 0, g⟩ (fun r => (∀ c : Dev Cert.NtAttnIdeal.nD,
      r.2.mem ((c.tc : Thread Cert.NtAttnIdeal.nD Cert.NtAttnIdeal.τ).loc Cert.NtAttnIdeal.main_arg0) = m ((c.tc : Thread Cert.NtAttnIdeal.nD Cert.NtAttnIdeal.τ).loc Cert.NtAttnIdeal.main_arg0)
      ∧ r.2.mem ((c.tc : Thread Cert.NtAttnIdeal.nD Cert.NtAttnIdeal.τ).loc Cert.NtAttnIdeal.main_arg1) = m ((c.tc : Thread Cert.NtAttnIdeal.nD Cert.NtAttnIdeal.τ).loc Cert.NtAttnIdeal.main_arg1))
      ∧ r.2.sem = fun _ => 0)

def quiescent_NtAttnReferenceIdeal [hNtAttnReferenceIdeal : Cert.NtAttnReferenceIdeal.Facts] : Prop :=
  ∀ (m : (ℓ : Loc Cert.NtAttnReferenceIdeal.nD Cert.NtAttnReferenceIdeal.τ Cert.NtAttnReferenceIdeal.sig) → Buf (Elt Ideal) ℓ) (g : Dev Cert.NtAttnReferenceIdeal.nD → PrngReg), Pre_NtAttnReferenceIdeal m →
    θ_run (Cert.NtAttnReferenceIdeal.defs (F := Ideal)) (onTc (τ := Cert.NtAttnReferenceIdeal.τ) (Cert.NtAttnReferenceIdeal.main (F := Ideal))) ⟨m, fun _ => 0, g⟩ (fun r => (∀ c : Dev Cert.NtAttnReferenceIdeal.nD,
      r.2.mem ((c.tc : Thread Cert.NtAttnReferenceIdeal.nD Cert.NtAttnReferenceIdeal.τ).loc Cert.NtAttnReferenceIdeal.main_arg0) = m ((c.tc : Thread Cert.NtAttnReferenceIdeal.nD Cert.NtAttnReferenceIdeal.τ).loc Cert.NtAttnReferenceIdeal.main_arg0)
      ∧ r.2.mem ((c.tc : Thread Cert.NtAttnReferenceIdeal.nD Cert.NtAttnReferenceIdeal.τ).loc Cert.NtAttnReferenceIdeal.main_arg1) = m ((c.tc : Thread Cert.NtAttnReferenceIdeal.nD Cert.NtAttnReferenceIdeal.τ).loc Cert.NtAttnReferenceIdeal.main_arg1))
      ∧ r.2.sem = fun _ => 0)

def quiescent_TnAttn [hTnAttn : Cert.TnAttn.Facts] : Prop :=
  ∀ (m : (ℓ : Loc Cert.TnAttn.nD Cert.TnAttn.τ Cert.TnAttn.sig) → Buf (Elt Bits) ℓ) (g : Dev Cert.TnAttn.nD → PrngReg), Pre_TnAttn m →
    θ_run (Cert.TnAttn.defs (F := Bits)) (onTc (τ := Cert.TnAttn.τ) (Cert.TnAttn.main (F := Bits))) ⟨m, fun _ => 0, g⟩ (fun r => (∀ c : Dev Cert.TnAttn.nD,
      r.2.mem ((c.tc : Thread Cert.TnAttn.nD Cert.TnAttn.τ).loc Cert.TnAttn.main_arg0) = m ((c.tc : Thread Cert.TnAttn.nD Cert.TnAttn.τ).loc Cert.TnAttn.main_arg0)
      ∧ r.2.mem ((c.tc : Thread Cert.TnAttn.nD Cert.TnAttn.τ).loc Cert.TnAttn.main_arg1) = m ((c.tc : Thread Cert.TnAttn.nD Cert.TnAttn.τ).loc Cert.TnAttn.main_arg1))
      ∧ r.2.sem = fun _ => 0)

def quiescent_TnAttnIdeal [hTnAttnIdeal : Cert.TnAttnIdeal.Facts] : Prop :=
  ∀ (m : (ℓ : Loc Cert.TnAttnIdeal.nD Cert.TnAttnIdeal.τ Cert.TnAttnIdeal.sig) → Buf (Elt Ideal) ℓ) (g : Dev Cert.TnAttnIdeal.nD → PrngReg), Pre_TnAttnIdeal m →
    θ_run (Cert.TnAttnIdeal.defs (F := Ideal)) (onTc (τ := Cert.TnAttnIdeal.τ) (Cert.TnAttnIdeal.main (F := Ideal))) ⟨m, fun _ => 0, g⟩ (fun r => (∀ c : Dev Cert.TnAttnIdeal.nD,
      r.2.mem ((c.tc : Thread Cert.TnAttnIdeal.nD Cert.TnAttnIdeal.τ).loc Cert.TnAttnIdeal.main_arg0) = m ((c.tc : Thread Cert.TnAttnIdeal.nD Cert.TnAttnIdeal.τ).loc Cert.TnAttnIdeal.main_arg0)
      ∧ r.2.mem ((c.tc : Thread Cert.TnAttnIdeal.nD Cert.TnAttnIdeal.τ).loc Cert.TnAttnIdeal.main_arg1) = m ((c.tc : Thread Cert.TnAttnIdeal.nD Cert.TnAttnIdeal.τ).loc Cert.TnAttnIdeal.main_arg1))
      ∧ r.2.sem = fun _ => 0)

def quiescent_TnAttnReferenceIdeal [hTnAttnReferenceIdeal : Cert.TnAttnReferenceIdeal.Facts] : Prop :=
  ∀ (m : (ℓ : Loc Cert.TnAttnReferenceIdeal.nD Cert.TnAttnReferenceIdeal.τ Cert.TnAttnReferenceIdeal.sig) → Buf (Elt Ideal) ℓ) (g : Dev Cert.TnAttnReferenceIdeal.nD → PrngReg), Pre_TnAttnReferenceIdeal m →
    θ_run (Cert.TnAttnReferenceIdeal.defs (F := Ideal)) (onTc (τ := Cert.TnAttnReferenceIdeal.τ) (Cert.TnAttnReferenceIdeal.main (F := Ideal))) ⟨m, fun _ => 0, g⟩ (fun r => (∀ c : Dev Cert.TnAttnReferenceIdeal.nD,
      r.2.mem ((c.tc : Thread Cert.TnAttnReferenceIdeal.nD Cert.TnAttnReferenceIdeal.τ).loc Cert.TnAttnReferenceIdeal.main_arg0) = m ((c.tc : Thread Cert.TnAttnReferenceIdeal.nD Cert.TnAttnReferenceIdeal.τ).loc Cert.TnAttnReferenceIdeal.main_arg0)
      ∧ r.2.mem ((c.tc : Thread Cert.TnAttnReferenceIdeal.nD Cert.TnAttnReferenceIdeal.τ).loc Cert.TnAttnReferenceIdeal.main_arg1) = m ((c.tc : Thread Cert.TnAttnReferenceIdeal.nD Cert.TnAttnReferenceIdeal.τ).loc Cert.TnAttnReferenceIdeal.main_arg1))
      ∧ r.2.sem = fun _ => 0)

def quiescent_MmBranch [hMmBranch : Cert.MmBranch.Facts] : Prop :=
  ∀ (m : (ℓ : Loc Cert.MmBranch.nD Cert.MmBranch.τ Cert.MmBranch.sig) → Buf (Elt Bits) ℓ) (g : Dev Cert.MmBranch.nD → PrngReg), Pre_MmBranch m →
    θ_run (Cert.MmBranch.defs (F := Bits)) (onTc (τ := Cert.MmBranch.τ) (Cert.MmBranch.main (F := Bits))) ⟨m, fun _ => 0, g⟩ (fun r => (∀ c : Dev Cert.MmBranch.nD,
      r.2.mem ((c.tc : Thread Cert.MmBranch.nD Cert.MmBranch.τ).loc Cert.MmBranch.main_arg0) = m ((c.tc : Thread Cert.MmBranch.nD Cert.MmBranch.τ).loc Cert.MmBranch.main_arg0)
      ∧ r.2.mem ((c.tc : Thread Cert.MmBranch.nD Cert.MmBranch.τ).loc Cert.MmBranch.main_arg1) = m ((c.tc : Thread Cert.MmBranch.nD Cert.MmBranch.τ).loc Cert.MmBranch.main_arg1))
      ∧ r.2.sem = fun _ => 0)

def quiescent_MmBranchIdeal [hMmBranchIdeal : Cert.MmBranchIdeal.Facts] : Prop :=
  ∀ (m : (ℓ : Loc Cert.MmBranchIdeal.nD Cert.MmBranchIdeal.τ Cert.MmBranchIdeal.sig) → Buf (Elt Ideal) ℓ) (g : Dev Cert.MmBranchIdeal.nD → PrngReg), Pre_MmBranchIdeal m →
    θ_run (Cert.MmBranchIdeal.defs (F := Ideal)) (onTc (τ := Cert.MmBranchIdeal.τ) (Cert.MmBranchIdeal.main (F := Ideal))) ⟨m, fun _ => 0, g⟩ (fun r => (∀ c : Dev Cert.MmBranchIdeal.nD,
      r.2.mem ((c.tc : Thread Cert.MmBranchIdeal.nD Cert.MmBranchIdeal.τ).loc Cert.MmBranchIdeal.main_arg0) = m ((c.tc : Thread Cert.MmBranchIdeal.nD Cert.MmBranchIdeal.τ).loc Cert.MmBranchIdeal.main_arg0)
      ∧ r.2.mem ((c.tc : Thread Cert.MmBranchIdeal.nD Cert.MmBranchIdeal.τ).loc Cert.MmBranchIdeal.main_arg1) = m ((c.tc : Thread Cert.MmBranchIdeal.nD Cert.MmBranchIdeal.τ).loc Cert.MmBranchIdeal.main_arg1))
      ∧ r.2.sem = fun _ => 0)

def quiescent_MmBranchReferenceIdeal [hMmBranchReferenceIdeal : Cert.MmBranchReferenceIdeal.Facts] : Prop :=
  ∀ (m : (ℓ : Loc Cert.MmBranchReferenceIdeal.nD Cert.MmBranchReferenceIdeal.τ Cert.MmBranchReferenceIdeal.sig) → Buf (Elt Ideal) ℓ) (g : Dev Cert.MmBranchReferenceIdeal.nD → PrngReg), Pre_MmBranchReferenceIdeal m →
    θ_run (Cert.MmBranchReferenceIdeal.defs (F := Ideal)) (onTc (τ := Cert.MmBranchReferenceIdeal.τ) (Cert.MmBranchReferenceIdeal.main (F := Ideal))) ⟨m, fun _ => 0, g⟩ (fun r => (∀ c : Dev Cert.MmBranchReferenceIdeal.nD,
      r.2.mem ((c.tc : Thread Cert.MmBranchReferenceIdeal.nD Cert.MmBranchReferenceIdeal.τ).loc Cert.MmBranchReferenceIdeal.main_arg0) = m ((c.tc : Thread Cert.MmBranchReferenceIdeal.nD Cert.MmBranchReferenceIdeal.τ).loc Cert.MmBranchReferenceIdeal.main_arg0)
      ∧ r.2.mem ((c.tc : Thread Cert.MmBranchReferenceIdeal.nD Cert.MmBranchReferenceIdeal.τ).loc Cert.MmBranchReferenceIdeal.main_arg1) = m ((c.tc : Thread Cert.MmBranchReferenceIdeal.nD Cert.MmBranchReferenceIdeal.τ).loc Cert.MmBranchReferenceIdeal.main_arg1))
      ∧ r.2.sem = fun _ => 0)

def quiescent_NtBranch [hNtBranch : Cert.NtBranch.Facts] : Prop :=
  ∀ (m : (ℓ : Loc Cert.NtBranch.nD Cert.NtBranch.τ Cert.NtBranch.sig) → Buf (Elt Bits) ℓ) (g : Dev Cert.NtBranch.nD → PrngReg), Pre_NtBranch m →
    θ_run (Cert.NtBranch.defs (F := Bits)) (onTc (τ := Cert.NtBranch.τ) (Cert.NtBranch.main (F := Bits))) ⟨m, fun _ => 0, g⟩ (fun r => (∀ c : Dev Cert.NtBranch.nD,
      r.2.mem ((c.tc : Thread Cert.NtBranch.nD Cert.NtBranch.τ).loc Cert.NtBranch.main_arg0) = m ((c.tc : Thread Cert.NtBranch.nD Cert.NtBranch.τ).loc Cert.NtBranch.main_arg0)
      ∧ r.2.mem ((c.tc : Thread Cert.NtBranch.nD Cert.NtBranch.τ).loc Cert.NtBranch.main_arg1) = m ((c.tc : Thread Cert.NtBranch.nD Cert.NtBranch.τ).loc Cert.NtBranch.main_arg1))
      ∧ r.2.sem = fun _ => 0)

def quiescent_NtBranchIdeal [hNtBranchIdeal : Cert.NtBranchIdeal.Facts] : Prop :=
  ∀ (m : (ℓ : Loc Cert.NtBranchIdeal.nD Cert.NtBranchIdeal.τ Cert.NtBranchIdeal.sig) → Buf (Elt Ideal) ℓ) (g : Dev Cert.NtBranchIdeal.nD → PrngReg), Pre_NtBranchIdeal m →
    θ_run (Cert.NtBranchIdeal.defs (F := Ideal)) (onTc (τ := Cert.NtBranchIdeal.τ) (Cert.NtBranchIdeal.main (F := Ideal))) ⟨m, fun _ => 0, g⟩ (fun r => (∀ c : Dev Cert.NtBranchIdeal.nD,
      r.2.mem ((c.tc : Thread Cert.NtBranchIdeal.nD Cert.NtBranchIdeal.τ).loc Cert.NtBranchIdeal.main_arg0) = m ((c.tc : Thread Cert.NtBranchIdeal.nD Cert.NtBranchIdeal.τ).loc Cert.NtBranchIdeal.main_arg0)
      ∧ r.2.mem ((c.tc : Thread Cert.NtBranchIdeal.nD Cert.NtBranchIdeal.τ).loc Cert.NtBranchIdeal.main_arg1) = m ((c.tc : Thread Cert.NtBranchIdeal.nD Cert.NtBranchIdeal.τ).loc Cert.NtBranchIdeal.main_arg1))
      ∧ r.2.sem = fun _ => 0)

def quiescent_NtBranchReferenceIdeal [hNtBranchReferenceIdeal : Cert.NtBranchReferenceIdeal.Facts] : Prop :=
  ∀ (m : (ℓ : Loc Cert.NtBranchReferenceIdeal.nD Cert.NtBranchReferenceIdeal.τ Cert.NtBranchReferenceIdeal.sig) → Buf (Elt Ideal) ℓ) (g : Dev Cert.NtBranchReferenceIdeal.nD → PrngReg), Pre_NtBranchReferenceIdeal m →
    θ_run (Cert.NtBranchReferenceIdeal.defs (F := Ideal)) (onTc (τ := Cert.NtBranchReferenceIdeal.τ) (Cert.NtBranchReferenceIdeal.main (F := Ideal))) ⟨m, fun _ => 0, g⟩ (fun r => (∀ c : Dev Cert.NtBranchReferenceIdeal.nD,
      r.2.mem ((c.tc : Thread Cert.NtBranchReferenceIdeal.nD Cert.NtBranchReferenceIdeal.τ).loc Cert.NtBranchReferenceIdeal.main_arg0) = m ((c.tc : Thread Cert.NtBranchReferenceIdeal.nD Cert.NtBranchReferenceIdeal.τ).loc Cert.NtBranchReferenceIdeal.main_arg0)
      ∧ r.2.mem ((c.tc : Thread Cert.NtBranchReferenceIdeal.nD Cert.NtBranchReferenceIdeal.τ).loc Cert.NtBranchReferenceIdeal.main_arg1) = m ((c.tc : Thread Cert.NtBranchReferenceIdeal.nD Cert.NtBranchReferenceIdeal.τ).loc Cert.NtBranchReferenceIdeal.main_arg1))
      ∧ r.2.sem = fun _ => 0)

def quiescent_TnBranch [hTnBranch : Cert.TnBranch.Facts] : Prop :=
  ∀ (m : (ℓ : Loc Cert.TnBranch.nD Cert.TnBranch.τ Cert.TnBranch.sig) → Buf (Elt Bits) ℓ) (g : Dev Cert.TnBranch.nD → PrngReg), Pre_TnBranch m →
    θ_run (Cert.TnBranch.defs (F := Bits)) (onTc (τ := Cert.TnBranch.τ) (Cert.TnBranch.main (F := Bits))) ⟨m, fun _ => 0, g⟩ (fun r => (∀ c : Dev Cert.TnBranch.nD,
      r.2.mem ((c.tc : Thread Cert.TnBranch.nD Cert.TnBranch.τ).loc Cert.TnBranch.main_arg0) = m ((c.tc : Thread Cert.TnBranch.nD Cert.TnBranch.τ).loc Cert.TnBranch.main_arg0)
      ∧ r.2.mem ((c.tc : Thread Cert.TnBranch.nD Cert.TnBranch.τ).loc Cert.TnBranch.main_arg1) = m ((c.tc : Thread Cert.TnBranch.nD Cert.TnBranch.τ).loc Cert.TnBranch.main_arg1))
      ∧ r.2.sem = fun _ => 0)

def quiescent_TnBranchIdeal [hTnBranchIdeal : Cert.TnBranchIdeal.Facts] : Prop :=
  ∀ (m : (ℓ : Loc Cert.TnBranchIdeal.nD Cert.TnBranchIdeal.τ Cert.TnBranchIdeal.sig) → Buf (Elt Ideal) ℓ) (g : Dev Cert.TnBranchIdeal.nD → PrngReg), Pre_TnBranchIdeal m →
    θ_run (Cert.TnBranchIdeal.defs (F := Ideal)) (onTc (τ := Cert.TnBranchIdeal.τ) (Cert.TnBranchIdeal.main (F := Ideal))) ⟨m, fun _ => 0, g⟩ (fun r => (∀ c : Dev Cert.TnBranchIdeal.nD,
      r.2.mem ((c.tc : Thread Cert.TnBranchIdeal.nD Cert.TnBranchIdeal.τ).loc Cert.TnBranchIdeal.main_arg0) = m ((c.tc : Thread Cert.TnBranchIdeal.nD Cert.TnBranchIdeal.τ).loc Cert.TnBranchIdeal.main_arg0)
      ∧ r.2.mem ((c.tc : Thread Cert.TnBranchIdeal.nD Cert.TnBranchIdeal.τ).loc Cert.TnBranchIdeal.main_arg1) = m ((c.tc : Thread Cert.TnBranchIdeal.nD Cert.TnBranchIdeal.τ).loc Cert.TnBranchIdeal.main_arg1))
      ∧ r.2.sem = fun _ => 0)

def quiescent_TnBranchReferenceIdeal [hTnBranchReferenceIdeal : Cert.TnBranchReferenceIdeal.Facts] : Prop :=
  ∀ (m : (ℓ : Loc Cert.TnBranchReferenceIdeal.nD Cert.TnBranchReferenceIdeal.τ Cert.TnBranchReferenceIdeal.sig) → Buf (Elt Ideal) ℓ) (g : Dev Cert.TnBranchReferenceIdeal.nD → PrngReg), Pre_TnBranchReferenceIdeal m →
    θ_run (Cert.TnBranchReferenceIdeal.defs (F := Ideal)) (onTc (τ := Cert.TnBranchReferenceIdeal.τ) (Cert.TnBranchReferenceIdeal.main (F := Ideal))) ⟨m, fun _ => 0, g⟩ (fun r => (∀ c : Dev Cert.TnBranchReferenceIdeal.nD,
      r.2.mem ((c.tc : Thread Cert.TnBranchReferenceIdeal.nD Cert.TnBranchReferenceIdeal.τ).loc Cert.TnBranchReferenceIdeal.main_arg0) = m ((c.tc : Thread Cert.TnBranchReferenceIdeal.nD Cert.TnBranchReferenceIdeal.τ).loc Cert.TnBranchReferenceIdeal.main_arg0)
      ∧ r.2.mem ((c.tc : Thread Cert.TnBranchReferenceIdeal.nD Cert.TnBranchReferenceIdeal.τ).loc Cert.TnBranchReferenceIdeal.main_arg1) = m ((c.tc : Thread Cert.TnBranchReferenceIdeal.nD Cert.TnBranchReferenceIdeal.τ).loc Cert.TnBranchReferenceIdeal.main_arg1))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdReferenceIdeal [hAdaFwdReferenceIdeal : Cert.AdaFwdReferenceIdeal.Facts] : Prop :=
  ∀ (m : (ℓ : Loc Cert.AdaFwdReferenceIdeal.nD Cert.AdaFwdReferenceIdeal.τ Cert.AdaFwdReferenceIdeal.sig) → Buf (Elt Ideal) ℓ) (g : Dev Cert.AdaFwdReferenceIdeal.nD → PrngReg), Pre_AdaFwdReferenceIdeal m →
    θ_run (Cert.AdaFwdReferenceIdeal.defs (F := Ideal)) (onTc (τ := Cert.AdaFwdReferenceIdeal.τ) (Cert.AdaFwdReferenceIdeal.main (F := Ideal))) ⟨m, fun _ => 0, g⟩ (fun r => (∀ c : Dev Cert.AdaFwdReferenceIdeal.nD,
      r.2.mem ((c.tc : Thread Cert.AdaFwdReferenceIdeal.nD Cert.AdaFwdReferenceIdeal.τ).loc Cert.AdaFwdReferenceIdeal.main_arg0) = m ((c.tc : Thread Cert.AdaFwdReferenceIdeal.nD Cert.AdaFwdReferenceIdeal.τ).loc Cert.AdaFwdReferenceIdeal.main_arg0)
      ∧ r.2.mem ((c.tc : Thread Cert.AdaFwdReferenceIdeal.nD Cert.AdaFwdReferenceIdeal.τ).loc Cert.AdaFwdReferenceIdeal.main_arg1) = m ((c.tc : Thread Cert.AdaFwdReferenceIdeal.nD Cert.AdaFwdReferenceIdeal.τ).loc Cert.AdaFwdReferenceIdeal.main_arg1)
      ∧ r.2.mem ((c.tc : Thread Cert.AdaFwdReferenceIdeal.nD Cert.AdaFwdReferenceIdeal.τ).loc Cert.AdaFwdReferenceIdeal.main_arg2) = m ((c.tc : Thread Cert.AdaFwdReferenceIdeal.nD Cert.AdaFwdReferenceIdeal.τ).loc Cert.AdaFwdReferenceIdeal.main_arg2))
      ∧ r.2.sem = fun _ => 0)

def quiescent_AdaBwd [hAdaBwd : Cert.AdaBwd.Facts] : Prop :=
  ∀ (m : (ℓ : Loc Cert.AdaBwd.nD Cert.AdaBwd.τ Cert.AdaBwd.sig) → Buf (Elt Bits) ℓ) (g : Dev Cert.AdaBwd.nD → PrngReg), Pre_AdaBwd m →
    θ_run (Cert.AdaBwd.defs (F := Bits)) (onTc (τ := Cert.AdaBwd.τ) (Cert.AdaBwd.main (F := Bits))) ⟨m, fun _ => 0, g⟩ (fun r => (∀ c : Dev Cert.AdaBwd.nD,
      r.2.mem ((c.tc : Thread Cert.AdaBwd.nD Cert.AdaBwd.τ).loc Cert.AdaBwd.main_arg0) = m ((c.tc : Thread Cert.AdaBwd.nD Cert.AdaBwd.τ).loc Cert.AdaBwd.main_arg0)
      ∧ r.2.mem ((c.tc : Thread Cert.AdaBwd.nD Cert.AdaBwd.τ).loc Cert.AdaBwd.main_arg1) = m ((c.tc : Thread Cert.AdaBwd.nD Cert.AdaBwd.τ).loc Cert.AdaBwd.main_arg1)
      ∧ r.2.mem ((c.tc : Thread Cert.AdaBwd.nD Cert.AdaBwd.τ).loc Cert.AdaBwd.main_arg2) = m ((c.tc : Thread Cert.AdaBwd.nD Cert.AdaBwd.τ).loc Cert.AdaBwd.main_arg2))
      ∧ r.2.sem = fun _ => 0)

def quiescent_AdaBwdIdeal [hAdaBwdIdeal : Cert.AdaBwdIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg), Pre_AdaBwdIdeal m →
    θ_run (Cert.AdaBwdIdeal.defs (F := Ideal)) (onTc (τ := Cert.AdaBwdIdeal.τ) (Cert.AdaBwdIdeal.main (F := Ideal))) ⟨m, fun _ => 0, g⟩ (fun r => (∀ c : Dev Cert.AdaBwdIdeal.nD,
      r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
      ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
      ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2))
      ∧ r.2.sem = fun _ => 0)

def quiescent_AdaBwdReferenceIdeal [hAdaBwdReferenceIdeal : Cert.AdaBwdReferenceIdeal.Facts] : Prop :=
  ∀ (m : (ℓ : Loc Cert.AdaBwdReferenceIdeal.nD Cert.AdaBwdReferenceIdeal.τ Cert.AdaBwdReferenceIdeal.sig) → Buf (Elt Ideal) ℓ) (g : Dev Cert.AdaBwdReferenceIdeal.nD → PrngReg), Pre_AdaBwdReferenceIdeal m →
    θ_run (Cert.AdaBwdReferenceIdeal.defs (F := Ideal)) (onTc (τ := Cert.AdaBwdReferenceIdeal.τ) (Cert.AdaBwdReferenceIdeal.main (F := Ideal))) ⟨m, fun _ => 0, g⟩ (fun r => (∀ c : Dev Cert.AdaBwdReferenceIdeal.nD,
      r.2.mem ((c.tc : Thread Cert.AdaBwdReferenceIdeal.nD Cert.AdaBwdReferenceIdeal.τ).loc Cert.AdaBwdReferenceIdeal.main_arg0) = m ((c.tc : Thread Cert.AdaBwdReferenceIdeal.nD Cert.AdaBwdReferenceIdeal.τ).loc Cert.AdaBwdReferenceIdeal.main_arg0)
      ∧ r.2.mem ((c.tc : Thread Cert.AdaBwdReferenceIdeal.nD Cert.AdaBwdReferenceIdeal.τ).loc Cert.AdaBwdReferenceIdeal.main_arg1) = m ((c.tc : Thread Cert.AdaBwdReferenceIdeal.nD Cert.AdaBwdReferenceIdeal.τ).loc Cert.AdaBwdReferenceIdeal.main_arg1)
      ∧ r.2.mem ((c.tc : Thread Cert.AdaBwdReferenceIdeal.nD Cert.AdaBwdReferenceIdeal.τ).loc Cert.AdaBwdReferenceIdeal.main_arg2) = m ((c.tc : Thread Cert.AdaBwdReferenceIdeal.nD Cert.AdaBwdReferenceIdeal.τ).loc Cert.AdaBwdReferenceIdeal.main_arg2))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaReferenceIdeal [hAdamAdaReferenceIdeal : Cert.AdamAdaReferenceIdeal.Facts] : Prop :=
  ∀ (m : (ℓ : Loc Cert.AdamAdaReferenceIdeal.nD Cert.AdamAdaReferenceIdeal.τ Cert.AdamAdaReferenceIdeal.sig) → Buf (Elt Ideal) ℓ) (g : Dev Cert.AdamAdaReferenceIdeal.nD → PrngReg), Pre_AdamAdaReferenceIdeal m →
    θ_run (Cert.AdamAdaReferenceIdeal.defs (F := Ideal)) (onTc (τ := Cert.AdamAdaReferenceIdeal.τ) (Cert.AdamAdaReferenceIdeal.main (F := Ideal))) ⟨m, fun _ => 0, g⟩ (fun r => (∀ c : Dev Cert.AdamAdaReferenceIdeal.nD,
      r.2.mem ((c.tc : Thread Cert.AdamAdaReferenceIdeal.nD Cert.AdamAdaReferenceIdeal.τ).loc Cert.AdamAdaReferenceIdeal.main_arg0) = m ((c.tc : Thread Cert.AdamAdaReferenceIdeal.nD Cert.AdamAdaReferenceIdeal.τ).loc Cert.AdamAdaReferenceIdeal.main_arg0)
      ∧ r.2.mem ((c.tc : Thread Cert.AdamAdaReferenceIdeal.nD Cert.AdamAdaReferenceIdeal.τ).loc Cert.AdamAdaReferenceIdeal.main_arg1) = m ((c.tc : Thread Cert.AdamAdaReferenceIdeal.nD Cert.AdamAdaReferenceIdeal.τ).loc Cert.AdamAdaReferenceIdeal.main_arg1)
      ∧ r.2.mem ((c.tc : Thread Cert.AdamAdaReferenceIdeal.nD Cert.AdamAdaReferenceIdeal.τ).loc Cert.AdamAdaReferenceIdeal.main_arg2) = m ((c.tc : Thread Cert.AdamAdaReferenceIdeal.nD Cert.AdamAdaReferenceIdeal.τ).loc Cert.AdamAdaReferenceIdeal.main_arg2)
      ∧ r.2.mem ((c.tc : Thread Cert.AdamAdaReferenceIdeal.nD Cert.AdamAdaReferenceIdeal.τ).loc Cert.AdamAdaReferenceIdeal.main_arg3) = m ((c.tc : Thread Cert.AdamAdaReferenceIdeal.nD Cert.AdamAdaReferenceIdeal.τ).loc Cert.AdamAdaReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5)
      ∧ r.2.mem ((c.tc : Thread Cert.AdamIn.nD Cert.AdamIn.τ).loc Cert.AdamIn.main_arg6) = m ((c.tc : Thread Cert.AdamIn.nD Cert.AdamIn.τ).loc Cert.AdamIn.main_arg6))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
      ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4)
      ∧ r.2.mem ((c.tc : Thread Cert.AdamInReferenceIdeal.nD Cert.AdamInReferenceIdeal.τ).loc Cert.AdamInReferenceIdeal.main_arg5) = m ((c.tc : Thread Cert.AdamInReferenceIdeal.nD Cert.AdamInReferenceIdeal.τ).loc Cert.AdamInReferenceIdeal.main_arg5)
      ∧ r.2.mem ((c.tc : Thread Cert.AdamInReferenceIdeal.nD Cert.AdamInReferenceIdeal.τ).loc Cert.AdamInReferenceIdeal.main_arg6) = m ((c.tc : Thread Cert.AdamInReferenceIdeal.nD Cert.AdamInReferenceIdeal.τ).loc Cert.AdamInReferenceIdeal.main_arg6))
      ∧ r.2.sem = fun _ => 0)

def quiescent_CctxGrad [hCctxGrad : Cert.CctxGrad.Facts] : Prop :=
  ∀ (m : (ℓ : Loc Cert.CctxGrad.nD Cert.CctxGrad.τ Cert.CctxGrad.sig) → Buf (Elt Bits) ℓ) (g : Dev Cert.CctxGrad.nD → PrngReg), Pre_CctxGrad m →
    θ_run (Cert.CctxGrad.defs (F := Bits)) (onTc (τ := Cert.CctxGrad.τ) (Cert.CctxGrad.main (F := Bits))) ⟨m, fun _ => 0, g⟩ (fun r => (∀ c : Dev Cert.CctxGrad.nD,
      r.2.mem ((c.tc : Thread Cert.CctxGrad.nD Cert.CctxGrad.τ).loc Cert.CctxGrad.main_arg0) = m ((c.tc : Thread Cert.CctxGrad.nD Cert.CctxGrad.τ).loc Cert.CctxGrad.main_arg0)
      ∧ r.2.mem ((c.tc : Thread Cert.CctxGrad.nD Cert.CctxGrad.τ).loc Cert.CctxGrad.main_arg1) = m ((c.tc : Thread Cert.CctxGrad.nD Cert.CctxGrad.τ).loc Cert.CctxGrad.main_arg1))
      ∧ r.2.sem = fun _ => 0)

def quiescent_CctxGradIdeal [hCctxGradIdeal : Cert.CctxGradIdeal.Facts] : Prop :=
  ∀ (m : (ℓ : Loc Cert.CctxGradIdeal.nD Cert.CctxGradIdeal.τ Cert.CctxGradIdeal.sig) → Buf (Elt Ideal) ℓ) (g : Dev Cert.CctxGradIdeal.nD → PrngReg), Pre_CctxGradIdeal m →
    θ_run (Cert.CctxGradIdeal.defs (F := Ideal)) (onTc (τ := Cert.CctxGradIdeal.τ) (Cert.CctxGradIdeal.main (F := Ideal))) ⟨m, fun _ => 0, g⟩ (fun r => (∀ c : Dev Cert.CctxGradIdeal.nD,
      r.2.mem ((c.tc : Thread Cert.CctxGradIdeal.nD Cert.CctxGradIdeal.τ).loc Cert.CctxGradIdeal.main_arg0) = m ((c.tc : Thread Cert.CctxGradIdeal.nD Cert.CctxGradIdeal.τ).loc Cert.CctxGradIdeal.main_arg0)
      ∧ r.2.mem ((c.tc : Thread Cert.CctxGradIdeal.nD Cert.CctxGradIdeal.τ).loc Cert.CctxGradIdeal.main_arg1) = m ((c.tc : Thread Cert.CctxGradIdeal.nD Cert.CctxGradIdeal.τ).loc Cert.CctxGradIdeal.main_arg1))
      ∧ r.2.sem = fun _ => 0)

def quiescent_CctxGradIdeal_pre_finite_cctx [hCctxGradIdeal : Cert.CctxGradIdeal.Facts] [hPre_finite_cctx : Cert.Pre_finite_cctx.Facts] : Prop :=
  ∀ (m : (ℓ : Loc Cert.CctxGradIdeal.nD Cert.CctxGradIdeal.τ Cert.CctxGradIdeal.sig) → Buf (Elt Ideal) ℓ) (g : Dev Cert.CctxGradIdeal.nD → PrngReg), Pre_CctxGradIdeal_finite_cctx m →
    θ_run (Cert.CctxGradIdeal.defs (F := Ideal)) (onTc (τ := Cert.CctxGradIdeal.τ) (Cert.CctxGradIdeal.main (F := Ideal))) ⟨m, fun _ => 0, g⟩ (fun r => (∀ c : Dev Cert.CctxGradIdeal.nD,
      r.2.mem ((c.tc : Thread Cert.CctxGradIdeal.nD Cert.CctxGradIdeal.τ).loc Cert.CctxGradIdeal.main_arg0) = m ((c.tc : Thread Cert.CctxGradIdeal.nD Cert.CctxGradIdeal.τ).loc Cert.CctxGradIdeal.main_arg0)
      ∧ r.2.mem ((c.tc : Thread Cert.CctxGradIdeal.nD Cert.CctxGradIdeal.τ).loc Cert.CctxGradIdeal.main_arg1) = m ((c.tc : Thread Cert.CctxGradIdeal.nD Cert.CctxGradIdeal.τ).loc Cert.CctxGradIdeal.main_arg1))
      ∧ r.2.sem = fun _ => 0)

def quiescent_CctxGradReferenceIdeal [hCctxGradReferenceIdeal : Cert.CctxGradReferenceIdeal.Facts] : Prop :=
  ∀ (m : (ℓ : Loc Cert.CctxGradReferenceIdeal.nD Cert.CctxGradReferenceIdeal.τ Cert.CctxGradReferenceIdeal.sig) → Buf (Elt Ideal) ℓ) (g : Dev Cert.CctxGradReferenceIdeal.nD → PrngReg), Pre_CctxGradReferenceIdeal m →
    θ_run (Cert.CctxGradReferenceIdeal.defs (F := Ideal)) (onTc (τ := Cert.CctxGradReferenceIdeal.τ) (Cert.CctxGradReferenceIdeal.main (F := Ideal))) ⟨m, fun _ => 0, g⟩ (fun r => (∀ c : Dev Cert.CctxGradReferenceIdeal.nD,
      r.2.mem ((c.tc : Thread Cert.CctxGradReferenceIdeal.nD Cert.CctxGradReferenceIdeal.τ).loc Cert.CctxGradReferenceIdeal.main_arg0) = m ((c.tc : Thread Cert.CctxGradReferenceIdeal.nD Cert.CctxGradReferenceIdeal.τ).loc Cert.CctxGradReferenceIdeal.main_arg0)
      ∧ r.2.mem ((c.tc : Thread Cert.CctxGradReferenceIdeal.nD Cert.CctxGradReferenceIdeal.τ).loc Cert.CctxGradReferenceIdeal.main_arg1) = m ((c.tc : Thread Cert.CctxGradReferenceIdeal.nD Cert.CctxGradReferenceIdeal.τ).loc Cert.CctxGradReferenceIdeal.main_arg1))
      ∧ r.2.sem = fun _ => 0)

def quiescent_CctxGradReferenceIdeal_pre_finite_cctx [hCctxGradReferenceIdeal : Cert.CctxGradReferenceIdeal.Facts] [hPre_finite_cctx : Cert.Pre_finite_cctx.Facts] : Prop :=
  ∀ (m : (ℓ : Loc Cert.CctxGradReferenceIdeal.nD Cert.CctxGradReferenceIdeal.τ Cert.CctxGradReferenceIdeal.sig) → Buf (Elt Ideal) ℓ) (g : Dev Cert.CctxGradReferenceIdeal.nD → PrngReg), Pre_CctxGradReferenceIdeal_finite_cctx m →
    θ_run (Cert.CctxGradReferenceIdeal.defs (F := Ideal)) (onTc (τ := Cert.CctxGradReferenceIdeal.τ) (Cert.CctxGradReferenceIdeal.main (F := Ideal))) ⟨m, fun _ => 0, g⟩ (fun r => (∀ c : Dev Cert.CctxGradReferenceIdeal.nD,
      r.2.mem ((c.tc : Thread Cert.CctxGradReferenceIdeal.nD Cert.CctxGradReferenceIdeal.τ).loc Cert.CctxGradReferenceIdeal.main_arg0) = m ((c.tc : Thread Cert.CctxGradReferenceIdeal.nD Cert.CctxGradReferenceIdeal.τ).loc Cert.CctxGradReferenceIdeal.main_arg0)
      ∧ r.2.mem ((c.tc : Thread Cert.CctxGradReferenceIdeal.nD Cert.CctxGradReferenceIdeal.τ).loc Cert.CctxGradReferenceIdeal.main_arg1) = m ((c.tc : Thread Cert.CctxGradReferenceIdeal.nD Cert.CctxGradReferenceIdeal.τ).loc Cert.CctxGradReferenceIdeal.main_arg1))
      ∧ r.2.sem = fun _ => 0)

def quiescent_ModBwd [hModBwd : Cert.ModBwd.Facts] : Prop :=
  ∀ (m : (ℓ : Loc Cert.ModBwd.nD Cert.ModBwd.τ Cert.ModBwd.sig) → Buf (Elt Bits) ℓ) (g : Dev Cert.ModBwd.nD → PrngReg), Pre_ModBwd m →
    θ_run (Cert.ModBwd.defs (F := Bits)) (onTc (τ := Cert.ModBwd.τ) (Cert.ModBwd.main (F := Bits))) ⟨m, fun _ => 0, g⟩ (fun r => (∀ c : Dev Cert.ModBwd.nD,
      r.2.mem ((c.tc : Thread Cert.ModBwd.nD Cert.ModBwd.τ).loc Cert.ModBwd.main_arg0) = m ((c.tc : Thread Cert.ModBwd.nD Cert.ModBwd.τ).loc Cert.ModBwd.main_arg0)
      ∧ r.2.mem ((c.tc : Thread Cert.ModBwd.nD Cert.ModBwd.τ).loc Cert.ModBwd.main_arg1) = m ((c.tc : Thread Cert.ModBwd.nD Cert.ModBwd.τ).loc Cert.ModBwd.main_arg1)
      ∧ r.2.mem ((c.tc : Thread Cert.ModBwd.nD Cert.ModBwd.τ).loc Cert.ModBwd.main_arg2) = m ((c.tc : Thread Cert.ModBwd.nD Cert.ModBwd.τ).loc Cert.ModBwd.main_arg2)
      ∧ r.2.mem ((c.tc : Thread Cert.ModBwd.nD Cert.ModBwd.τ).loc Cert.ModBwd.main_arg3) = m ((c.tc : Thread Cert.ModBwd.nD Cert.ModBwd.τ).loc Cert.ModBwd.main_arg3)
      ∧ r.2.mem ((c.tc : Thread Cert.ModBwd.nD Cert.ModBwd.τ).loc Cert.ModBwd.main_arg4) = m ((c.tc : Thread Cert.ModBwd.nD Cert.ModBwd.τ).loc Cert.ModBwd.main_arg4))
      ∧ r.2.sem = fun _ => 0)

def quiescent_ModBwdIdeal [hModBwdIdeal : Cert.ModBwdIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg), Pre_ModBwdIdeal m →
    θ_run (Cert.ModBwdIdeal.defs (F := Ideal)) (onTc (τ := Cert.ModBwdIdeal.τ) (Cert.ModBwdIdeal.main (F := Ideal))) ⟨m, fun _ => 0, g⟩ (fun r => (∀ c : Dev Cert.ModBwdIdeal.nD,
      r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
      ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
      ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2)
      ∧ r.2.mem ((c.tc : Thread Cert.ModBwdIdeal.nD Cert.ModBwdIdeal.τ).loc Cert.ModBwdIdeal.main_arg3) = m ((c.tc : Thread Cert.ModBwdIdeal.nD Cert.ModBwdIdeal.τ).loc Cert.ModBwdIdeal.main_arg3)
      ∧ r.2.mem ((c.tc : Thread Cert.ModBwdIdeal.nD Cert.ModBwdIdeal.τ).loc Cert.ModBwdIdeal.main_arg4) = m ((c.tc : Thread Cert.ModBwdIdeal.nD Cert.ModBwdIdeal.τ).loc Cert.ModBwdIdeal.main_arg4))
      ∧ r.2.sem = fun _ => 0)

def quiescent_ModBwdReferenceIdeal [hModBwdReferenceIdeal : Cert.ModBwdReferenceIdeal.Facts] : Prop :=
  ∀ (m : (ℓ : Loc Cert.ModBwdReferenceIdeal.nD Cert.ModBwdReferenceIdeal.τ Cert.ModBwdReferenceIdeal.sig) → Buf (Elt Ideal) ℓ) (g : Dev Cert.ModBwdReferenceIdeal.nD → PrngReg), Pre_ModBwdReferenceIdeal m →
    θ_run (Cert.ModBwdReferenceIdeal.defs (F := Ideal)) (onTc (τ := Cert.ModBwdReferenceIdeal.τ) (Cert.ModBwdReferenceIdeal.main (F := Ideal))) ⟨m, fun _ => 0, g⟩ (fun r => (∀ c : Dev Cert.ModBwdReferenceIdeal.nD,
      r.2.mem ((c.tc : Thread Cert.ModBwdReferenceIdeal.nD Cert.ModBwdReferenceIdeal.τ).loc Cert.ModBwdReferenceIdeal.main_arg0) = m ((c.tc : Thread Cert.ModBwdReferenceIdeal.nD Cert.ModBwdReferenceIdeal.τ).loc Cert.ModBwdReferenceIdeal.main_arg0)
      ∧ r.2.mem ((c.tc : Thread Cert.ModBwdReferenceIdeal.nD Cert.ModBwdReferenceIdeal.τ).loc Cert.ModBwdReferenceIdeal.main_arg1) = m ((c.tc : Thread Cert.ModBwdReferenceIdeal.nD Cert.ModBwdReferenceIdeal.τ).loc Cert.ModBwdReferenceIdeal.main_arg1)
      ∧ r.2.mem ((c.tc : Thread Cert.ModBwdReferenceIdeal.nD Cert.ModBwdReferenceIdeal.τ).loc Cert.ModBwdReferenceIdeal.main_arg2) = m ((c.tc : Thread Cert.ModBwdReferenceIdeal.nD Cert.ModBwdReferenceIdeal.τ).loc Cert.ModBwdReferenceIdeal.main_arg2)
      ∧ r.2.mem ((c.tc : Thread Cert.ModBwdReferenceIdeal.nD Cert.ModBwdReferenceIdeal.τ).loc Cert.ModBwdReferenceIdeal.main_arg3) = m ((c.tc : Thread Cert.ModBwdReferenceIdeal.nD Cert.ModBwdReferenceIdeal.τ).loc Cert.ModBwdReferenceIdeal.main_arg3)
      ∧ r.2.mem ((c.tc : Thread Cert.ModBwdReferenceIdeal.nD Cert.ModBwdReferenceIdeal.τ).loc Cert.ModBwdReferenceIdeal.main_arg4) = m ((c.tc : Thread Cert.ModBwdReferenceIdeal.nD Cert.ModBwdReferenceIdeal.τ).loc Cert.ModBwdReferenceIdeal.main_arg4))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ r.2.sem = fun _ => 0)

def quiescent_ModulateReferenceIdeal [hModulateReferenceIdeal : Cert.ModulateReferenceIdeal.Facts] : Prop :=
  ∀ (m : (ℓ : Loc Cert.ModulateReferenceIdeal.nD Cert.ModulateReferenceIdeal.τ Cert.ModulateReferenceIdeal.sig) → Buf (Elt Ideal) ℓ) (g : Dev Cert.ModulateReferenceIdeal.nD → PrngReg), Pre_ModulateReferenceIdeal m →
    θ_run (Cert.ModulateReferenceIdeal.defs (F := Ideal)) (onTc (τ := Cert.ModulateReferenceIdeal.τ) (Cert.ModulateReferenceIdeal.main (F := Ideal))) ⟨m, fun _ => 0, g⟩ (fun r => (∀ c : Dev Cert.ModulateReferenceIdeal.nD,
      r.2.mem ((c.tc : Thread Cert.ModulateReferenceIdeal.nD Cert.ModulateReferenceIdeal.τ).loc Cert.ModulateReferenceIdeal.main_arg0) = m ((c.tc : Thread Cert.ModulateReferenceIdeal.nD Cert.ModulateReferenceIdeal.τ).loc Cert.ModulateReferenceIdeal.main_arg0)
      ∧ r.2.mem ((c.tc : Thread Cert.ModulateReferenceIdeal.nD Cert.ModulateReferenceIdeal.τ).loc Cert.ModulateReferenceIdeal.main_arg1) = m ((c.tc : Thread Cert.ModulateReferenceIdeal.nD Cert.ModulateReferenceIdeal.τ).loc Cert.ModulateReferenceIdeal.main_arg1)
      ∧ r.2.mem ((c.tc : Thread Cert.ModulateReferenceIdeal.nD Cert.ModulateReferenceIdeal.τ).loc Cert.ModulateReferenceIdeal.main_arg2) = m ((c.tc : Thread Cert.ModulateReferenceIdeal.nD Cert.ModulateReferenceIdeal.τ).loc Cert.ModulateReferenceIdeal.main_arg2))
      ∧ r.2.sem = fun _ => 0)

def quiescent_LnBwd [hLnBwd : Cert.LnBwd.Facts] : Prop :=
  ∀ (m : (ℓ : Loc Cert.LnBwd.nD Cert.LnBwd.τ Cert.LnBwd.sig) → Buf (Elt Bits) ℓ) (g : Dev Cert.LnBwd.nD → PrngReg), Pre_LnBwd m →
    θ_run (Cert.LnBwd.defs (F := Bits)) (onTc (τ := Cert.LnBwd.τ) (Cert.LnBwd.main (F := Bits))) ⟨m, fun _ => 0, g⟩ (fun r => (∀ c : Dev Cert.LnBwd.nD,
      r.2.mem ((c.tc : Thread Cert.LnBwd.nD Cert.LnBwd.τ).loc Cert.LnBwd.main_arg0) = m ((c.tc : Thread Cert.LnBwd.nD Cert.LnBwd.τ).loc Cert.LnBwd.main_arg0)
      ∧ r.2.mem ((c.tc : Thread Cert.LnBwd.nD Cert.LnBwd.τ).loc Cert.LnBwd.main_arg1) = m ((c.tc : Thread Cert.LnBwd.nD Cert.LnBwd.τ).loc Cert.LnBwd.main_arg1)
      ∧ r.2.mem ((c.tc : Thread Cert.LnBwd.nD Cert.LnBwd.τ).loc Cert.LnBwd.main_arg2) = m ((c.tc : Thread Cert.LnBwd.nD Cert.LnBwd.τ).loc Cert.LnBwd.main_arg2)
      ∧ r.2.mem ((c.tc : Thread Cert.LnBwd.nD Cert.LnBwd.τ).loc Cert.LnBwd.main_arg3) = m ((c.tc : Thread Cert.LnBwd.nD Cert.LnBwd.τ).loc Cert.LnBwd.main_arg3)
      ∧ r.2.mem ((c.tc : Thread Cert.LnBwd.nD Cert.LnBwd.τ).loc Cert.LnBwd.main_arg4) = m ((c.tc : Thread Cert.LnBwd.nD Cert.LnBwd.τ).loc Cert.LnBwd.main_arg4)
      ∧ r.2.mem ((c.tc : Thread Cert.LnBwd.nD Cert.LnBwd.τ).loc Cert.LnBwd.main_arg5) = m ((c.tc : Thread Cert.LnBwd.nD Cert.LnBwd.τ).loc Cert.LnBwd.main_arg5)
      ∧ r.2.mem ((c.tc : Thread Cert.LnBwd.nD Cert.LnBwd.τ).loc Cert.LnBwd.main_arg6) = m ((c.tc : Thread Cert.LnBwd.nD Cert.LnBwd.τ).loc Cert.LnBwd.main_arg6)
      ∧ r.2.mem ((c.tc : Thread Cert.LnBwd.nD Cert.LnBwd.τ).loc Cert.LnBwd.main_arg7) = m ((c.tc : Thread Cert.LnBwd.nD Cert.LnBwd.τ).loc Cert.LnBwd.main_arg7)
      ∧ r.2.mem ((c.tc : Thread Cert.LnBwd.nD Cert.LnBwd.τ).loc Cert.LnBwd.main_arg8) = m ((c.tc : Thread Cert.LnBwd.nD Cert.LnBwd.τ).loc Cert.LnBwd.main_arg8))
      ∧ r.2.sem = fun _ => 0)

def quiescent_LnBwdIdeal [hLnBwdIdeal : Cert.LnBwdIdeal.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
      ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5)
      ∧ r.2.mem ((c.tc : Thread Cert.LnBwdIdeal.nD Cert.LnBwdIdeal.τ).loc Cert.LnBwdIdeal.main_arg6) = m ((c.tc : Thread Cert.LnBwdIdeal.nD Cert.LnBwdIdeal.τ).loc Cert.LnBwdIdeal.main_arg6)
      ∧ r.2.mem ((c.tc : Thread Cert.LnBwdIdeal.nD Cert.LnBwdIdeal.τ).loc Cert.LnBwdIdeal.main_arg7) = m ((c.tc : Thread Cert.LnBwdIdeal.nD Cert.LnBwdIdeal.τ).loc Cert.LnBwdIdeal.main_arg7)
      ∧ r.2.mem ((c.tc : Thread Cert.LnBwdIdeal.nD Cert.LnBwdIdeal.τ).loc Cert.LnBwdIdeal.main_arg8) = m ((c.tc : Thread Cert.LnBwdIdeal.nD Cert.LnBwdIdeal.τ).loc Cert.LnBwdIdeal.main_arg8))
      ∧ r.2.sem = fun _ => 0)

def quiescent_LnBwdIdeal_pre_finite_ln [hLnBwdIdeal : Cert.LnBwdIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg), Pre_LnBwdIdeal_finite_ln m →
    θ_run (Cert.LnBwdIdeal.defs (F := Ideal)) (onTc (τ := Cert.LnBwdIdeal.τ) (Cert.LnBwdIdeal.main (F := Ideal))) ⟨m, fun _ => 0, g⟩ (fun r => (∀ c : Dev Cert.LnBwdIdeal.nD,
      r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
      ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
      ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
      ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
      ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
      ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5)
      ∧ r.2.mem ((c.tc : Thread Cert.LnBwdIdeal.nD Cert.LnBwdIdeal.τ).loc Cert.LnBwdIdeal.main_arg6) = m ((c.tc : Thread Cert.LnBwdIdeal.nD Cert.LnBwdIdeal.τ).loc Cert.LnBwdIdeal.main_arg6)
      ∧ r.2.mem ((c.tc : Thread Cert.LnBwdIdeal.nD Cert.LnBwdIdeal.τ).loc Cert.LnBwdIdeal.main_arg7) = m ((c.tc : Thread Cert.LnBwdIdeal.nD Cert.LnBwdIdeal.τ).loc Cert.LnBwdIdeal.main_arg7)
      ∧ r.2.mem ((c.tc : Thread Cert.LnBwdIdeal.nD Cert.LnBwdIdeal.τ).loc Cert.LnBwdIdeal.main_arg8) = m ((c.tc : Thread Cert.LnBwdIdeal.nD Cert.LnBwdIdeal.τ).loc Cert.LnBwdIdeal.main_arg8))
      ∧ r.2.sem = fun _ => 0)

def quiescent_LnBwdReferenceIdeal [hLnBwdReferenceIdeal : Cert.LnBwdReferenceIdeal.Facts] : Prop :=
  ∀ (m : (ℓ : Loc Cert.LnBwdReferenceIdeal.nD Cert.LnBwdReferenceIdeal.τ Cert.LnBwdReferenceIdeal.sig) → Buf (Elt Ideal) ℓ) (g : Dev Cert.LnBwdReferenceIdeal.nD → PrngReg), Pre_LnBwdReferenceIdeal m →
    θ_run (Cert.LnBwdReferenceIdeal.defs (F := Ideal)) (onTc (τ := Cert.LnBwdReferenceIdeal.τ) (Cert.LnBwdReferenceIdeal.main (F := Ideal))) ⟨m, fun _ => 0, g⟩ (fun r => (∀ c : Dev Cert.LnBwdReferenceIdeal.nD,
      r.2.mem ((c.tc : Thread Cert.LnBwdReferenceIdeal.nD Cert.LnBwdReferenceIdeal.τ).loc Cert.LnBwdReferenceIdeal.main_arg0) = m ((c.tc : Thread Cert.LnBwdReferenceIdeal.nD Cert.LnBwdReferenceIdeal.τ).loc Cert.LnBwdReferenceIdeal.main_arg0)
      ∧ r.2.mem ((c.tc : Thread Cert.LnBwdReferenceIdeal.nD Cert.LnBwdReferenceIdeal.τ).loc Cert.LnBwdReferenceIdeal.main_arg1) = m ((c.tc : Thread Cert.LnBwdReferenceIdeal.nD Cert.LnBwdReferenceIdeal.τ).loc Cert.LnBwdReferenceIdeal.main_arg1)
      ∧ r.2.mem ((c.tc : Thread Cert.LnBwdReferenceIdeal.nD Cert.LnBwdReferenceIdeal.τ).loc Cert.LnBwdReferenceIdeal.main_arg2) = m ((c.tc : Thread Cert.LnBwdReferenceIdeal.nD Cert.LnBwdReferenceIdeal.τ).loc Cert.LnBwdReferenceIdeal.main_arg2)
      ∧ r.2.mem ((c.tc : Thread Cert.LnBwdReferenceIdeal.nD Cert.LnBwdReferenceIdeal.τ).loc Cert.LnBwdReferenceIdeal.main_arg3) = m ((c.tc : Thread Cert.LnBwdReferenceIdeal.nD Cert.LnBwdReferenceIdeal.τ).loc Cert.LnBwdReferenceIdeal.main_arg3)
      ∧ r.2.mem ((c.tc : Thread Cert.LnBwdReferenceIdeal.nD Cert.LnBwdReferenceIdeal.τ).loc Cert.LnBwdReferenceIdeal.main_arg4) = m ((c.tc : Thread Cert.LnBwdReferenceIdeal.nD Cert.LnBwdReferenceIdeal.τ).loc Cert.LnBwdReferenceIdeal.main_arg4)
      ∧ r.2.mem ((c.tc : Thread Cert.LnBwdReferenceIdeal.nD Cert.LnBwdReferenceIdeal.τ).loc Cert.LnBwdReferenceIdeal.main_arg5) = m ((c.tc : Thread Cert.LnBwdReferenceIdeal.nD Cert.LnBwdReferenceIdeal.τ).loc Cert.LnBwdReferenceIdeal.main_arg5)
      ∧ r.2.mem ((c.tc : Thread Cert.LnBwdReferenceIdeal.nD Cert.LnBwdReferenceIdeal.τ).loc Cert.LnBwdReferenceIdeal.main_arg6) = m ((c.tc : Thread Cert.LnBwdReferenceIdeal.nD Cert.LnBwdReferenceIdeal.τ).loc Cert.LnBwdReferenceIdeal.main_arg6)
      ∧ r.2.mem ((c.tc : Thread Cert.LnBwdReferenceIdeal.nD Cert.LnBwdReferenceIdeal.τ).loc Cert.LnBwdReferenceIdeal.main_arg7) = m ((c.tc : Thread Cert.LnBwdReferenceIdeal.nD Cert.LnBwdReferenceIdeal.τ).loc Cert.LnBwdReferenceIdeal.main_arg7)
      ∧ r.2.mem ((c.tc : Thread Cert.LnBwdReferenceIdeal.nD Cert.LnBwdReferenceIdeal.τ).loc Cert.LnBwdReferenceIdeal.main_arg8) = m ((c.tc : Thread Cert.LnBwdReferenceIdeal.nD Cert.LnBwdReferenceIdeal.τ).loc Cert.LnBwdReferenceIdeal.main_arg8))
      ∧ r.2.sem = fun _ => 0)

def quiescent_LnBwdReferenceIdeal_pre_finite_ln [hLnBwdReferenceIdeal : Cert.LnBwdReferenceIdeal.Facts] [hPre_finite_ln : Cert.Pre_finite_ln.Facts] : Prop :=
  ∀ (m : (ℓ : Loc Cert.LnBwdReferenceIdeal.nD Cert.LnBwdReferenceIdeal.τ Cert.LnBwdReferenceIdeal.sig) → Buf (Elt Ideal) ℓ) (g : Dev Cert.LnBwdReferenceIdeal.nD → PrngReg), Pre_LnBwdReferenceIdeal_finite_ln m →
    θ_run (Cert.LnBwdReferenceIdeal.defs (F := Ideal)) (onTc (τ := Cert.LnBwdReferenceIdeal.τ) (Cert.LnBwdReferenceIdeal.main (F := Ideal))) ⟨m, fun _ => 0, g⟩ (fun r => (∀ c : Dev Cert.LnBwdReferenceIdeal.nD,
      r.2.mem ((c.tc : Thread Cert.LnBwdReferenceIdeal.nD Cert.LnBwdReferenceIdeal.τ).loc Cert.LnBwdReferenceIdeal.main_arg0) = m ((c.tc : Thread Cert.LnBwdReferenceIdeal.nD Cert.LnBwdReferenceIdeal.τ).loc Cert.LnBwdReferenceIdeal.main_arg0)
      ∧ r.2.mem ((c.tc : Thread Cert.LnBwdReferenceIdeal.nD Cert.LnBwdReferenceIdeal.τ).loc Cert.LnBwdReferenceIdeal.main_arg1) = m ((c.tc : Thread Cert.LnBwdReferenceIdeal.nD Cert.LnBwdReferenceIdeal.τ).loc Cert.LnBwdReferenceIdeal.main_arg1)
      ∧ r.2.mem ((c.tc : Thread Cert.LnBwdReferenceIdeal.nD Cert.LnBwdReferenceIdeal.τ).loc Cert.LnBwdReferenceIdeal.main_arg2) = m ((c.tc : Thread Cert.LnBwdReferenceIdeal.nD Cert.LnBwdReferenceIdeal.τ).loc Cert.LnBwdReferenceIdeal.main_arg2)
      ∧ r.2.mem ((c.tc : Thread Cert.LnBwdReferenceIdeal.nD Cert.LnBwdReferenceIdeal.τ).loc Cert.LnBwdReferenceIdeal.main_arg3) = m ((c.tc : Thread Cert.LnBwdReferenceIdeal.nD Cert.LnBwdReferenceIdeal.τ).loc Cert.LnBwdReferenceIdeal.main_arg3)
      ∧ r.2.mem ((c.tc : Thread Cert.LnBwdReferenceIdeal.nD Cert.LnBwdReferenceIdeal.τ).loc Cert.LnBwdReferenceIdeal.main_arg4) = m ((c.tc : Thread Cert.LnBwdReferenceIdeal.nD Cert.LnBwdReferenceIdeal.τ).loc Cert.LnBwdReferenceIdeal.main_arg4)
      ∧ r.2.mem ((c.tc : Thread Cert.LnBwdReferenceIdeal.nD Cert.LnBwdReferenceIdeal.τ).loc Cert.LnBwdReferenceIdeal.main_arg5) = m ((c.tc : Thread Cert.LnBwdReferenceIdeal.nD Cert.LnBwdReferenceIdeal.τ).loc Cert.LnBwdReferenceIdeal.main_arg5)
      ∧ r.2.mem ((c.tc : Thread Cert.LnBwdReferenceIdeal.nD Cert.LnBwdReferenceIdeal.τ).loc Cert.LnBwdReferenceIdeal.main_arg6) = m ((c.tc : Thread Cert.LnBwdReferenceIdeal.nD Cert.LnBwdReferenceIdeal.τ).loc Cert.LnBwdReferenceIdeal.main_arg6)
      ∧ r.2.mem ((c.tc : Thread Cert.LnBwdReferenceIdeal.nD Cert.LnBwdReferenceIdeal.τ).loc Cert.LnBwdReferenceIdeal.main_arg7) = m ((c.tc : Thread Cert.LnBwdReferenceIdeal.nD Cert.LnBwdReferenceIdeal.τ).loc Cert.LnBwdReferenceIdeal.main_arg7)
      ∧ r.2.mem ((c.tc : Thread Cert.LnBwdReferenceIdeal.nD Cert.LnBwdReferenceIdeal.τ).loc Cert.LnBwdReferenceIdeal.main_arg8) = m ((c.tc : Thread Cert.LnBwdReferenceIdeal.nD Cert.LnBwdReferenceIdeal.τ).loc Cert.LnBwdReferenceIdeal.main_arg8))
      ∧ r.2.sem = fun _ => 0)

def quiescent_ResidLn [hResidLn : Cert.ResidLn.Facts] : Prop :=
  ∀ (m : (ℓ : Loc Cert.ResidLn.nD Cert.ResidLn.τ Cert.ResidLn.sig) → Buf (Elt Bits) ℓ) (g : Dev Cert.ResidLn.nD → PrngReg), Pre_ResidLn m →
    θ_run (Cert.ResidLn.defs (F := Bits)) (onTc (τ := Cert.ResidLn.τ) (Cert.ResidLn.main (F := Bits))) ⟨m, fun _ => 0, g⟩ (fun r => (∀ c : Dev Cert.ResidLn.nD,
      r.2.mem ((c.tc : Thread Cert.ResidLn.nD Cert.ResidLn.τ).loc Cert.ResidLn.main_arg0) = m ((c.tc : Thread Cert.ResidLn.nD Cert.ResidLn.τ).loc Cert.ResidLn.main_arg0)
      ∧ r.2.mem ((c.tc : Thread Cert.ResidLn.nD Cert.ResidLn.τ).loc Cert.ResidLn.main_arg1) = m ((c.tc : Thread Cert.ResidLn.nD Cert.ResidLn.τ).loc Cert.ResidLn.main_arg1)
      ∧ r.2.mem ((c.tc : Thread Cert.ResidLn.nD Cert.ResidLn.τ).loc Cert.ResidLn.main_arg2) = m ((c.tc : Thread Cert.ResidLn.nD Cert.ResidLn.τ).loc Cert.ResidLn.main_arg2)
      ∧ r.2.mem ((c.tc : Thread Cert.ResidLn.nD Cert.ResidLn.τ).loc Cert.ResidLn.main_arg3) = m ((c.tc : Thread Cert.ResidLn.nD Cert.ResidLn.τ).loc Cert.ResidLn.main_arg3)
      ∧ r.2.mem ((c.tc : Thread Cert.ResidLn.nD Cert.ResidLn.τ).loc Cert.ResidLn.main_arg4) = m ((c.tc : Thread Cert.ResidLn.nD Cert.ResidLn.τ).loc Cert.ResidLn.main_arg4)
      ∧ r.2.mem ((c.tc : Thread Cert.ResidLn.nD Cert.ResidLn.τ).loc Cert.ResidLn.main_arg5) = m ((c.tc : Thread Cert.ResidLn.nD Cert.ResidLn.τ).loc Cert.ResidLn.main_arg5)
      ∧ r.2.mem ((c.tc : Thread Cert.ResidLn.nD Cert.ResidLn.τ).loc Cert.ResidLn.main_arg6) = m ((c.tc : Thread Cert.ResidLn.nD Cert.ResidLn.τ).loc Cert.ResidLn.main_arg6))
      ∧ r.2.sem = fun _ => 0)

def quiescent_ResidLnIdeal [hResidLnIdeal : Cert.ResidLnIdeal.Facts] : Prop :=
  ∀ (m : (ℓ : Loc Cert.ResidLnIdeal.nD Cert.ResidLnIdeal.τ Cert.ResidLnIdeal.sig) → Buf (Elt Ideal) ℓ) (g : Dev Cert.ResidLnIdeal.nD → PrngReg), Pre_ResidLnIdeal m →
    θ_run (Cert.ResidLnIdeal.defs (F := Ideal)) (onTc (τ := Cert.ResidLnIdeal.τ) (Cert.ResidLnIdeal.main (F := Ideal))) ⟨m, fun _ => 0, g⟩ (fun r => (∀ c : Dev Cert.ResidLnIdeal.nD,
      r.2.mem ((c.tc : Thread Cert.ResidLnIdeal.nD Cert.ResidLnIdeal.τ).loc Cert.ResidLnIdeal.main_arg0) = m ((c.tc : Thread Cert.ResidLnIdeal.nD Cert.ResidLnIdeal.τ).loc Cert.ResidLnIdeal.main_arg0)
      ∧ r.2.mem ((c.tc : Thread Cert.ResidLnIdeal.nD Cert.ResidLnIdeal.τ).loc Cert.ResidLnIdeal.main_arg1) = m ((c.tc : Thread Cert.ResidLnIdeal.nD Cert.ResidLnIdeal.τ).loc Cert.ResidLnIdeal.main_arg1)
      ∧ r.2.mem ((c.tc : Thread Cert.ResidLnIdeal.nD Cert.ResidLnIdeal.τ).loc Cert.ResidLnIdeal.main_arg2) = m ((c.tc : Thread Cert.ResidLnIdeal.nD Cert.ResidLnIdeal.τ).loc Cert.ResidLnIdeal.main_arg2)
      ∧ r.2.mem ((c.tc : Thread Cert.ResidLnIdeal.nD Cert.ResidLnIdeal.τ).loc Cert.ResidLnIdeal.main_arg3) = m ((c.tc : Thread Cert.ResidLnIdeal.nD Cert.ResidLnIdeal.τ).loc Cert.ResidLnIdeal.main_arg3)
      ∧ r.2.mem ((c.tc : Thread Cert.ResidLnIdeal.nD Cert.ResidLnIdeal.τ).loc Cert.ResidLnIdeal.main_arg4) = m ((c.tc : Thread Cert.ResidLnIdeal.nD Cert.ResidLnIdeal.τ).loc Cert.ResidLnIdeal.main_arg4)
      ∧ r.2.mem ((c.tc : Thread Cert.ResidLnIdeal.nD Cert.ResidLnIdeal.τ).loc Cert.ResidLnIdeal.main_arg5) = m ((c.tc : Thread Cert.ResidLnIdeal.nD Cert.ResidLnIdeal.τ).loc Cert.ResidLnIdeal.main_arg5)
      ∧ r.2.mem ((c.tc : Thread Cert.ResidLnIdeal.nD Cert.ResidLnIdeal.τ).loc Cert.ResidLnIdeal.main_arg6) = m ((c.tc : Thread Cert.ResidLnIdeal.nD Cert.ResidLnIdeal.τ).loc Cert.ResidLnIdeal.main_arg6))
      ∧ r.2.sem = fun _ => 0)

def quiescent_ResidLnReferenceIdeal [hResidLnReferenceIdeal : Cert.ResidLnReferenceIdeal.Facts] : Prop :=
  ∀ (m : (ℓ : Loc Cert.ResidLnReferenceIdeal.nD Cert.ResidLnReferenceIdeal.τ Cert.ResidLnReferenceIdeal.sig) → Buf (Elt Ideal) ℓ) (g : Dev Cert.ResidLnReferenceIdeal.nD → PrngReg), Pre_ResidLnReferenceIdeal m →
    θ_run (Cert.ResidLnReferenceIdeal.defs (F := Ideal)) (onTc (τ := Cert.ResidLnReferenceIdeal.τ) (Cert.ResidLnReferenceIdeal.main (F := Ideal))) ⟨m, fun _ => 0, g⟩ (fun r => (∀ c : Dev Cert.ResidLnReferenceIdeal.nD,
      r.2.mem ((c.tc : Thread Cert.ResidLnReferenceIdeal.nD Cert.ResidLnReferenceIdeal.τ).loc Cert.ResidLnReferenceIdeal.main_arg0) = m ((c.tc : Thread Cert.ResidLnReferenceIdeal.nD Cert.ResidLnReferenceIdeal.τ).loc Cert.ResidLnReferenceIdeal.main_arg0)
      ∧ r.2.mem ((c.tc : Thread Cert.ResidLnReferenceIdeal.nD Cert.ResidLnReferenceIdeal.τ).loc Cert.ResidLnReferenceIdeal.main_arg1) = m ((c.tc : Thread Cert.ResidLnReferenceIdeal.nD Cert.ResidLnReferenceIdeal.τ).loc Cert.ResidLnReferenceIdeal.main_arg1)
      ∧ r.2.mem ((c.tc : Thread Cert.ResidLnReferenceIdeal.nD Cert.ResidLnReferenceIdeal.τ).loc Cert.ResidLnReferenceIdeal.main_arg2) = m ((c.tc : Thread Cert.ResidLnReferenceIdeal.nD Cert.ResidLnReferenceIdeal.τ).loc Cert.ResidLnReferenceIdeal.main_arg2)
      ∧ r.2.mem ((c.tc : Thread Cert.ResidLnReferenceIdeal.nD Cert.ResidLnReferenceIdeal.τ).loc Cert.ResidLnReferenceIdeal.main_arg3) = m ((c.tc : Thread Cert.ResidLnReferenceIdeal.nD Cert.ResidLnReferenceIdeal.τ).loc Cert.ResidLnReferenceIdeal.main_arg3)
      ∧ r.2.mem ((c.tc : Thread Cert.ResidLnReferenceIdeal.nD Cert.ResidLnReferenceIdeal.τ).loc Cert.ResidLnReferenceIdeal.main_arg4) = m ((c.tc : Thread Cert.ResidLnReferenceIdeal.nD Cert.ResidLnReferenceIdeal.τ).loc Cert.ResidLnReferenceIdeal.main_arg4)
      ∧ r.2.mem ((c.tc : Thread Cert.ResidLnReferenceIdeal.nD Cert.ResidLnReferenceIdeal.τ).loc Cert.ResidLnReferenceIdeal.main_arg5) = m ((c.tc : Thread Cert.ResidLnReferenceIdeal.nD Cert.ResidLnReferenceIdeal.τ).loc Cert.ResidLnReferenceIdeal.main_arg5)
      ∧ r.2.mem ((c.tc : Thread Cert.ResidLnReferenceIdeal.nD Cert.ResidLnReferenceIdeal.τ).loc Cert.ResidLnReferenceIdeal.main_arg6) = m ((c.tc : Thread Cert.ResidLnReferenceIdeal.nD Cert.ResidLnReferenceIdeal.τ).loc Cert.ResidLnReferenceIdeal.main_arg6))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4)
      ∧ r.2.mem ((c.tc : Thread Cert.LossHead.nD Cert.LossHead.τ).loc Cert.LossHead.main_arg5) = m ((c.tc : Thread Cert.LossHead.nD Cert.LossHead.τ).loc Cert.LossHead.main_arg5))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
      ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5))
      ∧ r.2.sem = fun _ => 0)

def quiescent_LossHeadReferenceIdeal [hLossHeadReferenceIdeal : Cert.LossHeadReferenceIdeal.Facts] : Prop :=
  ∀ (m : (ℓ : Loc Cert.LossHeadReferenceIdeal.nD Cert.LossHeadReferenceIdeal.τ Cert.LossHeadReferenceIdeal.sig) → Buf (Elt Ideal) ℓ) (g : Dev Cert.LossHeadReferenceIdeal.nD → PrngReg), Pre_LossHeadReferenceIdeal m →
    θ_run (Cert.LossHeadReferenceIdeal.defs (F := Ideal)) (onTc (τ := Cert.LossHeadReferenceIdeal.τ) (Cert.LossHeadReferenceIdeal.main (F := Ideal))) ⟨m, fun _ => 0, g⟩ (fun r => (∀ c : Dev Cert.LossHeadReferenceIdeal.nD,
      r.2.mem ((c.tc : Thread Cert.LossHeadReferenceIdeal.nD Cert.LossHeadReferenceIdeal.τ).loc Cert.LossHeadReferenceIdeal.main_arg0) = m ((c.tc : Thread Cert.LossHeadReferenceIdeal.nD Cert.LossHeadReferenceIdeal.τ).loc Cert.LossHeadReferenceIdeal.main_arg0)
      ∧ r.2.mem ((c.tc : Thread Cert.LossHeadReferenceIdeal.nD Cert.LossHeadReferenceIdeal.τ).loc Cert.LossHeadReferenceIdeal.main_arg1) = m ((c.tc : Thread Cert.LossHeadReferenceIdeal.nD Cert.LossHeadReferenceIdeal.τ).loc Cert.LossHeadReferenceIdeal.main_arg1)
      ∧ r.2.mem ((c.tc : Thread Cert.LossHeadReferenceIdeal.nD Cert.LossHeadReferenceIdeal.τ).loc Cert.LossHeadReferenceIdeal.main_arg2) = m ((c.tc : Thread Cert.LossHeadReferenceIdeal.nD Cert.LossHeadReferenceIdeal.τ).loc Cert.LossHeadReferenceIdeal.main_arg2)
      ∧ r.2.mem ((c.tc : Thread Cert.LossHeadReferenceIdeal.nD Cert.LossHeadReferenceIdeal.τ).loc Cert.LossHeadReferenceIdeal.main_arg3) = m ((c.tc : Thread Cert.LossHeadReferenceIdeal.nD Cert.LossHeadReferenceIdeal.τ).loc Cert.LossHeadReferenceIdeal.main_arg3)
      ∧ r.2.mem ((c.tc : Thread Cert.LossHeadReferenceIdeal.nD Cert.LossHeadReferenceIdeal.τ).loc Cert.LossHeadReferenceIdeal.main_arg4) = m ((c.tc : Thread Cert.LossHeadReferenceIdeal.nD Cert.LossHeadReferenceIdeal.τ).loc Cert.LossHeadReferenceIdeal.main_arg4)
      ∧ r.2.mem ((c.tc : Thread Cert.LossHeadReferenceIdeal.nD Cert.LossHeadReferenceIdeal.τ).loc Cert.LossHeadReferenceIdeal.main_arg5) = m ((c.tc : Thread Cert.LossHeadReferenceIdeal.nD Cert.LossHeadReferenceIdeal.τ).loc Cert.LossHeadReferenceIdeal.main_arg5))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdReferenceIdeal [hConvFwdReferenceIdeal : Cert.ConvFwdReferenceIdeal.Facts] : Prop :=
  ∀ (m : (ℓ : Loc Cert.ConvFwdReferenceIdeal.nD Cert.ConvFwdReferenceIdeal.τ Cert.ConvFwdReferenceIdeal.sig) → Buf (Elt Ideal) ℓ) (g : Dev Cert.ConvFwdReferenceIdeal.nD → PrngReg), Pre_ConvFwdReferenceIdeal m →
    θ_run (Cert.ConvFwdReferenceIdeal.defs (F := Ideal)) (onTc (τ := Cert.ConvFwdReferenceIdeal.τ) (Cert.ConvFwdReferenceIdeal.main (F := Ideal))) ⟨m, fun _ => 0, g⟩ (fun r => (∀ c : Dev Cert.ConvFwdReferenceIdeal.nD,
      r.2.mem ((c.tc : Thread Cert.ConvFwdReferenceIdeal.nD Cert.ConvFwdReferenceIdeal.τ).loc Cert.ConvFwdReferenceIdeal.main_arg0) = m ((c.tc : Thread Cert.ConvFwdReferenceIdeal.nD Cert.ConvFwdReferenceIdeal.τ).loc Cert.ConvFwdReferenceIdeal.main_arg0)
      ∧ r.2.mem ((c.tc : Thread Cert.ConvFwdReferenceIdeal.nD Cert.ConvFwdReferenceIdeal.τ).loc Cert.ConvFwdReferenceIdeal.main_arg1) = m ((c.tc : Thread Cert.ConvFwdReferenceIdeal.nD Cert.ConvFwdReferenceIdeal.τ).loc Cert.ConvFwdReferenceIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdIdeal_pre_finite_keys [hAttnFwdIdeal : Cert.AttnFwdIdeal.Facts] [hPre_finite_keys : Cert.Pre_finite_keys.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_finite_keys m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdReferenceIdeal [hAttnFwdReferenceIdeal : Cert.AttnFwdReferenceIdeal.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2))
      ∧ r.2.sem = fun _ => 0)

def quiescent_AttnFwdReferenceIdeal_pre_finite_keys [hAttnFwdReferenceIdeal : Cert.AttnFwdReferenceIdeal.Facts] [hPre_finite_keys : Cert.Pre_finite_keys.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal_finite_keys m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2))
      ∧ r.2.sem = fun _ => 0)

def quiescent_SguFwd [hSguFwd : Cert.SguFwd.Facts] : Prop :=
  ∀ (m : (ℓ : Loc Cert.SguFwd.nD Cert.SguFwd.τ Cert.SguFwd.sig) → Buf (Elt Bits) ℓ) (g : Dev Cert.SguFwd.nD → PrngReg), Pre_SguFwd m →
    θ_run (Cert.SguFwd.defs (F := Bits)) (onTc (τ := Cert.SguFwd.τ) (Cert.SguFwd.main (F := Bits))) ⟨m, fun _ => 0, g⟩ (fun r => (∀ c : Dev Cert.SguFwd.nD,
      r.2.mem ((c.tc : Thread Cert.SguFwd.nD Cert.SguFwd.τ).loc Cert.SguFwd.main_arg0) = m ((c.tc : Thread Cert.SguFwd.nD Cert.SguFwd.τ).loc Cert.SguFwd.main_arg0)
      ∧ r.2.mem ((c.tc : Thread Cert.SguFwd.nD Cert.SguFwd.τ).loc Cert.SguFwd.main_arg1) = m ((c.tc : Thread Cert.SguFwd.nD Cert.SguFwd.τ).loc Cert.SguFwd.main_arg1)
      ∧ r.2.mem ((c.tc : Thread Cert.SguFwd.nD Cert.SguFwd.τ).loc Cert.SguFwd.main_arg2) = m ((c.tc : Thread Cert.SguFwd.nD Cert.SguFwd.τ).loc Cert.SguFwd.main_arg2)
      ∧ r.2.mem ((c.tc : Thread Cert.SguFwd.nD Cert.SguFwd.τ).loc Cert.SguFwd.main_arg3) = m ((c.tc : Thread Cert.SguFwd.nD Cert.SguFwd.τ).loc Cert.SguFwd.main_arg3)
      ∧ r.2.mem ((c.tc : Thread Cert.SguFwd.nD Cert.SguFwd.τ).loc Cert.SguFwd.main_arg4) = m ((c.tc : Thread Cert.SguFwd.nD Cert.SguFwd.τ).loc Cert.SguFwd.main_arg4))
      ∧ r.2.sem = fun _ => 0)

def quiescent_SguFwdIdeal [hSguFwdIdeal : Cert.SguFwdIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg), Pre_SguFwdIdeal m →
    θ_run (Cert.SguFwdIdeal.defs (F := Ideal)) (onTc (τ := Cert.SguFwdIdeal.τ) (Cert.SguFwdIdeal.main (F := Ideal))) ⟨m, fun _ => 0, g⟩ (fun r => (∀ c : Dev Cert.SguFwdIdeal.nD,
      r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
      ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
      ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
      ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
      ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ r.2.sem = fun _ => 0)

def quiescent_SguFwdReferenceIdeal [hSguFwdReferenceIdeal : Cert.SguFwdReferenceIdeal.Facts] : Prop :=
  ∀ (m : (ℓ : Loc Cert.SguFwdReferenceIdeal.nD Cert.SguFwdReferenceIdeal.τ Cert.SguFwdReferenceIdeal.sig) → Buf (Elt Ideal) ℓ) (g : Dev Cert.SguFwdReferenceIdeal.nD → PrngReg), Pre_SguFwdReferenceIdeal m →
    θ_run (Cert.SguFwdReferenceIdeal.defs (F := Ideal)) (onTc (τ := Cert.SguFwdReferenceIdeal.τ) (Cert.SguFwdReferenceIdeal.main (F := Ideal))) ⟨m, fun _ => 0, g⟩ (fun r => (∀ c : Dev Cert.SguFwdReferenceIdeal.nD,
      r.2.mem ((c.tc : Thread Cert.SguFwdReferenceIdeal.nD Cert.SguFwdReferenceIdeal.τ).loc Cert.SguFwdReferenceIdeal.main_arg0) = m ((c.tc : Thread Cert.SguFwdReferenceIdeal.nD Cert.SguFwdReferenceIdeal.τ).loc Cert.SguFwdReferenceIdeal.main_arg0)
      ∧ r.2.mem ((c.tc : Thread Cert.SguFwdReferenceIdeal.nD Cert.SguFwdReferenceIdeal.τ).loc Cert.SguFwdReferenceIdeal.main_arg1) = m ((c.tc : Thread Cert.SguFwdReferenceIdeal.nD Cert.SguFwdReferenceIdeal.τ).loc Cert.SguFwdReferenceIdeal.main_arg1)
      ∧ r.2.mem ((c.tc : Thread Cert.SguFwdReferenceIdeal.nD Cert.SguFwdReferenceIdeal.τ).loc Cert.SguFwdReferenceIdeal.main_arg2) = m ((c.tc : Thread Cert.SguFwdReferenceIdeal.nD Cert.SguFwdReferenceIdeal.τ).loc Cert.SguFwdReferenceIdeal.main_arg2)
      ∧ r.2.mem ((c.tc : Thread Cert.SguFwdReferenceIdeal.nD Cert.SguFwdReferenceIdeal.τ).loc Cert.SguFwdReferenceIdeal.main_arg3) = m ((c.tc : Thread Cert.SguFwdReferenceIdeal.nD Cert.SguFwdReferenceIdeal.τ).loc Cert.SguFwdReferenceIdeal.main_arg3)
      ∧ r.2.mem ((c.tc : Thread Cert.SguFwdReferenceIdeal.nD Cert.SguFwdReferenceIdeal.τ).loc Cert.SguFwdReferenceIdeal.main_arg4) = m ((c.tc : Thread Cert.SguFwdReferenceIdeal.nD Cert.SguFwdReferenceIdeal.τ).loc Cert.SguFwdReferenceIdeal.main_arg4))
      ∧ r.2.sem = fun _ => 0)

def quiescent_SlabSum [hSlabSum : Cert.SlabSum.Facts] : Prop :=
  ∀ (m : (ℓ : Loc Cert.SlabSum.nD Cert.SlabSum.τ Cert.SlabSum.sig) → Buf (Elt Bits) ℓ) (g : Dev Cert.SlabSum.nD → PrngReg), Pre_SlabSum m →
    θ_run (Cert.SlabSum.defs (F := Bits)) (onTc (τ := Cert.SlabSum.τ) (Cert.SlabSum.main (F := Bits))) ⟨m, fun _ => 0, g⟩ (fun r => (∀ c : Dev Cert.SlabSum.nD,
      r.2.mem ((c.tc : Thread Cert.SlabSum.nD Cert.SlabSum.τ).loc Cert.SlabSum.main_arg0) = m ((c.tc : Thread Cert.SlabSum.nD Cert.SlabSum.τ).loc Cert.SlabSum.main_arg0))
      ∧ r.2.sem = fun _ => 0)

def quiescent_SlabSumIdeal [hSlabSumIdeal : Cert.SlabSumIdeal.Facts] : Prop :=
  ∀ (m : (ℓ : Loc Cert.SlabSumIdeal.nD Cert.SlabSumIdeal.τ Cert.SlabSumIdeal.sig) → Buf (Elt Ideal) ℓ) (g : Dev Cert.SlabSumIdeal.nD → PrngReg), Pre_SlabSumIdeal m →
    θ_run (Cert.SlabSumIdeal.defs (F := Ideal)) (onTc (τ := Cert.SlabSumIdeal.τ) (Cert.SlabSumIdeal.main (F := Ideal))) ⟨m, fun _ => 0, g⟩ (fun r => (∀ c : Dev Cert.SlabSumIdeal.nD,
      r.2.mem ((c.tc : Thread Cert.SlabSumIdeal.nD Cert.SlabSumIdeal.τ).loc Cert.SlabSumIdeal.main_arg0) = m ((c.tc : Thread Cert.SlabSumIdeal.nD Cert.SlabSumIdeal.τ).loc Cert.SlabSumIdeal.main_arg0))
      ∧ r.2.sem = fun _ => 0)

def quiescent_SlabSumReferenceIdeal [hSlabSumReferenceIdeal : Cert.SlabSumReferenceIdeal.Facts] : Prop :=
  ∀ (m : (ℓ : Loc Cert.SlabSumReferenceIdeal.nD Cert.SlabSumReferenceIdeal.τ Cert.SlabSumReferenceIdeal.sig) → Buf (Elt Ideal) ℓ) (g : Dev Cert.SlabSumReferenceIdeal.nD → PrngReg), Pre_SlabSumReferenceIdeal m →
    θ_run (Cert.SlabSumReferenceIdeal.defs (F := Ideal)) (onTc (τ := Cert.SlabSumReferenceIdeal.τ) (Cert.SlabSumReferenceIdeal.main (F := Ideal))) ⟨m, fun _ => 0, g⟩ (fun r => (∀ c : Dev Cert.SlabSumReferenceIdeal.nD,
      r.2.mem ((c.tc : Thread Cert.SlabSumReferenceIdeal.nD Cert.SlabSumReferenceIdeal.τ).loc Cert.SlabSumReferenceIdeal.main_arg0) = m ((c.tc : Thread Cert.SlabSumReferenceIdeal.nD Cert.SlabSumReferenceIdeal.τ).loc Cert.SlabSumReferenceIdeal.main_arg0))
      ∧ r.2.sem = fun _ => 0)

def preserves_Kernel_KernelIdeal : Prop :=
  IdealRules.named_const.Statement Cert.KernelIdeal.κ "scale" .f32 0x3DB504F3#32 (((Real.sqrt 128)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v150) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_v145) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfDown_FfDownIdeal : Prop :=
  True

def algebraic_FfDownIdeal_FfDownReferenceIdeal_pre_finite_ff [hFfDownIdeal : Cert.FfDownIdeal.Facts] [hFfDownReferenceIdeal : Cert.FfDownReferenceIdeal.Facts] [hPre_finite_ff : Cert.Pre_finite_ff.Facts] : Prop :=
  ∀ (m : (ℓ : Loc Cert.FfDownIdeal.nD Cert.FfDownIdeal.τ Cert.FfDownIdeal.sig) → Buf (Elt Ideal) ℓ) (g : Dev Cert.FfDownIdeal.nD → PrngReg)
    (m' : (ℓ : Loc Cert.FfDownReferenceIdeal.nD Cert.FfDownReferenceIdeal.τ Cert.FfDownReferenceIdeal.sig) → Buf (Elt Ideal) ℓ) (g' : Dev Cert.FfDownReferenceIdeal.nD → PrngReg), Pre_FfDownIdeal_finite_ff m →
    (∀ c : Dev Cert.FfDownIdeal.nD,
      m' ((c.tc : Thread Cert.FfDownReferenceIdeal.nD Cert.FfDownReferenceIdeal.τ).loc Cert.FfDownReferenceIdeal.main_arg0) = m ((c.tc : Thread Cert.FfDownIdeal.nD Cert.FfDownIdeal.τ).loc Cert.FfDownIdeal.main_arg0)
      ∧ m' ((c.tc : Thread Cert.FfDownReferenceIdeal.nD Cert.FfDownReferenceIdeal.τ).loc Cert.FfDownReferenceIdeal.main_arg1) = m ((c.tc : Thread Cert.FfDownIdeal.nD Cert.FfDownIdeal.τ).loc Cert.FfDownIdeal.main_arg1)
      ∧ m' ((c.tc : Thread Cert.FfDownReferenceIdeal.nD Cert.FfDownReferenceIdeal.τ).loc Cert.FfDownReferenceIdeal.main_arg2) = m ((c.tc : Thread Cert.FfDownIdeal.nD Cert.FfDownIdeal.τ).loc Cert.FfDownIdeal.main_arg2)
      ∧ m' ((c.tc : Thread Cert.FfDownReferenceIdeal.nD Cert.FfDownReferenceIdeal.τ).loc Cert.FfDownReferenceIdeal.main_arg3) = m ((c.tc : Thread Cert.FfDownIdeal.nD Cert.FfDownIdeal.τ).loc Cert.FfDownIdeal.main_arg3)) →
    ∃ (v0 : (c : Dev Cert.FfDownIdeal.nD) → Buf (Elt Ideal) ((c.tc : Thread Cert.FfDownIdeal.nD Cert.FfDownIdeal.τ).loc Cert.FfDownIdeal.main_v0_0)) (v1 : (c : Dev Cert.FfDownIdeal.nD) → Buf (Elt Ideal) ((c.tc : Thread Cert.FfDownIdeal.nD Cert.FfDownIdeal.τ).loc Cert.FfDownIdeal.main_v0_1)),
      θ_run (Cert.FfDownIdeal.defs (F := Ideal)) (onTc (τ := Cert.FfDownIdeal.τ) (Cert.FfDownIdeal.main (F := Ideal))) ⟨m, fun _ => 0, g⟩ (fun r => ∀ c : Dev Cert.FfDownIdeal.nD,
          r.2.mem ((c.tc : Thread Cert.FfDownIdeal.nD Cert.FfDownIdeal.τ).loc Cert.FfDownIdeal.main_v0_0) = v0 c
          ∧ r.2.mem ((c.tc : Thread Cert.FfDownIdeal.nD Cert.FfDownIdeal.τ).loc Cert.FfDownIdeal.main_v0_1) = v1 c
          ∧ r.2.mem ((c.tc : Thread Cert.FfDownIdeal.nD Cert.FfDownIdeal.τ).loc Cert.FfDownIdeal.main_arg0) = m ((c.tc : Thread Cert.FfDownIdeal.nD Cert.FfDownIdeal.τ).loc Cert.FfDownIdeal.main_arg0)
          ∧ r.2.mem ((c.tc : Thread Cert.FfDownIdeal.nD Cert.FfDownIdeal.τ).loc Cert.FfDownIdeal.main_arg1) = m ((c.tc : Thread Cert.FfDownIdeal.nD Cert.FfDownIdeal.τ).loc Cert.FfDownIdeal.main_arg1)
          ∧ r.2.mem ((c.tc : Thread Cert.FfDownIdeal.nD Cert.FfDownIdeal.τ).loc Cert.FfDownIdeal.main_arg2) = m ((c.tc : Thread Cert.FfDownIdeal.nD Cert.FfDownIdeal.τ).loc Cert.FfDownIdeal.main_arg2)
          ∧ r.2.mem ((c.tc : Thread Cert.FfDownIdeal.nD Cert.FfDownIdeal.τ).loc Cert.FfDownIdeal.main_arg3) = m ((c.tc : Thread Cert.FfDownIdeal.nD Cert.FfDownIdeal.τ).loc Cert.FfDownIdeal.main_arg3))
      ∧ θ_run (Cert.FfDownReferenceIdeal.defs (F := Ideal)) (onTc (τ := Cert.FfDownReferenceIdeal.τ) (Cert.FfDownReferenceIdeal.main (F := Ideal))) ⟨m', fun _ => 0, g'⟩ (fun r => ∀ c : Dev Cert.FfDownReferenceIdeal.nD,
          r.2.mem ((c.tc : Thread Cert.FfDownReferenceIdeal.nD Cert.FfDownReferenceIdeal.τ).loc Cert.FfDownReferenceIdeal.main_v12) = v0 c
          ∧ r.2.mem ((c.tc : Thread Cert.FfDownReferenceIdeal.nD Cert.FfDownReferenceIdeal.τ).loc Cert.FfDownReferenceIdeal.main_v13) = v1 c
          ∧ r.2.mem ((c.tc : Thread Cert.FfDownReferenceIdeal.nD Cert.FfDownReferenceIdeal.τ).loc Cert.FfDownReferenceIdeal.main_arg0) = m' ((c.tc : Thread Cert.FfDownReferenceIdeal.nD Cert.FfDownReferenceIdeal.τ).loc Cert.FfDownReferenceIdeal.main_arg0)
          ∧ r.2.mem ((c.tc : Thread Cert.FfDownReferenceIdeal.nD Cert.FfDownReferenceIdeal.τ).loc Cert.FfDownReferenceIdeal.main_arg1) = m' ((c.tc : Thread Cert.FfDownReferenceIdeal.nD Cert.FfDownReferenceIdeal.τ).loc Cert.FfDownReferenceIdeal.main_arg1)
          ∧ r.2.mem ((c.tc : Thread Cert.FfDownReferenceIdeal.nD Cert.FfDownReferenceIdeal.τ).loc Cert.FfDownReferenceIdeal.main_arg2) = m' ((c.tc : Thread Cert.FfDownReferenceIdeal.nD Cert.FfDownReferenceIdeal.τ).loc Cert.FfDownReferenceIdeal.main_arg2)
          ∧ r.2.mem ((c.tc : Thread Cert.FfDownReferenceIdeal.nD Cert.FfDownReferenceIdeal.τ).loc Cert.FfDownReferenceIdeal.main_arg3) = m' ((c.tc : Thread Cert.FfDownReferenceIdeal.nD Cert.FfDownReferenceIdeal.τ).loc Cert.FfDownReferenceIdeal.main_arg3))

def preserves_FfUp_FfUpIdeal : Prop :=
  True

def algebraic_FfUpIdeal_FfUpReferenceIdeal [hFfUpIdeal : Cert.FfUpIdeal.Facts] [hFfUpReferenceIdeal : Cert.FfUpReferenceIdeal.Facts] : Prop :=
  ∀ (m : (ℓ : Loc Cert.FfUpIdeal.nD Cert.FfUpIdeal.τ Cert.FfUpIdeal.sig) → Buf (Elt Ideal) ℓ) (g : Dev Cert.FfUpIdeal.nD → PrngReg)
    (m' : (ℓ : Loc Cert.FfUpReferenceIdeal.nD Cert.FfUpReferenceIdeal.τ Cert.FfUpReferenceIdeal.sig) → Buf (Elt Ideal) ℓ) (g' : Dev Cert.FfUpReferenceIdeal.nD → PrngReg), Pre_FfUpIdeal m →
    (∀ c : Dev Cert.FfUpIdeal.nD,
      m' ((c.tc : Thread Cert.FfUpReferenceIdeal.nD Cert.FfUpReferenceIdeal.τ).loc Cert.FfUpReferenceIdeal.main_arg0) = m ((c.tc : Thread Cert.FfUpIdeal.nD Cert.FfUpIdeal.τ).loc Cert.FfUpIdeal.main_arg0)
      ∧ m' ((c.tc : Thread Cert.FfUpReferenceIdeal.nD Cert.FfUpReferenceIdeal.τ).loc Cert.FfUpReferenceIdeal.main_arg1) = m ((c.tc : Thread Cert.FfUpIdeal.nD Cert.FfUpIdeal.τ).loc Cert.FfUpIdeal.main_arg1)
      ∧ m' ((c.tc : Thread Cert.FfUpReferenceIdeal.nD Cert.FfUpReferenceIdeal.τ).loc Cert.FfUpReferenceIdeal.main_arg2) = m ((c.tc : Thread Cert.FfUpIdeal.nD Cert.FfUpIdeal.τ).loc Cert.FfUpIdeal.main_arg2)) →
    ∃ (v0 : (c : Dev Cert.FfUpIdeal.nD) → Buf (Elt Ideal) ((c.tc : Thread Cert.FfUpIdeal.nD Cert.FfUpIdeal.τ).loc Cert.FfUpIdeal.main_v0_0)) (v1 : (c : Dev Cert.FfUpIdeal.nD) → Buf (Elt Ideal) ((c.tc : Thread Cert.FfUpIdeal.nD Cert.FfUpIdeal.τ).loc Cert.FfUpIdeal.main_v0_1)) (v2 : (c : Dev Cert.FfUpIdeal.nD) → Buf (Elt Ideal) ((c.tc : Thread Cert.FfUpIdeal.nD Cert.FfUpIdeal.τ).loc Cert.FfUpIdeal.main_v0_2)),
      θ_run (Cert.FfUpIdeal.defs (F := Ideal)) (onTc (τ := Cert.FfUpIdeal.τ) (Cert.FfUpIdeal.main (F := Ideal))) ⟨m, fun _ => 0, g⟩ (fun r => ∀ c : Dev Cert.FfUpIdeal.nD,
          r.2.mem ((c.tc : Thread Cert.FfUpIdeal.nD Cert.FfUpIdeal.τ).loc Cert.FfUpIdeal.main_v0_0) = v0 c
          ∧ r.2.mem ((c.tc : Thread Cert.FfUpIdeal.nD Cert.FfUpIdeal.τ).loc Cert.FfUpIdeal.main_v0_1) = v1 c
          ∧ r.2.mem ((c.tc : Thread Cert.FfUpIdeal.nD Cert.FfUpIdeal.τ).loc Cert.FfUpIdeal.main_v0_2) = v2 c
          ∧ r.2.mem ((c.tc : Thread Cert.FfUpIdeal.nD Cert.FfUpIdeal.τ).loc Cert.FfUpIdeal.main_arg0) = m ((c.tc : Thread Cert.FfUpIdeal.nD Cert.FfUpIdeal.τ).loc Cert.FfUpIdeal.main_arg0)
          ∧ r.2.mem ((c.tc : Thread Cert.FfUpIdeal.nD Cert.FfUpIdeal.τ).loc Cert.FfUpIdeal.main_arg1) = m ((c.tc : Thread Cert.FfUpIdeal.nD Cert.FfUpIdeal.τ).loc Cert.FfUpIdeal.main_arg1)
          ∧ r.2.mem ((c.tc : Thread Cert.FfUpIdeal.nD Cert.FfUpIdeal.τ).loc Cert.FfUpIdeal.main_arg2) = m ((c.tc : Thread Cert.FfUpIdeal.nD Cert.FfUpIdeal.τ).loc Cert.FfUpIdeal.main_arg2))
      ∧ θ_run (Cert.FfUpReferenceIdeal.defs (F := Ideal)) (onTc (τ := Cert.FfUpReferenceIdeal.τ) (Cert.FfUpReferenceIdeal.main (F := Ideal))) ⟨m', fun _ => 0, g'⟩ (fun r => ∀ c : Dev Cert.FfUpReferenceIdeal.nD,
          r.2.mem ((c.tc : Thread Cert.FfUpReferenceIdeal.nD Cert.FfUpReferenceIdeal.τ).loc Cert.FfUpReferenceIdeal.main_v9) = v0 c
          ∧ r.2.mem ((c.tc : Thread Cert.FfUpReferenceIdeal.nD Cert.FfUpReferenceIdeal.τ).loc Cert.FfUpReferenceIdeal.main_v10) = v1 c
          ∧ r.2.mem ((c.tc : Thread Cert.FfUpReferenceIdeal.nD Cert.FfUpReferenceIdeal.τ).loc Cert.FfUpReferenceIdeal.main_v13) = v2 c
          ∧ r.2.mem ((c.tc : Thread Cert.FfUpReferenceIdeal.nD Cert.FfUpReferenceIdeal.τ).loc Cert.FfUpReferenceIdeal.main_arg0) = m' ((c.tc : Thread Cert.FfUpReferenceIdeal.nD Cert.FfUpReferenceIdeal.τ).loc Cert.FfUpReferenceIdeal.main_arg0)
          ∧ r.2.mem ((c.tc : Thread Cert.FfUpReferenceIdeal.nD Cert.FfUpReferenceIdeal.τ).loc Cert.FfUpReferenceIdeal.main_arg1) = m' ((c.tc : Thread Cert.FfUpReferenceIdeal.nD Cert.FfUpReferenceIdeal.τ).loc Cert.FfUpReferenceIdeal.main_arg1)
          ∧ r.2.mem ((c.tc : Thread Cert.FfUpReferenceIdeal.nD Cert.FfUpReferenceIdeal.τ).loc Cert.FfUpReferenceIdeal.main_arg2) = m' ((c.tc : Thread Cert.FfUpReferenceIdeal.nD Cert.FfUpReferenceIdeal.τ).loc Cert.FfUpReferenceIdeal.main_arg2))

def preserves_NtFf_NtFfIdeal : Prop :=
  True

def algebraic_NtFfIdeal_NtFfReferenceIdeal [hNtFfIdeal : Cert.NtFfIdeal.Facts] [hNtFfReferenceIdeal : Cert.NtFfReferenceIdeal.Facts] : Prop :=
  ∀ (m : (ℓ : Loc Cert.NtFfIdeal.nD Cert.NtFfIdeal.τ Cert.NtFfIdeal.sig) → Buf (Elt Ideal) ℓ) (g : Dev Cert.NtFfIdeal.nD → PrngReg)
    (m' : (ℓ : Loc Cert.NtFfReferenceIdeal.nD Cert.NtFfReferenceIdeal.τ Cert.NtFfReferenceIdeal.sig) → Buf (Elt Ideal) ℓ) (g' : Dev Cert.NtFfReferenceIdeal.nD → PrngReg), Pre_NtFfIdeal m →
    (∀ c : Dev Cert.NtFfIdeal.nD,
      m' ((c.tc : Thread Cert.NtFfReferenceIdeal.nD Cert.NtFfReferenceIdeal.τ).loc Cert.NtFfReferenceIdeal.main_arg0) = m ((c.tc : Thread Cert.NtFfIdeal.nD Cert.NtFfIdeal.τ).loc Cert.NtFfIdeal.main_arg0)
      ∧ m' ((c.tc : Thread Cert.NtFfReferenceIdeal.nD Cert.NtFfReferenceIdeal.τ).loc Cert.NtFfReferenceIdeal.main_arg1) = m ((c.tc : Thread Cert.NtFfIdeal.nD Cert.NtFfIdeal.τ).loc Cert.NtFfIdeal.main_arg1)) →
    ∃ (v0 : (c : Dev Cert.NtFfIdeal.nD) → Buf (Elt Ideal) ((c.tc : Thread Cert.NtFfIdeal.nD Cert.NtFfIdeal.τ).loc Cert.NtFfIdeal.main_v1)),
      θ_run (Cert.NtFfIdeal.defs (F := Ideal)) (onTc (τ := Cert.NtFfIdeal.τ) (Cert.NtFfIdeal.main (F := Ideal))) ⟨m, fun _ => 0, g⟩ (fun r => ∀ c : Dev Cert.NtFfIdeal.nD,
          r.2.mem ((c.tc : Thread Cert.NtFfIdeal.nD Cert.NtFfIdeal.τ).loc Cert.NtFfIdeal.main_v1) = v0 c
          ∧ r.2.mem ((c.tc : Thread Cert.NtFfIdeal.nD Cert.NtFfIdeal.τ).loc Cert.NtFfIdeal.main_arg0) = m ((c.tc : Thread Cert.NtFfIdeal.nD Cert.NtFfIdeal.τ).loc Cert.NtFfIdeal.main_arg0)
          ∧ r.2.mem ((c.tc : Thread Cert.NtFfIdeal.nD Cert.NtFfIdeal.τ).loc Cert.NtFfIdeal.main_arg1) = m ((c.tc : Thread Cert.NtFfIdeal.nD Cert.NtFfIdeal.τ).loc Cert.NtFfIdeal.main_arg1))
      ∧ θ_run (Cert.NtFfReferenceIdeal.defs (F := Ideal)) (onTc (τ := Cert.NtFfReferenceIdeal.τ) (Cert.NtFfReferenceIdeal.main (F := Ideal))) ⟨m', fun _ => 0, g'⟩ (fun r => ∀ c : Dev Cert.NtFfReferenceIdeal.nD,
          r.2.mem ((c.tc : Thread Cert.NtFfReferenceIdeal.nD Cert.NtFfReferenceIdeal.τ).loc Cert.NtFfReferenceIdeal.main_v6) = v0 c
          ∧ r.2.mem ((c.tc : Thread Cert.NtFfReferenceIdeal.nD Cert.NtFfReferenceIdeal.τ).loc Cert.NtFfReferenceIdeal.main_arg0) = m' ((c.tc : Thread Cert.NtFfReferenceIdeal.nD Cert.NtFfReferenceIdeal.τ).loc Cert.NtFfReferenceIdeal.main_arg0)
          ∧ r.2.mem ((c.tc : Thread Cert.NtFfReferenceIdeal.nD Cert.NtFfReferenceIdeal.τ).loc Cert.NtFfReferenceIdeal.main_arg1) = m' ((c.tc : Thread Cert.NtFfReferenceIdeal.nD Cert.NtFfReferenceIdeal.τ).loc Cert.NtFfReferenceIdeal.main_arg1))

def preserves_TnFf_TnFfIdeal : Prop :=
  True

def algebraic_TnFfIdeal_TnFfReferenceIdeal [hTnFfIdeal : Cert.TnFfIdeal.Facts] [hTnFfReferenceIdeal : Cert.TnFfReferenceIdeal.Facts] : Prop :=
  ∀ (m : (ℓ : Loc Cert.TnFfIdeal.nD Cert.TnFfIdeal.τ Cert.TnFfIdeal.sig) → Buf (Elt Ideal) ℓ) (g : Dev Cert.TnFfIdeal.nD → PrngReg)
    (m' : (ℓ : Loc Cert.TnFfReferenceIdeal.nD Cert.TnFfReferenceIdeal.τ Cert.TnFfReferenceIdeal.sig) → Buf (Elt Ideal) ℓ) (g' : Dev Cert.TnFfReferenceIdeal.nD → PrngReg), Pre_TnFfIdeal m →
    (∀ c : Dev Cert.TnFfIdeal.nD,
      m' ((c.tc : Thread Cert.TnFfReferenceIdeal.nD Cert.TnFfReferenceIdeal.τ).loc Cert.TnFfReferenceIdeal.main_arg0) = m ((c.tc : Thread Cert.TnFfIdeal.nD Cert.TnFfIdeal.τ).loc Cert.TnFfIdeal.main_arg0)
      ∧ m' ((c.tc : Thread Cert.TnFfReferenceIdeal.nD Cert.TnFfReferenceIdeal.τ).loc Cert.TnFfReferenceIdeal.main_arg1) = m ((c.tc : Thread Cert.TnFfIdeal.nD Cert.TnFfIdeal.τ).loc Cert.TnFfIdeal.main_arg1)) →
    ∃ (v0 : (c : Dev Cert.TnFfIdeal.nD) → Buf (Elt Ideal) ((c.tc : Thread Cert.TnFfIdeal.nD Cert.TnFfIdeal.τ).loc Cert.TnFfIdeal.main_v0)),
      θ_run (Cert.TnFfIdeal.defs (F := Ideal)) (onTc (τ := Cert.TnFfIdeal.τ) (Cert.TnFfIdeal.main (F := Ideal))) ⟨m, fun _ => 0, g⟩ (fun r => ∀ c : Dev Cert.TnFfIdeal.nD,
          r.2.mem ((c.tc : Thread Cert.TnFfIdeal.nD Cert.TnFfIdeal.τ).loc Cert.TnFfIdeal.main_v0) = v0 c
          ∧ r.2.mem ((c.tc : Thread Cert.TnFfIdeal.nD Cert.TnFfIdeal.τ).loc Cert.TnFfIdeal.main_arg0) = m ((c.tc : Thread Cert.TnFfIdeal.nD Cert.TnFfIdeal.τ).loc Cert.TnFfIdeal.main_arg0)
          ∧ r.2.mem ((c.tc : Thread Cert.TnFfIdeal.nD Cert.TnFfIdeal.τ).loc Cert.TnFfIdeal.main_arg1) = m ((c.tc : Thread Cert.TnFfIdeal.nD Cert.TnFfIdeal.τ).loc Cert.TnFfIdeal.main_arg1))
      ∧ θ_run (Cert.TnFfReferenceIdeal.defs (F := Ideal)) (onTc (τ := Cert.TnFfReferenceIdeal.τ) (Cert.TnFfReferenceIdeal.main (F := Ideal))) ⟨m', fun _ => 0, g'⟩ (fun r => ∀ c : Dev Cert.TnFfReferenceIdeal.nD,
          r.2.mem ((c.tc : Thread Cert.TnFfReferenceIdeal.nD Cert.TnFfReferenceIdeal.τ).loc Cert.TnFfReferenceIdeal.main_v10) = v0 c
          ∧ r.2.mem ((c.tc : Thread Cert.TnFfReferenceIdeal.nD Cert.TnFfReferenceIdeal.τ).loc Cert.TnFfReferenceIdeal.main_arg0) = m' ((c.tc : Thread Cert.TnFfReferenceIdeal.nD Cert.TnFfReferenceIdeal.τ).loc Cert.TnFfReferenceIdeal.main_arg0)
          ∧ r.2.mem ((c.tc : Thread Cert.TnFfReferenceIdeal.nD Cert.TnFfReferenceIdeal.τ).loc Cert.TnFfReferenceIdeal.main_arg1) = m' ((c.tc : Thread Cert.TnFfReferenceIdeal.nD Cert.TnFfReferenceIdeal.τ).loc Cert.TnFfReferenceIdeal.main_arg1))

def preserves_TnFfDown_TnFfDownIdeal : Prop :=
  True

def algebraic_TnFfDownIdeal_TnFfDownReferenceIdeal [hTnFfDownIdeal : Cert.TnFfDownIdeal.Facts] [hTnFfDownReferenceIdeal : Cert.TnFfDownReferenceIdeal.Facts] : Prop :=
  ∀ (m : (ℓ : Loc Cert.TnFfDownIdeal.nD Cert.TnFfDownIdeal.τ Cert.TnFfDownIdeal.sig) → Buf (Elt Ideal) ℓ) (g : Dev Cert.TnFfDownIdeal.nD → PrngReg)
    (m' : (ℓ : Loc Cert.TnFfDownReferenceIdeal.nD Cert.TnFfDownReferenceIdeal.τ Cert.TnFfDownReferenceIdeal.sig) → Buf (Elt Ideal) ℓ) (g' : Dev Cert.TnFfDownReferenceIdeal.nD → PrngReg), Pre_TnFfDownIdeal m →
    (∀ c : Dev Cert.TnFfDownIdeal.nD,
      m' ((c.tc : Thread Cert.TnFfDownReferenceIdeal.nD Cert.TnFfDownReferenceIdeal.τ).loc Cert.TnFfDownReferenceIdeal.main_arg0) = m ((c.tc : Thread Cert.TnFfDownIdeal.nD Cert.TnFfDownIdeal.τ).loc Cert.TnFfDownIdeal.main_arg0)
      ∧ m' ((c.tc : Thread Cert.TnFfDownReferenceIdeal.nD Cert.TnFfDownReferenceIdeal.τ).loc Cert.TnFfDownReferenceIdeal.main_arg1) = m ((c.tc : Thread Cert.TnFfDownIdeal.nD Cert.TnFfDownIdeal.τ).loc Cert.TnFfDownIdeal.main_arg1)) →
    ∃ (v0 : (c : Dev Cert.TnFfDownIdeal.nD) → Buf (Elt Ideal) ((c.tc : Thread Cert.TnFfDownIdeal.nD Cert.TnFfDownIdeal.τ).loc Cert.TnFfDownIdeal.main_v0)),
      θ_run (Cert.TnFfDownIdeal.defs (F := Ideal)) (onTc (τ := Cert.TnFfDownIdeal.τ) (Cert.TnFfDownIdeal.main (F := Ideal))) ⟨m, fun _ => 0, g⟩ (fun r => ∀ c : Dev Cert.TnFfDownIdeal.nD,
          r.2.mem ((c.tc : Thread Cert.TnFfDownIdeal.nD Cert.TnFfDownIdeal.τ).loc Cert.TnFfDownIdeal.main_v0) = v0 c
          ∧ r.2.mem ((c.tc : Thread Cert.TnFfDownIdeal.nD Cert.TnFfDownIdeal.τ).loc Cert.TnFfDownIdeal.main_arg0) = m ((c.tc : Thread Cert.TnFfDownIdeal.nD Cert.TnFfDownIdeal.τ).loc Cert.TnFfDownIdeal.main_arg0)
          ∧ r.2.mem ((c.tc : Thread Cert.TnFfDownIdeal.nD Cert.TnFfDownIdeal.τ).loc Cert.TnFfDownIdeal.main_arg1) = m ((c.tc : Thread Cert.TnFfDownIdeal.nD Cert.TnFfDownIdeal.τ).loc Cert.TnFfDownIdeal.main_arg1))
      ∧ θ_run (Cert.TnFfDownReferenceIdeal.defs (F := Ideal)) (onTc (τ := Cert.TnFfDownReferenceIdeal.τ) (Cert.TnFfDownReferenceIdeal.main (F := Ideal))) ⟨m', fun _ => 0, g'⟩ (fun r => ∀ c : Dev Cert.TnFfDownReferenceIdeal.nD,
          r.2.mem ((c.tc : Thread Cert.TnFfDownReferenceIdeal.nD Cert.TnFfDownReferenceIdeal.τ).loc Cert.TnFfDownReferenceIdeal.main_v8) = v0 c
          ∧ r.2.mem ((c.tc : Thread Cert.TnFfDownReferenceIdeal.nD Cert.TnFfDownReferenceIdeal.τ).loc Cert.TnFfDownReferenceIdeal.main_arg0) = m' ((c.tc : Thread Cert.TnFfDownReferenceIdeal.nD Cert.TnFfDownReferenceIdeal.τ).loc Cert.TnFfDownReferenceIdeal.main_arg0)
          ∧ r.2.mem ((c.tc : Thread Cert.TnFfDownReferenceIdeal.nD Cert.TnFfDownReferenceIdeal.τ).loc Cert.TnFfDownReferenceIdeal.main_arg1) = m' ((c.tc : Thread Cert.TnFfDownReferenceIdeal.nD Cert.TnFfDownReferenceIdeal.τ).loc Cert.TnFfDownReferenceIdeal.main_arg1))

def preserves_NtGate_NtGateIdeal : Prop :=
  True

def algebraic_NtGateIdeal_NtGateReferenceIdeal [hNtGateIdeal : Cert.NtGateIdeal.Facts] [hNtGateReferenceIdeal : Cert.NtGateReferenceIdeal.Facts] : Prop :=
  ∀ (m : (ℓ : Loc Cert.NtGateIdeal.nD Cert.NtGateIdeal.τ Cert.NtGateIdeal.sig) → Buf (Elt Ideal) ℓ) (g : Dev Cert.NtGateIdeal.nD → PrngReg)
    (m' : (ℓ : Loc Cert.NtGateReferenceIdeal.nD Cert.NtGateReferenceIdeal.τ Cert.NtGateReferenceIdeal.sig) → Buf (Elt Ideal) ℓ) (g' : Dev Cert.NtGateReferenceIdeal.nD → PrngReg), Pre_NtGateIdeal m →
    (∀ c : Dev Cert.NtGateIdeal.nD,
      m' ((c.tc : Thread Cert.NtGateReferenceIdeal.nD Cert.NtGateReferenceIdeal.τ).loc Cert.NtGateReferenceIdeal.main_arg0) = m ((c.tc : Thread Cert.NtGateIdeal.nD Cert.NtGateIdeal.τ).loc Cert.NtGateIdeal.main_arg0)
      ∧ m' ((c.tc : Thread Cert.NtGateReferenceIdeal.nD Cert.NtGateReferenceIdeal.τ).loc Cert.NtGateReferenceIdeal.main_arg1) = m ((c.tc : Thread Cert.NtGateIdeal.nD Cert.NtGateIdeal.τ).loc Cert.NtGateIdeal.main_arg1)) →
    ∃ (v0 : (c : Dev Cert.NtGateIdeal.nD) → Buf (Elt Ideal) ((c.tc : Thread Cert.NtGateIdeal.nD Cert.NtGateIdeal.τ).loc Cert.NtGateIdeal.main_v1)),
      θ_run (Cert.NtGateIdeal.defs (F := Ideal)) (onTc (τ := Cert.NtGateIdeal.τ) (Cert.NtGateIdeal.main (F := Ideal))) ⟨m, fun _ => 0, g⟩ (fun r => ∀ c : Dev Cert.NtGateIdeal.nD,
          r.2.mem ((c.tc : Thread Cert.NtGateIdeal.nD Cert.NtGateIdeal.τ).loc Cert.NtGateIdeal.main_v1) = v0 c
          ∧ r.2.mem ((c.tc : Thread Cert.NtGateIdeal.nD Cert.NtGateIdeal.τ).loc Cert.NtGateIdeal.main_arg0) = m ((c.tc : Thread Cert.NtGateIdeal.nD Cert.NtGateIdeal.τ).loc Cert.NtGateIdeal.main_arg0)
          ∧ r.2.mem ((c.tc : Thread Cert.NtGateIdeal.nD Cert.NtGateIdeal.τ).loc Cert.NtGateIdeal.main_arg1) = m ((c.tc : Thread Cert.NtGateIdeal.nD Cert.NtGateIdeal.τ).loc Cert.NtGateIdeal.main_arg1))
      ∧ θ_run (Cert.NtGateReferenceIdeal.defs (F := Ideal)) (onTc (τ := Cert.NtGateReferenceIdeal.τ) (Cert.NtGateReferenceIdeal.main (F := Ideal))) ⟨m', fun _ => 0, g'⟩ (fun r => ∀ c : Dev Cert.NtGateReferenceIdeal.nD,
          r.2.mem ((c.tc : Thread Cert.NtGateReferenceIdeal.nD Cert.NtGateReferenceIdeal.τ).loc Cert.NtGateReferenceIdeal.main_v6) = v0 c
          ∧ r.2.mem ((c.tc : Thread Cert.NtGateReferenceIdeal.nD Cert.NtGateReferenceIdeal.τ).loc Cert.NtGateReferenceIdeal.main_arg0) = m' ((c.tc : Thread Cert.NtGateReferenceIdeal.nD Cert.NtGateReferenceIdeal.τ).loc Cert.NtGateReferenceIdeal.main_arg0)
          ∧ r.2.mem ((c.tc : Thread Cert.NtGateReferenceIdeal.nD Cert.NtGateReferenceIdeal.τ).loc Cert.NtGateReferenceIdeal.main_arg1) = m' ((c.tc : Thread Cert.NtGateReferenceIdeal.nD Cert.NtGateReferenceIdeal.τ).loc Cert.NtGateReferenceIdeal.main_arg1))

def preserves_TnGate_TnGateIdeal : Prop :=
  True

def algebraic_TnGateIdeal_TnGateReferenceIdeal [hTnGateIdeal : Cert.TnGateIdeal.Facts] [hTnGateReferenceIdeal : Cert.TnGateReferenceIdeal.Facts] : Prop :=
  ∀ (m : (ℓ : Loc Cert.TnGateIdeal.nD Cert.TnGateIdeal.τ Cert.TnGateIdeal.sig) → Buf (Elt Ideal) ℓ) (g : Dev Cert.TnGateIdeal.nD → PrngReg)
    (m' : (ℓ : Loc Cert.TnGateReferenceIdeal.nD Cert.TnGateReferenceIdeal.τ Cert.TnGateReferenceIdeal.sig) → Buf (Elt Ideal) ℓ) (g' : Dev Cert.TnGateReferenceIdeal.nD → PrngReg), Pre_TnGateIdeal m →
    (∀ c : Dev Cert.TnGateIdeal.nD,
      m' ((c.tc : Thread Cert.TnGateReferenceIdeal.nD Cert.TnGateReferenceIdeal.τ).loc Cert.TnGateReferenceIdeal.main_arg0) = m ((c.tc : Thread Cert.TnGateIdeal.nD Cert.TnGateIdeal.τ).loc Cert.TnGateIdeal.main_arg0)
      ∧ m' ((c.tc : Thread Cert.TnGateReferenceIdeal.nD Cert.TnGateReferenceIdeal.τ).loc Cert.TnGateReferenceIdeal.main_arg1) = m ((c.tc : Thread Cert.TnGateIdeal.nD Cert.TnGateIdeal.τ).loc Cert.TnGateIdeal.main_arg1)) →
    ∃ (v0 : (c : Dev Cert.TnGateIdeal.nD) → Buf (Elt Ideal) ((c.tc : Thread Cert.TnGateIdeal.nD Cert.TnGateIdeal.τ).loc Cert.TnGateIdeal.main_v0)),
      θ_run (Cert.TnGateIdeal.defs (F := Ideal)) (onTc (τ := Cert.TnGateIdeal.τ) (Cert.TnGateIdeal.main (F := Ideal))) ⟨m, fun _ => 0, g⟩ (fun r => ∀ c : Dev Cert.TnGateIdeal.nD,
          r.2.mem ((c.tc : Thread Cert.TnGateIdeal.nD Cert.TnGateIdeal.τ).loc Cert.TnGateIdeal.main_v0) = v0 c
          ∧ r.2.mem ((c.tc : Thread Cert.TnGateIdeal.nD Cert.TnGateIdeal.τ).loc Cert.TnGateIdeal.main_arg0) = m ((c.tc : Thread Cert.TnGateIdeal.nD Cert.TnGateIdeal.τ).loc Cert.TnGateIdeal.main_arg0)
          ∧ r.2.mem ((c.tc : Thread Cert.TnGateIdeal.nD Cert.TnGateIdeal.τ).loc Cert.TnGateIdeal.main_arg1) = m ((c.tc : Thread Cert.TnGateIdeal.nD Cert.TnGateIdeal.τ).loc Cert.TnGateIdeal.main_arg1))
      ∧ θ_run (Cert.TnGateReferenceIdeal.defs (F := Ideal)) (onTc (τ := Cert.TnGateReferenceIdeal.τ) (Cert.TnGateReferenceIdeal.main (F := Ideal))) ⟨m', fun _ => 0, g'⟩ (fun r => ∀ c : Dev Cert.TnGateReferenceIdeal.nD,
          r.2.mem ((c.tc : Thread Cert.TnGateReferenceIdeal.nD Cert.TnGateReferenceIdeal.τ).loc Cert.TnGateReferenceIdeal.main_v10) = v0 c
          ∧ r.2.mem ((c.tc : Thread Cert.TnGateReferenceIdeal.nD Cert.TnGateReferenceIdeal.τ).loc Cert.TnGateReferenceIdeal.main_arg0) = m' ((c.tc : Thread Cert.TnGateReferenceIdeal.nD Cert.TnGateReferenceIdeal.τ).loc Cert.TnGateReferenceIdeal.main_arg0)
          ∧ r.2.mem ((c.tc : Thread Cert.TnGateReferenceIdeal.nD Cert.TnGateReferenceIdeal.τ).loc Cert.TnGateReferenceIdeal.main_arg1) = m' ((c.tc : Thread Cert.TnGateReferenceIdeal.nD Cert.TnGateReferenceIdeal.τ).loc Cert.TnGateReferenceIdeal.main_arg1))

def preserves_MergeBwd_MergeBwdIdeal : Prop :=
  True

def algebraic_MergeBwdIdeal_MergeBwdReferenceIdeal [hMergeBwdIdeal : Cert.MergeBwdIdeal.Facts] [hMergeBwdReferenceIdeal : Cert.MergeBwdReferenceIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdReferenceIdeal.nD Cert.MergeBwdReferenceIdeal.τ Cert.MergeBwdReferenceIdeal.sig) → Buf (Elt Ideal) ℓ) (g' : Dev Cert.MergeBwdReferenceIdeal.nD → PrngReg), Pre_MergeBwdIdeal m →
    (∀ c : Dev Cert.MergeBwdIdeal.nD,
      m' ((c.tc : Thread Cert.MergeBwdReferenceIdeal.nD Cert.MergeBwdReferenceIdeal.τ).loc Cert.MergeBwdReferenceIdeal.main_arg0) = m ((c.tc : Thread Cert.MergeBwdIdeal.nD Cert.MergeBwdIdeal.τ).loc Cert.MergeBwdIdeal.main_arg0)
      ∧ m' ((c.tc : Thread Cert.MergeBwdReferenceIdeal.nD Cert.MergeBwdReferenceIdeal.τ).loc Cert.MergeBwdReferenceIdeal.main_arg1) = m ((c.tc : Thread Cert.MergeBwdIdeal.nD Cert.MergeBwdIdeal.τ).loc Cert.MergeBwdIdeal.main_arg1)
      ∧ m' ((c.tc : Thread Cert.MergeBwdReferenceIdeal.nD Cert.MergeBwdReferenceIdeal.τ).loc Cert.MergeBwdReferenceIdeal.main_arg2) = m ((c.tc : Thread Cert.MergeBwdIdeal.nD Cert.MergeBwdIdeal.τ).loc Cert.MergeBwdIdeal.main_arg2)
      ∧ m' ((c.tc : Thread Cert.MergeBwdReferenceIdeal.nD Cert.MergeBwdReferenceIdeal.τ).loc Cert.MergeBwdReferenceIdeal.main_arg3) = m ((c.tc : Thread Cert.MergeBwdIdeal.nD Cert.MergeBwdIdeal.τ).loc Cert.MergeBwdIdeal.main_arg3)
      ∧ m' ((c.tc : Thread Cert.MergeBwdReferenceIdeal.nD Cert.MergeBwdReferenceIdeal.τ).loc Cert.MergeBwdReferenceIdeal.main_arg4) = m ((c.tc : Thread Cert.MergeBwdIdeal.nD Cert.MergeBwdIdeal.τ).loc Cert.MergeBwdIdeal.main_arg4)
      ∧ m' ((c.tc : Thread Cert.MergeBwdReferenceIdeal.nD Cert.MergeBwdReferenceIdeal.τ).loc Cert.MergeBwdReferenceIdeal.main_arg5) = m ((c.tc : Thread Cert.MergeBwdIdeal.nD Cert.MergeBwdIdeal.τ).loc Cert.MergeBwdIdeal.main_arg5)) →
    ∃ (v0 : (c : Dev Cert.MergeBwdIdeal.nD) → Buf (Elt Ideal) ((c.tc : Thread Cert.MergeBwdIdeal.nD Cert.MergeBwdIdeal.τ).loc Cert.MergeBwdIdeal.main_v7_0)) (v1 : (c : Dev Cert.MergeBwdIdeal.nD) → Buf (Elt Ideal) ((c.tc : Thread Cert.MergeBwdIdeal.nD Cert.MergeBwdIdeal.τ).loc Cert.MergeBwdIdeal.main_v7_1)) (v2 : (c : Dev Cert.MergeBwdIdeal.nD) → Buf (Elt Ideal) ((c.tc : Thread Cert.MergeBwdIdeal.nD Cert.MergeBwdIdeal.τ).loc Cert.MergeBwdIdeal.main_v7_2)) (v3 : (c : Dev Cert.MergeBwdIdeal.nD) → Buf (Elt Ideal) ((c.tc : Thread Cert.MergeBwdIdeal.nD Cert.MergeBwdIdeal.τ).loc Cert.MergeBwdIdeal.main_v7_3)) (v4 : (c : Dev Cert.MergeBwdIdeal.nD) → Buf (Elt Ideal) ((c.tc : Thread Cert.MergeBwdIdeal.nD Cert.MergeBwdIdeal.τ).loc Cert.MergeBwdIdeal.main_v7_4)) (v5 : (c : Dev Cert.MergeBwdIdeal.nD) → Buf (Elt Ideal) ((c.tc : Thread Cert.MergeBwdIdeal.nD Cert.MergeBwdIdeal.τ).loc Cert.MergeBwdIdeal.main_v7_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v7_0) = v0 c
          ∧ r.2.mem ((c.tc : Thread Cert.MergeBwdIdeal.nD Cert.MergeBwdIdeal.τ).loc Cert.MergeBwdIdeal.main_v7_1) = v1 c
          ∧ r.2.mem ((c.tc : Thread Cert.MergeBwdIdeal.nD Cert.MergeBwdIdeal.τ).loc Cert.MergeBwdIdeal.main_v7_2) = v2 c
          ∧ r.2.mem ((c.tc : Thread Cert.MergeBwdIdeal.nD Cert.MergeBwdIdeal.τ).loc Cert.MergeBwdIdeal.main_v7_3) = v3 c
          ∧ r.2.mem ((c.tc : Thread Cert.MergeBwdIdeal.nD Cert.MergeBwdIdeal.τ).loc Cert.MergeBwdIdeal.main_v7_4) = v4 c
          ∧ r.2.mem ((c.tc : Thread Cert.MergeBwdIdeal.nD Cert.MergeBwdIdeal.τ).loc Cert.MergeBwdIdeal.main_v7_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5))
      ∧ θ_run (Cert.MergeBwdReferenceIdeal.defs (F := Ideal)) (onTc (τ := Cert.MergeBwdReferenceIdeal.τ) (Cert.MergeBwdReferenceIdeal.main (F := Ideal))) ⟨m', fun _ => 0, g'⟩ (fun r => ∀ c : Dev Cert.MergeBwdReferenceIdeal.nD,
          r.2.mem ((c.tc : Thread Cert.MergeBwdReferenceIdeal.nD Cert.MergeBwdReferenceIdeal.τ).loc Cert.MergeBwdReferenceIdeal.main_v76) = v0 c
          ∧ r.2.mem ((c.tc : Thread Cert.MergeBwdReferenceIdeal.nD Cert.MergeBwdReferenceIdeal.τ).loc Cert.MergeBwdReferenceIdeal.main_v72) = v1 c
          ∧ r.2.mem ((c.tc : Thread Cert.MergeBwdReferenceIdeal.nD Cert.MergeBwdReferenceIdeal.τ).loc Cert.MergeBwdReferenceIdeal.main_v73) = v2 c
          ∧ r.2.mem ((c.tc : Thread Cert.MergeBwdReferenceIdeal.nD Cert.MergeBwdReferenceIdeal.τ).loc Cert.MergeBwdReferenceIdeal.main_v74) = v3 c
          ∧ r.2.mem ((c.tc : Thread Cert.MergeBwdReferenceIdeal.nD Cert.MergeBwdReferenceIdeal.τ).loc Cert.MergeBwdReferenceIdeal.main_v75) = v4 c
          ∧ r.2.mem ((c.tc : Thread Cert.MergeBwdReferenceIdeal.nD Cert.MergeBwdReferenceIdeal.τ).loc Cert.MergeBwdReferenceIdeal.main_v79) = v5 c
          ∧ r.2.mem ((c.tc : Thread Cert.MergeBwdReferenceIdeal.nD Cert.MergeBwdReferenceIdeal.τ).loc Cert.MergeBwdReferenceIdeal.main_arg0) = m' ((c.tc : Thread Cert.MergeBwdReferenceIdeal.nD Cert.MergeBwdReferenceIdeal.τ).loc Cert.MergeBwdReferenceIdeal.main_arg0)
          ∧ r.2.mem ((c.tc : Thread Cert.MergeBwdReferenceIdeal.nD Cert.MergeBwdReferenceIdeal.τ).loc Cert.MergeBwdReferenceIdeal.main_arg1) = m' ((c.tc : Thread Cert.MergeBwdReferenceIdeal.nD Cert.MergeBwdReferenceIdeal.τ).loc Cert.MergeBwdReferenceIdeal.main_arg1)
          ∧ r.2.mem ((c.tc : Thread Cert.MergeBwdReferenceIdeal.nD Cert.MergeBwdReferenceIdeal.τ).loc Cert.MergeBwdReferenceIdeal.main_arg2) = m' ((c.tc : Thread Cert.MergeBwdReferenceIdeal.nD Cert.MergeBwdReferenceIdeal.τ).loc Cert.MergeBwdReferenceIdeal.main_arg2)
          ∧ r.2.mem ((c.tc : Thread Cert.MergeBwdReferenceIdeal.nD Cert.MergeBwdReferenceIdeal.τ).loc Cert.MergeBwdReferenceIdeal.main_arg3) = m' ((c.tc : Thread Cert.MergeBwdReferenceIdeal.nD Cert.MergeBwdReferenceIdeal.τ).loc Cert.MergeBwdReferenceIdeal.main_arg3)
          ∧ r.2.mem ((c.tc : Thread Cert.MergeBwdReferenceIdeal.nD Cert.MergeBwdReferenceIdeal.τ).loc Cert.MergeBwdReferenceIdeal.main_arg4) = m' ((c.tc : Thread Cert.MergeBwdReferenceIdeal.nD Cert.MergeBwdReferenceIdeal.τ).loc Cert.MergeBwdReferenceIdeal.main_arg4)
          ∧ r.2.mem ((c.tc : Thread Cert.MergeBwdReferenceIdeal.nD Cert.MergeBwdReferenceIdeal.τ).loc Cert.MergeBwdReferenceIdeal.main_arg5) = m' ((c.tc : Thread Cert.MergeBwdReferenceIdeal.nD Cert.MergeBwdReferenceIdeal.τ).loc Cert.MergeBwdReferenceIdeal.main_arg5))

def preserves_MergeFwd_MergeFwdIdeal : Prop :=
  True

def algebraic_MergeFwdIdeal_MergeFwdReferenceIdeal [hMergeFwdIdeal : Cert.MergeFwdIdeal.Facts] [hMergeFwdReferenceIdeal : Cert.MergeFwdReferenceIdeal.Facts] : Prop :=
  ∀ (m : (ℓ : Loc Cert.MergeFwdIdeal.nD Cert.MergeFwdIdeal.τ Cert.MergeFwdIdeal.sig) → Buf (Elt Ideal) ℓ) (g : Dev Cert.MergeFwdIdeal.nD → PrngReg)
    (m' : (ℓ : Loc Cert.MergeFwdReferenceIdeal.nD Cert.MergeFwdReferenceIdeal.τ Cert.MergeFwdReferenceIdeal.sig) → Buf (Elt Ideal) ℓ) (g' : Dev Cert.MergeFwdReferenceIdeal.nD → PrngReg), Pre_MergeFwdIdeal m →
    (∀ c : Dev Cert.MergeFwdIdeal.nD,
      m' ((c.tc : Thread Cert.MergeFwdReferenceIdeal.nD Cert.MergeFwdReferenceIdeal.τ).loc Cert.MergeFwdReferenceIdeal.main_arg0) = m ((c.tc : Thread Cert.MergeFwdIdeal.nD Cert.MergeFwdIdeal.τ).loc Cert.MergeFwdIdeal.main_arg0)
      ∧ m' ((c.tc : Thread Cert.MergeFwdReferenceIdeal.nD Cert.MergeFwdReferenceIdeal.τ).loc Cert.MergeFwdReferenceIdeal.main_arg1) = m ((c.tc : Thread Cert.MergeFwdIdeal.nD Cert.MergeFwdIdeal.τ).loc Cert.MergeFwdIdeal.main_arg1)
      ∧ m' ((c.tc : Thread Cert.MergeFwdReferenceIdeal.nD Cert.MergeFwdReferenceIdeal.τ).loc Cert.MergeFwdReferenceIdeal.main_arg2) = m ((c.tc : Thread Cert.MergeFwdIdeal.nD Cert.MergeFwdIdeal.τ).loc Cert.MergeFwdIdeal.main_arg2)
      ∧ m' ((c.tc : Thread Cert.MergeFwdReferenceIdeal.nD Cert.MergeFwdReferenceIdeal.τ).loc Cert.MergeFwdReferenceIdeal.main_arg3) = m ((c.tc : Thread Cert.MergeFwdIdeal.nD Cert.MergeFwdIdeal.τ).loc Cert.MergeFwdIdeal.main_arg3)
      ∧ m' ((c.tc : Thread Cert.MergeFwdReferenceIdeal.nD Cert.MergeFwdReferenceIdeal.τ).loc Cert.MergeFwdReferenceIdeal.main_arg4) = m ((c.tc : Thread Cert.MergeFwdIdeal.nD Cert.MergeFwdIdeal.τ).loc Cert.MergeFwdIdeal.main_arg4)) →
    ∃ (v0 : (c : Dev Cert.MergeFwdIdeal.nD) → Buf (Elt Ideal) ((c.tc : Thread Cert.MergeFwdIdeal.nD Cert.MergeFwdIdeal.τ).loc Cert.MergeFwdIdeal.main_v0)),
      θ_run (Cert.MergeFwdIdeal.defs (F := Ideal)) (onTc (τ := Cert.MergeFwdIdeal.τ) (Cert.MergeFwdIdeal.main (F := Ideal))) ⟨m, fun _ => 0, g⟩ (fun r => ∀ c : Dev Cert.MergeFwdIdeal.nD,
          r.2.mem ((c.tc : Thread Cert.MergeFwdIdeal.nD Cert.MergeFwdIdeal.τ).loc Cert.MergeFwdIdeal.main_v0) = v0 c
          ∧ r.2.mem ((c.tc : Thread Cert.MergeFwdIdeal.nD Cert.MergeFwdIdeal.τ).loc Cert.MergeFwdIdeal.main_arg0) = m ((c.tc : Thread Cert.MergeFwdIdeal.nD Cert.MergeFwdIdeal.τ).loc Cert.MergeFwdIdeal.main_arg0)
          ∧ r.2.mem ((c.tc : Thread Cert.MergeFwdIdeal.nD Cert.MergeFwdIdeal.τ).loc Cert.MergeFwdIdeal.main_arg1) = m ((c.tc : Thread Cert.MergeFwdIdeal.nD Cert.MergeFwdIdeal.τ).loc Cert.MergeFwdIdeal.main_arg1)
          ∧ r.2.mem ((c.tc : Thread Cert.MergeFwdIdeal.nD Cert.MergeFwdIdeal.τ).loc Cert.MergeFwdIdeal.main_arg2) = m ((c.tc : Thread Cert.MergeFwdIdeal.nD Cert.MergeFwdIdeal.τ).loc Cert.MergeFwdIdeal.main_arg2)
          ∧ r.2.mem ((c.tc : Thread Cert.MergeFwdIdeal.nD Cert.MergeFwdIdeal.τ).loc Cert.MergeFwdIdeal.main_arg3) = m ((c.tc : Thread Cert.MergeFwdIdeal.nD Cert.MergeFwdIdeal.τ).loc Cert.MergeFwdIdeal.main_arg3)
          ∧ r.2.mem ((c.tc : Thread Cert.MergeFwdIdeal.nD Cert.MergeFwdIdeal.τ).loc Cert.MergeFwdIdeal.main_arg4) = m ((c.tc : Thread Cert.MergeFwdIdeal.nD Cert.MergeFwdIdeal.τ).loc Cert.MergeFwdIdeal.main_arg4))
      ∧ θ_run (Cert.MergeFwdReferenceIdeal.defs (F := Ideal)) (onTc (τ := Cert.MergeFwdReferenceIdeal.τ) (Cert.MergeFwdReferenceIdeal.main (F := Ideal))) ⟨m', fun _ => 0, g'⟩ (fun r => ∀ c : Dev Cert.MergeFwdReferenceIdeal.nD,
          r.2.mem ((c.tc : Thread Cert.MergeFwdReferenceIdeal.nD Cert.MergeFwdReferenceIdeal.τ).loc Cert.MergeFwdReferenceIdeal.main_v19) = v0 c
          ∧ r.2.mem ((c.tc : Thread Cert.MergeFwdReferenceIdeal.nD Cert.MergeFwdReferenceIdeal.τ).loc Cert.MergeFwdReferenceIdeal.main_arg0) = m' ((c.tc : Thread Cert.MergeFwdReferenceIdeal.nD Cert.MergeFwdReferenceIdeal.τ).loc Cert.MergeFwdReferenceIdeal.main_arg0)
          ∧ r.2.mem ((c.tc : Thread Cert.MergeFwdReferenceIdeal.nD Cert.MergeFwdReferenceIdeal.τ).loc Cert.MergeFwdReferenceIdeal.main_arg1) = m' ((c.tc : Thread Cert.MergeFwdReferenceIdeal.nD Cert.MergeFwdReferenceIdeal.τ).loc Cert.MergeFwdReferenceIdeal.main_arg1)
          ∧ r.2.mem ((c.tc : Thread Cert.MergeFwdReferenceIdeal.nD Cert.MergeFwdReferenceIdeal.τ).loc Cert.MergeFwdReferenceIdeal.main_arg2) = m' ((c.tc : Thread Cert.MergeFwdReferenceIdeal.nD Cert.MergeFwdReferenceIdeal.τ).loc Cert.MergeFwdReferenceIdeal.main_arg2)
          ∧ r.2.mem ((c.tc : Thread Cert.MergeFwdReferenceIdeal.nD Cert.MergeFwdReferenceIdeal.τ).loc Cert.MergeFwdReferenceIdeal.main_arg3) = m' ((c.tc : Thread Cert.MergeFwdReferenceIdeal.nD Cert.MergeFwdReferenceIdeal.τ).loc Cert.MergeFwdReferenceIdeal.main_arg3)
          ∧ r.2.mem ((c.tc : Thread Cert.MergeFwdReferenceIdeal.nD Cert.MergeFwdReferenceIdeal.τ).loc Cert.MergeFwdReferenceIdeal.main_arg4) = m' ((c.tc : Thread Cert.MergeFwdReferenceIdeal.nD Cert.MergeFwdReferenceIdeal.τ).loc Cert.MergeFwdReferenceIdeal.main_arg4))

def preserves_MmGate_MmGateIdeal : Prop :=
  True

def algebraic_MmGateIdeal_MmGateReferenceIdeal [hMmGateIdeal : Cert.MmGateIdeal.Facts] [hMmGateReferenceIdeal : Cert.MmGateReferenceIdeal.Facts] : Prop :=
  ∀ (m : (ℓ : Loc Cert.MmGateIdeal.nD Cert.MmGateIdeal.τ Cert.MmGateIdeal.sig) → Buf (Elt Ideal) ℓ) (g : Dev Cert.MmGateIdeal.nD → PrngReg)
    (m' : (ℓ : Loc Cert.MmGateReferenceIdeal.nD Cert.MmGateReferenceIdeal.τ Cert.MmGateReferenceIdeal.sig) → Buf (Elt Ideal) ℓ) (g' : Dev Cert.MmGateReferenceIdeal.nD → PrngReg), Pre_MmGateIdeal m →
    (∀ c : Dev Cert.MmGateIdeal.nD,
      m' ((c.tc : Thread Cert.MmGateReferenceIdeal.nD Cert.MmGateReferenceIdeal.τ).loc Cert.MmGateReferenceIdeal.main_arg0) = m ((c.tc : Thread Cert.MmGateIdeal.nD Cert.MmGateIdeal.τ).loc Cert.MmGateIdeal.main_arg0)
      ∧ m' ((c.tc : Thread Cert.MmGateReferenceIdeal.nD Cert.MmGateReferenceIdeal.τ).loc Cert.MmGateReferenceIdeal.main_arg1) = m ((c.tc : Thread Cert.MmGateIdeal.nD Cert.MmGateIdeal.τ).loc Cert.MmGateIdeal.main_arg1)
      ∧ m' ((c.tc : Thread Cert.MmGateReferenceIdeal.nD Cert.MmGateReferenceIdeal.τ).loc Cert.MmGateReferenceIdeal.main_arg2) = m ((c.tc : Thread Cert.MmGateIdeal.nD Cert.MmGateIdeal.τ).loc Cert.MmGateIdeal.main_arg2)) →
    ∃ (v0 : (c : Dev Cert.MmGateIdeal.nD) → Buf (Elt Ideal) ((c.tc : Thread Cert.MmGateIdeal.nD Cert.MmGateIdeal.τ).loc Cert.MmGateIdeal.main_v2)),
      θ_run (Cert.MmGateIdeal.defs (F := Ideal)) (onTc (τ := Cert.MmGateIdeal.τ) (Cert.MmGateIdeal.main (F := Ideal))) ⟨m, fun _ => 0, g⟩ (fun r => ∀ c : Dev Cert.MmGateIdeal.nD,
          r.2.mem ((c.tc : Thread Cert.MmGateIdeal.nD Cert.MmGateIdeal.τ).loc Cert.MmGateIdeal.main_v2) = v0 c
          ∧ r.2.mem ((c.tc : Thread Cert.MmGateIdeal.nD Cert.MmGateIdeal.τ).loc Cert.MmGateIdeal.main_arg0) = m ((c.tc : Thread Cert.MmGateIdeal.nD Cert.MmGateIdeal.τ).loc Cert.MmGateIdeal.main_arg0)
          ∧ r.2.mem ((c.tc : Thread Cert.MmGateIdeal.nD Cert.MmGateIdeal.τ).loc Cert.MmGateIdeal.main_arg1) = m ((c.tc : Thread Cert.MmGateIdeal.nD Cert.MmGateIdeal.τ).loc Cert.MmGateIdeal.main_arg1)
          ∧ r.2.mem ((c.tc : Thread Cert.MmGateIdeal.nD Cert.MmGateIdeal.τ).loc Cert.MmGateIdeal.main_arg2) = m ((c.tc : Thread Cert.MmGateIdeal.nD Cert.MmGateIdeal.τ).loc Cert.MmGateIdeal.main_arg2))
      ∧ θ_run (Cert.MmGateReferenceIdeal.defs (F := Ideal)) (onTc (τ := Cert.MmGateReferenceIdeal.τ) (Cert.MmGateReferenceIdeal.main (F := Ideal))) ⟨m', fun _ => 0, g'⟩ (fun r => ∀ c : Dev Cert.MmGateReferenceIdeal.nD,
          r.2.mem ((c.tc : Thread Cert.MmGateReferenceIdeal.nD Cert.MmGateReferenceIdeal.τ).loc Cert.MmGateReferenceIdeal.main_v14) = v0 c
          ∧ r.2.mem ((c.tc : Thread Cert.MmGateReferenceIdeal.nD Cert.MmGateReferenceIdeal.τ).loc Cert.MmGateReferenceIdeal.main_arg0) = m' ((c.tc : Thread Cert.MmGateReferenceIdeal.nD Cert.MmGateReferenceIdeal.τ).loc Cert.MmGateReferenceIdeal.main_arg0)
          ∧ r.2.mem ((c.tc : Thread Cert.MmGateReferenceIdeal.nD Cert.MmGateReferenceIdeal.τ).loc Cert.MmGateReferenceIdeal.main_arg1) = m' ((c.tc : Thread Cert.MmGateReferenceIdeal.nD Cert.MmGateReferenceIdeal.τ).loc Cert.MmGateReferenceIdeal.main_arg1)
          ∧ r.2.mem ((c.tc : Thread Cert.MmGateReferenceIdeal.nD Cert.MmGateReferenceIdeal.τ).loc Cert.MmGateReferenceIdeal.main_arg2) = m' ((c.tc : Thread Cert.MmGateReferenceIdeal.nD Cert.MmGateReferenceIdeal.τ).loc Cert.MmGateReferenceIdeal.main_arg2))

def preserves_MmFfDown_MmFfDownIdeal : Prop :=
  True

def algebraic_MmFfDownIdeal_MmFfDownReferenceIdeal [hMmFfDownIdeal : Cert.MmFfDownIdeal.Facts] [hMmFfDownReferenceIdeal : Cert.MmFfDownReferenceIdeal.Facts] : Prop :=
  ∀ (m : (ℓ : Loc Cert.MmFfDownIdeal.nD Cert.MmFfDownIdeal.τ Cert.MmFfDownIdeal.sig) → Buf (Elt Ideal) ℓ) (g : Dev Cert.MmFfDownIdeal.nD → PrngReg)
    (m' : (ℓ : Loc Cert.MmFfDownReferenceIdeal.nD Cert.MmFfDownReferenceIdeal.τ Cert.MmFfDownReferenceIdeal.sig) → Buf (Elt Ideal) ℓ) (g' : Dev Cert.MmFfDownReferenceIdeal.nD → PrngReg), Pre_MmFfDownIdeal m →
    (∀ c : Dev Cert.MmFfDownIdeal.nD,
      m' ((c.tc : Thread Cert.MmFfDownReferenceIdeal.nD Cert.MmFfDownReferenceIdeal.τ).loc Cert.MmFfDownReferenceIdeal.main_arg0) = m ((c.tc : Thread Cert.MmFfDownIdeal.nD Cert.MmFfDownIdeal.τ).loc Cert.MmFfDownIdeal.main_arg0)
      ∧ m' ((c.tc : Thread Cert.MmFfDownReferenceIdeal.nD Cert.MmFfDownReferenceIdeal.τ).loc Cert.MmFfDownReferenceIdeal.main_arg1) = m ((c.tc : Thread Cert.MmFfDownIdeal.nD Cert.MmFfDownIdeal.τ).loc Cert.MmFfDownIdeal.main_arg1)) →
    ∃ (v0 : (c : Dev Cert.MmFfDownIdeal.nD) → Buf (Elt Ideal) ((c.tc : Thread Cert.MmFfDownIdeal.nD Cert.MmFfDownIdeal.τ).loc Cert.MmFfDownIdeal.main_v1)),
      θ_run (Cert.MmFfDownIdeal.defs (F := Ideal)) (onTc (τ := Cert.MmFfDownIdeal.τ) (Cert.MmFfDownIdeal.main (F := Ideal))) ⟨m, fun _ => 0, g⟩ (fun r => ∀ c : Dev Cert.MmFfDownIdeal.nD,
          r.2.mem ((c.tc : Thread Cert.MmFfDownIdeal.nD Cert.MmFfDownIdeal.τ).loc Cert.MmFfDownIdeal.main_v1) = v0 c
          ∧ r.2.mem ((c.tc : Thread Cert.MmFfDownIdeal.nD Cert.MmFfDownIdeal.τ).loc Cert.MmFfDownIdeal.main_arg0) = m ((c.tc : Thread Cert.MmFfDownIdeal.nD Cert.MmFfDownIdeal.τ).loc Cert.MmFfDownIdeal.main_arg0)
          ∧ r.2.mem ((c.tc : Thread Cert.MmFfDownIdeal.nD Cert.MmFfDownIdeal.τ).loc Cert.MmFfDownIdeal.main_arg1) = m ((c.tc : Thread Cert.MmFfDownIdeal.nD Cert.MmFfDownIdeal.τ).loc Cert.MmFfDownIdeal.main_arg1))
      ∧ θ_run (Cert.MmFfDownReferenceIdeal.defs (F := Ideal)) (onTc (τ := Cert.MmFfDownReferenceIdeal.τ) (Cert.MmFfDownReferenceIdeal.main (F := Ideal))) ⟨m', fun _ => 0, g'⟩ (fun r => ∀ c : Dev Cert.MmFfDownReferenceIdeal.nD,
          r.2.mem ((c.tc : Thread Cert.MmFfDownReferenceIdeal.nD Cert.MmFfDownReferenceIdeal.τ).loc Cert.MmFfDownReferenceIdeal.main_v3) = v0 c
          ∧ r.2.mem ((c.tc : Thread Cert.MmFfDownReferenceIdeal.nD Cert.MmFfDownReferenceIdeal.τ).loc Cert.MmFfDownReferenceIdeal.main_arg0) = m' ((c.tc : Thread Cert.MmFfDownReferenceIdeal.nD Cert.MmFfDownReferenceIdeal.τ).loc Cert.MmFfDownReferenceIdeal.main_arg0)
          ∧ r.2.mem ((c.tc : Thread Cert.MmFfDownReferenceIdeal.nD Cert.MmFfDownReferenceIdeal.τ).loc Cert.MmFfDownReferenceIdeal.main_arg1) = m' ((c.tc : Thread Cert.MmFfDownReferenceIdeal.nD Cert.MmFfDownReferenceIdeal.τ).loc Cert.MmFfDownReferenceIdeal.main_arg1))

def preserves_MmIn_MmInIdeal : Prop :=
  True

def algebraic_MmInIdeal_MmInReferenceIdeal [hMmInIdeal : Cert.MmInIdeal.Facts] [hMmInReferenceIdeal : Cert.MmInReferenceIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInReferenceIdeal.nD Cert.MmInReferenceIdeal.τ Cert.MmInReferenceIdeal.sig) → Buf (Elt Ideal) ℓ) (g' : Dev Cert.MmInReferenceIdeal.nD → PrngReg), Pre_MmInIdeal m →
    (∀ c : Dev Cert.MmInIdeal.nD,
      m' ((c.tc : Thread Cert.MmInReferenceIdeal.nD Cert.MmInReferenceIdeal.τ).loc Cert.MmInReferenceIdeal.main_arg0) = m ((c.tc : Thread Cert.MmInIdeal.nD Cert.MmInIdeal.τ).loc Cert.MmInIdeal.main_arg0)
      ∧ m' ((c.tc : Thread Cert.MmInReferenceIdeal.nD Cert.MmInReferenceIdeal.τ).loc Cert.MmInReferenceIdeal.main_arg1) = m ((c.tc : Thread Cert.MmInIdeal.nD Cert.MmInIdeal.τ).loc Cert.MmInIdeal.main_arg1)) →
    ∃ (v0 : (c : Dev Cert.MmInIdeal.nD) → Buf (Elt Ideal) ((c.tc : Thread Cert.MmInIdeal.nD Cert.MmInIdeal.τ).loc Cert.MmInIdeal.main_v1)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v1) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ θ_run (Cert.MmInReferenceIdeal.defs (F := Ideal)) (onTc (τ := Cert.MmInReferenceIdeal.τ) (Cert.MmInReferenceIdeal.main (F := Ideal))) ⟨m', fun _ => 0, g'⟩ (fun r => ∀ c : Dev Cert.MmInReferenceIdeal.nD,
          r.2.mem ((c.tc : Thread Cert.MmInReferenceIdeal.nD Cert.MmInReferenceIdeal.τ).loc Cert.MmInReferenceIdeal.main_v4) = v0 c
          ∧ r.2.mem ((c.tc : Thread Cert.MmInReferenceIdeal.nD Cert.MmInReferenceIdeal.τ).loc Cert.MmInReferenceIdeal.main_arg0) = m' ((c.tc : Thread Cert.MmInReferenceIdeal.nD Cert.MmInReferenceIdeal.τ).loc Cert.MmInReferenceIdeal.main_arg0)
          ∧ r.2.mem ((c.tc : Thread Cert.MmInReferenceIdeal.nD Cert.MmInReferenceIdeal.τ).loc Cert.MmInReferenceIdeal.main_arg1) = m' ((c.tc : Thread Cert.MmInReferenceIdeal.nD Cert.MmInReferenceIdeal.τ).loc Cert.MmInReferenceIdeal.main_arg1))

def preserves_NtIn_NtInIdeal : Prop :=
  True

def algebraic_NtInIdeal_NtInReferenceIdeal [hNtInIdeal : Cert.NtInIdeal.Facts] [hNtInReferenceIdeal : Cert.NtInReferenceIdeal.Facts] : Prop :=
  ∀ (m : (ℓ : Loc Cert.NtInIdeal.nD Cert.NtInIdeal.τ Cert.NtInIdeal.sig) → Buf (Elt Ideal) ℓ) (g : Dev Cert.NtInIdeal.nD → PrngReg)
    (m' : (ℓ : Loc Cert.NtInReferenceIdeal.nD Cert.NtInReferenceIdeal.τ Cert.NtInReferenceIdeal.sig) → Buf (Elt Ideal) ℓ) (g' : Dev Cert.NtInReferenceIdeal.nD → PrngReg), Pre_NtInIdeal m →
    (∀ c : Dev Cert.NtInIdeal.nD,
      m' ((c.tc : Thread Cert.NtInReferenceIdeal.nD Cert.NtInReferenceIdeal.τ).loc Cert.NtInReferenceIdeal.main_arg0) = m ((c.tc : Thread Cert.NtInIdeal.nD Cert.NtInIdeal.τ).loc Cert.NtInIdeal.main_arg0)
      ∧ m' ((c.tc : Thread Cert.NtInReferenceIdeal.nD Cert.NtInReferenceIdeal.τ).loc Cert.NtInReferenceIdeal.main_arg1) = m ((c.tc : Thread Cert.NtInIdeal.nD Cert.NtInIdeal.τ).loc Cert.NtInIdeal.main_arg1)) →
    ∃ (v0 : (c : Dev Cert.NtInIdeal.nD) → Buf (Elt Ideal) ((c.tc : Thread Cert.NtInIdeal.nD Cert.NtInIdeal.τ).loc Cert.NtInIdeal.main_v1)),
      θ_run (Cert.NtInIdeal.defs (F := Ideal)) (onTc (τ := Cert.NtInIdeal.τ) (Cert.NtInIdeal.main (F := Ideal))) ⟨m, fun _ => 0, g⟩ (fun r => ∀ c : Dev Cert.NtInIdeal.nD,
          r.2.mem ((c.tc : Thread Cert.NtInIdeal.nD Cert.NtInIdeal.τ).loc Cert.NtInIdeal.main_v1) = v0 c
          ∧ r.2.mem ((c.tc : Thread Cert.NtInIdeal.nD Cert.NtInIdeal.τ).loc Cert.NtInIdeal.main_arg0) = m ((c.tc : Thread Cert.NtInIdeal.nD Cert.NtInIdeal.τ).loc Cert.NtInIdeal.main_arg0)
          ∧ r.2.mem ((c.tc : Thread Cert.NtInIdeal.nD Cert.NtInIdeal.τ).loc Cert.NtInIdeal.main_arg1) = m ((c.tc : Thread Cert.NtInIdeal.nD Cert.NtInIdeal.τ).loc Cert.NtInIdeal.main_arg1))
      ∧ θ_run (Cert.NtInReferenceIdeal.defs (F := Ideal)) (onTc (τ := Cert.NtInReferenceIdeal.τ) (Cert.NtInReferenceIdeal.main (F := Ideal))) ⟨m', fun _ => 0, g'⟩ (fun r => ∀ c : Dev Cert.NtInReferenceIdeal.nD,
          r.2.mem ((c.tc : Thread Cert.NtInReferenceIdeal.nD Cert.NtInReferenceIdeal.τ).loc Cert.NtInReferenceIdeal.main_v6) = v0 c
          ∧ r.2.mem ((c.tc : Thread Cert.NtInReferenceIdeal.nD Cert.NtInReferenceIdeal.τ).loc Cert.NtInReferenceIdeal.main_arg0) = m' ((c.tc : Thread Cert.NtInReferenceIdeal.nD Cert.NtInReferenceIdeal.τ).loc Cert.NtInReferenceIdeal.main_arg0)
          ∧ r.2.mem ((c.tc : Thread Cert.NtInReferenceIdeal.nD Cert.NtInReferenceIdeal.τ).loc Cert.NtInReferenceIdeal.main_arg1) = m' ((c.tc : Thread Cert.NtInReferenceIdeal.nD Cert.NtInReferenceIdeal.τ).loc Cert.NtInReferenceIdeal.main_arg1))

def preserves_TnIn_TnInIdeal : Prop :=
  True

def algebraic_TnInIdeal_TnInReferenceIdeal [hTnInIdeal : Cert.TnInIdeal.Facts] [hTnInReferenceIdeal : Cert.TnInReferenceIdeal.Facts] : Prop :=
  ∀ (m : (ℓ : Loc Cert.TnInIdeal.nD Cert.TnInIdeal.τ Cert.TnInIdeal.sig) → Buf (Elt Ideal) ℓ) (g : Dev Cert.TnInIdeal.nD → PrngReg)
    (m' : (ℓ : Loc Cert.TnInReferenceIdeal.nD Cert.TnInReferenceIdeal.τ Cert.TnInReferenceIdeal.sig) → Buf (Elt Ideal) ℓ) (g' : Dev Cert.TnInReferenceIdeal.nD → PrngReg), Pre_TnInIdeal m →
    (∀ c : Dev Cert.TnInIdeal.nD,
      m' ((c.tc : Thread Cert.TnInReferenceIdeal.nD Cert.TnInReferenceIdeal.τ).loc Cert.TnInReferenceIdeal.main_arg0) = m ((c.tc : Thread Cert.TnInIdeal.nD Cert.TnInIdeal.τ).loc Cert.TnInIdeal.main_arg0)
      ∧ m' ((c.tc : Thread Cert.TnInReferenceIdeal.nD Cert.TnInReferenceIdeal.τ).loc Cert.TnInReferenceIdeal.main_arg1) = m ((c.tc : Thread Cert.TnInIdeal.nD Cert.TnInIdeal.τ).loc Cert.TnInIdeal.main_arg1)) →
    ∃ (v0 : (c : Dev Cert.TnInIdeal.nD) → Buf (Elt Ideal) ((c.tc : Thread Cert.TnInIdeal.nD Cert.TnInIdeal.τ).loc Cert.TnInIdeal.main_v0)),
      θ_run (Cert.TnInIdeal.defs (F := Ideal)) (onTc (τ := Cert.TnInIdeal.τ) (Cert.TnInIdeal.main (F := Ideal))) ⟨m, fun _ => 0, g⟩ (fun r => ∀ c : Dev Cert.TnInIdeal.nD,
          r.2.mem ((c.tc : Thread Cert.TnInIdeal.nD Cert.TnInIdeal.τ).loc Cert.TnInIdeal.main_v0) = v0 c
          ∧ r.2.mem ((c.tc : Thread Cert.TnInIdeal.nD Cert.TnInIdeal.τ).loc Cert.TnInIdeal.main_arg0) = m ((c.tc : Thread Cert.TnInIdeal.nD Cert.TnInIdeal.τ).loc Cert.TnInIdeal.main_arg0)
          ∧ r.2.mem ((c.tc : Thread Cert.TnInIdeal.nD Cert.TnInIdeal.τ).loc Cert.TnInIdeal.main_arg1) = m ((c.tc : Thread Cert.TnInIdeal.nD Cert.TnInIdeal.τ).loc Cert.TnInIdeal.main_arg1))
      ∧ θ_run (Cert.TnInReferenceIdeal.defs (F := Ideal)) (onTc (τ := Cert.TnInReferenceIdeal.τ) (Cert.TnInReferenceIdeal.main (F := Ideal))) ⟨m', fun _ => 0, g'⟩ (fun r => ∀ c : Dev Cert.TnInReferenceIdeal.nD,
          r.2.mem ((c.tc : Thread Cert.TnInReferenceIdeal.nD Cert.TnInReferenceIdeal.τ).loc Cert.TnInReferenceIdeal.main_v10) = v0 c
          ∧ r.2.mem ((c.tc : Thread Cert.TnInReferenceIdeal.nD Cert.TnInReferenceIdeal.τ).loc Cert.TnInReferenceIdeal.main_arg0) = m' ((c.tc : Thread Cert.TnInReferenceIdeal.nD Cert.TnInReferenceIdeal.τ).loc Cert.TnInReferenceIdeal.main_arg0)
          ∧ r.2.mem ((c.tc : Thread Cert.TnInReferenceIdeal.nD Cert.TnInReferenceIdeal.τ).loc Cert.TnInReferenceIdeal.main_arg1) = m' ((c.tc : Thread Cert.TnInReferenceIdeal.nD Cert.TnInReferenceIdeal.τ).loc Cert.TnInReferenceIdeal.main_arg1))

def preserves_MmOut_MmOutIdeal : Prop :=
  True

def algebraic_MmOutIdeal_MmOutReferenceIdeal [hMmOutIdeal : Cert.MmOutIdeal.Facts] [hMmOutReferenceIdeal : Cert.MmOutReferenceIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.MmOutReferenceIdeal.nD Cert.MmOutReferenceIdeal.τ Cert.MmOutReferenceIdeal.sig) → Buf (Elt Ideal) ℓ) (g' : Dev Cert.MmOutReferenceIdeal.nD → PrngReg), Pre_MmOutIdeal m →
    (∀ c : Dev Cert.MmOutIdeal.nD,
      m' ((c.tc : Thread Cert.MmOutReferenceIdeal.nD Cert.MmOutReferenceIdeal.τ).loc Cert.MmOutReferenceIdeal.main_arg0) = m ((c.tc : Thread Cert.MmOutIdeal.nD Cert.MmOutIdeal.τ).loc Cert.MmOutIdeal.main_arg0)
      ∧ m' ((c.tc : Thread Cert.MmOutReferenceIdeal.nD Cert.MmOutReferenceIdeal.τ).loc Cert.MmOutReferenceIdeal.main_arg1) = m ((c.tc : Thread Cert.MmOutIdeal.nD Cert.MmOutIdeal.τ).loc Cert.MmOutIdeal.main_arg1)) →
    ∃ (v0 : (c : Dev Cert.MmOutIdeal.nD) → Buf (Elt Ideal) ((c.tc : Thread Cert.MmOutIdeal.nD Cert.MmOutIdeal.τ).loc Cert.MmOutIdeal.main_v1)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v1) = v0 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1))
      ∧ θ_run (Cert.MmOutReferenceIdeal.defs (F := Ideal)) (onTc (τ := Cert.MmOutReferenceIdeal.τ) (Cert.MmOutReferenceIdeal.main (F := Ideal))) ⟨m', fun _ => 0, g'⟩ (fun r => ∀ c : Dev Cert.MmOutReferenceIdeal.nD,
          r.2.mem ((c.tc : Thread Cert.MmOutReferenceIdeal.nD Cert.MmOutReferenceIdeal.τ).loc Cert.MmOutReferenceIdeal.main_v3) = v0 c
          ∧ r.2.mem ((c.tc : Thread Cert.MmOutReferenceIdeal.nD Cert.MmOutReferenceIdeal.τ).loc Cert.MmOutReferenceIdeal.main_arg0) = m' ((c.tc : Thread Cert.MmOutReferenceIdeal.nD Cert.MmOutReferenceIdeal.τ).loc Cert.MmOutReferenceIdeal.main_arg0)
          ∧ r.2.mem ((c.tc : Thread Cert.MmOutReferenceIdeal.nD Cert.MmOutReferenceIdeal.τ).loc Cert.MmOutReferenceIdeal.main_arg1) = m' ((c.tc : Thread Cert.MmOutReferenceIdeal.nD Cert.MmOutReferenceIdeal.τ).loc Cert.MmOutReferenceIdeal.main_arg1))

def preserves_NtOut_NtOutIdeal : Prop :=
  True

def algebraic_NtOutIdeal_NtOutReferenceIdeal [hNtOutIdeal : Cert.NtOutIdeal.Facts] [hNtOutReferenceIdeal : Cert.NtOutReferenceIdeal.Facts] : Prop :=
  ∀ (m : (ℓ : Loc Cert.NtOutIdeal.nD Cert.NtOutIdeal.τ Cert.NtOutIdeal.sig) → Buf (Elt Ideal) ℓ) (g : Dev Cert.NtOutIdeal.nD → PrngReg)
    (m' : (ℓ : Loc Cert.NtOutReferenceIdeal.nD Cert.NtOutReferenceIdeal.τ Cert.NtOutReferenceIdeal.sig) → Buf (Elt Ideal) ℓ) (g' : Dev Cert.NtOutReferenceIdeal.nD → PrngReg), Pre_NtOutIdeal m →
    (∀ c : Dev Cert.NtOutIdeal.nD,
      m' ((c.tc : Thread Cert.NtOutReferenceIdeal.nD Cert.NtOutReferenceIdeal.τ).loc Cert.NtOutReferenceIdeal.main_arg0) = m ((c.tc : Thread Cert.NtOutIdeal.nD Cert.NtOutIdeal.τ).loc Cert.NtOutIdeal.main_arg0)
      ∧ m' ((c.tc : Thread Cert.NtOutReferenceIdeal.nD Cert.NtOutReferenceIdeal.τ).loc Cert.NtOutReferenceIdeal.main_arg1) = m ((c.tc : Thread Cert.NtOutIdeal.nD Cert.NtOutIdeal.τ).loc Cert.NtOutIdeal.main_arg1)) →
    ∃ (v0 : (c : Dev Cert.NtOutIdeal.nD) → Buf (Elt Ideal) ((c.tc : Thread Cert.NtOutIdeal.nD Cert.NtOutIdeal.τ).loc Cert.NtOutIdeal.main_v1)),
      θ_run (Cert.NtOutIdeal.defs (F := Ideal)) (onTc (τ := Cert.NtOutIdeal.τ) (Cert.NtOutIdeal.main (F := Ideal))) ⟨m, fun _ => 0, g⟩ (fun r => ∀ c : Dev Cert.NtOutIdeal.nD,
          r.2.mem ((c.tc : Thread Cert.NtOutIdeal.nD Cert.NtOutIdeal.τ).loc Cert.NtOutIdeal.main_v1) = v0 c
          ∧ r.2.mem ((c.tc : Thread Cert.NtOutIdeal.nD Cert.NtOutIdeal.τ).loc Cert.NtOutIdeal.main_arg0) = m ((c.tc : Thread Cert.NtOutIdeal.nD Cert.NtOutIdeal.τ).loc Cert.NtOutIdeal.main_arg0)
          ∧ r.2.mem ((c.tc : Thread Cert.NtOutIdeal.nD Cert.NtOutIdeal.τ).loc Cert.NtOutIdeal.main_arg1) = m ((c.tc : Thread Cert.NtOutIdeal.nD Cert.NtOutIdeal.τ).loc Cert.NtOutIdeal.main_arg1))
      ∧ θ_run (Cert.NtOutReferenceIdeal.defs (F := Ideal)) (onTc (τ := Cert.NtOutReferenceIdeal.τ) (Cert.NtOutReferenceIdeal.main (F := Ideal))) ⟨m', fun _ => 0, g'⟩ (fun r => ∀ c : Dev Cert.NtOutReferenceIdeal.nD,
          r.2.mem ((c.tc : Thread Cert.NtOutReferenceIdeal.nD Cert.NtOutReferenceIdeal.τ).loc Cert.NtOutReferenceIdeal.main_v5) = v0 c
          ∧ r.2.mem ((c.tc : Thread Cert.NtOutReferenceIdeal.nD Cert.NtOutReferenceIdeal.τ).loc Cert.NtOutReferenceIdeal.main_arg0) = m' ((c.tc : Thread Cert.NtOutReferenceIdeal.nD Cert.NtOutReferenceIdeal.τ).loc Cert.NtOutReferenceIdeal.main_arg0)
          ∧ r.2.mem ((c.tc : Thread Cert.NtOutReferenceIdeal.nD Cert.NtOutReferenceIdeal.τ).loc Cert.NtOutReferenceIdeal.main_arg1) = m' ((c.tc : Thread Cert.NtOutReferenceIdeal.nD Cert.NtOutReferenceIdeal.τ).loc Cert.NtOutReferenceIdeal.main_arg1))

def preserves_TnOut_TnOutIdeal : Prop :=
  True

def algebraic_TnOutIdeal_TnOutReferenceIdeal [hTnOutIdeal : Cert.TnOutIdeal.Facts] [hTnOutReferenceIdeal : Cert.TnOutReferenceIdeal.Facts] : Prop :=
  ∀ (m : (ℓ : Loc Cert.TnOutIdeal.nD Cert.TnOutIdeal.τ Cert.TnOutIdeal.sig) → Buf (Elt Ideal) ℓ) (g : Dev Cert.TnOutIdeal.nD → PrngReg)
    (m' : (ℓ : Loc Cert.TnOutReferenceIdeal.nD Cert.TnOutReferenceIdeal.τ Cert.TnOutReferenceIdeal.sig) → Buf (Elt Ideal) ℓ) (g' : Dev Cert.TnOutReferenceIdeal.nD → PrngReg), Pre_TnOutIdeal m →
    (∀ c : Dev Cert.TnOutIdeal.nD,
      m' ((c.tc : Thread Cert.TnOutReferenceIdeal.nD Cert.TnOutReferenceIdeal.τ).loc Cert.TnOutReferenceIdeal.main_arg0) = m ((c.tc : Thread Cert.TnOutIdeal.nD Cert.TnOutIdeal.τ).loc Cert.TnOutIdeal.main_arg0)
      ∧ m' ((c.tc : Thread Cert.TnOutReferenceIdeal.nD Cert.TnOutReferenceIdeal.τ).loc Cert.TnOutReferenceIdeal.main_arg1) = m ((c.tc : Thread Cert.TnOutIdeal.nD Cert.TnOutIdeal.τ).loc Cert.TnOutIdeal.main_arg1)) →
    ∃ (v0 : (c : Dev Cert.TnOutIdeal.nD) → Buf (Elt Ideal) ((c.tc : Thread Cert.TnOutIdeal.nD Cert.TnOutIdeal.τ).loc Cert.TnOutIdeal.main_v0)),
      θ_run (Cert.TnOutIdeal.defs (F := Ideal)) (onTc (τ := Cert.TnOutIdeal.τ) (Cert.TnOutIdeal.main (F := Ideal))) ⟨m, fun _ => 0, g⟩ (fun r => ∀ c : Dev Cert.TnOutIdeal.nD,
          r.2.mem ((c.tc : Thread Cert.TnOutIdeal.nD Cert.TnOutIdeal.τ).loc Cert.TnOutIdeal.main_v0) = v0 c
          ∧ r.2.mem ((c.tc : Thread Cert.TnOutIdeal.nD Cert.TnOutIdeal.τ).loc Cert.TnOutIdeal.main_arg0) = m ((c.tc : Thread Cert.TnOutIdeal.nD Cert.TnOutIdeal.τ).loc Cert.TnOutIdeal.main_arg0)
          ∧ r.2.mem ((c.tc : Thread Cert.TnOutIdeal.nD Cert.TnOutIdeal.τ).loc Cert.TnOutIdeal.main_arg1) = m ((c.tc : Thread Cert.TnOutIdeal.nD Cert.TnOutIdeal.τ).loc Cert.TnOutIdeal.main_arg1))
      ∧ θ_run (Cert.TnOutReferenceIdeal.defs (F := Ideal)) (onTc (τ := Cert.TnOutReferenceIdeal.τ) (Cert.TnOutReferenceIdeal.main (F := Ideal))) ⟨m', fun _ => 0, g'⟩ (fun r => ∀ c : Dev Cert.TnOutReferenceIdeal.nD,
          r.2.mem ((c.tc : Thread Cert.TnOutReferenceIdeal.nD Cert.TnOutReferenceIdeal.τ).loc Cert.TnOutReferenceIdeal.main_v8) = v0 c
          ∧ r.2.mem ((c.tc : Thread Cert.TnOutReferenceIdeal.nD Cert.TnOutReferenceIdeal.τ).loc Cert.TnOutReferenceIdeal.main_arg0) = m' ((c.tc : Thread Cert.TnOutReferenceIdeal.nD Cert.TnOutReferenceIdeal.τ).loc Cert.TnOutReferenceIdeal.main_arg0)
          ∧ r.2.mem ((c.tc : Thread Cert.TnOutReferenceIdeal.nD Cert.TnOutReferenceIdeal.τ).loc Cert.TnOutReferenceIdeal.main_arg1) = m' ((c.tc : Thread Cert.TnOutReferenceIdeal.nD Cert.TnOutReferenceIdeal.τ).loc Cert.TnOutReferenceIdeal.main_arg1))

def preserves_MmAttn_MmAttnIdeal : Prop :=
  True

def algebraic_MmAttnIdeal_MmAttnReferenceIdeal [hMmAttnIdeal : Cert.MmAttnIdeal.Facts] [hMmAttnReferenceIdeal : Cert.MmAttnReferenceIdeal.Facts] : Prop :=
  ∀ (m : (ℓ : Loc Cert.MmAttnIdeal.nD Cert.MmAttnIdeal.τ Cert.MmAttnIdeal.sig) → Buf (Elt Ideal) ℓ) (g : Dev Cert.MmAttnIdeal.nD → PrngReg)
    (m' : (ℓ : Loc Cert.MmAttnReferenceIdeal.nD Cert.MmAttnReferenceIdeal.τ Cert.MmAttnReferenceIdeal.sig) → Buf (Elt Ideal) ℓ) (g' : Dev Cert.MmAttnReferenceIdeal.nD → PrngReg), Pre_MmAttnIdeal m →
    (∀ c : Dev Cert.MmAttnIdeal.nD,
      m' ((c.tc : Thread Cert.MmAttnReferenceIdeal.nD Cert.MmAttnReferenceIdeal.τ).loc Cert.MmAttnReferenceIdeal.main_arg0) = m ((c.tc : Thread Cert.MmAttnIdeal.nD Cert.MmAttnIdeal.τ).loc Cert.MmAttnIdeal.main_arg0)
      ∧ m' ((c.tc : Thread Cert.MmAttnReferenceIdeal.nD Cert.MmAttnReferenceIdeal.τ).loc Cert.MmAttnReferenceIdeal.main_arg1) = m ((c.tc : Thread Cert.MmAttnIdeal.nD Cert.MmAttnIdeal.τ).loc Cert.MmAttnIdeal.main_arg1)) →
    ∃ (v0 : (c : Dev Cert.MmAttnIdeal.nD) → Buf (Elt Ideal) ((c.tc : Thread Cert.MmAttnIdeal.nD Cert.MmAttnIdeal.τ).loc Cert.MmAttnIdeal.main_v1)),
      θ_run (Cert.MmAttnIdeal.defs (F := Ideal)) (onTc (τ := Cert.MmAttnIdeal.τ) (Cert.MmAttnIdeal.main (F := Ideal))) ⟨m, fun _ => 0, g⟩ (fun r => ∀ c : Dev Cert.MmAttnIdeal.nD,
          r.2.mem ((c.tc : Thread Cert.MmAttnIdeal.nD Cert.MmAttnIdeal.τ).loc Cert.MmAttnIdeal.main_v1) = v0 c
          ∧ r.2.mem ((c.tc : Thread Cert.MmAttnIdeal.nD Cert.MmAttnIdeal.τ).loc Cert.MmAttnIdeal.main_arg0) = m ((c.tc : Thread Cert.MmAttnIdeal.nD Cert.MmAttnIdeal.τ).loc Cert.MmAttnIdeal.main_arg0)
          ∧ r.2.mem ((c.tc : Thread Cert.MmAttnIdeal.nD Cert.MmAttnIdeal.τ).loc Cert.MmAttnIdeal.main_arg1) = m ((c.tc : Thread Cert.MmAttnIdeal.nD Cert.MmAttnIdeal.τ).loc Cert.MmAttnIdeal.main_arg1))
      ∧ θ_run (Cert.MmAttnReferenceIdeal.defs (F := Ideal)) (onTc (τ := Cert.MmAttnReferenceIdeal.τ) (Cert.MmAttnReferenceIdeal.main (F := Ideal))) ⟨m', fun _ => 0, g'⟩ (fun r => ∀ c : Dev Cert.MmAttnReferenceIdeal.nD,
          r.2.mem ((c.tc : Thread Cert.MmAttnReferenceIdeal.nD Cert.MmAttnReferenceIdeal.τ).loc Cert.MmAttnReferenceIdeal.main_v5) = v0 c
          ∧ r.2.mem ((c.tc : Thread Cert.MmAttnReferenceIdeal.nD Cert.MmAttnReferenceIdeal.τ).loc Cert.MmAttnReferenceIdeal.main_arg0) = m' ((c.tc : Thread Cert.MmAttnReferenceIdeal.nD Cert.MmAttnReferenceIdeal.τ).loc Cert.MmAttnReferenceIdeal.main_arg0)
          ∧ r.2.mem ((c.tc : Thread Cert.MmAttnReferenceIdeal.nD Cert.MmAttnReferenceIdeal.τ).loc Cert.MmAttnReferenceIdeal.main_arg1) = m' ((c.tc : Thread Cert.MmAttnReferenceIdeal.nD Cert.MmAttnReferenceIdeal.τ).loc Cert.MmAttnReferenceIdeal.main_arg1))

def preserves_NtAttn_NtAttnIdeal : Prop :=
  True

def algebraic_NtAttnIdeal_NtAttnReferenceIdeal [hNtAttnIdeal : Cert.NtAttnIdeal.Facts] [hNtAttnReferenceIdeal : Cert.NtAttnReferenceIdeal.Facts] : Prop :=
  ∀ (m : (ℓ : Loc Cert.NtAttnIdeal.nD Cert.NtAttnIdeal.τ Cert.NtAttnIdeal.sig) → Buf (Elt Ideal) ℓ) (g : Dev Cert.NtAttnIdeal.nD → PrngReg)
    (m' : (ℓ : Loc Cert.NtAttnReferenceIdeal.nD Cert.NtAttnReferenceIdeal.τ Cert.NtAttnReferenceIdeal.sig) → Buf (Elt Ideal) ℓ) (g' : Dev Cert.NtAttnReferenceIdeal.nD → PrngReg), Pre_NtAttnIdeal m →
    (∀ c : Dev Cert.NtAttnIdeal.nD,
      m' ((c.tc : Thread Cert.NtAttnReferenceIdeal.nD Cert.NtAttnReferenceIdeal.τ).loc Cert.NtAttnReferenceIdeal.main_arg0) = m ((c.tc : Thread Cert.NtAttnIdeal.nD Cert.NtAttnIdeal.τ).loc Cert.NtAttnIdeal.main_arg0)
      ∧ m' ((c.tc : Thread Cert.NtAttnReferenceIdeal.nD Cert.NtAttnReferenceIdeal.τ).loc Cert.NtAttnReferenceIdeal.main_arg1) = m ((c.tc : Thread Cert.NtAttnIdeal.nD Cert.NtAttnIdeal.τ).loc Cert.NtAttnIdeal.main_arg1)) →
    ∃ (v0 : (c : Dev Cert.NtAttnIdeal.nD) → Buf (Elt Ideal) ((c.tc : Thread Cert.NtAttnIdeal.nD Cert.NtAttnIdeal.τ).loc Cert.NtAttnIdeal.main_v1)),
      θ_run (Cert.NtAttnIdeal.defs (F := Ideal)) (onTc (τ := Cert.NtAttnIdeal.τ) (Cert.NtAttnIdeal.main (F := Ideal))) ⟨m, fun _ => 0, g⟩ (fun r => ∀ c : Dev Cert.NtAttnIdeal.nD,
          r.2.mem ((c.tc : Thread Cert.NtAttnIdeal.nD Cert.NtAttnIdeal.τ).loc Cert.NtAttnIdeal.main_v1) = v0 c
          ∧ r.2.mem ((c.tc : Thread Cert.NtAttnIdeal.nD Cert.NtAttnIdeal.τ).loc Cert.NtAttnIdeal.main_arg0) = m ((c.tc : Thread Cert.NtAttnIdeal.nD Cert.NtAttnIdeal.τ).loc Cert.NtAttnIdeal.main_arg0)
          ∧ r.2.mem ((c.tc : Thread Cert.NtAttnIdeal.nD Cert.NtAttnIdeal.τ).loc Cert.NtAttnIdeal.main_arg1) = m ((c.tc : Thread Cert.NtAttnIdeal.nD Cert.NtAttnIdeal.τ).loc Cert.NtAttnIdeal.main_arg1))
      ∧ θ_run (Cert.NtAttnReferenceIdeal.defs (F := Ideal)) (onTc (τ := Cert.NtAttnReferenceIdeal.τ) (Cert.NtAttnReferenceIdeal.main (F := Ideal))) ⟨m', fun _ => 0, g'⟩ (fun r => ∀ c : Dev Cert.NtAttnReferenceIdeal.nD,
          r.2.mem ((c.tc : Thread Cert.NtAttnReferenceIdeal.nD Cert.NtAttnReferenceIdeal.τ).loc Cert.NtAttnReferenceIdeal.main_v7) = v0 c
          ∧ r.2.mem ((c.tc : Thread Cert.NtAttnReferenceIdeal.nD Cert.NtAttnReferenceIdeal.τ).loc Cert.NtAttnReferenceIdeal.main_arg0) = m' ((c.tc : Thread Cert.NtAttnReferenceIdeal.nD Cert.NtAttnReferenceIdeal.τ).loc Cert.NtAttnReferenceIdeal.main_arg0)
          ∧ r.2.mem ((c.tc : Thread Cert.NtAttnReferenceIdeal.nD Cert.NtAttnReferenceIdeal.τ).loc Cert.NtAttnReferenceIdeal.main_arg1) = m' ((c.tc : Thread Cert.NtAttnReferenceIdeal.nD Cert.NtAttnReferenceIdeal.τ).loc Cert.NtAttnReferenceIdeal.main_arg1))

def preserves_TnAttn_TnAttnIdeal : Prop :=
  True

def algebraic_TnAttnIdeal_TnAttnReferenceIdeal [hTnAttnIdeal : Cert.TnAttnIdeal.Facts] [hTnAttnReferenceIdeal : Cert.TnAttnReferenceIdeal.Facts] : Prop :=
  ∀ (m : (ℓ : Loc Cert.TnAttnIdeal.nD Cert.TnAttnIdeal.τ Cert.TnAttnIdeal.sig) → Buf (Elt Ideal) ℓ) (g : Dev Cert.TnAttnIdeal.nD → PrngReg)
    (m' : (ℓ : Loc Cert.TnAttnReferenceIdeal.nD Cert.TnAttnReferenceIdeal.τ Cert.TnAttnReferenceIdeal.sig) → Buf (Elt Ideal) ℓ) (g' : Dev Cert.TnAttnReferenceIdeal.nD → PrngReg), Pre_TnAttnIdeal m →
    (∀ c : Dev Cert.TnAttnIdeal.nD,
      m' ((c.tc : Thread Cert.TnAttnReferenceIdeal.nD Cert.TnAttnReferenceIdeal.τ).loc Cert.TnAttnReferenceIdeal.main_arg0) = m ((c.tc : Thread Cert.TnAttnIdeal.nD Cert.TnAttnIdeal.τ).loc Cert.TnAttnIdeal.main_arg0)
      ∧ m' ((c.tc : Thread Cert.TnAttnReferenceIdeal.nD Cert.TnAttnReferenceIdeal.τ).loc Cert.TnAttnReferenceIdeal.main_arg1) = m ((c.tc : Thread Cert.TnAttnIdeal.nD Cert.TnAttnIdeal.τ).loc Cert.TnAttnIdeal.main_arg1)) →
    ∃ (v0 : (c : Dev Cert.TnAttnIdeal.nD) → Buf (Elt Ideal) ((c.tc : Thread Cert.TnAttnIdeal.nD Cert.TnAttnIdeal.τ).loc Cert.TnAttnIdeal.main_v0)),
      θ_run (Cert.TnAttnIdeal.defs (F := Ideal)) (onTc (τ := Cert.TnAttnIdeal.τ) (Cert.TnAttnIdeal.main (F := Ideal))) ⟨m, fun _ => 0, g⟩ (fun r => ∀ c : Dev Cert.TnAttnIdeal.nD,
          r.2.mem ((c.tc : Thread Cert.TnAttnIdeal.nD Cert.TnAttnIdeal.τ).loc Cert.TnAttnIdeal.main_v0) = v0 c
          ∧ r.2.mem ((c.tc : Thread Cert.TnAttnIdeal.nD Cert.TnAttnIdeal.τ).loc Cert.TnAttnIdeal.main_arg0) = m ((c.tc : Thread Cert.TnAttnIdeal.nD Cert.TnAttnIdeal.τ).loc Cert.TnAttnIdeal.main_arg0)
          ∧ r.2.mem ((c.tc : Thread Cert.TnAttnIdeal.nD Cert.TnAttnIdeal.τ).loc Cert.TnAttnIdeal.main_arg1) = m ((c.tc : Thread Cert.TnAttnIdeal.nD Cert.TnAttnIdeal.τ).loc Cert.TnAttnIdeal.main_arg1))
      ∧ θ_run (Cert.TnAttnReferenceIdeal.defs (F := Ideal)) (onTc (τ := Cert.TnAttnReferenceIdeal.τ) (Cert.TnAttnReferenceIdeal.main (F := Ideal))) ⟨m', fun _ => 0, g'⟩ (fun r => ∀ c : Dev Cert.TnAttnReferenceIdeal.nD,
          r.2.mem ((c.tc : Thread Cert.TnAttnReferenceIdeal.nD Cert.TnAttnReferenceIdeal.τ).loc Cert.TnAttnReferenceIdeal.main_v10) = v0 c
          ∧ r.2.mem ((c.tc : Thread Cert.TnAttnReferenceIdeal.nD Cert.TnAttnReferenceIdeal.τ).loc Cert.TnAttnReferenceIdeal.main_arg0) = m' ((c.tc : Thread Cert.TnAttnReferenceIdeal.nD Cert.TnAttnReferenceIdeal.τ).loc Cert.TnAttnReferenceIdeal.main_arg0)
          ∧ r.2.mem ((c.tc : Thread Cert.TnAttnReferenceIdeal.nD Cert.TnAttnReferenceIdeal.τ).loc Cert.TnAttnReferenceIdeal.main_arg1) = m' ((c.tc : Thread Cert.TnAttnReferenceIdeal.nD Cert.TnAttnReferenceIdeal.τ).loc Cert.TnAttnReferenceIdeal.main_arg1))

def preserves_MmBranch_MmBranchIdeal : Prop :=
  True

def algebraic_MmBranchIdeal_MmBranchReferenceIdeal [hMmBranchIdeal : Cert.MmBranchIdeal.Facts] [hMmBranchReferenceIdeal : Cert.MmBranchReferenceIdeal.Facts] : Prop :=
  ∀ (m : (ℓ : Loc Cert.MmBranchIdeal.nD Cert.MmBranchIdeal.τ Cert.MmBranchIdeal.sig) → Buf (Elt Ideal) ℓ) (g : Dev Cert.MmBranchIdeal.nD → PrngReg)
    (m' : (ℓ : Loc Cert.MmBranchReferenceIdeal.nD Cert.MmBranchReferenceIdeal.τ Cert.MmBranchReferenceIdeal.sig) → Buf (Elt Ideal) ℓ) (g' : Dev Cert.MmBranchReferenceIdeal.nD → PrngReg), Pre_MmBranchIdeal m →
    (∀ c : Dev Cert.MmBranchIdeal.nD,
      m' ((c.tc : Thread Cert.MmBranchReferenceIdeal.nD Cert.MmBranchReferenceIdeal.τ).loc Cert.MmBranchReferenceIdeal.main_arg0) = m ((c.tc : Thread Cert.MmBranchIdeal.nD Cert.MmBranchIdeal.τ).loc Cert.MmBranchIdeal.main_arg0)
      ∧ m' ((c.tc : Thread Cert.MmBranchReferenceIdeal.nD Cert.MmBranchReferenceIdeal.τ).loc Cert.MmBranchReferenceIdeal.main_arg1) = m ((c.tc : Thread Cert.MmBranchIdeal.nD Cert.MmBranchIdeal.τ).loc Cert.MmBranchIdeal.main_arg1)) →
    ∃ (v0 : (c : Dev Cert.MmBranchIdeal.nD) → Buf (Elt Ideal) ((c.tc : Thread Cert.MmBranchIdeal.nD Cert.MmBranchIdeal.τ).loc Cert.MmBranchIdeal.main_v1)),
      θ_run (Cert.MmBranchIdeal.defs (F := Ideal)) (onTc (τ := Cert.MmBranchIdeal.τ) (Cert.MmBranchIdeal.main (F := Ideal))) ⟨m, fun _ => 0, g⟩ (fun r => ∀ c : Dev Cert.MmBranchIdeal.nD,
          r.2.mem ((c.tc : Thread Cert.MmBranchIdeal.nD Cert.MmBranchIdeal.τ).loc Cert.MmBranchIdeal.main_v1) = v0 c
          ∧ r.2.mem ((c.tc : Thread Cert.MmBranchIdeal.nD Cert.MmBranchIdeal.τ).loc Cert.MmBranchIdeal.main_arg0) = m ((c.tc : Thread Cert.MmBranchIdeal.nD Cert.MmBranchIdeal.τ).loc Cert.MmBranchIdeal.main_arg0)
          ∧ r.2.mem ((c.tc : Thread Cert.MmBranchIdeal.nD Cert.MmBranchIdeal.τ).loc Cert.MmBranchIdeal.main_arg1) = m ((c.tc : Thread Cert.MmBranchIdeal.nD Cert.MmBranchIdeal.τ).loc Cert.MmBranchIdeal.main_arg1))
      ∧ θ_run (Cert.MmBranchReferenceIdeal.defs (F := Ideal)) (onTc (τ := Cert.MmBranchReferenceIdeal.τ) (Cert.MmBranchReferenceIdeal.main (F := Ideal))) ⟨m', fun _ => 0, g'⟩ (fun r => ∀ c : Dev Cert.MmBranchReferenceIdeal.nD,
          r.2.mem ((c.tc : Thread Cert.MmBranchReferenceIdeal.nD Cert.MmBranchReferenceIdeal.τ).loc Cert.MmBranchReferenceIdeal.main_v5) = v0 c
          ∧ r.2.mem ((c.tc : Thread Cert.MmBranchReferenceIdeal.nD Cert.MmBranchReferenceIdeal.τ).loc Cert.MmBranchReferenceIdeal.main_arg0) = m' ((c.tc : Thread Cert.MmBranchReferenceIdeal.nD Cert.MmBranchReferenceIdeal.τ).loc Cert.MmBranchReferenceIdeal.main_arg0)
          ∧ r.2.mem ((c.tc : Thread Cert.MmBranchReferenceIdeal.nD Cert.MmBranchReferenceIdeal.τ).loc Cert.MmBranchReferenceIdeal.main_arg1) = m' ((c.tc : Thread Cert.MmBranchReferenceIdeal.nD Cert.MmBranchReferenceIdeal.τ).loc Cert.MmBranchReferenceIdeal.main_arg1))

def preserves_NtBranch_NtBranchIdeal : Prop :=
  True

def algebraic_NtBranchIdeal_NtBranchReferenceIdeal [hNtBranchIdeal : Cert.NtBranchIdeal.Facts] [hNtBranchReferenceIdeal : Cert.NtBranchReferenceIdeal.Facts] : Prop :=
  ∀ (m : (ℓ : Loc Cert.NtBranchIdeal.nD Cert.NtBranchIdeal.τ Cert.NtBranchIdeal.sig) → Buf (Elt Ideal) ℓ) (g : Dev Cert.NtBranchIdeal.nD → PrngReg)
    (m' : (ℓ : Loc Cert.NtBranchReferenceIdeal.nD Cert.NtBranchReferenceIdeal.τ Cert.NtBranchReferenceIdeal.sig) → Buf (Elt Ideal) ℓ) (g' : Dev Cert.NtBranchReferenceIdeal.nD → PrngReg), Pre_NtBranchIdeal m →
    (∀ c : Dev Cert.NtBranchIdeal.nD,
      m' ((c.tc : Thread Cert.NtBranchReferenceIdeal.nD Cert.NtBranchReferenceIdeal.τ).loc Cert.NtBranchReferenceIdeal.main_arg0) = m ((c.tc : Thread Cert.NtBranchIdeal.nD Cert.NtBranchIdeal.τ).loc Cert.NtBranchIdeal.main_arg0)
      ∧ m' ((c.tc : Thread Cert.NtBranchReferenceIdeal.nD Cert.NtBranchReferenceIdeal.τ).loc Cert.NtBranchReferenceIdeal.main_arg1) = m ((c.tc : Thread Cert.NtBranchIdeal.nD Cert.NtBranchIdeal.τ).loc Cert.NtBranchIdeal.main_arg1)) →
    ∃ (v0 : (c : Dev Cert.NtBranchIdeal.nD) → Buf (Elt Ideal) ((c.tc : Thread Cert.NtBranchIdeal.nD Cert.NtBranchIdeal.τ).loc Cert.NtBranchIdeal.main_v1)),
      θ_run (Cert.NtBranchIdeal.defs (F := Ideal)) (onTc (τ := Cert.NtBranchIdeal.τ) (Cert.NtBranchIdeal.main (F := Ideal))) ⟨m, fun _ => 0, g⟩ (fun r => ∀ c : Dev Cert.NtBranchIdeal.nD,
          r.2.mem ((c.tc : Thread Cert.NtBranchIdeal.nD Cert.NtBranchIdeal.τ).loc Cert.NtBranchIdeal.main_v1) = v0 c
          ∧ r.2.mem ((c.tc : Thread Cert.NtBranchIdeal.nD Cert.NtBranchIdeal.τ).loc Cert.NtBranchIdeal.main_arg0) = m ((c.tc : Thread Cert.NtBranchIdeal.nD Cert.NtBranchIdeal.τ).loc Cert.NtBranchIdeal.main_arg0)
          ∧ r.2.mem ((c.tc : Thread Cert.NtBranchIdeal.nD Cert.NtBranchIdeal.τ).loc Cert.NtBranchIdeal.main_arg1) = m ((c.tc : Thread Cert.NtBranchIdeal.nD Cert.NtBranchIdeal.τ).loc Cert.NtBranchIdeal.main_arg1))
      ∧ θ_run (Cert.NtBranchReferenceIdeal.defs (F := Ideal)) (onTc (τ := Cert.NtBranchReferenceIdeal.τ) (Cert.NtBranchReferenceIdeal.main (F := Ideal))) ⟨m', fun _ => 0, g'⟩ (fun r => ∀ c : Dev Cert.NtBranchReferenceIdeal.nD,
          r.2.mem ((c.tc : Thread Cert.NtBranchReferenceIdeal.nD Cert.NtBranchReferenceIdeal.τ).loc Cert.NtBranchReferenceIdeal.main_v6) = v0 c
          ∧ r.2.mem ((c.tc : Thread Cert.NtBranchReferenceIdeal.nD Cert.NtBranchReferenceIdeal.τ).loc Cert.NtBranchReferenceIdeal.main_arg0) = m' ((c.tc : Thread Cert.NtBranchReferenceIdeal.nD Cert.NtBranchReferenceIdeal.τ).loc Cert.NtBranchReferenceIdeal.main_arg0)
          ∧ r.2.mem ((c.tc : Thread Cert.NtBranchReferenceIdeal.nD Cert.NtBranchReferenceIdeal.τ).loc Cert.NtBranchReferenceIdeal.main_arg1) = m' ((c.tc : Thread Cert.NtBranchReferenceIdeal.nD Cert.NtBranchReferenceIdeal.τ).loc Cert.NtBranchReferenceIdeal.main_arg1))

def preserves_TnBranch_TnBranchIdeal : Prop :=
  True

def algebraic_TnBranchIdeal_TnBranchReferenceIdeal [hTnBranchIdeal : Cert.TnBranchIdeal.Facts] [hTnBranchReferenceIdeal : Cert.TnBranchReferenceIdeal.Facts] : Prop :=
  ∀ (m : (ℓ : Loc Cert.TnBranchIdeal.nD Cert.TnBranchIdeal.τ Cert.TnBranchIdeal.sig) → Buf (Elt Ideal) ℓ) (g : Dev Cert.TnBranchIdeal.nD → PrngReg)
    (m' : (ℓ : Loc Cert.TnBranchReferenceIdeal.nD Cert.TnBranchReferenceIdeal.τ Cert.TnBranchReferenceIdeal.sig) → Buf (Elt Ideal) ℓ) (g' : Dev Cert.TnBranchReferenceIdeal.nD → PrngReg), Pre_TnBranchIdeal m →
    (∀ c : Dev Cert.TnBranchIdeal.nD,
      m' ((c.tc : Thread Cert.TnBranchReferenceIdeal.nD Cert.TnBranchReferenceIdeal.τ).loc Cert.TnBranchReferenceIdeal.main_arg0) = m ((c.tc : Thread Cert.TnBranchIdeal.nD Cert.TnBranchIdeal.τ).loc Cert.TnBranchIdeal.main_arg0)
      ∧ m' ((c.tc : Thread Cert.TnBranchReferenceIdeal.nD Cert.TnBranchReferenceIdeal.τ).loc Cert.TnBranchReferenceIdeal.main_arg1) = m ((c.tc : Thread Cert.TnBranchIdeal.nD Cert.TnBranchIdeal.τ).loc Cert.TnBranchIdeal.main_arg1)) →
    ∃ (v0 : (c : Dev Cert.TnBranchIdeal.nD) → Buf (Elt Ideal) ((c.tc : Thread Cert.TnBranchIdeal.nD Cert.TnBranchIdeal.τ).loc Cert.TnBranchIdeal.main_v0)),
      θ_run (Cert.TnBranchIdeal.defs (F := Ideal)) (onTc (τ := Cert.TnBranchIdeal.τ) (Cert.TnBranchIdeal.main (F := Ideal))) ⟨m, fun _ => 0, g⟩ (fun r => ∀ c : Dev Cert.TnBranchIdeal.nD,
          r.2.mem ((c.tc : Thread Cert.TnBranchIdeal.nD Cert.TnBranchIdeal.τ).loc Cert.TnBranchIdeal.main_v0) = v0 c
          ∧ r.2.mem ((c.tc : Thread Cert.TnBranchIdeal.nD Cert.TnBranchIdeal.τ).loc Cert.TnBranchIdeal.main_arg0) = m ((c.tc : Thread Cert.TnBranchIdeal.nD Cert.TnBranchIdeal.τ).loc Cert.TnBranchIdeal.main_arg0)
          ∧ r.2.mem ((c.tc : Thread Cert.TnBranchIdeal.nD Cert.TnBranchIdeal.τ).loc Cert.TnBranchIdeal.main_arg1) = m ((c.tc : Thread Cert.TnBranchIdeal.nD Cert.TnBranchIdeal.τ).loc Cert.TnBranchIdeal.main_arg1))
      ∧ θ_run (Cert.TnBranchReferenceIdeal.defs (F := Ideal)) (onTc (τ := Cert.TnBranchReferenceIdeal.τ) (Cert.TnBranchReferenceIdeal.main (F := Ideal))) ⟨m', fun _ => 0, g'⟩ (fun r => ∀ c : Dev Cert.TnBranchReferenceIdeal.nD,
          r.2.mem ((c.tc : Thread Cert.TnBranchReferenceIdeal.nD Cert.TnBranchReferenceIdeal.τ).loc Cert.TnBranchReferenceIdeal.main_v10) = v0 c
          ∧ r.2.mem ((c.tc : Thread Cert.TnBranchReferenceIdeal.nD Cert.TnBranchReferenceIdeal.τ).loc Cert.TnBranchReferenceIdeal.main_arg0) = m' ((c.tc : Thread Cert.TnBranchReferenceIdeal.nD Cert.TnBranchReferenceIdeal.τ).loc Cert.TnBranchReferenceIdeal.main_arg0)
          ∧ r.2.mem ((c.tc : Thread Cert.TnBranchReferenceIdeal.nD Cert.TnBranchReferenceIdeal.τ).loc Cert.TnBranchReferenceIdeal.main_arg1) = m' ((c.tc : Thread Cert.TnBranchReferenceIdeal.nD Cert.TnBranchReferenceIdeal.τ).loc Cert.TnBranchReferenceIdeal.main_arg1))

def preserves_AdaFwd_AdaFwdIdeal : Prop :=
  True

def algebraic_AdaFwdIdeal_AdaFwdReferenceIdeal [hAdaFwdIdeal : Cert.AdaFwdIdeal.Facts] [hAdaFwdReferenceIdeal : Cert.AdaFwdReferenceIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdReferenceIdeal.nD Cert.AdaFwdReferenceIdeal.τ Cert.AdaFwdReferenceIdeal.sig) → Buf (Elt Ideal) ℓ) (g' : Dev Cert.AdaFwdReferenceIdeal.nD → PrngReg), Pre_AdaFwdIdeal m →
    (∀ c : Dev Cert.AdaFwdIdeal.nD,
      m' ((c.tc : Thread Cert.AdaFwdReferenceIdeal.nD Cert.AdaFwdReferenceIdeal.τ).loc Cert.AdaFwdReferenceIdeal.main_arg0) = m ((c.tc : Thread Cert.AdaFwdIdeal.nD Cert.AdaFwdIdeal.τ).loc Cert.AdaFwdIdeal.main_arg0)
      ∧ m' ((c.tc : Thread Cert.AdaFwdReferenceIdeal.nD Cert.AdaFwdReferenceIdeal.τ).loc Cert.AdaFwdReferenceIdeal.main_arg1) = m ((c.tc : Thread Cert.AdaFwdIdeal.nD Cert.AdaFwdIdeal.τ).loc Cert.AdaFwdIdeal.main_arg1)
      ∧ m' ((c.tc : Thread Cert.AdaFwdReferenceIdeal.nD Cert.AdaFwdReferenceIdeal.τ).loc Cert.AdaFwdReferenceIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v1)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v1) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdReferenceIdeal.defs (F := Ideal)) (onTc (τ := Cert.AdaFwdReferenceIdeal.τ) (Cert.AdaFwdReferenceIdeal.main (F := Ideal))) ⟨m', fun _ => 0, g'⟩ (fun r => ∀ c : Dev Cert.AdaFwdReferenceIdeal.nD,
          r.2.mem ((c.tc : Thread Cert.AdaFwdReferenceIdeal.nD Cert.AdaFwdReferenceIdeal.τ).loc Cert.AdaFwdReferenceIdeal.main_v20) = v0 c
          ∧ r.2.mem ((c.tc : Thread Cert.AdaFwdReferenceIdeal.nD Cert.AdaFwdReferenceIdeal.τ).loc Cert.AdaFwdReferenceIdeal.main_arg0) = m' ((c.tc : Thread Cert.AdaFwdReferenceIdeal.nD Cert.AdaFwdReferenceIdeal.τ).loc Cert.AdaFwdReferenceIdeal.main_arg0)
          ∧ r.2.mem ((c.tc : Thread Cert.AdaFwdReferenceIdeal.nD Cert.AdaFwdReferenceIdeal.τ).loc Cert.AdaFwdReferenceIdeal.main_arg1) = m' ((c.tc : Thread Cert.AdaFwdReferenceIdeal.nD Cert.AdaFwdReferenceIdeal.τ).loc Cert.AdaFwdReferenceIdeal.main_arg1)
          ∧ r.2.mem ((c.tc : Thread Cert.AdaFwdReferenceIdeal.nD Cert.AdaFwdReferenceIdeal.τ).loc Cert.AdaFwdReferenceIdeal.main_arg2) = m' ((c.tc : Thread Cert.AdaFwdReferenceIdeal.nD Cert.AdaFwdReferenceIdeal.τ).loc Cert.AdaFwdReferenceIdeal.main_arg2))

def preserves_AdaBwd_AdaBwdIdeal : Prop :=
  True

def algebraic_AdaBwdIdeal_AdaBwdReferenceIdeal [hAdaBwdIdeal : Cert.AdaBwdIdeal.Facts] [hAdaBwdReferenceIdeal : Cert.AdaBwdReferenceIdeal.Facts] : Prop :=
  ∀ (m : (ℓ : Loc Cert.AdaBwdIdeal.nD Cert.AdaBwdIdeal.τ Cert.AdaBwdIdeal.sig) → Buf (Elt Ideal) ℓ) (g : Dev Cert.AdaBwdIdeal.nD → PrngReg)
    (m' : (ℓ : Loc Cert.AdaBwdReferenceIdeal.nD Cert.AdaBwdReferenceIdeal.τ Cert.AdaBwdReferenceIdeal.sig) → Buf (Elt Ideal) ℓ) (g' : Dev Cert.AdaBwdReferenceIdeal.nD → PrngReg), Pre_AdaBwdIdeal m →
    (∀ c : Dev Cert.AdaBwdIdeal.nD,
      m' ((c.tc : Thread Cert.AdaBwdReferenceIdeal.nD Cert.AdaBwdReferenceIdeal.τ).loc Cert.AdaBwdReferenceIdeal.main_arg0) = m ((c.tc : Thread Cert.AdaBwdIdeal.nD Cert.AdaBwdIdeal.τ).loc Cert.AdaBwdIdeal.main_arg0)
      ∧ m' ((c.tc : Thread Cert.AdaBwdReferenceIdeal.nD Cert.AdaBwdReferenceIdeal.τ).loc Cert.AdaBwdReferenceIdeal.main_arg1) = m ((c.tc : Thread Cert.AdaBwdIdeal.nD Cert.AdaBwdIdeal.τ).loc Cert.AdaBwdIdeal.main_arg1)
      ∧ m' ((c.tc : Thread Cert.AdaBwdReferenceIdeal.nD Cert.AdaBwdReferenceIdeal.τ).loc Cert.AdaBwdReferenceIdeal.main_arg2) = m ((c.tc : Thread Cert.AdaBwdIdeal.nD Cert.AdaBwdIdeal.τ).loc Cert.AdaBwdIdeal.main_arg2)) →
    ∃ (v0 : (c : Dev Cert.AdaBwdIdeal.nD) → Buf (Elt Ideal) ((c.tc : Thread Cert.AdaBwdIdeal.nD Cert.AdaBwdIdeal.τ).loc Cert.AdaBwdIdeal.main_v0_0)) (v1 : (c : Dev Cert.AdaBwdIdeal.nD) → Buf (Elt Ideal) ((c.tc : Thread Cert.AdaBwdIdeal.nD Cert.AdaBwdIdeal.τ).loc Cert.AdaBwdIdeal.main_v0_1)),
      θ_run (Cert.AdaBwdIdeal.defs (F := Ideal)) (onTc (τ := Cert.AdaBwdIdeal.τ) (Cert.AdaBwdIdeal.main (F := Ideal))) ⟨m, fun _ => 0, g⟩ (fun r => ∀ c : Dev Cert.AdaBwdIdeal.nD,
          r.2.mem ((c.tc : Thread Cert.AdaBwdIdeal.nD Cert.AdaBwdIdeal.τ).loc Cert.AdaBwdIdeal.main_v0_0) = v0 c
          ∧ r.2.mem ((c.tc : Thread Cert.AdaBwdIdeal.nD Cert.AdaBwdIdeal.τ).loc Cert.AdaBwdIdeal.main_v0_1) = v1 c
          ∧ r.2.mem ((c.tc : Thread Cert.AdaBwdIdeal.nD Cert.AdaBwdIdeal.τ).loc Cert.AdaBwdIdeal.main_arg0) = m ((c.tc : Thread Cert.AdaBwdIdeal.nD Cert.AdaBwdIdeal.τ).loc Cert.AdaBwdIdeal.main_arg0)
          ∧ r.2.mem ((c.tc : Thread Cert.AdaBwdIdeal.nD Cert.AdaBwdIdeal.τ).loc Cert.AdaBwdIdeal.main_arg1) = m ((c.tc : Thread Cert.AdaBwdIdeal.nD Cert.AdaBwdIdeal.τ).loc Cert.AdaBwdIdeal.main_arg1)
          ∧ r.2.mem ((c.tc : Thread Cert.AdaBwdIdeal.nD Cert.AdaBwdIdeal.τ).loc Cert.AdaBwdIdeal.main_arg2) = m ((c.tc : Thread Cert.AdaBwdIdeal.nD Cert.AdaBwdIdeal.τ).loc Cert.AdaBwdIdeal.main_arg2))
      ∧ θ_run (Cert.AdaBwdReferenceIdeal.defs (F := Ideal)) (onTc (τ := Cert.AdaBwdReferenceIdeal.τ) (Cert.AdaBwdReferenceIdeal.main (F := Ideal))) ⟨m', fun _ => 0, g'⟩ (fun r => ∀ c : Dev Cert.AdaBwdReferenceIdeal.nD,
          r.2.mem ((c.tc : Thread Cert.AdaBwdReferenceIdeal.nD Cert.AdaBwdReferenceIdeal.τ).loc Cert.AdaBwdReferenceIdeal.main_v25) = v0 c
          ∧ r.2.mem ((c.tc : Thread Cert.AdaBwdReferenceIdeal.nD Cert.AdaBwdReferenceIdeal.τ).loc Cert.AdaBwdReferenceIdeal.main_v22) = v1 c
          ∧ r.2.mem ((c.tc : Thread Cert.AdaBwdReferenceIdeal.nD Cert.AdaBwdReferenceIdeal.τ).loc Cert.AdaBwdReferenceIdeal.main_arg0) = m' ((c.tc : Thread Cert.AdaBwdReferenceIdeal.nD Cert.AdaBwdReferenceIdeal.τ).loc Cert.AdaBwdReferenceIdeal.main_arg0)
          ∧ r.2.mem ((c.tc : Thread Cert.AdaBwdReferenceIdeal.nD Cert.AdaBwdReferenceIdeal.τ).loc Cert.AdaBwdReferenceIdeal.main_arg1) = m' ((c.tc : Thread Cert.AdaBwdReferenceIdeal.nD Cert.AdaBwdReferenceIdeal.τ).loc Cert.AdaBwdReferenceIdeal.main_arg1)
          ∧ r.2.mem ((c.tc : Thread Cert.AdaBwdReferenceIdeal.nD Cert.AdaBwdReferenceIdeal.τ).loc Cert.AdaBwdReferenceIdeal.main_arg2) = m' ((c.tc : Thread Cert.AdaBwdReferenceIdeal.nD Cert.AdaBwdReferenceIdeal.τ).loc Cert.AdaBwdReferenceIdeal.main_arg2))

def preserves_AdamAda_AdamAdaIdeal : Prop :=
  True

def algebraic_AdamAdaIdeal_AdamAdaReferenceIdeal [hAdamAdaIdeal : Cert.AdamAdaIdeal.Facts] [hAdamAdaReferenceIdeal : Cert.AdamAdaReferenceIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaReferenceIdeal.nD Cert.AdamAdaReferenceIdeal.τ Cert.AdamAdaReferenceIdeal.sig) → Buf (Elt Ideal) ℓ) (g' : Dev Cert.AdamAdaReferenceIdeal.nD → PrngReg), Pre_AdamAdaIdeal m →
    (∀ c : Dev Cert.AdamAdaIdeal.nD,
      m' ((c.tc : Thread Cert.AdamAdaReferenceIdeal.nD Cert.AdamAdaReferenceIdeal.τ).loc Cert.AdamAdaReferenceIdeal.main_arg0) = m ((c.tc : Thread Cert.AdamAdaIdeal.nD Cert.AdamAdaIdeal.τ).loc Cert.AdamAdaIdeal.main_arg0)
      ∧ m' ((c.tc : Thread Cert.AdamAdaReferenceIdeal.nD Cert.AdamAdaReferenceIdeal.τ).loc Cert.AdamAdaReferenceIdeal.main_arg1) = m ((c.tc : Thread Cert.AdamAdaIdeal.nD Cert.AdamAdaIdeal.τ).loc Cert.AdamAdaIdeal.main_arg1)
      ∧ m' ((c.tc : Thread Cert.AdamAdaReferenceIdeal.nD Cert.AdamAdaReferenceIdeal.τ).loc Cert.AdamAdaReferenceIdeal.main_arg2) = m ((c.tc : Thread Cert.AdamAdaIdeal.nD Cert.AdamAdaIdeal.τ).loc Cert.AdamAdaIdeal.main_arg2)
      ∧ m' ((c.tc : Thread Cert.AdamAdaReferenceIdeal.nD Cert.AdamAdaReferenceIdeal.τ).loc Cert.AdamAdaReferenceIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v4_0)) (v1 : (c : Dev Cert.AdamAdaIdeal.nD) → Buf (Elt Ideal) ((c.tc : Thread Cert.AdamAdaIdeal.nD Cert.AdamAdaIdeal.τ).loc Cert.AdamAdaIdeal.main_v4_1)) (v2 : (c : Dev Cert.AdamAdaIdeal.nD) → Buf (Elt Ideal) ((c.tc : Thread Cert.AdamAdaIdeal.nD Cert.AdamAdaIdeal.τ).loc Cert.AdamAdaIdeal.main_v4_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v4_0) = v0 c
          ∧ r.2.mem ((c.tc : Thread Cert.AdamAdaIdeal.nD Cert.AdamAdaIdeal.τ).loc Cert.AdamAdaIdeal.main_v4_1) = v1 c
          ∧ r.2.mem ((c.tc : Thread Cert.AdamAdaIdeal.nD Cert.AdamAdaIdeal.τ).loc Cert.AdamAdaIdeal.main_v4_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaReferenceIdeal.defs (F := Ideal)) (onTc (τ := Cert.AdamAdaReferenceIdeal.τ) (Cert.AdamAdaReferenceIdeal.main (F := Ideal))) ⟨m', fun _ => 0, g'⟩ (fun r => ∀ c : Dev Cert.AdamAdaReferenceIdeal.nD,
          r.2.mem ((c.tc : Thread Cert.AdamAdaReferenceIdeal.nD Cert.AdamAdaReferenceIdeal.τ).loc Cert.AdamAdaReferenceIdeal.main_v24) = v0 c
          ∧ r.2.mem ((c.tc : Thread Cert.AdamAdaReferenceIdeal.nD Cert.AdamAdaReferenceIdeal.τ).loc Cert.AdamAdaReferenceIdeal.main_v25) = v1 c
          ∧ r.2.mem ((c.tc : Thread Cert.AdamAdaReferenceIdeal.nD Cert.AdamAdaReferenceIdeal.τ).loc Cert.AdamAdaReferenceIdeal.main_v26) = v2 c
          ∧ r.2.mem ((c.tc : Thread Cert.AdamAdaReferenceIdeal.nD Cert.AdamAdaReferenceIdeal.τ).loc Cert.AdamAdaReferenceIdeal.main_arg0) = m' ((c.tc : Thread Cert.AdamAdaReferenceIdeal.nD Cert.AdamAdaReferenceIdeal.τ).loc Cert.AdamAdaReferenceIdeal.main_arg0)
          ∧ r.2.mem ((c.tc : Thread Cert.AdamAdaReferenceIdeal.nD Cert.AdamAdaReferenceIdeal.τ).loc Cert.AdamAdaReferenceIdeal.main_arg1) = m' ((c.tc : Thread Cert.AdamAdaReferenceIdeal.nD Cert.AdamAdaReferenceIdeal.τ).loc Cert.AdamAdaReferenceIdeal.main_arg1)
          ∧ r.2.mem ((c.tc : Thread Cert.AdamAdaReferenceIdeal.nD Cert.AdamAdaReferenceIdeal.τ).loc Cert.AdamAdaReferenceIdeal.main_arg2) = m' ((c.tc : Thread Cert.AdamAdaReferenceIdeal.nD Cert.AdamAdaReferenceIdeal.τ).loc Cert.AdamAdaReferenceIdeal.main_arg2)
          ∧ r.2.mem ((c.tc : Thread Cert.AdamAdaReferenceIdeal.nD Cert.AdamAdaReferenceIdeal.τ).loc Cert.AdamAdaReferenceIdeal.main_arg3) = m' ((c.tc : Thread Cert.AdamAdaReferenceIdeal.nD Cert.AdamAdaReferenceIdeal.τ).loc Cert.AdamAdaReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v23) = v0 c
          ∧ r.2.mem ((c.tc : Thread Cert.AdamSmallReferenceIdeal.nD Cert.AdamSmallReferenceIdeal.τ).loc Cert.AdamSmallReferenceIdeal.main_v4) = v1 c
          ∧ r.2.mem ((c.tc : Thread Cert.AdamSmallReferenceIdeal.nD Cert.AdamSmallReferenceIdeal.τ).loc Cert.AdamSmallReferenceIdeal.main_v10) = v2 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)
      ∧ m' ((c.tc : Thread Cert.AdamInReferenceIdeal.nD Cert.AdamInReferenceIdeal.τ).loc Cert.AdamInReferenceIdeal.main_arg5) = m ((c.tc : Thread Cert.AdamInIdeal.nD Cert.AdamInIdeal.τ).loc Cert.AdamInIdeal.main_arg5)
      ∧ m' ((c.tc : Thread Cert.AdamInReferenceIdeal.nD Cert.AdamInReferenceIdeal.τ).loc Cert.AdamInReferenceIdeal.main_arg6) = m ((c.tc : Thread Cert.AdamInIdeal.nD Cert.AdamInIdeal.τ).loc Cert.AdamInIdeal.main_arg6)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5)
          ∧ r.2.mem ((c.tc : Thread Cert.AdamInIdeal.nD Cert.AdamInIdeal.τ).loc Cert.AdamInIdeal.main_arg6) = m ((c.tc : Thread Cert.AdamInIdeal.nD Cert.AdamInIdeal.τ).loc Cert.AdamInIdeal.main_arg6))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v36) = v0 c
          ∧ r.2.mem ((c.tc : Thread Cert.AdamInReferenceIdeal.nD Cert.AdamInReferenceIdeal.τ).loc Cert.AdamInReferenceIdeal.main_v41) = v1 c
          ∧ r.2.mem ((c.tc : Thread Cert.AdamInReferenceIdeal.nD Cert.AdamInReferenceIdeal.τ).loc Cert.AdamInReferenceIdeal.main_v46) = v2 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4)
          ∧ r.2.mem ((c.tc : Thread Cert.AdamInReferenceIdeal.nD Cert.AdamInReferenceIdeal.τ).loc Cert.AdamInReferenceIdeal.main_arg5) = m' ((c.tc : Thread Cert.AdamInReferenceIdeal.nD Cert.AdamInReferenceIdeal.τ).loc Cert.AdamInReferenceIdeal.main_arg5)
          ∧ r.2.mem ((c.tc : Thread Cert.AdamInReferenceIdeal.nD Cert.AdamInReferenceIdeal.τ).loc Cert.AdamInReferenceIdeal.main_arg6) = m' ((c.tc : Thread Cert.AdamInReferenceIdeal.nD Cert.AdamInReferenceIdeal.τ).loc Cert.AdamInReferenceIdeal.main_arg6))

def preserves_CctxGrad_CctxGradIdeal : Prop :=
  True

def algebraic_CctxGradIdeal_CctxGradReferenceIdeal_pre_finite_cctx [hCctxGradIdeal : Cert.CctxGradIdeal.Facts] [hCctxGradReferenceIdeal : Cert.CctxGradReferenceIdeal.Facts] [hPre_finite_cctx : Cert.Pre_finite_cctx.Facts] : Prop :=
  ∀ (m : (ℓ : Loc Cert.CctxGradIdeal.nD Cert.CctxGradIdeal.τ Cert.CctxGradIdeal.sig) → Buf (Elt Ideal) ℓ) (g : Dev Cert.CctxGradIdeal.nD → PrngReg)
    (m' : (ℓ : Loc Cert.CctxGradReferenceIdeal.nD Cert.CctxGradReferenceIdeal.τ Cert.CctxGradReferenceIdeal.sig) → Buf (Elt Ideal) ℓ) (g' : Dev Cert.CctxGradReferenceIdeal.nD → PrngReg), Pre_CctxGradIdeal_finite_cctx m →
    (∀ c : Dev Cert.CctxGradIdeal.nD,
      m' ((c.tc : Thread Cert.CctxGradReferenceIdeal.nD Cert.CctxGradReferenceIdeal.τ).loc Cert.CctxGradReferenceIdeal.main_arg0) = m ((c.tc : Thread Cert.CctxGradIdeal.nD Cert.CctxGradIdeal.τ).loc Cert.CctxGradIdeal.main_arg0)
      ∧ m' ((c.tc : Thread Cert.CctxGradReferenceIdeal.nD Cert.CctxGradReferenceIdeal.τ).loc Cert.CctxGradReferenceIdeal.main_arg1) = m ((c.tc : Thread Cert.CctxGradIdeal.nD Cert.CctxGradIdeal.τ).loc Cert.CctxGradIdeal.main_arg1)) →
    ∃ (v0 : (c : Dev Cert.CctxGradIdeal.nD) → Buf (Elt Ideal) ((c.tc : Thread Cert.CctxGradIdeal.nD Cert.CctxGradIdeal.τ).loc Cert.CctxGradIdeal.main_v0)),
      θ_run (Cert.CctxGradIdeal.defs (F := Ideal)) (onTc (τ := Cert.CctxGradIdeal.τ) (Cert.CctxGradIdeal.main (F := Ideal))) ⟨m, fun _ => 0, g⟩ (fun r => ∀ c : Dev Cert.CctxGradIdeal.nD,
          r.2.mem ((c.tc : Thread Cert.CctxGradIdeal.nD Cert.CctxGradIdeal.τ).loc Cert.CctxGradIdeal.main_v0) = v0 c
          ∧ r.2.mem ((c.tc : Thread Cert.CctxGradIdeal.nD Cert.CctxGradIdeal.τ).loc Cert.CctxGradIdeal.main_arg0) = m ((c.tc : Thread Cert.CctxGradIdeal.nD Cert.CctxGradIdeal.τ).loc Cert.CctxGradIdeal.main_arg0)
          ∧ r.2.mem ((c.tc : Thread Cert.CctxGradIdeal.nD Cert.CctxGradIdeal.τ).loc Cert.CctxGradIdeal.main_arg1) = m ((c.tc : Thread Cert.CctxGradIdeal.nD Cert.CctxGradIdeal.τ).loc Cert.CctxGradIdeal.main_arg1))
      ∧ θ_run (Cert.CctxGradReferenceIdeal.defs (F := Ideal)) (onTc (τ := Cert.CctxGradReferenceIdeal.τ) (Cert.CctxGradReferenceIdeal.main (F := Ideal))) ⟨m', fun _ => 0, g'⟩ (fun r => ∀ c : Dev Cert.CctxGradReferenceIdeal.nD,
          r.2.mem ((c.tc : Thread Cert.CctxGradReferenceIdeal.nD Cert.CctxGradReferenceIdeal.τ).loc Cert.CctxGradReferenceIdeal.main_v12) = v0 c
          ∧ r.2.mem ((c.tc : Thread Cert.CctxGradReferenceIdeal.nD Cert.CctxGradReferenceIdeal.τ).loc Cert.CctxGradReferenceIdeal.main_arg0) = m' ((c.tc : Thread Cert.CctxGradReferenceIdeal.nD Cert.CctxGradReferenceIdeal.τ).loc Cert.CctxGradReferenceIdeal.main_arg0)
          ∧ r.2.mem ((c.tc : Thread Cert.CctxGradReferenceIdeal.nD Cert.CctxGradReferenceIdeal.τ).loc Cert.CctxGradReferenceIdeal.main_arg1) = m' ((c.tc : Thread Cert.CctxGradReferenceIdeal.nD Cert.CctxGradReferenceIdeal.τ).loc Cert.CctxGradReferenceIdeal.main_arg1))

def preserves_ModBwd_ModBwdIdeal : Prop :=
  True

def algebraic_ModBwdIdeal_ModBwdReferenceIdeal [hModBwdIdeal : Cert.ModBwdIdeal.Facts] [hModBwdReferenceIdeal : Cert.ModBwdReferenceIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg)
    (m' : (ℓ : Loc Cert.ModBwdReferenceIdeal.nD Cert.ModBwdReferenceIdeal.τ Cert.ModBwdReferenceIdeal.sig) → Buf (Elt Ideal) ℓ) (g' : Dev Cert.ModBwdReferenceIdeal.nD → PrngReg), Pre_ModBwdIdeal m →
    (∀ c : Dev Cert.ModBwdIdeal.nD,
      m' ((c.tc : Thread Cert.ModBwdReferenceIdeal.nD Cert.ModBwdReferenceIdeal.τ).loc Cert.ModBwdReferenceIdeal.main_arg0) = m ((c.tc : Thread Cert.ModBwdIdeal.nD Cert.ModBwdIdeal.τ).loc Cert.ModBwdIdeal.main_arg0)
      ∧ m' ((c.tc : Thread Cert.ModBwdReferenceIdeal.nD Cert.ModBwdReferenceIdeal.τ).loc Cert.ModBwdReferenceIdeal.main_arg1) = m ((c.tc : Thread Cert.ModBwdIdeal.nD Cert.ModBwdIdeal.τ).loc Cert.ModBwdIdeal.main_arg1)
      ∧ m' ((c.tc : Thread Cert.ModBwdReferenceIdeal.nD Cert.ModBwdReferenceIdeal.τ).loc Cert.ModBwdReferenceIdeal.main_arg2) = m ((c.tc : Thread Cert.ModBwdIdeal.nD Cert.ModBwdIdeal.τ).loc Cert.ModBwdIdeal.main_arg2)
      ∧ m' ((c.tc : Thread Cert.ModBwdReferenceIdeal.nD Cert.ModBwdReferenceIdeal.τ).loc Cert.ModBwdReferenceIdeal.main_arg3) = m ((c.tc : Thread Cert.ModBwdIdeal.nD Cert.ModBwdIdeal.τ).loc Cert.ModBwdIdeal.main_arg3)
      ∧ m' ((c.tc : Thread Cert.ModBwdReferenceIdeal.nD Cert.ModBwdReferenceIdeal.τ).loc Cert.ModBwdReferenceIdeal.main_arg4) = m ((c.tc : Thread Cert.ModBwdIdeal.nD Cert.ModBwdIdeal.τ).loc Cert.ModBwdIdeal.main_arg4)) →
    ∃ (v0 : (c : Dev Cert.ModBwdIdeal.nD) → Buf (Elt Ideal) ((c.tc : Thread Cert.ModBwdIdeal.nD Cert.ModBwdIdeal.τ).loc Cert.ModBwdIdeal.main_v0_0)) (v1 : (c : Dev Cert.ModBwdIdeal.nD) → Buf (Elt Ideal) ((c.tc : Thread Cert.ModBwdIdeal.nD Cert.ModBwdIdeal.τ).loc Cert.ModBwdIdeal.main_v0_1)),
      θ_run (Cert.ModBwdIdeal.defs (F := Ideal)) (onTc (τ := Cert.ModBwdIdeal.τ) (Cert.ModBwdIdeal.main (F := Ideal))) ⟨m, fun _ => 0, g⟩ (fun r => ∀ c : Dev Cert.ModBwdIdeal.nD,
          r.2.mem ((c.tc : Thread Cert.ModBwdIdeal.nD Cert.ModBwdIdeal.τ).loc Cert.ModBwdIdeal.main_v0_0) = v0 c
          ∧ r.2.mem ((c.tc : Thread Cert.ModBwdIdeal.nD Cert.ModBwdIdeal.τ).loc Cert.ModBwdIdeal.main_v0_1) = v1 c
          ∧ r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
          ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
          ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2)
          ∧ r.2.mem ((c.tc : Thread Cert.ModBwdIdeal.nD Cert.ModBwdIdeal.τ).loc Cert.ModBwdIdeal.main_arg3) = m ((c.tc : Thread Cert.ModBwdIdeal.nD Cert.ModBwdIdeal.τ).loc Cert.ModBwdIdeal.main_arg3)
          ∧ r.2.mem ((c.tc : Thread Cert.ModBwdIdeal.nD Cert.ModBwdIdeal.τ).loc Cert.ModBwdIdeal.main_arg4) = m ((c.tc : Thread Cert.ModBwdIdeal.nD Cert.ModBwdIdeal.τ).loc Cert.ModBwdIdeal.main_arg4))
      ∧ θ_run (Cert.ModBwdReferenceIdeal.defs (F := Ideal)) (onTc (τ := Cert.ModBwdReferenceIdeal.τ) (Cert.ModBwdReferenceIdeal.main (F := Ideal))) ⟨m', fun _ => 0, g'⟩ (fun r => ∀ c : Dev Cert.ModBwdReferenceIdeal.nD,
          r.2.mem ((c.tc : Thread Cert.ModBwdReferenceIdeal.nD Cert.ModBwdReferenceIdeal.τ).loc Cert.ModBwdReferenceIdeal.main_v22) = v0 c
          ∧ r.2.mem ((c.tc : Thread Cert.ModBwdReferenceIdeal.nD Cert.ModBwdReferenceIdeal.τ).loc Cert.ModBwdReferenceIdeal.main_v24) = v1 c
          ∧ r.2.mem ((c.tc : Thread Cert.ModBwdReferenceIdeal.nD Cert.ModBwdReferenceIdeal.τ).loc Cert.ModBwdReferenceIdeal.main_arg0) = m' ((c.tc : Thread Cert.ModBwdReferenceIdeal.nD Cert.ModBwdReferenceIdeal.τ).loc Cert.ModBwdReferenceIdeal.main_arg0)
          ∧ r.2.mem ((c.tc : Thread Cert.ModBwdReferenceIdeal.nD Cert.ModBwdReferenceIdeal.τ).loc Cert.ModBwdReferenceIdeal.main_arg1) = m' ((c.tc : Thread Cert.ModBwdReferenceIdeal.nD Cert.ModBwdReferenceIdeal.τ).loc Cert.ModBwdReferenceIdeal.main_arg1)
          ∧ r.2.mem ((c.tc : Thread Cert.ModBwdReferenceIdeal.nD Cert.ModBwdReferenceIdeal.τ).loc Cert.ModBwdReferenceIdeal.main_arg2) = m' ((c.tc : Thread Cert.ModBwdReferenceIdeal.nD Cert.ModBwdReferenceIdeal.τ).loc Cert.ModBwdReferenceIdeal.main_arg2)
          ∧ r.2.mem ((c.tc : Thread Cert.ModBwdReferenceIdeal.nD Cert.ModBwdReferenceIdeal.τ).loc Cert.ModBwdReferenceIdeal.main_arg3) = m' ((c.tc : Thread Cert.ModBwdReferenceIdeal.nD Cert.ModBwdReferenceIdeal.τ).loc Cert.ModBwdReferenceIdeal.main_arg3)
          ∧ r.2.mem ((c.tc : Thread Cert.ModBwdReferenceIdeal.nD Cert.ModBwdReferenceIdeal.τ).loc Cert.ModBwdReferenceIdeal.main_arg4) = m' ((c.tc : Thread Cert.ModBwdReferenceIdeal.nD Cert.ModBwdReferenceIdeal.τ).loc Cert.ModBwdReferenceIdeal.main_arg4))

def preserves_Modulate_ModulateIdeal : Prop :=
  True

def algebraic_ModulateIdeal_ModulateReferenceIdeal [hModulateIdeal : Cert.ModulateIdeal.Facts] [hModulateReferenceIdeal : Cert.ModulateReferenceIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateReferenceIdeal.nD Cert.ModulateReferenceIdeal.τ Cert.ModulateReferenceIdeal.sig) → Buf (Elt Ideal) ℓ) (g' : Dev Cert.ModulateReferenceIdeal.nD → PrngReg), Pre_ModulateIdeal m →
    (∀ c : Dev Cert.ModulateIdeal.nD,
      m' ((c.tc : Thread Cert.ModulateReferenceIdeal.nD Cert.ModulateReferenceIdeal.τ).loc Cert.ModulateReferenceIdeal.main_arg0) = m ((c.tc : Thread Cert.ModulateIdeal.nD Cert.ModulateIdeal.τ).loc Cert.ModulateIdeal.main_arg0)
      ∧ m' ((c.tc : Thread Cert.ModulateReferenceIdeal.nD Cert.ModulateReferenceIdeal.τ).loc Cert.ModulateReferenceIdeal.main_arg1) = m ((c.tc : Thread Cert.ModulateIdeal.nD Cert.ModulateIdeal.τ).loc Cert.ModulateIdeal.main_arg1)
      ∧ m' ((c.tc : Thread Cert.ModulateReferenceIdeal.nD Cert.ModulateReferenceIdeal.τ).loc Cert.ModulateReferenceIdeal.main_arg2) = m ((c.tc : Thread Cert.ModulateIdeal.nD Cert.ModulateIdeal.τ).loc Cert.ModulateIdeal.main_arg2)) →
    ∃ (v0 : (c : Dev Cert.ModulateIdeal.nD) → Buf (Elt Ideal) ((c.tc : Thread Cert.ModulateIdeal.nD Cert.ModulateIdeal.τ).loc Cert.ModulateIdeal.main_v0)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v0) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ θ_run (Cert.ModulateReferenceIdeal.defs (F := Ideal)) (onTc (τ := Cert.ModulateReferenceIdeal.τ) (Cert.ModulateReferenceIdeal.main (F := Ideal))) ⟨m', fun _ => 0, g'⟩ (fun r => ∀ c : Dev Cert.ModulateReferenceIdeal.nD,
          r.2.mem ((c.tc : Thread Cert.ModulateReferenceIdeal.nD Cert.ModulateReferenceIdeal.τ).loc Cert.ModulateReferenceIdeal.main_v23) = v0 c
          ∧ r.2.mem ((c.tc : Thread Cert.ModulateReferenceIdeal.nD Cert.ModulateReferenceIdeal.τ).loc Cert.ModulateReferenceIdeal.main_arg0) = m' ((c.tc : Thread Cert.ModulateReferenceIdeal.nD Cert.ModulateReferenceIdeal.τ).loc Cert.ModulateReferenceIdeal.main_arg0)
          ∧ r.2.mem ((c.tc : Thread Cert.ModulateReferenceIdeal.nD Cert.ModulateReferenceIdeal.τ).loc Cert.ModulateReferenceIdeal.main_arg1) = m' ((c.tc : Thread Cert.ModulateReferenceIdeal.nD Cert.ModulateReferenceIdeal.τ).loc Cert.ModulateReferenceIdeal.main_arg1)
          ∧ r.2.mem ((c.tc : Thread Cert.ModulateReferenceIdeal.nD Cert.ModulateReferenceIdeal.τ).loc Cert.ModulateReferenceIdeal.main_arg2) = m' ((c.tc : Thread Cert.ModulateReferenceIdeal.nD Cert.ModulateReferenceIdeal.τ).loc Cert.ModulateReferenceIdeal.main_arg2))

def preserves_LnBwd_LnBwdIdeal : Prop :=
  True

def algebraic_LnBwdIdeal_LnBwdReferenceIdeal_pre_finite_ln [hLnBwdIdeal : Cert.LnBwdIdeal.Facts] [hLnBwdReferenceIdeal : Cert.LnBwdReferenceIdeal.Facts] [hPre_finite_ln : Cert.Pre_finite_ln.Facts] : Prop :=
  ∀ (m : (ℓ : Loc Cert.LnBwdIdeal.nD Cert.LnBwdIdeal.τ Cert.LnBwdIdeal.sig) → Buf (Elt Ideal) ℓ) (g : Dev Cert.LnBwdIdeal.nD → PrngReg)
    (m' : (ℓ : Loc Cert.LnBwdReferenceIdeal.nD Cert.LnBwdReferenceIdeal.τ Cert.LnBwdReferenceIdeal.sig) → Buf (Elt Ideal) ℓ) (g' : Dev Cert.LnBwdReferenceIdeal.nD → PrngReg), Pre_LnBwdIdeal_finite_ln m →
    (∀ c : Dev Cert.LnBwdIdeal.nD,
      m' ((c.tc : Thread Cert.LnBwdReferenceIdeal.nD Cert.LnBwdReferenceIdeal.τ).loc Cert.LnBwdReferenceIdeal.main_arg0) = m ((c.tc : Thread Cert.LnBwdIdeal.nD Cert.LnBwdIdeal.τ).loc Cert.LnBwdIdeal.main_arg0)
      ∧ m' ((c.tc : Thread Cert.LnBwdReferenceIdeal.nD Cert.LnBwdReferenceIdeal.τ).loc Cert.LnBwdReferenceIdeal.main_arg1) = m ((c.tc : Thread Cert.LnBwdIdeal.nD Cert.LnBwdIdeal.τ).loc Cert.LnBwdIdeal.main_arg1)
      ∧ m' ((c.tc : Thread Cert.LnBwdReferenceIdeal.nD Cert.LnBwdReferenceIdeal.τ).loc Cert.LnBwdReferenceIdeal.main_arg2) = m ((c.tc : Thread Cert.LnBwdIdeal.nD Cert.LnBwdIdeal.τ).loc Cert.LnBwdIdeal.main_arg2)
      ∧ m' ((c.tc : Thread Cert.LnBwdReferenceIdeal.nD Cert.LnBwdReferenceIdeal.τ).loc Cert.LnBwdReferenceIdeal.main_arg3) = m ((c.tc : Thread Cert.LnBwdIdeal.nD Cert.LnBwdIdeal.τ).loc Cert.LnBwdIdeal.main_arg3)
      ∧ m' ((c.tc : Thread Cert.LnBwdReferenceIdeal.nD Cert.LnBwdReferenceIdeal.τ).loc Cert.LnBwdReferenceIdeal.main_arg4) = m ((c.tc : Thread Cert.LnBwdIdeal.nD Cert.LnBwdIdeal.τ).loc Cert.LnBwdIdeal.main_arg4)
      ∧ m' ((c.tc : Thread Cert.LnBwdReferenceIdeal.nD Cert.LnBwdReferenceIdeal.τ).loc Cert.LnBwdReferenceIdeal.main_arg5) = m ((c.tc : Thread Cert.LnBwdIdeal.nD Cert.LnBwdIdeal.τ).loc Cert.LnBwdIdeal.main_arg5)
      ∧ m' ((c.tc : Thread Cert.LnBwdReferenceIdeal.nD Cert.LnBwdReferenceIdeal.τ).loc Cert.LnBwdReferenceIdeal.main_arg6) = m ((c.tc : Thread Cert.LnBwdIdeal.nD Cert.LnBwdIdeal.τ).loc Cert.LnBwdIdeal.main_arg6)
      ∧ m' ((c.tc : Thread Cert.LnBwdReferenceIdeal.nD Cert.LnBwdReferenceIdeal.τ).loc Cert.LnBwdReferenceIdeal.main_arg7) = m ((c.tc : Thread Cert.LnBwdIdeal.nD Cert.LnBwdIdeal.τ).loc Cert.LnBwdIdeal.main_arg7)
      ∧ m' ((c.tc : Thread Cert.LnBwdReferenceIdeal.nD Cert.LnBwdReferenceIdeal.τ).loc Cert.LnBwdReferenceIdeal.main_arg8) = m ((c.tc : Thread Cert.LnBwdIdeal.nD Cert.LnBwdIdeal.τ).loc Cert.LnBwdIdeal.main_arg8)) →
    ∃ (v0 : (c : Dev Cert.LnBwdIdeal.nD) → Buf (Elt Ideal) ((c.tc : Thread Cert.LnBwdIdeal.nD Cert.LnBwdIdeal.τ).loc Cert.LnBwdIdeal.main_v2_0)) (v1 : (c : Dev Cert.LnBwdIdeal.nD) → Buf (Elt Ideal) ((c.tc : Thread Cert.LnBwdIdeal.nD Cert.LnBwdIdeal.τ).loc Cert.LnBwdIdeal.main_v2_1)) (v2 : (c : Dev Cert.LnBwdIdeal.nD) → Buf (Elt Ideal) ((c.tc : Thread Cert.LnBwdIdeal.nD Cert.LnBwdIdeal.τ).loc Cert.LnBwdIdeal.main_v2_2)),
      θ_run (Cert.LnBwdIdeal.defs (F := Ideal)) (onTc (τ := Cert.LnBwdIdeal.τ) (Cert.LnBwdIdeal.main (F := Ideal))) ⟨m, fun _ => 0, g⟩ (fun r => ∀ c : Dev Cert.LnBwdIdeal.nD,
          r.2.mem ((c.tc : Thread Cert.LnBwdIdeal.nD Cert.LnBwdIdeal.τ).loc Cert.LnBwdIdeal.main_v2_0) = v0 c
          ∧ r.2.mem ((c.tc : Thread Cert.LnBwdIdeal.nD Cert.LnBwdIdeal.τ).loc Cert.LnBwdIdeal.main_v2_1) = v1 c
          ∧ r.2.mem ((c.tc : Thread Cert.LnBwdIdeal.nD Cert.LnBwdIdeal.τ).loc Cert.LnBwdIdeal.main_v2_2) = v2 c
          ∧ r.2.mem ((c.tc : Thread Cert.LnBwdIdeal.nD Cert.LnBwdIdeal.τ).loc Cert.LnBwdIdeal.main_arg0) = m ((c.tc : Thread Cert.LnBwdIdeal.nD Cert.LnBwdIdeal.τ).loc Cert.LnBwdIdeal.main_arg0)
          ∧ r.2.mem ((c.tc : Thread Cert.LnBwdIdeal.nD Cert.LnBwdIdeal.τ).loc Cert.LnBwdIdeal.main_arg1) = m ((c.tc : Thread Cert.LnBwdIdeal.nD Cert.LnBwdIdeal.τ).loc Cert.LnBwdIdeal.main_arg1)
          ∧ r.2.mem ((c.tc : Thread Cert.LnBwdIdeal.nD Cert.LnBwdIdeal.τ).loc Cert.LnBwdIdeal.main_arg2) = m ((c.tc : Thread Cert.LnBwdIdeal.nD Cert.LnBwdIdeal.τ).loc Cert.LnBwdIdeal.main_arg2)
          ∧ r.2.mem ((c.tc : Thread Cert.LnBwdIdeal.nD Cert.LnBwdIdeal.τ).loc Cert.LnBwdIdeal.main_arg3) = m ((c.tc : Thread Cert.LnBwdIdeal.nD Cert.LnBwdIdeal.τ).loc Cert.LnBwdIdeal.main_arg3)
          ∧ r.2.mem ((c.tc : Thread Cert.LnBwdIdeal.nD Cert.LnBwdIdeal.τ).loc Cert.LnBwdIdeal.main_arg4) = m ((c.tc : Thread Cert.LnBwdIdeal.nD Cert.LnBwdIdeal.τ).loc Cert.LnBwdIdeal.main_arg4)
          ∧ r.2.mem ((c.tc : Thread Cert.LnBwdIdeal.nD Cert.LnBwdIdeal.τ).loc Cert.LnBwdIdeal.main_arg5) = m ((c.tc : Thread Cert.LnBwdIdeal.nD Cert.LnBwdIdeal.τ).loc Cert.LnBwdIdeal.main_arg5)
          ∧ r.2.mem ((c.tc : Thread Cert.LnBwdIdeal.nD Cert.LnBwdIdeal.τ).loc Cert.LnBwdIdeal.main_arg6) = m ((c.tc : Thread Cert.LnBwdIdeal.nD Cert.LnBwdIdeal.τ).loc Cert.LnBwdIdeal.main_arg6)
          ∧ r.2.mem ((c.tc : Thread Cert.LnBwdIdeal.nD Cert.LnBwdIdeal.τ).loc Cert.LnBwdIdeal.main_arg7) = m ((c.tc : Thread Cert.LnBwdIdeal.nD Cert.LnBwdIdeal.τ).loc Cert.LnBwdIdeal.main_arg7)
          ∧ r.2.mem ((c.tc : Thread Cert.LnBwdIdeal.nD Cert.LnBwdIdeal.τ).loc Cert.LnBwdIdeal.main_arg8) = m ((c.tc : Thread Cert.LnBwdIdeal.nD Cert.LnBwdIdeal.τ).loc Cert.LnBwdIdeal.main_arg8))
      ∧ θ_run (Cert.LnBwdReferenceIdeal.defs (F := Ideal)) (onTc (τ := Cert.LnBwdReferenceIdeal.τ) (Cert.LnBwdReferenceIdeal.main (F := Ideal))) ⟨m', fun _ => 0, g'⟩ (fun r => ∀ c : Dev Cert.LnBwdReferenceIdeal.nD,
          r.2.mem ((c.tc : Thread Cert.LnBwdReferenceIdeal.nD Cert.LnBwdReferenceIdeal.τ).loc Cert.LnBwdReferenceIdeal.main_v102) = v0 c
          ∧ r.2.mem ((c.tc : Thread Cert.LnBwdReferenceIdeal.nD Cert.LnBwdReferenceIdeal.τ).loc Cert.LnBwdReferenceIdeal.main_v104) = v1 c
          ∧ r.2.mem ((c.tc : Thread Cert.LnBwdReferenceIdeal.nD Cert.LnBwdReferenceIdeal.τ).loc Cert.LnBwdReferenceIdeal.main_v101) = v2 c
          ∧ r.2.mem ((c.tc : Thread Cert.LnBwdReferenceIdeal.nD Cert.LnBwdReferenceIdeal.τ).loc Cert.LnBwdReferenceIdeal.main_arg0) = m' ((c.tc : Thread Cert.LnBwdReferenceIdeal.nD Cert.LnBwdReferenceIdeal.τ).loc Cert.LnBwdReferenceIdeal.main_arg0)
          ∧ r.2.mem ((c.tc : Thread Cert.LnBwdReferenceIdeal.nD Cert.LnBwdReferenceIdeal.τ).loc Cert.LnBwdReferenceIdeal.main_arg1) = m' ((c.tc : Thread Cert.LnBwdReferenceIdeal.nD Cert.LnBwdReferenceIdeal.τ).loc Cert.LnBwdReferenceIdeal.main_arg1)
          ∧ r.2.mem ((c.tc : Thread Cert.LnBwdReferenceIdeal.nD Cert.LnBwdReferenceIdeal.τ).loc Cert.LnBwdReferenceIdeal.main_arg2) = m' ((c.tc : Thread Cert.LnBwdReferenceIdeal.nD Cert.LnBwdReferenceIdeal.τ).loc Cert.LnBwdReferenceIdeal.main_arg2)
          ∧ r.2.mem ((c.tc : Thread Cert.LnBwdReferenceIdeal.nD Cert.LnBwdReferenceIdeal.τ).loc Cert.LnBwdReferenceIdeal.main_arg3) = m' ((c.tc : Thread Cert.LnBwdReferenceIdeal.nD Cert.LnBwdReferenceIdeal.τ).loc Cert.LnBwdReferenceIdeal.main_arg3)
          ∧ r.2.mem ((c.tc : Thread Cert.LnBwdReferenceIdeal.nD Cert.LnBwdReferenceIdeal.τ).loc Cert.LnBwdReferenceIdeal.main_arg4) = m' ((c.tc : Thread Cert.LnBwdReferenceIdeal.nD Cert.LnBwdReferenceIdeal.τ).loc Cert.LnBwdReferenceIdeal.main_arg4)
          ∧ r.2.mem ((c.tc : Thread Cert.LnBwdReferenceIdeal.nD Cert.LnBwdReferenceIdeal.τ).loc Cert.LnBwdReferenceIdeal.main_arg5) = m' ((c.tc : Thread Cert.LnBwdReferenceIdeal.nD Cert.LnBwdReferenceIdeal.τ).loc Cert.LnBwdReferenceIdeal.main_arg5)
          ∧ r.2.mem ((c.tc : Thread Cert.LnBwdReferenceIdeal.nD Cert.LnBwdReferenceIdeal.τ).loc Cert.LnBwdReferenceIdeal.main_arg6) = m' ((c.tc : Thread Cert.LnBwdReferenceIdeal.nD Cert.LnBwdReferenceIdeal.τ).loc Cert.LnBwdReferenceIdeal.main_arg6)
          ∧ r.2.mem ((c.tc : Thread Cert.LnBwdReferenceIdeal.nD Cert.LnBwdReferenceIdeal.τ).loc Cert.LnBwdReferenceIdeal.main_arg7) = m' ((c.tc : Thread Cert.LnBwdReferenceIdeal.nD Cert.LnBwdReferenceIdeal.τ).loc Cert.LnBwdReferenceIdeal.main_arg7)
          ∧ r.2.mem ((c.tc : Thread Cert.LnBwdReferenceIdeal.nD Cert.LnBwdReferenceIdeal.τ).loc Cert.LnBwdReferenceIdeal.main_arg8) = m' ((c.tc : Thread Cert.LnBwdReferenceIdeal.nD Cert.LnBwdReferenceIdeal.τ).loc Cert.LnBwdReferenceIdeal.main_arg8))

def preserves_ResidLn_ResidLnIdeal : Prop :=
  True

def algebraic_ResidLnIdeal_ResidLnReferenceIdeal [hResidLnIdeal : Cert.ResidLnIdeal.Facts] [hResidLnReferenceIdeal : Cert.ResidLnReferenceIdeal.Facts] : Prop :=
  ∀ (m : (ℓ : Loc Cert.ResidLnIdeal.nD Cert.ResidLnIdeal.τ Cert.ResidLnIdeal.sig) → Buf (Elt Ideal) ℓ) (g : Dev Cert.ResidLnIdeal.nD → PrngReg)
    (m' : (ℓ : Loc Cert.ResidLnReferenceIdeal.nD Cert.ResidLnReferenceIdeal.τ Cert.ResidLnReferenceIdeal.sig) → Buf (Elt Ideal) ℓ) (g' : Dev Cert.ResidLnReferenceIdeal.nD → PrngReg), Pre_ResidLnIdeal m →
    (∀ c : Dev Cert.ResidLnIdeal.nD,
      m' ((c.tc : Thread Cert.ResidLnReferenceIdeal.nD Cert.ResidLnReferenceIdeal.τ).loc Cert.ResidLnReferenceIdeal.main_arg0) = m ((c.tc : Thread Cert.ResidLnIdeal.nD Cert.ResidLnIdeal.τ).loc Cert.ResidLnIdeal.main_arg0)
      ∧ m' ((c.tc : Thread Cert.ResidLnReferenceIdeal.nD Cert.ResidLnReferenceIdeal.τ).loc Cert.ResidLnReferenceIdeal.main_arg1) = m ((c.tc : Thread Cert.ResidLnIdeal.nD Cert.ResidLnIdeal.τ).loc Cert.ResidLnIdeal.main_arg1)
      ∧ m' ((c.tc : Thread Cert.ResidLnReferenceIdeal.nD Cert.ResidLnReferenceIdeal.τ).loc Cert.ResidLnReferenceIdeal.main_arg2) = m ((c.tc : Thread Cert.ResidLnIdeal.nD Cert.ResidLnIdeal.τ).loc Cert.ResidLnIdeal.main_arg2)
      ∧ m' ((c.tc : Thread Cert.ResidLnReferenceIdeal.nD Cert.ResidLnReferenceIdeal.τ).loc Cert.ResidLnReferenceIdeal.main_arg3) = m ((c.tc : Thread Cert.ResidLnIdeal.nD Cert.ResidLnIdeal.τ).loc Cert.ResidLnIdeal.main_arg3)
      ∧ m' ((c.tc : Thread Cert.ResidLnReferenceIdeal.nD Cert.ResidLnReferenceIdeal.τ).loc Cert.ResidLnReferenceIdeal.main_arg4) = m ((c.tc : Thread Cert.ResidLnIdeal.nD Cert.ResidLnIdeal.τ).loc Cert.ResidLnIdeal.main_arg4)
      ∧ m' ((c.tc : Thread Cert.ResidLnReferenceIdeal.nD Cert.ResidLnReferenceIdeal.τ).loc Cert.ResidLnReferenceIdeal.main_arg5) = m ((c.tc : Thread Cert.ResidLnIdeal.nD Cert.ResidLnIdeal.τ).loc Cert.ResidLnIdeal.main_arg5)
      ∧ m' ((c.tc : Thread Cert.ResidLnReferenceIdeal.nD Cert.ResidLnReferenceIdeal.τ).loc Cert.ResidLnReferenceIdeal.main_arg6) = m ((c.tc : Thread Cert.ResidLnIdeal.nD Cert.ResidLnIdeal.τ).loc Cert.ResidLnIdeal.main_arg6)) →
    ∃ (v0 : (c : Dev Cert.ResidLnIdeal.nD) → Buf (Elt Ideal) ((c.tc : Thread Cert.ResidLnIdeal.nD Cert.ResidLnIdeal.τ).loc Cert.ResidLnIdeal.main_v2_0)) (v1 : (c : Dev Cert.ResidLnIdeal.nD) → Buf (Elt Ideal) ((c.tc : Thread Cert.ResidLnIdeal.nD Cert.ResidLnIdeal.τ).loc Cert.ResidLnIdeal.main_v2_1)),
      θ_run (Cert.ResidLnIdeal.defs (F := Ideal)) (onTc (τ := Cert.ResidLnIdeal.τ) (Cert.ResidLnIdeal.main (F := Ideal))) ⟨m, fun _ => 0, g⟩ (fun r => ∀ c : Dev Cert.ResidLnIdeal.nD,
          r.2.mem ((c.tc : Thread Cert.ResidLnIdeal.nD Cert.ResidLnIdeal.τ).loc Cert.ResidLnIdeal.main_v2_0) = v0 c
          ∧ r.2.mem ((c.tc : Thread Cert.ResidLnIdeal.nD Cert.ResidLnIdeal.τ).loc Cert.ResidLnIdeal.main_v2_1) = v1 c
          ∧ r.2.mem ((c.tc : Thread Cert.ResidLnIdeal.nD Cert.ResidLnIdeal.τ).loc Cert.ResidLnIdeal.main_arg0) = m ((c.tc : Thread Cert.ResidLnIdeal.nD Cert.ResidLnIdeal.τ).loc Cert.ResidLnIdeal.main_arg0)
          ∧ r.2.mem ((c.tc : Thread Cert.ResidLnIdeal.nD Cert.ResidLnIdeal.τ).loc Cert.ResidLnIdeal.main_arg1) = m ((c.tc : Thread Cert.ResidLnIdeal.nD Cert.ResidLnIdeal.τ).loc Cert.ResidLnIdeal.main_arg1)
          ∧ r.2.mem ((c.tc : Thread Cert.ResidLnIdeal.nD Cert.ResidLnIdeal.τ).loc Cert.ResidLnIdeal.main_arg2) = m ((c.tc : Thread Cert.ResidLnIdeal.nD Cert.ResidLnIdeal.τ).loc Cert.ResidLnIdeal.main_arg2)
          ∧ r.2.mem ((c.tc : Thread Cert.ResidLnIdeal.nD Cert.ResidLnIdeal.τ).loc Cert.ResidLnIdeal.main_arg3) = m ((c.tc : Thread Cert.ResidLnIdeal.nD Cert.ResidLnIdeal.τ).loc Cert.ResidLnIdeal.main_arg3)
          ∧ r.2.mem ((c.tc : Thread Cert.ResidLnIdeal.nD Cert.ResidLnIdeal.τ).loc Cert.ResidLnIdeal.main_arg4) = m ((c.tc : Thread Cert.ResidLnIdeal.nD Cert.ResidLnIdeal.τ).loc Cert.ResidLnIdeal.main_arg4)
          ∧ r.2.mem ((c.tc : Thread Cert.ResidLnIdeal.nD Cert.ResidLnIdeal.τ).loc Cert.ResidLnIdeal.main_arg5) = m ((c.tc : Thread Cert.ResidLnIdeal.nD Cert.ResidLnIdeal.τ).loc Cert.ResidLnIdeal.main_arg5)
          ∧ r.2.mem ((c.tc : Thread Cert.ResidLnIdeal.nD Cert.ResidLnIdeal.τ).loc Cert.ResidLnIdeal.main_arg6) = m ((c.tc : Thread Cert.ResidLnIdeal.nD Cert.ResidLnIdeal.τ).loc Cert.ResidLnIdeal.main_arg6))
      ∧ θ_run (Cert.ResidLnReferenceIdeal.defs (F := Ideal)) (onTc (τ := Cert.ResidLnReferenceIdeal.τ) (Cert.ResidLnReferenceIdeal.main (F := Ideal))) ⟨m', fun _ => 0, g'⟩ (fun r => ∀ c : Dev Cert.ResidLnReferenceIdeal.nD,
          r.2.mem ((c.tc : Thread Cert.ResidLnReferenceIdeal.nD Cert.ResidLnReferenceIdeal.τ).loc Cert.ResidLnReferenceIdeal.main_v86) = v0 c
          ∧ r.2.mem ((c.tc : Thread Cert.ResidLnReferenceIdeal.nD Cert.ResidLnReferenceIdeal.τ).loc Cert.ResidLnReferenceIdeal.main_v88) = v1 c
          ∧ r.2.mem ((c.tc : Thread Cert.ResidLnReferenceIdeal.nD Cert.ResidLnReferenceIdeal.τ).loc Cert.ResidLnReferenceIdeal.main_arg0) = m' ((c.tc : Thread Cert.ResidLnReferenceIdeal.nD Cert.ResidLnReferenceIdeal.τ).loc Cert.ResidLnReferenceIdeal.main_arg0)
          ∧ r.2.mem ((c.tc : Thread Cert.ResidLnReferenceIdeal.nD Cert.ResidLnReferenceIdeal.τ).loc Cert.ResidLnReferenceIdeal.main_arg1) = m' ((c.tc : Thread Cert.ResidLnReferenceIdeal.nD Cert.ResidLnReferenceIdeal.τ).loc Cert.ResidLnReferenceIdeal.main_arg1)
          ∧ r.2.mem ((c.tc : Thread Cert.ResidLnReferenceIdeal.nD Cert.ResidLnReferenceIdeal.τ).loc Cert.ResidLnReferenceIdeal.main_arg2) = m' ((c.tc : Thread Cert.ResidLnReferenceIdeal.nD Cert.ResidLnReferenceIdeal.τ).loc Cert.ResidLnReferenceIdeal.main_arg2)
          ∧ r.2.mem ((c.tc : Thread Cert.ResidLnReferenceIdeal.nD Cert.ResidLnReferenceIdeal.τ).loc Cert.ResidLnReferenceIdeal.main_arg3) = m' ((c.tc : Thread Cert.ResidLnReferenceIdeal.nD Cert.ResidLnReferenceIdeal.τ).loc Cert.ResidLnReferenceIdeal.main_arg3)
          ∧ r.2.mem ((c.tc : Thread Cert.ResidLnReferenceIdeal.nD Cert.ResidLnReferenceIdeal.τ).loc Cert.ResidLnReferenceIdeal.main_arg4) = m' ((c.tc : Thread Cert.ResidLnReferenceIdeal.nD Cert.ResidLnReferenceIdeal.τ).loc Cert.ResidLnReferenceIdeal.main_arg4)
          ∧ r.2.mem ((c.tc : Thread Cert.ResidLnReferenceIdeal.nD Cert.ResidLnReferenceIdeal.τ).loc Cert.ResidLnReferenceIdeal.main_arg5) = m' ((c.tc : Thread Cert.ResidLnReferenceIdeal.nD Cert.ResidLnReferenceIdeal.τ).loc Cert.ResidLnReferenceIdeal.main_arg5)
          ∧ r.2.mem ((c.tc : Thread Cert.ResidLnReferenceIdeal.nD Cert.ResidLnReferenceIdeal.τ).loc Cert.ResidLnReferenceIdeal.main_arg6) = m' ((c.tc : Thread Cert.ResidLnReferenceIdeal.nD Cert.ResidLnReferenceIdeal.τ).loc Cert.ResidLnReferenceIdeal.main_arg6))

def preserves_LossHead_LossHeadIdeal : Prop :=
  True

def algebraic_LossHeadIdeal_LossHeadReferenceIdeal [hLossHeadIdeal : Cert.LossHeadIdeal.Facts] [hLossHeadReferenceIdeal : Cert.LossHeadReferenceIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadReferenceIdeal.nD Cert.LossHeadReferenceIdeal.τ Cert.LossHeadReferenceIdeal.sig) → Buf (Elt Ideal) ℓ) (g' : Dev Cert.LossHeadReferenceIdeal.nD → PrngReg), Pre_LossHeadIdeal m →
    (∀ c : Dev Cert.LossHeadIdeal.nD,
      m' ((c.tc : Thread Cert.LossHeadReferenceIdeal.nD Cert.LossHeadReferenceIdeal.τ).loc Cert.LossHeadReferenceIdeal.main_arg0) = m ((c.tc : Thread Cert.LossHeadIdeal.nD Cert.LossHeadIdeal.τ).loc Cert.LossHeadIdeal.main_arg0)
      ∧ m' ((c.tc : Thread Cert.LossHeadReferenceIdeal.nD Cert.LossHeadReferenceIdeal.τ).loc Cert.LossHeadReferenceIdeal.main_arg1) = m ((c.tc : Thread Cert.LossHeadIdeal.nD Cert.LossHeadIdeal.τ).loc Cert.LossHeadIdeal.main_arg1)
      ∧ m' ((c.tc : Thread Cert.LossHeadReferenceIdeal.nD Cert.LossHeadReferenceIdeal.τ).loc Cert.LossHeadReferenceIdeal.main_arg2) = m ((c.tc : Thread Cert.LossHeadIdeal.nD Cert.LossHeadIdeal.τ).loc Cert.LossHeadIdeal.main_arg2)
      ∧ m' ((c.tc : Thread Cert.LossHeadReferenceIdeal.nD Cert.LossHeadReferenceIdeal.τ).loc Cert.LossHeadReferenceIdeal.main_arg3) = m ((c.tc : Thread Cert.LossHeadIdeal.nD Cert.LossHeadIdeal.τ).loc Cert.LossHeadIdeal.main_arg3)
      ∧ m' ((c.tc : Thread Cert.LossHeadReferenceIdeal.nD Cert.LossHeadReferenceIdeal.τ).loc Cert.LossHeadReferenceIdeal.main_arg4) = m ((c.tc : Thread Cert.LossHeadIdeal.nD Cert.LossHeadIdeal.τ).loc Cert.LossHeadIdeal.main_arg4)
      ∧ m' ((c.tc : Thread Cert.LossHeadReferenceIdeal.nD Cert.LossHeadReferenceIdeal.τ).loc Cert.LossHeadReferenceIdeal.main_arg5) = m ((c.tc : Thread Cert.LossHeadIdeal.nD Cert.LossHeadIdeal.τ).loc Cert.LossHeadIdeal.main_arg5)) →
    ∃ (v0 : (c : Dev Cert.LossHeadIdeal.nD) → Buf (Elt Ideal) ((c.tc : Thread Cert.LossHeadIdeal.nD Cert.LossHeadIdeal.τ).loc Cert.LossHeadIdeal.main_v2_0)) (v1 : (c : Dev Cert.LossHeadIdeal.nD) → Buf (Elt Ideal) ((c.tc : Thread Cert.LossHeadIdeal.nD Cert.LossHeadIdeal.τ).loc Cert.LossHeadIdeal.main_v2_1)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v2_0) = v0 c
          ∧ r.2.mem ((c.tc : Thread Cert.LossHeadIdeal.nD Cert.LossHeadIdeal.τ).loc Cert.LossHeadIdeal.main_v2_1) = v1 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
          ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5))
      ∧ θ_run (Cert.LossHeadReferenceIdeal.defs (F := Ideal)) (onTc (τ := Cert.LossHeadReferenceIdeal.τ) (Cert.LossHeadReferenceIdeal.main (F := Ideal))) ⟨m', fun _ => 0, g'⟩ (fun r => ∀ c : Dev Cert.LossHeadReferenceIdeal.nD,
          r.2.mem ((c.tc : Thread Cert.LossHeadReferenceIdeal.nD Cert.LossHeadReferenceIdeal.τ).loc Cert.LossHeadReferenceIdeal.main_v56) = v0 c
          ∧ r.2.mem ((c.tc : Thread Cert.LossHeadReferenceIdeal.nD Cert.LossHeadReferenceIdeal.τ).loc Cert.LossHeadReferenceIdeal.main_v58) = v1 c
          ∧ r.2.mem ((c.tc : Thread Cert.LossHeadReferenceIdeal.nD Cert.LossHeadReferenceIdeal.τ).loc Cert.LossHeadReferenceIdeal.main_arg0) = m' ((c.tc : Thread Cert.LossHeadReferenceIdeal.nD Cert.LossHeadReferenceIdeal.τ).loc Cert.LossHeadReferenceIdeal.main_arg0)
          ∧ r.2.mem ((c.tc : Thread Cert.LossHeadReferenceIdeal.nD Cert.LossHeadReferenceIdeal.τ).loc Cert.LossHeadReferenceIdeal.main_arg1) = m' ((c.tc : Thread Cert.LossHeadReferenceIdeal.nD Cert.LossHeadReferenceIdeal.τ).loc Cert.LossHeadReferenceIdeal.main_arg1)
          ∧ r.2.mem ((c.tc : Thread Cert.LossHeadReferenceIdeal.nD Cert.LossHeadReferenceIdeal.τ).loc Cert.LossHeadReferenceIdeal.main_arg2) = m' ((c.tc : Thread Cert.LossHeadReferenceIdeal.nD Cert.LossHeadReferenceIdeal.τ).loc Cert.LossHeadReferenceIdeal.main_arg2)
          ∧ r.2.mem ((c.tc : Thread Cert.LossHeadReferenceIdeal.nD Cert.LossHeadReferenceIdeal.τ).loc Cert.LossHeadReferenceIdeal.main_arg3) = m' ((c.tc : Thread Cert.LossHeadReferenceIdeal.nD Cert.LossHeadReferenceIdeal.τ).loc Cert.LossHeadReferenceIdeal.main_arg3)
          ∧ r.2.mem ((c.tc : Thread Cert.LossHeadReferenceIdeal.nD Cert.LossHeadReferenceIdeal.τ).loc Cert.LossHeadReferenceIdeal.main_arg4) = m' ((c.tc : Thread Cert.LossHeadReferenceIdeal.nD Cert.LossHeadReferenceIdeal.τ).loc Cert.LossHeadReferenceIdeal.main_arg4)
          ∧ r.2.mem ((c.tc : Thread Cert.LossHeadReferenceIdeal.nD Cert.LossHeadReferenceIdeal.τ).loc Cert.LossHeadReferenceIdeal.main_arg5) = m' ((c.tc : Thread Cert.LossHeadReferenceIdeal.nD Cert.LossHeadReferenceIdeal.τ).loc Cert.LossHeadReferenceIdeal.main_arg5))

def preserves_ConvFwd_ConvFwdIdeal : Prop :=
  True

def algebraic_ConvFwdIdeal_ConvFwdReferenceIdeal [hConvFwdIdeal : Cert.ConvFwdIdeal.Facts] [hConvFwdReferenceIdeal : Cert.ConvFwdReferenceIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdReferenceIdeal.nD Cert.ConvFwdReferenceIdeal.τ Cert.ConvFwdReferenceIdeal.sig) → Buf (Elt Ideal) ℓ) (g' : Dev Cert.ConvFwdReferenceIdeal.nD → PrngReg), Pre_ConvFwdIdeal m →
    (∀ c : Dev Cert.ConvFwdIdeal.nD,
      m' ((c.tc : Thread Cert.ConvFwdReferenceIdeal.nD Cert.ConvFwdReferenceIdeal.τ).loc Cert.ConvFwdReferenceIdeal.main_arg0) = m ((c.tc : Thread Cert.ConvFwdIdeal.nD Cert.ConvFwdIdeal.τ).loc Cert.ConvFwdIdeal.main_arg0)
      ∧ m' ((c.tc : Thread Cert.ConvFwdReferenceIdeal.nD Cert.ConvFwdReferenceIdeal.τ).loc Cert.ConvFwdReferenceIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdReferenceIdeal.defs (F := Ideal)) (onTc (τ := Cert.ConvFwdReferenceIdeal.τ) (Cert.ConvFwdReferenceIdeal.main (F := Ideal))) ⟨m', fun _ => 0, g'⟩ (fun r => ∀ c : Dev Cert.ConvFwdReferenceIdeal.nD,
          r.2.mem ((c.tc : Thread Cert.ConvFwdReferenceIdeal.nD Cert.ConvFwdReferenceIdeal.τ).loc Cert.ConvFwdReferenceIdeal.main_v57) = v0 c
          ∧ r.2.mem ((c.tc : Thread Cert.ConvFwdReferenceIdeal.nD Cert.ConvFwdReferenceIdeal.τ).loc Cert.ConvFwdReferenceIdeal.main_arg0) = m' ((c.tc : Thread Cert.ConvFwdReferenceIdeal.nD Cert.ConvFwdReferenceIdeal.τ).loc Cert.ConvFwdReferenceIdeal.main_arg0)
          ∧ r.2.mem ((c.tc : Thread Cert.ConvFwdReferenceIdeal.nD Cert.ConvFwdReferenceIdeal.τ).loc Cert.ConvFwdReferenceIdeal.main_arg1) = m' ((c.tc : Thread Cert.ConvFwdReferenceIdeal.nD Cert.ConvFwdReferenceIdeal.τ).loc Cert.ConvFwdReferenceIdeal.main_arg1))

def preserves_AttnFwd_AttnFwdIdeal : Prop :=
  True

def algebraic_AttnFwdIdeal_AttnFwdReferenceIdeal_pre_finite_keys [hAttnFwdIdeal : Cert.AttnFwdIdeal.Facts] [hAttnFwdReferenceIdeal : Cert.AttnFwdReferenceIdeal.Facts] [hPre_finite_keys : Cert.Pre_finite_keys.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdReferenceIdeal.nD Cert.AttnFwdReferenceIdeal.τ Cert.AttnFwdReferenceIdeal.sig) → Buf (Elt Ideal) ℓ) (g' : Dev Cert.AttnFwdReferenceIdeal.nD → PrngReg), Pre_AttnFwdIdeal_finite_keys m →
    (∀ c : Dev Cert.AttnFwdIdeal.nD,
      m' ((c.tc : Thread Cert.AttnFwdReferenceIdeal.nD Cert.AttnFwdReferenceIdeal.τ).loc Cert.AttnFwdReferenceIdeal.main_arg0) = m ((c.tc : Thread Cert.AttnFwdIdeal.nD Cert.AttnFwdIdeal.τ).loc Cert.AttnFwdIdeal.main_arg0)
      ∧ m' ((c.tc : Thread Cert.AttnFwdReferenceIdeal.nD Cert.AttnFwdReferenceIdeal.τ).loc Cert.AttnFwdReferenceIdeal.main_arg1) = m ((c.tc : Thread Cert.AttnFwdIdeal.nD Cert.AttnFwdIdeal.τ).loc Cert.AttnFwdIdeal.main_arg1)
      ∧ m' ((c.tc : Thread Cert.AttnFwdReferenceIdeal.nD Cert.AttnFwdReferenceIdeal.τ).loc Cert.AttnFwdReferenceIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v6)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v6) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdReferenceIdeal.defs (F := Ideal)) (onTc (τ := Cert.AttnFwdReferenceIdeal.τ) (Cert.AttnFwdReferenceIdeal.main (F := Ideal))) ⟨m', fun _ => 0, g'⟩ (fun r => ∀ c : Dev Cert.AttnFwdReferenceIdeal.nD,
          r.2.mem ((c.tc : Thread Cert.AttnFwdReferenceIdeal.nD Cert.AttnFwdReferenceIdeal.τ).loc Cert.AttnFwdReferenceIdeal.main_v53) = v0 c
          ∧ r.2.mem ((c.tc : Thread Cert.AttnFwdReferenceIdeal.nD Cert.AttnFwdReferenceIdeal.τ).loc Cert.AttnFwdReferenceIdeal.main_arg0) = m' ((c.tc : Thread Cert.AttnFwdReferenceIdeal.nD Cert.AttnFwdReferenceIdeal.τ).loc Cert.AttnFwdReferenceIdeal.main_arg0)
          ∧ r.2.mem ((c.tc : Thread Cert.AttnFwdReferenceIdeal.nD Cert.AttnFwdReferenceIdeal.τ).loc Cert.AttnFwdReferenceIdeal.main_arg1) = m' ((c.tc : Thread Cert.AttnFwdReferenceIdeal.nD Cert.AttnFwdReferenceIdeal.τ).loc Cert.AttnFwdReferenceIdeal.main_arg1)
          ∧ r.2.mem ((c.tc : Thread Cert.AttnFwdReferenceIdeal.nD Cert.AttnFwdReferenceIdeal.τ).loc Cert.AttnFwdReferenceIdeal.main_arg2) = m' ((c.tc : Thread Cert.AttnFwdReferenceIdeal.nD Cert.AttnFwdReferenceIdeal.τ).loc Cert.AttnFwdReferenceIdeal.main_arg2))

def preserves_SguFwd_SguFwdIdeal : Prop :=
  True

def algebraic_SguFwdIdeal_SguFwdReferenceIdeal [hSguFwdIdeal : Cert.SguFwdIdeal.Facts] [hSguFwdReferenceIdeal : Cert.SguFwdReferenceIdeal.Facts] : Prop :=
  ∀ (m : (ℓ : Loc Cert.SguFwdIdeal.nD Cert.SguFwdIdeal.τ Cert.SguFwdIdeal.sig) → Buf (Elt Ideal) ℓ) (g : Dev Cert.SguFwdIdeal.nD → PrngReg)
    (m' : (ℓ : Loc Cert.SguFwdReferenceIdeal.nD Cert.SguFwdReferenceIdeal.τ Cert.SguFwdReferenceIdeal.sig) → Buf (Elt Ideal) ℓ) (g' : Dev Cert.SguFwdReferenceIdeal.nD → PrngReg), Pre_SguFwdIdeal m →
    (∀ c : Dev Cert.SguFwdIdeal.nD,
      m' ((c.tc : Thread Cert.SguFwdReferenceIdeal.nD Cert.SguFwdReferenceIdeal.τ).loc Cert.SguFwdReferenceIdeal.main_arg0) = m ((c.tc : Thread Cert.SguFwdIdeal.nD Cert.SguFwdIdeal.τ).loc Cert.SguFwdIdeal.main_arg0)
      ∧ m' ((c.tc : Thread Cert.SguFwdReferenceIdeal.nD Cert.SguFwdReferenceIdeal.τ).loc Cert.SguFwdReferenceIdeal.main_arg1) = m ((c.tc : Thread Cert.SguFwdIdeal.nD Cert.SguFwdIdeal.τ).loc Cert.SguFwdIdeal.main_arg1)
      ∧ m' ((c.tc : Thread Cert.SguFwdReferenceIdeal.nD Cert.SguFwdReferenceIdeal.τ).loc Cert.SguFwdReferenceIdeal.main_arg2) = m ((c.tc : Thread Cert.SguFwdIdeal.nD Cert.SguFwdIdeal.τ).loc Cert.SguFwdIdeal.main_arg2)
      ∧ m' ((c.tc : Thread Cert.SguFwdReferenceIdeal.nD Cert.SguFwdReferenceIdeal.τ).loc Cert.SguFwdReferenceIdeal.main_arg3) = m ((c.tc : Thread Cert.SguFwdIdeal.nD Cert.SguFwdIdeal.τ).loc Cert.SguFwdIdeal.main_arg3)
      ∧ m' ((c.tc : Thread Cert.SguFwdReferenceIdeal.nD Cert.SguFwdReferenceIdeal.τ).loc Cert.SguFwdReferenceIdeal.main_arg4) = m ((c.tc : Thread Cert.SguFwdIdeal.nD Cert.SguFwdIdeal.τ).loc Cert.SguFwdIdeal.main_arg4)) →
    ∃ (v0 : (c : Dev Cert.SguFwdIdeal.nD) → Buf (Elt Ideal) ((c.tc : Thread Cert.SguFwdIdeal.nD Cert.SguFwdIdeal.τ).loc Cert.SguFwdIdeal.main_v3)),
      θ_run (Cert.SguFwdIdeal.defs (F := Ideal)) (onTc (τ := Cert.SguFwdIdeal.τ) (Cert.SguFwdIdeal.main (F := Ideal))) ⟨m, fun _ => 0, g⟩ (fun r => ∀ c : Dev Cert.SguFwdIdeal.nD,
          r.2.mem ((c.tc : Thread Cert.SguFwdIdeal.nD Cert.SguFwdIdeal.τ).loc Cert.SguFwdIdeal.main_v3) = v0 c
          ∧ r.2.mem ((c.tc : Thread Cert.SguFwdIdeal.nD Cert.SguFwdIdeal.τ).loc Cert.SguFwdIdeal.main_arg0) = m ((c.tc : Thread Cert.SguFwdIdeal.nD Cert.SguFwdIdeal.τ).loc Cert.SguFwdIdeal.main_arg0)
          ∧ r.2.mem ((c.tc : Thread Cert.SguFwdIdeal.nD Cert.SguFwdIdeal.τ).loc Cert.SguFwdIdeal.main_arg1) = m ((c.tc : Thread Cert.SguFwdIdeal.nD Cert.SguFwdIdeal.τ).loc Cert.SguFwdIdeal.main_arg1)
          ∧ r.2.mem ((c.tc : Thread Cert.SguFwdIdeal.nD Cert.SguFwdIdeal.τ).loc Cert.SguFwdIdeal.main_arg2) = m ((c.tc : Thread Cert.SguFwdIdeal.nD Cert.SguFwdIdeal.τ).loc Cert.SguFwdIdeal.main_arg2)
          ∧ r.2.mem ((c.tc : Thread Cert.SguFwdIdeal.nD Cert.SguFwdIdeal.τ).loc Cert.SguFwdIdeal.main_arg3) = m ((c.tc : Thread Cert.SguFwdIdeal.nD Cert.SguFwdIdeal.τ).loc Cert.SguFwdIdeal.main_arg3)
          ∧ r.2.mem ((c.tc : Thread Cert.SguFwdIdeal.nD Cert.SguFwdIdeal.τ).loc Cert.SguFwdIdeal.main_arg4) = m ((c.tc : Thread Cert.SguFwdIdeal.nD Cert.SguFwdIdeal.τ).loc Cert.SguFwdIdeal.main_arg4))
      ∧ θ_run (Cert.SguFwdReferenceIdeal.defs (F := Ideal)) (onTc (τ := Cert.SguFwdReferenceIdeal.τ) (Cert.SguFwdReferenceIdeal.main (F := Ideal))) ⟨m', fun _ => 0, g'⟩ (fun r => ∀ c : Dev Cert.SguFwdReferenceIdeal.nD,
          r.2.mem ((c.tc : Thread Cert.SguFwdReferenceIdeal.nD Cert.SguFwdReferenceIdeal.τ).loc Cert.SguFwdReferenceIdeal.main_v61) = v0 c
          ∧ r.2.mem ((c.tc : Thread Cert.SguFwdReferenceIdeal.nD Cert.SguFwdReferenceIdeal.τ).loc Cert.SguFwdReferenceIdeal.main_arg0) = m' ((c.tc : Thread Cert.SguFwdReferenceIdeal.nD Cert.SguFwdReferenceIdeal.τ).loc Cert.SguFwdReferenceIdeal.main_arg0)
          ∧ r.2.mem ((c.tc : Thread Cert.SguFwdReferenceIdeal.nD Cert.SguFwdReferenceIdeal.τ).loc Cert.SguFwdReferenceIdeal.main_arg1) = m' ((c.tc : Thread Cert.SguFwdReferenceIdeal.nD Cert.SguFwdReferenceIdeal.τ).loc Cert.SguFwdReferenceIdeal.main_arg1)
          ∧ r.2.mem ((c.tc : Thread Cert.SguFwdReferenceIdeal.nD Cert.SguFwdReferenceIdeal.τ).loc Cert.SguFwdReferenceIdeal.main_arg2) = m' ((c.tc : Thread Cert.SguFwdReferenceIdeal.nD Cert.SguFwdReferenceIdeal.τ).loc Cert.SguFwdReferenceIdeal.main_arg2)
          ∧ r.2.mem ((c.tc : Thread Cert.SguFwdReferenceIdeal.nD Cert.SguFwdReferenceIdeal.τ).loc Cert.SguFwdReferenceIdeal.main_arg3) = m' ((c.tc : Thread Cert.SguFwdReferenceIdeal.nD Cert.SguFwdReferenceIdeal.τ).loc Cert.SguFwdReferenceIdeal.main_arg3)
          ∧ r.2.mem ((c.tc : Thread Cert.SguFwdReferenceIdeal.nD Cert.SguFwdReferenceIdeal.τ).loc Cert.SguFwdReferenceIdeal.main_arg4) = m' ((c.tc : Thread Cert.SguFwdReferenceIdeal.nD Cert.SguFwdReferenceIdeal.τ).loc Cert.SguFwdReferenceIdeal.main_arg4))

def preserves_SlabSum_SlabSumIdeal : Prop :=
  True

def algebraic_SlabSumIdeal_SlabSumReferenceIdeal [hSlabSumIdeal : Cert.SlabSumIdeal.Facts] [hSlabSumReferenceIdeal : Cert.SlabSumReferenceIdeal.Facts] : Prop :=
  ∀ (m : (ℓ : Loc Cert.SlabSumIdeal.nD Cert.SlabSumIdeal.τ Cert.SlabSumIdeal.sig) → Buf (Elt Ideal) ℓ) (g : Dev Cert.SlabSumIdeal.nD → PrngReg)
    (m' : (ℓ : Loc Cert.SlabSumReferenceIdeal.nD Cert.SlabSumReferenceIdeal.τ Cert.SlabSumReferenceIdeal.sig) → Buf (Elt Ideal) ℓ) (g' : Dev Cert.SlabSumReferenceIdeal.nD → PrngReg), Pre_SlabSumIdeal m →
    (∀ c : Dev Cert.SlabSumIdeal.nD,
      m' ((c.tc : Thread Cert.SlabSumReferenceIdeal.nD Cert.SlabSumReferenceIdeal.τ).loc Cert.SlabSumReferenceIdeal.main_arg0) = m ((c.tc : Thread Cert.SlabSumIdeal.nD Cert.SlabSumIdeal.τ).loc Cert.SlabSumIdeal.main_arg0)) →
    ∃ (v0 : (c : Dev Cert.SlabSumIdeal.nD) → Buf (Elt Ideal) ((c.tc : Thread Cert.SlabSumIdeal.nD Cert.SlabSumIdeal.τ).loc Cert.SlabSumIdeal.main_v0)),
      θ_run (Cert.SlabSumIdeal.defs (F := Ideal)) (onTc (τ := Cert.SlabSumIdeal.τ) (Cert.SlabSumIdeal.main (F := Ideal))) ⟨m, fun _ => 0, g⟩ (fun r => ∀ c : Dev Cert.SlabSumIdeal.nD,
          r.2.mem ((c.tc : Thread Cert.SlabSumIdeal.nD Cert.SlabSumIdeal.τ).loc Cert.SlabSumIdeal.main_v0) = v0 c
          ∧ r.2.mem ((c.tc : Thread Cert.SlabSumIdeal.nD Cert.SlabSumIdeal.τ).loc Cert.SlabSumIdeal.main_arg0) = m ((c.tc : Thread Cert.SlabSumIdeal.nD Cert.SlabSumIdeal.τ).loc Cert.SlabSumIdeal.main_arg0))
      ∧ θ_run (Cert.SlabSumReferenceIdeal.defs (F := Ideal)) (onTc (τ := Cert.SlabSumReferenceIdeal.τ) (Cert.SlabSumReferenceIdeal.main (F := Ideal))) ⟨m', fun _ => 0, g'⟩ (fun r => ∀ c : Dev Cert.SlabSumReferenceIdeal.nD,
          r.2.mem ((c.tc : Thread Cert.SlabSumReferenceIdeal.nD Cert.SlabSumReferenceIdeal.τ).loc Cert.SlabSumReferenceIdeal.main_v0) = v0 c
          ∧ r.2.mem ((c.tc : Thread Cert.SlabSumReferenceIdeal.nD Cert.SlabSumReferenceIdeal.τ).loc Cert.SlabSumReferenceIdeal.main_arg0) = m' ((c.tc : Thread Cert.SlabSumReferenceIdeal.nD Cert.SlabSumReferenceIdeal.τ).loc Cert.SlabSumReferenceIdeal.main_arg0))

def Claim : Prop :=
  ∃ (hKernel : Cert.Kernel.Facts) (hKernelIdeal : Cert.KernelIdeal.Facts) (hReferenceIdeal : Cert.ReferenceIdeal.Facts) (hFfDown : Cert.FfDown.Facts) (hFfDownIdeal : Cert.FfDownIdeal.Facts) (hFfDownReferenceIdeal : Cert.FfDownReferenceIdeal.Facts) (hFfUp : Cert.FfUp.Facts) (hFfUpIdeal : Cert.FfUpIdeal.Facts) (hFfUpReferenceIdeal : Cert.FfUpReferenceIdeal.Facts) (hNtFf : Cert.NtFf.Facts) (hNtFfIdeal : Cert.NtFfIdeal.Facts) (hNtFfReferenceIdeal : Cert.NtFfReferenceIdeal.Facts) (hTnFf : Cert.TnFf.Facts) (hTnFfIdeal : Cert.TnFfIdeal.Facts) (hTnFfReferenceIdeal : Cert.TnFfReferenceIdeal.Facts) (hTnFfDown : Cert.TnFfDown.Facts) (hTnFfDownIdeal : Cert.TnFfDownIdeal.Facts) (hTnFfDownReferenceIdeal : Cert.TnFfDownReferenceIdeal.Facts) (hNtGate : Cert.NtGate.Facts) (hNtGateIdeal : Cert.NtGateIdeal.Facts) (hNtGateReferenceIdeal : Cert.NtGateReferenceIdeal.Facts) (hTnGate : Cert.TnGate.Facts) (hTnGateIdeal : Cert.TnGateIdeal.Facts) (hTnGateReferenceIdeal : Cert.TnGateReferenceIdeal.Facts) (hMergeBwd : Cert.MergeBwd.Facts) (hMergeBwdIdeal : Cert.MergeBwdIdeal.Facts) (hMergeBwdReferenceIdeal : Cert.MergeBwdReferenceIdeal.Facts) (hMergeFwd : Cert.MergeFwd.Facts) (hMergeFwdIdeal : Cert.MergeFwdIdeal.Facts) (hMergeFwdReferenceIdeal : Cert.MergeFwdReferenceIdeal.Facts) (hMmGate : Cert.MmGate.Facts) (hMmGateIdeal : Cert.MmGateIdeal.Facts) (hMmGateReferenceIdeal : Cert.MmGateReferenceIdeal.Facts) (hMmFfDown : Cert.MmFfDown.Facts) (hMmFfDownIdeal : Cert.MmFfDownIdeal.Facts) (hMmFfDownReferenceIdeal : Cert.MmFfDownReferenceIdeal.Facts) (hMmIn : Cert.MmIn.Facts) (hMmInIdeal : Cert.MmInIdeal.Facts) (hMmInReferenceIdeal : Cert.MmInReferenceIdeal.Facts) (hNtIn : Cert.NtIn.Facts) (hNtInIdeal : Cert.NtInIdeal.Facts) (hNtInReferenceIdeal : Cert.NtInReferenceIdeal.Facts) (hTnIn : Cert.TnIn.Facts) (hTnInIdeal : Cert.TnInIdeal.Facts) (hTnInReferenceIdeal : Cert.TnInReferenceIdeal.Facts) (hMmOut : Cert.MmOut.Facts) (hMmOutIdeal : Cert.MmOutIdeal.Facts) (hMmOutReferenceIdeal : Cert.MmOutReferenceIdeal.Facts) (hNtOut : Cert.NtOut.Facts) (hNtOutIdeal : Cert.NtOutIdeal.Facts) (hNtOutReferenceIdeal : Cert.NtOutReferenceIdeal.Facts) (hTnOut : Cert.TnOut.Facts) (hTnOutIdeal : Cert.TnOutIdeal.Facts) (hTnOutReferenceIdeal : Cert.TnOutReferenceIdeal.Facts) (hMmAttn : Cert.MmAttn.Facts) (hMmAttnIdeal : Cert.MmAttnIdeal.Facts) (hMmAttnReferenceIdeal : Cert.MmAttnReferenceIdeal.Facts) (hNtAttn : Cert.NtAttn.Facts) (hNtAttnIdeal : Cert.NtAttnIdeal.Facts) (hNtAttnReferenceIdeal : Cert.NtAttnReferenceIdeal.Facts) (hTnAttn : Cert.TnAttn.Facts) (hTnAttnIdeal : Cert.TnAttnIdeal.Facts) (hTnAttnReferenceIdeal : Cert.TnAttnReferenceIdeal.Facts) (hMmBranch : Cert.MmBranch.Facts) (hMmBranchIdeal : Cert.MmBranchIdeal.Facts) (hMmBranchReferenceIdeal : Cert.MmBranchReferenceIdeal.Facts) (hNtBranch : Cert.NtBranch.Facts) (hNtBranchIdeal : Cert.NtBranchIdeal.Facts) (hNtBranchReferenceIdeal : Cert.NtBranchReferenceIdeal.Facts) (hTnBranch : Cert.TnBranch.Facts) (hTnBranchIdeal : Cert.TnBranchIdeal.Facts) (hTnBranchReferenceIdeal : Cert.TnBranchReferenceIdeal.Facts) (hAdaFwd : Cert.AdaFwd.Facts) (hAdaFwdIdeal : Cert.AdaFwdIdeal.Facts) (hAdaFwdReferenceIdeal : Cert.AdaFwdReferenceIdeal.Facts) (hAdaBwd : Cert.AdaBwd.Facts) (hAdaBwdIdeal : Cert.AdaBwdIdeal.Facts) (hAdaBwdReferenceIdeal : Cert.AdaBwdReferenceIdeal.Facts) (hAdamAda : Cert.AdamAda.Facts) (hAdamAdaIdeal : Cert.AdamAdaIdeal.Facts) (hAdamAdaReferenceIdeal : Cert.AdamAdaReferenceIdeal.Facts) (hAdamSmall : Cert.AdamSmall.Facts) (hAdamSmallIdeal : Cert.AdamSmallIdeal.Facts) (hAdamSmallReferenceIdeal : Cert.AdamSmallReferenceIdeal.Facts) (hAdamIn : Cert.AdamIn.Facts) (hAdamInIdeal : Cert.AdamInIdeal.Facts) (hAdamInReferenceIdeal : Cert.AdamInReferenceIdeal.Facts) (hCctxGrad : Cert.CctxGrad.Facts) (hCctxGradIdeal : Cert.CctxGradIdeal.Facts) (hCctxGradReferenceIdeal : Cert.CctxGradReferenceIdeal.Facts) (hModBwd : Cert.ModBwd.Facts) (hModBwdIdeal : Cert.ModBwdIdeal.Facts) (hModBwdReferenceIdeal : Cert.ModBwdReferenceIdeal.Facts) (hModulate : Cert.Modulate.Facts) (hModulateIdeal : Cert.ModulateIdeal.Facts) (hModulateReferenceIdeal : Cert.ModulateReferenceIdeal.Facts) (hLnBwd : Cert.LnBwd.Facts) (hLnBwdIdeal : Cert.LnBwdIdeal.Facts) (hLnBwdReferenceIdeal : Cert.LnBwdReferenceIdeal.Facts) (hResidLn : Cert.ResidLn.Facts) (hResidLnIdeal : Cert.ResidLnIdeal.Facts) (hResidLnReferenceIdeal : Cert.ResidLnReferenceIdeal.Facts) (hLossHead : Cert.LossHead.Facts) (hLossHeadIdeal : Cert.LossHeadIdeal.Facts) (hLossHeadReferenceIdeal : Cert.LossHeadReferenceIdeal.Facts) (hConvFwd : Cert.ConvFwd.Facts) (hConvFwdIdeal : Cert.ConvFwdIdeal.Facts) (hConvFwdReferenceIdeal : Cert.ConvFwdReferenceIdeal.Facts) (hAttnFwd : Cert.AttnFwd.Facts) (hAttnFwdIdeal : Cert.AttnFwdIdeal.Facts) (hAttnFwdReferenceIdeal : Cert.AttnFwdReferenceIdeal.Facts) (hSguFwd : Cert.SguFwd.Facts) (hSguFwdIdeal : Cert.SguFwdIdeal.Facts) (hSguFwdReferenceIdeal : Cert.SguFwdReferenceIdeal.Facts) (hSlabSum : Cert.SlabSum.Facts) (hSlabSumIdeal : Cert.SlabSumIdeal.Facts) (hSlabSumReferenceIdeal : Cert.SlabSumReferenceIdeal.Facts) (hPre_finite : Cert.Pre_finite.Facts) (hPre_finite_ff : Cert.Pre_finite_ff.Facts) (hPre_finite_cctx : Cert.Pre_finite_cctx.Facts) (hPre_finite_ln : Cert.Pre_finite_ln.Facts) (hPre_finite_keys : Cert.Pre_finite_keys.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfDown (hFfDown := hFfDown)
    ∧ quiescent_FfDownIdeal (hFfDownIdeal := hFfDownIdeal)
    ∧ quiescent_FfDownIdeal_pre_finite_ff (hFfDownIdeal := hFfDownIdeal) (hPre_finite_ff := hPre_finite_ff)
    ∧ quiescent_FfDownReferenceIdeal (hFfDownReferenceIdeal := hFfDownReferenceIdeal)
    ∧ quiescent_FfDownReferenceIdeal_pre_finite_ff (hFfDownReferenceIdeal := hFfDownReferenceIdeal) (hPre_finite_ff := hPre_finite_ff)
    ∧ quiescent_FfUp (hFfUp := hFfUp)
    ∧ quiescent_FfUpIdeal (hFfUpIdeal := hFfUpIdeal)
    ∧ quiescent_FfUpReferenceIdeal (hFfUpReferenceIdeal := hFfUpReferenceIdeal)
    ∧ quiescent_NtFf (hNtFf := hNtFf)
    ∧ quiescent_NtFfIdeal (hNtFfIdeal := hNtFfIdeal)
    ∧ quiescent_NtFfReferenceIdeal (hNtFfReferenceIdeal := hNtFfReferenceIdeal)
    ∧ quiescent_TnFf (hTnFf := hTnFf)
    ∧ quiescent_TnFfIdeal (hTnFfIdeal := hTnFfIdeal)
    ∧ quiescent_TnFfReferenceIdeal (hTnFfReferenceIdeal := hTnFfReferenceIdeal)
    ∧ quiescent_TnFfDown (hTnFfDown := hTnFfDown)
    ∧ quiescent_TnFfDownIdeal (hTnFfDownIdeal := hTnFfDownIdeal)
    ∧ quiescent_TnFfDownReferenceIdeal (hTnFfDownReferenceIdeal := hTnFfDownReferenceIdeal)
    ∧ quiescent_NtGate (hNtGate := hNtGate)
    ∧ quiescent_NtGateIdeal (hNtGateIdeal := hNtGateIdeal)
    ∧ quiescent_NtGateReferenceIdeal (hNtGateReferenceIdeal := hNtGateReferenceIdeal)
    ∧ quiescent_TnGate (hTnGate := hTnGate)
    ∧ quiescent_TnGateIdeal (hTnGateIdeal := hTnGateIdeal)
    ∧ quiescent_TnGateReferenceIdeal (hTnGateReferenceIdeal := hTnGateReferenceIdeal)
    ∧ quiescent_MergeBwd (hMergeBwd := hMergeBwd)
    ∧ quiescent_MergeBwdIdeal (hMergeBwdIdeal := hMergeBwdIdeal)
    ∧ quiescent_MergeBwdReferenceIdeal (hMergeBwdReferenceIdeal := hMergeBwdReferenceIdeal)
    ∧ quiescent_MergeFwd (hMergeFwd := hMergeFwd)
    ∧ quiescent_MergeFwdIdeal (hMergeFwdIdeal := hMergeFwdIdeal)
    ∧ quiescent_MergeFwdReferenceIdeal (hMergeFwdReferenceIdeal := hMergeFwdReferenceIdeal)
    ∧ quiescent_MmGate (hMmGate := hMmGate)
    ∧ quiescent_MmGateIdeal (hMmGateIdeal := hMmGateIdeal)
    ∧ quiescent_MmGateReferenceIdeal (hMmGateReferenceIdeal := hMmGateReferenceIdeal)
    ∧ quiescent_MmFfDown (hMmFfDown := hMmFfDown)
    ∧ quiescent_MmFfDownIdeal (hMmFfDownIdeal := hMmFfDownIdeal)
    ∧ quiescent_MmFfDownReferenceIdeal (hMmFfDownReferenceIdeal := hMmFfDownReferenceIdeal)
    ∧ quiescent_MmIn (hMmIn := hMmIn)
    ∧ quiescent_MmInIdeal (hMmInIdeal := hMmInIdeal)
    ∧ quiescent_MmInReferenceIdeal (hMmInReferenceIdeal := hMmInReferenceIdeal)
    ∧ quiescent_NtIn (hNtIn := hNtIn)
    ∧ quiescent_NtInIdeal (hNtInIdeal := hNtInIdeal)
    ∧ quiescent_NtInReferenceIdeal (hNtInReferenceIdeal := hNtInReferenceIdeal)
    ∧ quiescent_TnIn (hTnIn := hTnIn)
    ∧ quiescent_TnInIdeal (hTnInIdeal := hTnInIdeal)
    ∧ quiescent_TnInReferenceIdeal (hTnInReferenceIdeal := hTnInReferenceIdeal)
    ∧ quiescent_MmOut (hMmOut := hMmOut)
    ∧ quiescent_MmOutIdeal (hMmOutIdeal := hMmOutIdeal)
    ∧ quiescent_MmOutReferenceIdeal (hMmOutReferenceIdeal := hMmOutReferenceIdeal)
    ∧ quiescent_NtOut (hNtOut := hNtOut)
    ∧ quiescent_NtOutIdeal (hNtOutIdeal := hNtOutIdeal)
    ∧ quiescent_NtOutReferenceIdeal (hNtOutReferenceIdeal := hNtOutReferenceIdeal)
    ∧ quiescent_TnOut (hTnOut := hTnOut)
    ∧ quiescent_TnOutIdeal (hTnOutIdeal := hTnOutIdeal)
    ∧ quiescent_TnOutReferenceIdeal (hTnOutReferenceIdeal := hTnOutReferenceIdeal)
    ∧ quiescent_MmAttn (hMmAttn := hMmAttn)
    ∧ quiescent_MmAttnIdeal (hMmAttnIdeal := hMmAttnIdeal)
    ∧ quiescent_MmAttnReferenceIdeal (hMmAttnReferenceIdeal := hMmAttnReferenceIdeal)
    ∧ quiescent_NtAttn (hNtAttn := hNtAttn)
    ∧ quiescent_NtAttnIdeal (hNtAttnIdeal := hNtAttnIdeal)
    ∧ quiescent_NtAttnReferenceIdeal (hNtAttnReferenceIdeal := hNtAttnReferenceIdeal)
    ∧ quiescent_TnAttn (hTnAttn := hTnAttn)
    ∧ quiescent_TnAttnIdeal (hTnAttnIdeal := hTnAttnIdeal)
    ∧ quiescent_TnAttnReferenceIdeal (hTnAttnReferenceIdeal := hTnAttnReferenceIdeal)
    ∧ quiescent_MmBranch (hMmBranch := hMmBranch)
    ∧ quiescent_MmBranchIdeal (hMmBranchIdeal := hMmBranchIdeal)
    ∧ quiescent_MmBranchReferenceIdeal (hMmBranchReferenceIdeal := hMmBranchReferenceIdeal)
    ∧ quiescent_NtBranch (hNtBranch := hNtBranch)
    ∧ quiescent_NtBranchIdeal (hNtBranchIdeal := hNtBranchIdeal)
    ∧ quiescent_NtBranchReferenceIdeal (hNtBranchReferenceIdeal := hNtBranchReferenceIdeal)
    ∧ quiescent_TnBranch (hTnBranch := hTnBranch)
    ∧ quiescent_TnBranchIdeal (hTnBranchIdeal := hTnBranchIdeal)
    ∧ quiescent_TnBranchReferenceIdeal (hTnBranchReferenceIdeal := hTnBranchReferenceIdeal)
    ∧ quiescent_AdaFwd (hAdaFwd := hAdaFwd)
    ∧ quiescent_AdaFwdIdeal (hAdaFwdIdeal := hAdaFwdIdeal)
    ∧ quiescent_AdaFwdReferenceIdeal (hAdaFwdReferenceIdeal := hAdaFwdReferenceIdeal)
    ∧ quiescent_AdaBwd (hAdaBwd := hAdaBwd)
    ∧ quiescent_AdaBwdIdeal (hAdaBwdIdeal := hAdaBwdIdeal)
    ∧ quiescent_AdaBwdReferenceIdeal (hAdaBwdReferenceIdeal := hAdaBwdReferenceIdeal)
    ∧ quiescent_AdamAda (hAdamAda := hAdamAda)
    ∧ quiescent_AdamAdaIdeal (hAdamAdaIdeal := hAdamAdaIdeal)
    ∧ quiescent_AdamAdaReferenceIdeal (hAdamAdaReferenceIdeal := hAdamAdaReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_CctxGrad (hCctxGrad := hCctxGrad)
    ∧ quiescent_CctxGradIdeal (hCctxGradIdeal := hCctxGradIdeal)
    ∧ quiescent_CctxGradIdeal_pre_finite_cctx (hCctxGradIdeal := hCctxGradIdeal) (hPre_finite_cctx := hPre_finite_cctx)
    ∧ quiescent_CctxGradReferenceIdeal (hCctxGradReferenceIdeal := hCctxGradReferenceIdeal)
    ∧ quiescent_CctxGradReferenceIdeal_pre_finite_cctx (hCctxGradReferenceIdeal := hCctxGradReferenceIdeal) (hPre_finite_cctx := hPre_finite_cctx)
    ∧ quiescent_ModBwd (hModBwd := hModBwd)
    ∧ quiescent_ModBwdIdeal (hModBwdIdeal := hModBwdIdeal)
    ∧ quiescent_ModBwdReferenceIdeal (hModBwdReferenceIdeal := hModBwdReferenceIdeal)
    ∧ quiescent_Modulate (hModulate := hModulate)
    ∧ quiescent_ModulateIdeal (hModulateIdeal := hModulateIdeal)
    ∧ quiescent_ModulateReferenceIdeal (hModulateReferenceIdeal := hModulateReferenceIdeal)
    ∧ quiescent_LnBwd (hLnBwd := hLnBwd)
    ∧ quiescent_LnBwdIdeal (hLnBwdIdeal := hLnBwdIdeal)
    ∧ quiescent_LnBwdIdeal_pre_finite_ln (hLnBwdIdeal := hLnBwdIdeal) (hPre_finite_ln := hPre_finite_ln)
    ∧ quiescent_LnBwdReferenceIdeal (hLnBwdReferenceIdeal := hLnBwdReferenceIdeal)
    ∧ quiescent_LnBwdReferenceIdeal_pre_finite_ln (hLnBwdReferenceIdeal := hLnBwdReferenceIdeal) (hPre_finite_ln := hPre_finite_ln)
    ∧ quiescent_ResidLn (hResidLn := hResidLn)
    ∧ quiescent_ResidLnIdeal (hResidLnIdeal := hResidLnIdeal)
    ∧ quiescent_ResidLnReferenceIdeal (hResidLnReferenceIdeal := hResidLnReferenceIdeal)
    ∧ quiescent_LossHead (hLossHead := hLossHead)
    ∧ quiescent_LossHeadIdeal (hLossHeadIdeal := hLossHeadIdeal)
    ∧ quiescent_LossHeadReferenceIdeal (hLossHeadReferenceIdeal := hLossHeadReferenceIdeal)
    ∧ quiescent_ConvFwd (hConvFwd := hConvFwd)
    ∧ quiescent_ConvFwdIdeal (hConvFwdIdeal := hConvFwdIdeal)
    ∧ quiescent_ConvFwdReferenceIdeal (hConvFwdReferenceIdeal := hConvFwdReferenceIdeal)
    ∧ quiescent_AttnFwd (hAttnFwd := hAttnFwd)
    ∧ quiescent_AttnFwdIdeal (hAttnFwdIdeal := hAttnFwdIdeal)
    ∧ quiescent_AttnFwdIdeal_pre_finite_keys (hAttnFwdIdeal := hAttnFwdIdeal) (hPre_finite_keys := hPre_finite_keys)
    ∧ quiescent_AttnFwdReferenceIdeal (hAttnFwdReferenceIdeal := hAttnFwdReferenceIdeal)
    ∧ quiescent_AttnFwdReferenceIdeal_pre_finite_keys (hAttnFwdReferenceIdeal := hAttnFwdReferenceIdeal) (hPre_finite_keys := hPre_finite_keys)
    ∧ quiescent_SguFwd (hSguFwd := hSguFwd)
    ∧ quiescent_SguFwdIdeal (hSguFwdIdeal := hSguFwdIdeal)
    ∧ quiescent_SguFwdReferenceIdeal (hSguFwdReferenceIdeal := hSguFwdReferenceIdeal)
    ∧ quiescent_SlabSum (hSlabSum := hSlabSum)
    ∧ quiescent_SlabSumIdeal (hSlabSumIdeal := hSlabSumIdeal)
    ∧ quiescent_SlabSumReferenceIdeal (hSlabSumReferenceIdeal := hSlabSumReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfDown_FfDownIdeal
    ∧ algebraic_FfDownIdeal_FfDownReferenceIdeal_pre_finite_ff (hFfDownIdeal := hFfDownIdeal) (hFfDownReferenceIdeal := hFfDownReferenceIdeal) (hPre_finite_ff := hPre_finite_ff)
    ∧ preserves_FfUp_FfUpIdeal
    ∧ algebraic_FfUpIdeal_FfUpReferenceIdeal (hFfUpIdeal := hFfUpIdeal) (hFfUpReferenceIdeal := hFfUpReferenceIdeal)
    ∧ preserves_NtFf_NtFfIdeal
    ∧ algebraic_NtFfIdeal_NtFfReferenceIdeal (hNtFfIdeal := hNtFfIdeal) (hNtFfReferenceIdeal := hNtFfReferenceIdeal)
    ∧ preserves_TnFf_TnFfIdeal
    ∧ algebraic_TnFfIdeal_TnFfReferenceIdeal (hTnFfIdeal := hTnFfIdeal) (hTnFfReferenceIdeal := hTnFfReferenceIdeal)
    ∧ preserves_TnFfDown_TnFfDownIdeal
    ∧ algebraic_TnFfDownIdeal_TnFfDownReferenceIdeal (hTnFfDownIdeal := hTnFfDownIdeal) (hTnFfDownReferenceIdeal := hTnFfDownReferenceIdeal)
    ∧ preserves_NtGate_NtGateIdeal
    ∧ algebraic_NtGateIdeal_NtGateReferenceIdeal (hNtGateIdeal := hNtGateIdeal) (hNtGateReferenceIdeal := hNtGateReferenceIdeal)
    ∧ preserves_TnGate_TnGateIdeal
    ∧ algebraic_TnGateIdeal_TnGateReferenceIdeal (hTnGateIdeal := hTnGateIdeal) (hTnGateReferenceIdeal := hTnGateReferenceIdeal)
    ∧ preserves_MergeBwd_MergeBwdIdeal
    ∧ algebraic_MergeBwdIdeal_MergeBwdReferenceIdeal (hMergeBwdIdeal := hMergeBwdIdeal) (hMergeBwdReferenceIdeal := hMergeBwdReferenceIdeal)
    ∧ preserves_MergeFwd_MergeFwdIdeal
    ∧ algebraic_MergeFwdIdeal_MergeFwdReferenceIdeal (hMergeFwdIdeal := hMergeFwdIdeal) (hMergeFwdReferenceIdeal := hMergeFwdReferenceIdeal)
    ∧ preserves_MmGate_MmGateIdeal
    ∧ algebraic_MmGateIdeal_MmGateReferenceIdeal (hMmGateIdeal := hMmGateIdeal) (hMmGateReferenceIdeal := hMmGateReferenceIdeal)
    ∧ preserves_MmFfDown_MmFfDownIdeal
    ∧ algebraic_MmFfDownIdeal_MmFfDownReferenceIdeal (hMmFfDownIdeal := hMmFfDownIdeal) (hMmFfDownReferenceIdeal := hMmFfDownReferenceIdeal)
    ∧ preserves_MmIn_MmInIdeal
    ∧ algebraic_MmInIdeal_MmInReferenceIdeal (hMmInIdeal := hMmInIdeal) (hMmInReferenceIdeal := hMmInReferenceIdeal)
    ∧ preserves_NtIn_NtInIdeal
    ∧ algebraic_NtInIdeal_NtInReferenceIdeal (hNtInIdeal := hNtInIdeal) (hNtInReferenceIdeal := hNtInReferenceIdeal)
    ∧ preserves_TnIn_TnInIdeal
    ∧ algebraic_TnInIdeal_TnInReferenceIdeal (hTnInIdeal := hTnInIdeal) (hTnInReferenceIdeal := hTnInReferenceIdeal)
    ∧ preserves_MmOut_MmOutIdeal
    ∧ algebraic_MmOutIdeal_MmOutReferenceIdeal (hMmOutIdeal := hMmOutIdeal) (hMmOutReferenceIdeal := hMmOutReferenceIdeal)
    ∧ preserves_NtOut_NtOutIdeal
    ∧ algebraic_NtOutIdeal_NtOutReferenceIdeal (hNtOutIdeal := hNtOutIdeal) (hNtOutReferenceIdeal := hNtOutReferenceIdeal)
    ∧ preserves_TnOut_TnOutIdeal
    ∧ algebraic_TnOutIdeal_TnOutReferenceIdeal (hTnOutIdeal := hTnOutIdeal) (hTnOutReferenceIdeal := hTnOutReferenceIdeal)
    ∧ preserves_MmAttn_MmAttnIdeal
    ∧ algebraic_MmAttnIdeal_MmAttnReferenceIdeal (hMmAttnIdeal := hMmAttnIdeal) (hMmAttnReferenceIdeal := hMmAttnReferenceIdeal)
    ∧ preserves_NtAttn_NtAttnIdeal
    ∧ algebraic_NtAttnIdeal_NtAttnReferenceIdeal (hNtAttnIdeal := hNtAttnIdeal) (hNtAttnReferenceIdeal := hNtAttnReferenceIdeal)
    ∧ preserves_TnAttn_TnAttnIdeal
    ∧ algebraic_TnAttnIdeal_TnAttnReferenceIdeal (hTnAttnIdeal := hTnAttnIdeal) (hTnAttnReferenceIdeal := hTnAttnReferenceIdeal)
    ∧ preserves_MmBranch_MmBranchIdeal
    ∧ algebraic_MmBranchIdeal_MmBranchReferenceIdeal (hMmBranchIdeal := hMmBranchIdeal) (hMmBranchReferenceIdeal := hMmBranchReferenceIdeal)
    ∧ preserves_NtBranch_NtBranchIdeal
    ∧ algebraic_NtBranchIdeal_NtBranchReferenceIdeal (hNtBranchIdeal := hNtBranchIdeal) (hNtBranchReferenceIdeal := hNtBranchReferenceIdeal)
    ∧ preserves_TnBranch_TnBranchIdeal
    ∧ algebraic_TnBranchIdeal_TnBranchReferenceIdeal (hTnBranchIdeal := hTnBranchIdeal) (hTnBranchReferenceIdeal := hTnBranchReferenceIdeal)
    ∧ preserves_AdaFwd_AdaFwdIdeal
    ∧ algebraic_AdaFwdIdeal_AdaFwdReferenceIdeal (hAdaFwdIdeal := hAdaFwdIdeal) (hAdaFwdReferenceIdeal := hAdaFwdReferenceIdeal)
    ∧ preserves_AdaBwd_AdaBwdIdeal
    ∧ algebraic_AdaBwdIdeal_AdaBwdReferenceIdeal (hAdaBwdIdeal := hAdaBwdIdeal) (hAdaBwdReferenceIdeal := hAdaBwdReferenceIdeal)
    ∧ preserves_AdamAda_AdamAdaIdeal
    ∧ algebraic_AdamAdaIdeal_AdamAdaReferenceIdeal (hAdamAdaIdeal := hAdamAdaIdeal) (hAdamAdaReferenceIdeal := hAdamAdaReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_CctxGrad_CctxGradIdeal
    ∧ algebraic_CctxGradIdeal_CctxGradReferenceIdeal_pre_finite_cctx (hCctxGradIdeal := hCctxGradIdeal) (hCctxGradReferenceIdeal := hCctxGradReferenceIdeal) (hPre_finite_cctx := hPre_finite_cctx)
    ∧ preserves_ModBwd_ModBwdIdeal
    ∧ algebraic_ModBwdIdeal_ModBwdReferenceIdeal (hModBwdIdeal := hModBwdIdeal) (hModBwdReferenceIdeal := hModBwdReferenceIdeal)
    ∧ preserves_Modulate_ModulateIdeal
    ∧ algebraic_ModulateIdeal_ModulateReferenceIdeal (hModulateIdeal := hModulateIdeal) (hModulateReferenceIdeal := hModulateReferenceIdeal)
    ∧ preserves_LnBwd_LnBwdIdeal
    ∧ algebraic_LnBwdIdeal_LnBwdReferenceIdeal_pre_finite_ln (hLnBwdIdeal := hLnBwdIdeal) (hLnBwdReferenceIdeal := hLnBwdReferenceIdeal) (hPre_finite_ln := hPre_finite_ln)
    ∧ preserves_ResidLn_ResidLnIdeal
    ∧ algebraic_ResidLnIdeal_ResidLnReferenceIdeal (hResidLnIdeal := hResidLnIdeal) (hResidLnReferenceIdeal := hResidLnReferenceIdeal)
    ∧ preserves_LossHead_LossHeadIdeal
    ∧ algebraic_LossHeadIdeal_LossHeadReferenceIdeal (hLossHeadIdeal := hLossHeadIdeal) (hLossHeadReferenceIdeal := hLossHeadReferenceIdeal)
    ∧ preserves_ConvFwd_ConvFwdIdeal
    ∧ algebraic_ConvFwdIdeal_ConvFwdReferenceIdeal (hConvFwdIdeal := hConvFwdIdeal) (hConvFwdReferenceIdeal := hConvFwdReferenceIdeal)
    ∧ preserves_AttnFwd_AttnFwdIdeal
    ∧ algebraic_AttnFwdIdeal_AttnFwdReferenceIdeal_pre_finite_keys (hAttnFwdIdeal := hAttnFwdIdeal) (hAttnFwdReferenceIdeal := hAttnFwdReferenceIdeal) (hPre_finite_keys := hPre_finite_keys)
    ∧ preserves_SguFwd_SguFwdIdeal
    ∧ algebraic_SguFwdIdeal_SguFwdReferenceIdeal (hSguFwdIdeal := hSguFwdIdeal) (hSguFwdReferenceIdeal := hSguFwdReferenceIdeal)
    ∧ preserves_SlabSum_SlabSumIdeal
    ∧ algebraic_SlabSumIdeal_SlabSumReferenceIdeal (hSlabSumIdeal := hSlabSumIdeal) (hSlabSumReferenceIdeal := hSlabSumReferenceIdeal)
-- ==== Pre_finite.lean ====
abbrev S2304x1024 : Shape := ⟨2, ![2304, 1024]⟩
abbrev S2304x256 : Shape := ⟨2, ![2304, 256]⟩
abbrev S_ : Shape := ⟨0, ![]⟩

class Facts : Prop where
  bcast_S_S2304x1024 : S_.BroadcastsInDim S2304x1024 (![] : Fin 0 → Fin S2304x1024.rank)
  bitsLt_bf16_f32 : FTy.bits .bf16 < FTy.bits .f32
  bcast_S_S2304x256 : S_.BroadcastsInDim S2304x256 (![] : Fin 0 → Fin S2304x256.rank)

variable [Facts]

def fn {F : FTy → Type} [FloatOps F] (main_arg0 : FVec F S2304x1024 .f32) (main_arg1 : FVec F S2304x256 .bf16) (main_arg2 : FVec F S2304x256 .bf16) (main_arg3 : FVec F S2304x1024 .bf16) : IVec S2304x1024 1 × IVec S2304x256 1 :=
  let main_v0 : FVec F S2304x1024 .f32 := Host.absf main_arg0
  let main_cst : FVec F S_ .f32 := constant S_ .f32 0x7F800000#32
  let main_v1 : FVec F S2304x1024 .f32 := broadcastInDim S2304x1024 ![] bcast_S_S2304x1024 main_cst
  let main_v2 : IVec S2304x1024 1 := cmpf .olt main_v0 main_v1
  let main_v3 : FVec F S2304x256 .f32 := (extf .f32 · bitsLt_bf16_f32) main_arg1
  let main_v4 : FVec F S2304x256 .f32 := Host.absf main_v3
  let main_cst_0 : FVec F S_ .f32 := constant S_ .f32 0x7F800000#32
  let main_v5 : FVec F S2304x256 .f32 := broadcastInDim S2304x256 ![] bcast_S_S2304x256 main_cst_0
  let main_v6 : IVec S2304x256 1 := cmpf .olt main_v4 main_v5
  (main_v2, main_v6)
-- ==== Pre_finite_cctx.lean ====
abbrev S8x16x128 : Shape := ⟨3, ![8, 16, 128]⟩
abbrev S16x128 : Shape := ⟨2, ![16, 128]⟩
abbrev S_ : Shape := ⟨0, ![]⟩

class Facts : Prop where
  bcast_S_S8x16x128 : S_.BroadcastsInDim S8x16x128 (![] : Fin 0 → Fin S8x16x128.rank)
  bcast_S_S16x128 : S_.BroadcastsInDim S16x128 (![] : Fin 0 → Fin S16x128.rank)

variable [Facts]

def fn {F : FTy → Type} [FloatOps F] (main_arg0 : FVec F S8x16x128 .f32) (main_arg1 : FVec F S16x128 .f32) : IVec S8x16x128 1 × IVec S16x128 1 :=
  let main_v0 : FVec F S8x16x128 .f32 := Host.absf main_arg0
  let main_cst : FVec F S_ .f32 := constant S_ .f32 0x7F800000#32
  let main_v1 : FVec F S8x16x128 .f32 := broadcastInDim S8x16x128 ![] bcast_S_S8x16x128 main_cst
  let main_v2 : IVec S8x16x128 1 := cmpf .olt main_v0 main_v1
  let main_v3 : FVec F S16x128 .f32 := Host.absf main_arg1
  let main_cst_0 : FVec F S_ .f32 := constant S_ .f32 0x7F800000#32
  let main_v4 : FVec F S16x128 .f32 := broadcastInDim S16x128 ![] bcast_S_S16x128 main_cst_0
  let main_v5 : IVec S16x128 1 := cmpf .olt main_v3 main_v4
  (main_v2, main_v5)
-- ==== Pre_finite_ff.lean ====
abbrev S2304x2048 : Shape := ⟨2, ![2304, 2048]⟩
abbrev S4x1408x2048 : Shape := ⟨3, ![4, 1408, 2048]⟩
abbrev S2304x5632 : Shape := ⟨2, ![2304, 5632]⟩
abbrev S_ : Shape := ⟨0, ![]⟩

class Facts : Prop where
  bitsLt_bf16_f32 : FTy.bits .bf16 < FTy.bits .f32
  bcast_S_S2304x2048 : S_.BroadcastsInDim S2304x2048 (![] : Fin 0 → Fin S2304x2048.rank)
  bcast_S_S4x1408x2048 : S_.BroadcastsInDim S4x1408x2048 (![] : Fin 0 → Fin S4x1408x2048.rank)
  bcast_S_S2304x5632 : S_.BroadcastsInDim S2304x5632 (![] : Fin 0 → Fin S2304x5632.rank)

variable [Facts]

def fn {F : FTy → Type} [FloatOps F] (main_arg0 : FVec F S2304x2048 .bf16) (main_arg1 : FVec F S4x1408x2048 .bf16) (main_arg2 : FVec F S2304x5632 .bf16) (main_arg3 : FVec F S2304x5632 .bf16) : IVec S2304x2048 1 × IVec S4x1408x2048 1 × IVec S2304x5632 1 × IVec S2304x5632 1 :=
  let main_v0 : FVec F S2304x2048 .f32 := (extf .f32 · bitsLt_bf16_f32) main_arg0
  let main_v1 : FVec F S2304x2048 .f32 := Host.absf main_v0
  let main_cst : FVec F S_ .f32 := constant S_ .f32 0x7F800000#32
  let main_v2 : FVec F S2304x2048 .f32 := broadcastInDim S2304x2048 ![] bcast_S_S2304x2048 main_cst
  let main_v3 : IVec S2304x2048 1 := cmpf .olt main_v1 main_v2
  let main_v4 : FVec F S4x1408x2048 .f32 := (extf .f32 · bitsLt_bf16_f32) main_arg1
  let main_v5 : FVec F S4x1408x2048 .f32 := Host.absf main_v4
  let main_cst_0 : FVec F S_ .f32 := constant S_ .f32 0x7F800000#32
  let main_v6 : FVec F S4x1408x2048 .f32 := broadcastInDim S4x1408x2048 ![] bcast_S_S4x1408x2048 main_cst_0
  let main_v7 : IVec S4x1408x2048 1 := cmpf .olt main_v5 main_v6
  let main_v8 : FVec F S2304x5632 .f32 := (extf .f32 · bitsLt_bf16_f32) main_arg2
  let main_v9 : FVec F S2304x5632 .f32 := Host.absf main_v8
  let main_cst_1 : FVec F S_ .f32 := constant S_ .f32 0x7F800000#32
  let main_v10 : FVec F S2304x5632 .f32 := broadcastInDim S2304x5632 ![] bcast_S_S2304x5632 main_cst_1
  let main_v11 : IVec S2304x5632 1 := cmpf .olt main_v9 main_v10
  let main_v12 : FVec F S2304x5632 .f32 := (extf .f32 · bitsLt_bf16_f32) main_arg3
  let main_v13 : FVec F S2304x5632 .f32 := Host.absf main_v12
  let main_cst_2 : FVec F S_ .f32 := constant S_ .f32 0x7F800000#32
  let main_v14 : FVec F S2304x5632 .f32 := broadcastInDim S2304x5632 ![] bcast_S_S2304x5632 main_cst_2
  let main_v15 : IVec S2304x5632 1 := cmpf .olt main_v13 main_v14
  (main_v3, main_v7, main_v11, main_v15)
-- ==== Pre_finite_keys.lean ====
abbrev S2304x1024 : Shape := ⟨2, ![2304, 1024]⟩
abbrev S2304x256 : Shape := ⟨2, ![2304, 256]⟩
abbrev S_ : Shape := ⟨0, ![]⟩

class Facts : Prop where
  bcast_S_S2304x1024 : S_.BroadcastsInDim S2304x1024 (![] : Fin 0 → Fin S2304x1024.rank)
  bitsLt_bf16_f32 : FTy.bits .bf16 < FTy.bits .f32
  bcast_S_S2304x256 : S_.BroadcastsInDim S2304x256 (![] : Fin 0 → Fin S2304x256.rank)

variable [Facts]

def fn {F : FTy → Type} [FloatOps F] (main_arg0 : FVec F S2304x1024 .f32) (main_arg1 : FVec F S2304x256 .bf16) (main_arg2 : FVec F S2304x256 .bf16) : IVec S2304x1024 1 × IVec S2304x256 1 :=
  let main_v0 : FVec F S2304x1024 .f32 := Host.absf main_arg0
  let main_cst : FVec F S_ .f32 := constant S_ .f32 0x7F800000#32
  let main_v1 : FVec F S2304x1024 .f32 := broadcastInDim S2304x1024 ![] bcast_S_S2304x1024 main_cst
  let main_v2 : IVec S2304x1024 1 := cmpf .olt main_v0 main_v1
  let main_v3 : FVec F S2304x256 .f32 := (extf .f32 · bitsLt_bf16_f32) main_arg1
  let main_v4 : FVec F S2304x256 .f32 := Host.absf main_v3
  let main_cst_0 : FVec F S_ .f32 := constant S_ .f32 0x7F800000#32
  let main_v5 : FVec F S2304x256 .f32 := broadcastInDim S2304x256 ![] bcast_S_S2304x256 main_cst_0
  let main_v6 : IVec S2304x256 1 := cmpf .olt main_v4 main_v5
  (main_v2, main_v6)
-- ==== Pre_finite_ln.lean ====
abbrev S2304x2048 : Shape := ⟨2, ![2304, 2048]⟩
abbrev S2x1x2048 : Shape := ⟨3, ![2, 1, 2048]⟩
abbrev S2048 : Shape := ⟨1, ![2048]⟩
abbrev S_ : Shape := ⟨0, ![]⟩

class Facts : Prop where
  bcast_S_S2304x2048 : S_.BroadcastsInDim S2304x2048 (![] : Fin 0 → Fin S2304x2048.rank)
  bcast_S_S2x1x2048 : S_.BroadcastsInDim S2x1x2048 (![] : Fin 0 → Fin S2x1x2048.rank)
  bcast_S_S2048 : S_.BroadcastsInDim S2048 (![] : Fin 0 → Fin S2048.rank)

variable [Facts]

def fn_part1 {F : FTy → Type} [FloatOps F] (main_arg6 : FVec F S2x1x2048 .f32) (main_arg7 : FVec F S2048 .f32) (main_arg8 : FVec F S2048 .f32) (main_v2 : IVec S2304x2048 1) (main_v5 : IVec S2304x2048 1) (main_v8 : IVec S2304x2048 1) (main_v11 : IVec S2x1x2048 1) (main_v14 : IVec S2304x2048 1) (main_v17 : IVec S2304x2048 1) : IVec S2304x2048 1 × IVec S2304x2048 1 × IVec S2304x2048 1 × IVec S2x1x2048 1 × IVec S2304x2048 1 × IVec S2304x2048 1 × IVec S2x1x2048 1 × IVec S2048 1 × IVec S2048 1 :=
  let main_v18 : FVec F S2x1x2048 .f32 := Host.absf main_arg6
  let main_cst_5 : FVec F S_ .f32 := constant S_ .f32 0x7F800000#32
  let main_v19 : FVec F S2x1x2048 .f32 := broadcastInDim S2x1x2048 ![] bcast_S_S2x1x2048 main_cst_5
  let main_v20 : IVec S2x1x2048 1 := cmpf .olt main_v18 main_v19
  let main_v21 : FVec F S2048 .f32 := Host.absf main_arg7
  let main_cst_6 : FVec F S_ .f32 := constant S_ .f32 0x7F800000#32
  let main_v22 : FVec F S2048 .f32 := broadcastInDim S2048 ![] bcast_S_S2048 main_cst_6
  let main_v23 : IVec S2048 1 := cmpf .olt main_v21 main_v22
  let main_v24 : FVec F S2048 .f32 := Host.absf main_arg8
  let main_cst_7 : FVec F S_ .f32 := constant S_ .f32 0x7F800000#32
  let main_v25 : FVec F S2048 .f32 := broadcastInDim S2048 ![] bcast_S_S2048 main_cst_7
  let main_v26 : IVec S2048 1 := cmpf .olt main_v24 main_v25
  (main_v2, main_v5, main_v8, main_v11, main_v14, main_v17, main_v20, main_v23, main_v26)

def fn {F : FTy → Type} [FloatOps F] (main_arg0 : FVec F S2304x2048 .f32) (main_arg1 : FVec F S2304x2048 .f32) (main_arg2 : FVec F S2304x2048 .f32) (main_arg3 : FVec F S2x1x2048 .f32) (main_arg4 : FVec F S2304x2048 .f32) (main_arg5 : FVec F S2304x2048 .f32) (main_arg6 : FVec F S2x1x2048 .f32) (main_arg7 : FVec F S2048 .f32) (main_arg8 : FVec F S2048 .f32) : IVec S2304x2048 1 × IVec S2304x2048 1 × IVec S2304x2048 1 × IVec S2x1x2048 1 × IVec S2304x2048 1 × IVec S2304x2048 1 × IVec S2x1x2048 1 × IVec S2048 1 × IVec S2048 1 :=
  let main_v0 : FVec F S2304x2048 .f32 := Host.absf main_arg0
  let main_cst : FVec F S_ .f32 := constant S_ .f32 0x7F800000#32
  let main_v1 : FVec F S2304x2048 .f32 := broadcastInDim S2304x2048 ![] bcast_S_S2304x2048 main_cst
  let main_v2 : IVec S2304x2048 1 := cmpf .olt main_v0 main_v1
  let main_v3 : FVec F S2304x2048 .f32 := Host.absf main_arg1
  let main_cst_0 : FVec F S_ .f32 := constant S_ .f32 0x7F800000#32
  let main_v4 : FVec F S2304x2048 .f32 := broadcastInDim S2304x2048 ![] bcast_S_S2304x2048 main_cst_0
  let main_v5 : IVec S2304x2048 1 := cmpf .olt main_v3 main_v4
  let main_v6 : FVec F S2304x2048 .f32 := Host.absf main_arg2
  let main_cst_1 : FVec F S_ .f32 := constant S_ .f32 0x7F800000#32
  let main_v7 : FVec F S2304x2048 .f32 := broadcastInDim S2304x2048 ![] bcast_S_S2304x2048 main_cst_1
  let main_v8 : IVec S2304x2048 1 := cmpf .olt main_v6 main_v7
  let main_v9 : FVec F S2x1x2048 .f32 := Host.absf main_arg3
  let main_cst_2 : FVec F S_ .f32 := constant S_ .f32 0x7F800000#32
  let main_v10 : FVec F S2x1x2048 .f32 := broadcastInDim S2x1x2048 ![] bcast_S_S2x1x2048 main_cst_2
  let main_v11 : IVec S2x1x2048 1 := cmpf .olt main_v9 main_v10
  let main_v12 : FVec F S2304x2048 .f32 := Host.absf main_arg4
  let main_cst_3 : FVec F S_ .f32 := constant S_ .f32 0x7F800000#32
  let main_v13 : FVec F S2304x2048 .f32 := broadcastInDim S2304x2048 ![] bcast_S_S2304x2048 main_cst_3
  let main_v14 : IVec S2304x2048 1 := cmpf .olt main_v12 main_v13
  let main_v15 : FVec F S2304x2048 .f32 := Host.absf main_arg5
  let main_cst_4 : FVec F S_ .f32 := constant S_ .f32 0x7F800000#32
  let main_v16 : FVec F S2304x2048 .f32 := broadcastInDim S2304x2048 ![] bcast_S_S2304x2048 main_cst_4
  let main_v17 : IVec S2304x2048 1 := cmpf .olt main_v15 main_v16
  fn_part1 (F := F) main_arg6 main_arg7 main_arg8 main_v2 main_v5 main_v8 main_v11 main_v14 main_v17
-- ==== Kernel.lean ====
abbrev S2304x1024 : Shape := ⟨2, ![2304, 1024]⟩
abbrev S2304x256 : Shape := ⟨2, ![2304, 256]⟩
abbrev S_ : Shape := ⟨0, ![]⟩
abbrev S128x1024 : Shape := ⟨2, ![128, 1024]⟩
abbrev S128x128 : Shape := ⟨2, ![128, 128]⟩
abbrev S512x128 : Shape := ⟨2, ![512, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩
abbrev S2304x128 : Shape := ⟨2, ![2304, 128]⟩
abbrev S512x2304 : Shape := ⟨2, ![512, 2304]⟩

abbrev nBuf : Space → Nat
  | .hbm => 15
  | .vmem => 10
  | .smem => 0
  | _ => 0

abbrev bufTy : (tb : Table) → Fin (tcTables nBuf tb) → BufTy
  | .hbm, ⟨0, _⟩ => ⟨S2304x1024, .f32⟩
  | .hbm, ⟨1, _⟩ => ⟨S2304x256, .bf16⟩
  | .hbm, ⟨2, _⟩ => ⟨S2304x256, .bf16⟩
  | .hbm, ⟨3, _⟩ => ⟨S2304x1024, .bf16⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S2304x1024, .f32⟩
  | .hbm, ⟨10, _⟩ => ⟨S2304x1024, .f32⟩
  | .hbm, ⟨11, _⟩ => ⟨S2304x1024, .bf16⟩
  | .hbm, ⟨12, _⟩ => ⟨S2304x1024, .f32⟩
  | .hbm, ⟨13, _⟩ => ⟨S2304x256, .f32⟩
  | .hbm, ⟨14, _⟩ => ⟨S2304x256, .f32⟩
  | .local _ .vmem, ⟨0, _⟩ => ⟨S128x1024, .bf16⟩
  | .local _ .vmem, ⟨1, _⟩ => ⟨S128x1024, .bf16⟩
  | .local _ .vmem, ⟨2, _⟩ => ⟨S2304x256, .bf16⟩
  | .local _ .vmem, ⟨3, _⟩ => ⟨S2304x256, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .f32⟩
  | .local _ .vmem, ⟨7, _⟩ => ⟨S128x1024, .f32⟩
  | .local _ .vmem, ⟨8, _⟩ => ⟨S2304x256, .f32⟩
  | .local _ .vmem, ⟨9, _⟩ => ⟨S2304x256, .f32⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![18], ![false]⟩

def k0_cond2 (i : grid0.Coords) : BitVec 1 :=
  let arg0 : BitVec 32 := BitVec.ofNat 32 (i 0).val
  let c2_i32 : BitVec 32 := 2#32
  let v3 : BitVec 1 := Scalar.cmpi .slt arg0 c2_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32_2 : BitVec 32 := 2#32
  let v6 : BitVec 1 := Scalar.cmpi .sge arg0 c2_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2304x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2304x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
variable {F : FTy → Type} [FloatOps F] [Named F]
def κ : String → Option EReal := fun
  | "ln2" => some ((Real.log 2 : ℝ) : EReal)
  | "scale" => some (((Real.sqrt 128)⁻¹ : ℝ) : EReal)
  | _ => none
-- ==== ReferenceIdeal.lean ====
abbrev S2304x1024 : Shape := ⟨2, ![2304, 1024]⟩
abbrev S2304x256 : Shape := ⟨2, ![2304, 256]⟩
abbrev S2048x1024 : Shape := ⟨2, ![2048, 1024]⟩
abbrev S2048x2x4x128 : Shape := ⟨4, ![2048, 2, 4, 128]⟩
abbrev S2304x2x128 : Shape := ⟨3, ![2304, 2, 128]⟩
abbrev S2x2304x2048x4 : Shape := ⟨4, ![2, 2304, 2048, 4]⟩
abbrev S2x4x2048x2304 : Shape := ⟨4, ![2, 4, 2048, 2304]⟩
abbrev S_ : Shape := ⟨0, ![]⟩
abbrev S2x4x2048 : Shape := ⟨3, ![2, 4, 2048]⟩
abbrev S2x4x2048x1 : Shape := ⟨4, ![2, 4, 2048, 1]⟩
abbrev S2x128x4x2048 : Shape := ⟨4, ![2, 128, 4, 2048]⟩
abbrev S256x1024 : Shape := ⟨2, ![256, 1024]⟩
abbrev S256x256 : Shape := ⟨2, ![256, 256]⟩
abbrev S256x2x4x128 : Shape := ⟨4, ![256, 2, 4, 128]⟩
abbrev S256x2x128 : Shape := ⟨3, ![256, 2, 128]⟩
abbrev S2x256x256x4 : Shape := ⟨4, ![2, 256, 256, 4]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S2x128x4x256 : Shape := ⟨4, ![2, 128, 4, 256]⟩
abbrev S2x128x256 : Shape := ⟨3, ![2, 128, 256]⟩
abbrev S2x256x4x128 : Shape := ⟨4, ![2, 256, 4, 128]⟩
abbrev S2x256x128 : Shape := ⟨3, ![2, 256, 128]⟩
abbrev S2x128x2304 : Shape := ⟨3, ![2, 128, 2304]⟩
abbrev S2x2048x4x128 : Shape := ⟨4, ![2, 2048, 4, 128]⟩
abbrev S2x2304x128 : Shape := ⟨3, ![2, 2304, 128]⟩

abbrev nBuf : Space → Nat
  | .hbm => 187
  | .vmem => 0
  | .smem => 0
  | _ => 0

abbrev hbmTy0_0 (i : Nat) : BufTy := match i % 128 with
  | 0 => ⟨S2304x1024, .f32⟩
  | 1 => ⟨S2304x256, .bf16⟩
  | 2 => ⟨S2304x256, .bf16⟩
  | 3 => ⟨S2304x1024, .bf16⟩
  | 4 => ⟨S2304x256, .f32⟩
  | 5 => ⟨S2304x256, .f32⟩
  | 6 => ⟨S2304x1024, .f32⟩
  | 7 => ⟨S2048x1024, .f32⟩
  | 8 => ⟨S2048x2x4x128, .f32⟩
  | 9 => ⟨S2304x2x128, .f32⟩
  | 10 => ⟨S2304x2x128, .f32⟩
  | 11 => ⟨S2x2304x2048x4, .f32⟩
  | 12 => ⟨S2x4x2048x2304, .f32⟩
  | 13 => ⟨S_, .f32⟩
  | 14 => ⟨S_, .f32⟩
  | 15 => ⟨S_, .f32⟩
  | 16 => ⟨S_, .f32⟩
  | 17 => ⟨S2x4x2048x2304, .f32⟩
  | 18 => ⟨S2x4x2048x2304, .f32⟩
  | 19 => ⟨S_, .f32⟩
  | 20 => ⟨S2x4x2048, .f32⟩
  | 21 => ⟨S2x4x2048x1, .f32⟩
  | 22 => ⟨S2x4x2048x2304, .f32⟩
  | 23 => ⟨S2x4x2048x2304, .i1⟩
  | 24 => ⟨S2x4x2048x2304, .f32⟩
  | 25 => ⟨S_, .f32⟩
  | 26 => ⟨S2x4x2048, .f32⟩
  | 27 => ⟨S_, .f32⟩
  | 28 => ⟨S2x4x2048, .f32⟩
  | 29 => ⟨S2x4x2048, .f32⟩
  | 30 => ⟨S_, .f32⟩
  | 31 => ⟨S2x4x2048, .f32⟩
  | 32 => ⟨S2x4x2048, .i1⟩
  | 33 => ⟨S_, .f32⟩
  | 34 => ⟨S2x4x2048, .f32⟩
  | 35 => ⟨S2x4x2048, .i1⟩
  | 36 => ⟨S_, .f32⟩
  | 37 => ⟨S2x4x2048, .f32⟩
  | 38 => ⟨S_, .f32⟩
  | 39 => ⟨S2x4x2048, .f32⟩
  | 40 => ⟨S_, .f32⟩
  | 41 => ⟨S2x4x2048, .f32⟩
  | 42 => ⟨S2x4x2048, .f32⟩
  | 43 => ⟨S2x4x2048, .f32⟩
  | 44 => ⟨S2x4x2048x1, .f32⟩
  | 45 => ⟨S2x4x2048x2304, .f32⟩
  | 46 => ⟨S2x4x2048x2304, .f32⟩
  | 47 => ⟨S2x4x2048x2304, .f32⟩
  | 48 => ⟨S_, .f32⟩
  | 49 => ⟨S2x4x2048, .f32⟩
  | 50 => ⟨S2x4x2048x1, .f32⟩
  | 51 => ⟨S2x4x2048x2304, .f32⟩
  | 52 => ⟨S2x4x2048x2304, .f32⟩
  | 53 => ⟨S2x4x2048x1, .f32⟩
  | 54 => ⟨S_, .f32⟩
  | 55 => ⟨S2x4x2048x1, .f32⟩
  | 56 => ⟨S2x4x2048x1, .f32⟩
  | 57 => ⟨S2x128x4x2048, .f32⟩
  | 58 => ⟨S2048x2x4x128, .f32⟩
  | 59 => ⟨S2048x1024, .f32⟩
  | 60 => ⟨S256x1024, .f32⟩
  | 61 => ⟨S256x256, .f32⟩
  | 62 => ⟨S256x256, .f32⟩
  | 63 => ⟨S256x2x4x128, .f32⟩
  | 64 => ⟨S256x2x128, .f32⟩
  | 65 => ⟨S256x2x128, .f32⟩
  | 66 => ⟨S2x256x256x4, .f32⟩
  | 67 => ⟨S2x4x256x256, .f32⟩
  | 68 => ⟨S_, .f32⟩
  | 69 => ⟨S_, .f32⟩
  | 70 => ⟨S_, .f32⟩
  | 71 => ⟨S_, .f32⟩
  | 72 => ⟨S2x4x256x256, .f32⟩
  | 73 => ⟨S2x4x256x256, .f32⟩
  | 74 => ⟨S_, .f32⟩
  | 75 => ⟨S2x4x256, .f32⟩
  | 76 => ⟨S2x4x256x1, .f32⟩
  | 77 => ⟨S2x4x256x256, .f32⟩
  | 78 => ⟨S2x4x256x256, .i1⟩
  | 79 => ⟨S2x4x256x256, .f32⟩
  | 80 => ⟨S_, .f32⟩
  | 81 => ⟨S2x4x256, .f32⟩
  | 82 => ⟨S_, .f32⟩
  | 83 => ⟨S2x4x256, .f32⟩
  | 84 => ⟨S2x4x256, .f32⟩
  | 85 => ⟨S_, .f32⟩
  | 86 => ⟨S2x4x256, .f32⟩
  | 87 => ⟨S2x4x256, .i1⟩
  | 88 => ⟨S_, .f32⟩
  | 89 => ⟨S2x4x256, .f32⟩
  | 90 => ⟨S2x4x256, .i1⟩
  | 91 => ⟨S_, .f32⟩
  | 92 => ⟨S2x4x256, .f32⟩
  | 93 => ⟨S_, .f32⟩
  | 94 => ⟨S2x4x256, .f32⟩
  | 95 => ⟨S_, .f32⟩
  | 96 => ⟨S2x4x256, .f32⟩
  | 97 => ⟨S2x4x256, .f32⟩
  | 98 => ⟨S2x4x256, .f32⟩
  | 99 => ⟨S2x4x256x1, .f32⟩
  | 100 => ⟨S2x4x256x256, .f32⟩
  | 101 => ⟨S2x4x256x256, .f32⟩
  | 102 => ⟨S2x4x256x256, .f32⟩
  | 103 => ⟨S_, .f32⟩
  | 104 => ⟨S2x4x256, .f32⟩
  | 105 => ⟨S2x4x256x1, .f32⟩
  | 106 => ⟨S2x4x256x256, .f32⟩
  | 107 => ⟨S2x4x256x256, .f32⟩
  | 108 => ⟨S2x4x256x1, .f32⟩
  | 109 => ⟨S_, .f32⟩
  | 110 => ⟨S2x4x256x1, .f32⟩
  | 111 => ⟨S2x4x256x1, .f32⟩
  | 112 => ⟨S2x128x4x256, .f32⟩
  | 113 => ⟨S256x2x4x128, .f32⟩
  | 114 => ⟨S256x1024, .f32⟩
  | 115 => ⟨S2304x1024, .f32⟩
  | 116 => ⟨S256x1024, .f32⟩
  | 117 => ⟨S2048x1024, .f32⟩
  | 118 => ⟨S256x2x4x128, .f32⟩
  | 119 => ⟨S2x128x4x256, .f32⟩
  | 120 => ⟨S2x4x256x256, .f32⟩
  | 121 => ⟨S2x128x256, .f32⟩
  | 122 => ⟨S256x2x128, .f32⟩
  | 123 => ⟨S2x4x256x256, .f32⟩
  | 124 => ⟨S2x4x256x256, .f32⟩
  | 125 => ⟨S2x4x256x256, .f32⟩
  | 126 => ⟨S_, .f32⟩
  | 127 => ⟨S2x4x256, .f32⟩
  | _ => ⟨S2304x1024, .f32⟩

abbrev hbmTy0_1 (i : Nat) : BufTy := match i % 128 with
  | 0 => ⟨S2x4x256x1, .f32⟩
  | 1 => ⟨S2x4x256x1, .f32⟩
  | 2 => ⟨S2x4x256x256, .f32⟩
  | 3 => ⟨S2x4x256x256, .f32⟩
  | 4 => ⟨S_, .f32⟩
  | 5 => ⟨S2x4x256, .f32⟩
  | 6 => ⟨S2x4x256x256, .f32⟩
  | 7 => ⟨S2x4x256x256, .f32⟩
  | 8 => ⟨S2x4x256x256, .f32⟩
  | 9 => ⟨S2x4x256x256, .f32⟩
  | 10 => ⟨S2x4x256x256, .f32⟩
  | 11 => ⟨S2x256x256x4, .f32⟩
  | 12 => ⟨S2x256x4x128, .f32⟩
  | 13 => ⟨S256x2x4x128, .f32⟩
  | 14 => ⟨S2x256x128, .f32⟩
  | 15 => ⟨S256x2x128, .f32⟩
  | 16 => ⟨S256x256, .f32⟩
  | 17 => ⟨S256x256, .f32⟩
  | 18 => ⟨S256x1024, .f32⟩
  | 19 => ⟨S_, .f32⟩
  | 20 => ⟨S2304x256, .f32⟩
  | 21 => ⟨S_, .f32⟩
  | 22 => ⟨S2304x256, .f32⟩
  | 23 => ⟨S_, .f32⟩
  | 24 => ⟨S2304x1024, .f32⟩
  | 25 => ⟨S2048x2x4x128, .f32⟩
  | 26 => ⟨S2x128x4x2048, .f32⟩
  | 27 => ⟨S2x4x2048x2304, .f32⟩
  | 28 => ⟨S2x128x2304, .f32⟩
  | 29 => ⟨S2304x2x128, .f32⟩
  | 30 => ⟨S2x4x2048x2304, .f32⟩
  | 31 => ⟨S2x4x2048x2304, .f32⟩
  | 32 => ⟨S2x4x2048x2304, .f32⟩
  | 33 => ⟨S_, .f32⟩
  | 34 => ⟨S2x4x2048, .f32⟩
  | 35 => ⟨S2x4x2048x1, .f32⟩
  | 36 => ⟨S2x4x2048x1, .f32⟩
  | 37 => ⟨S2x4x2048x2304, .f32⟩
  | 38 => ⟨S2x4x2048x2304, .f32⟩
  | 39 => ⟨S_, .f32⟩
  | 40 => ⟨S2x4x2048, .f32⟩
  | 41 => ⟨S2x4x2048x2304, .f32⟩
  | 42 => ⟨S2x4x2048x2304, .f32⟩
  | 43 => ⟨S2x4x2048x2304, .f32⟩
  | 44 => ⟨S2x4x2048x2304, .f32⟩
  | 45 => ⟨S2x4x2048x2304, .f32⟩
  | 46 => ⟨S2x2304x2048x4, .f32⟩
  | 47 => ⟨S2x2048x4x128, .f32⟩
  | 48 => ⟨S2048x2x4x128, .f32⟩
  | 49 => ⟨S2x2304x128, .f32⟩
  | 50 => ⟨S2304x2x128, .f32⟩
  | 51 => ⟨S2304x256, .f32⟩
  | 52 => ⟨S2304x256, .f32⟩
  | 53 => ⟨S2304x256, .f32⟩
  | 54 => ⟨S2304x256, .f32⟩
  | 55 => ⟨S2048x1024, .f32⟩
  | 56 => ⟨S_, .f32⟩
  | 57 => ⟨S2304x1024, .f32⟩
  | 58 => ⟨S2304x1024, .f32⟩
  | _ => ⟨S2304x1024, .f32⟩

abbrev hbmTy (i : Nat) : BufTy := match i / 128 with
  | 0 => hbmTy0_0 i
  | 1 => hbmTy0_1 i
  | _ => ⟨S2304x1024, .f32⟩

abbrev bufTy : (tb : Table) → Fin (tcTables nBuf tb) → BufTy
  | .hbm, ⟨i, _⟩ => hbmTy i
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_9 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_cst_10 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_cst_12 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_13 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_14 : Ref sig .tc := ⟨.hbm, 80, rfl⟩
abbrev main_v61 : Ref sig .tc := ⟨.hbm, 81, rfl⟩
abbrev main_cst_15 : Ref sig .tc := ⟨.hbm, 82, rfl⟩
abbrev main_v62 : Ref sig .tc := ⟨.hbm, 83, rfl⟩
abbrev main_v63 : Ref sig .tc := ⟨.hbm, 84, rfl⟩
abbrev main_cst_16 : Ref sig .tc := ⟨.hbm, 85, rfl⟩
abbrev main_v64 : Ref sig .tc := ⟨.hbm, 86, rfl⟩
abbrev main_v65 : Ref sig .tc := ⟨.hbm, 87, rfl⟩
abbrev main_cst_17 : Ref sig .tc := ⟨.hbm, 88, rfl⟩
abbrev main_v66 : Ref sig .tc := ⟨.hbm, 89, rfl⟩
abbrev main_v67 : Ref sig .tc := ⟨.hbm, 90, rfl⟩
abbrev main_cst_18 : Ref sig .tc := ⟨.hbm, 91, rfl⟩
abbrev main_v68 : Ref sig .tc := ⟨.hbm, 92, rfl⟩
abbrev main_cst_19 : Ref sig .tc := ⟨.hbm, 93, rfl⟩
abbrev main_v69 : Ref sig .tc := ⟨.hbm, 94, rfl⟩
abbrev main_cst_20 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_21 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_22 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_cst_23 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_cst_24 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_cst_25 : Ref sig .tc := ⟨.hbm, 147, rfl⟩
abbrev main_v117 : Ref sig .tc := ⟨.hbm, 148, rfl⟩
abbrev main_cst_26 : Ref sig .tc := ⟨.hbm, 149, rfl⟩
abbrev main_v118 : Ref sig .tc := ⟨.hbm, 150, rfl⟩
abbrev main_cst_27 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_v123 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_cst_28 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_cst_29 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_cst_30 : Ref sig .tc := ⟨.hbm, 184, rfl⟩
abbrev main_v149 : Ref sig .tc := ⟨.hbm, 185, rfl⟩
abbrev main_v150 : Ref sig .tc := ⟨.hbm, 186, rfl⟩

abbrev nD : Nat := 1
abbrev τ : Topo := Topo.v7x

variable {F : FTy → Type} [FloatOps F]
-- ==== FfDown.lean ====
abbrev S2304x2048 : Shape := ⟨2, ![2304, 2048]⟩
abbrev S4x1408x2048 : Shape := ⟨3, ![4, 1408, 2048]⟩
abbrev S2304x5632 : Shape := ⟨2, ![2304, 5632]⟩
abbrev S384x2048 : Shape := ⟨2, ![384, 2048]⟩
abbrev S1x1408x2048 : Shape := ⟨3, ![1, 1408, 2048]⟩
abbrev S384x1408 : Shape := ⟨2, ![384, 1408]⟩
abbrev S1408x2048 : Shape := ⟨2, ![1408, 2048]⟩

abbrev nBuf : Space → Nat
  | .hbm => 6
  | .vmem => 12
  | .smem => 0
  | _ => 0

abbrev bufTy : (tb : Table) → Fin (tcTables nBuf tb) → BufTy
  | .hbm, ⟨0, _⟩ => ⟨S2304x2048, .bf16⟩
  | .hbm, ⟨1, _⟩ => ⟨S4x1408x2048, .bf16⟩
  | .hbm, ⟨2, _⟩ => ⟨S2304x5632, .bf16⟩
  | .hbm, ⟨3, _⟩ => ⟨S2304x5632, .bf16⟩
  | .hbm, ⟨4, _⟩ => ⟨S2304x5632, .bf16⟩
  | .hbm, ⟨5, _⟩ => ⟨S2304x5632, .bf16⟩
  | .local _ .vmem, ⟨0, _⟩ => ⟨S384x2048, .bf16⟩
  | .local _ .vmem, ⟨1, _⟩ => ⟨S384x2048, .bf16⟩
  | .local _ .vmem, ⟨2, _⟩ => ⟨S1x1408x2048, .bf16⟩
  | .local _ .vmem, ⟨3, _⟩ => ⟨S1x1408x2048, .bf16⟩
  | .local _ .vmem, ⟨4, _⟩ => ⟨S384x1408, .bf16⟩
  | .local _ .vmem, ⟨5, _⟩ => ⟨S384x1408, .bf16⟩
  | .local _ .vmem, ⟨6, _⟩ => ⟨S384x1408, .bf16⟩
  | .local _ .vmem, ⟨7, _⟩ => ⟨S384x1408, .bf16⟩
  | .local _ .vmem, ⟨8, _⟩ => ⟨S384x1408, .bf16⟩
  | .local _ .vmem, ⟨9, _⟩ => ⟨S384x1408, .bf16⟩
  | .local _ .vmem, ⟨10, _⟩ => ⟨S384x1408, .bf16⟩
  | .local _ .vmem, ⟨11, _⟩ => ⟨S384x1408, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S384x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S384x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfDownReferenceIdeal.lean ====
abbrev S2304x2048 : Shape := ⟨2, ![2304, 2048]⟩
abbrev S4x1408x2048 : Shape := ⟨3, ![4, 1408, 2048]⟩
abbrev S2304x5632 : Shape := ⟨2, ![2304, 5632]⟩
abbrev S_ : Shape := ⟨0, ![]⟩
abbrev S5632x2048 : Shape := ⟨2, ![5632, 2048]⟩

abbrev nBuf : Space → Nat
  | .hbm => 33
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S4x1408x2048, .bf16⟩
  | .hbm, ⟨2, _⟩ => ⟨S2304x5632, .bf16⟩
  | .hbm, ⟨3, _⟩ => ⟨S2304x5632, .bf16⟩
  | .hbm, ⟨4, _⟩ => ⟨S2304x2048, .f32⟩
  | .hbm, ⟨5, _⟩ => ⟨S4x1408x2048, .f32⟩
  | .hbm, ⟨6, _⟩ => ⟨S2304x5632, .f32⟩
  | .hbm, ⟨7, _⟩ => ⟨S2304x5632, .f32⟩
  | .hbm, ⟨8, _⟩ => ⟨S2304x5632, .f32⟩
  | .hbm, ⟨9, _⟩ => ⟨S2304x5632, .f32⟩
  | .hbm, ⟨10, _⟩ => ⟨S_, .f32⟩
  | .hbm, ⟨11, _⟩ => ⟨S2304x5632, .f32⟩
  | .hbm, ⟨12, _⟩ => ⟨S2304x5632, .f32⟩
  | .hbm, ⟨13, _⟩ => ⟨S_, .f32⟩
  | .hbm, ⟨14, _⟩ => ⟨S2304x5632, .f32⟩
  | .hbm, ⟨15, _⟩ => ⟨S2304x5632, .f32⟩
  | .hbm, ⟨16, _⟩ => ⟨S_, .f32⟩
  | .hbm, ⟨17, _⟩ => ⟨S2304x5632, .f32⟩
  | .hbm, ⟨18, _⟩ => ⟨S2304x5632, .f32⟩
  | .hbm, ⟨19, _⟩ => ⟨S2304x5632, .f32⟩
  | .hbm, ⟨20, _⟩ => ⟨S2304x5632, .f32⟩
  | .hbm, ⟨21, _⟩ => ⟨S2304x5632, .f32⟩
  | .hbm, ⟨22, _⟩ => ⟨S5632x2048, .f32⟩
  | .hbm, ⟨23, _⟩ => ⟨S2304x2048, .f32⟩
  | .hbm, ⟨24, _⟩ => ⟨S2304x5632, .f32⟩
  | .hbm, ⟨25, _⟩ => ⟨S2304x5632, .f32⟩
  | .hbm, ⟨26, _⟩ => ⟨S2304x5632, .f32⟩
  | .hbm, ⟨27, _⟩ => ⟨S2304x5632, .f32⟩
  | .hbm, ⟨28, _⟩ => ⟨S2304x5632, .f32⟩
  | .hbm, ⟨29, _⟩ => ⟨S2304x5632, .f32⟩
  | .hbm, ⟨30, _⟩ => ⟨S2304x5632, .f32⟩
  | .hbm, ⟨31, _⟩ => ⟨S2304x5632, .bf16⟩
  | .hbm, ⟨32, _⟩ => ⟨S2304x5632, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== FfUp.lean ====
abbrev S2304x2048 : Shape := ⟨2, ![2304, 2048]⟩
abbrev S4x2048x1408 : Shape := ⟨3, ![4, 2048, 1408]⟩
abbrev S2304x5632 : Shape := ⟨2, ![2304, 5632]⟩
abbrev S384x2048 : Shape := ⟨2, ![384, 2048]⟩
abbrev S1x2048x1408 : Shape := ⟨3, ![1, 2048, 1408]⟩
abbrev S384x1408 : Shape := ⟨2, ![384, 1408]⟩
abbrev S2048x1408 : Shape := ⟨2, ![2048, 1408]⟩

abbrev nBuf : Space → Nat
  | .hbm => 6
  | .vmem => 12
  | .smem => 0
  | _ => 0

abbrev bufTy : (tb : Table) → Fin (tcTables nBuf tb) → BufTy
  | .hbm, ⟨0, _⟩ => ⟨S2304x2048, .bf16⟩
  | .hbm, ⟨1, _⟩ => ⟨S4x2048x1408, .bf16⟩
  | .hbm, ⟨2, _⟩ => ⟨S4x2048x1408, .bf16⟩
  | .hbm, ⟨3, _⟩ => ⟨S2304x5632, .bf16⟩
  | .hbm, ⟨4, _⟩ => ⟨S2304x5632, .bf16⟩
  | .hbm, ⟨5, _⟩ => ⟨S2304x5632, .bf16⟩
  | .local _ .vmem, ⟨0, _⟩ => ⟨S384x2048, .bf16⟩
  | .local _ .vmem, ⟨1, _⟩ => ⟨S384x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S384x1408, .bf16⟩
  | .local _ .vmem, ⟨7, _⟩ => ⟨S384x1408, .bf16⟩
  | .local _ .vmem, ⟨8, _⟩ => ⟨S384x1408, .bf16⟩
  | .local _ .vmem, ⟨9, _⟩ => ⟨S384x1408, .bf16⟩
  | .local _ .vmem, ⟨10, _⟩ => ⟨S384x1408, .bf16⟩
  | .local _ .vmem, ⟨11, _⟩ => ⟨S384x1408, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S384x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfUpReferenceIdeal.lean ====
abbrev S2304x2048 : Shape := ⟨2, ![2304, 2048]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S2304x5632 : Shape := ⟨2, ![2304, 5632]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S4x2048x1408, .bf16⟩
  | .hbm, ⟨2, _⟩ => ⟨S4x2048x1408, .bf16⟩
  | .hbm, ⟨3, _⟩ => ⟨S2304x2048, .f32⟩
  | .hbm, ⟨4, _⟩ => ⟨S4x2048x1408, .f32⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S2304x5632, .f32⟩
  | .hbm, ⟨9, _⟩ => ⟨S2048x4x1408, .f32⟩
  | .hbm, ⟨10, _⟩ => ⟨S2048x5632, .f32⟩
  | .hbm, ⟨11, _⟩ => ⟨S2304x5632, .f32⟩
  | .hbm, ⟨12, _⟩ => ⟨S2304x5632, .bf16⟩
  | .hbm, ⟨13, _⟩ => ⟨S2304x5632, .bf16⟩
  | .hbm, ⟨14, _⟩ => ⟨S2304x5632, .f32⟩
  | .hbm, ⟨15, _⟩ => ⟨S2304x5632, .f32⟩
  | .hbm, ⟨16, _⟩ => ⟨S_, .f32⟩
  | .hbm, ⟨17, _⟩ => ⟨S2304x5632, .f32⟩
  | .hbm, ⟨18, _⟩ => ⟨S2304x5632, .f32⟩
  | .hbm, ⟨19, _⟩ => ⟨S_, .f32⟩
  | .hbm, ⟨20, _⟩ => ⟨S2304x5632, .f32⟩
  | .hbm, ⟨21, _⟩ => ⟨S2304x5632, .f32⟩
  | .hbm, ⟨22, _⟩ => ⟨S2304x5632, .f32⟩
  | .hbm, ⟨23, _⟩ => ⟨S2304x5632, .f32⟩
  | .hbm, ⟨24, _⟩ => ⟨S2304x5632, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== NtFf.lean ====
abbrev S2304x5632 : Shape := ⟨2, ![2304, 5632]⟩
abbrev S4x2048x1408 : Shape := ⟨3, ![4, 2048, 1408]⟩
abbrev S4x1x2048x1408 : Shape := ⟨4, ![4, 1, 2048, 1408]⟩
abbrev S2304x2048 : Shape := ⟨2, ![2304, 2048]⟩
abbrev S768x5632 : Shape := ⟨2, ![768, 5632]⟩
abbrev S4x1x512x1408 : Shape := ⟨4, ![4, 1, 512, 1408]⟩
abbrev S768x512 : Shape := ⟨2, ![768, 512]⟩
abbrev S768x1408 : Shape := ⟨2, ![768, 1408]⟩
abbrev S1x1x512x1408 : Shape := ⟨4, ![1, 1, 512, 1408]⟩
abbrev S512x1408 : Shape := ⟨2, ![512, 1408]⟩

abbrev nBuf : Space → Nat
  | .hbm => 4
  | .vmem => 6
  | .smem => 0
  | _ => 0

abbrev bufTy : (tb : Table) → Fin (tcTables nBuf tb) → BufTy
  | .hbm, ⟨0, _⟩ => ⟨S2304x5632, .bf16⟩
  | .hbm, ⟨1, _⟩ => ⟨S4x2048x1408, .bf16⟩
  | .hbm, ⟨2, _⟩ => ⟨S4x1x2048x1408, .bf16⟩
  | .hbm, ⟨3, _⟩ => ⟨S2304x2048, .f32⟩
  | .local _ .vmem, ⟨0, _⟩ => ⟨S768x5632, .bf16⟩
  | .local _ .vmem, ⟨1, _⟩ => ⟨S768x5632, .bf16⟩
  | .local _ .vmem, ⟨2, _⟩ => ⟨S4x1x512x1408, .bf16⟩
  | .local _ .vmem, ⟨3, _⟩ => ⟨S4x1x512x1408, .bf16⟩
  | .local _ .vmem, ⟨4, _⟩ => ⟨S768x512, .f32⟩
  | .local _ .vmem, ⟨5, _⟩ => ⟨S768x512, .f32⟩
  | _, _ => ⟨S2304x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NtFfReferenceIdeal.lean ====
abbrev S2304x5632 : Shape := ⟨2, ![2304, 5632]⟩
abbrev S4x2048x1408 : Shape := ⟨3, ![4, 2048, 1408]⟩
abbrev S_ : Shape := ⟨0, ![]⟩
abbrev S2304x2048 : Shape := ⟨2, ![2304, 2048]⟩
abbrev S2048x4x1408 : Shape := ⟨3, ![2048, 4, 1408]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S2304x5632, .bf16⟩
  | .hbm, ⟨1, _⟩ => ⟨S4x2048x1408, .bf16⟩
  | .hbm, ⟨2, _⟩ => ⟨S2304x5632, .f32⟩
  | .hbm, ⟨3, _⟩ => ⟨S4x2048x1408, .f32⟩
  | .hbm, ⟨4, _⟩ => ⟨S_, .f32⟩
  | .hbm, ⟨5, _⟩ => ⟨S2304x2048, .f32⟩
  | .hbm, ⟨6, _⟩ => ⟨S2048x4x1408, .f32⟩
  | .hbm, ⟨7, _⟩ => ⟨S2048x5632, .f32⟩
  | .hbm, ⟨8, _⟩ => ⟨S2304x5632, .f32⟩
  | .hbm, ⟨9, _⟩ => ⟨S2304x2048, .f32⟩
  | _, _ => ⟨S2304x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== TnFf.lean ====
abbrev S2304x2048 : Shape := ⟨2, ![2304, 2048]⟩
abbrev S2304x5632 : Shape := ⟨2, ![2304, 5632]⟩
abbrev S4x2048x1408 : Shape := ⟨3, ![4, 2048, 1408]⟩
abbrev S2304x512 : Shape := ⟨2, ![2304, 512]⟩
abbrev S2304x1408 : Shape := ⟨2, ![2304, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S2304x5632, .bf16⟩
  | .hbm, ⟨2, _⟩ => ⟨S4x2048x1408, .bf16⟩
  | .local _ .vmem, ⟨0, _⟩ => ⟨S2304x512, .bf16⟩
  | .local _ .vmem, ⟨1, _⟩ => ⟨S2304x512, .bf16⟩
  | .local _ .vmem, ⟨2, _⟩ => ⟨S2304x1408, .bf16⟩
  | .local _ .vmem, ⟨3, _⟩ => ⟨S2304x1408, .bf16⟩
  | .local _ .vmem, ⟨4, _⟩ => ⟨S1x512x1408, .bf16⟩
  | .local _ .vmem, ⟨5, _⟩ => ⟨S1x512x1408, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  let c0_i32_1 : BitVec 32 := 0#32
  ![c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2304x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== TnFfReferenceIdeal.lean ====
abbrev S2304x2048 : Shape := ⟨2, ![2304, 2048]⟩
abbrev S2304x5632 : Shape := ⟨2, ![2304, 5632]⟩
abbrev S_ : Shape := ⟨0, ![]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S5632x2048 : Shape := ⟨2, ![5632, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x5632, .bf16⟩
  | .hbm, ⟨2, _⟩ => ⟨S2304x2048, .f32⟩
  | .hbm, ⟨3, _⟩ => ⟨S2304x5632, .f32⟩
  | .hbm, ⟨4, _⟩ => ⟨S_, .f32⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S2304x5632, .f32⟩
  | .hbm, ⟨9, _⟩ => ⟨S5632x2048, .f32⟩
  | .hbm, ⟨10, _⟩ => ⟨S2048x5632, .f32⟩
  | .hbm, ⟨11, _⟩ => ⟨S2048x4x1408, .f32⟩
  | .hbm, ⟨12, _⟩ => ⟨S4x2048x1408, .f32⟩
  | .hbm, ⟨13, _⟩ => ⟨S4x2048x1408, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== TnFfDown.lean ====
abbrev S2304x5632 : Shape := ⟨2, ![2304, 5632]⟩
abbrev S2304x2048 : Shape := ⟨2, ![2304, 2048]⟩
abbrev S4x1408x2048 : Shape := ⟨3, ![4, 1408, 2048]⟩
abbrev S2304x1408 : Shape := ⟨2, ![2304, 1408]⟩
abbrev S2304x512 : Shape := ⟨2, ![2304, 512]⟩
abbrev S1x1408x512 : Shape := ⟨3, ![1, 1408, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S2304x5632, .bf16⟩
  | .hbm, ⟨1, _⟩ => ⟨S2304x2048, .bf16⟩
  | .hbm, ⟨2, _⟩ => ⟨S4x1408x2048, .bf16⟩
  | .local _ .vmem, ⟨0, _⟩ => ⟨S2304x1408, .bf16⟩
  | .local _ .vmem, ⟨1, _⟩ => ⟨S2304x1408, .bf16⟩
  | .local _ .vmem, ⟨2, _⟩ => ⟨S2304x512, .bf16⟩
  | .local _ .vmem, ⟨3, _⟩ => ⟨S2304x512, .bf16⟩
  | .local _ .vmem, ⟨4, _⟩ => ⟨S1x1408x512, .bf16⟩
  | .local _ .vmem, ⟨5, _⟩ => ⟨S1x1408x512, .bf16⟩
  | _, _ => ⟨S2304x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![c0_i32_0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2304x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== TnFfDownReferenceIdeal.lean ====
abbrev S2304x5632 : Shape := ⟨2, ![2304, 5632]⟩
abbrev S2304x2048 : Shape := ⟨2, ![2304, 2048]⟩
abbrev S_ : Shape := ⟨0, ![]⟩
abbrev S4x1408x2048 : Shape := ⟨3, ![4, 1408, 2048]⟩
abbrev S5632x2048 : Shape := ⟨2, ![5632, 2048]⟩
abbrev S2048x5632 : Shape := ⟨2, ![2048, 5632]⟩

abbrev nBuf : Space → Nat
  | .hbm => 12
  | .vmem => 0
  | .smem => 0
  | _ => 0

abbrev bufTy : (tb : Table) → Fin (tcTables nBuf tb) → BufTy
  | .hbm, ⟨0, _⟩ => ⟨S2304x5632, .bf16⟩
  | .hbm, ⟨1, _⟩ => ⟨S2304x2048, .bf16⟩
  | .hbm, ⟨2, _⟩ => ⟨S2304x5632, .f32⟩
  | .hbm, ⟨3, _⟩ => ⟨S2304x2048, .f32⟩
  | .hbm, ⟨4, _⟩ => ⟨S_, .f32⟩
  | .hbm, ⟨5, _⟩ => ⟨S4x1408x2048, .f32⟩
  | .hbm, ⟨6, _⟩ => ⟨S5632x2048, .f32⟩
  | .hbm, ⟨7, _⟩ => ⟨S2304x2048, .f32⟩
  | .hbm, ⟨8, _⟩ => ⟨S2048x5632, .f32⟩
  | .hbm, ⟨9, _⟩ => ⟨S5632x2048, .f32⟩
  | .hbm, ⟨10, _⟩ => ⟨S4x1408x2048, .f32⟩
  | .hbm, ⟨11, _⟩ => ⟨S4x1408x2048, .bf16⟩
  | _, _ => ⟨S2304x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== NtGate.lean ====
abbrev S2304x8192 : Shape := ⟨2, ![2304, 8192]⟩
abbrev S4x2048x2048 : Shape := ⟨3, ![4, 2048, 2048]⟩
abbrev S4x1x2048x2048 : Shape := ⟨4, ![4, 1, 2048, 2048]⟩
abbrev S2304x2048 : Shape := ⟨2, ![2304, 2048]⟩
abbrev S768x2048 : Shape := ⟨2, ![768, 2048]⟩
abbrev S1x1x1024x2048 : Shape := ⟨4, ![1, 1, 1024, 2048]⟩
abbrev S768x1024 : Shape := ⟨2, ![768, 1024]⟩
abbrev S1024x2048 : Shape := ⟨2, ![1024, 2048]⟩

abbrev nBuf : Space → Nat
  | .hbm => 4
  | .vmem => 7
  | .smem => 0
  | _ => 0

abbrev bufTy : (tb : Table) → Fin (tcTables nBuf tb) → BufTy
  | .hbm, ⟨0, _⟩ => ⟨S2304x8192, .bf16⟩
  | .hbm, ⟨1, _⟩ => ⟨S4x2048x2048, .bf16⟩
  | .hbm, ⟨2, _⟩ => ⟨S4x1x2048x2048, .bf16⟩
  | .hbm, ⟨3, _⟩ => ⟨S2304x2048, .f32⟩
  | .local _ .vmem, ⟨0, _⟩ => ⟨S768x2048, .bf16⟩
  | .local _ .vmem, ⟨1, _⟩ => ⟨S768x2048, .bf16⟩
  | .local _ .vmem, ⟨2, _⟩ => ⟨S1x1x1024x2048, .bf16⟩
  | .local _ .vmem, ⟨3, _⟩ => ⟨S1x1x1024x2048, .bf16⟩
  | .local _ .vmem, ⟨4, _⟩ => ⟨S768x1024, .f32⟩
  | .local _ .vmem, ⟨5, _⟩ => ⟨S768x1024, .f32⟩
  | .local _ .vmem, ⟨6, _⟩ => ⟨S768x1024, .f32⟩
  | _, _ => ⟨S2304x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 3, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_8 : BitVec 32 := 0#32
  let v12 : BitVec 1 := Scalar.cmpi .ne v11 c0_i32_8
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  ![arg1.toNat, v0.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NtGateReferenceIdeal.lean ====
abbrev S2304x8192 : Shape := ⟨2, ![2304, 8192]⟩
abbrev S4x2048x2048 : Shape := ⟨3, ![4, 2048, 2048]⟩
abbrev S_ : Shape := ⟨0, ![]⟩
abbrev S2304x2048 : Shape := ⟨2, ![2304, 2048]⟩
abbrev S2048x4x2048 : Shape := ⟨3, ![2048, 4, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S2304x8192, .bf16⟩
  | .hbm, ⟨1, _⟩ => ⟨S4x2048x2048, .bf16⟩
  | .hbm, ⟨2, _⟩ => ⟨S2304x8192, .f32⟩
  | .hbm, ⟨3, _⟩ => ⟨S4x2048x2048, .f32⟩
  | .hbm, ⟨4, _⟩ => ⟨S_, .f32⟩
  | .hbm, ⟨5, _⟩ => ⟨S2304x2048, .f32⟩
  | .hbm, ⟨6, _⟩ => ⟨S2048x4x2048, .f32⟩
  | .hbm, ⟨7, _⟩ => ⟨S2048x8192, .f32⟩
  | .hbm, ⟨8, _⟩ => ⟨S2304x8192, .f32⟩
  | .hbm, ⟨9, _⟩ => ⟨S2304x2048, .f32⟩
  | _, _ => ⟨S2304x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== TnGate.lean ====
abbrev S2304x2048 : Shape := ⟨2, ![2304, 2048]⟩
abbrev S2304x8192 : Shape := ⟨2, ![2304, 8192]⟩
abbrev S4x2048x2048 : Shape := ⟨3, ![4, 2048, 2048]⟩
abbrev S2304x512 : Shape := ⟨2, ![2304, 512]⟩
abbrev S2304x1024 : Shape := ⟨2, ![2304, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S2304x8192, .bf16⟩
  | .hbm, ⟨2, _⟩ => ⟨S4x2048x2048, .bf16⟩
  | .local _ .vmem, ⟨0, _⟩ => ⟨S2304x512, .bf16⟩
  | .local _ .vmem, ⟨1, _⟩ => ⟨S2304x512, .bf16⟩
  | .local _ .vmem, ⟨2, _⟩ => ⟨S2304x1024, .bf16⟩
  | .local _ .vmem, ⟨3, _⟩ => ⟨S2304x1024, .bf16⟩
  | .local _ .vmem, ⟨4, _⟩ => ⟨S1x512x1024, .bf16⟩
  | .local _ .vmem, ⟨5, _⟩ => ⟨S1x512x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let c0_i32 : BitVec 32 := 0#32
  let v1 : BitVec 32 := Scalar.addi c0_i32 v0
  let v2 : BitVec 32 := Scalar.addi v1 arg2
  let c0_i32_0 : BitVec 32 := 0#32
  let c0_i32_1 : BitVec 32 := 0#32
  ![c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== TnGateReferenceIdeal.lean ====
abbrev S2304x2048 : Shape := ⟨2, ![2304, 2048]⟩
abbrev S2304x8192 : Shape := ⟨2, ![2304, 8192]⟩
abbrev S_ : Shape := ⟨0, ![]⟩
abbrev S4x2048x2048 : Shape := ⟨3, ![4, 2048, 2048]⟩
abbrev S2048x4x2048 : Shape := ⟨3, ![2048, 4, 2048]⟩
abbrev S2048x8192 : Shape := ⟨2, ![2048, 8192]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x8192, .bf16⟩
  | .hbm, ⟨2, _⟩ => ⟨S2304x2048, .f32⟩
  | .hbm, ⟨3, _⟩ => ⟨S2304x8192, .f32⟩
  | .hbm, ⟨4, _⟩ => ⟨S_, .f32⟩
  | .hbm, ⟨5, _⟩ => ⟨S4x2048x2048, .f32⟩
  | .hbm, ⟨6, _⟩ => ⟨S2048x4x2048, .f32⟩
  | .hbm, ⟨7, _⟩ => ⟨S2048x8192, .f32⟩
  | .hbm, ⟨8, _⟩ => ⟨S2304x8192, .f32⟩
  | .hbm, ⟨9, _⟩ => ⟨S8192x2048, .f32⟩
  | .hbm, ⟨10, _⟩ => ⟨S2048x8192, .f32⟩
  | .hbm, ⟨11, _⟩ => ⟨S2048x4x2048, .f32⟩
  | .hbm, ⟨12, _⟩ => ⟨S4x2048x2048, .f32⟩
  | .hbm, ⟨13, _⟩ => ⟨S4x2048x2048, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== MergeBwd.lean ====
abbrev S2304x2048 : Shape := ⟨2, ![2304, 2048]⟩
abbrev S2304x8192 : Shape := ⟨2, ![2304, 8192]⟩
abbrev S_ : Shape := ⟨0, ![]⟩
abbrev S18x1x8192 : Shape := ⟨3, ![18, 1, 8192]⟩
abbrev S128x2048 : Shape := ⟨2, ![128, 2048]⟩
abbrev S128x8192 : Shape := ⟨2, ![128, 8192]⟩
abbrev S1x1x8192 : Shape := ⟨3, ![1, 1, 8192]⟩
abbrev S2048 : Shape := ⟨1, ![2048]⟩
abbrev S1x2048 : Shape := ⟨2, ![1, 2048]⟩
abbrev S1x1x2048 : Shape := ⟨3, ![1, 1, 2048]⟩

abbrev nBuf : Space → Nat
  | .hbm => 21
  | .vmem => 24
  | .smem => 0
  | _ => 0

abbrev bufTy : (tb : Table) → Fin (tcTables nBuf tb) → BufTy
  | .hbm, ⟨0, _⟩ => ⟨S2304x2048, .f32⟩
  | .hbm, ⟨1, _⟩ => ⟨S2304x8192, .f32⟩
  | .hbm, ⟨2, _⟩ => ⟨S2304x2048, .bf16⟩
  | .hbm, ⟨3, _⟩ => ⟨S2304x2048, .bf16⟩
  | .hbm, ⟨4, _⟩ => ⟨S2304x2048, .bf16⟩
  | .hbm, ⟨5, _⟩ => ⟨S2304x2048, .bf16⟩
  | .hbm, ⟨6, _⟩ => ⟨S2304x8192, .f32⟩
  | .hbm, ⟨7, _⟩ => ⟨S2304x8192, .f32⟩
  | .hbm, ⟨8, _⟩ => ⟨S_, .f32⟩
  | .hbm, ⟨9, _⟩ => ⟨S2304x8192, .f32⟩
  | .hbm, ⟨10, _⟩ => ⟨S2304x8192, .f32⟩
  | .hbm, ⟨11, _⟩ => ⟨S_, .f32⟩
  | .hbm, ⟨12, _⟩ => ⟨S2304x8192, .f32⟩
  | .hbm, ⟨13, _⟩ => ⟨S2304x8192, .f32⟩
  | .hbm, ⟨14, _⟩ => ⟨S2304x8192, .bf16⟩
  | .hbm, ⟨15, _⟩ => ⟨S2304x8192, .bf16⟩
  | .hbm, ⟨16, _⟩ => ⟨S2304x2048, .bf16⟩
  | .hbm, ⟨17, _⟩ => ⟨S2304x2048, .bf16⟩
  | .hbm, ⟨18, _⟩ => ⟨S2304x2048, .bf16⟩
  | .hbm, ⟨19, _⟩ => ⟨S2304x2048, .bf16⟩
  | .hbm, ⟨20, _⟩ => ⟨S18x1x8192, .f32⟩
  | .local _ .vmem, ⟨0, _⟩ => ⟨S128x2048, .f32⟩
  | .local _ .vmem, ⟨1, _⟩ => ⟨S128x2048, .f32⟩
  | .local _ .vmem, ⟨2, _⟩ => ⟨S128x8192, .bf16⟩
  | .local _ .vmem, ⟨3, _⟩ => ⟨S128x8192, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S128x2048, .bf16⟩
  | .local _ .vmem, ⟨11, _⟩ => ⟨S128x2048, .bf16⟩
  | .local _ .vmem, ⟨12, _⟩ => ⟨S128x8192, .bf16⟩
  | .local _ .vmem, ⟨13, _⟩ => ⟨S128x8192, .bf16⟩
  | .local _ .vmem, ⟨14, _⟩ => ⟨S128x2048, .bf16⟩
  | .local _ .vmem, ⟨15, _⟩ => ⟨S128x2048, .bf16⟩
  | .local _ .vmem, ⟨16, _⟩ => ⟨S128x2048, .bf16⟩
  | .local _ .vmem, ⟨17, _⟩ => ⟨S128x2048, .bf16⟩
  | .local _ .vmem, ⟨18, _⟩ => ⟨S128x2048, .bf16⟩
  | .local _ .vmem, ⟨19, _⟩ => ⟨S128x2048, .bf16⟩
  | .local _ .vmem, ⟨20, _⟩ => ⟨S128x2048, .bf16⟩
  | .local _ .vmem, ⟨21, _⟩ => ⟨S128x2048, .bf16⟩
  | .local _ .vmem, ⟨22, _⟩ => ⟨S1x1x8192, .f32⟩
  | .local _ .vmem, ⟨23, _⟩ => ⟨S1x1x8192, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x8192 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x8192 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeBwdReferenceIdeal.lean ====
abbrev S2304x2048 : Shape := ⟨2, ![2304, 2048]⟩
abbrev S2304x8192 : Shape := ⟨2, ![2304, 8192]⟩
abbrev S_ : Shape := ⟨0, ![]⟩
abbrev S18x128x8192 : Shape := ⟨3, ![18, 128, 8192]⟩
abbrev S18x8192 : Shape := ⟨2, ![18, 8192]⟩
abbrev S18x1x8192 : Shape := ⟨3, ![18, 1, 8192]⟩

abbrev nBuf : Space → Nat
  | .hbm => 103
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2304x8192, .f32⟩
  | .hbm, ⟨2, _⟩ => ⟨S2304x2048, .bf16⟩
  | .hbm, ⟨3, _⟩ => ⟨S2304x2048, .bf16⟩
  | .hbm, ⟨4, _⟩ => ⟨S2304x2048, .bf16⟩
  | .hbm, ⟨5, _⟩ => ⟨S2304x2048, .bf16⟩
  | .hbm, ⟨6, _⟩ => ⟨S2304x2048, .f32⟩
  | .hbm, ⟨7, _⟩ => ⟨S2304x2048, .f32⟩
  | .hbm, ⟨8, _⟩ => ⟨S2304x2048, .f32⟩
  | .hbm, ⟨9, _⟩ => ⟨S2304x2048, .f32⟩
  | .hbm, ⟨10, _⟩ => ⟨S2304x2048, .f32⟩
  | .hbm, ⟨11, _⟩ => ⟨S2304x2048, .f32⟩
  | .hbm, ⟨12, _⟩ => ⟨S2304x2048, .f32⟩
  | .hbm, ⟨13, _⟩ => ⟨S_, .f32⟩
  | .hbm, ⟨14, _⟩ => ⟨S2304x2048, .f32⟩
  | .hbm, ⟨15, _⟩ => ⟨S2304x2048, .f32⟩
  | .hbm, ⟨16, _⟩ => ⟨S_, .f32⟩
  | .hbm, ⟨17, _⟩ => ⟨S2304x2048, .f32⟩
  | .hbm, ⟨18, _⟩ => ⟨S2304x2048, .f32⟩
  | .hbm, ⟨19, _⟩ => ⟨S_, .f32⟩
  | .hbm, ⟨20, _⟩ => ⟨S2304x2048, .f32⟩
  | .hbm, ⟨21, _⟩ => ⟨S2304x2048, .f32⟩
  | .hbm, ⟨22, _⟩ => ⟨S2304x2048, .f32⟩
  | .hbm, ⟨23, _⟩ => ⟨S2304x2048, .f32⟩
  | .hbm, ⟨24, _⟩ => ⟨S2304x2048, .f32⟩
  | .hbm, ⟨25, _⟩ => ⟨S2304x2048, .f32⟩
  | .hbm, ⟨26, _⟩ => ⟨S2304x2048, .f32⟩
  | .hbm, ⟨27, _⟩ => ⟨S_, .f32⟩
  | .hbm, ⟨28, _⟩ => ⟨S2304x2048, .f32⟩
  | .hbm, ⟨29, _⟩ => ⟨S2304x2048, .f32⟩
  | .hbm, ⟨30, _⟩ => ⟨S_, .f32⟩
  | .hbm, ⟨31, _⟩ => ⟨S2304x2048, .f32⟩
  | .hbm, ⟨32, _⟩ => ⟨S2304x2048, .f32⟩
  | .hbm, ⟨33, _⟩ => ⟨S_, .f32⟩
  | .hbm, ⟨34, _⟩ => ⟨S2304x2048, .f32⟩
  | .hbm, ⟨35, _⟩ => ⟨S2304x2048, .f32⟩
  | .hbm, ⟨36, _⟩ => ⟨S2304x2048, .f32⟩
  | .hbm, ⟨37, _⟩ => ⟨S2304x2048, .f32⟩
  | .hbm, ⟨38, _⟩ => ⟨S2304x2048, .f32⟩
  | .hbm, ⟨39, _⟩ => ⟨S2304x2048, .f32⟩
  | .hbm, ⟨40, _⟩ => ⟨S2304x2048, .f32⟩
  | .hbm, ⟨41, _⟩ => ⟨S_, .f32⟩
  | .hbm, ⟨42, _⟩ => ⟨S2304x2048, .f32⟩
  | .hbm, ⟨43, _⟩ => ⟨S2304x2048, .f32⟩
  | .hbm, ⟨44, _⟩ => ⟨S_, .f32⟩
  | .hbm, ⟨45, _⟩ => ⟨S2304x2048, .f32⟩
  | .hbm, ⟨46, _⟩ => ⟨S2304x2048, .f32⟩
  | .hbm, ⟨47, _⟩ => ⟨S_, .f32⟩
  | .hbm, ⟨48, _⟩ => ⟨S2304x2048, .f32⟩
  | .hbm, ⟨49, _⟩ => ⟨S2304x2048, .f32⟩
  | .hbm, ⟨50, _⟩ => ⟨S2304x2048, .f32⟩
  | .hbm, ⟨51, _⟩ => ⟨S2304x2048, .f32⟩
  | .hbm, ⟨52, _⟩ => ⟨S2304x2048, .f32⟩
  | .hbm, ⟨53, _⟩ => ⟨S2304x2048, .f32⟩
  | .hbm, ⟨54, _⟩ => ⟨S2304x2048, .f32⟩
  | .hbm, ⟨55, _⟩ => ⟨S_, .f32⟩
  | .hbm, ⟨56, _⟩ => ⟨S2304x2048, .f32⟩
  | .hbm, ⟨57, _⟩ => ⟨S2304x2048, .f32⟩
  | .hbm, ⟨58, _⟩ => ⟨S_, .f32⟩
  | .hbm, ⟨59, _⟩ => ⟨S2304x2048, .f32⟩
  | .hbm, ⟨60, _⟩ => ⟨S2304x2048, .f32⟩
  | .hbm, ⟨61, _⟩ => ⟨S_, .f32⟩
  | .hbm, ⟨62, _⟩ => ⟨S2304x2048, .f32⟩
  | .hbm, ⟨63, _⟩ => ⟨S2304x2048, .f32⟩
  | .hbm, ⟨64, _⟩ => ⟨S2304x2048, .f32⟩
  | .hbm, ⟨65, _⟩ => ⟨S2304x2048, .f32⟩
  | .hbm, ⟨66, _⟩ => ⟨S2304x2048, .f32⟩
  | .hbm, ⟨67, _⟩ => ⟨S2304x2048, .f32⟩
  | .hbm, ⟨68, _⟩ => ⟨S2304x2048, .f32⟩
  | .hbm, ⟨69, _⟩ => ⟨S2304x2048, .f32⟩
  | .hbm, ⟨70, _⟩ => ⟨S2304x2048, .f32⟩
  | .hbm, ⟨71, _⟩ => ⟨S2304x2048, .f32⟩
  | .hbm, ⟨72, _⟩ => ⟨S2304x2048, .f32⟩
  | .hbm, ⟨73, _⟩ => ⟨S2304x2048, .f32⟩
  | .hbm, ⟨74, _⟩ => ⟨S_, .f32⟩
  | .hbm, ⟨75, _⟩ => ⟨S2304x8192, .f32⟩
  | .hbm, ⟨76, _⟩ => ⟨S2304x2048, .f32⟩
  | .hbm, ⟨77, _⟩ => ⟨S2304x2048, .f32⟩
  | .hbm, ⟨78, _⟩ => ⟨S2304x2048, .f32⟩
  | .hbm, ⟨79, _⟩ => ⟨S_, .f32⟩
  | .hbm, ⟨80, _⟩ => ⟨S2304x8192, .f32⟩
  | .hbm, ⟨81, _⟩ => ⟨S2304x8192, .f32⟩
  | .hbm, ⟨82, _⟩ => ⟨S2304x2048, .f32⟩
  | .hbm, ⟨83, _⟩ => ⟨S2304x2048, .f32⟩
  | .hbm, ⟨84, _⟩ => ⟨S2304x2048, .f32⟩
  | .hbm, ⟨85, _⟩ => ⟨S_, .f32⟩
  | .hbm, ⟨86, _⟩ => ⟨S2304x8192, .f32⟩
  | .hbm, ⟨87, _⟩ => ⟨S2304x8192, .f32⟩
  | .hbm, ⟨88, _⟩ => ⟨S2304x2048, .f32⟩
  | .hbm, ⟨89, _⟩ => ⟨S2304x2048, .f32⟩
  | .hbm, ⟨90, _⟩ => ⟨S2304x2048, .f32⟩
  | .hbm, ⟨91, _⟩ => ⟨S_, .f32⟩
  | .hbm, ⟨92, _⟩ => ⟨S2304x8192, .f32⟩
  | .hbm, ⟨93, _⟩ => ⟨S2304x8192, .f32⟩
  | .hbm, ⟨94, _⟩ => ⟨S2304x2048, .bf16⟩
  | .hbm, ⟨95, _⟩ => ⟨S2304x2048, .bf16⟩
  | .hbm, ⟨96, _⟩ => ⟨S2304x2048, .bf16⟩
  | .hbm, ⟨97, _⟩ => ⟨S2304x2048, .bf16⟩
  | .hbm, ⟨98, _⟩ => ⟨S2304x8192, .bf16⟩
  | .hbm, ⟨99, _⟩ => ⟨S18x128x8192, .f32⟩
  | .hbm, ⟨100, _⟩ => ⟨S_, .f32⟩
  | .hbm, ⟨101, _⟩ => ⟨S18x8192, .f32⟩
  | .hbm, ⟨102, _⟩ => ⟨S18x1x8192, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_11 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_12 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_13 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_cst_14 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_15 : Ref sig .tc := ⟨.hbm, 100, rfl⟩
abbrev main_v78 : Ref sig .tc := ⟨.hbm, 101, rfl⟩
abbrev main_v79 : Ref sig .tc := ⟨.hbm, 102, rfl⟩

abbrev nD : Nat := 1
abbrev τ : Topo := Topo.v7x

variable {F : FTy → Type} [FloatOps F]
-- ==== MergeFwd.lean ====
abbrev S2304x8192 : Shape := ⟨2, ![2304, 8192]⟩
abbrev S2304x2048 : Shape := ⟨2, ![2304, 2048]⟩
abbrev S128x8192 : Shape := ⟨2, ![128, 8192]⟩
abbrev S128x2048 : Shape := ⟨2, ![128, 2048]⟩

abbrev nBuf : Space → Nat
  | .hbm => 6
  | .vmem => 12
  | .smem => 0
  | _ => 0

abbrev bufTy : (tb : Table) → Fin (tcTables nBuf tb) → BufTy
  | .hbm, ⟨0, _⟩ => ⟨S2304x8192, .bf16⟩
  | .hbm, ⟨1, _⟩ => ⟨S2304x2048, .bf16⟩
  | .hbm, ⟨2, _⟩ => ⟨S2304x2048, .bf16⟩
  | .hbm, ⟨3, _⟩ => ⟨S2304x2048, .bf16⟩
  | .hbm, ⟨4, _⟩ => ⟨S2304x2048, .bf16⟩
  | .hbm, ⟨5, _⟩ => ⟨S2304x2048, .bf16⟩
  | .local _ .vmem, ⟨0, _⟩ => ⟨S128x8192, .bf16⟩
  | .local _ .vmem, ⟨1, _⟩ => ⟨S128x8192, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S128x2048, .bf16⟩
  | .local _ .vmem, ⟨11, _⟩ => ⟨S128x2048, .bf16⟩
  | _, _ => ⟨S2304x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MergeFwdReferenceIdeal.lean ====
abbrev S2304x8192 : Shape := ⟨2, ![2304, 8192]⟩
abbrev S2304x2048 : Shape := ⟨2, ![2304, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2304x8192, .bf16⟩
  | .hbm, ⟨1, _⟩ => ⟨S2304x2048, .bf16⟩
  | .hbm, ⟨2, _⟩ => ⟨S2304x2048, .bf16⟩
  | .hbm, ⟨3, _⟩ => ⟨S2304x2048, .bf16⟩
  | .hbm, ⟨4, _⟩ => ⟨S2304x2048, .bf16⟩
  | .hbm, ⟨5, _⟩ => ⟨S2304x2048, .bf16⟩
  | .hbm, ⟨6, _⟩ => ⟨S2304x2048, .f32⟩
  | .hbm, ⟨7, _⟩ => ⟨S2304x2048, .f32⟩
  | .hbm, ⟨8, _⟩ => ⟨S2304x2048, .f32⟩
  | .hbm, ⟨9, _⟩ => ⟨S2304x2048, .bf16⟩
  | .hbm, ⟨10, _⟩ => ⟨S2304x2048, .f32⟩
  | .hbm, ⟨11, _⟩ => ⟨S2304x2048, .f32⟩
  | .hbm, ⟨12, _⟩ => ⟨S2304x2048, .f32⟩
  | .hbm, ⟨13, _⟩ => ⟨S2304x2048, .bf16⟩
  | .hbm, ⟨14, _⟩ => ⟨S2304x2048, .f32⟩
  | .hbm, ⟨15, _⟩ => ⟨S2304x2048, .f32⟩
  | .hbm, ⟨16, _⟩ => ⟨S2304x2048, .f32⟩
  | .hbm, ⟨17, _⟩ => ⟨S2304x2048, .bf16⟩
  | .hbm, ⟨18, _⟩ => ⟨S2304x2048, .f32⟩
  | .hbm, ⟨19, _⟩ => ⟨S2304x2048, .f32⟩
  | .hbm, ⟨20, _⟩ => ⟨S2304x2048, .f32⟩
  | .hbm, ⟨21, _⟩ => ⟨S2304x2048, .f32⟩
  | .hbm, ⟨22, _⟩ => ⟨S2304x2048, .f32⟩
  | .hbm, ⟨23, _⟩ => ⟨S2304x2048, .f32⟩
  | .hbm, ⟨24, _⟩ => ⟨S2304x2048, .bf16⟩
  | _, _ => ⟨S2304x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== MmGate.lean ====
abbrev S2304x2048 : Shape := ⟨2, ![2304, 2048]⟩
abbrev S4x2048x2048 : Shape := ⟨3, ![4, 2048, 2048]⟩
abbrev S8192 : Shape := ⟨1, ![8192]⟩
abbrev S1x8192 : Shape := ⟨2, ![1, 8192]⟩
abbrev S4x1x2048x2048 : Shape := ⟨4, ![4, 1, 2048, 2048]⟩
abbrev S2304x8192 : Shape := ⟨2, ![2304, 8192]⟩
abbrev S768x2048 : Shape := ⟨2, ![768, 2048]⟩
abbrev S1x1x2048x1024 : Shape := ⟨4, ![1, 1, 2048, 1024]⟩
abbrev S1x1024 : Shape := ⟨2, ![1, 1024]⟩
abbrev S768x1024 : Shape := ⟨2, ![768, 1024]⟩
abbrev S2048x1024 : Shape := ⟨2, ![2048, 1024]⟩

abbrev nBuf : Space → Nat
  | .hbm => 6
  | .vmem => 8
  | .smem => 0
  | _ => 0

abbrev bufTy : (tb : Table) → Fin (tcTables nBuf tb) → BufTy
  | .hbm, ⟨0, _⟩ => ⟨S2304x2048, .bf16⟩
  | .hbm, ⟨1, _⟩ => ⟨S4x2048x2048, .bf16⟩
  | .hbm, ⟨2, _⟩ => ⟨S8192, .f32⟩
  | .hbm, ⟨3, _⟩ => ⟨S1x8192, .f32⟩
  | .hbm, ⟨4, _⟩ => ⟨S4x1x2048x2048, .bf16⟩
  | .hbm, ⟨5, _⟩ => ⟨S2304x8192, .bf16⟩
  | .local _ .vmem, ⟨0, _⟩ => ⟨S768x2048, .bf16⟩
  | .local _ .vmem, ⟨1, _⟩ => ⟨S768x2048, .bf16⟩
  | .local _ .vmem, ⟨2, _⟩ => ⟨S1x1x2048x1024, .bf16⟩
  | .local _ .vmem, ⟨3, _⟩ => ⟨S1x1x2048x1024, .bf16⟩
  | .local _ .vmem, ⟨4, _⟩ => ⟨S1x1024, .f32⟩
  | .local _ .vmem, ⟨5, _⟩ => ⟨S1x1024, .f32⟩
  | .local _ .vmem, ⟨6, _⟩ => ⟨S768x1024, .bf16⟩
  | .local _ .vmem, ⟨7, _⟩ => ⟨S768x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S768x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== MmGateReferenceIdeal.lean ====
abbrev S2304x2048 : Shape := ⟨2, ![2304, 2048]⟩
abbrev S4x2048x2048 : Shape := ⟨3, ![4, 2048, 2048]⟩
abbrev S8192 : Shape := ⟨1, ![8192]⟩
abbrev S2048x4x2048 : Shape := ⟨3, ![2048, 4, 2048]⟩
abbrev S2048x8192 : Shape := ⟨2, ![2048, 8192]⟩
abbrev S2304x8192 : Shape := ⟨2, ![2304, 8192]⟩
abbrev S1x8192 : Shape := ⟨2, ![1, 8192]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S4x2048x2048, .bf16⟩
  | .hbm, ⟨2, _⟩ => ⟨S8192, .f32⟩
  | .hbm, ⟨3, _⟩ => ⟨S2304x2048, .f32⟩
  | .hbm, ⟨4, _⟩ => ⟨S4x2048x2048, .f32⟩
  | .hbm, ⟨5, _⟩ => ⟨S2048x4x2048, .f32⟩
  | .hbm, ⟨6, _⟩ => ⟨S2048x8192, .f32⟩
  | .hbm, ⟨7, _⟩ => ⟨S2304x8192, .f32⟩
  | .hbm, ⟨8, _⟩ => ⟨S1x8192, .f32⟩
  | .hbm, ⟨9, _⟩ => ⟨S2304x8192, .f32⟩
  | .hbm, ⟨10, _⟩ => ⟨S2304x8192, .f32⟩
  | .hbm, ⟨11, _⟩ => ⟨S2304x8192, .f32⟩
  | .hbm, ⟨12, _⟩ => ⟨S2304x8192, .f32⟩
  | .hbm, ⟨13, _⟩ => ⟨S_, .f32⟩
  | .hbm, ⟨14, _⟩ => ⟨S2304x8192, .f32⟩
  | .hbm, ⟨15, _⟩ => ⟨S2304x8192, .f32⟩
  | .hbm, ⟨16, _⟩ => ⟨S_, .f32⟩
  | .hbm, ⟨17, _⟩ => ⟨S2304x8192, .f32⟩
  | .hbm, ⟨18, _⟩ => ⟨S2304x8192, .f32⟩
  | .hbm, ⟨19, _⟩ => ⟨S2304x8192, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== MmFfDown.lean ====
abbrev S2304x5632 : Shape := ⟨2, ![2304, 5632]⟩
abbrev S4x1408x2048 : Shape := ⟨3, ![4, 1408, 2048]⟩
abbrev S4x1x1408x2048 : Shape := ⟨4, ![4, 1, 1408, 2048]⟩
abbrev S2304x2048 : Shape := ⟨2, ![2304, 2048]⟩
abbrev S384x5632 : Shape := ⟨2, ![384, 5632]⟩
abbrev S4x1x1408x512 : Shape := ⟨4, ![4, 1, 1408, 512]⟩
abbrev S384x512 : Shape := ⟨2, ![384, 512]⟩
abbrev S4x1408x512 : Shape := ⟨3, ![4, 1408, 512]⟩
abbrev S5632x512 : Shape := ⟨2, ![5632, 512]⟩

abbrev nBuf : Space → Nat
  | .hbm => 4
  | .vmem => 6
  | .smem => 0
  | _ => 0

abbrev bufTy : (tb : Table) → Fin (tcTables nBuf tb) → BufTy
  | .hbm, ⟨0, _⟩ => ⟨S2304x5632, .bf16⟩
  | .hbm, ⟨1, _⟩ => ⟨S4x1408x2048, .bf16⟩
  | .hbm, ⟨2, _⟩ => ⟨S4x1x1408x2048, .bf16⟩
  | .hbm, ⟨3, _⟩ => ⟨S2304x2048, .f32⟩
  | .local _ .vmem, ⟨0, _⟩ => ⟨S384x5632, .bf16⟩
  | .local _ .vmem, ⟨1, _⟩ => ⟨S384x5632, .bf16⟩
  | .local _ .vmem, ⟨2, _⟩ => ⟨S4x1x1408x512, .bf16⟩
  | .local _ .vmem, ⟨3, _⟩ => ⟨S4x1x1408x512, .bf16⟩
  | .local _ .vmem, ⟨4, _⟩ => ⟨S384x512, .f32⟩
  | .local _ .vmem, ⟨5, _⟩ => ⟨S384x512, .f32⟩
  | _, _ => ⟨S2304x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1x1408x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S384x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmFfDownReferenceIdeal.lean ====
abbrev S2304x5632 : Shape := ⟨2, ![2304, 5632]⟩
abbrev S4x1408x2048 : Shape := ⟨3, ![4, 1408, 2048]⟩
abbrev S5632x2048 : Shape := ⟨2, ![5632, 2048]⟩
abbrev S2304x2048 : Shape := ⟨2, ![2304, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2304x5632, .bf16⟩
  | .hbm, ⟨1, _⟩ => ⟨S4x1408x2048, .bf16⟩
  | .hbm, ⟨2, _⟩ => ⟨S2304x5632, .f32⟩
  | .hbm, ⟨3, _⟩ => ⟨S4x1408x2048, .f32⟩
  | .hbm, ⟨4, _⟩ => ⟨S5632x2048, .f32⟩
  | .hbm, ⟨5, _⟩ => ⟨S2304x2048, .f32⟩
  | _, _ => ⟨S2304x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmIn.lean ====
abbrev S2304x2048 : Shape := ⟨2, ![2304, 2048]⟩
abbrev S4x2048x1152 : Shape := ⟨3, ![4, 2048, 1152]⟩
abbrev S4x1x2048x1152 : Shape := ⟨4, ![4, 1, 2048, 1152]⟩
abbrev S2304x4608 : Shape := ⟨2, ![2304, 4608]⟩
abbrev S768x2048 : Shape := ⟨2, ![768, 2048]⟩
abbrev S1x1x2048x1152 : Shape := ⟨4, ![1, 1, 2048, 1152]⟩
abbrev S768x1152 : Shape := ⟨2, ![768, 1152]⟩
abbrev S2048x1152 : Shape := ⟨2, ![2048, 1152]⟩

abbrev nBuf : Space → Nat
  | .hbm => 4
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S4x2048x1152, .bf16⟩
  | .hbm, ⟨2, _⟩ => ⟨S4x1x2048x1152, .bf16⟩
  | .hbm, ⟨3, _⟩ => ⟨S2304x4608, .f32⟩
  | .local _ .vmem, ⟨0, _⟩ => ⟨S768x2048, .bf16⟩
  | .local _ .vmem, ⟨1, _⟩ => ⟨S768x2048, .bf16⟩
  | .local _ .vmem, ⟨2, _⟩ => ⟨S1x1x2048x1152, .bf16⟩
  | .local _ .vmem, ⟨3, _⟩ => ⟨S1x1x2048x1152, .bf16⟩
  | .local _ .vmem, ⟨4, _⟩ => ⟨S768x1152, .f32⟩
  | .local _ .vmem, ⟨5, _⟩ => ⟨S768x1152, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmInReferenceIdeal.lean ====
abbrev S2304x2048 : Shape := ⟨2, ![2304, 2048]⟩
abbrev S4x2048x1152 : Shape := ⟨3, ![4, 2048, 1152]⟩
abbrev S2048x4x1152 : Shape := ⟨3, ![2048, 4, 1152]⟩
abbrev S2048x4608 : Shape := ⟨2, ![2048, 4608]⟩
abbrev S2304x4608 : Shape := ⟨2, ![2304, 4608]⟩

abbrev nBuf : Space → Nat
  | .hbm => 7
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S4x2048x1152, .bf16⟩
  | .hbm, ⟨2, _⟩ => ⟨S2304x2048, .f32⟩
  | .hbm, ⟨3, _⟩ => ⟨S4x2048x1152, .f32⟩
  | .hbm, ⟨4, _⟩ => ⟨S2048x4x1152, .f32⟩
  | .hbm, ⟨5, _⟩ => ⟨S2048x4608, .f32⟩
  | .hbm, ⟨6, _⟩ => ⟨S2304x4608, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== NtIn.lean ====
abbrev S2304x4608 : Shape := ⟨2, ![2304, 4608]⟩
abbrev S4x2048x1152 : Shape := ⟨3, ![4, 2048, 1152]⟩
abbrev S4x1x2048x1152 : Shape := ⟨4, ![4, 1, 2048, 1152]⟩
abbrev S2304x2048 : Shape := ⟨2, ![2304, 2048]⟩
abbrev S768x4608 : Shape := ⟨2, ![768, 4608]⟩
abbrev S4x1x512x1152 : Shape := ⟨4, ![4, 1, 512, 1152]⟩
abbrev S768x512 : Shape := ⟨2, ![768, 512]⟩
abbrev S768x1152 : Shape := ⟨2, ![768, 1152]⟩
abbrev S1x1x512x1152 : Shape := ⟨4, ![1, 1, 512, 1152]⟩
abbrev S512x1152 : Shape := ⟨2, ![512, 1152]⟩

abbrev nBuf : Space → Nat
  | .hbm => 4
  | .vmem => 6
  | .smem => 0
  | _ => 0

abbrev bufTy : (tb : Table) → Fin (tcTables nBuf tb) → BufTy
  | .hbm, ⟨0, _⟩ => ⟨S2304x4608, .bf16⟩
  | .hbm, ⟨1, _⟩ => ⟨S4x2048x1152, .bf16⟩
  | .hbm, ⟨2, _⟩ => ⟨S4x1x2048x1152, .bf16⟩
  | .hbm, ⟨3, _⟩ => ⟨S2304x2048, .f32⟩
  | .local _ .vmem, ⟨0, _⟩ => ⟨S768x4608, .bf16⟩
  | .local _ .vmem, ⟨1, _⟩ => ⟨S768x4608, .bf16⟩
  | .local _ .vmem, ⟨2, _⟩ => ⟨S4x1x512x1152, .bf16⟩
  | .local _ .vmem, ⟨3, _⟩ => ⟨S4x1x512x1152, .bf16⟩
  | .local _ .vmem, ⟨4, _⟩ => ⟨S768x512, .f32⟩
  | .local _ .vmem, ⟨5, _⟩ => ⟨S768x512, .f32⟩
  | _, _ => ⟨S2304x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1x512x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NtInReferenceIdeal.lean ====
abbrev S2304x4608 : Shape := ⟨2, ![2304, 4608]⟩
abbrev S4x2048x1152 : Shape := ⟨3, ![4, 2048, 1152]⟩
abbrev S_ : Shape := ⟨0, ![]⟩
abbrev S2304x2048 : Shape := ⟨2, ![2304, 2048]⟩
abbrev S2048x4x1152 : Shape := ⟨3, ![2048, 4, 1152]⟩
abbrev S2048x4608 : Shape := ⟨2, ![2048, 4608]⟩

abbrev nBuf : Space → Nat
  | .hbm => 10
  | .vmem => 0
  | .smem => 0
  | _ => 0

abbrev bufTy : (tb : Table) → Fin (tcTables nBuf tb) → BufTy
  | .hbm, ⟨0, _⟩ => ⟨S2304x4608, .bf16⟩
  | .hbm, ⟨1, _⟩ => ⟨S4x2048x1152, .bf16⟩
  | .hbm, ⟨2, _⟩ => ⟨S2304x4608, .f32⟩
  | .hbm, ⟨3, _⟩ => ⟨S4x2048x1152, .f32⟩
  | .hbm, ⟨4, _⟩ => ⟨S_, .f32⟩
  | .hbm, ⟨5, _⟩ => ⟨S2304x2048, .f32⟩
  | .hbm, ⟨6, _⟩ => ⟨S2048x4x1152, .f32⟩
  | .hbm, ⟨7, _⟩ => ⟨S2048x4608, .f32⟩
  | .hbm, ⟨8, _⟩ => ⟨S2304x4608, .f32⟩
  | .hbm, ⟨9, _⟩ => ⟨S2304x2048, .f32⟩
  | _, _ => ⟨S2304x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== TnIn.lean ====
abbrev S2304x2048 : Shape := ⟨2, ![2304, 2048]⟩
abbrev S2304x4608 : Shape := ⟨2, ![2304, 4608]⟩
abbrev S4x2048x1152 : Shape := ⟨3, ![4, 2048, 1152]⟩
abbrev S2304x512 : Shape := ⟨2, ![2304, 512]⟩
abbrev S2304x1152 : Shape := ⟨2, ![2304, 1152]⟩
abbrev S1x512x1152 : Shape := ⟨3, ![1, 512, 1152]⟩
abbrev S512x1152 : Shape := ⟨2, ![512, 1152]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S2304x4608, .bf16⟩
  | .hbm, ⟨2, _⟩ => ⟨S4x2048x1152, .bf16⟩
  | .local _ .vmem, ⟨0, _⟩ => ⟨S2304x512, .bf16⟩
  | .local _ .vmem, ⟨1, _⟩ => ⟨S2304x512, .bf16⟩
  | .local _ .vmem, ⟨2, _⟩ => ⟨S2304x1152, .bf16⟩
  | .local _ .vmem, ⟨3, _⟩ => ⟨S2304x1152, .bf16⟩
  | .local _ .vmem, ⟨4, _⟩ => ⟨S1x512x1152, .bf16⟩
  | .local _ .vmem, ⟨5, _⟩ => ⟨S1x512x1152, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  let c0_i32_1 : BitVec 32 := 0#32
  ![c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2304x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== TnInReferenceIdeal.lean ====
abbrev S2304x2048 : Shape := ⟨2, ![2304, 2048]⟩
abbrev S2304x4608 : Shape := ⟨2, ![2304, 4608]⟩
abbrev S_ : Shape := ⟨0, ![]⟩
abbrev S4x2048x1152 : Shape := ⟨3, ![4, 2048, 1152]⟩
abbrev S2048x4x1152 : Shape := ⟨3, ![2048, 4, 1152]⟩
abbrev S2048x4608 : Shape := ⟨2, ![2048, 4608]⟩
abbrev S4608x2048 : Shape := ⟨2, ![4608, 2048]⟩

abbrev nBuf : Space → Nat
  | .hbm => 14
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x4608, .bf16⟩
  | .hbm, ⟨2, _⟩ => ⟨S2304x2048, .f32⟩
  | .hbm, ⟨3, _⟩ => ⟨S2304x4608, .f32⟩
  | .hbm, ⟨4, _⟩ => ⟨S_, .f32⟩
  | .hbm, ⟨5, _⟩ => ⟨S4x2048x1152, .f32⟩
  | .hbm, ⟨6, _⟩ => ⟨S2048x4x1152, .f32⟩
  | .hbm, ⟨7, _⟩ => ⟨S2048x4608, .f32⟩
  | .hbm, ⟨8, _⟩ => ⟨S2304x4608, .f32⟩
  | .hbm, ⟨9, _⟩ => ⟨S4608x2048, .f32⟩
  | .hbm, ⟨10, _⟩ => ⟨S2048x4608, .f32⟩
  | .hbm, ⟨11, _⟩ => ⟨S2048x4x1152, .f32⟩
  | .hbm, ⟨12, _⟩ => ⟨S4x2048x1152, .f32⟩
  | .hbm, ⟨13, _⟩ => ⟨S4x2048x1152, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== MmOut.lean ====
abbrev S2304x2048 : Shape := ⟨2, ![2304, 2048]⟩
abbrev S4x512x2048 : Shape := ⟨3, ![4, 512, 2048]⟩
abbrev S4x1x512x2048 : Shape := ⟨4, ![4, 1, 512, 2048]⟩
abbrev S768x2048 : Shape := ⟨2, ![768, 2048]⟩
abbrev S4x1x512x1024 : Shape := ⟨4, ![4, 1, 512, 1024]⟩
abbrev S768x1024 : Shape := ⟨2, ![768, 1024]⟩
abbrev S4x512x1024 : Shape := ⟨3, ![4, 512, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S4x512x2048, .bf16⟩
  | .hbm, ⟨2, _⟩ => ⟨S4x1x512x2048, .bf16⟩
  | .hbm, ⟨3, _⟩ => ⟨S2304x2048, .f32⟩
  | .local _ .vmem, ⟨0, _⟩ => ⟨S768x2048, .bf16⟩
  | .local _ .vmem, ⟨1, _⟩ => ⟨S768x2048, .bf16⟩
  | .local _ .vmem, ⟨2, _⟩ => ⟨S4x1x512x1024, .bf16⟩
  | .local _ .vmem, ⟨3, _⟩ => ⟨S4x1x512x1024, .bf16⟩
  | .local _ .vmem, ⟨4, _⟩ => ⟨S768x1024, .f32⟩
  | .local _ .vmem, ⟨5, _⟩ => ⟨S768x1024, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4x1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmOutReferenceIdeal.lean ====
abbrev S2304x2048 : Shape := ⟨2, ![2304, 2048]⟩
abbrev S4x512x2048 : Shape := ⟨3, ![4, 512, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S4x512x2048, .bf16⟩
  | .hbm, ⟨2, _⟩ => ⟨S2304x2048, .f32⟩
  | .hbm, ⟨3, _⟩ => ⟨S4x512x2048, .f32⟩
  | .hbm, ⟨4, _⟩ => ⟨S2048x2048, .f32⟩
  | .hbm, ⟨5, _⟩ => ⟨S2304x2048, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== NtOut.lean ====
abbrev S2304x2048 : Shape := ⟨2, ![2304, 2048]⟩
abbrev S4x512x2048 : Shape := ⟨3, ![4, 512, 2048]⟩
abbrev S4x1x512x2048 : Shape := ⟨4, ![4, 1, 512, 2048]⟩
abbrev S768x2048 : Shape := ⟨2, ![768, 2048]⟩
abbrev S1x1x512x2048 : Shape := ⟨4, ![1, 1, 512, 2048]⟩
abbrev S768x512 : Shape := ⟨2, ![768, 512]⟩
abbrev S512x2048 : Shape := ⟨2, ![512, 2048]⟩

abbrev nBuf : Space → Nat
  | .hbm => 4
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S4x512x2048, .bf16⟩
  | .hbm, ⟨2, _⟩ => ⟨S4x1x512x2048, .bf16⟩
  | .hbm, ⟨3, _⟩ => ⟨S2304x2048, .f32⟩
  | .local _ .vmem, ⟨0, _⟩ => ⟨S768x2048, .bf16⟩
  | .local _ .vmem, ⟨1, _⟩ => ⟨S768x2048, .bf16⟩
  | .local _ .vmem, ⟨2, _⟩ => ⟨S1x1x512x2048, .bf16⟩
  | .local _ .vmem, ⟨3, _⟩ => ⟨S1x1x512x2048, .bf16⟩
  | .local _ .vmem, ⟨4, _⟩ => ⟨S768x512, .f32⟩
  | .local _ .vmem, ⟨5, _⟩ => ⟨S768x512, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, v26.toNat, c0_i32_12.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NtOutReferenceIdeal.lean ====
abbrev S2304x2048 : Shape := ⟨2, ![2304, 2048]⟩
abbrev S4x512x2048 : Shape := ⟨3, ![4, 512, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S4x512x2048, .bf16⟩
  | .hbm, ⟨2, _⟩ => ⟨S2304x2048, .f32⟩
  | .hbm, ⟨3, _⟩ => ⟨S4x512x2048, .f32⟩
  | .hbm, ⟨4, _⟩ => ⟨S_, .f32⟩
  | .hbm, ⟨5, _⟩ => ⟨S2304x2048, .f32⟩
  | .hbm, ⟨6, _⟩ => ⟨S2048x2048, .f32⟩
  | .hbm, ⟨7, _⟩ => ⟨S2304x2048, .f32⟩
  | .hbm, ⟨8, _⟩ => ⟨S2304x2048, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== TnOut.lean ====
abbrev S2304x2048 : Shape := ⟨2, ![2304, 2048]⟩
abbrev S4x512x2048 : Shape := ⟨3, ![4, 512, 2048]⟩
abbrev S2304x512 : Shape := ⟨2, ![2304, 512]⟩
abbrev S2304x1024 : Shape := ⟨2, ![2304, 1024]⟩
abbrev S1x512x1024 : Shape := ⟨3, ![1, 512, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S2304x2048, .bf16⟩
  | .hbm, ⟨2, _⟩ => ⟨S4x512x2048, .bf16⟩
  | .local _ .vmem, ⟨0, _⟩ => ⟨S2304x512, .bf16⟩
  | .local _ .vmem, ⟨1, _⟩ => ⟨S2304x512, .bf16⟩
  | .local _ .vmem, ⟨2, _⟩ => ⟨S2304x1024, .bf16⟩
  | .local _ .vmem, ⟨3, _⟩ => ⟨S2304x1024, .bf16⟩
  | .local _ .vmem, ⟨4, _⟩ => ⟨S1x512x1024, .bf16⟩
  | .local _ .vmem, ⟨5, _⟩ => ⟨S1x512x1024, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg1
  let c0_i32_0 : BitVec 32 := 0#32
  let c0_i32_1 : BitVec 32 := 0#32
  ![c0_i32_0.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg2
  let c0_i32_0 : BitVec 32 := 0#32
  let c0_i32_1 : BitVec 32 := 0#32
  ![c0_i32_0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2304x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== TnOutReferenceIdeal.lean ====
abbrev S2304x2048 : Shape := ⟨2, ![2304, 2048]⟩
abbrev S_ : Shape := ⟨0, ![]⟩
abbrev S4x512x2048 : Shape := ⟨3, ![4, 512, 2048]⟩
abbrev S2048x2048 : Shape := ⟨2, ![2048, 2048]⟩

abbrev nBuf : Space → Nat
  | .hbm => 12
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x2048, .bf16⟩
  | .hbm, ⟨2, _⟩ => ⟨S2304x2048, .f32⟩
  | .hbm, ⟨3, _⟩ => ⟨S2304x2048, .f32⟩
  | .hbm, ⟨4, _⟩ => ⟨S_, .f32⟩
  | .hbm, ⟨5, _⟩ => ⟨S4x512x2048, .f32⟩
  | .hbm, ⟨6, _⟩ => ⟨S2048x2048, .f32⟩
  | .hbm, ⟨7, _⟩ => ⟨S2304x2048, .f32⟩
  | .hbm, ⟨8, _⟩ => ⟨S2048x2048, .f32⟩
  | .hbm, ⟨9, _⟩ => ⟨S2048x2048, .f32⟩
  | .hbm, ⟨10, _⟩ => ⟨S4x512x2048, .f32⟩
  | .hbm, ⟨11, _⟩ => ⟨S4x512x2048, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MmAttn.lean ====
abbrev S2304x1024 : Shape := ⟨2, ![2304, 1024]⟩
abbrev S4x1024x512 : Shape := ⟨3, ![4, 1024, 512]⟩
abbrev S4x1x1024x512 : Shape := ⟨4, ![4, 1, 1024, 512]⟩
abbrev S2304x2048 : Shape := ⟨2, ![2304, 2048]⟩
abbrev S768x1024 : Shape := ⟨2, ![768, 1024]⟩
abbrev S1x1x1024x512 : Shape := ⟨4, ![1, 1, 1024, 512]⟩
abbrev S768x512 : Shape := ⟨2, ![768, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S4x1024x512, .bf16⟩
  | .hbm, ⟨2, _⟩ => ⟨S4x1x1024x512, .bf16⟩
  | .hbm, ⟨3, _⟩ => ⟨S2304x2048, .bf16⟩
  | .local _ .vmem, ⟨0, _⟩ => ⟨S768x1024, .bf16⟩
  | .local _ .vmem, ⟨1, _⟩ => ⟨S768x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S768x512, .bf16⟩
  | .local _ .vmem, ⟨5, _⟩ => ⟨S768x512, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmAttnIdeal.lean ====
abbrev S2304x1024 : Shape := ⟨2, ![2304, 1024]⟩
abbrev S4x1024x512 : Shape := ⟨3, ![4, 1024, 512]⟩
abbrev S4x1x1024x512 : Shape := ⟨4, ![4, 1, 1024, 512]⟩
abbrev S2304x2048 : Shape := ⟨2, ![2304, 2048]⟩
abbrev S768x1024 : Shape := ⟨2, ![768, 1024]⟩
abbrev S1x1x1024x512 : Shape := ⟨4, ![1, 1, 1024, 512]⟩
abbrev S768x512 : Shape := ⟨2, ![768, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S4x1024x512, .bf16⟩
  | .hbm, ⟨2, _⟩ => ⟨S4x1x1024x512, .bf16⟩
  | .hbm, ⟨3, _⟩ => ⟨S2304x2048, .bf16⟩
  | .local _ .vmem, ⟨0, _⟩ => ⟨S768x1024, .bf16⟩
  | .local _ .vmem, ⟨1, _⟩ => ⟨S768x1024, .bf16⟩
  | .local _ .vmem, ⟨2, _⟩ => ⟨S1x1x1024x512, .bf16⟩
  | .local _ .vmem, ⟨3, _⟩ => ⟨S1x1x1024x512, .bf16⟩
  | .local _ .vmem, ⟨4, _⟩ => ⟨S768x512, .bf16⟩
  | .local _ .vmem, ⟨5, _⟩ => ⟨S768x512, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmAttnReferenceIdeal.lean ====
abbrev S2304x1024 : Shape := ⟨2, ![2304, 1024]⟩
abbrev S4x1024x512 : Shape := ⟨3, ![4, 1024, 512]⟩
abbrev S1024x4x512 : Shape := ⟨3, ![1024, 4, 512]⟩
abbrev S1024x2048 : Shape := ⟨2, ![1024, 2048]⟩
abbrev S2304x2048 : Shape := ⟨2, ![2304, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S4x1024x512, .bf16⟩
  | .hbm, ⟨2, _⟩ => ⟨S2304x1024, .f32⟩
  | .hbm, ⟨3, _⟩ => ⟨S4x1024x512, .f32⟩
  | .hbm, ⟨4, _⟩ => ⟨S1024x4x512, .f32⟩
  | .hbm, ⟨5, _⟩ => ⟨S1024x2048, .f32⟩
  | .hbm, ⟨6, _⟩ => ⟨S2304x2048, .f32⟩
  | .hbm, ⟨7, _⟩ => ⟨S2304x2048, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== NtAttn.lean ====
abbrev S2304x2048 : Shape := ⟨2, ![2304, 2048]⟩
abbrev S4x1024x512 : Shape := ⟨3, ![4, 1024, 512]⟩
abbrev S4x1x1024x512 : Shape := ⟨4, ![4, 1, 1024, 512]⟩
abbrev S2304x1024 : Shape := ⟨2, ![2304, 1024]⟩
abbrev S768x2048 : Shape := ⟨2, ![768, 2048]⟩
abbrev S4x1x512x512 : Shape := ⟨4, ![4, 1, 512, 512]⟩
abbrev S768x512 : Shape := ⟨2, ![768, 512]⟩
abbrev S1x1x512x512 : Shape := ⟨4, ![1, 1, 512, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S2304x2048, .bf16⟩
  | .hbm, ⟨1, _⟩ => ⟨S4x1024x512, .bf16⟩
  | .hbm, ⟨2, _⟩ => ⟨S4x1x1024x512, .bf16⟩
  | .hbm, ⟨3, _⟩ => ⟨S2304x1024, .bf16⟩
  | .local _ .vmem, ⟨0, _⟩ => ⟨S768x2048, .bf16⟩
  | .local _ .vmem, ⟨1, _⟩ => ⟨S768x2048, .bf16⟩
  | .local _ .vmem, ⟨2, _⟩ => ⟨S4x1x512x512, .bf16⟩
  | .local _ .vmem, ⟨3, _⟩ => ⟨S4x1x512x512, .bf16⟩
  | .local _ .vmem, ⟨4, _⟩ => ⟨S768x512, .bf16⟩
  | .local _ .vmem, ⟨5, _⟩ => ⟨S768x512, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NtAttnReferenceIdeal.lean ====
abbrev S2304x2048 : Shape := ⟨2, ![2304, 2048]⟩
abbrev S4x1024x512 : Shape := ⟨3, ![4, 1024, 512]⟩
abbrev S_ : Shape := ⟨0, ![]⟩
abbrev S2304x1024 : Shape := ⟨2, ![2304, 1024]⟩
abbrev S1024x4x512 : Shape := ⟨3, ![1024, 4, 512]⟩
abbrev S1024x2048 : Shape := ⟨2, ![1024, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S4x1024x512, .bf16⟩
  | .hbm, ⟨2, _⟩ => ⟨S2304x2048, .f32⟩
  | .hbm, ⟨3, _⟩ => ⟨S4x1024x512, .f32⟩
  | .hbm, ⟨4, _⟩ => ⟨S_, .f32⟩
  | .hbm, ⟨5, _⟩ => ⟨S2304x1024, .f32⟩
  | .hbm, ⟨6, _⟩ => ⟨S1024x4x512, .f32⟩
  | .hbm, ⟨7, _⟩ => ⟨S1024x2048, .f32⟩
  | .hbm, ⟨8, _⟩ => ⟨S2304x2048, .f32⟩
  | .hbm, ⟨9, _⟩ => ⟨S2304x1024, .f32⟩
  | .hbm, ⟨10, _⟩ => ⟨S2304x1024, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== TnAttn.lean ====
abbrev S2304x1024 : Shape := ⟨2, ![2304, 1024]⟩
abbrev S2304x2048 : Shape := ⟨2, ![2304, 2048]⟩
abbrev S4x1024x512 : Shape := ⟨3, ![4, 1024, 512]⟩
abbrev S2304x512 : Shape := ⟨2, ![2304, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S2304x2048, .bf16⟩
  | .hbm, ⟨2, _⟩ => ⟨S4x1024x512, .bf16⟩
  | .local _ .vmem, ⟨0, _⟩ => ⟨S2304x512, .bf16⟩
  | .local _ .vmem, ⟨1, _⟩ => ⟨S2304x512, .bf16⟩
  | .local _ .vmem, ⟨2, _⟩ => ⟨S2304x512, .bf16⟩
  | .local _ .vmem, ⟨3, _⟩ => ⟨S2304x512, .bf16⟩
  | .local _ .vmem, ⟨4, _⟩ => ⟨S1x512x512, .bf16⟩
  | .local _ .vmem, ⟨5, _⟩ => ⟨S1x512x512, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  let c0_i32_1 : BitVec 32 := 0#32
  ![c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== TnAttnIdeal.lean ====
abbrev S2304x1024 : Shape := ⟨2, ![2304, 1024]⟩
abbrev S2304x2048 : Shape := ⟨2, ![2304, 2048]⟩
abbrev S4x1024x512 : Shape := ⟨3, ![4, 1024, 512]⟩
abbrev S2304x512 : Shape := ⟨2, ![2304, 512]⟩
abbrev S1x512x512 : Shape := ⟨3, ![1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2304x1024, .bf16⟩
  | .hbm, ⟨1, _⟩ => ⟨S2304x2048, .bf16⟩
  | .hbm, ⟨2, _⟩ => ⟨S4x1024x512, .bf16⟩
  | .local _ .vmem, ⟨0, _⟩ => ⟨S2304x512, .bf16⟩
  | .local _ .vmem, ⟨1, _⟩ => ⟨S2304x512, .bf16⟩
  | .local _ .vmem, ⟨2, _⟩ => ⟨S2304x512, .bf16⟩
  | .local _ .vmem, ⟨3, _⟩ => ⟨S2304x512, .bf16⟩
  | .local _ .vmem, ⟨4, _⟩ => ⟨S1x512x512, .bf16⟩
  | .local _ .vmem, ⟨5, _⟩ => ⟨S1x512x512, .bf16⟩
  | _, _ => ⟨S2304x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  let c0_i32_1 : BitVec 32 := 0#32
  ![c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S2304x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== TnAttnReferenceIdeal.lean ====
abbrev S2304x1024 : Shape := ⟨2, ![2304, 1024]⟩
abbrev S2304x2048 : Shape := ⟨2, ![2304, 2048]⟩
abbrev S_ : Shape := ⟨0, ![]⟩
abbrev S4x1024x512 : Shape := ⟨3, ![4, 1024, 512]⟩
abbrev S1024x4x512 : Shape := ⟨3, ![1024, 4, 512]⟩
abbrev S1024x2048 : Shape := ⟨2, ![1024, 2048]⟩
abbrev S2048x1024 : Shape := ⟨2, ![2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S2304x1024, .bf16⟩
  | .hbm, ⟨1, _⟩ => ⟨S2304x2048, .bf16⟩
  | .hbm, ⟨2, _⟩ => ⟨S2304x1024, .f32⟩
  | .hbm, ⟨3, _⟩ => ⟨S2304x2048, .f32⟩
  | .hbm, ⟨4, _⟩ => ⟨S_, .f32⟩
  | .hbm, ⟨5, _⟩ => ⟨S4x1024x512, .f32⟩
  | .hbm, ⟨6, _⟩ => ⟨S1024x4x512, .f32⟩
  | .hbm, ⟨7, _⟩ => ⟨S1024x2048, .f32⟩
  | .hbm, ⟨8, _⟩ => ⟨S2304x2048, .f32⟩
  | .hbm, ⟨9, _⟩ => ⟨S2048x1024, .f32⟩
  | .hbm, ⟨10, _⟩ => ⟨S1024x2048, .f32⟩
  | .hbm, ⟨11, _⟩ => ⟨S1024x4x512, .f32⟩
  | .hbm, ⟨12, _⟩ => ⟨S4x1024x512, .f32⟩
  | .hbm, ⟨13, _⟩ => ⟨S4x1024x512, .bf16⟩
  | _, _ => ⟨S2304x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== MmBranch.lean ====
abbrev S2304x512 : Shape := ⟨2, ![2304, 512]⟩
abbrev S4x512x512 : Shape := ⟨3, ![4, 512, 512]⟩
abbrev S4x1x512x512 : Shape := ⟨4, ![4, 1, 512, 512]⟩
abbrev S2304x2048 : Shape := ⟨2, ![2304, 2048]⟩
abbrev S768x512 : Shape := ⟨2, ![768, 512]⟩
abbrev S1x1x512x512 : Shape := ⟨4, ![1, 1, 512, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S2304x512, .bf16⟩
  | .hbm, ⟨1, _⟩ => ⟨S4x512x512, .bf16⟩
  | .hbm, ⟨2, _⟩ => ⟨S4x1x512x512, .bf16⟩
  | .hbm, ⟨3, _⟩ => ⟨S2304x2048, .bf16⟩
  | .local _ .vmem, ⟨0, _⟩ => ⟨S768x512, .bf16⟩
  | .local _ .vmem, ⟨1, _⟩ => ⟨S768x512, .bf16⟩
  | .local _ .vmem, ⟨2, _⟩ => ⟨S1x1x512x512, .bf16⟩
  | .local _ .vmem, ⟨3, _⟩ => ⟨S1x1x512x512, .bf16⟩
  | .local _ .vmem, ⟨4, _⟩ => ⟨S768x512, .bf16⟩
  | .local _ .vmem, ⟨5, _⟩ => ⟨S768x512, .bf16⟩
  | _, _ => ⟨S2304x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  let c0_i32_13 : BitVec 32 := 0#32
  ![v16.toNat, c0_i32_11.toNat, c0_i32_12.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S768x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmBranchReferenceIdeal.lean ====
abbrev S2304x512 : Shape := ⟨2, ![2304, 512]⟩
abbrev S4x512x512 : Shape := ⟨3, ![4, 512, 512]⟩
abbrev S512x4x512 : Shape := ⟨3, ![512, 4, 512]⟩
abbrev S512x2048 : Shape := ⟨2, ![512, 2048]⟩
abbrev S2304x2048 : Shape := ⟨2, ![2304, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2304x512, .bf16⟩
  | .hbm, ⟨1, _⟩ => ⟨S4x512x512, .bf16⟩
  | .hbm, ⟨2, _⟩ => ⟨S2304x512, .f32⟩
  | .hbm, ⟨3, _⟩ => ⟨S4x512x512, .f32⟩
  | .hbm, ⟨4, _⟩ => ⟨S512x4x512, .f32⟩
  | .hbm, ⟨5, _⟩ => ⟨S512x2048, .f32⟩
  | .hbm, ⟨6, _⟩ => ⟨S2304x2048, .f32⟩
  | .hbm, ⟨7, _⟩ => ⟨S2304x2048, .bf16⟩
  | _, _ => ⟨S2304x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== NtBranch.lean ====
abbrev S2304x2048 : Shape := ⟨2, ![2304, 2048]⟩
abbrev S4x512x512 : Shape := ⟨3, ![4, 512, 512]⟩
abbrev S4x1x512x512 : Shape := ⟨4, ![4, 1, 512, 512]⟩
abbrev S2304x512 : Shape := ⟨2, ![2304, 512]⟩
abbrev S768x2048 : Shape := ⟨2, ![768, 2048]⟩
abbrev S768x512 : Shape := ⟨2, ![768, 512]⟩
abbrev S1x1x512x512 : Shape := ⟨4, ![1, 1, 512, 512]⟩
abbrev S512x512 : Shape := ⟨2, ![512, 512]⟩

abbrev nBuf : Space → Nat
  | .hbm => 4
  | .vmem => 5
  | .smem => 0
  | _ => 0

abbrev bufTy : (tb : Table) → Fin (tcTables nBuf tb) → BufTy
  | .hbm, ⟨0, _⟩ => ⟨S2304x2048, .bf16⟩
  | .hbm, ⟨1, _⟩ => ⟨S4x512x512, .bf16⟩
  | .hbm, ⟨2, _⟩ => ⟨S4x1x512x512, .bf16⟩
  | .hbm, ⟨3, _⟩ => ⟨S2304x512, .f32⟩
  | .local _ .vmem, ⟨0, _⟩ => ⟨S768x2048, .bf16⟩
  | .local _ .vmem, ⟨1, _⟩ => ⟨S768x2048, .bf16⟩
  | .local _ .vmem, ⟨2, _⟩ => ⟨S4x1x512x512, .bf16⟩
  | .local _ .vmem, ⟨3, _⟩ => ⟨S768x512, .f32⟩
  | .local _ .vmem, ⟨4, _⟩ => ⟨S768x512, .f32⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![3, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, arg1.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4x1x512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S768x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NtBranchReferenceIdeal.lean ====
abbrev S2304x2048 : Shape := ⟨2, ![2304, 2048]⟩
abbrev S4x512x512 : Shape := ⟨3, ![4, 512, 512]⟩
abbrev S_ : Shape := ⟨0, ![]⟩
abbrev S2304x512 : Shape := ⟨2, ![2304, 512]⟩
abbrev S512x4x512 : Shape := ⟨3, ![512, 4, 512]⟩
abbrev S512x2048 : Shape := ⟨2, ![512, 2048]⟩

abbrev nBuf : Space → Nat
  | .hbm => 10
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S4x512x512, .bf16⟩
  | .hbm, ⟨2, _⟩ => ⟨S2304x2048, .f32⟩
  | .hbm, ⟨3, _⟩ => ⟨S4x512x512, .f32⟩
  | .hbm, ⟨4, _⟩ => ⟨S_, .f32⟩
  | .hbm, ⟨5, _⟩ => ⟨S2304x512, .f32⟩
  | .hbm, ⟨6, _⟩ => ⟨S512x4x512, .f32⟩
  | .hbm, ⟨7, _⟩ => ⟨S512x2048, .f32⟩
  | .hbm, ⟨8, _⟩ => ⟨S2304x2048, .f32⟩
  | .hbm, ⟨9, _⟩ => ⟨S2304x512, .f32⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== TnBranch.lean ====
abbrev S2304x512 : Shape := ⟨2, ![2304, 512]⟩
abbrev S2304x2048 : Shape := ⟨2, ![2304, 2048]⟩
abbrev S4x512x512 : Shape := ⟨3, ![4, 512, 512]⟩
abbrev S1x512x512 : Shape := ⟨3, ![1, 512, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2304x512, .bf16⟩
  | .hbm, ⟨1, _⟩ => ⟨S2304x2048, .bf16⟩
  | .hbm, ⟨2, _⟩ => ⟨S4x512x512, .bf16⟩
  | .local _ .vmem, ⟨0, _⟩ => ⟨S2304x512, .bf16⟩
  | .local _ .vmem, ⟨1, _⟩ => ⟨S2304x512, .bf16⟩
  | .local _ .vmem, ⟨2, _⟩ => ⟨S2304x512, .bf16⟩
  | .local _ .vmem, ⟨3, _⟩ => ⟨S1x512x512, .bf16⟩
  | .local _ .vmem, ⟨4, _⟩ => ⟨S1x512x512, .bf16⟩
  | _, _ => ⟨S2304x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c0_i32 : BitVec 32 := 0#32
  let v1 : BitVec 32 := Scalar.addi c0_i32 v0
  let v2 : BitVec 32 := Scalar.addi v1 arg2
  let c0_i32_0 : BitVec 32 := 0#32
  let c0_i32_1 : BitVec 32 := 0#32
  ![c0_i32_0.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 1 → Memref sig .tc .vmem S2304x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, false]

abbrev stage0_1 : Fin 2 → Memref sig .tc .vmem S2304x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== TnBranchReferenceIdeal.lean ====
abbrev S2304x512 : Shape := ⟨2, ![2304, 512]⟩
abbrev S2304x2048 : Shape := ⟨2, ![2304, 2048]⟩
abbrev S_ : Shape := ⟨0, ![]⟩
abbrev S4x512x512 : Shape := ⟨3, ![4, 512, 512]⟩
abbrev S512x4x512 : Shape := ⟨3, ![512, 4, 512]⟩
abbrev S512x2048 : Shape := ⟨2, ![512, 2048]⟩
abbrev S2048x512 : Shape := ⟨2, ![2048, 512]⟩

abbrev nBuf : Space → Nat
  | .hbm => 14
  | .vmem => 0
  | .smem => 0
  | _ => 0

abbrev bufTy : (tb : Table) → Fin (tcTables nBuf tb) → BufTy
  | .hbm, ⟨0, _⟩ => ⟨S2304x512, .bf16⟩
  | .hbm, ⟨1, _⟩ => ⟨S2304x2048, .bf16⟩
  | .hbm, ⟨2, _⟩ => ⟨S2304x512, .f32⟩
  | .hbm, ⟨3, _⟩ => ⟨S2304x2048, .f32⟩
  | .hbm, ⟨4, _⟩ => ⟨S_, .f32⟩
  | .hbm, ⟨5, _⟩ => ⟨S4x512x512, .f32⟩
  | .hbm, ⟨6, _⟩ => ⟨S512x4x512, .f32⟩
  | .hbm, ⟨7, _⟩ => ⟨S512x2048, .f32⟩
  | .hbm, ⟨8, _⟩ => ⟨S2304x2048, .f32⟩
  | .hbm, ⟨9, _⟩ => ⟨S2048x512, .f32⟩
  | .hbm, ⟨10, _⟩ => ⟨S512x2048, .f32⟩
  | .hbm, ⟨11, _⟩ => ⟨S512x4x512, .f32⟩
  | .hbm, ⟨12, _⟩ => ⟨S4x512x512, .f32⟩
  | .hbm, ⟨13, _⟩ => ⟨S4x512x512, .bf16⟩
  | _, _ => ⟨S2304x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== AdaFwd.lean ====
abbrev S16x2048 : Shape := ⟨2, ![16, 2048]⟩
abbrev S2x2048x3072 : Shape := ⟨3, ![2, 2048, 3072]⟩
abbrev S2x3072 : Shape := ⟨2, ![2, 3072]⟩
abbrev S2x1x3072 : Shape := ⟨3, ![2, 1, 3072]⟩
abbrev S2x16x3072 : Shape := ⟨3, ![2, 16, 3072]⟩
abbrev S1x2048x768 : Shape := ⟨3, ![1, 2048, 768]⟩
abbrev S1x1x768 : Shape := ⟨3, ![1, 1, 768]⟩
abbrev S1x16x768 : Shape := ⟨3, ![1, 16, 768]⟩
abbrev S2048x768 : Shape := ⟨2, ![2048, 768]⟩
abbrev S16x768 : Shape := ⟨2, ![16, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S16x2048, .f32⟩
  | .hbm, ⟨1, _⟩ => ⟨S2x2048x3072, .f32⟩
  | .hbm, ⟨2, _⟩ => ⟨S2x3072, .f32⟩
  | .hbm, ⟨3, _⟩ => ⟨S2x1x3072, .f32⟩
  | .hbm, ⟨4, _⟩ => ⟨S2x16x3072, .f32⟩
  | .local _ .vmem, ⟨0, _⟩ => ⟨S16x2048, .f32⟩
  | .local _ .vmem, ⟨1, _⟩ => ⟨S1x2048x768, .f32⟩
  | .local _ .vmem, ⟨2, _⟩ => ⟨S1x2048x768, .f32⟩
  | .local _ .vmem, ⟨3, _⟩ => ⟨S1x1x768, .f32⟩
  | .local _ .vmem, ⟨4, _⟩ => ⟨S1x1x768, .f32⟩
  | .local _ .vmem, ⟨5, _⟩ => ⟨S1x16x768, .f32⟩
  | .local _ .vmem, ⟨6, _⟩ => ⟨S1x16x768, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== AdaFwdReferenceIdeal.lean ====
abbrev S16x2048 : Shape := ⟨2, ![16, 2048]⟩
abbrev S2x2048x3072 : Shape := ⟨3, ![2, 2048, 3072]⟩
abbrev S2x3072 : Shape := ⟨2, ![2, 3072]⟩
abbrev S_ : Shape := ⟨0, ![]⟩
abbrev S1x2048x3072 : Shape := ⟨3, ![1, 2048, 3072]⟩
abbrev S2048x3072 : Shape := ⟨2, ![2048, 3072]⟩
abbrev S16x3072 : Shape := ⟨2, ![16, 3072]⟩
abbrev S1x3072 : Shape := ⟨2, ![1, 3072]⟩
abbrev S3072 : Shape := ⟨1, ![3072]⟩
abbrev S1x16x3072 : Shape := ⟨3, ![1, 16, 3072]⟩
abbrev S2x16x3072 : Shape := ⟨3, ![2, 16, 3072]⟩

abbrev nBuf : Space → Nat
  | .hbm => 40
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x2048x3072, .f32⟩
  | .hbm, ⟨2, _⟩ => ⟨S2x3072, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S1x2048x3072, .f32⟩
  | .hbm, ⟨13, _⟩ => ⟨S2048x3072, .f32⟩
  | .hbm, ⟨14, _⟩ => ⟨S16x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S16x3072, .f32⟩
  | .hbm, ⟨19, _⟩ => ⟨S16x3072, .f32⟩
  | .hbm, ⟨20, _⟩ => ⟨S16x2048, .f32⟩
  | .hbm, ⟨21, _⟩ => ⟨S16x2048, .f32⟩
  | .hbm, ⟨22, _⟩ => ⟨S_, .f32⟩
  | .hbm, ⟨23, _⟩ => ⟨S16x2048, .f32⟩
  | .hbm, ⟨24, _⟩ => ⟨S16x2048, .f32⟩
  | .hbm, ⟨25, _⟩ => ⟨S_, .f32⟩
  | .hbm, ⟨26, _⟩ => ⟨S16x2048, .f32⟩
  | .hbm, ⟨27, _⟩ => ⟨S16x2048, .f32⟩
  | .hbm, ⟨28, _⟩ => ⟨S16x2048, .f32⟩
  | .hbm, ⟨29, _⟩ => ⟨S1x2048x3072, .f32⟩
  | .hbm, ⟨30, _⟩ => ⟨S2048x3072, .f32⟩
  | .hbm, ⟨31, _⟩ => ⟨S16x3072, .f32⟩
  | .hbm, ⟨32, _⟩ => ⟨S1x3072, .f32⟩
  | .hbm, ⟨33, _⟩ => ⟨S3072, .f32⟩
  | .hbm, ⟨34, _⟩ => ⟨S1x3072, .f32⟩
  | .hbm, ⟨35, _⟩ => ⟨S16x3072, .f32⟩
  | .hbm, ⟨36, _⟩ => ⟨S16x3072, .f32⟩
  | .hbm, ⟨37, _⟩ => ⟨S1x16x3072, .f32⟩
  | .hbm, ⟨38, _⟩ => ⟨S1x16x3072, .f32⟩
  | .hbm, ⟨39, _⟩ => ⟨S2x16x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩

abbrev nD : Nat := 1
abbrev τ : Topo := Topo.v7x

variable {F : FTy → Type} [FloatOps F]
-- ==== AdaBwd.lean ====
abbrev S16x2048 : Shape := ⟨2, ![16, 2048]⟩
abbrev S2x16x3072 : Shape := ⟨3, ![2, 16, 3072]⟩
abbrev S2x2048x3072 : Shape := ⟨3, ![2, 2048, 3072]⟩
abbrev S1x16x768 : Shape := ⟨3, ![1, 16, 768]⟩
abbrev S1x2048x768 : Shape := ⟨3, ![1, 2048, 768]⟩
abbrev S16x768 : Shape := ⟨2, ![16, 768]⟩
abbrev S2048x768 : Shape := ⟨2, ![2048, 768]⟩

abbrev nBuf : Space → Nat
  | .hbm => 5
  | .vmem => 8
  | .smem => 0
  | _ => 0

abbrev bufTy : (tb : Table) → Fin (tcTables nBuf tb) → BufTy
  | .hbm, ⟨0, _⟩ => ⟨S16x2048, .f32⟩
  | .hbm, ⟨1, _⟩ => ⟨S2x16x3072, .f32⟩
  | .hbm, ⟨2, _⟩ => ⟨S2x2048x3072, .f32⟩
  | .hbm, ⟨3, _⟩ => ⟨S2x2048x3072, .f32⟩
  | .hbm, ⟨4, _⟩ => ⟨S16x2048, .f32⟩
  | .local _ .vmem, ⟨0, _⟩ => ⟨S16x2048, .f32⟩
  | .local _ .vmem, ⟨1, _⟩ => ⟨S1x16x768, .f32⟩
  | .local _ .vmem, ⟨2, _⟩ => ⟨S1x16x768, .f32⟩
  | .local _ .vmem, ⟨3, _⟩ => ⟨S1x2048x768, .f32⟩
  | .local _ .vmem, ⟨4, _⟩ => ⟨S1x2048x768, .f32⟩
  | .local _ .vmem, ⟨5, _⟩ => ⟨S1x2048x768, .f32⟩
  | .local _ .vmem, ⟨6, _⟩ => ⟨S1x2048x768, .f32⟩
  | .local _ .vmem, ⟨7, _⟩ => ⟨S16x2048, .f32⟩
  | _, _ => ⟨S16x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S16x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]
-- ==== AdaBwdReferenceIdeal.lean ====
abbrev S16x2048 : Shape := ⟨2, ![16, 2048]⟩
abbrev S2x16x3072 : Shape := ⟨3, ![2, 16, 3072]⟩
abbrev S2x2048x3072 : Shape := ⟨3, ![2, 2048, 3072]⟩
abbrev S_ : Shape := ⟨0, ![]⟩
abbrev S1x2048x3072 : Shape := ⟨3, ![1, 2048, 3072]⟩
abbrev S2048x3072 : Shape := ⟨2, ![2048, 3072]⟩
abbrev S16x3072 : Shape := ⟨2, ![16, 3072]⟩
abbrev S1x16x3072 : Shape := ⟨3, ![1, 16, 3072]⟩
abbrev S3072x2048 : Shape := ⟨2, ![3072, 2048]⟩

abbrev nBuf : Space → Nat
  | .hbm => 39
  | .vmem => 0
  | .smem => 0
  | _ => 0

abbrev bufTy : (tb : Table) → Fin (tcTables nBuf tb) → BufTy
  | .hbm, ⟨0, _⟩ => ⟨S16x2048, .f32⟩
  | .hbm, ⟨1, _⟩ => ⟨S2x16x3072, .f32⟩
  | .hbm, ⟨2, _⟩ => ⟨S2x2048x3072, .f32⟩
  | .hbm, ⟨3, _⟩ => ⟨S16x2048, .f32⟩
  | .hbm, ⟨4, _⟩ => ⟨S16x2048, .f32⟩
  | .hbm, ⟨5, _⟩ => ⟨S_, .f32⟩
  | .hbm, ⟨6, _⟩ => ⟨S16x2048, .f32⟩
  | .hbm, ⟨7, _⟩ => ⟨S16x2048, .f32⟩
  | .hbm, ⟨8, _⟩ => ⟨S_, .f32⟩
  | .hbm, ⟨9, _⟩ => ⟨S16x2048, .f32⟩
  | .hbm, ⟨10, _⟩ => ⟨S16x2048, .f32⟩
  | .hbm, ⟨11, _⟩ => ⟨S16x2048, .f32⟩
  | .hbm, ⟨12, _⟩ => ⟨S1x2048x3072, .f32⟩
  | .hbm, ⟨13, _⟩ => ⟨S2048x3072, .f32⟩
  | .hbm, ⟨14, _⟩ => ⟨S16x3072, .f32⟩
  | .hbm, ⟨15, _⟩ => ⟨S1x2048x3072, .f32⟩
  | .hbm, ⟨16, _⟩ => ⟨S2048x3072, .f32⟩
  | .hbm, ⟨17, _⟩ => ⟨S16x3072, .f32⟩
  | .hbm, ⟨18, _⟩ => ⟨S1x16x3072, .f32⟩
  | .hbm, ⟨19, _⟩ => ⟨S1x16x3072, .f32⟩
  | .hbm, ⟨20, _⟩ => ⟨S2x16x3072, .f32⟩
  | .hbm, ⟨21, _⟩ => ⟨S1x16x3072, .f32⟩
  | .hbm, ⟨22, _⟩ => ⟨S16x3072, .f32⟩
  | .hbm, ⟨23, _⟩ => ⟨S1x16x3072, .f32⟩
  | .hbm, ⟨24, _⟩ => ⟨S16x3072, .f32⟩
  | .hbm, ⟨25, _⟩ => ⟨S3072x2048, .f32⟩
  | .hbm, ⟨26, _⟩ => ⟨S2048x3072, .f32⟩
  | .hbm, ⟨27, _⟩ => ⟨S16x2048, .f32⟩
  | .hbm, ⟨28, _⟩ => ⟨S1x2048x3072, .f32⟩
  | .hbm, ⟨29, _⟩ => ⟨S_, .f32⟩
  | .hbm, ⟨30, _⟩ => ⟨S2x2048x3072, .f32⟩
  | .hbm, ⟨31, _⟩ => ⟨S3072x2048, .f32⟩
  | .hbm, ⟨32, _⟩ => ⟨S2048x3072, .f32⟩
  | .hbm, ⟨33, _⟩ => ⟨S16x2048, .f32⟩
  | .hbm, ⟨34, _⟩ => ⟨S16x2048, .f32⟩
  | .hbm, ⟨35, _⟩ => ⟨S1x2048x3072, .f32⟩
  | .hbm, ⟨36, _⟩ => ⟨S_, .f32⟩
  | .hbm, ⟨37, _⟩ => ⟨S2x2048x3072, .f32⟩
  | .hbm, ⟨38, _⟩ => ⟨S2x2048x3072, .f32⟩
  | _, _ => ⟨S16x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_0 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== AdamAda.lean ====
abbrev S2x2048x3072 : Shape := ⟨3, ![2, 2048, 3072]⟩
abbrev S4096x3072 : Shape := ⟨2, ![4096, 3072]⟩
abbrev S128x3072 : Shape := ⟨2, ![128, 3072]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x3072, .f32⟩
  | .hbm, ⟨1, _⟩ => ⟨S2x2048x3072, .f32⟩
  | .hbm, ⟨2, _⟩ => ⟨S2x2048x3072, .f32⟩
  | .hbm, ⟨3, _⟩ => ⟨S2x2048x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S4096x3072, .f32⟩
  | .hbm, ⟨10, _⟩ => ⟨S4096x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | _, _ => ⟨S2x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaIdeal.lean ====
abbrev S2x2048x3072 : Shape := ⟨3, ![2, 2048, 3072]⟩
abbrev S4096x3072 : Shape := ⟨2, ![4096, 3072]⟩
abbrev S128x3072 : Shape := ⟨2, ![128, 3072]⟩

abbrev nBuf : Space → Nat
  | .hbm => 11
  | .vmem => 14
  | .smem => 0
  | _ => 0

abbrev bufTy : (tb : Table) → Fin (tcTables nBuf tb) → BufTy
  | .hbm, ⟨0, _⟩ => ⟨S2x2048x3072, .f32⟩
  | .hbm, ⟨1, _⟩ => ⟨S2x2048x3072, .f32⟩
  | .hbm, ⟨2, _⟩ => ⟨S2x2048x3072, .f32⟩
  | .hbm, ⟨3, _⟩ => ⟨S2x2048x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S4096x3072, .f32⟩
  | .hbm, ⟨10, _⟩ => ⟨S4096x3072, .f32⟩
  | .local _ .vmem, ⟨0, _⟩ => ⟨S128x3072, .f32⟩
  | .local _ .vmem, ⟨1, _⟩ => ⟨S128x3072, .f32⟩
  | .local _ .vmem, ⟨2, _⟩ => ⟨S128x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | _, _ => ⟨S2x2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaReferenceIdeal.lean ====
abbrev S2x2048x3072 : Shape := ⟨3, ![2, 2048, 3072]⟩
abbrev S_ : Shape := ⟨0, ![]⟩
abbrev S4096x3072 : Shape := ⟨2, ![4096, 3072]⟩

abbrev nBuf : Space → Nat
  | .hbm => 40
  | .vmem => 0
  | .smem => 0
  | _ => 0

abbrev bufTy : (tb : Table) → Fin (tcTables nBuf tb) → BufTy
  | .hbm, ⟨0, _⟩ => ⟨S2x2048x3072, .f32⟩
  | .hbm, ⟨1, _⟩ => ⟨S2x2048x3072, .f32⟩
  | .hbm, ⟨2, _⟩ => ⟨S2x2048x3072, .f32⟩
  | .hbm, ⟨3, _⟩ => ⟨S2x2048x3072, .f32⟩
  | .hbm, ⟨4, _⟩ => ⟨S_, .f32⟩
  | .hbm, ⟨5, _⟩ => ⟨S2x2048x3072, .f32⟩
  | .hbm, ⟨6, _⟩ => ⟨S2x2048x3072, .f32⟩
  | .hbm, ⟨7, _⟩ => ⟨S_, .f32⟩
  | .hbm, ⟨8, _⟩ => ⟨S2x2048x3072, .f32⟩
  | .hbm, ⟨9, _⟩ => ⟨S2x2048x3072, .f32⟩
  | .hbm, ⟨10, _⟩ => ⟨S2x2048x3072, .f32⟩
  | .hbm, ⟨11, _⟩ => ⟨S_, .f32⟩
  | .hbm, ⟨12, _⟩ => ⟨S2x2048x3072, .f32⟩
  | .hbm, ⟨13, _⟩ => ⟨S2x2048x3072, .f32⟩
  | .hbm, ⟨14, _⟩ => ⟨S2x2048x3072, .f32⟩
  | .hbm, ⟨15, _⟩ => ⟨S_, .f32⟩
  | .hbm, ⟨16, _⟩ => ⟨S2x2048x3072, .f32⟩
  | .hbm, ⟨17, _⟩ => ⟨S2x2048x3072, .f32⟩
  | .hbm, ⟨18, _⟩ => ⟨S2x2048x3072, .f32⟩
  | .hbm, ⟨19, _⟩ => ⟨S_, .f32⟩
  | .hbm, ⟨20, _⟩ => ⟨S2x2048x3072, .f32⟩
  | .hbm, ⟨21, _⟩ => ⟨S2x2048x3072, .f32⟩
  | .hbm, ⟨22, _⟩ => ⟨S_, .f32⟩
  | .hbm, ⟨23, _⟩ => ⟨S2x2048x3072, .f32⟩
  | .hbm, ⟨24, _⟩ => ⟨S2x2048x3072, .f32⟩
  | .hbm, ⟨25, _⟩ => ⟨S2x2048x3072, .f32⟩
  | .hbm, ⟨26, _⟩ => ⟨S_, .f32⟩
  | .hbm, ⟨27, _⟩ => ⟨S2x2048x3072, .f32⟩
  | .hbm, ⟨28, _⟩ => ⟨S2x2048x3072, .f32⟩
  | .hbm, ⟨29, _⟩ => ⟨S2x2048x3072, .f32⟩
  | .hbm, ⟨30, _⟩ => ⟨S_, .f32⟩
  | .hbm, ⟨31, _⟩ => ⟨S2x2048x3072, .f32⟩
  | .hbm, ⟨32, _⟩ => ⟨S2x2048x3072, .f32⟩
  | .hbm, ⟨33, _⟩ => ⟨S2x2048x3072, .f32⟩
  | .hbm, ⟨34, _⟩ => ⟨S_, .f32⟩
  | .hbm, ⟨35, _⟩ => ⟨S2x2048x3072, .f32⟩
  | .hbm, ⟨36, _⟩ => ⟨S2x2048x3072, .f32⟩
  | .hbm, ⟨37, _⟩ => ⟨S4096x3072, .f32⟩
  | .hbm, ⟨38, _⟩ => ⟨S4096x3072, .f32⟩
  | .hbm, ⟨39, _⟩ => ⟨S4096x3072, .f32⟩
  | _, _ => ⟨S2x2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== AdamSmall.lean ====
abbrev S2560x128 : Shape := ⟨2, ![2560, 128]⟩
abbrev S640x128 : Shape := ⟨2, ![640, 128]⟩

abbrev nBuf : Space → Nat
  | .hbm => 7
  | .vmem => 14
  | .smem => 0
  | _ => 0

abbrev bufTy : (tb : Table) → Fin (tcTables nBuf tb) → BufTy
  | .hbm, ⟨0, _⟩ => ⟨S2560x128, .f32⟩
  | .hbm, ⟨1, _⟩ => ⟨S2560x128, .f32⟩
  | .hbm, ⟨2, _⟩ => ⟨S2560x128, .f32⟩
  | .hbm, ⟨3, _⟩ => ⟨S2560x128, .f32⟩
  | .hbm, ⟨4, _⟩ => ⟨S2560x128, .f32⟩
  | .hbm, ⟨5, _⟩ => ⟨S2560x128, .f32⟩
  | .hbm, ⟨6, _⟩ => ⟨S2560x128, .f32⟩
  | .local _ .vmem, ⟨0, _⟩ => ⟨S640x128, .f32⟩
  | .local _ .vmem, ⟨1, _⟩ => ⟨S640x128, .f32⟩
  | .local _ .vmem, ⟨2, _⟩ => ⟨S640x128, .f32⟩
  | .local _ .vmem, ⟨3, _⟩ => ⟨S640x128, .f32⟩
  | .local _ .vmem, ⟨4, _⟩ => ⟨S640x128, .f32⟩
  | .local _ .vmem, ⟨5, _⟩ => ⟨S640x128, .f32⟩
  | .local _ .vmem, ⟨6, _⟩ => ⟨S640x128, .f32⟩
  | .local _ .vmem, ⟨7, _⟩ => ⟨S640x128, .f32⟩
  | .local _ .vmem, ⟨8, _⟩ => ⟨S640x128, .f32⟩
  | .local _ .vmem, ⟨9, _⟩ => ⟨S640x128, .f32⟩
  | .local _ .vmem, ⟨10, _⟩ => ⟨S640x128, .f32⟩
  | .local _ .vmem, ⟨11, _⟩ => ⟨S640x128, .f32⟩
  | .local _ .vmem, ⟨12, _⟩ => ⟨S640x128, .f32⟩
  | .local _ .vmem, ⟨13, _⟩ => ⟨S640x128, .f32⟩
  | _, _ => ⟨S2560x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S640x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S640x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S640x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S640x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S640x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S640x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S640x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamSmallReferenceIdeal.lean ====
abbrev S2560x128 : Shape := ⟨2, ![2560, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2560x128, .f32⟩
  | .hbm, ⟨1, _⟩ => ⟨S2560x128, .f32⟩
  | .hbm, ⟨2, _⟩ => ⟨S2560x128, .f32⟩
  | .hbm, ⟨3, _⟩ => ⟨S2560x128, .f32⟩
  | .hbm, ⟨4, _⟩ => ⟨S_, .f32⟩
  | .hbm, ⟨5, _⟩ => ⟨S2560x128, .f32⟩
  | .hbm, ⟨6, _⟩ => ⟨S2560x128, .f32⟩
  | .hbm, ⟨7, _⟩ => ⟨S_, .f32⟩
  | .hbm, ⟨8, _⟩ => ⟨S2560x128, .f32⟩
  | .hbm, ⟨9, _⟩ => ⟨S2560x128, .f32⟩
  | .hbm, ⟨10, _⟩ => ⟨S2560x128, .f32⟩
  | .hbm, ⟨11, _⟩ => ⟨S_, .f32⟩
  | .hbm, ⟨12, _⟩ => ⟨S2560x128, .f32⟩
  | .hbm, ⟨13, _⟩ => ⟨S2560x128, .f32⟩
  | .hbm, ⟨14, _⟩ => ⟨S2560x128, .f32⟩
  | .hbm, ⟨15, _⟩ => ⟨S_, .f32⟩
  | .hbm, ⟨16, _⟩ => ⟨S2560x128, .f32⟩
  | .hbm, ⟨17, _⟩ => ⟨S2560x128, .f32⟩
  | .hbm, ⟨18, _⟩ => ⟨S2560x128, .f32⟩
  | .hbm, ⟨19, _⟩ => ⟨S_, .f32⟩
  | .hbm, ⟨20, _⟩ => ⟨S2560x128, .f32⟩
  | .hbm, ⟨21, _⟩ => ⟨S2560x128, .f32⟩
  | .hbm, ⟨22, _⟩ => ⟨S_, .f32⟩
  | .hbm, ⟨23, _⟩ => ⟨S2560x128, .f32⟩
  | .hbm, ⟨24, _⟩ => ⟨S2560x128, .f32⟩
  | .hbm, ⟨25, _⟩ => ⟨S2560x128, .f32⟩
  | .hbm, ⟨26, _⟩ => ⟨S_, .f32⟩
  | .hbm, ⟨27, _⟩ => ⟨S2560x128, .f32⟩
  | .hbm, ⟨28, _⟩ => ⟨S2560x128, .f32⟩
  | .hbm, ⟨29, _⟩ => ⟨S2560x128, .f32⟩
  | .hbm, ⟨30, _⟩ => ⟨S_, .f32⟩
  | .hbm, ⟨31, _⟩ => ⟨S2560x128, .f32⟩
  | .hbm, ⟨32, _⟩ => ⟨S2560x128, .f32⟩
  | .hbm, ⟨33, _⟩ => ⟨S2560x128, .f32⟩
  | .hbm, ⟨34, _⟩ => ⟨S_, .f32⟩
  | .hbm, ⟨35, _⟩ => ⟨S2560x128, .f32⟩
  | .hbm, ⟨36, _⟩ => ⟨S2560x128, .f32⟩
  | _, _ => ⟨S2560x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2x2048x1152 : Shape := ⟨3, ![2, 2048, 1152]⟩
abbrev S1x512x1152 : Shape := ⟨3, ![1, 512, 1152]⟩
abbrev S512x1152 : Shape := ⟨2, ![512, 1152]⟩

abbrev nBuf : Space → Nat
  | .hbm => 10
  | .vmem => 14
  | .smem => 0
  | _ => 0

abbrev bufTy : (tb : Table) → Fin (tcTables nBuf tb) → BufTy
  | .hbm, ⟨0, _⟩ => ⟨S2x2048x1152, .f32⟩
  | .hbm, ⟨1, _⟩ => ⟨S2x2048x1152, .f32⟩
  | .hbm, ⟨2, _⟩ => ⟨S2x2048x1152, .f32⟩
  | .hbm, ⟨3, _⟩ => ⟨S2x2048x1152, .f32⟩
  | .hbm, ⟨4, _⟩ => ⟨S2x2048x1152, .f32⟩
  | .hbm, ⟨5, _⟩ => ⟨S2x2048x1152, .f32⟩
  | .hbm, ⟨6, _⟩ => ⟨S2x2048x1152, .f32⟩
  | .hbm, ⟨7, _⟩ => ⟨S2x2048x1152, .f32⟩
  | .hbm, ⟨8, _⟩ => ⟨S2x2048x1152, .f32⟩
  | .hbm, ⟨9, _⟩ => ⟨S2x2048x1152, .f32⟩
  | .local _ .vmem, ⟨0, _⟩ => ⟨S1x512x1152, .f32⟩
  | .local _ .vmem, ⟨1, _⟩ => ⟨S1x512x1152, .f32⟩
  | .local _ .vmem, ⟨2, _⟩ => ⟨S1x512x1152, .f32⟩
  | .local _ .vmem, ⟨3, _⟩ => ⟨S1x512x1152, .f32⟩
  | .local _ .vmem, ⟨4, _⟩ => ⟨S1x512x1152, .f32⟩
  | .local _ .vmem, ⟨5, _⟩ => ⟨S1x512x1152, .f32⟩
  | .local _ .vmem, ⟨6, _⟩ => ⟨S1x512x1152, .f32⟩
  | .local _ .vmem, ⟨7, _⟩ => ⟨S1x512x1152, .f32⟩
  | .local _ .vmem, ⟨8, _⟩ => ⟨S1x512x1152, .f32⟩
  | .local _ .vmem, ⟨9, _⟩ => ⟨S1x512x1152, .f32⟩
  | .local _ .vmem, ⟨10, _⟩ => ⟨S1x512x1152, .f32⟩
  | .local _ .vmem, ⟨11, _⟩ => ⟨S1x512x1152, .f32⟩
  | .local _ .vmem, ⟨12, _⟩ => ⟨S1x512x1152, .f32⟩
  | .local _ .vmem, ⟨13, _⟩ => ⟨S1x512x1152, .f32⟩
  | _, _ => ⟨S2x2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x512x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamInReferenceIdeal.lean ====
abbrev S2x2048x1152 : Shape := ⟨3, ![2, 2048, 1152]⟩
abbrev S1x2048x1152 : Shape := ⟨3, ![1, 2048, 1152]⟩
abbrev S2048x1152 : Shape := ⟨2, ![2048, 1152]⟩
abbrev S_ : Shape := ⟨0, ![]⟩

abbrev nBuf : Space → Nat
  | .hbm => 63
  | .vmem => 0
  | .smem => 0
  | _ => 0

abbrev bufTy : (tb : Table) → Fin (tcTables nBuf tb) → BufTy
  | .hbm, ⟨0, _⟩ => ⟨S2x2048x1152, .f32⟩
  | .hbm, ⟨1, _⟩ => ⟨S2x2048x1152, .f32⟩
  | .hbm, ⟨2, _⟩ => ⟨S2x2048x1152, .f32⟩
  | .hbm, ⟨3, _⟩ => ⟨S2x2048x1152, .f32⟩
  | .hbm, ⟨4, _⟩ => ⟨S2x2048x1152, .f32⟩
  | .hbm, ⟨5, _⟩ => ⟨S2x2048x1152, .f32⟩
  | .hbm, ⟨6, _⟩ => ⟨S2x2048x1152, .f32⟩
  | .hbm, ⟨7, _⟩ => ⟨S1x2048x1152, .f32⟩
  | .hbm, ⟨8, _⟩ => ⟨S2048x1152, .f32⟩
  | .hbm, ⟨9, _⟩ => ⟨S1x2048x1152, .f32⟩
  | .hbm, ⟨10, _⟩ => ⟨S2048x1152, .f32⟩
  | .hbm, ⟨11, _⟩ => ⟨S1x2048x1152, .f32⟩
  | .hbm, ⟨12, _⟩ => ⟨S2048x1152, .f32⟩
  | .hbm, ⟨13, _⟩ => ⟨S1x2048x1152, .f32⟩
  | .hbm, ⟨14, _⟩ => ⟨S2048x1152, .f32⟩
  | .hbm, ⟨15, _⟩ => ⟨S_, .f32⟩
  | .hbm, ⟨16, _⟩ => ⟨S2048x1152, .f32⟩
  | .hbm, ⟨17, _⟩ => ⟨S2048x1152, .f32⟩
  | .hbm, ⟨18, _⟩ => ⟨S_, .f32⟩
  | .hbm, ⟨19, _⟩ => ⟨S2048x1152, .f32⟩
  | .hbm, ⟨20, _⟩ => ⟨S2048x1152, .f32⟩
  | .hbm, ⟨21, _⟩ => ⟨S2048x1152, .f32⟩
  | .hbm, ⟨22, _⟩ => ⟨S_, .f32⟩
  | .hbm, ⟨23, _⟩ => ⟨S2048x1152, .f32⟩
  | .hbm, ⟨24, _⟩ => ⟨S2048x1152, .f32⟩
  | .hbm, ⟨25, _⟩ => ⟨S2048x1152, .f32⟩
  | .hbm, ⟨26, _⟩ => ⟨S_, .f32⟩
  | .hbm, ⟨27, _⟩ => ⟨S2048x1152, .f32⟩
  | .hbm, ⟨28, _⟩ => ⟨S2048x1152, .f32⟩
  | .hbm, ⟨29, _⟩ => ⟨S2048x1152, .f32⟩
  | .hbm, ⟨30, _⟩ => ⟨S_, .f32⟩
  | .hbm, ⟨31, _⟩ => ⟨S2048x1152, .f32⟩
  | .hbm, ⟨32, _⟩ => ⟨S2048x1152, .f32⟩
  | .hbm, ⟨33, _⟩ => ⟨S_, .f32⟩
  | .hbm, ⟨34, _⟩ => ⟨S2048x1152, .f32⟩
  | .hbm, ⟨35, _⟩ => ⟨S2048x1152, .f32⟩
  | .hbm, ⟨36, _⟩ => ⟨S2048x1152, .f32⟩
  | .hbm, ⟨37, _⟩ => ⟨S_, .f32⟩
  | .hbm, ⟨38, _⟩ => ⟨S2048x1152, .f32⟩
  | .hbm, ⟨39, _⟩ => ⟨S2048x1152, .f32⟩
  | .hbm, ⟨40, _⟩ => ⟨S2048x1152, .f32⟩
  | .hbm, ⟨41, _⟩ => ⟨S_, .f32⟩
  | .hbm, ⟨42, _⟩ => ⟨S2048x1152, .f32⟩
  | .hbm, ⟨43, _⟩ => ⟨S2048x1152, .f32⟩
  | .hbm, ⟨44, _⟩ => ⟨S2048x1152, .f32⟩
  | .hbm, ⟨45, _⟩ => ⟨S_, .f32⟩
  | .hbm, ⟨46, _⟩ => ⟨S2048x1152, .f32⟩
  | .hbm, ⟨47, _⟩ => ⟨S2048x1152, .f32⟩
  | .hbm, ⟨48, _⟩ => ⟨S1x2048x1152, .f32⟩
  | .hbm, ⟨49, _⟩ => ⟨S2048x1152, .f32⟩
  | .hbm, ⟨50, _⟩ => ⟨S1x2048x1152, .f32⟩
  | .hbm, ⟨51, _⟩ => ⟨S1x2048x1152, .f32⟩
  | .hbm, ⟨52, _⟩ => ⟨S2x2048x1152, .f32⟩
  | .hbm, ⟨53, _⟩ => ⟨S1x2048x1152, .f32⟩
  | .hbm, ⟨54, _⟩ => ⟨S2048x1152, .f32⟩
  | .hbm, ⟨55, _⟩ => ⟨S1x2048x1152, .f32⟩
  | .hbm, ⟨56, _⟩ => ⟨S1x2048x1152, .f32⟩
  | .hbm, ⟨57, _⟩ => ⟨S2x2048x1152, .f32⟩
  | .hbm, ⟨58, _⟩ => ⟨S1x2048x1152, .f32⟩
  | .hbm, ⟨59, _⟩ => ⟨S2048x1152, .f32⟩
  | .hbm, ⟨60, _⟩ => ⟨S1x2048x1152, .f32⟩
  | .hbm, ⟨61, _⟩ => ⟨S1x2048x1152, .f32⟩
  | .hbm, ⟨62, _⟩ => ⟨S2x2048x1152, .f32⟩
  | _, _ => ⟨S2x2048x1152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩

abbrev nD : Nat := 1
abbrev τ : Topo := Topo.v7x

variable {F : FTy → Type} [FloatOps F]
-- ==== CctxGrad.lean ====
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 3
  | .vmem => 3
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .hbm, ⟨2, _⟩ => ⟨S16x128, .f32⟩
  | .local _ .vmem, ⟨0, _⟩ => ⟨S8x16x128, .f32⟩
  | .local _ .vmem, ⟨1, _⟩ => ⟨S16x128, .f32⟩
  | .local _ .vmem, ⟨2, _⟩ => ⟨S16x128, .f32⟩
  | _, _ => ⟨S8x16x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== CctxGradReferenceIdeal.lean ====
abbrev S8x16x128 : Shape := ⟨3, ![8, 16, 128]⟩
abbrev S16x128 : Shape := ⟨2, ![16, 128]⟩
abbrev S1x16x128 : Shape := ⟨3, ![1, 16, 128]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .hbm, ⟨2, _⟩ => ⟨S1x16x128, .f32⟩
  | .hbm, ⟨3, _⟩ => ⟨S16x128, .f32⟩
  | .hbm, ⟨4, _⟩ => ⟨S1x16x128, .f32⟩
  | .hbm, ⟨5, _⟩ => ⟨S16x128, .f32⟩
  | .hbm, ⟨6, _⟩ => ⟨S16x128, .f32⟩
  | .hbm, ⟨7, _⟩ => ⟨S1x16x128, .f32⟩
  | .hbm, ⟨8, _⟩ => ⟨S16x128, .f32⟩
  | .hbm, ⟨9, _⟩ => ⟨S16x128, .f32⟩
  | .hbm, ⟨10, _⟩ => ⟨S1x16x128, .f32⟩
  | .hbm, ⟨11, _⟩ => ⟨S16x128, .f32⟩
  | .hbm, ⟨12, _⟩ => ⟨S16x128, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S_, .f32⟩
  | .hbm, ⟨19, _⟩ => ⟨S16x128, .f32⟩
  | .hbm, ⟨20, _⟩ => ⟨S16x128, .f32⟩
  | .hbm, ⟨21, _⟩ => ⟨S_, .f32⟩
  | .hbm, ⟨22, _⟩ => ⟨S16x128, .f32⟩
  | .hbm, ⟨23, _⟩ => ⟨S16x128, .f32⟩
  | .hbm, ⟨24, _⟩ => ⟨S16x128, .f32⟩
  | .hbm, ⟨25, _⟩ => ⟨S16x128, .f32⟩
  | .hbm, ⟨26, _⟩ => ⟨S16x128, .f32⟩
  | .hbm, ⟨27, _⟩ => ⟨S16x128, .f32⟩
  | .hbm, ⟨28, _⟩ => ⟨S16x128, .f32⟩
  | .hbm, ⟨29, _⟩ => ⟨S16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_v11_2 : Ref sig .tc := ⟨.hbm, 20, rfl⟩
abbrev main_call0_cst_1 : Ref sig .tc := ⟨.hbm, 21, rfl⟩
abbrev main_call0_v6 : Ref sig .tc := ⟨.hbm, 22, rfl⟩
abbrev main_call0_v7 : Ref sig .tc := ⟨.hbm, 23, rfl⟩
abbrev main_v11_1 : Ref sig .tc := ⟨.hbm, 24, rfl⟩
abbrev main_v11_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v12 : Ref sig .tc := ⟨.hbm, 29, rfl⟩

abbrev nD : Nat := 1
abbrev τ : Topo := Topo.v7x

variable {F : FTy → Type} [FloatOps F]
-- ==== ModBwd.lean ====
abbrev S2304x2048 : Shape := ⟨2, ![2304, 2048]⟩
abbrev S2x1x2048 : Shape := ⟨3, ![2, 1, 2048]⟩
abbrev S9x8x2048 : Shape := ⟨3, ![9, 8, 2048]⟩
abbrev S256x2048 : Shape := ⟨2, ![256, 2048]⟩
abbrev S1x1x2048 : Shape := ⟨3, ![1, 1, 2048]⟩
abbrev S1x8x2048 : Shape := ⟨3, ![1, 8, 2048]⟩
abbrev S1x2048 : Shape := ⟨2, ![1, 2048]⟩
abbrev S2048 : Shape := ⟨1, ![2048]⟩
abbrev S6x2048 : Shape := ⟨2, ![6, 2048]⟩
abbrev S1x6x2048 : Shape := ⟨3, ![1, 6, 2048]⟩

abbrev nBuf : Space → Nat
  | .hbm => 7
  | .vmem => 14
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2304x2048, .f32⟩
  | .hbm, ⟨3, _⟩ => ⟨S2x1x2048, .f32⟩
  | .hbm, ⟨4, _⟩ => ⟨S2304x2048, .f32⟩
  | .hbm, ⟨5, _⟩ => ⟨S2304x2048, .f32⟩
  | .hbm, ⟨6, _⟩ => ⟨S9x8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x1x2048, .f32⟩
  | .local _ .vmem, ⟨7, _⟩ => ⟨S1x1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1x8x2048, .f32⟩
  | .local _ .vmem, ⟨13, _⟩ => ⟨S1x8x2048, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ModBwdReferenceIdeal.lean ====
abbrev S2304x2048 : Shape := ⟨2, ![2304, 2048]⟩
abbrev S2x1x2048 : Shape := ⟨3, ![2, 1, 2048]⟩
abbrev S1x1x2048 : Shape := ⟨3, ![1, 1, 2048]⟩
abbrev S8x1x2048 : Shape := ⟨3, ![8, 1, 2048]⟩
abbrev S9x1x2048 : Shape := ⟨3, ![9, 1, 2048]⟩
abbrev S9x256x2048 : Shape := ⟨3, ![9, 256, 2048]⟩
abbrev S_ : Shape := ⟨0, ![]⟩
abbrev S9x2048 : Shape := ⟨2, ![9, 2048]⟩
abbrev S9x6x2048 : Shape := ⟨3, ![9, 6, 2048]⟩
abbrev S9x8x2048 : Shape := ⟨3, ![9, 8, 2048]⟩

abbrev nBuf : Space → Nat
  | .hbm => 35
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2304x2048, .f32⟩
  | .hbm, ⟨3, _⟩ => ⟨S2x1x2048, .f32⟩
  | .hbm, ⟨4, _⟩ => ⟨S2304x2048, .f32⟩
  | .hbm, ⟨5, _⟩ => ⟨S1x1x2048, .f32⟩
  | .hbm, ⟨6, _⟩ => ⟨S1x1x2048, .f32⟩
  | .hbm, ⟨7, _⟩ => ⟨S8x1x2048, .f32⟩
  | .hbm, ⟨8, _⟩ => ⟨S9x1x2048, .f32⟩
  | .hbm, ⟨9, _⟩ => ⟨S9x256x2048, .f32⟩
  | .hbm, ⟨10, _⟩ => ⟨S_, .f32⟩
  | .hbm, ⟨11, _⟩ => ⟨S9x1x2048, .f32⟩
  | .hbm, ⟨12, _⟩ => ⟨S_, .f32⟩
  | .hbm, ⟨13, _⟩ => ⟨S9x1x2048, .f32⟩
  | .hbm, ⟨14, _⟩ => ⟨S9x1x2048, .f32⟩
  | .hbm, ⟨15, _⟩ => ⟨S9x256x2048, .f32⟩
  | .hbm, ⟨16, _⟩ => ⟨S9x256x2048, .f32⟩
  | .hbm, ⟨17, _⟩ => ⟨S9x256x2048, .f32⟩
  | .hbm, ⟨18, _⟩ => ⟨S9x256x2048, .f32⟩
  | .hbm, ⟨19, _⟩ => ⟨S2304x2048, .f32⟩
  | .hbm, ⟨20, _⟩ => ⟨S9x256x2048, .f32⟩
  | .hbm, ⟨21, _⟩ => ⟨S_, .f32⟩
  | .hbm, ⟨22, _⟩ => ⟨S9x2048, .f32⟩
  | .hbm, ⟨23, _⟩ => ⟨S9x1x2048, .f32⟩
  | .hbm, ⟨24, _⟩ => ⟨S9x256x2048, .f32⟩
  | .hbm, ⟨25, _⟩ => ⟨S_, .f32⟩
  | .hbm, ⟨26, _⟩ => ⟨S9x2048, .f32⟩
  | .hbm, ⟨27, _⟩ => ⟨S9x1x2048, .f32⟩
  | .hbm, ⟨28, _⟩ => ⟨S9x256x2048, .f32⟩
  | .hbm, ⟨29, _⟩ => ⟨S9x256x2048, .f32⟩
  | .hbm, ⟨30, _⟩ => ⟨S2304x2048, .f32⟩
  | .hbm, ⟨31, _⟩ => ⟨S2304x2048, .f32⟩
  | .hbm, ⟨32, _⟩ => ⟨S_, .f32⟩
  | .hbm, ⟨33, _⟩ => ⟨S9x6x2048, .f32⟩
  | .hbm, ⟨34, _⟩ => ⟨S9x8x2048, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Modulate.lean ====
abbrev S2304x2048 : Shape := ⟨2, ![2304, 2048]⟩
abbrev S2x1x2048 : Shape := ⟨3, ![2, 1, 2048]⟩
abbrev S256x2048 : Shape := ⟨2, ![256, 2048]⟩
abbrev S1x1x2048 : Shape := ⟨3, ![1, 1, 2048]⟩
abbrev S1x2048 : Shape := ⟨2, ![1, 2048]⟩

abbrev nBuf : Space → Nat
  | .hbm => 4
  | .vmem => 8
  | .smem => 0
  | _ => 0

abbrev bufTy : (tb : Table) → Fin (tcTables nBuf tb) → BufTy
  | .hbm, ⟨0, _⟩ => ⟨S2304x2048, .f32⟩
  | .hbm, ⟨1, _⟩ => ⟨S2x1x2048, .f32⟩
  | .hbm, ⟨2, _⟩ => ⟨S2x1x2048, .f32⟩
  | .hbm, ⟨3, _⟩ => ⟨S2304x2048, .bf16⟩
  | .local _ .vmem, ⟨0, _⟩ => ⟨S256x2048, .f32⟩
  | .local _ .vmem, ⟨1, _⟩ => ⟨S256x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S256x2048, .bf16⟩
  | .local _ .vmem, ⟨7, _⟩ => ⟨S256x2048, .bf16⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_2 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulateReferenceIdeal.lean ====
abbrev S2304x2048 : Shape := ⟨2, ![2304, 2048]⟩
abbrev S2x1x2048 : Shape := ⟨3, ![2, 1, 2048]⟩
abbrev S256x2048 : Shape := ⟨2, ![256, 2048]⟩
abbrev S1x1x2048 : Shape := ⟨3, ![1, 1, 2048]⟩
abbrev S1x2048 : Shape := ⟨2, ![1, 2048]⟩
abbrev S_ : Shape := ⟨0, ![]⟩
abbrev S2048x2048 : Shape := ⟨2, ![2048, 2048]⟩

abbrev nBuf : Space → Nat
  | .hbm => 29
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2x1x2048, .f32⟩
  | .hbm, ⟨2, _⟩ => ⟨S2x1x2048, .f32⟩
  | .hbm, ⟨3, _⟩ => ⟨S256x2048, .f32⟩
  | .hbm, ⟨4, _⟩ => ⟨S1x1x2048, .f32⟩
  | .hbm, ⟨5, _⟩ => ⟨S1x2048, .f32⟩
  | .hbm, ⟨6, _⟩ => ⟨S_, .f32⟩
  | .hbm, ⟨7, _⟩ => ⟨S1x2048, .f32⟩
  | .hbm, ⟨8, _⟩ => ⟨S1x2048, .f32⟩
  | .hbm, ⟨9, _⟩ => ⟨S256x2048, .f32⟩
  | .hbm, ⟨10, _⟩ => ⟨S256x2048, .f32⟩
  | .hbm, ⟨11, _⟩ => ⟨S1x1x2048, .f32⟩
  | .hbm, ⟨12, _⟩ => ⟨S1x2048, .f32⟩
  | .hbm, ⟨13, _⟩ => ⟨S256x2048, .f32⟩
  | .hbm, ⟨14, _⟩ => ⟨S256x2048, .f32⟩
  | .hbm, ⟨15, _⟩ => ⟨S2048x2048, .f32⟩
  | .hbm, ⟨16, _⟩ => ⟨S1x1x2048, .f32⟩
  | .hbm, ⟨17, _⟩ => ⟨S1x2048, .f32⟩
  | .hbm, ⟨18, _⟩ => ⟨S_, .f32⟩
  | .hbm, ⟨19, _⟩ => ⟨S1x2048, .f32⟩
  | .hbm, ⟨20, _⟩ => ⟨S1x2048, .f32⟩
  | .hbm, ⟨21, _⟩ => ⟨S2048x2048, .f32⟩
  | .hbm, ⟨22, _⟩ => ⟨S2048x2048, .f32⟩
  | .hbm, ⟨23, _⟩ => ⟨S1x1x2048, .f32⟩
  | .hbm, ⟨24, _⟩ => ⟨S1x2048, .f32⟩
  | .hbm, ⟨25, _⟩ => ⟨S2048x2048, .f32⟩
  | .hbm, ⟨26, _⟩ => ⟨S2048x2048, .f32⟩
  | .hbm, ⟨27, _⟩ => ⟨S2304x2048, .f32⟩
  | .hbm, ⟨28, _⟩ => ⟨S2304x2048, .bf16⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== LnBwd.lean ====
abbrev S2304x2048 : Shape := ⟨2, ![2304, 2048]⟩
abbrev S2x1x2048 : Shape := ⟨3, ![2, 1, 2048]⟩
abbrev S2048 : Shape := ⟨1, ![2048]⟩
abbrev S1x2048 : Shape := ⟨2, ![1, 2048]⟩
abbrev S9x8x2048 : Shape := ⟨3, ![9, 8, 2048]⟩
abbrev S256x2048 : Shape := ⟨2, ![256, 2048]⟩
abbrev S1x1x2048 : Shape := ⟨3, ![1, 1, 2048]⟩
abbrev S1x8x2048 : Shape := ⟨3, ![1, 8, 2048]⟩
abbrev S256 : Shape := ⟨1, ![256]⟩
abbrev S256x1 : Shape := ⟨2, ![256, 1]⟩
abbrev S3x2048 : Shape := ⟨2, ![3, 2048]⟩
abbrev S1x3x2048 : Shape := ⟨3, ![1, 3, 2048]⟩

abbrev nBuf : Space → Nat
  | .hbm => 14
  | .vmem => 22
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2304x2048, .f32⟩
  | .hbm, ⟨3, _⟩ => ⟨S2x1x2048, .f32⟩
  | .hbm, ⟨4, _⟩ => ⟨S2304x2048, .f32⟩
  | .hbm, ⟨5, _⟩ => ⟨S2304x2048, .f32⟩
  | .hbm, ⟨6, _⟩ => ⟨S2x1x2048, .f32⟩
  | .hbm, ⟨7, _⟩ => ⟨S2048, .f32⟩
  | .hbm, ⟨8, _⟩ => ⟨S2048, .f32⟩
  | .hbm, ⟨9, _⟩ => ⟨S1x2048, .f32⟩
  | .hbm, ⟨10, _⟩ => ⟨S1x2048, .f32⟩
  | .hbm, ⟨11, _⟩ => ⟨S2304x2048, .f32⟩
  | .hbm, ⟨12, _⟩ => ⟨S2304x2048, .bf16⟩
  | .hbm, ⟨13, _⟩ => ⟨S9x8x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x1x2048, .f32⟩
  | .local _ .vmem, ⟨7, _⟩ => ⟨S1x1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x2048, .f32⟩
  | .local _ .vmem, ⟨15, _⟩ => ⟨S1x2048, .f32⟩
  | .local _ .vmem, ⟨16, _⟩ => ⟨S256x2048, .f32⟩
  | .local _ .vmem, ⟨17, _⟩ => ⟨S256x2048, .f32⟩
  | .local _ .vmem, ⟨18, _⟩ => ⟨S256x2048, .bf16⟩
  | .local _ .vmem, ⟨19, _⟩ => ⟨S256x2048, .bf16⟩
  | .local _ .vmem, ⟨20, _⟩ => ⟨S1x8x2048, .f32⟩
  | .local _ .vmem, ⟨21, _⟩ => ⟨S1x8x2048, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== LnBwdReferenceIdeal.lean ====
abbrev S2304x2048 : Shape := ⟨2, ![2304, 2048]⟩
abbrev S2x1x2048 : Shape := ⟨3, ![2, 1, 2048]⟩
abbrev S2048 : Shape := ⟨1, ![2048]⟩
abbrev S1x1x2048 : Shape := ⟨3, ![1, 1, 2048]⟩
abbrev S8x1x2048 : Shape := ⟨3, ![8, 1, 2048]⟩
abbrev S9x1x2048 : Shape := ⟨3, ![9, 1, 2048]⟩
abbrev S9x256x2048 : Shape := ⟨3, ![9, 256, 2048]⟩
abbrev S_ : Shape := ⟨0, ![]⟩
abbrev S9x256 : Shape := ⟨2, ![9, 256]⟩
abbrev S9x256x1 : Shape := ⟨3, ![9, 256, 1]⟩
abbrev S9x2048 : Shape := ⟨2, ![9, 2048]⟩
abbrev S9x3x2048 : Shape := ⟨3, ![9, 3, 2048]⟩
abbrev S9x8x2048 : Shape := ⟨3, ![9, 8, 2048]⟩

abbrev nBuf : Space → Nat
  | .hbm => 138
  | .vmem => 0
  | .smem => 0
  | _ => 0

abbrev hbmTy0_0 (i : Nat) : BufTy := match i % 128 with
  | 0 => ⟨S2304x2048, .f32⟩
  | 1 => ⟨S2304x2048, .f32⟩
  | 2 => ⟨S2304x2048, .f32⟩
  | 3 => ⟨S2x1x2048, .f32⟩
  | 4 => ⟨S2304x2048, .f32⟩
  | 5 => ⟨S2304x2048, .f32⟩
  | 6 => ⟨S2x1x2048, .f32⟩
  | 7 => ⟨S2048, .f32⟩
  | 8 => ⟨S2048, .f32⟩
  | 9 => ⟨S1x1x2048, .f32⟩
  | 10 => ⟨S1x1x2048, .f32⟩
  | 11 => ⟨S8x1x2048, .f32⟩
  | 12 => ⟨S9x1x2048, .f32⟩
  | 13 => ⟨S1x1x2048, .f32⟩
  | 14 => ⟨S1x1x2048, .f32⟩
  | 15 => ⟨S8x1x2048, .f32⟩
  | 16 => ⟨S9x1x2048, .f32⟩
  | 17 => ⟨S9x1x2048, .f32⟩
  | 18 => ⟨S9x1x2048, .f32⟩
  | 19 => ⟨S9x256x2048, .f32⟩
  | 20 => ⟨S9x256x2048, .f32⟩
  | 21 => ⟨S_, .f32⟩
  | 22 => ⟨S9x1x2048, .f32⟩
  | 23 => ⟨S_, .f32⟩
  | 24 => ⟨S9x256x2048, .f32⟩
  | 25 => ⟨S9x256x2048, .f32⟩
  | 26 => ⟨S9x256x2048, .f32⟩
  | 27 => ⟨S9x256x2048, .f32⟩
  | 28 => ⟨S9x256x2048, .f32⟩
  | 29 => ⟨S_, .f32⟩
  | 30 => ⟨S9x256, .f32⟩
  | 31 => ⟨S9x256x1, .f32⟩
  | 32 => ⟨S_, .f32⟩
  | 33 => ⟨S9x256x1, .f32⟩
  | 34 => ⟨S9x256x1, .f32⟩
  | 35 => ⟨S9x256x2048, .f32⟩
  | 36 => ⟨S9x256x2048, .f32⟩
  | 37 => ⟨S9x256x2048, .f32⟩
  | 38 => ⟨S_, .f32⟩
  | 39 => ⟨S9x256x2048, .f32⟩
  | 40 => ⟨S9x256x2048, .f32⟩
  | 41 => ⟨S_, .f32⟩
  | 42 => ⟨S9x256, .f32⟩
  | 43 => ⟨S9x256x1, .f32⟩
  | 44 => ⟨S_, .f32⟩
  | 45 => ⟨S9x256x1, .f32⟩
  | 46 => ⟨S9x256x1, .f32⟩
  | 47 => ⟨S9x256x2048, .f32⟩
  | 48 => ⟨S9x256x2048, .f32⟩
  | 49 => ⟨S_, .f32⟩
  | 50 => ⟨S9x256x1, .f32⟩
  | 51 => ⟨S9x256x1, .f32⟩
  | 52 => ⟨S9x256x1, .f32⟩
  | 53 => ⟨S9x256x1, .f32⟩
  | 54 => ⟨S_, .f32⟩
  | 55 => ⟨S9x256x1, .f32⟩
  | 56 => ⟨S9x256x1, .f32⟩
  | 57 => ⟨S9x256x2048, .f32⟩
  | 58 => ⟨S9x256x2048, .f32⟩
  | 59 => ⟨S9x256x2048, .f32⟩
  | 60 => ⟨S9x256x2048, .f32⟩
  | 61 => ⟨S9x256x2048, .f32⟩
  | 62 => ⟨S9x256x2048, .f32⟩
  | 63 => ⟨S_, .f32⟩
  | 64 => ⟨S9x1x2048, .f32⟩
  | 65 => ⟨S9x1x2048, .f32⟩
  | 66 => ⟨S9x256x2048, .f32⟩
  | 67 => ⟨S9x256x2048, .f32⟩
  | 68 => ⟨S9x256x2048, .f32⟩
  | 69 => ⟨S9x256x2048, .f32⟩
  | 70 => ⟨S9x256x2048, .f32⟩
  | 71 => ⟨S2304x2048, .f32⟩
  | 72 => ⟨S9x256x2048, .f32⟩
  | 73 => ⟨S_, .f32⟩
  | 74 => ⟨S9x2048, .f32⟩
  | 75 => ⟨S9x1x2048, .f32⟩
  | 76 => ⟨S9x256x2048, .f32⟩
  | 77 => ⟨S_, .f32⟩
  | 78 => ⟨S9x2048, .f32⟩
  | 79 => ⟨S9x1x2048, .f32⟩
  | 80 => ⟨S9x256x2048, .f32⟩
  | 81 => ⟨S9x256x2048, .f32⟩
  | 82 => ⟨S9x256x2048, .f32⟩
  | 83 => ⟨S_, .f32⟩
  | 84 => ⟨S9x2048, .f32⟩
  | 85 => ⟨S9x1x2048, .f32⟩
  | 86 => ⟨S9x256x2048, .f32⟩
  | 87 => ⟨S_, .f32⟩
  | 88 => ⟨S9x2048, .f32⟩
  | 89 => ⟨S9x1x2048, .f32⟩
  | 90 => ⟨S9x256x2048, .f32⟩
  | 91 => ⟨S9x256x2048, .f32⟩
  | 92 => ⟨S9x256x2048, .f32⟩
  | 93 => ⟨S_, .f32⟩
  | 94 => ⟨S9x256, .f32⟩
  | 95 => ⟨S9x256x1, .f32⟩
  | 96 => ⟨S9x256x2048, .f32⟩
  | 97 => ⟨S9x256x2048, .f32⟩
  | 98 => ⟨S9x256x1, .f32⟩
  | 99 => ⟨S9x256x2048, .f32⟩
  | 100 => ⟨S_, .f32⟩
  | 101 => ⟨S9x256, .f32⟩
  | 102 => ⟨S9x256x1, .f32⟩
  | 103 => ⟨S_, .f32⟩
  | 104 => ⟨S9x256x1, .f32⟩
  | 105 => ⟨S9x256x1, .f32⟩
  | 106 => ⟨S_, .f32⟩
  | 107 => ⟨S9x256, .f32⟩
  | 108 => ⟨S9x256x2048, .f32⟩
  | 109 => ⟨S9x256x2048, .f32⟩
  | 110 => ⟨S9x256x2048, .f32⟩
  | 111 => ⟨S_, .f32⟩
  | 112 => ⟨S9x256, .f32⟩
  | 113 => ⟨S9x256x1, .f32⟩
  | 114 => ⟨S9x256x2048, .f32⟩
  | 115 => ⟨S9x256x1, .f32⟩
  | 116 => ⟨S_, .f32⟩
  | 117 => ⟨S9x256x1, .f32⟩
  | 118 => ⟨S9x256x1, .f32⟩
  | 119 => ⟨S_, .f32⟩
  | 120 => ⟨S9x256, .f32⟩
  | 121 => ⟨S9x256x2048, .f32⟩
  | 122 => ⟨S9x256x2048, .f32⟩
  | 123 => ⟨S9x256x2048, .f32⟩
  | 124 => ⟨S9x256x2048, .f32⟩
  | 125 => ⟨S9x256x2048, .f32⟩
  | 126 => ⟨S_, .f32⟩
  | 127 => ⟨S9x2048, .f32⟩
  | _ => ⟨S2304x2048, .f32⟩

abbrev hbmTy0_1 (i : Nat) : BufTy := match i % 128 with
  | 0 => ⟨S9x1x2048, .f32⟩
  | 1 => ⟨S_, .f32⟩
  | 2 => ⟨S9x256x2048, .f32⟩
  | 3 => ⟨S9x256x2048, .f32⟩
  | 4 => ⟨S_, .f32⟩
  | 5 => ⟨S9x3x2048, .f32⟩
  | 6 => ⟨S9x8x2048, .f32⟩
  | 7 => ⟨S2304x2048, .f32⟩
  | 8 => ⟨S2304x2048, .f32⟩
  | 9 => ⟨S2304x2048, .bf16⟩
  | _ => ⟨S2304x2048, .f32⟩

abbrev hbmTy (i : Nat) : BufTy := match i / 128 with
  | 0 => hbmTy0_0 i
  | 1 => hbmTy0_1 i
  | _ => ⟨S2304x2048, .f32⟩

abbrev bufTy : (tb : Table) → Fin (tcTables nBuf tb) → BufTy
  | .hbm, ⟨i, _⟩ => hbmTy i
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_cst_0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_6 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_9 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_11 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_cst_13 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_cst_14 : Ref sig .tc := ⟨.hbm, 100, rfl⟩
abbrev main_v76 : Ref sig .tc := ⟨.hbm, 101, rfl⟩
abbrev main_v77 : Ref sig .tc := ⟨.hbm, 102, rfl⟩
abbrev main_cst_15 : Ref sig .tc := ⟨.hbm, 103, rfl⟩
abbrev main_v78 : Ref sig .tc := ⟨.hbm, 104, rfl⟩
abbrev main_v79 : Ref sig .tc := ⟨.hbm, 105, rfl⟩
abbrev main_cst_16 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_17 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_18 : Ref sig .tc := ⟨.hbm, 116, rfl⟩
abbrev main_v88 : Ref sig .tc := ⟨.hbm, 117, rfl⟩
abbrev main_v89 : Ref sig .tc := ⟨.hbm, 118, rfl⟩
abbrev main_cst_19 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_cst_20 : Ref sig .tc := ⟨.hbm, 126, rfl⟩
abbrev main_v96 : Ref sig .tc := ⟨.hbm, 127, rfl⟩
abbrev main_v97 : Ref sig .tc := ⟨.hbm, 128, rfl⟩
abbrev main_cst_21 : Ref sig .tc := ⟨.hbm, 129, rfl⟩
abbrev main_v98 : Ref sig .tc := ⟨.hbm, 130, rfl⟩
abbrev main_v99 : Ref sig .tc := ⟨.hbm, 131, rfl⟩
abbrev main_cst_22 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩

abbrev nD : Nat := 1
abbrev τ : Topo := Topo.v7x

variable {F : FTy → Type} [FloatOps F]
-- ==== ResidLn.lean ====
abbrev S2304x2048 : Shape := ⟨2, ![2304, 2048]⟩
abbrev S2x1x2048 : Shape := ⟨3, ![2, 1, 2048]⟩
abbrev S2048 : Shape := ⟨1, ![2048]⟩
abbrev S1x2048 : Shape := ⟨2, ![1, 2048]⟩
abbrev S256x2048 : Shape := ⟨2, ![256, 2048]⟩
abbrev S1x1x2048 : Shape := ⟨3, ![1, 1, 2048]⟩
abbrev S256 : Shape := ⟨1, ![256]⟩
abbrev S256x1 : Shape := ⟨2, ![256, 1]⟩

abbrev nBuf : Space → Nat
  | .hbm => 11
  | .vmem => 16
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2x1x2048, .f32⟩
  | .hbm, ⟨3, _⟩ => ⟨S2048, .f32⟩
  | .hbm, ⟨4, _⟩ => ⟨S2048, .f32⟩
  | .hbm, ⟨5, _⟩ => ⟨S2x1x2048, .f32⟩
  | .hbm, ⟨6, _⟩ => ⟨S2x1x2048, .f32⟩
  | .hbm, ⟨7, _⟩ => ⟨S1x2048, .f32⟩
  | .hbm, ⟨8, _⟩ => ⟨S1x2048, .f32⟩
  | .hbm, ⟨9, _⟩ => ⟨S2304x2048, .f32⟩
  | .hbm, ⟨10, _⟩ => ⟨S2304x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_6 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ResidLnReferenceIdeal.lean ====
abbrev S2304x2048 : Shape := ⟨2, ![2304, 2048]⟩
abbrev S2x1x2048 : Shape := ⟨3, ![2, 1, 2048]⟩
abbrev S2048 : Shape := ⟨1, ![2048]⟩
abbrev S256x2048 : Shape := ⟨2, ![256, 2048]⟩
abbrev S_ : Shape := ⟨0, ![]⟩
abbrev S1x1x2048 : Shape := ⟨3, ![1, 1, 2048]⟩
abbrev S1x2048 : Shape := ⟨2, ![1, 2048]⟩
abbrev S256 : Shape := ⟨1, ![256]⟩
abbrev S256x1 : Shape := ⟨2, ![256, 1]⟩
abbrev S2048x2048 : Shape := ⟨2, ![2048, 2048]⟩
abbrev S2048x1 : Shape := ⟨2, ![2048, 1]⟩

abbrev nBuf : Space → Nat
  | .hbm => 110
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2x1x2048, .f32⟩
  | .hbm, ⟨3, _⟩ => ⟨S2048, .f32⟩
  | .hbm, ⟨4, _⟩ => ⟨S2048, .f32⟩
  | .hbm, ⟨5, _⟩ => ⟨S2x1x2048, .f32⟩
  | .hbm, ⟨6, _⟩ => ⟨S2x1x2048, .f32⟩
  | .hbm, ⟨7, _⟩ => ⟨S256x2048, .f32⟩
  | .hbm, ⟨8, _⟩ => ⟨S_, .f32⟩
  | .hbm, ⟨9, _⟩ => ⟨S256x2048, .f32⟩
  | .hbm, ⟨10, _⟩ => ⟨S256x2048, .f32⟩
  | .hbm, ⟨11, _⟩ => ⟨S1x1x2048, .f32⟩
  | .hbm, ⟨12, _⟩ => ⟨S1x2048, .f32⟩
  | .hbm, ⟨13, _⟩ => ⟨S256x2048, .f32⟩
  | .hbm, ⟨14, _⟩ => ⟨S256x2048, .f32⟩
  | .hbm, ⟨15, _⟩ => ⟨S256x2048, .f32⟩
  | .hbm, ⟨16, _⟩ => ⟨S256x2048, .f32⟩
  | .hbm, ⟨17, _⟩ => ⟨S_, .f32⟩
  | .hbm, ⟨18, _⟩ => ⟨S256, .f32⟩
  | .hbm, ⟨19, _⟩ => ⟨S256x1, .f32⟩
  | .hbm, ⟨20, _⟩ => ⟨S_, .f32⟩
  | .hbm, ⟨21, _⟩ => ⟨S256x1, .f32⟩
  | .hbm, ⟨22, _⟩ => ⟨S256x1, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S_, .f32⟩
  | .hbm, ⟨27, _⟩ => ⟨S256, .f32⟩
  | .hbm, ⟨28, _⟩ => ⟨S256x1, .f32⟩
  | .hbm, ⟨29, _⟩ => ⟨S_, .f32⟩
  | .hbm, ⟨30, _⟩ => ⟨S256x1, .f32⟩
  | .hbm, ⟨31, _⟩ => ⟨S256x1, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S256x1, .f32⟩
  | .hbm, ⟨36, _⟩ => ⟨S256x1, .f32⟩
  | .hbm, ⟨37, _⟩ => ⟨S256x1, .f32⟩
  | .hbm, ⟨38, _⟩ => ⟨S256x2048, .f32⟩
  | .hbm, ⟨39, _⟩ => ⟨S256x2048, .f32⟩
  | .hbm, ⟨40, _⟩ => ⟨S1x2048, .f32⟩
  | .hbm, ⟨41, _⟩ => ⟨S256x2048, .f32⟩
  | .hbm, ⟨42, _⟩ => ⟨S256x2048, .f32⟩
  | .hbm, ⟨43, _⟩ => ⟨S1x2048, .f32⟩
  | .hbm, ⟨44, _⟩ => ⟨S256x2048, .f32⟩
  | .hbm, ⟨45, _⟩ => ⟨S256x2048, .f32⟩
  | .hbm, ⟨46, _⟩ => ⟨S2048x2048, .f32⟩
  | .hbm, ⟨47, _⟩ => ⟨S_, .f32⟩
  | .hbm, ⟨48, _⟩ => ⟨S2048x2048, .f32⟩
  | .hbm, ⟨49, _⟩ => ⟨S2048x2048, .f32⟩
  | .hbm, ⟨50, _⟩ => ⟨S1x1x2048, .f32⟩
  | .hbm, ⟨51, _⟩ => ⟨S1x2048, .f32⟩
  | .hbm, ⟨52, _⟩ => ⟨S2048x2048, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S2048, .f32⟩
  | .hbm, ⟨58, _⟩ => ⟨S2048x1, .f32⟩
  | .hbm, ⟨59, _⟩ => ⟨S_, .f32⟩
  | .hbm, ⟨60, _⟩ => ⟨S2048x1, .f32⟩
  | .hbm, ⟨61, _⟩ => ⟨S2048x1, .f32⟩
  | .hbm, ⟨62, _⟩ => ⟨S2048x2048, .f32⟩
  | .hbm, ⟨63, _⟩ => ⟨S2048x2048, .f32⟩
  | .hbm, ⟨64, _⟩ => ⟨S2048x2048, .f32⟩
  | .hbm, ⟨65, _⟩ => ⟨S_, .f32⟩
  | .hbm, ⟨66, _⟩ => ⟨S2048, .f32⟩
  | .hbm, ⟨67, _⟩ => ⟨S2048x1, .f32⟩
  | .hbm, ⟨68, _⟩ => ⟨S_, .f32⟩
  | .hbm, ⟨69, _⟩ => ⟨S2048x1, .f32⟩
  | .hbm, ⟨70, _⟩ => ⟨S2048x1, .f32⟩
  | .hbm, ⟨71, _⟩ => ⟨S2048x2048, .f32⟩
  | .hbm, ⟨72, _⟩ => ⟨S2048x2048, .f32⟩
  | .hbm, ⟨73, _⟩ => ⟨S_, .f32⟩
  | .hbm, ⟨74, _⟩ => ⟨S2048x1, .f32⟩
  | .hbm, ⟨75, _⟩ => ⟨S2048x1, .f32⟩
  | .hbm, ⟨76, _⟩ => ⟨S2048x1, .f32⟩
  | .hbm, ⟨77, _⟩ => ⟨S2048x2048, .f32⟩
  | .hbm, ⟨78, _⟩ => ⟨S2048x2048, .f32⟩
  | .hbm, ⟨79, _⟩ => ⟨S1x2048, .f32⟩
  | .hbm, ⟨80, _⟩ => ⟨S2048x2048, .f32⟩
  | .hbm, ⟨81, _⟩ => ⟨S2048x2048, .f32⟩
  | .hbm, ⟨82, _⟩ => ⟨S1x2048, .f32⟩
  | .hbm, ⟨83, _⟩ => ⟨S2048x2048, .f32⟩
  | .hbm, ⟨84, _⟩ => ⟨S2048x2048, .f32⟩
  | .hbm, ⟨85, _⟩ => ⟨S1x1x2048, .f32⟩
  | .hbm, ⟨86, _⟩ => ⟨S1x2048, .f32⟩
  | .hbm, ⟨87, _⟩ => ⟨S_, .f32⟩
  | .hbm, ⟨88, _⟩ => ⟨S1x2048, .f32⟩
  | .hbm, ⟨89, _⟩ => ⟨S1x2048, .f32⟩
  | .hbm, ⟨90, _⟩ => ⟨S256x2048, .f32⟩
  | .hbm, ⟨91, _⟩ => ⟨S256x2048, .f32⟩
  | .hbm, ⟨92, _⟩ => ⟨S1x1x2048, .f32⟩
  | .hbm, ⟨93, _⟩ => ⟨S1x2048, .f32⟩
  | .hbm, ⟨94, _⟩ => ⟨S256x2048, .f32⟩
  | .hbm, ⟨95, _⟩ => ⟨S256x2048, .f32⟩
  | .hbm, ⟨96, _⟩ => ⟨S1x1x2048, .f32⟩
  | .hbm, ⟨97, _⟩ => ⟨S1x2048, .f32⟩
  | .hbm, ⟨98, _⟩ => ⟨S_, .f32⟩
  | .hbm, ⟨99, _⟩ => ⟨S1x2048, .f32⟩
  | .hbm, ⟨100, _⟩ => ⟨S1x2048, .f32⟩
  | .hbm, ⟨101, _⟩ => ⟨S2048x2048, .f32⟩
  | .hbm, ⟨102, _⟩ => ⟨S2048x2048, .f32⟩
  | .hbm, ⟨103, _⟩ => ⟨S1x1x2048, .f32⟩
  | .hbm, ⟨104, _⟩ => ⟨S1x2048, .f32⟩
  | .hbm, ⟨105, _⟩ => ⟨S2048x2048, .f32⟩
  | .hbm, ⟨106, _⟩ => ⟨S2048x2048, .f32⟩
  | .hbm, ⟨107, _⟩ => ⟨S2304x2048, .f32⟩
  | .hbm, ⟨108, _⟩ => ⟨S2304x2048, .f32⟩
  | .hbm, ⟨109, _⟩ => ⟨S2304x2048, .bf16⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_5 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_cst_8 : Ref sig .tc := ⟨.hbm, 65, rfl⟩
abbrev main_v49 : Ref sig .tc := ⟨.hbm, 66, rfl⟩
abbrev main_v50 : Ref sig .tc := ⟨.hbm, 67, rfl⟩
abbrev main_cst_9 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_10 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_cst_11 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_cst_12 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩

abbrev nD : Nat := 1
abbrev τ : Topo := Topo.v7x

variable {F : FTy → Type} [FloatOps F]
-- ==== LossHead.lean ====
abbrev S2304x2048 : Shape := ⟨2, ![2304, 2048]⟩
abbrev S2x1x2048 : Shape := ⟨3, ![2, 1, 2048]⟩
abbrev S2048 : Shape := ⟨1, ![2048]⟩
abbrev S2048x2048 : Shape := ⟨2, ![2048, 2048]⟩
abbrev S1x2048 : Shape := ⟨2, ![1, 2048]⟩
abbrev S9x8x128 : Shape := ⟨3, ![9, 8, 128]⟩
abbrev S256x2048 : Shape := ⟨2, ![256, 2048]⟩
abbrev S1x1x2048 : Shape := ⟨3, ![1, 1, 2048]⟩
abbrev S1x8x128 : Shape := ⟨3, ![1, 8, 128]⟩
abbrev S256 : Shape := ⟨1, ![256]⟩
abbrev S256x1 : Shape := ⟨2, ![256, 1]⟩
abbrev S8x128 : Shape := ⟨2, ![8, 128]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 10
  | .vmem => 14
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2x1x2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S1x2048, .f32⟩
  | .hbm, ⟨7, _⟩ => ⟨S1x2048, .f32⟩
  | .hbm, ⟨8, _⟩ => ⟨S2304x2048, .f32⟩
  | .hbm, ⟨9, _⟩ => ⟨S9x8x128, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S1x8x128, .f32⟩
  | .local _ .vmem, ⟨13, _⟩ => ⟨S1x8x128, .f32⟩
  | _, _ => ⟨S2304x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c1_i32 : BitVec 32 := 1#32
  let v0 : BitVec 1 := Scalar.cmpi .sge arg0 c1_i32
  let c1_i32_0 : BitVec 32 := 1#32
  let c0_i32 : BitVec 32 := 0#32
  let v1 : BitVec 32 := Scalar.select v0 c1_i32_0 c0_i32
  let c0_i32_1 : BitVec 32 := 0#32
  let c0_i32_2 : BitVec 32 := 0#32
  let c0_i32_3 : BitVec 32 := 0#32
  ![v1.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== LossHeadReferenceIdeal.lean ====
abbrev S2304x2048 : Shape := ⟨2, ![2304, 2048]⟩
abbrev S2x1x2048 : Shape := ⟨3, ![2, 1, 2048]⟩
abbrev S2048 : Shape := ⟨1, ![2048]⟩
abbrev S2048x2048 : Shape := ⟨2, ![2048, 2048]⟩
abbrev S_ : Shape := ⟨0, ![]⟩
abbrev S1x1x2048 : Shape := ⟨3, ![1, 1, 2048]⟩
abbrev S1x2048 : Shape := ⟨2, ![1, 2048]⟩
abbrev S2304 : Shape := ⟨1, ![2304]⟩
abbrev S2304x1 : Shape := ⟨2, ![2304, 1]⟩
abbrev S9x256x2048 : Shape := ⟨3, ![9, 256, 2048]⟩
abbrev S8x256x2048 : Shape := ⟨3, ![8, 256, 2048]⟩
abbrev S8x256 : Shape := ⟨2, ![8, 256]⟩
abbrev S8 : Shape := ⟨1, ![8]⟩
abbrev S8x1x1 : Shape := ⟨3, ![8, 1, 1]⟩
abbrev S8x8x128 : Shape := ⟨3, ![8, 8, 128]⟩
abbrev S256x2048 : Shape := ⟨2, ![256, 2048]⟩
abbrev S1x8x128 : Shape := ⟨3, ![1, 8, 128]⟩
abbrev S9x8x128 : Shape := ⟨3, ![9, 8, 128]⟩

abbrev nBuf : Space → Nat
  | .hbm => 81
  | .vmem => 0
  | .smem => 0
  | _ => 0

abbrev bufTy : (tb : Table) → Fin (tcTables nBuf tb) → BufTy
  | .hbm, ⟨0, _⟩ => ⟨S2304x2048, .f32⟩
  | .hbm, ⟨1, _⟩ => ⟨S2304x2048, .f32⟩
  | .hbm, ⟨2, _⟩ => ⟨S2x1x2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S_, .f32⟩
  | .hbm, ⟨7, _⟩ => ⟨S2304x2048, .f32⟩
  | .hbm, ⟨8, _⟩ => ⟨S2304x2048, .f32⟩
  | .hbm, ⟨9, _⟩ => ⟨S1x1x2048, .f32⟩
  | .hbm, ⟨10, _⟩ => ⟨S1x2048, .f32⟩
  | .hbm, ⟨11, _⟩ => ⟨S2304x2048, .f32⟩
  | .hbm, ⟨12, _⟩ => ⟨S2304x2048, .f32⟩
  | .hbm, ⟨13, _⟩ => ⟨S2304x2048, .f32⟩
  | .hbm, ⟨14, _⟩ => ⟨S_, .f32⟩
  | .hbm, ⟨15, _⟩ => ⟨S2304, .f32⟩
  | .hbm, ⟨16, _⟩ => ⟨S2304x1, .f32⟩
  | .hbm, ⟨17, _⟩ => ⟨S_, .f32⟩
  | .hbm, ⟨18, _⟩ => ⟨S2304x1, .f32⟩
  | .hbm, ⟨19, _⟩ => ⟨S2304x1, .f32⟩
  | .hbm, ⟨20, _⟩ => ⟨S2304x2048, .f32⟩
  | .hbm, ⟨21, _⟩ => ⟨S2304x2048, .f32⟩
  | .hbm, ⟨22, _⟩ => ⟨S2304x2048, .f32⟩
  | .hbm, ⟨23, _⟩ => ⟨S_, .f32⟩
  | .hbm, ⟨24, _⟩ => ⟨S2304, .f32⟩
  | .hbm, ⟨25, _⟩ => ⟨S2304x1, .f32⟩
  | .hbm, ⟨26, _⟩ => ⟨S_, .f32⟩
  | .hbm, ⟨27, _⟩ => ⟨S2304x1, .f32⟩
  | .hbm, ⟨28, _⟩ => ⟨S2304x1, .f32⟩
  | .hbm, ⟨29, _⟩ => ⟨S2304x2048, .f32⟩
  | .hbm, ⟨30, _⟩ => ⟨S2304x2048, .f32⟩
  | .hbm, ⟨31, _⟩ => ⟨S_, .f32⟩
  | .hbm, ⟨32, _⟩ => ⟨S2304x1, .f32⟩
  | .hbm, ⟨33, _⟩ => ⟨S2304x1, .f32⟩
  | .hbm, ⟨34, _⟩ => ⟨S2304x1, .f32⟩
  | .hbm, ⟨35, _⟩ => ⟨S2304x2048, .f32⟩
  | .hbm, ⟨36, _⟩ => ⟨S2304x2048, .f32⟩
  | .hbm, ⟨37, _⟩ => ⟨S1x2048, .f32⟩
  | .hbm, ⟨38, _⟩ => ⟨S2304x2048, .f32⟩
  | .hbm, ⟨39, _⟩ => ⟨S2304x2048, .f32⟩
  | .hbm, ⟨40, _⟩ => ⟨S1x2048, .f32⟩
  | .hbm, ⟨41, _⟩ => ⟨S2304x2048, .f32⟩
  | .hbm, ⟨42, _⟩ => ⟨S2304x2048, .f32⟩
  | .hbm, ⟨43, _⟩ => ⟨S9x256x2048, .f32⟩
  | .hbm, ⟨44, _⟩ => ⟨S8x256x2048, .f32⟩
  | .hbm, ⟨45, _⟩ => ⟨S8x256x2048, .f32⟩
  | .hbm, ⟨46, _⟩ => ⟨S8x256x2048, .f32⟩
  | .hbm, ⟨47, _⟩ => ⟨S8x256x2048, .f32⟩
  | .hbm, ⟨48, _⟩ => ⟨S_, .f32⟩
  | .hbm, ⟨49, _⟩ => ⟨S8x256x2048, .f32⟩
  | .hbm, ⟨50, _⟩ => ⟨S8x256x2048, .f32⟩
  | .hbm, ⟨51, _⟩ => ⟨S_, .f32⟩
  | .hbm, ⟨52, _⟩ => ⟨S8x256, .f32⟩
  | .hbm, ⟨53, _⟩ => ⟨S_, .f32⟩
  | .hbm, ⟨54, _⟩ => ⟨S8x256, .f32⟩
  | .hbm, ⟨55, _⟩ => ⟨S8x256, .f32⟩
  | .hbm, ⟨56, _⟩ => ⟨S_, .f32⟩
  | .hbm, ⟨57, _⟩ => ⟨S8, .f32⟩
  | .hbm, ⟨58, _⟩ => ⟨S_, .f32⟩
  | .hbm, ⟨59, _⟩ => ⟨S8, .f32⟩
  | .hbm, ⟨60, _⟩ => ⟨S8, .f32⟩
  | .hbm, ⟨61, _⟩ => ⟨S_, .f32⟩
  | .hbm, ⟨62, _⟩ => ⟨S8, .f32⟩
  | .hbm, ⟨63, _⟩ => ⟨S_, .f32⟩
  | .hbm, ⟨64, _⟩ => ⟨S8, .f32⟩
  | .hbm, ⟨65, _⟩ => ⟨S8, .f32⟩
  | .hbm, ⟨66, _⟩ => ⟨S8x256, .f32⟩
  | .hbm, ⟨67, _⟩ => ⟨S_, .f32⟩
  | .hbm, ⟨68, _⟩ => ⟨S8x256, .f32⟩
  | .hbm, ⟨69, _⟩ => ⟨S8x256, .f32⟩
  | .hbm, ⟨70, _⟩ => ⟨S8x256x2048, .f32⟩
  | .hbm, ⟨71, _⟩ => ⟨S8x256x2048, .f32⟩
  | .hbm, ⟨72, _⟩ => ⟨S2048x2048, .f32⟩
  | .hbm, ⟨73, _⟩ => ⟨S8x1x1, .f32⟩
  | .hbm, ⟨74, _⟩ => ⟨S8x8x128, .f32⟩
  | .hbm, ⟨75, _⟩ => ⟨S_, .f32⟩
  | .hbm, ⟨76, _⟩ => ⟨S256x2048, .f32⟩
  | .hbm, ⟨77, _⟩ => ⟨S2304x2048, .f32⟩
  | .hbm, ⟨78, _⟩ => ⟨S_, .f32⟩
  | .hbm, ⟨79, _⟩ => ⟨S1x8x128, .f32⟩
  | .hbm, ⟨80, _⟩ => ⟨S9x8x128, .f32⟩
  | _, _ => ⟨S2304x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_cst_11 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_12 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_cst_13 : Ref sig .tc := ⟨.hbm, 75, rfl⟩
abbrev main_v55 : Ref sig .tc := ⟨.hbm, 76, rfl⟩
abbrev main_v56 : Ref sig .tc := ⟨.hbm, 77, rfl⟩
abbrev main_cst_14 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== ConvFwd.lean ====
abbrev S2304x4608 : Shape := ⟨2, ![2304, 4608]⟩
abbrev S3x512 : Shape := ⟨2, ![3, 512]⟩
abbrev S2304x512 : Shape := ⟨2, ![2304, 512]⟩
abbrev S2304x128 : Shape := ⟨2, ![2304, 128]⟩
abbrev S3x128 : Shape := ⟨2, ![3, 128]⟩
abbrev S1x128 : Shape := ⟨2, ![1, 128]⟩
abbrev S2304x1 : Shape := ⟨2, ![2304, 1]⟩

abbrev nBuf : Space → Nat
  | .hbm => 3
  | .vmem => 10
  | .smem => 0
  | _ => 0

abbrev bufTy : (tb : Table) → Fin (tcTables nBuf tb) → BufTy
  | .hbm, ⟨0, _⟩ => ⟨S2304x4608, .f32⟩
  | .hbm, ⟨1, _⟩ => ⟨S3x512, .f32⟩
  | .hbm, ⟨2, _⟩ => ⟨S2304x512, .bf16⟩
  | .local _ .vmem, ⟨0, _⟩ => ⟨S2304x128, .f32⟩
  | .local _ .vmem, ⟨1, _⟩ => ⟨S2304x128, .f32⟩
  | .local _ .vmem, ⟨2, _⟩ => ⟨S2304x128, .f32⟩
  | .local _ .vmem, ⟨3, _⟩ => ⟨S2304x128, .f32⟩
  | .local _ .vmem, ⟨4, _⟩ => ⟨S2304x128, .f32⟩
  | .local _ .vmem, ⟨5, _⟩ => ⟨S2304x128, .f32⟩
  | .local _ .vmem, ⟨6, _⟩ => ⟨S3x128, .f32⟩
  | .local _ .vmem, ⟨7, _⟩ => ⟨S3x128, .f32⟩
  | .local _ .vmem, ⟨8, _⟩ => ⟨S2304x128, .bf16⟩
  | .local _ .vmem, ⟨9, _⟩ => ⟨S2304x128, .bf16⟩
  | _, _ => ⟨S2304x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c28_i32 : BitVec 32 := 28#32
  let v0 : BitVec 32 := Scalar.addi c28_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2304x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvFwdReferenceIdeal.lean ====
abbrev S2304x4608 : Shape := ⟨2, ![2304, 4608]⟩
abbrev S3x512 : Shape := ⟨2, ![3, 512]⟩
abbrev S256x4608 : Shape := ⟨2, ![256, 4608]⟩
abbrev S256x512 : Shape := ⟨2, ![256, 512]⟩
abbrev S_ : Shape := ⟨0, ![]⟩
abbrev S1x512 : Shape := ⟨2, ![1, 512]⟩
abbrev S258x512 : Shape := ⟨2, ![258, 512]⟩
abbrev S512 : Shape := ⟨1, ![512]⟩
abbrev S2048x4608 : Shape := ⟨2, ![2048, 4608]⟩
abbrev S2048x512 : Shape := ⟨2, ![2048, 512]⟩
abbrev S2050x512 : Shape := ⟨2, ![2050, 512]⟩
abbrev S2304x512 : Shape := ⟨2, ![2304, 512]⟩

abbrev nBuf : Space → Nat
  | .hbm => 62
  | .vmem => 0
  | .smem => 0
  | _ => 0

abbrev bufTy : (tb : Table) → Fin (tcTables nBuf tb) → BufTy
  | .hbm, ⟨0, _⟩ => ⟨S2304x4608, .f32⟩
  | .hbm, ⟨1, _⟩ => ⟨S3x512, .f32⟩
  | .hbm, ⟨2, _⟩ => ⟨S256x4608, .f32⟩
  | .hbm, ⟨3, _⟩ => ⟨S256x512, .f32⟩
  | .hbm, ⟨4, _⟩ => ⟨S256x512, .f32⟩
  | .hbm, ⟨5, _⟩ => ⟨S256x512, .f32⟩
  | .hbm, ⟨6, _⟩ => ⟨S256x512, .f32⟩
  | .hbm, ⟨7, _⟩ => ⟨S_, .f32⟩
  | .hbm, ⟨8, _⟩ => ⟨S1x512, .f32⟩
  | .hbm, ⟨9, _⟩ => ⟨S258x512, .f32⟩
  | .hbm, ⟨10, _⟩ => ⟨S256x512, .f32⟩
  | .hbm, ⟨11, _⟩ => ⟨S1x512, .f32⟩
  | .hbm, ⟨12, _⟩ => ⟨S512, .f32⟩
  | .hbm, ⟨13, _⟩ => ⟨S1x512, .f32⟩
  | .hbm, ⟨14, _⟩ => ⟨S256x512, .f32⟩
  | .hbm, ⟨15, _⟩ => ⟨S256x512, .f32⟩
  | .hbm, ⟨16, _⟩ => ⟨S256x512, .f32⟩
  | .hbm, ⟨17, _⟩ => ⟨S1x512, .f32⟩
  | .hbm, ⟨18, _⟩ => ⟨S512, .f32⟩
  | .hbm, ⟨19, _⟩ => ⟨S1x512, .f32⟩
  | .hbm, ⟨20, _⟩ => ⟨S256x512, .f32⟩
  | .hbm, ⟨21, _⟩ => ⟨S256x512, .f32⟩
  | .hbm, ⟨22, _⟩ => ⟨S256x512, .f32⟩
  | .hbm, ⟨23, _⟩ => ⟨S256x512, .f32⟩
  | .hbm, ⟨24, _⟩ => ⟨S1x512, .f32⟩
  | .hbm, ⟨25, _⟩ => ⟨S512, .f32⟩
  | .hbm, ⟨26, _⟩ => ⟨S1x512, .f32⟩
  | .hbm, ⟨27, _⟩ => ⟨S256x512, .f32⟩
  | .hbm, ⟨28, _⟩ => ⟨S256x512, .f32⟩
  | .hbm, ⟨29, _⟩ => ⟨S256x512, .f32⟩
  | .hbm, ⟨30, _⟩ => ⟨S256x512, .f32⟩
  | .hbm, ⟨31, _⟩ => ⟨S2048x4608, .f32⟩
  | .hbm, ⟨32, _⟩ => ⟨S2048x512, .f32⟩
  | .hbm, ⟨33, _⟩ => ⟨S2048x512, .f32⟩
  | .hbm, ⟨34, _⟩ => ⟨S2048x512, .f32⟩
  | .hbm, ⟨35, _⟩ => ⟨S2048x512, .f32⟩
  | .hbm, ⟨36, _⟩ => ⟨S_, .f32⟩
  | .hbm, ⟨37, _⟩ => ⟨S1x512, .f32⟩
  | .hbm, ⟨38, _⟩ => ⟨S2050x512, .f32⟩
  | .hbm, ⟨39, _⟩ => ⟨S2048x512, .f32⟩
  | .hbm, ⟨40, _⟩ => ⟨S1x512, .f32⟩
  | .hbm, ⟨41, _⟩ => ⟨S512, .f32⟩
  | .hbm, ⟨42, _⟩ => ⟨S1x512, .f32⟩
  | .hbm, ⟨43, _⟩ => ⟨S2048x512, .f32⟩
  | .hbm, ⟨44, _⟩ => ⟨S2048x512, .f32⟩
  | .hbm, ⟨45, _⟩ => ⟨S2048x512, .f32⟩
  | .hbm, ⟨46, _⟩ => ⟨S1x512, .f32⟩
  | .hbm, ⟨47, _⟩ => ⟨S512, .f32⟩
  | .hbm, ⟨48, _⟩ => ⟨S1x512, .f32⟩
  | .hbm, ⟨49, _⟩ => ⟨S2048x512, .f32⟩
  | .hbm, ⟨50, _⟩ => ⟨S2048x512, .f32⟩
  | .hbm, ⟨51, _⟩ => ⟨S2048x512, .f32⟩
  | .hbm, ⟨52, _⟩ => ⟨S2048x512, .f32⟩
  | .hbm, ⟨53, _⟩ => ⟨S1x512, .f32⟩
  | .hbm, ⟨54, _⟩ => ⟨S512, .f32⟩
  | .hbm, ⟨55, _⟩ => ⟨S1x512, .f32⟩
  | .hbm, ⟨56, _⟩ => ⟨S2048x512, .f32⟩
  | .hbm, ⟨57, _⟩ => ⟨S2048x512, .f32⟩
  | .hbm, ⟨58, _⟩ => ⟨S2048x512, .f32⟩
  | .hbm, ⟨59, _⟩ => ⟨S2048x512, .f32⟩
  | .hbm, ⟨60, _⟩ => ⟨S2304x512, .f32⟩
  | .hbm, ⟨61, _⟩ => ⟨S2304x512, .bf16⟩
  | _, _ => ⟨S2304x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_v30 : Ref sig .tc := ⟨.hbm, 33, rfl⟩
abbrev main_v31 : Ref sig .tc := ⟨.hbm, 34, rfl⟩
abbrev main_v32 : Ref sig .tc := ⟨.hbm, 35, rfl⟩
abbrev main_cst_0 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩

abbrev nD : Nat := 1
abbrev τ : Topo := Topo.v7x

variable {F : FTy → Type} [FloatOps F]
-- ==== AttnFwd.lean ====
abbrev S2304x1024 : Shape := ⟨2, ![2304, 1024]⟩
abbrev S2304x256 : Shape := ⟨2, ![2304, 256]⟩
abbrev S_ : Shape := ⟨0, ![]⟩
abbrev S128x1024 : Shape := ⟨2, ![128, 1024]⟩
abbrev S256x128 : Shape := ⟨2, ![256, 128]⟩
abbrev S128x128 : Shape := ⟨2, ![128, 128]⟩
abbrev S128x256 : Shape := ⟨2, ![128, 256]⟩
abbrev S128 : Shape := ⟨1, ![128]⟩
abbrev S128x1 : Shape := ⟨2, ![128, 1]⟩
abbrev S2304x128 : Shape := ⟨2, ![2304, 128]⟩
abbrev S128x2304 : Shape := ⟨2, ![128, 2304]⟩

abbrev nBuf : Space → Nat
  | .hbm => 12
  | .vmem => 6
  | .smem => 0
  | _ => 0

abbrev bufTy : (tb : Table) → Fin (tcTables nBuf tb) → BufTy
  | .hbm, ⟨0, _⟩ => ⟨S2304x1024, .f32⟩
  | .hbm, ⟨1, _⟩ => ⟨S2304x256, .bf16⟩
  | .hbm, ⟨2, _⟩ => ⟨S2304x256, .bf16⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2304x1024, .f32⟩
  | .hbm, ⟨9, _⟩ => ⟨S2304x1024, .f32⟩
  | .hbm, ⟨10, _⟩ => ⟨S2304x1024, .bf16⟩
  | .hbm, ⟨11, _⟩ => ⟨S2304x1024, .bf16⟩
  | .local _ .vmem, ⟨0, _⟩ => ⟨S128x1024, .bf16⟩
  | .local _ .vmem, ⟨1, _⟩ => ⟨S128x1024, .bf16⟩
  | .local _ .vmem, ⟨2, _⟩ => ⟨S2304x256, .bf16⟩
  | .local _ .vmem, ⟨3, _⟩ => ⟨S2304x256, .bf16⟩
  | .local _ .vmem, ⟨4, _⟩ => ⟨S128x1024, .bf16⟩
  | .local _ .vmem, ⟨5, _⟩ => ⟨S128x1024, .bf16⟩
  | _, _ => ⟨S2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![18], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c2_i32_0 : BitVec 32 := 2#32
  let v3 : BitVec 1 := Scalar.cmpi .sge arg0 c2_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdReferenceIdeal.lean ====
abbrev S2304x1024 : Shape := ⟨2, ![2304, 1024]⟩
abbrev S2304x256 : Shape := ⟨2, ![2304, 256]⟩
abbrev S2048x1024 : Shape := ⟨2, ![2048, 1024]⟩
abbrev S2048x2x4x128 : Shape := ⟨4, ![2048, 2, 4, 128]⟩
abbrev S2304x2x128 : Shape := ⟨3, ![2304, 2, 128]⟩
abbrev S2x2304x2048x4 : Shape := ⟨4, ![2, 2304, 2048, 4]⟩
abbrev S2x4x2048x2304 : Shape := ⟨4, ![2, 4, 2048, 2304]⟩
abbrev S_ : Shape := ⟨0, ![]⟩
abbrev S2x4x2048 : Shape := ⟨3, ![2, 4, 2048]⟩
abbrev S2x4x2048x1 : Shape := ⟨4, ![2, 4, 2048, 1]⟩
abbrev S2x128x4x2048 : Shape := ⟨4, ![2, 128, 4, 2048]⟩
abbrev S256x1024 : Shape := ⟨2, ![256, 1024]⟩
abbrev S256x256 : Shape := ⟨2, ![256, 256]⟩
abbrev S256x2x4x128 : Shape := ⟨4, ![256, 2, 4, 128]⟩
abbrev S256x2x128 : Shape := ⟨3, ![256, 2, 128]⟩
abbrev S2x256x256x4 : Shape := ⟨4, ![2, 256, 256, 4]⟩
abbrev S2x4x256x256 : Shape := ⟨4, ![2, 4, 256, 256]⟩
abbrev S2x4x256 : Shape := ⟨3, ![2, 4, 256]⟩
abbrev S2x4x256x1 : Shape := ⟨4, ![2, 4, 256, 1]⟩
abbrev S2x128x4x256 : Shape := ⟨4, ![2, 128, 4, 256]⟩

abbrev nBuf : Space → Nat
  | .hbm => 67
  | .vmem => 0
  | .smem => 0
  | _ => 0

abbrev bufTy : (tb : Table) → Fin (tcTables nBuf tb) → BufTy
  | .hbm, ⟨0, _⟩ => ⟨S2304x1024, .f32⟩
  | .hbm, ⟨1, _⟩ => ⟨S2304x256, .bf16⟩
  | .hbm, ⟨2, _⟩ => ⟨S2304x256, .bf16⟩
  | .hbm, ⟨3, _⟩ => ⟨S2304x256, .f32⟩
  | .hbm, ⟨4, _⟩ => ⟨S2304x256, .f32⟩
  | .hbm, ⟨5, _⟩ => ⟨S2048x1024, .f32⟩
  | .hbm, ⟨6, _⟩ => ⟨S2048x2x4x128, .f32⟩
  | .hbm, ⟨7, _⟩ => ⟨S2304x2x128, .f32⟩
  | .hbm, ⟨8, _⟩ => ⟨S2304x2x128, .f32⟩
  | .hbm, ⟨9, _⟩ => ⟨S2x2304x2048x4, .f32⟩
  | .hbm, ⟨10, _⟩ => ⟨S2x4x2048x2304, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2x4x2048x2304, .f32⟩
  | .hbm, ⟨16, _⟩ => ⟨S2x4x2048x2304, .f32⟩
  | .hbm, ⟨17, _⟩ => ⟨S_, .f32⟩
  | .hbm, ⟨18, _⟩ => ⟨S2x4x2048, .f32⟩
  | .hbm, ⟨19, _⟩ => ⟨S_, .f32⟩
  | .hbm, ⟨20, _⟩ => ⟨S2x4x2048, .f32⟩
  | .hbm, ⟨21, _⟩ => ⟨S2x4x2048, .f32⟩
  | .hbm, ⟨22, _⟩ => ⟨S2x4x2048x1, .f32⟩
  | .hbm, ⟨23, _⟩ => ⟨S2x4x2048x2304, .f32⟩
  | .hbm, ⟨24, _⟩ => ⟨S2x4x2048x2304, .f32⟩
  | .hbm, ⟨25, _⟩ => ⟨S2x4x2048x2304, .f32⟩
  | .hbm, ⟨26, _⟩ => ⟨S_, .f32⟩
  | .hbm, ⟨27, _⟩ => ⟨S2x4x2048, .f32⟩
  | .hbm, ⟨28, _⟩ => ⟨S2x4x2048x1, .f32⟩
  | .hbm, ⟨29, _⟩ => ⟨S2x4x2048x2304, .f32⟩
  | .hbm, ⟨30, _⟩ => ⟨S2x4x2048x2304, .f32⟩
  | .hbm, ⟨31, _⟩ => ⟨S2x128x4x2048, .f32⟩
  | .hbm, ⟨32, _⟩ => ⟨S2048x2x4x128, .f32⟩
  | .hbm, ⟨33, _⟩ => ⟨S2048x1024, .f32⟩
  | .hbm, ⟨34, _⟩ => ⟨S256x1024, .f32⟩
  | .hbm, ⟨35, _⟩ => ⟨S256x256, .f32⟩
  | .hbm, ⟨36, _⟩ => ⟨S256x256, .f32⟩
  | .hbm, ⟨37, _⟩ => ⟨S256x2x4x128, .f32⟩
  | .hbm, ⟨38, _⟩ => ⟨S256x2x128, .f32⟩
  | .hbm, ⟨39, _⟩ => ⟨S256x2x128, .f32⟩
  | .hbm, ⟨40, _⟩ => ⟨S2x256x256x4, .f32⟩
  | .hbm, ⟨41, _⟩ => ⟨S2x4x256x256, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S2x4x256x256, .f32⟩
  | .hbm, ⟨47, _⟩ => ⟨S2x4x256x256, .f32⟩
  | .hbm, ⟨48, _⟩ => ⟨S_, .f32⟩
  | .hbm, ⟨49, _⟩ => ⟨S2x4x256, .f32⟩
  | .hbm, ⟨50, _⟩ => ⟨S_, .f32⟩
  | .hbm, ⟨51, _⟩ => ⟨S2x4x256, .f32⟩
  | .hbm, ⟨52, _⟩ => ⟨S2x4x256, .f32⟩
  | .hbm, ⟨53, _⟩ => ⟨S2x4x256x1, .f32⟩
  | .hbm, ⟨54, _⟩ => ⟨S2x4x256x256, .f32⟩
  | .hbm, ⟨55, _⟩ => ⟨S2x4x256x256, .f32⟩
  | .hbm, ⟨56, _⟩ => ⟨S2x4x256x256, .f32⟩
  | .hbm, ⟨57, _⟩ => ⟨S_, .f32⟩
  | .hbm, ⟨58, _⟩ => ⟨S2x4x256, .f32⟩
  | .hbm, ⟨59, _⟩ => ⟨S2x4x256x1, .f32⟩
  | .hbm, ⟨60, _⟩ => ⟨S2x4x256x256, .f32⟩
  | .hbm, ⟨61, _⟩ => ⟨S2x4x256x256, .f32⟩
  | .hbm, ⟨62, _⟩ => ⟨S2x128x4x256, .f32⟩
  | .hbm, ⟨63, _⟩ => ⟨S256x2x4x128, .f32⟩
  | .hbm, ⟨64, _⟩ => ⟨S256x1024, .f32⟩
  | .hbm, ⟨65, _⟩ => ⟨S2304x1024, .f32⟩
  | .hbm, ⟨66, _⟩ => ⟨S2304x1024, .bf16⟩
  | _, _ => ⟨S2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_cst_4 : Ref sig .tc := ⟨.hbm, 42, rfl⟩
abbrev main_v34 : Ref sig .tc := ⟨.hbm, 43, rfl⟩
abbrev main_cst_5 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_6 : Ref sig .tc := ⟨.hbm, 48, rfl⟩
abbrev main_v38 : Ref sig .tc := ⟨.hbm, 49, rfl⟩
abbrev main_cst_7 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_cst_8 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩

abbrev nD : Nat := 1
abbrev τ : Topo := Topo.v7x

variable {F : FTy → Type} [FloatOps F]
-- ==== SguFwd.lean ====
abbrev S2304x4608 : Shape := ⟨2, ![2304, 4608]⟩
abbrev S512 : Shape := ⟨1, ![512]⟩
abbrev S4x128x128 : Shape := ⟨3, ![4, 128, 128]⟩
abbrev S4x128 : Shape := ⟨2, ![4, 128]⟩
abbrev S1x512 : Shape := ⟨2, ![1, 512]⟩
abbrev S128x4 : Shape := ⟨2, ![128, 4]⟩
abbrev S2304x512 : Shape := ⟨2, ![2304, 512]⟩
abbrev S128x512 : Shape := ⟨2, ![128, 512]⟩
abbrev S128 : Shape := ⟨1, ![128]⟩
abbrev S128x1 : Shape := ⟨2, ![128, 1]⟩
abbrev S1x128x128 : Shape := ⟨3, ![1, 128, 128]⟩
abbrev S128x128 : Shape := ⟨2, ![128, 128]⟩

abbrev nBuf : Space → Nat
  | .hbm => 9
  | .vmem => 10
  | .smem => 0
  | _ => 0

abbrev bufTy : (tb : Table) → Fin (tcTables nBuf tb) → BufTy
  | .hbm, ⟨0, _⟩ => ⟨S2304x4608, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S1x512, .f32⟩
  | .hbm, ⟨6, _⟩ => ⟨S1x512, .f32⟩
  | .hbm, ⟨7, _⟩ => ⟨S128x4, .f32⟩
  | .hbm, ⟨8, _⟩ => ⟨S2304x512, .bf16⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x4, .f32⟩
  | .local _ .vmem, ⟨8, _⟩ => ⟨S128x512, .bf16⟩
  | .local _ .vmem, ⟨9, _⟩ => ⟨S128x512, .bf16⟩
  | _, _ => ⟨S2304x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguFwdReferenceIdeal.lean ====
abbrev S2304x4608 : Shape := ⟨2, ![2304, 4608]⟩
abbrev S512 : Shape := ⟨1, ![512]⟩
abbrev S4x128x128 : Shape := ⟨3, ![4, 128, 128]⟩
abbrev S4x128 : Shape := ⟨2, ![4, 128]⟩
abbrev S2304x512 : Shape := ⟨2, ![2304, 512]⟩
abbrev S_ : Shape := ⟨0, ![]⟩
abbrev S2304 : Shape := ⟨1, ![2304]⟩
abbrev S2304x1 : Shape := ⟨2, ![2304, 1]⟩
abbrev S1x512 : Shape := ⟨2, ![1, 512]⟩
abbrev S18x128x4x128 : Shape := ⟨4, ![18, 128, 4, 128]⟩
abbrev S4x18x128x128 : Shape := ⟨4, ![4, 18, 128, 128]⟩
abbrev S128x4 : Shape := ⟨2, ![128, 4]⟩
abbrev S1x128x4x1 : Shape := ⟨4, ![1, 128, 4, 1]⟩

abbrev nBuf : Space → Nat
  | .hbm => 80
  | .vmem => 0
  | .smem => 0
  | _ => 0

abbrev bufTy : (tb : Table) → Fin (tcTables nBuf tb) → BufTy
  | .hbm, ⟨0, _⟩ => ⟨S2304x4608, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S2304x512, .f32⟩
  | .hbm, ⟨6, _⟩ => ⟨S2304x512, .f32⟩
  | .hbm, ⟨7, _⟩ => ⟨S2304x512, .f32⟩
  | .hbm, ⟨8, _⟩ => ⟨S_, .f32⟩
  | .hbm, ⟨9, _⟩ => ⟨S2304x512, .f32⟩
  | .hbm, ⟨10, _⟩ => ⟨S2304x512, .f32⟩
  | .hbm, ⟨11, _⟩ => ⟨S2304x512, .f32⟩
  | .hbm, ⟨12, _⟩ => ⟨S_, .f32⟩
  | .hbm, ⟨13, _⟩ => ⟨S2304x512, .f32⟩
  | .hbm, ⟨14, _⟩ => ⟨S2304x512, .f32⟩
  | .hbm, ⟨15, _⟩ => ⟨S2304x512, .f32⟩
  | .hbm, ⟨16, _⟩ => ⟨S_, .f32⟩
  | .hbm, ⟨17, _⟩ => ⟨S2304x512, .f32⟩
  | .hbm, ⟨18, _⟩ => ⟨S2304x512, .f32⟩
  | .hbm, ⟨19, _⟩ => ⟨S_, .f32⟩
  | .hbm, ⟨20, _⟩ => ⟨S2304x512, .f32⟩
  | .hbm, ⟨21, _⟩ => ⟨S2304x512, .f32⟩
  | .hbm, ⟨22, _⟩ => ⟨S2304x512, .f32⟩
  | .hbm, ⟨23, _⟩ => ⟨S2304x512, .f32⟩
  | .hbm, ⟨24, _⟩ => ⟨S2304x512, .f32⟩
  | .hbm, ⟨25, _⟩ => ⟨S2304x512, .f32⟩
  | .hbm, ⟨26, _⟩ => ⟨S_, .f32⟩
  | .hbm, ⟨27, _⟩ => ⟨S2304x512, .f32⟩
  | .hbm, ⟨28, _⟩ => ⟨S2304x512, .f32⟩
  | .hbm, ⟨29, _⟩ => ⟨S2304x512, .f32⟩
  | .hbm, ⟨30, _⟩ => ⟨S_, .f32⟩
  | .hbm, ⟨31, _⟩ => ⟨S2304x512, .f32⟩
  | .hbm, ⟨32, _⟩ => ⟨S2304x512, .f32⟩
  | .hbm, ⟨33, _⟩ => ⟨S2304x512, .f32⟩
  | .hbm, ⟨34, _⟩ => ⟨S_, .f32⟩
  | .hbm, ⟨35, _⟩ => ⟨S2304x512, .f32⟩
  | .hbm, ⟨36, _⟩ => ⟨S2304x512, .f32⟩
  | .hbm, ⟨37, _⟩ => ⟨S_, .f32⟩
  | .hbm, ⟨38, _⟩ => ⟨S2304x512, .f32⟩
  | .hbm, ⟨39, _⟩ => ⟨S2304x512, .f32⟩
  | .hbm, ⟨40, _⟩ => ⟨S2304x512, .f32⟩
  | .hbm, ⟨41, _⟩ => ⟨S_, .f32⟩
  | .hbm, ⟨42, _⟩ => ⟨S2304, .f32⟩
  | .hbm, ⟨43, _⟩ => ⟨S2304x1, .f32⟩
  | .hbm, ⟨44, _⟩ => ⟨S_, .f32⟩
  | .hbm, ⟨45, _⟩ => ⟨S2304x1, .f32⟩
  | .hbm, ⟨46, _⟩ => ⟨S2304x1, .f32⟩
  | .hbm, ⟨47, _⟩ => ⟨S2304x512, .f32⟩
  | .hbm, ⟨48, _⟩ => ⟨S2304x512, .f32⟩
  | .hbm, ⟨49, _⟩ => ⟨S2304x512, .f32⟩
  | .hbm, ⟨50, _⟩ => ⟨S_, .f32⟩
  | .hbm, ⟨51, _⟩ => ⟨S2304, .f32⟩
  | .hbm, ⟨52, _⟩ => ⟨S2304x1, .f32⟩
  | .hbm, ⟨53, _⟩ => ⟨S_, .f32⟩
  | .hbm, ⟨54, _⟩ => ⟨S2304x1, .f32⟩
  | .hbm, ⟨55, _⟩ => ⟨S2304x1, .f32⟩
  | .hbm, ⟨56, _⟩ => ⟨S2304x512, .f32⟩
  | .hbm, ⟨57, _⟩ => ⟨S2304x512, .f32⟩
  | .hbm, ⟨58, _⟩ => ⟨S_, .f32⟩
  | .hbm, ⟨59, _⟩ => ⟨S2304x1, .f32⟩
  | .hbm, ⟨60, _⟩ => ⟨S2304x1, .f32⟩
  | .hbm, ⟨61, _⟩ => ⟨S2304x1, .f32⟩
  | .hbm, ⟨62, _⟩ => ⟨S2304x512, .f32⟩
  | .hbm, ⟨63, _⟩ => ⟨S2304x512, .f32⟩
  | .hbm, ⟨64, _⟩ => ⟨S1x512, .f32⟩
  | .hbm, ⟨65, _⟩ => ⟨S2304x512, .f32⟩
  | .hbm, ⟨66, _⟩ => ⟨S2304x512, .f32⟩
  | .hbm, ⟨67, _⟩ => ⟨S1x512, .f32⟩
  | .hbm, ⟨68, _⟩ => ⟨S2304x512, .f32⟩
  | .hbm, ⟨69, _⟩ => ⟨S2304x512, .f32⟩
  | .hbm, ⟨70, _⟩ => ⟨S18x128x4x128, .f32⟩
  | .hbm, ⟨71, _⟩ => ⟨S4x18x128x128, .f32⟩
  | .hbm, ⟨72, _⟩ => ⟨S18x128x4x128, .f32⟩
  | .hbm, ⟨73, _⟩ => ⟨S128x4, .f32⟩
  | .hbm, ⟨74, _⟩ => ⟨S1x128x4x1, .f32⟩
  | .hbm, ⟨75, _⟩ => ⟨S18x128x4x128, .f32⟩
  | .hbm, ⟨76, _⟩ => ⟨S18x128x4x128, .f32⟩
  | .hbm, ⟨77, _⟩ => ⟨S2304x512, .f32⟩
  | .hbm, ⟨78, _⟩ => ⟨S2304x512, .f32⟩
  | .hbm, ⟨79, _⟩ => ⟨S2304x512, .bf16⟩
  | _, _ => ⟨S2304x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_11 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== SlabSum.lean ====
abbrev S8x2752x128 : Shape := ⟨3, ![8, 2752, 128]⟩
abbrev S2752x128 : Shape := ⟨2, ![2752, 128]⟩
abbrev S8x344x128 : Shape := ⟨3, ![8, 344, 128]⟩
abbrev S344x128 : Shape := ⟨2, ![344, 128]⟩
abbrev S1x344x128 : Shape := ⟨3, ![1, 344, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x2752x128, .f32⟩
  | .hbm, ⟨1, _⟩ => ⟨S2752x128, .f32⟩
  | .local _ .vmem, ⟨0, _⟩ => ⟨S8x344x128, .f32⟩
  | .local _ .vmem, ⟨1, _⟩ => ⟨S8x344x128, .f32⟩
  | .local _ .vmem, ⟨2, _⟩ => ⟨S344x128, .f32⟩
  | .local _ .vmem, ⟨3, _⟩ => ⟨S344x128, .f32⟩
  | _, _ => ⟨S8x2752x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x344x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S344x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SlabSumReferenceIdeal.lean ====
abbrev S8x2752x128 : Shape := ⟨3, ![8, 2752, 128]⟩
abbrev S_ : Shape := ⟨0, ![]⟩
abbrev S2752x128 : Shape := ⟨2, ![2752, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2752x128, .f32⟩
  | .hbm, ⟨1, _⟩ => ⟨S_, .f32⟩
  | .hbm, ⟨2, _⟩ => ⟨S2752x128, .f32⟩
  | _, _ => ⟨S8x2752x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Frames.lean ====
module

public import proofs.«01_k».proof.Defs
public import proofs.«01_k».proof.Proof.Gen.Kernel.Frame
public import proofs.«01_k».proof.Proof.Gen.KernelIdeal.Frame
public import proofs.«01_k».proof.Proof.Gen.ReferenceIdeal.Run

/- The frames of the attention gradient's programs, and the ledger of its two named constants. -/

@[expose] public section

noncomputable section

namespace Cert.AttnClaims

open Idealize.ShloMosaic Idealize.SL.Sem

/-- The attention gradient runs on the machine, keeps its four arguments, and ends with every counter at zero. -/
theorem frame_kernel : Cert.quiescent_Kernel := fun m ρ _ => Cert.Kernel.Gen.frame m ρ

/-- The same of its idealization. -/
theorem frame_kernelIdeal : Cert.quiescent_KernelIdeal := fun m ρ _ => Cert.KernelIdeal.Gen.frame m ρ

/-- The same of the reference, a straight-line host program that declares no semaphore. -/
theorem frame_referenceIdeal : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The side conditions that the precondition's operations take. -/
theorem preFacts : Cert.Pre_finite.Facts where
  bcast_S_S2304x1024 := by decide
  bitsLt_bf16_f32 := by decide
  bcast_S_S2304x256 := by decide

/-- The idealized kernel's frame where the queries and keys are finite. -/
theorem frame_kernelIdeal_pre : Cert.quiescent_KernelIdeal_pre_finite (hPre_finite := preFacts) :=
  fun m ρ _ => frame_kernelIdeal m ρ trivial

/-- The reference's frame where the queries and keys are finite. -/
theorem frame_referenceIdeal_pre : Cert.quiescent_ReferenceIdeal_pre_finite (hPre_finite := preFacts) :=
  fun m ρ _ => frame_referenceIdeal m ρ trivial

/-- The two constants that the idealization names: the scores' scale `(√128)⁻¹` and `log 2`. -/
theorem preserves : Cert.preserves_Kernel_KernelIdeal :=
  ⟨IdealRules.named_const.statement Cert.KernelIdeal.κ "scale" .f32 0x3DB504F3#32 (((Real.sqrt 128)⁻¹ : ℝ) : EReal) rfl,
    IdealRules.named_const.statement Cert.KernelIdeal.κ "ln2" .f32 0x3F317218#32 ((Real.log 2 : ℝ) : EReal) rfl⟩

end Cert.AttnClaims

end
-- ==== Proof.Spec.lean ====
module

public import Idealize.ShloMosaic.PureOps
public import Idealize.ShloMosaic.Lib.Pointwise

/- The gradient of one query's attention, over the extended reals: the softmax's weights as real numbers, the gradient
   of the scores, and what one query adds to the gradients of q, k and v. Queries and keys are finite; values and the
   incoming gradient are any extended reals. -/

@[expose] public section

noncomputable section

namespace Cert.Attn

open Idealize.ShloMosaic

/-- The scores' scale, one over the square root of the head dimension. -/
def scale : ℝ := (Real.sqrt 128)⁻¹

/-- The scale is positive. -/
theorem scale_pos : 0 < scale := by unfold scale; positivity

/-- No entry is infinite. -/
def Fin1 {n : Nat} (x : Fin n → EReal) : Prop := ∀ d, x d ≠ ⊥ ∧ x d ≠ ⊤

/-- A sum of real numbers, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A nonnegative real factor moves into a sum of extended reals. -/
theorem sum_mul_coe {ι : Type*} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha,
      EReal.right_distrib_of_nonneg_of_ne_top (by exact_mod_cast hr) (EReal.coe_ne_top r), ih]

/-- A nonnegative real factor distributes over a difference of extended reals. -/
theorem sub_mul_coe (a b : EReal) {r : ℝ} (hr : 0 ≤ r) : (a - b) * (r : EReal) = a * r - b * r := by
  rw [sub_eq_add_neg, EReal.right_distrib_of_nonneg_of_ne_top (by exact_mod_cast hr) (EReal.coe_ne_top r),
    EReal.neg_mul, ← sub_eq_add_neg]

/-- The greatest of finitely many real numbers, from `-∞`, is a real number. -/
theorem fold_max_coe {n : Nat} (hn : 0 < n) (f : Fin n → ℝ) :
    ∃ μ : ℝ, Finset.univ.fold max (⊥ : EReal) (fun i => (f i : EReal)) = μ := by
  have key : ∀ s : Finset (Fin n), s.fold max (⊥ : EReal) (fun i => (f i : EReal)) = ⊥ ∧ s = ∅
      ∨ ∃ μ : ℝ, s.fold max (⊥ : EReal) (fun i => (f i : EReal)) = μ := by
    intro s
    induction s using Finset.induction_on with
    | empty => left; simp
    | insert a s ha ih =>
      right
      rw [Finset.fold_insert ha]
      rcases ih with ⟨h, _⟩ | ⟨μ, h⟩
      · exact ⟨f a, by rw [h]; simp⟩
      · exact ⟨max (f a) μ, by rw [h]; exact (EReal.coe_strictMono.monotone.map_max).symm⟩
  rcases key Finset.univ with ⟨_, h⟩ | h
  · exact absurd h (by haveI : Nonempty (Fin n) := ⟨⟨0, hn⟩⟩; exact Finset.univ_nonempty.ne_empty)
  · exact h

section Row
variable {n : Nat} (q : Fin 128 → EReal) (k v : Fin n → Fin 128 → EReal) (o : Fin 128 → EReal)

/-- The scaled score of the query `q` and key `j`. -/
def score (j : Fin n) : ℝ := scale * ∑ d, (q d).toReal * (k j d).toReal

/-- The softmax's weight of key `j`. -/
def prob (j : Fin n) : ℝ := Real.exp (score q k j) / ∑ i, Real.exp (score q k i)

/-- The gradient of the weight of key `j`: the incoming gradient against the key's value. -/
def dprob (j : Fin n) : EReal := ∑ d, o d * v j d

/-- The gradient of the score of key `j`, before the scale. -/
def dscore (j : Fin n) : EReal :=
  (prob q k j : EReal) * (dprob v o j - ∑ i, (prob q k i : EReal) * dprob v o i)

/-- The gradient of the query. -/
def dqRow (d : Fin 128) : EReal := (∑ j, dscore q k v o j * k j d) * (scale : EReal)

/-- What this query adds to the gradient of key `j`. -/
def dkRow (j : Fin n) (d : Fin 128) : EReal := dscore q k v o j * (q d * (scale : EReal))

/-- What this query adds to the gradient of value `j`. -/
def dvRow (j : Fin n) (d : Fin 128) : EReal := (prob q k j : EReal) * o d

variable {q k}

/-- The product of a finite query and finite keys is a real number. -/
theorem dot_eq (hq : Fin1 q) (hk : ∀ j, Fin1 (k j)) (j : Fin n) :
    ∑ d, q d * k j d = ((∑ d, (q d).toReal * (k j d).toReal : ℝ) : EReal) := by
  rw [coe_sum]
  refine Finset.sum_congr rfl fun d _ => ?_
  rw [EReal.coe_mul, EReal.coe_toReal (hq d).2 (hq d).1, EReal.coe_toReal (hk j d).2 (hk j d).1]

/-- Exponentials shifted by any real number, over their sum, are the softmax's weights. -/
theorem shifted_prob (hn : 0 < n) (μ : ℝ) (j : Fin n) :
    0 < ∑ i, Real.exp (score q k i - μ)
    ∧ Real.exp (score q k j - μ) * (1 / ∑ i, Real.exp (score q k i - μ)) = prob q k j := by
  haveI : Nonempty (Fin n) := ⟨⟨0, hn⟩⟩
  refine ⟨Finset.sum_pos (fun i _ => Real.exp_pos _) Finset.univ_nonempty, ?_⟩
  have h : ∀ i, Real.exp (score q k i - μ) = Real.exp (score q k i) * Real.exp (-μ) := fun i => by
    rw [sub_eq_add_neg, Real.exp_add]
  have hs : 0 < ∑ i, Real.exp (score q k i) := Finset.sum_pos (fun i _ => Real.exp_pos _) Finset.univ_nonempty
  simp only [h, ← Finset.sum_mul, prob]
  have := Real.exp_pos (-μ)
  field_simp

end Row

section Unnormalised
variable {n : Nat} {q : Fin 128 → EReal} {k v : Fin n → Fin 128 → EReal} {o : Fin 128 → EReal}

/-- Unnormalised weights `w` and a factor `r` that normalises them. -/
structure Weights (q : Fin 128 → EReal) (k : Fin n → Fin 128 → EReal) (w : Fin n → EReal) (r : EReal) : Prop where
  real : ∃ (w' : Fin n → ℝ) (r' : ℝ), 0 ≤ r' ∧ (∀ j, 0 ≤ w' j) ∧ (∀ j, w j = w' j) ∧ r = r'
    ∧ ∀ j, w' j * r' = prob q k j

variable {w : Fin n → EReal} {r : EReal}

/-- A weight times its factor is the softmax's probability. -/
theorem Weights.mul (h : Weights q k w r) (j : Fin n) : w j * r = (prob q k j : EReal) := by
  obtain ⟨w', r', _, _, hw, rfl, hp⟩ := h.real
  rw [hw, ← EReal.coe_mul, hp]

/-- The gradient of the score from unnormalised weights, the factor applied once outside. -/
theorem Weights.dscore (h : Weights q k w r) (j : Fin n) :
    (w j * (dprob v o j - (∑ i, w i * dprob v o i) * r)) * r = dscore q k v o j := by
  obtain ⟨w', r', hr, _, hw, rfl, hp⟩ := h.real
  have e : (∑ i, w i * dprob v o i) * (r' : EReal) = ∑ i, (prob q k i : EReal) * dprob v o i := by
    rw [sum_mul_coe _ _ hr]
    refine Finset.sum_congr rfl fun i _ => ?_
    rw [mul_right_comm, h.mul]
  rw [e, mul_right_comm, h.mul]; rfl

/-- The query's gradient, the scale and the factor applied once to the whole sum. -/
theorem Weights.dq (h : Weights q k w r) (d : Fin 128) :
    (∑ j, (w j * (dprob v o j - (∑ i, w i * dprob v o i) * r)) * k j d) * (r * (scale : EReal)) = dqRow q k v o d := by
  unfold dqRow
  rw [← mul_assoc]
  congr 1
  obtain ⟨_, r', hr, _, _, hr', _⟩ := h.real
  conv_lhs => rw [hr', sum_mul_coe _ _ hr, ← hr']
  refine Finset.sum_congr rfl fun j _ => ?_
  rw [mul_right_comm, h.dscore]

/-- A query's share of a key's gradient, the scale and the factor applied to the query. -/
theorem Weights.dk (h : Weights q k w r) (j : Fin n) (d : Fin 128) :
    (w j * (dprob v o j - (∑ i, w i * dprob v o i) * r)) * (q d * (scale : EReal) * r) = dkRow q k v o j d := by
  show _ = Attn.dscore q k v o j * (q d * (scale : EReal))
  rw [← h.dscore j, mul_assoc (w j * _) r, mul_comm r]

/-- A query's share of a value's gradient, the factor applied to the incoming gradient. -/
theorem Weights.dv (h : Weights q k w r) (j : Fin n) (d : Fin 128) : w j * (o d * r) = dvRow q k o j d := by
  rw [mul_comm (o d), ← mul_assoc, h.mul]; rfl

end Unnormalised

/-! ### Two ways to the weights -/

section Ways
variable {n : Nat} {q : Fin 128 → EReal} {k v : Fin n → Fin 128 → EReal} {o : Fin 128 → EReal}

/-- The query scaled so that powers of two of its products with the keys are exponentials of the scores. -/
def prescale : ℝ := 1 / (Real.sqrt 128 * Real.log 2)

/-- The logarithm of two is positive. -/
theorem log2_pos : 0 < Real.log 2 := Real.log_pos (by norm_num)

/-- The prescaling times the logarithm of two is the scale. -/
theorem prescale_mul : prescale * Real.log 2 = scale := by
  have := log2_pos
  unfold prescale scale; field_simp

/-- The scaled query against key `j` is the score over `log 2`. -/
theorem prescaled_dot (hq : Fin1 q) (hk : ∀ j, Fin1 (k j)) (j : Fin n) :
    ∑ d, q d * (prescale : EReal) * k j d = ((score q k j / Real.log 2 : ℝ) : EReal) := by
  have hp : 0 ≤ prescale := by unfold prescale; have := log2_pos; positivity
  have e : ∀ d, q d * (prescale : EReal) * k j d = q d * k j d * (prescale : EReal) := fun d => mul_right_comm _ _ _
  simp only [e]
  rw [← sum_mul_coe _ _ hp, dot_eq hq hk, ← EReal.coe_mul]
  congr 1
  have := log2_pos
  rw [score, ← prescale_mul]; field_simp

/-- Powers of two of the scaled query's products, less their greatest, and one over their sum. -/
theorem weights_exp2 (hn : 0 < n) (hq : Fin1 q) (hk : ∀ j, Fin1 (k j)) {s : Fin n → EReal}
    (hs : ∀ j, s j = ∑ d, q d * (prescale : EReal) * k j d) :
    Weights q k (fun j => Ideal.exp2 (s j - Finset.univ.fold max ⊥ s))
      (Ideal.div 1 (∑ j, Ideal.exp2 (s j - Finset.univ.fold max ⊥ s))) := by
  have hs' : s = fun j => ((score q k j / Real.log 2 : ℝ) : EReal) := funext fun j => by rw [hs, prescaled_dot hq hk]
  obtain ⟨μ, hμ⟩ := fold_max_coe hn (fun j => score q k j / Real.log 2)
  have he : ∀ j, Ideal.exp2 (s j - Finset.univ.fold max ⊥ s) = ((Real.exp (score q k j - μ * Real.log 2) : ℝ) : EReal) := by
    intro j
    rw [hs', hμ, ← EReal.coe_sub, Ideal.exp2_coe]
    congr 1
    show (2 : ℝ) ^ (_ : ℝ) = _
    rw [Real.rpow_def_of_pos (by norm_num)]
    congr 1
    have := log2_pos
    field_simp
  obtain ⟨hl, _⟩ := shifted_prob (q := q) (k := k) hn (μ * Real.log 2) ⟨0, hn⟩
  refine ⟨⟨fun j => Real.exp (score q k j - μ * Real.log 2), 1 / ∑ j, Real.exp (score q k j - μ * Real.log 2),
    by positivity, fun j => (Real.exp_pos _).le, he, ?_, fun j => (shifted_prob hn _ j).2⟩⟩
  simp only [he]
  rw [← coe_sum, Ideal.div_coe hl.ne', one_mul]

/-- Exponentials of the scores, less their greatest, and one over their sum. -/
theorem weights_exp (hn : 0 < n) (hq : Fin1 q) (hk : ∀ j, Fin1 (k j)) {s : Fin n → EReal}
    (hs : ∀ j, s j = (∑ d, k j d * q d) * (scale : EReal)) :
    ∃ (w : Fin n → ℝ), (∀ j, Ideal.exp (s j - max ⊥ (Finset.univ.fold max ⊥ s)) = w j) ∧ 0 < ∑ j, w j ∧ (∀ j, 0 < w j)
      ∧ ∀ j, w j / ∑ i, w i = prob q k j := by
  have hs' : s = fun j => ((score q k j : ℝ) : EReal) := funext fun j => by
    rw [hs]
    simp only [mul_comm (k j _)]
    rw [dot_eq hq hk, ← EReal.coe_mul]; congr 1; rw [score, mul_comm]
  obtain ⟨μ, hμ⟩ := fold_max_coe hn (fun j => score q k j)
  have he : ∀ j, Ideal.exp (s j - max ⊥ (Finset.univ.fold max ⊥ s)) = ((Real.exp (score q k j - μ) : ℝ) : EReal) := by
    intro j
    rw [hs', hμ, max_eq_right bot_le, ← EReal.coe_sub, Ideal.exp_coe]
  obtain ⟨hl, _⟩ := shifted_prob (q := q) (k := k) hn μ ⟨0, hn⟩
  refine ⟨fun j => Real.exp (score q k j - μ), he, hl, fun j => Real.exp_pos _, fun j => ?_⟩
  rw [← (shifted_prob hn μ j).2, mul_one_div]

end Ways

end Cert.Attn

end
-- ==== Proof.Literals.lean ====
module

public import Idealize.ShloMosaic.Lib.Pointwise

/- The float patterns that the programs write, as extended reals. -/

@[expose] public section

namespace Cert.Attn

open Idealize.ShloMosaic

/-- Minus infinity's bits. -/
theorem ofBits_negInf : Ideal.ofBits FTy.f32 4286578688#32 = ⊥ := by
  simp [Ideal.ofBits, Ideal.ieee]

/-- Infinity's bits. -/
theorem ofBits_posInf : Ideal.ofBits FTy.f32 2139095040#32 = ⊤ := by
  simp [Ideal.ofBits, Ideal.ieee]

/-- 128's bits. -/
theorem ofBits_128 : Ideal.ofBits FTy.f32 1124073472#32 = ((128 : ℝ) : EReal) := by
  simp [Ideal.ofBits, Ideal.ieee, -EReal.coe_mul]; norm_num

/-- 2's bits. -/
theorem ofBits_2 : Ideal.ofBits FTy.f32 1073741824#32 = ((2 : ℝ) : EReal) := by
  simp [Ideal.ofBits, Ideal.ieee, -EReal.coe_mul]; norm_num

end Cert.Attn
-- ==== Proof.KernelBlock.lean ====
module

public import proofs.«01_k».proof.Proof.Gen.KernelIdeal.Skeleton
public import proofs.«01_k».proof.Proof.Spec
public import proofs.«01_k».proof.Proof.Literals

/- What one grid point of the attention gradient computes for one head group, at an index: the 512 rows are the queries
   of the group's four heads. -/

@[expose] public section

set_option maxRecDepth 16384

noncomputable section

namespace Cert.Attn

open Idealize.ShloMosaic Cert.KernelIdeal Cert.KernelIdeal.Gen

/-- A block's row `j` as a function of the lane. -/
abbrev rows {n : Nat} (x : (⟨2, ![n, 128]⟩ : Shape).Idx → EReal) (j : Fin n) (i : Fin 128) : EReal := x (ix2 j i)

/-- The named scale as a real number. -/
theorem named_scale : Named.named (F := Ideal) (φ := .f32) Cert.KernelIdeal.κ "scale" 1035273459#32 = (scale : EReal) :=
  IdealRules.named_const.ideal_named_scalar _ _ _ _ rfl

/-- The named logarithm of two as a real number. -/
theorem named_ln2 : Named.named (F := Ideal) (φ := .f32) Cert.KernelIdeal.κ "ln2" 1060205080#32 = (Real.log 2 : EReal) :=
  IdealRules.named_const.ideal_named_scalar _ _ _ _ rfl

/-- The prescaling and the logarithm of two make the scale, in a product. -/
theorem prescale_ln2 (a r : EReal) : a * (prescale : EReal) * (r * (Real.log 2 : EReal)) = a * (scale : EReal) * r := by
  rw [← prescale_mul, EReal.coe_mul, mul_comm r, ← mul_assoc, ← mul_assoc]

variable {a b c d a' b' c' d' : Vec Ideal S128x128 .bf16} {Q O : Fin 512 → Fin 128 → EReal}

section Context
variable {kk vv : Vec Ideal S256x128 .bf16}

/-- The block's powers of two and its factors are unnormalised weights of each row's softmax, 256 keys. -/
theorem weights256 (hq : ∀ x i, k0_pay3 a b c d (ix2 x i) = Q x i * (prescale : EReal)) (hQ : ∀ x, Fin1 (Q x))
    (hK : ∀ j, Fin1 (rows kk j)) (x : Fin 512) :
    Weights (Q x) (rows kk) (fun j => k0_pay5 a b c d kk (ix2 x j)) (k0_pay6 a b c d kk (ix2 x 0)) := by
  have h := weights_exp2 (by norm_num) (hQ x) hK (s := fun j => ∑ i, k0_pay3 a b c d (ix2 x i) * kk (ix2 j i))
    (fun j => by simp only [hq])
  have e' : k0_pay6 a b c d kk (ix2 x 0) = Ideal.div 1 (∑ j, k0_pay5 a b c d kk (ix2 x j)) := by
    pointwise [k0_pay6]
  rw [e']
  pointwise [k0_pay5, ofBits_negInf]
  exact h

/-- The block's gradient of the scores, unnormalised, 256 keys. -/
theorem dscore256 (ho : ∀ x i, k0_pay4 a' b' c' d' (ix2 x i) = O x i) (x : Fin 512) (j : Fin 256) :
    k0_pay7 a b c d a' b' c' d' kk vv (ix2 x j) = k0_pay5 a b c d kk (ix2 x j) * (dprob (rows vv) (O x) j
      - (∑ i, k0_pay5 a b c d kk (ix2 x i) * dprob (rows vv) (O x) i) * k0_pay6 a b c d kk (ix2 x 0)) := by
  pointwise [k0_pay7, ho]
  rfl

/-- The gradient of the block's queries, 256 keys. -/
theorem dq256 (hq : ∀ x i, k0_pay3 a b c d (ix2 x i) = Q x i * (prescale : EReal)) (ho : ∀ x i, k0_pay4 a' b' c' d' (ix2 x i) = O x i)
    (hQ : ∀ x, Fin1 (Q x)) (hK : ∀ j, Fin1 (rows kk j)) (x : Fin 512) (i : Fin 128) :
    k0_pay9 kk (k0_pay6 a b c d kk) (k0_pay7 a b c d a' b' c' d' kk vv) (ix2 x i) = dqRow (Q x) (rows kk) (rows vv) (O x) i := by
  rw [← (weights256 hq hQ hK x).dq]
  pointwise [k0_pay9, k0_pay8, named_scale, dscore256 ho]

/-- The gradient of the keys after the block: what it was, and each row's share, 256 keys. -/
theorem dk256 (hq : ∀ x i, k0_pay3 a b c d (ix2 x i) = Q x i * (prescale : EReal)) (ho : ∀ x i, k0_pay4 a' b' c' d' (ix2 x i) = O x i)
    (hQ : ∀ x, Fin1 (Q x)) (hK : ∀ j, Fin1 (rows kk j)) (old : Vec Ideal S256x128 .f32) (j : Fin 256) (i : Fin 128) :
    k0_pay14 (k0_pay3 a b c d) (k0_pay6 a b c d kk) (k0_pay7 a b c d a' b' c' d' kk vv) old (ix2 j i)
      = old (ix2 j i) + ∑ x, dkRow (Q x) (rows kk) (rows vv) (O x) j i := by
  simp only [← fun x => (weights256 hq hQ hK x).dk (v := rows vv) (o := O x) j i]
  pointwise [k0_pay14, k0_pay8, named_ln2, dscore256 ho, hq, prescale_ln2]

/-- The gradient of the values after the block: what it was, and each row's share, 256 keys. -/
theorem dv256 (hq : ∀ x i, k0_pay3 a b c d (ix2 x i) = Q x i * (prescale : EReal)) (ho : ∀ x i, k0_pay4 a' b' c' d' (ix2 x i) = O x i)
    (hQ : ∀ x, Fin1 (Q x)) (hK : ∀ j, Fin1 (rows kk j)) (old : Vec Ideal S256x128 .f32) (j : Fin 256) (i : Fin 128) :
    k0_pay15 (k0_pay4 a' b' c' d') (k0_pay5 a b c d kk) (k0_pay6 a b c d kk) old (ix2 j i)
      = old (ix2 j i) + ∑ x, dvRow (Q x) (rows kk) (O x) j i := by
  simp only [← fun x => (weights256 hq hQ hK x).dv (o := O x) j i]
  pointwise [k0_pay15, ho]

end Context

section Whole
variable {kk vv : Vec Ideal S2304x128 .bf16}

/-- The block's powers of two and its factors are unnormalised weights of each row's softmax, 2304 keys. -/
theorem weights2304 (hq : ∀ x i, k0_pay30 a b c d (ix2 x i) = Q x i * (prescale : EReal)) (hQ : ∀ x, Fin1 (Q x))
    (hK : ∀ j, Fin1 (rows kk j)) (x : Fin 512) :
    Weights (Q x) (rows kk) (fun j => k0_pay32 a b c d kk (ix2 x j)) (k0_pay33 a b c d kk (ix2 x 0)) := by
  have h := weights_exp2 (by norm_num) (hQ x) hK (s := fun j => ∑ i, k0_pay30 a b c d (ix2 x i) * kk (ix2 j i))
    (fun j => by simp only [hq])
  have e' : k0_pay33 a b c d kk (ix2 x 0) = Ideal.div 1 (∑ j, k0_pay32 a b c d kk (ix2 x j)) := by
    pointwise [k0_pay33]
  rw [e']
  pointwise [k0_pay32, ofBits_negInf]
  exact h

/-- The block's gradient of the scores, unnormalised, 2304 keys. -/
theorem dscore2304 (ho : ∀ x i, k0_pay31 a' b' c' d' (ix2 x i) = O x i) (x : Fin 512) (j : Fin 2304) :
    k0_pay34 a b c d a' b' c' d' kk vv (ix2 x j) = k0_pay32 a b c d kk (ix2 x j) * (dprob (rows vv) (O x) j
      - (∑ i, k0_pay32 a b c d kk (ix2 x i) * dprob (rows vv) (O x) i) * k0_pay33 a b c d kk (ix2 x 0)) := by
  pointwise [k0_pay34, ho]
  rfl

/-- The gradient of the block's queries, 2304 keys. -/
theorem dq2304 (hq : ∀ x i, k0_pay30 a b c d (ix2 x i) = Q x i * (prescale : EReal)) (ho : ∀ x i, k0_pay31 a' b' c' d' (ix2 x i) = O x i)
    (hQ : ∀ x, Fin1 (Q x)) (hK : ∀ j, Fin1 (rows kk j)) (x : Fin 512) (i : Fin 128) :
    k0_pay36 kk (k0_pay33 a b c d kk) (k0_pay34 a b c d a' b' c' d' kk vv) (ix2 x i) = dqRow (Q x) (rows kk) (rows vv) (O x) i := by
  rw [← (weights2304 hq hQ hK x).dq]
  pointwise [k0_pay36, k0_pay35, named_scale, dscore2304 ho]

/-- The gradient of the keys after the block: what it was, and each row's share, 2304 keys. -/
theorem dk2304 (hq : ∀ x i, k0_pay30 a b c d (ix2 x i) = Q x i * (prescale : EReal)) (ho : ∀ x i, k0_pay31 a' b' c' d' (ix2 x i) = O x i)
    (hQ : ∀ x, Fin1 (Q x)) (hK : ∀ j, Fin1 (rows kk j)) (old : Vec Ideal S2304x128 .f32) (j : Fin 2304) (i : Fin 128) :
    k0_pay41 (k0_pay30 a b c d) (k0_pay33 a b c d kk) (k0_pay34 a b c d a' b' c' d' kk vv) old (ix2 j i)
      = old (ix2 j i) + ∑ x, dkRow (Q x) (rows kk) (rows vv) (O x) j i := by
  simp only [← fun x => (weights2304 hq hQ hK x).dk (v := rows vv) (o := O x) j i]
  pointwise [k0_pay41, k0_pay35, named_ln2, dscore2304 ho, hq, prescale_ln2]

/-- The gradient of the values after the block: what it was, and each row's share, 2304 keys. -/
theorem dv2304 (hq : ∀ x i, k0_pay30 a b c d (ix2 x i) = Q x i * (prescale : EReal)) (ho : ∀ x i, k0_pay31 a' b' c' d' (ix2 x i) = O x i)
    (hQ : ∀ x, Fin1 (Q x)) (hK : ∀ j, Fin1 (rows kk j)) (old : Vec Ideal S2304x128 .f32) (j : Fin 2304) (i : Fin 128) :
    k0_pay42 (k0_pay31 a' b' c' d') (k0_pay32 a b c d kk) (k0_pay33 a b c d kk) old (ix2 j i)
      = old (ix2 j i) + ∑ x, dvRow (Q x) (rows kk) (O x) j i := by
  simp only [← fun x => (weights2304 hq hQ hK x).dv (o := O x) j i]
  pointwise [k0_pay42, ho]

end Whole

/-! ### The second head group's text is the first's, cut in other places -/

section Second
variable (a b c d a' b' c' d' : Vec Ideal S128x128 .bf16)

/-- The second group's text for dq, 256 keys, is the first's. -/
theorem second_dq256 (kk vv : Vec Ideal S256x128 .bf16) :
    k0_pay23 kk (k0_pay18 a b c d kk) (k0_pay19 a b c d kk) (k0_pay20 a' b' c' d' vv) (k0_pay21 a b c d a' b' c' d' kk vv)
      = k0_pay9 kk (k0_pay6 a b c d kk) (k0_pay7 a b c d a' b' c' d' kk vv) := rfl

/-- The second group's text for dk, 256 keys, is the first's. -/
theorem second_dk256 (kk vv : Vec Ideal S256x128 .bf16) (old : Vec Ideal S256x128 .f32) :
    k0_pay28 (k0_pay16 a b c d) (k0_pay18 a b c d kk) (k0_pay19 a b c d kk) (k0_pay20 a' b' c' d' vv)
        (k0_pay21 a b c d a' b' c' d' kk vv) old
      = k0_pay14 (k0_pay3 a b c d) (k0_pay6 a b c d kk) (k0_pay7 a b c d a' b' c' d' kk vv) old := rfl

/-- The second group's text for dv, 256 keys, is the first's. -/
theorem second_dv256 (kk : Vec Ideal S256x128 .bf16) (old : Vec Ideal S256x128 .f32) :
    k0_pay29 (k0_pay17 a' b' c' d') (k0_pay18 a b c d kk) (k0_pay19 a b c d kk) old
      = k0_pay15 (k0_pay4 a' b' c' d') (k0_pay5 a b c d kk) (k0_pay6 a b c d kk) old := rfl

/-- The second group's text for dq, 2304 keys, is the first's. -/
theorem second_dq2304 (kk vv : Vec Ideal S2304x128 .bf16) :
    k0_pay50 kk (k0_pay45 a b c d kk) (k0_pay46 a b c d kk) (k0_pay47 a' b' c' d' vv) (k0_pay48 a b c d a' b' c' d' kk vv)
      = k0_pay36 kk (k0_pay33 a b c d kk) (k0_pay34 a b c d a' b' c' d' kk vv) := rfl

/-- The second group's text for dk, 2304 keys, is the first's. -/
theorem second_dk2304 (kk vv : Vec Ideal S2304x128 .bf16) (old : Vec Ideal S2304x128 .f32) :
    k0_pay55 (k0_pay43 a b c d) (k0_pay45 a b c d kk) (k0_pay46 a b c d kk) (k0_pay47 a' b' c' d' vv)
        (k0_pay48 a b c d a' b' c' d' kk vv) old
      = k0_pay41 (k0_pay30 a b c d) (k0_pay33 a b c d kk) (k0_pay34 a b c d a' b' c' d' kk vv) old := rfl

/-- The second group's text for dv, 2304 keys, is the first's. -/
theorem second_dv2304 (kk : Vec Ideal S2304x128 .bf16) (old : Vec Ideal S2304x128 .f32) :
    k0_pay56 (k0_pay44 a' b' c' d') (k0_pay45 a b c d kk) (k0_pay46 a b c d kk) old
      = k0_pay42 (k0_pay31 a' b' c' d') (k0_pay32 a b c d kk) (k0_pay33 a b c d kk) old := rfl

end Second

end Cert.Attn

end
-- ==== Proof.KernelGroup.lean ====
module

public import proofs.«01_k».proof.Proof.KernelBlock
public import proofs.«01_k».proof.Proof.Gen.KernelIdeal.Frame
public import Idealize.ShloMosaic.Lib.WritesUnit

/- How a grid point's blocks are cut into head groups, and how its stores put the groups together. -/

@[expose] public section

set_option maxRecDepth 16384

noncomputable section

namespace Cert.Attn

open Idealize.ShloMosaic Cert.KernelIdeal Cert.KernelIdeal.Gen

/-- Row `x` of head group `g` of a block of 128 rows: the rows of the group's four heads, one head after the other. -/
def headRow (X : Fin 128 → Fin 1024 → EReal) (g : Fin 2) (x : Fin 512) (i : Fin 128) : EReal :=
  X ⟨x.val % 128, by omega⟩ ⟨g.val * 512 + x.val / 128 * 128 + i.val, by omega⟩

/-- The first `n` keys (or values) of head group `g`. -/
def keyCols {n : ℕ} (hn : n ≤ 2304) (X : Fin 2304 → Fin 256 → EReal) (g : Fin 2) (j : Fin n) (i : Fin 128) : EReal :=
  X ⟨j.val, lt_of_lt_of_le j.isLt hn⟩ ⟨g.val * 128 + i.val, by omega⟩

/-- The matrix an array of rank two holds. -/
abbrev mat {n m : ℕ} (x : (⟨2, ![n, m]⟩ : Shape).Idx → EReal) (r : Fin n) (e : Fin m) : EReal := x (ix2 r e)

/-- A load of a box of columns, at an index. -/
theorem ld_cols {R C n : ℕ} {φ : EltTy} (x : Vec Ideal ⟨2, ![R, C]⟩ φ) (o : ℕ)
    (inb : ∀ a, (![0, o] : Fin 2 → ℕ) a + (![n, 128] : Fin 2 → ℕ) a ≤ (⟨2, ![R, C]⟩ : Shape).size a) (j : Fin n) (i : Fin 128)
    (hj : j.val < R) (hi : o + i.val < C) :
    View.ld x (Rect.unit (s := ⟨2, ![R, C]⟩) ![0, o] ![n, 128] inb) (ix2 j i) = x (ix2 ⟨j.val, hj⟩ ⟨o + i.val, hi⟩) := by
  refine congrArg x (funext fun a => Fin.ext ?_)
  match a with
  | 0 => show 0 + 1 * j.val = j.val; omega
  | 1 => show o + 1 * i.val = o + i.val; omega

/-- Four boxes of a block, stacked, are the rows of a head group. -/
theorem pay3_read {a b c d : Vec Ideal S128x128 .bf16} {X : Fin 128 → Fin 1024 → EReal} (g : Fin 2)
    (ha : ∀ r i, a (ix2 r i) = X r ⟨g.val * 512 + i.val, by omega⟩) (hb : ∀ r i, b (ix2 r i) = X r ⟨g.val * 512 + 128 + i.val, by omega⟩)
    (hc : ∀ r i, c (ix2 r i) = X r ⟨g.val * 512 + 256 + i.val, by omega⟩) (hd : ∀ r i, d (ix2 r i) = X r ⟨g.val * 512 + 384 + i.val, by omega⟩)
    (x : Fin 512) (i : Fin 128) : k0_pay3 a b c d (ix2 x i) = headRow X g x i := by
  pointwise [k0_pay3]
  unfold headRow
  split_ifs <;> simp only [ha, hb, hc, hd] <;> congr 1 <;> ext <;> simp only <;> omega

/-- The boxes a grid point loads from a block, stacked: group 0. -/
theorem pay3_ld0 (y : Vec Ideal S128x1024 .bf16) (x : Fin 512) (i : Fin 128) :
    k0_pay3 (View.ld y (Rect.unit ![0, 0] ![128, 128] inb_S128x1024_S128x128_0_0))
      (View.ld y (Rect.unit ![0, 128] ![128, 128] inb_S128x1024_S128x128_0_128))
      (View.ld y (Rect.unit ![0, 256] ![128, 128] inb_S128x1024_S128x128_0_256))
      (View.ld y (Rect.unit ![0, 384] ![128, 128] inb_S128x1024_S128x128_0_384)) (ix2 x i) = headRow (mat y) 0 x i := by
  refine pay3_read 0 ?_ ?_ ?_ ?_ x i <;> intro r i <;> refine (ld_cols y _ _ r i r.isLt (by omega)).trans ?_ <;>
    exact congrArg (mat y r) (Fin.ext (by simp))

/-- The same of group 1. -/
theorem pay3_ld1 (y : Vec Ideal S128x1024 .bf16) (x : Fin 512) (i : Fin 128) :
    k0_pay3 (View.ld y (Rect.unit ![0, 512] ![128, 128] inb_S128x1024_S128x128_0_512))
      (View.ld y (Rect.unit ![0, 640] ![128, 128] inb_S128x1024_S128x128_0_640))
      (View.ld y (Rect.unit ![0, 768] ![128, 128] inb_S128x1024_S128x128_0_768))
      (View.ld y (Rect.unit ![0, 896] ![128, 128] inb_S128x1024_S128x128_0_896)) (ix2 x i) = headRow (mat y) 1 x i := by
  refine pay3_read 1 ?_ ?_ ?_ ?_ x i <;> intro r i <;> refine (ld_cols y _ _ r i r.isLt (by omega)).trans ?_ <;>
    exact congrArg (mat y r) (Fin.ext (by simp))

/-- The rows of a loaded box of the first keys are the group's keys. -/
theorem rows_ld {n : ℕ} (hn : n ≤ 2304) (y : Vec Ideal S2304x256 .bf16) (g : Fin 2) (o : ℕ) (ho : o = g.val * 128)
    (inb : ∀ a, (![0, o] : Fin 2 → ℕ) a + (![n, 128] : Fin 2 → ℕ) a ≤ S2304x256.size a) :
    rows (View.ld y (Rect.unit (s := S2304x256) ![0, o] ![n, 128] inb)) = keyCols hn (mat y) g := by
  subst ho
  funext j i
  exact ld_cols y _ inb j i (lt_of_lt_of_le j.isLt hn) (by omega)

/-- A head's part of a finite row is finite. -/
theorem fin1_headRow {X : Fin 128 → Fin 1024 → EReal} (h : ∀ r, Fin1 (X r)) (g : Fin 2) (x : Fin 512) : Fin1 (headRow X g x) :=
  fun i => h _ _

/-- A key head's columns of a finite matrix are finite. -/
theorem fin1_keyCols {n : ℕ} (hn : n ≤ 2304) {X : Fin 2304 → Fin 256 → EReal} (h : ∀ j, Fin1 (X j)) (g : Fin 2) (j : Fin n) :
    Fin1 (keyCols hn X g j) := fun i => h _ _

/-- Two stores of the first `n` rows, one for each half of the columns, add `S` to those rows of what the stores `L` before them left. -/
theorem read_halves {sig : RefSig} {κ : Kind} {sp : Space} (v : View sig κ sp S2304x256 .f32) (f : v.ty.Contents (Elt Ideal))
    {n : ℕ} (hn : n ≤ 2304)
    (inb0 : ∀ a, (![0, 0] : Fin 2 → ℕ) a + (![n, 128] : Fin 2 → ℕ) a ≤ S2304x256.size a)
    (inb1 : ∀ a, (![0, 128] : Fin 2 → ℕ) a + (![n, 128] : Fin 2 → ℕ) a ≤ S2304x256.size a)
    (w0 w1 : Vec Ideal ⟨2, ![n, 128]⟩ .f32) (L : List (View.Piece (Elt Ideal) S2304x256 .f32)) (old : Fin 2304 → Fin 256 → EReal) (S : Fin 2 → Fin n → Fin 128 → EReal)
    (hf : ∀ j e, n ≤ j.val → v.read (Elt Ideal) (v.writes (Elt Ideal) f L) (ix2 j e) = old j e)
    (h0 : ∀ (j : Fin n) (i : Fin 128), w0 (ix2 j i) = old ⟨j.val, by omega⟩ ⟨i.val, by omega⟩ + S 0 j i)
    (h1 : ∀ (j : Fin n) (i : Fin 128), w1 (ix2 j i) = old ⟨j.val, by omega⟩ ⟨128 + i.val, by omega⟩ + S 1 j i)
    (j : Fin 2304) (e : Fin 256) :
    v.read (Elt Ideal) (v.writes (Elt Ideal) f (⟨Rect.unit ![0, 128] ![n, 128] inb1, w1⟩ :: ⟨Rect.unit ![0, 0] ![n, 128] inb0, w0⟩ :: L))
        (ix2 j e)
      = if h : j.val < n then old j e + S ⟨e.val / 128, by omega⟩ ⟨j.val, h⟩ ⟨e.val % 128, by omega⟩ else old j e := by
  by_cases h : j.val < n
  · rw [dif_pos h]
    by_cases he : e.val < 128
    · rw [View.read_writes_cons_unit_of_not_mem v f inb1 w1 _ (ix2 j e) rfl 1 (Or.inl he)]
      rw [View.read_writes_cons_unit_of_mem v f inb0 w0 _ (ix2 j e) (ix2 ⟨j.val, h⟩ ⟨e.val, he⟩) rfl
        (fun a => by match a with | 0 => exact (Nat.zero_add _).symm | 1 => exact (Nat.zero_add _).symm), h0]
      congr 1
      congr 1 <;> ext <;> simp only [Fin.val_zero] <;> omega
    · rw [View.read_writes_cons_unit_of_mem v f inb1 w1 _ (ix2 j e) (ix2 ⟨j.val, h⟩ ⟨e.val - 128, by omega⟩) rfl
        (fun a => by match a with
          | 0 => exact (Nat.zero_add _).symm
          | 1 => show e.val = 128 + (e.val - 128); omega), h1]
      congr 1
      · congr 1; ext; simp only; omega
      · congr 1 <;> ext <;> simp only [Fin.val_one] <;> omega
  · rw [dif_neg h, View.read_writes_cons_unit_of_not_mem v f inb1 w1 _ (ix2 j e) rfl 0 (Or.inr (by show 0 + n ≤ j.val; omega)),
      View.read_writes_cons_unit_of_not_mem v f inb0 w0 _ (ix2 j e) rfl 0 (Or.inr (by show 0 + n ≤ j.val; omega))]
    exact hf j e (by omega)

/-- Eight stores, one for each head's columns, fill a block of rows. -/
theorem read_heads {sig : RefSig} {κ : Kind} {sp : Space} (v : View sig κ sp S128x1024 .f32) (f : v.ty.Contents (Elt Ideal))
    (p0 p1 p2 p3 p4 p5 p6 p7 : Vec Ideal S128x128 .f32) (G : Fin 128 → Fin 1024 → EReal)
    (h0 : ∀ r i, p0 (ix2 r i) = G r ⟨0 + i.val, by omega⟩) (h1 : ∀ r i, p1 (ix2 r i) = G r ⟨128 + i.val, by omega⟩)
    (h2 : ∀ r i, p2 (ix2 r i) = G r ⟨256 + i.val, by omega⟩) (h3 : ∀ r i, p3 (ix2 r i) = G r ⟨384 + i.val, by omega⟩)
    (h4 : ∀ r i, p4 (ix2 r i) = G r ⟨512 + i.val, by omega⟩) (h5 : ∀ r i, p5 (ix2 r i) = G r ⟨640 + i.val, by omega⟩)
    (h6 : ∀ r i, p6 (ix2 r i) = G r ⟨768 + i.val, by omega⟩) (h7 : ∀ r i, p7 (ix2 r i) = G r ⟨896 + i.val, by omega⟩)
    (r : Fin 128) (e : Fin 1024) :
    v.read (Elt Ideal) (v.writes (Elt Ideal) f [⟨Rect.unit ![0, 896] ![128, 128] inb_S128x1024_S128x128_0_896, p7⟩,
      ⟨Rect.unit ![0, 768] ![128, 128] inb_S128x1024_S128x128_0_768, p6⟩, ⟨Rect.unit ![0, 640] ![128, 128] inb_S128x1024_S128x128_0_640, p5⟩,
      ⟨Rect.unit ![0, 512] ![128, 128] inb_S128x1024_S128x128_0_512, p4⟩, ⟨Rect.unit ![0, 384] ![128, 128] inb_S128x1024_S128x128_0_384, p3⟩,
      ⟨Rect.unit ![0, 256] ![128, 128] inb_S128x1024_S128x128_0_256, p2⟩, ⟨Rect.unit ![0, 128] ![128, 128] inb_S128x1024_S128x128_0_128, p1⟩,
      ⟨Rect.unit ![0, 0] ![128, 128] inb_S128x1024_S128x128_0_0, p0⟩]) (ix2 r e) = G r e := by
  have miss : ∀ (o : ℕ) (inb) (w) (L), (e.val < o) →
      v.read (Elt Ideal) (v.writes (Elt Ideal) f (⟨Rect.unit (s := S128x1024) ![0, o] ![128, 128] inb, w⟩ :: L)) (ix2 r e)
        = v.read (Elt Ideal) (v.writes (Elt Ideal) f L) (ix2 r e) := fun o inb w L h =>
    View.read_writes_cons_unit_of_not_mem v f inb w L (ix2 r e) rfl 1 (Or.inl h)
  have hit : ∀ (o : ℕ) (inb) (w) (L) (hw : ∀ (r : Fin 128) (i : Fin 128) (hi : o + i.val < 1024), w (ix2 r i) = G r ⟨o + i.val, hi⟩),
      o ≤ e.val → e.val < o + 128 →
      v.read (Elt Ideal) (v.writes (Elt Ideal) f (⟨Rect.unit (s := S128x1024) ![0, o] ![128, 128] inb, w⟩ :: L)) (ix2 r e) = G r e :=
    fun o inb w L hw ho he => by
      rw [View.read_writes_cons_unit_of_mem v f inb w L (ix2 r e) (ix2 r ⟨e.val - o, by omega⟩) rfl
        (fun a => by match a with
          | 0 => exact (Nat.zero_add _).symm
          | 1 => show e.val = o + (e.val - o); omega), hw _ _ (by simp only; omega)]
      congr 1; ext; simp only; omega
  by_cases c7 : 896 ≤ e.val
  · exact hit 896 _ _ _ (fun r i _ => h7 r i) c7 (by omega)
  rw [miss 896 _ _ _ (by omega)]
  by_cases c6 : 768 ≤ e.val
  · exact hit 768 _ _ _ (fun r i _ => h6 r i) c6 (by omega)
  rw [miss 768 _ _ _ (by omega)]
  by_cases c5 : 640 ≤ e.val
  · exact hit 640 _ _ _ (fun r i _ => h5 r i) c5 (by omega)
  rw [miss 640 _ _ _ (by omega)]
  by_cases c4 : 512 ≤ e.val
  · exact hit 512 _ _ _ (fun r i _ => h4 r i) c4 (by omega)
  rw [miss 512 _ _ _ (by omega)]
  by_cases c3 : 384 ≤ e.val
  · exact hit 384 _ _ _ (fun r i _ => h3 r i) c3 (by omega)
  rw [miss 384 _ _ _ (by omega)]
  by_cases c2 : 256 ≤ e.val
  · exact hit 256 _ _ _ (fun r i _ => h2 r i) c2 (by omega)
  rw [miss 256 _ _ _ (by omega)]
  by_cases c1 : 128 ≤ e.val
  · exact hit 128 _ _ _ (fun r i _ => h1 r i) c1 (by omega)
  rw [miss 128 _ _ _ (by omega)]
  exact hit 0 _ _ _ (fun r i _ => h0 r i) (by omega) (by omega)

end Cert.Attn

end
-- ==== Proof.KernelPoint.lean ====
module

public import proofs.«01_k».proof.Proof.KernelGroup

/- What the body of the attention gradient leaves in its three outputs' buffers at each of the three kinds of grid point, at an
   index: the first context point, which clears the sums; a later context point; a point of the latent rows. -/

@[expose] public section

set_option maxRecDepth 16384

noncomputable section

namespace Cert.Attn

open Idealize.ShloMosaic Cert.KernelIdeal Cert.KernelIdeal.Gen

/-- A block's gradient of the queries against the first `n` keys, row `r`, column `e`. -/
def blockDq {n : ℕ} (hn : n ≤ 2304) (Q O : Fin 128 → Fin 1024 → EReal) (K V : Fin 2304 → Fin 256 → EReal) (r : Fin 128) (e : Fin 1024) : EReal :=
  dqRow (headRow Q ⟨e.val / 512, by omega⟩ ⟨e.val % 512 / 128 * 128 + r.val, by omega⟩) (keyCols hn K ⟨e.val / 512, by omega⟩)
    (keyCols hn V ⟨e.val / 512, by omega⟩) (headRow O ⟨e.val / 512, by omega⟩ ⟨e.val % 512 / 128 * 128 + r.val, by omega⟩)
    ⟨e.val % 128, by omega⟩

/-- A block's share of the gradient of the keys of head group `g`. -/
def blockDk {n : ℕ} (hn : n ≤ 2304) (Q O : Fin 128 → Fin 1024 → EReal) (K V : Fin 2304 → Fin 256 → EReal) (g : Fin 2) (j : Fin n) (i : Fin 128) : EReal :=
  ∑ x, dkRow (headRow Q g x) (keyCols hn K g) (keyCols hn V g) (headRow O g x) j i

/-- A block's share of the gradient of the values of head group `g`. -/
def blockDv {n : ℕ} (hn : n ≤ 2304) (Q O : Fin 128 → Fin 1024 → EReal) (K : Fin 2304 → Fin 256 → EReal) (g : Fin 2) (j : Fin n) (i : Fin 128) : EReal :=
  ∑ x, dvRow (headRow Q g x) (keyCols hn K g) (headRow O g x) j i

/-- The first `n` rows of `old` with each head group's share added. -/
def addTo {n : ℕ} (S : Fin 2 → Fin n → Fin 128 → EReal) (old : Fin 2304 → Fin 256 → EReal) (j : Fin 2304) (e : Fin 256) : EReal :=
  if h : j.val < n then old j e + S ⟨e.val / 128, by omega⟩ ⟨j.val, h⟩ ⟨e.val % 128, by omega⟩ else old j e

/-- A head's entry of a block of the queries' gradient. -/
theorem blockDq_at {n : ℕ} (hn : n ≤ 2304) (Q O : Fin 128 → Fin 1024 → EReal) (K V : Fin 2304 → Fin 256 → EReal) (r : Fin 128) (i : Fin 128)
    (g : Fin 2) (h : ℕ) (hh : h < 4) (o : ℕ) (ho : o = g.val * 512 + h * 128) (x : Fin 512) (hx : x.val = h * 128 + r.val)
    (hi : o + i.val < 1024) :
    dqRow (headRow Q g x) (keyCols hn K g) (keyCols hn V g) (headRow O g x) i = blockDq hn Q O K V r ⟨o + i.val, hi⟩ := by
  have e1 : (⟨(o + i.val) / 512, by omega⟩ : Fin 2) = g := Fin.ext (by simp only; omega)
  have e2 : (⟨(o + i.val) % 512 / 128 * 128 + r.val, by omega⟩ : Fin 512) = x := Fin.ext (by simp only; omega)
  have e3 : (⟨(o + i.val) % 128, by omega⟩ : Fin 128) = i := Fin.ext (by simp only; omega)
  unfold blockDq
  simp only [e1, e2, e3]

/-! The four stackings of loaded boxes hold the same values. -/

/-- The same stack of four heads in another text. -/
theorem pay4_eq (a b c d : Vec Ideal S128x128 .bf16) (x : Fin 512) (i : Fin 128) : k0_pay4 a b c d (ix2 x i) = k0_pay3 a b c d (ix2 x i) := by
  pointwise [k0_pay3, k0_pay4]
/-- The same stack of four heads in another text. -/
theorem pay30_eq (a b c d : Vec Ideal S128x128 .bf16) : k0_pay30 a b c d = k0_pay3 a b c d := rfl
/-- The same stack of four heads in another text. -/
theorem pay31_eq (a b c d : Vec Ideal S128x128 .bf16) : k0_pay31 a b c d = k0_pay4 a b c d := rfl

/-! ### A head's rows of a group's gradient of the queries -/

section Slices
variable (r i : Fin 128)

/-- The first group's heads are rows of its stack, 256 keys. -/
theorem slices256 (kk : Vec Ideal S256x128 .bf16) (s : FVec Ideal S512x1 .f32) (d : FVec Ideal S512x256 .f32) :
     k0_pay10 kk s d (ix2 r i) = k0_pay9 kk s d (ix2 ⟨0 + r.val, by omega⟩ i)
      ∧ k0_pay11 kk s d (ix2 r i) = k0_pay9 kk s d (ix2 ⟨128 + r.val, by omega⟩ i)
      ∧ k0_pay12 kk s d (ix2 r i) = k0_pay9 kk s d (ix2 ⟨256 + r.val, by omega⟩ i)
      ∧ k0_pay13 kk s d (ix2 r i) = k0_pay9 kk s d (ix2 ⟨384 + r.val, by omega⟩ i) := by
  unfold k0_pay10 k0_pay11 k0_pay12 k0_pay13
  generalize k0_pay9 kk s d = y
  refine ⟨?_, ?_, ?_, ?_⟩ <;> pointwise

/-- The first group's heads are rows of its stack, 2304 keys. -/
theorem slices2304 (kk : Vec Ideal S2304x128 .bf16) (s : FVec Ideal S512x1 .f32) (d : FVec Ideal S512x2304 .f32) :
     k0_pay37 kk s d (ix2 r i) = k0_pay36 kk s d (ix2 ⟨0 + r.val, by omega⟩ i)
      ∧ k0_pay38 kk s d (ix2 r i) = k0_pay36 kk s d (ix2 ⟨128 + r.val, by omega⟩ i)
      ∧ k0_pay39 kk s d (ix2 r i) = k0_pay36 kk s d (ix2 ⟨256 + r.val, by omega⟩ i)
      ∧ k0_pay40 kk s d (ix2 r i) = k0_pay36 kk s d (ix2 ⟨384 + r.val, by omega⟩ i) := by
  unfold k0_pay37 k0_pay38 k0_pay39 k0_pay40
  generalize k0_pay36 kk s d = y
  refine ⟨?_, ?_, ?_, ?_⟩ <;> pointwise

end Slices

/-- The second group's heads have the first's text, 256 keys. -/
theorem second_slices256 (a b c d a' b' c' d' : Vec Ideal S128x128 .bf16) (kk vv : Vec Ideal S256x128 .bf16) :
     k0_pay24 kk (k0_pay18 a b c d kk) (k0_pay19 a b c d kk) (k0_pay20 a' b' c' d' vv) (k0_pay21 a b c d a' b' c' d' kk vv)
        = k0_pay10 kk (k0_pay6 a b c d kk) (k0_pay7 a b c d a' b' c' d' kk vv)
      ∧ k0_pay25 kk (k0_pay18 a b c d kk) (k0_pay19 a b c d kk) (k0_pay20 a' b' c' d' vv) (k0_pay21 a b c d a' b' c' d' kk vv)
        = k0_pay11 kk (k0_pay6 a b c d kk) (k0_pay7 a b c d a' b' c' d' kk vv)
      ∧ k0_pay26 kk (k0_pay18 a b c d kk) (k0_pay19 a b c d kk) (k0_pay20 a' b' c' d' vv) (k0_pay21 a b c d a' b' c' d' kk vv)
        = k0_pay12 kk (k0_pay6 a b c d kk) (k0_pay7 a b c d a' b' c' d' kk vv)
      ∧ k0_pay27 kk (k0_pay18 a b c d kk) (k0_pay19 a b c d kk) (k0_pay20 a' b' c' d' vv) (k0_pay21 a b c d a' b' c' d' kk vv)
        = k0_pay13 kk (k0_pay6 a b c d kk) (k0_pay7 a b c d a' b' c' d' kk vv) := ⟨rfl, rfl, rfl, rfl⟩

/-- The second group's heads have the first's text, 2304 keys. -/
theorem second_slices2304 (a b c d a' b' c' d' : Vec Ideal S128x128 .bf16) (kk vv : Vec Ideal S2304x128 .bf16) :
     k0_pay51 kk (k0_pay45 a b c d kk) (k0_pay46 a b c d kk) (k0_pay47 a' b' c' d' vv) (k0_pay48 a b c d a' b' c' d' kk vv)
        = k0_pay37 kk (k0_pay33 a b c d kk) (k0_pay34 a b c d a' b' c' d' kk vv)
      ∧ k0_pay52 kk (k0_pay45 a b c d kk) (k0_pay46 a b c d kk) (k0_pay47 a' b' c' d' vv) (k0_pay48 a b c d a' b' c' d' kk vv)
        = k0_pay38 kk (k0_pay33 a b c d kk) (k0_pay34 a b c d a' b' c' d' kk vv)
      ∧ k0_pay53 kk (k0_pay45 a b c d kk) (k0_pay46 a b c d kk) (k0_pay47 a' b' c' d' vv) (k0_pay48 a b c d a' b' c' d' kk vv)
        = k0_pay39 kk (k0_pay33 a b c d kk) (k0_pay34 a b c d a' b' c' d' kk vv)
      ∧ k0_pay54 kk (k0_pay45 a b c d kk) (k0_pay46 a b c d kk) (k0_pay47 a' b' c' d' vv) (k0_pay48 a b c d a' b' c' d' kk vv)
        = k0_pay40 kk (k0_pay33 a b c d kk) (k0_pay34 a b c d a' b' c' d' kk vv) := ⟨rfl, rfl, rfl, rfl⟩

/-- The eight stores of two groups' gradients of the queries, 256 keys. -/
theorem heads256 {sig : RefSig} {κ : Kind} {sp : Space} (v : View sig κ sp S128x1024 .f32) (f : v.ty.Contents (Elt Ideal))
    (hn : 256 ≤ 2304) {Q O : Fin 128 → Fin 1024 → EReal} {K V : Fin 2304 → Fin 256 → EReal}
    {a b c d a' b' c' d' aa bb cc dd aa' bb' cc' dd' : Vec Ideal S128x128 .bf16} {kk vv kk1 vv1 : Vec Ideal S256x128 .bf16}
    (hq0 : ∀ x i, k0_pay3 a b c d (ix2 x i) = headRow Q 0 x i * (prescale : EReal)) (ho0 : ∀ x i, k0_pay4 a' b' c' d' (ix2 x i) = headRow O 0 x i)
    (hq1 : ∀ x i, k0_pay3 aa bb cc dd (ix2 x i) = headRow Q 1 x i * (prescale : EReal)) (ho1 : ∀ x i, k0_pay4 aa' bb' cc' dd' (ix2 x i) = headRow O 1 x i)
    (hk0 : rows kk = keyCols hn K 0) (hk1 : rows kk1 = keyCols hn K 1) (hv0 : rows vv = keyCols hn V 0) (hv1 : rows vv1 = keyCols hn V 1)
    (hQ : ∀ r, Fin1 (Q r)) (hK : ∀ j, Fin1 (K j)) (r : Fin 128) (e : Fin 1024) :
    v.read (Elt Ideal) (v.writes (Elt Ideal) f [⟨Rect.unit ![0, 896] ![128, 128] inb_S128x1024_S128x128_0_896, k0_pay13 kk1 (k0_pay6 aa bb cc dd kk1) (k0_pay7 aa bb cc dd aa' bb' cc' dd' kk1 vv1)⟩,
      ⟨Rect.unit ![0, 768] ![128, 128] inb_S128x1024_S128x128_0_768, k0_pay12 kk1 (k0_pay6 aa bb cc dd kk1) (k0_pay7 aa bb cc dd aa' bb' cc' dd' kk1 vv1)⟩,
      ⟨Rect.unit ![0, 640] ![128, 128] inb_S128x1024_S128x128_0_640, k0_pay11 kk1 (k0_pay6 aa bb cc dd kk1) (k0_pay7 aa bb cc dd aa' bb' cc' dd' kk1 vv1)⟩,
      ⟨Rect.unit ![0, 512] ![128, 128] inb_S128x1024_S128x128_0_512, k0_pay10 kk1 (k0_pay6 aa bb cc dd kk1) (k0_pay7 aa bb cc dd aa' bb' cc' dd' kk1 vv1)⟩,
      ⟨Rect.unit ![0, 384] ![128, 128] inb_S128x1024_S128x128_0_384, k0_pay13 kk (k0_pay6 a b c d kk) (k0_pay7 a b c d a' b' c' d' kk vv)⟩,
      ⟨Rect.unit ![0, 256] ![128, 128] inb_S128x1024_S128x128_0_256, k0_pay12 kk (k0_pay6 a b c d kk) (k0_pay7 a b c d a' b' c' d' kk vv)⟩,
      ⟨Rect.unit ![0, 128] ![128, 128] inb_S128x1024_S128x128_0_128, k0_pay11 kk (k0_pay6 a b c d kk) (k0_pay7 a b c d a' b' c' d' kk vv)⟩,
      ⟨Rect.unit ![0, 0] ![128, 128] inb_S128x1024_S128x128_0_0, k0_pay10 kk (k0_pay6 a b c d kk) (k0_pay7 a b c d a' b' c' d' kk vv)⟩]) (ix2 r e) = blockDq hn Q O K V r e := by
  have d0 := dq256 (kk := kk) (vv := vv) hq0 ho0 (fin1_headRow hQ 0) (fun j => by rw [hk0]; exact fin1_keyCols hn hK 0 j)
  have d1 := dq256 (kk := kk1) (vv := vv1) hq1 ho1 (fin1_headRow hQ 1) (fun j => by rw [hk1]; exact fin1_keyCols hn hK 1 j)
  rw [hk0, hv0] at d0
  rw [hk1, hv1] at d1
  refine read_heads v f _ _ _ _ _ _ _ _ (blockDq hn Q O K V) ?_ ?_ ?_ ?_ ?_ ?_ ?_ ?_ r e <;> intro r i
  · rw [(slices256 r i _ _ _).1]
    exact (d0 _ i).trans (blockDq_at hn _ _ _ _ r i 0 0 (by norm_num) 0 rfl _ rfl _)
  · rw [(slices256 r i _ _ _).2.1]
    exact (d0 _ i).trans (blockDq_at hn _ _ _ _ r i 0 1 (by norm_num) 128 rfl _ rfl _)
  · rw [(slices256 r i _ _ _).2.2.1]
    exact (d0 _ i).trans (blockDq_at hn _ _ _ _ r i 0 2 (by norm_num) 256 rfl _ rfl _)
  · rw [(slices256 r i _ _ _).2.2.2]
    exact (d0 _ i).trans (blockDq_at hn _ _ _ _ r i 0 3 (by norm_num) 384 rfl _ rfl _)
  · rw [(slices256 r i _ _ _).1]
    exact (d1 _ i).trans (blockDq_at hn _ _ _ _ r i 1 0 (by norm_num) 512 rfl _ rfl _)
  · rw [(slices256 r i _ _ _).2.1]
    exact (d1 _ i).trans (blockDq_at hn _ _ _ _ r i 1 1 (by norm_num) 640 rfl _ rfl _)
  · rw [(slices256 r i _ _ _).2.2.1]
    exact (d1 _ i).trans (blockDq_at hn _ _ _ _ r i 1 2 (by norm_num) 768 rfl _ rfl _)
  · rw [(slices256 r i _ _ _).2.2.2]
    exact (d1 _ i).trans (blockDq_at hn _ _ _ _ r i 1 3 (by norm_num) 896 rfl _ rfl _)

/-- The eight stores of two groups' gradients of the queries, 2304 keys. -/
theorem heads2304 {sig : RefSig} {κ : Kind} {sp : Space} (v : View sig κ sp S128x1024 .f32) (f : v.ty.Contents (Elt Ideal))
    (hn : 2304 ≤ 2304) {Q O : Fin 128 → Fin 1024 → EReal} {K V : Fin 2304 → Fin 256 → EReal}
    {a b c d a' b' c' d' aa bb cc dd aa' bb' cc' dd' : Vec Ideal S128x128 .bf16} {kk vv kk1 vv1 : Vec Ideal S2304x128 .bf16}
    (hq0 : ∀ x i, k0_pay30 a b c d (ix2 x i) = headRow Q 0 x i * (prescale : EReal)) (ho0 : ∀ x i, k0_pay31 a' b' c' d' (ix2 x i) = headRow O 0 x i)
    (hq1 : ∀ x i, k0_pay30 aa bb cc dd (ix2 x i) = headRow Q 1 x i * (prescale : EReal)) (ho1 : ∀ x i, k0_pay31 aa' bb' cc' dd' (ix2 x i) = headRow O 1 x i)
    (hk0 : rows kk = keyCols hn K 0) (hk1 : rows kk1 = keyCols hn K 1) (hv0 : rows vv = keyCols hn V 0) (hv1 : rows vv1 = keyCols hn V 1)
    (hQ : ∀ r, Fin1 (Q r)) (hK : ∀ j, Fin1 (K j)) (r : Fin 128) (e : Fin 1024) :
    v.read (Elt Ideal) (v.writes (Elt Ideal) f [⟨Rect.unit ![0, 896] ![128, 128] inb_S128x1024_S128x128_0_896, k0_pay40 kk1 (k0_pay33 aa bb cc dd kk1) (k0_pay34 aa bb cc dd aa' bb' cc' dd' kk1 vv1)⟩,
      ⟨Rect.unit ![0, 768] ![128, 128] inb_S128x1024_S128x128_0_768, k0_pay39 kk1 (k0_pay33 aa bb cc dd kk1) (k0_pay34 aa bb cc dd aa' bb' cc' dd' kk1 vv1)⟩,
      ⟨Rect.unit ![0, 640] ![128, 128] inb_S128x1024_S128x128_0_640, k0_pay38 kk1 (k0_pay33 aa bb cc dd kk1) (k0_pay34 aa bb cc dd aa' bb' cc' dd' kk1 vv1)⟩,
      ⟨Rect.unit ![0, 512] ![128, 128] inb_S128x1024_S128x128_0_512, k0_pay37 kk1 (k0_pay33 aa bb cc dd kk1) (k0_pay34 aa bb cc dd aa' bb' cc' dd' kk1 vv1)⟩,
      ⟨Rect.unit ![0, 384] ![128, 128] inb_S128x1024_S128x128_0_384, k0_pay40 kk (k0_pay33 a b c d kk) (k0_pay34 a b c d a' b' c' d' kk vv)⟩,
      ⟨Rect.unit ![0, 256] ![128, 128] inb_S128x1024_S128x128_0_256, k0_pay39 kk (k0_pay33 a b c d kk) (k0_pay34 a b c d a' b' c' d' kk vv)⟩,
      ⟨Rect.unit ![0, 128] ![128, 128] inb_S128x1024_S128x128_0_128, k0_pay38 kk (k0_pay33 a b c d kk) (k0_pay34 a b c d a' b' c' d' kk vv)⟩,
      ⟨Rect.unit ![0, 0] ![128, 128] inb_S128x1024_S128x128_0_0, k0_pay37 kk (k0_pay33 a b c d kk) (k0_pay34 a b c d a' b' c' d' kk vv)⟩]) (ix2 r e) = blockDq hn Q O K V r e := by
  have d0 := dq2304 (kk := kk) (vv := vv) hq0 ho0 (fin1_headRow hQ 0) (fun j => by rw [hk0]; exact fin1_keyCols hn hK 0 j)
  have d1 := dq2304 (kk := kk1) (vv := vv1) hq1 ho1 (fin1_headRow hQ 1) (fun j => by rw [hk1]; exact fin1_keyCols hn hK 1 j)
  rw [hk0, hv0] at d0
  rw [hk1, hv1] at d1
  refine read_heads v f _ _ _ _ _ _ _ _ (blockDq hn Q O K V) ?_ ?_ ?_ ?_ ?_ ?_ ?_ ?_ r e <;> intro r i
  · rw [(slices2304 r i _ _ _).1]
    exact (d0 _ i).trans (blockDq_at hn _ _ _ _ r i 0 0 (by norm_num) 0 rfl _ rfl _)
  · rw [(slices2304 r i _ _ _).2.1]
    exact (d0 _ i).trans (blockDq_at hn _ _ _ _ r i 0 1 (by norm_num) 128 rfl _ rfl _)
  · rw [(slices2304 r i _ _ _).2.2.1]
    exact (d0 _ i).trans (blockDq_at hn _ _ _ _ r i 0 2 (by norm_num) 256 rfl _ rfl _)
  · rw [(slices2304 r i _ _ _).2.2.2]
    exact (d0 _ i).trans (blockDq_at hn _ _ _ _ r i 0 3 (by norm_num) 384 rfl _ rfl _)
  · rw [(slices2304 r i _ _ _).1]
    exact (d1 _ i).trans (blockDq_at hn _ _ _ _ r i 1 0 (by norm_num) 512 rfl _ rfl _)
  · rw [(slices2304 r i _ _ _).2.1]
    exact (d1 _ i).trans (blockDq_at hn _ _ _ _ r i 1 1 (by norm_num) 640 rfl _ rfl _)
  · rw [(slices2304 r i _ _ _).2.2.1]
    exact (d1 _ i).trans (blockDq_at hn _ _ _ _ r i 1 2 (by norm_num) 768 rfl _ rfl _)
  · rw [(slices2304 r i _ _ _).2.2.2]
    exact (d1 _ i).trans (blockDq_at hn _ _ _ _ r i 1 3 (by norm_num) 896 rfl _ rfl _)

/-- The two stores of two groups' gradients of the keys, 256 keys. -/
theorem halves_dk256 {sig : RefSig} {κ : Kind} {sp : Space} (v : View sig κ sp S2304x256 .f32) (f : v.ty.Contents (Elt Ideal))
    (L : List (View.Piece (Elt Ideal) S2304x256 .f32))
    (hn : 256 ≤ 2304) {Q O : Fin 128 → Fin 1024 → EReal} {K V : Fin 2304 → Fin 256 → EReal}
    {a b c d a' b' c' d' aa bb cc dd aa' bb' cc' dd' : Vec Ideal S128x128 .bf16} {kk vv kk1 vv1 : Vec Ideal S256x128 .bf16}
    {old0 old1 : Vec Ideal S256x128 .f32} (old : Fin 2304 → Fin 256 → EReal)
    (hq0 : ∀ x i, k0_pay3 a b c d (ix2 x i) = headRow Q 0 x i * (prescale : EReal)) (ho0 : ∀ x i, k0_pay4 a' b' c' d' (ix2 x i) = headRow O 0 x i)
    (hq1 : ∀ x i, k0_pay3 aa bb cc dd (ix2 x i) = headRow Q 1 x i * (prescale : EReal)) (ho1 : ∀ x i, k0_pay4 aa' bb' cc' dd' (ix2 x i) = headRow O 1 x i)
    (hk0 : rows kk = keyCols hn K 0) (hk1 : rows kk1 = keyCols hn K 1) (hv0 : rows vv = keyCols hn V 0) (hv1 : rows vv1 = keyCols hn V 1)
    (hQ : ∀ r, Fin1 (Q r)) (hK : ∀ j, Fin1 (K j))
    (h0 : ∀ (j : Fin 256) (i : Fin 128), old0 (ix2 j i) = old ⟨j.val, by omega⟩ ⟨i.val, by omega⟩)
    (h1 : ∀ (j : Fin 256) (i : Fin 128), old1 (ix2 j i) = old ⟨j.val, by omega⟩ ⟨128 + i.val, by omega⟩)
    (hf : ∀ (j : Fin 2304) (e : Fin 256), 256 ≤ j.val → v.read (Elt Ideal) (v.writes (Elt Ideal) f L) (ix2 j e) = old j e) (j : Fin 2304) (e : Fin 256) :
    v.read (Elt Ideal) (v.writes (Elt Ideal) f
        (⟨Rect.unit ![0, 128] ![256, 128] inb_S2304x256_S256x128_0_128, k0_pay14 (k0_pay3 aa bb cc dd) (k0_pay6 aa bb cc dd kk1) (k0_pay7 aa bb cc dd aa' bb' cc' dd' kk1 vv1) old1⟩
          :: ⟨Rect.unit ![0, 0] ![256, 128] inb_S2304x256_S256x128_0_0, k0_pay14 (k0_pay3 a b c d) (k0_pay6 a b c d kk) (k0_pay7 a b c d a' b' c' d' kk vv) old0⟩ :: L)) (ix2 j e)
      = addTo (blockDk hn Q O K V) old j e := by
  have d0 := dk256 (kk := kk) (vv := vv) hq0 ho0 (fin1_headRow hQ 0) (fun j => by rw [hk0]; exact fin1_keyCols hn hK 0 j) old0
  have d1 := dk256 (kk := kk1) (vv := vv1) hq1 ho1 (fin1_headRow hQ 1) (fun j => by rw [hk1]; exact fin1_keyCols hn hK 1 j) old1
  rw [hk0, hv0] at d0
  rw [hk1, hv1] at d1
  exact read_halves v f hn _ _ _ _ L old (blockDk hn Q O K V) hf (fun j i => by rw [d0, h0]; rfl) (fun j i => by rw [d1, h1]; rfl) j e

/-- The two stores of two groups' gradients of the values, 256 keys. -/
theorem halves_dv256 {sig : RefSig} {κ : Kind} {sp : Space} (v : View sig κ sp S2304x256 .f32) (f : v.ty.Contents (Elt Ideal))
    (L : List (View.Piece (Elt Ideal) S2304x256 .f32))
    (hn : 256 ≤ 2304) {Q O : Fin 128 → Fin 1024 → EReal} {K : Fin 2304 → Fin 256 → EReal}
    {a b c d a' b' c' d' aa bb cc dd aa' bb' cc' dd' : Vec Ideal S128x128 .bf16} {kk kk1 : Vec Ideal S256x128 .bf16}
    {old0 old1 : Vec Ideal S256x128 .f32} (old : Fin 2304 → Fin 256 → EReal)
    (hq0 : ∀ x i, k0_pay3 a b c d (ix2 x i) = headRow Q 0 x i * (prescale : EReal)) (ho0 : ∀ x i, k0_pay4 a' b' c' d' (ix2 x i) = headRow O 0 x i)
    (hq1 : ∀ x i, k0_pay3 aa bb cc dd (ix2 x i) = headRow Q 1 x i * (prescale : EReal)) (ho1 : ∀ x i, k0_pay4 aa' bb' cc' dd' (ix2 x i) = headRow O 1 x i)
    (hk0 : rows kk = keyCols hn K 0) (hk1 : rows kk1 = keyCols hn K 1)
    (hQ : ∀ r, Fin1 (Q r)) (hK : ∀ j, Fin1 (K j))
    (h0 : ∀ (j : Fin 256) (i : Fin 128), old0 (ix2 j i) = old ⟨j.val, by omega⟩ ⟨i.val, by omega⟩)
    (h1 : ∀ (j : Fin 256) (i : Fin 128), old1 (ix2 j i) = old ⟨j.val, by omega⟩ ⟨128 + i.val, by omega⟩)
    (hf : ∀ (j : Fin 2304) (e : Fin 256), 256 ≤ j.val → v.read (Elt Ideal) (v.writes (Elt Ideal) f L) (ix2 j e) = old j e) (j : Fin 2304) (e : Fin 256) :
    v.read (Elt Ideal) (v.writes (Elt Ideal) f
        (⟨Rect.unit ![0, 128] ![256, 128] inb_S2304x256_S256x128_0_128, k0_pay15 (k0_pay4 aa' bb' cc' dd') (k0_pay5 aa bb cc dd kk1) (k0_pay6 aa bb cc dd kk1) old1⟩
          :: ⟨Rect.unit ![0, 0] ![256, 128] inb_S2304x256_S256x128_0_0, k0_pay15 (k0_pay4 a' b' c' d') (k0_pay5 a b c d kk) (k0_pay6 a b c d kk) old0⟩ :: L)) (ix2 j e)
      = addTo (blockDv hn Q O K) old j e := by
  have d0 := dv256 (kk := kk)  hq0 ho0 (fin1_headRow hQ 0) (fun j => by rw [hk0]; exact fin1_keyCols hn hK 0 j) old0
  have d1 := dv256 (kk := kk1)  hq1 ho1 (fin1_headRow hQ 1) (fun j => by rw [hk1]; exact fin1_keyCols hn hK 1 j) old1
  rw [hk0] at d0
  rw [hk1] at d1
  exact read_halves v f hn _ _ _ _ L old (blockDv hn Q O K) hf (fun j i => by rw [d0, h0]; rfl) (fun j i => by rw [d1, h1]; rfl) j e

/-- The two stores of two groups' gradients of the keys, 2304 keys. -/
theorem halves_dk2304 {sig : RefSig} {κ : Kind} {sp : Space} (v : View sig κ sp S2304x256 .f32) (f : v.ty.Contents (Elt Ideal))
    (L : List (View.Piece (Elt Ideal) S2304x256 .f32))
    (hn : 2304 ≤ 2304) {Q O : Fin 128 → Fin 1024 → EReal} {K V : Fin 2304 → Fin 256 → EReal}
    {a b c d a' b' c' d' aa bb cc dd aa' bb' cc' dd' : Vec Ideal S128x128 .bf16} {kk vv kk1 vv1 : Vec Ideal S2304x128 .bf16}
    {old0 old1 : Vec Ideal S2304x128 .f32} (old : Fin 2304 → Fin 256 → EReal)
    (hq0 : ∀ x i, k0_pay30 a b c d (ix2 x i) = headRow Q 0 x i * (prescale : EReal)) (ho0 : ∀ x i, k0_pay31 a' b' c' d' (ix2 x i) = headRow O 0 x i)
    (hq1 : ∀ x i, k0_pay30 aa bb cc dd (ix2 x i) = headRow Q 1 x i * (prescale : EReal)) (ho1 : ∀ x i, k0_pay31 aa' bb' cc' dd' (ix2 x i) = headRow O 1 x i)
    (hk0 : rows kk = keyCols hn K 0) (hk1 : rows kk1 = keyCols hn K 1) (hv0 : rows vv = keyCols hn V 0) (hv1 : rows vv1 = keyCols hn V 1)
    (hQ : ∀ r, Fin1 (Q r)) (hK : ∀ j, Fin1 (K j))
    (h0 : ∀ (j : Fin 2304) (i : Fin 128), old0 (ix2 j i) = old ⟨j.val, by omega⟩ ⟨i.val, by omega⟩)
    (h1 : ∀ (j : Fin 2304) (i : Fin 128), old1 (ix2 j i) = old ⟨j.val, by omega⟩ ⟨128 + i.val, by omega⟩)
    (hf : ∀ (j : Fin 2304) (e : Fin 256), 2304 ≤ j.val → v.read (Elt Ideal) (v.writes (Elt Ideal) f L) (ix2 j e) = old j e) (j : Fin 2304) (e : Fin 256) :
    v.read (Elt Ideal) (v.writes (Elt Ideal) f
        (⟨Rect.unit ![0, 128] ![2304, 128] inb_S2304x256_S2304x128_0_128, k0_pay41 (k0_pay30 aa bb cc dd) (k0_pay33 aa bb cc dd kk1) (k0_pay34 aa bb cc dd aa' bb' cc' dd' kk1 vv1) old1⟩
          :: ⟨Rect.unit ![0, 0] ![2304, 128] inb_S2304x256_S2304x128_0_0, k0_pay41 (k0_pay30 a b c d) (k0_pay33 a b c d kk) (k0_pay34 a b c d a' b' c' d' kk vv) old0⟩ :: L)) (ix2 j e)
      = addTo (blockDk hn Q O K V) old j e := by
  have d0 := dk2304 (kk := kk) (vv := vv) hq0 ho0 (fin1_headRow hQ 0) (fun j => by rw [hk0]; exact fin1_keyCols hn hK 0 j) old0
  have d1 := dk2304 (kk := kk1) (vv := vv1) hq1 ho1 (fin1_headRow hQ 1) (fun j => by rw [hk1]; exact fin1_keyCols hn hK 1 j) old1
  rw [hk0, hv0] at d0
  rw [hk1, hv1] at d1
  exact read_halves v f hn _ _ _ _ L old (blockDk hn Q O K V) hf (fun j i => by rw [d0, h0]; rfl) (fun j i => by rw [d1, h1]; rfl) j e

/-- The two stores of two groups' gradients of the values, 2304 keys. -/
theorem halves_dv2304 {sig : RefSig} {κ : Kind} {sp : Space} (v : View sig κ sp S2304x256 .f32) (f : v.ty.Contents (Elt Ideal))
    (L : List (View.Piece (Elt Ideal) S2304x256 .f32))
    (hn : 2304 ≤ 2304) {Q O : Fin 128 → Fin 1024 → EReal} {K : Fin 2304 → Fin 256 → EReal}
    {a b c d a' b' c' d' aa bb cc dd aa' bb' cc' dd' : Vec Ideal S128x128 .bf16} {kk kk1 : Vec Ideal S2304x128 .bf16}
    {old0 old1 : Vec Ideal S2304x128 .f32} (old : Fin 2304 → Fin 256 → EReal)
    (hq0 : ∀ x i, k0_pay30 a b c d (ix2 x i) = headRow Q 0 x i * (prescale : EReal)) (ho0 : ∀ x i, k0_pay31 a' b' c' d' (ix2 x i) = headRow O 0 x i)
    (hq1 : ∀ x i, k0_pay30 aa bb cc dd (ix2 x i) = headRow Q 1 x i * (prescale : EReal)) (ho1 : ∀ x i, k0_pay31 aa' bb' cc' dd' (ix2 x i) = headRow O 1 x i)
    (hk0 : rows kk = keyCols hn K 0) (hk1 : rows kk1 = keyCols hn K 1)
    (hQ : ∀ r, Fin1 (Q r)) (hK : ∀ j, Fin1 (K j))
    (h0 : ∀ (j : Fin 2304) (i : Fin 128), old0 (ix2 j i) = old ⟨j.val, by omega⟩ ⟨i.val, by omega⟩)
    (h1 : ∀ (j : Fin 2304) (i : Fin 128), old1 (ix2 j i) = old ⟨j.val, by omega⟩ ⟨128 + i.val, by omega⟩)
    (hf : ∀ (j : Fin 2304) (e : Fin 256), 2304 ≤ j.val → v.read (Elt Ideal) (v.writes (Elt Ideal) f L) (ix2 j e) = old j e) (j : Fin 2304) (e : Fin 256) :
    v.read (Elt Ideal) (v.writes (Elt Ideal) f
        (⟨Rect.unit ![0, 128] ![2304, 128] inb_S2304x256_S2304x128_0_128, k0_pay42 (k0_pay31 aa' bb' cc' dd') (k0_pay32 aa bb cc dd kk1) (k0_pay33 aa bb cc dd kk1) old1⟩
          :: ⟨Rect.unit ![0, 0] ![2304, 128] inb_S2304x256_S2304x128_0_0, k0_pay42 (k0_pay31 a' b' c' d') (k0_pay32 a b c d kk) (k0_pay33 a b c d kk) old0⟩ :: L)) (ix2 j e)
      = addTo (blockDv hn Q O K) old j e := by
  have d0 := dv2304 (kk := kk)  hq0 ho0 (fin1_headRow hQ 0) (fun j => by rw [hk0]; exact fin1_keyCols hn hK 0 j) old0
  have d1 := dv2304 (kk := kk1)  hq1 ho1 (fin1_headRow hQ 1) (fun j => by rw [hk1]; exact fin1_keyCols hn hK 1 j) old1
  rw [hk0] at d0
  rw [hk1] at d1
  exact read_halves v f hn _ _ _ _ L old (blockDv hn Q O K) hf (fun j i => by rw [d0, h0]; rfl) (fun j i => by rw [d1, h1]; rfl) j e

variable (c : Dev nD) (i : grid0.Coords) (arg1 : Memref sig .tc .vmem S128x1024 .bf16) (harg1 : arg1.IsWhole)
  (arg2 : Memref sig .tc .vmem S2304x256 .bf16) (harg2 : arg2.IsWhole) (arg3 : Memref sig .tc .vmem S2304x256 .bf16) (harg3 : arg3.IsWhole)
  (arg4 : Memref sig .tc .vmem S128x1024 .bf16) (harg4 : arg4.IsWhole) (arg5 : Memref sig .tc .vmem S128x1024 .f32) (harg5 : arg5.IsWhole)
  (arg6 : Memref sig .tc .vmem S2304x256 .f32) (harg6 : arg6.IsWhole) (arg7 : Memref sig .tc .vmem S2304x256 .f32) (harg7 : arg7.IsWhole)
  (x0 : Vec Ideal S128x1024 .bf16) (x1 x2 : Vec Ideal S2304x256 .bf16) (x3 : Vec Ideal S128x1024 .bf16) (xo5 xo6 : Vec Ideal S2304x256 .f32)

variable {Q : Fin 128 → Fin 1024 → EReal}

section Loads
variable {x0} (hx : ∀ r e, x0 (ix2 r e) = Q r e * (prescale : EReal))
include hx

/-- The first group's queries. -/
theorem queries0 (x : Fin 512) (i : Fin 128) :
    k0_pay3 (View.ld x0 (Rect.unit ![0, 0] ![128, 128] inb_S128x1024_S128x128_0_0))
      (View.ld x0 (Rect.unit ![0, 128] ![128, 128] inb_S128x1024_S128x128_0_128))
      (View.ld x0 (Rect.unit ![0, 256] ![128, 128] inb_S128x1024_S128x128_0_256))
      (View.ld x0 (Rect.unit ![0, 384] ![128, 128] inb_S128x1024_S128x128_0_384)) (ix2 x i) = headRow Q 0 x i * (prescale : EReal) :=
  (pay3_ld0 x0 x i).trans (hx _ _)

/-- The second group's queries. -/
theorem queries1 (x : Fin 512) (i : Fin 128) :
    k0_pay3 (View.ld x0 (Rect.unit ![0, 512] ![128, 128] inb_S128x1024_S128x128_0_512))
      (View.ld x0 (Rect.unit ![0, 640] ![128, 128] inb_S128x1024_S128x128_0_640))
      (View.ld x0 (Rect.unit ![0, 768] ![128, 128] inb_S128x1024_S128x128_0_768))
      (View.ld x0 (Rect.unit ![0, 896] ![128, 128] inb_S128x1024_S128x128_0_896)) (ix2 x i) = headRow Q 1 x i * (prescale : EReal) :=
  (pay3_ld1 x0 x i).trans (hx _ _)

end Loads

/-! The stacked boxes of the incoming gradient. -/

/-- The first group's incoming gradients. -/
theorem outs0 (x : Fin 512) (i : Fin 128) :
    k0_pay4 (View.ld x3 (Rect.unit ![0, 0] ![128, 128] inb_S128x1024_S128x128_0_0))
      (View.ld x3 (Rect.unit ![0, 128] ![128, 128] inb_S128x1024_S128x128_0_128))
      (View.ld x3 (Rect.unit ![0, 256] ![128, 128] inb_S128x1024_S128x128_0_256))
      (View.ld x3 (Rect.unit ![0, 384] ![128, 128] inb_S128x1024_S128x128_0_384)) (ix2 x i) = headRow (mat x3) 0 x i :=
  (pay4_eq _ _ _ _ x i).trans (pay3_ld0 x3 x i)

/-- The second group's incoming gradients. -/
theorem outs1 (x : Fin 512) (i : Fin 128) :
    k0_pay4 (View.ld x3 (Rect.unit ![0, 512] ![128, 128] inb_S128x1024_S128x128_0_512))
      (View.ld x3 (Rect.unit ![0, 640] ![128, 128] inb_S128x1024_S128x128_0_640))
      (View.ld x3 (Rect.unit ![0, 768] ![128, 128] inb_S128x1024_S128x128_0_768))
      (View.ld x3 (Rect.unit ![0, 896] ![128, 128] inb_S128x1024_S128x128_0_896)) (ix2 x i) = headRow (mat x3) 1 x i :=
  (pay4_eq _ _ _ _ x i).trans (pay3_ld1 x3 x i)

/-! ### What a load reads of a buffer that was cleared -/

section Cleared
variable {sig' : RefSig} {κ' : Kind} {sp' : Space} (v : View sig' κ' sp' S2304x256 .f32)

/-- A load of a box of columns after stores that cover it reads what the stores left. -/
theorem readCov_cols (L : List (View.Piece (Elt Ideal) S2304x256 .f32)) {n : ℕ} (hn : n ≤ 2304) (o : ℕ) (ho : o + 128 ≤ 256)
    (inb : ∀ a, (![0, o] : Fin 2 → ℕ) a + (![n, 128] : Fin 2 → ℕ) a ≤ S2304x256.size a) (j : Fin n) (i : Fin 128) :
    v.readCov L (Rect.unit (s := S2304x256) ![0, o] ![n, 128] inb).toLoadRect (ix2 j i)
      = v.read (Elt Ideal) (v.writes (Elt Ideal) v.junk L) (ix2 ⟨j.val, by omega⟩ ⟨o + i.val, by omega⟩) := by
  refine congrArg (v.read (Elt Ideal) (v.writes (Elt Ideal) v.junk L)) (funext fun a => Fin.ext ?_)
  match a with
  | 0 => show 0 + 1 * j.val = j.val; omega
  | 1 => show o + 1 * i.val = o + i.val; omega

/-- A buffer that was cleared reads zero. -/
theorem read_cleared (f : v.ty.Contents (Elt Ideal)) (w : Vec Ideal S2304x256 .f32) (hw : ∀ y, w y = 0)
    (inb : ∀ a, (![0, 0] : Fin 2 → ℕ) a + (![2304, 256] : Fin 2 → ℕ) a ≤ S2304x256.size a) (j : Fin 2304) (e : Fin 256) :
    v.read (Elt Ideal) (v.writes (Elt Ideal) f [⟨Rect.unit ![0, 0] ![2304, 256] inb, w⟩]) (ix2 j e) = 0 := by
  rw [View.read_writes_cons_unit_of_mem v f inb w _ (ix2 j e) (ix2 j e) rfl
    (fun a => by match a with | 0 => exact (Nat.zero_add _).symm | 1 => exact (Nat.zero_add _).symm), hw]

/-- The left half of a cleared buffer's first rows reads zero; -/
theorem cleared_left {n : ℕ} (hn : n ≤ 2304) (w : Vec Ideal S2304x256 .f32) (hw : ∀ y, w y = 0)
    (inb : ∀ a, (![0, 0] : Fin 2 → ℕ) a + (![2304, 256] : Fin 2 → ℕ) a ≤ S2304x256.size a)
    (inb0 : ∀ a, (![0, 0] : Fin 2 → ℕ) a + (![n, 128] : Fin 2 → ℕ) a ≤ S2304x256.size a) (j : Fin n) (i : Fin 128) :
    v.readCov [⟨Rect.unit (s := S2304x256) ![0, 0] ![2304, 256] inb, w⟩] (Rect.unit (s := S2304x256) ![0, 0] ![n, 128] inb0).toLoadRect (ix2 j i)
      = 0 := by
  rw [readCov_cols v _ hn 0 (by norm_num), read_cleared v _ w hw]

/-- and its right half, a store of the left half between. -/
theorem cleared_right {n : ℕ} (hn : n ≤ 2304) (w : Vec Ideal S2304x256 .f32) (hw : ∀ y, w y = 0) (w0 : Vec Ideal ⟨2, ![n, 128]⟩ .f32)
    (inb : ∀ a, (![0, 0] : Fin 2 → ℕ) a + (![2304, 256] : Fin 2 → ℕ) a ≤ S2304x256.size a)
    (inb0 : ∀ a, (![0, 0] : Fin 2 → ℕ) a + (![n, 128] : Fin 2 → ℕ) a ≤ S2304x256.size a)
    (inb1 : ∀ a, (![0, 128] : Fin 2 → ℕ) a + (![n, 128] : Fin 2 → ℕ) a ≤ S2304x256.size a) (j : Fin n) (i : Fin 128) :
    v.readCov [⟨Rect.unit (s := S2304x256) ![0, 0] ![n, 128] inb0, w0⟩, ⟨Rect.unit (s := S2304x256) ![0, 0] ![2304, 256] inb, w⟩]
      (Rect.unit (s := S2304x256) ![0, 128] ![n, 128] inb1).toLoadRect (ix2 j i) = 0 := by
  rw [readCov_cols v _ hn 128 (by norm_num),
    View.read_writes_cons_unit_of_not_mem v _ inb0 w0 _ _ rfl 1 (Or.inr (by show 0 + 128 ≤ 128 + i.val; omega)), read_cleared v _ w hw]

end Cleared

/-- The first accumulator starts at zero. -/
theorem pay1_zero (y : S2304x256.Idx) : k0_pay1 (F := Ideal) y = 0 := by pointwise [k0_pay1]
/-- The second accumulator starts at zero. -/
theorem pay2_zero (y : S2304x256.Idx) : k0_pay2 (F := Ideal) y = 0 := by pointwise [k0_pay2]

variable (hx : ∀ r e, x0 (ix2 r e) = Q r e * (prescale : EReal)) (hQ : ∀ r, Fin1 (Q r)) (hK : ∀ j, Fin1 (mat x1 j))

/-- The rows of a loaded box of finite keys are finite. -/
theorem fin1_rows_ld {n : ℕ} (hn : n ≤ 2304) {y : Vec Ideal S2304x256 .bf16} (hK : ∀ j, Fin1 (mat y j)) (g : Fin 2) (o : ℕ) (ho : o = g.val * 128)
    (inb : ∀ a, (![0, o] : Fin 2 → ℕ) a + (![n, 128] : Fin 2 → ℕ) a ≤ S2304x256.size a) (j : Fin n) :
    Fin1 (rows (View.ld y (Rect.unit (s := S2304x256) ![0, o] ![n, 128] inb)) j) := by
  rw [rows_ld hn y g o ho]; exact fin1_keyCols hn hK g j

section later
variable (hc0 : ¬cond0_0 i) (hc1 : cond0_1 i) (hc2 : ¬cond0_2 i)

include hx hQ hK in
/-- The gradient of the queries that a later context point leaves. -/
theorem later_dq (r : Fin 128) (e : Fin 1024) :
    out0_B_4 c i arg1 harg1 arg2 harg2 arg3 harg3 arg4 harg4 arg5 harg5 arg6 harg6 arg7 harg7 hc0 hc1 hc2 x0 x1 x2 x3 xo5 xo6 (ix2 r e)
      = blockDq (n := 256) (by norm_num) Q (mat x3) (mat x1) (mat x2) r e := by
  unfold out0_B_4 kernelRun0_B
  dsimp only
  sl_unfold_words
  simp only [View.readAt_eq_ld, Memref.IsWhole.read_unread, second_slices256]
  exact heads256 _ _ (by norm_num) (queries0 hx) (outs0 x3) (queries1 hx) (outs1 x3) (rows_ld _ x1 0 0 rfl _) (rows_ld _ x1 1 128 rfl _) (rows_ld _ x2 0 0 rfl _) (rows_ld _ x2 1 128 rfl _) hQ hK r e

include hx hQ hK in
/-- The gradient of the keys that a later context point leaves. -/
theorem later_dk (j : Fin 2304) (e : Fin 256) :
    out0_B_5 c i arg1 harg1 arg2 harg2 arg3 harg3 arg4 harg4 arg5 harg5 arg6 harg6 arg7 harg7 hc0 hc1 hc2 x0 x1 x2 x3 xo5 xo6 (ix2 j e)
      = addTo (blockDk (n := 256) (by norm_num) Q (mat x3) (mat x1) (mat x2)) (mat xo5) j e := by
  unfold out0_B_5 kernelRun0_B
  dsimp only
  sl_unfold_words
  simp only [View.readAt_eq_ld, Memref.IsWhole.read_unread, second_dk256]
  exact halves_dk256 _ _ _ (by norm_num) (mat xo5) (queries0 hx) (outs0 x3) (queries1 hx) (outs1 x3) (rows_ld _ x1 0 0 rfl _) (rows_ld _ x1 1 128 rfl _) (rows_ld _ x2 0 0 rfl _) (rows_ld _ x2 1 128 rfl _) hQ hK
    (fun j i => (ld_cols xo5 0 _ j i (by omega) (by omega)).trans (by simp only [Nat.zero_add])) (fun j i => ld_cols xo5 128 _ j i (by omega) (by omega))
    (fun j e _ => congrFun (Memref.IsWhole.read_unread harg6 xo5) (ix2 j e)) j e

include hx hQ hK in
/-- The gradient of the values that a later context point leaves. -/
theorem later_dv (j : Fin 2304) (e : Fin 256) :
    out0_B_6 c i arg1 harg1 arg2 harg2 arg3 harg3 arg4 harg4 arg5 harg5 arg6 harg6 arg7 harg7 hc0 hc1 hc2 x0 x1 x2 x3 xo5 xo6 (ix2 j e)
      = addTo (blockDv (n := 256) (by norm_num) Q (mat x3) (mat x1)) (mat xo6) j e := by
  unfold out0_B_6 kernelRun0_B
  dsimp only
  sl_unfold_words
  simp only [View.readAt_eq_ld, Memref.IsWhole.read_unread, second_dv256]
  exact halves_dv256 _ _ _ (by norm_num) (mat xo6) (queries0 hx) (outs0 x3) (queries1 hx) (outs1 x3) (rows_ld _ x1 0 0 rfl _) (rows_ld _ x1 1 128 rfl _) hQ hK
    (fun j i => (ld_cols xo6 0 _ j i (by omega) (by omega)).trans (by simp only [Nat.zero_add])) (fun j i => ld_cols xo6 128 _ j i (by omega) (by omega))
    (fun j e _ => congrFun (Memref.IsWhole.read_unread harg7 xo6) (ix2 j e)) j e

end later

section latent
variable (hc0 : ¬cond0_0 i) (hc1 : ¬cond0_1 i) (hc2 : cond0_2 i)

include hx hQ hK in
/-- The gradient of the queries that a point of the latent rows leaves. -/
theorem latent_dq (r : Fin 128) (e : Fin 1024) :
    out0_C_4 c i arg1 harg1 arg2 harg2 arg3 harg3 arg4 harg4 arg5 harg5 arg6 harg6 arg7 harg7 hc0 hc1 hc2 x0 x1 x2 x3 xo5 xo6 (ix2 r e)
      = blockDq (n := 2304) (by norm_num) Q (mat x3) (mat x1) (mat x2) r e := by
  unfold out0_C_4 kernelRun0_C
  dsimp only
  sl_unfold_words
  simp only [View.readAt_eq_ld, Memref.IsWhole.read_unread, second_slices2304]
  exact heads2304 _ _ (by norm_num) (queries0 hx) (outs0 x3) (queries1 hx) (outs1 x3) (rows_ld _ x1 0 0 rfl _) (rows_ld _ x1 1 128 rfl _) (rows_ld _ x2 0 0 rfl _) (rows_ld _ x2 1 128 rfl _) hQ hK r e

include hx hQ hK in
/-- The gradient of the keys that a point of the latent rows leaves. -/
theorem latent_dk (j : Fin 2304) (e : Fin 256) :
    out0_C_5 c i arg1 harg1 arg2 harg2 arg3 harg3 arg4 harg4 arg5 harg5 arg6 harg6 arg7 harg7 hc0 hc1 hc2 x0 x1 x2 x3 xo5 xo6 (ix2 j e)
      = addTo (blockDk (n := 2304) (by norm_num) Q (mat x3) (mat x1) (mat x2)) (mat xo5) j e := by
  unfold out0_C_5 kernelRun0_C
  dsimp only
  sl_unfold_words
  simp only [View.readAt_eq_ld, Memref.IsWhole.read_unread, second_dk2304]
  exact halves_dk2304 _ _ _ (by norm_num) (mat xo5) (queries0 hx) (outs0 x3) (queries1 hx) (outs1 x3) (rows_ld _ x1 0 0 rfl _) (rows_ld _ x1 1 128 rfl _) (rows_ld _ x2 0 0 rfl _) (rows_ld _ x2 1 128 rfl _) hQ hK
    (fun j i => (ld_cols xo5 0 _ j i (by omega) (by omega)).trans (by simp only [Nat.zero_add])) (fun j i => ld_cols xo5 128 _ j i (by omega) (by omega))
    (fun j e h => absurd j.isLt (by omega)) j e

include hx hQ hK in
/-- The gradient of the values that a point of the latent rows leaves. -/
theorem latent_dv (j : Fin 2304) (e : Fin 256) :
    out0_C_6 c i arg1 harg1 arg2 harg2 arg3 harg3 arg4 harg4 arg5 harg5 arg6 harg6 arg7 harg7 hc0 hc1 hc2 x0 x1 x2 x3 xo5 xo6 (ix2 j e)
      = addTo (blockDv (n := 2304) (by norm_num) Q (mat x3) (mat x1)) (mat xo6) j e := by
  unfold out0_C_6 kernelRun0_C
  dsimp only
  sl_unfold_words
  simp only [View.readAt_eq_ld, Memref.IsWhole.read_unread, second_dv2304]
  exact halves_dv2304 _ _ _ (by norm_num) (mat xo6) (queries0 hx) (outs0 x3) (queries1 hx) (outs1 x3) (rows_ld _ x1 0 0 rfl _) (rows_ld _ x1 1 128 rfl _) hQ hK
    (fun j i => (ld_cols xo6 0 _ j i (by omega) (by omega)).trans (by simp only [Nat.zero_add])) (fun j i => ld_cols xo6 128 _ j i (by omega) (by omega))
    (fun j e h => absurd j.isLt (by omega)) j e

end latent

section first
variable (hc0 : cond0_0 i) (hc1 : cond0_1 i) (hc2 : ¬cond0_2 i)

include hx hQ hK in
/-- The gradient of the queries that the first context point leaves. -/
theorem first_dq (r : Fin 128) (e : Fin 1024) :
    out0_A_4 c i arg1 harg1 arg2 harg2 arg3 harg3 arg4 harg4 arg5 harg5 arg6 harg6 arg7 harg7 hc0 hc1 hc2 x0 x1 x2 x3 (ix2 r e)
      = blockDq (n := 256) (by norm_num) Q (mat x3) (mat x1) (mat x2) r e := by
  unfold out0_A_4 kernelRun0_A
  dsimp only
  sl_unfold_words
  simp only [View.readAt_eq_ld, Memref.IsWhole.read_unread, second_slices256]
  exact heads256 _ _ (by norm_num) (queries0 hx) (outs0 x3) (queries1 hx) (outs1 x3) (rows_ld _ x1 0 0 rfl _) (rows_ld _ x1 1 128 rfl _) (rows_ld _ x2 0 0 rfl _) (rows_ld _ x2 1 128 rfl _) hQ hK r e

include hx hQ hK in
/-- The gradient of the keys that the first context point leaves. -/
theorem first_dk (j : Fin 2304) (e : Fin 256) :
    out0_A_5 c i arg1 harg1 arg2 harg2 arg3 harg3 arg4 harg4 arg5 harg5 arg6 harg6 arg7 harg7 hc0 hc1 hc2 x0 x1 x2 x3 (ix2 j e)
      = addTo (blockDk (n := 256) (by norm_num) Q (mat x3) (mat x1) (mat x2)) (fun _ _ => 0) j e := by
  unfold out0_A_5 kernelRun0_A
  dsimp only
  sl_unfold_words
  simp only [View.readAt_eq_ld, Memref.IsWhole.read_unread, second_dk256]
  exact halves_dk256 _ _ _ (by norm_num) (fun _ _ => 0) (queries0 hx) (outs0 x3) (queries1 hx) (outs1 x3) (rows_ld _ x1 0 0 rfl _) (rows_ld _ x1 1 128 rfl _) (rows_ld _ x2 0 0 rfl _) (rows_ld _ x2 1 128 rfl _) hQ hK
    (fun j i => cleared_left _ (by norm_num) _ pay1_zero _ _ j i) (fun j i => cleared_right _ (by norm_num) _ pay1_zero _ _ _ _ j i)
    (fun j e _ => read_cleared _ _ _ pay1_zero _ j e) j e

include hx hQ hK in
/-- The gradient of the values that the first context point leaves. -/
theorem first_dv (j : Fin 2304) (e : Fin 256) :
    out0_A_6 c i arg1 harg1 arg2 harg2 arg3 harg3 arg4 harg4 arg5 harg5 arg6 harg6 arg7 harg7 hc0 hc1 hc2 x0 x1 x2 x3 (ix2 j e)
      = addTo (blockDv (n := 256) (by norm_num) Q (mat x3) (mat x1)) (fun _ _ => 0) j e := by
  unfold out0_A_6 kernelRun0_A
  dsimp only
  sl_unfold_words
  simp only [View.readAt_eq_ld, Memref.IsWhole.read_unread, second_dv256]
  exact halves_dv256 _ _ _ (by norm_num) (fun _ _ => 0) (queries0 hx) (outs0 x3) (queries1 hx) (outs1 x3) (rows_ld _ x1 0 0 rfl _) (rows_ld _ x1 1 128 rfl _) hQ hK
    (fun j i => cleared_left _ (by norm_num) _ pay2_zero _ _ j i) (fun j i => cleared_right _ (by norm_num) _ pay2_zero _ _ _ _ j i)
    (fun j e _ => read_cleared _ _ _ pay2_zero _ j e) j e

end first

end Cert.Attn

end
-- ==== Proof.KernelArray.lean ====
module

public import proofs.«01_k».proof.Proof.KernelPoint
public import proofs.«01_k».proof.Proof.Gen.KernelIdeal.Value
public import Idealize.ShloMosaic.Lib.Claim

/- What the attention gradient's three result arrays hold after the run, index by index. -/

@[expose] public section

set_option maxRecDepth 16384

noncomputable section

namespace Cert.Attn

open Idealize.ShloMosaic Idealize.ShloMosaic.TcCoe Cert.KernelIdeal Cert.KernelIdeal.Gen

variable (m : (ℓ : Loc nD τ sig) → Buf (Elt Ideal) ℓ) (c : Dev nD)

/-- The four arguments as matrices. -/
abbrev argQ : Fin 2304 → Fin 1024 → EReal := mat (n := 2304) (m := 1024) (m ((c : Thread nD τ).loc main_arg0))
abbrev argK : Fin 2304 → Fin 256 → EReal := mat (n := 2304) (m := 256) (m ((c : Thread nD τ).loc main_arg1))
abbrev argV : Fin 2304 → Fin 256 → EReal := mat (n := 2304) (m := 256) (m ((c : Thread nD τ).loc main_arg2))
abbrev argO : Fin 2304 → Fin 1024 → EReal := mat (n := 2304) (m := 1024) (m ((c : Thread nD τ).loc main_arg3))

/-- Block `t` of 128 rows. -/
def rowBlock (X : Fin 2304 → Fin 1024 → EReal) (t : Fin 18) (r : Fin 128) : Fin 1024 → EReal := X ⟨t.val * 128 + r.val, by omega⟩

/-- Each block of queries and of the incoming gradient is 128 rows from row `128 t` on; the keys' and values' window never moves. -/
theorem win_index (t : Fin cfg0.N) : (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0)
    ∧ (win0_4.index t 0 = t.val ∧ win0_4.index t 1 = 0) ∧ (win0_5.index t 0 = 0 ∧ win0_5.index t 1 = 0)
    ∧ (win0_6.index t 0 = 0 ∧ win0_6.index t 1 = 0) := by
  revert t
  change ∀ t : Fin grid0.N, _
  decide +kernel

abbrev pt (t : Fin cfg0.N) : Fin 18 := ⟨t.val, lt_of_lt_of_eq t.isLt N_0⟩

/-- The host's factor is the reciprocal of `√128 · log 2`. -/
theorem host_prescale (q : EReal) :
    Ideal.div q (Ideal.sqrt (Ideal.ofBits .f32 1124073472#32) * Ideal.log (Ideal.ofBits .f32 1073741824#32)) = q * (prescale : EReal) := by
  have h2 := log2_pos
  have hs : (0 : ℝ) < Real.sqrt 128 := Real.sqrt_pos.mpr (by norm_num)
  rw [ofBits_128, ofBits_2, Ideal.sqrt_coe, Ideal.log_coe, if_neg (by norm_num), if_neg (by norm_num), ← EReal.coe_mul,
    Ideal.div_coe (mul_pos hs h2).ne']
  rfl

/-- Block `t` of the scaled queries. -/
theorem iblk0 (t : Fin cfg0.N) (r : Fin 128) (e : Fin 1024) :
    (iblk m c 0 t : Vec Ideal S128x1024 .bf16) (ix2 r e) = rowBlock (argQ m c) (pt t) r e * (prescale : EReal) := by
  unfold iblk
  rw [View.read_apply]
  show V m c main_v5 _ = _
  entry_read
  have hy : (((View.whole main_v5).slice ((win0 0).rect t)).emb (ix2 r e) : S2304x1024.Idx)
      = ix2 ⟨t.val * 128 + r.val, by have := t.isLt; have : t.val < 18 := lt_of_lt_of_eq t.isLt N_0; omega⟩ e := by
    refine funext fun a => Fin.ext ?_
    have hi := (win_index t).1
    match a with
    | ⟨0, _⟩ => show win0_0.index t 0 * 128 + 1 * r.val = t.val * 128 + r.val; rw [hi.1]; omega
    | ⟨1, _⟩ => show win0_0.index t 1 * 1024 + 1 * e.val = e.val; rw [hi.2]; omega
  rw [hy]
  pointwise
  exact host_prescale _

/-- The keys' block is the array. -/
theorem iblk1 (t : Fin cfg0.N) (j : Fin 2304) (e : Fin 256) :
    (iblk m c 1 t : Vec Ideal S2304x256 .bf16) (ix2 j e) = argK m c j e := by
  unfold iblk
  rw [View.read_apply]
  show V m c main_arg1 _ = _
  rw [V_main_arg1]
  refine congrArg (m ((c : Thread nD τ).loc main_arg1)) (funext fun a => Fin.ext ?_)
  have hi := (win_index t).2.1
  match a with
  | ⟨0, _⟩ => show win0_1.index t 0 * 2304 + 1 * j.val = j.val; rw [hi.1]; omega
  | ⟨1, _⟩ => show win0_1.index t 1 * 256 + 1 * e.val = e.val; rw [hi.2]; omega

/-- The values' block is the array. -/
theorem iblk2 (t : Fin cfg0.N) (j : Fin 2304) (e : Fin 256) :
    (iblk m c 2 t : Vec Ideal S2304x256 .bf16) (ix2 j e) = argV m c j e := by
  unfold iblk
  rw [View.read_apply]
  show V m c main_arg2 _ = _
  rw [V_main_arg2]
  refine congrArg (m ((c : Thread nD τ).loc main_arg2)) (funext fun a => Fin.ext ?_)
  have hi := (win_index t).2.2.1
  match a with
  | ⟨0, _⟩ => show win0_2.index t 0 * 2304 + 1 * j.val = j.val; rw [hi.1]; omega
  | ⟨1, _⟩ => show win0_2.index t 1 * 256 + 1 * e.val = e.val; rw [hi.2]; omega

/-- Block `t` of the incoming gradient. -/
theorem iblk3 (t : Fin cfg0.N) (r : Fin 128) (e : Fin 1024) :
    (iblk m c 3 t : Vec Ideal S128x1024 .bf16) (ix2 r e) = rowBlock (argO m c) (pt t) r e := by
  unfold iblk
  rw [View.read_apply]
  show V m c main_arg3 _ = _
  rw [V_main_arg3]
  refine congrArg (m ((c : Thread nD τ).loc main_arg3)) (funext fun a => Fin.ext ?_)
  have hi := (win_index t).2.2.2.1
  match a with
  | ⟨0, _⟩ => show win0_3.index t 0 * 128 + 1 * r.val = t.val * 128 + r.val; rw [hi.1]; omega
  | ⟨1, _⟩ => show win0_3.index t 1 * 1024 + 1 * e.val = e.val; rw [hi.2]; omega

/-- The keys' block is the whole array. -/
theorem mat1 (t : Fin cfg0.N) : mat (n := 2304) (m := 256) (iblk m c 1 t : Vec Ideal S2304x256 .bf16) = argK m c := by
  funext j e; exact iblk1 m c t j e

/-- The values' block is the whole array. -/
theorem mat2 (t : Fin cfg0.N) : mat (n := 2304) (m := 256) (iblk m c 2 t : Vec Ideal S2304x256 .bf16) = argV m c := by
  funext j e; exact iblk2 m c t j e

/-- The incoming gradient's block is a block of rows of the array. -/
theorem mat3 (t : Fin cfg0.N) : mat (n := 128) (m := 1024) (iblk m c 3 t : Vec Ideal S128x1024 .bf16) = rowBlock (argO m c) (pt t) := by
  funext j e; exact iblk3 m c t j e

/-! ### The shares of the grid points -/

/-- What point `t` adds to row `j`, column `e`: a context point against the first 256 keys, nothing further down; any other point against
all the keys. -/
def share (S : Fin 2 → Fin 256 → Fin 128 → EReal) (T : Fin 2 → Fin 2304 → Fin 128 → EReal) (t : Fin 18) (j : Fin 2304) (e : Fin 256) : EReal :=
  if t.val < 2 then if h : j.val < 256 then S ⟨e.val / 128, by omega⟩ ⟨j.val, h⟩ ⟨e.val % 128, by omega⟩ else 0
  else T ⟨e.val / 128, by omega⟩ j ⟨e.val % 128, by omega⟩

/-- A context point adds its share to the accumulator. -/
theorem add_context {S : Fin 2 → Fin 256 → Fin 128 → EReal} (T : Fin 2 → Fin 2304 → Fin 128 → EReal) {t : Fin 18} (ht : t.val < 2)
    (old : Fin 2304 → Fin 256 → EReal) (j : Fin 2304) (e : Fin 256) : addTo S old j e = old j e + share S T t j e := by
  unfold addTo share
  rw [if_pos ht]
  split_ifs <;> simp

/-- A latent point adds its share to the accumulator. -/
theorem add_latent (S : Fin 2 → Fin 256 → Fin 128 → EReal) {T : Fin 2 → Fin 2304 → Fin 128 → EReal} {t : Fin 18} (ht : ¬t.val < 2)
    (old : Fin 2304 → Fin 256 → EReal) (j : Fin 2304) (e : Fin 256) : addTo T old j e = old j e + share S T t j e := by
  unfold addTo share
  rw [if_neg ht, dif_pos j.isLt]

/-- The sum of the first points' shares. -/
def upTo (f : Fin 18 → Fin 2304 → Fin 256 → EReal) (n : ℕ) (j : Fin 2304) (e : Fin 256) : EReal :=
  ∑ t ∈ Finset.univ.filter (fun t : Fin 18 => t.val ≤ n), f t j e

/-- The sum up to the first point is its share. -/
theorem upTo_zero (f : Fin 18 → Fin 2304 → Fin 256 → EReal) (j : Fin 2304) (e : Fin 256) : upTo f 0 j e = 0 + f 0 j e := by
  unfold upTo
  rw [show Finset.univ.filter (fun t : Fin 18 => t.val ≤ 0) = {0} by decide, Finset.sum_singleton, zero_add]

/-- A point more adds its share. -/
theorem upTo_succ (f : Fin 18 → Fin 2304 → Fin 256 → EReal) (n : ℕ) (hn : n + 1 < 18) (j : Fin 2304) (e : Fin 256) :
    upTo f (n + 1) j e = upTo f n j e + f ⟨n + 1, hn⟩ j e := by
  unfold upTo
  have h : Finset.univ.filter (fun t : Fin 18 => t.val ≤ n + 1) = insert ⟨n + 1, hn⟩ (Finset.univ.filter (fun t : Fin 18 => t.val ≤ n)) := by
    ext t
    simp only [Finset.mem_filter, Finset.mem_univ, true_and, Finset.mem_insert, Fin.ext_iff]
    omega
  rw [h, Finset.sum_insert (by simp), add_comm]

/-- After the last point the sum is over all points. -/
theorem upTo_last (f : Fin 18 → Fin 2304 → Fin 256 → EReal) (j : Fin 2304) (e : Fin 256) : upTo f 17 j e = ∑ t, f t j e := by
  unfold upTo
  rw [Finset.filter_true_of_mem (fun t _ => by omega)]

/-- Point `t`'s share of the gradient of the keys; -/
def shareDk (Q O : Fin 2304 → Fin 1024 → EReal) (K V : Fin 2304 → Fin 256 → EReal) (t : Fin 18) : Fin 2304 → Fin 256 → EReal :=
  share (blockDk (n := 256) (by norm_num) (rowBlock Q t) (rowBlock O t) K V) (blockDk (n := 2304) (by norm_num) (rowBlock Q t) (rowBlock O t) K V) t

/-- and of the values. -/
def shareDv (Q O : Fin 2304 → Fin 1024 → EReal) (K : Fin 2304 → Fin 256 → EReal) (t : Fin 18) : Fin 2304 → Fin 256 → EReal :=
  share (blockDv (n := 256) (by norm_num) (rowBlock Q t) (rowBlock O t) K) (blockDv (n := 2304) (by norm_num) (rowBlock Q t) (rowBlock O t) K) t

variable {m c} (hQ : ∀ r, Fin1 (argQ m c r)) (hK : ∀ j, Fin1 (argK m c j))
include hQ hK

/-- After point `n` the two accumulators hold the sum of the points' shares so far. -/
theorem outs_acc : ∀ (n : ℕ) (hn : n < cfg0.N),
    (∀ j e, (outsAt0 m c n hn).2.1 (ix2 j e) = upTo (shareDk (argQ m c) (argO m c) (argK m c) (argV m c)) n j e)
    ∧ ∀ j e, (outsAt0 m c n hn).2.2 (ix2 j e) = upTo (shareDv (argQ m c) (argO m c) (argK m c)) n j e
  | 0, hn => by
    have hQ' : ∀ r, Fin1 (rowBlock (argQ m c) (pt ⟨0, hn⟩) r) := fun r => hQ _
    have hK' : ∀ j, Fin1 (mat (n := 2304) (m := 256) (iblk m c 1 ⟨0, hn⟩ : Vec Ideal S2304x256 .bf16) j) := by rw [mat1]; exact hK
    have e := outsAt0_A m c ⟨0, hn⟩ rfl (by norm_num) (by norm_num)
    dsimp only at e
    rw [e]
    refine ⟨fun j e => ?_, fun j e => ?_⟩
    · dsimp only
      rw [first_dk (hx := iblk0 m c ⟨0, hn⟩) (hQ := hQ') (hK := hK'), mat1, mat2, mat3, upTo_zero]
      exact add_context _ (by norm_num) _ j e
    · dsimp only
      rw [first_dv (hx := iblk0 m c ⟨0, hn⟩) (hQ := hQ') (hK := hK'), mat1, mat3, upTo_zero]
      exact add_context _ (by norm_num) _ j e
  | n + 1, hn => by
    have h18 : n + 1 < 18 := lt_of_lt_of_eq hn N_0
    have hQ' : ∀ r, Fin1 (rowBlock (argQ m c) (pt ⟨n + 1, hn⟩) r) := fun r => hQ _
    have hK' : ∀ j, Fin1 (mat (n := 2304) (m := 256) (iblk m c 1 ⟨n + 1, hn⟩ : Vec Ideal S2304x256 .bf16) j) := by rw [mat1]; exact hK
    obtain ⟨ih1, ih2⟩ := outs_acc n (Nat.lt_of_succ_lt hn)
    by_cases h : n + 1 < 2
    · have e := outsAt0_B m c ⟨n + 1, hn⟩ (by show ¬(n + 1) % 18 = 0; omega) h (by show ¬2 ≤ n + 1; omega)
      dsimp only at e
      rw [e]
      refine ⟨fun j e => ?_, fun j e => ?_⟩
      · dsimp only
        rw [later_dk (hx := iblk0 m c ⟨n + 1, hn⟩) (hQ := hQ') (hK := hK'), mat1, mat2, mat3, upTo_succ _ _ h18, ← ih1]
        exact add_context _ h _ j e
      · dsimp only
        rw [later_dv (hx := iblk0 m c ⟨n + 1, hn⟩) (hQ := hQ') (hK := hK'), mat1, mat3, upTo_succ _ _ h18, ← ih2]
        exact add_context _ h _ j e
    · have e := outsAt0_C m c ⟨n + 1, hn⟩ (by show ¬(n + 1) % 18 = 0; omega) h (by show 2 ≤ n + 1; omega)
      dsimp only at e
      rw [e]
      refine ⟨fun j e => ?_, fun j e => ?_⟩
      · dsimp only
        rw [latent_dk (hx := iblk0 m c ⟨n + 1, hn⟩) (hQ := hQ') (hK := hK'), mat1, mat2, mat3, upTo_succ _ _ h18, ← ih1]
        exact add_latent _ h _ j e
      · dsimp only
        rw [latent_dv (hx := iblk0 m c ⟨n + 1, hn⟩) (hQ := hQ') (hK := hK'), mat1, mat3, upTo_succ _ _ h18, ← ih2]
        exact add_latent _ h _ j e

/-- The gradient of the queries that point `t` leaves. -/
theorem outs_dq (t : Fin cfg0.N) (r : Fin 128) (e : Fin 1024) :
    (outsAt0 m c t.val t.isLt).1 (ix2 r e) = if t.val < 2
      then blockDq (n := 256) (by norm_num) (rowBlock (argQ m c) (pt t)) (rowBlock (argO m c) (pt t)) (argK m c) (argV m c) r e
      else blockDq (n := 2304) (by norm_num) (rowBlock (argQ m c) (pt t)) (rowBlock (argO m c) (pt t)) (argK m c) (argV m c) r e := by
  have h18 : t.val < 18 := lt_of_lt_of_eq t.isLt N_0
  have hQ' : ∀ r, Fin1 (rowBlock (argQ m c) (pt t) r) := fun r => hQ _
  have hK' : ∀ j, Fin1 (mat (n := 2304) (m := 256) (iblk m c 1 t : Vec Ideal S2304x256 .bf16) j) := by rw [mat1]; exact hK
  by_cases h : t.val < 2
  · rw [if_pos h]
    by_cases h0 : t.val % 18 = 0
    · rw [outsAt0_A m c t h0 h (by omega)]
      dsimp only
      rw [first_dq (hx := iblk0 m c t) (hQ := hQ') (hK := hK'), mat1, mat2, mat3]
    · rw [outsAt0_B m c t h0 h (by omega)]
      dsimp only
      rw [later_dq (hx := iblk0 m c t) (hQ := hQ') (hK := hK'), mat1, mat2, mat3]
  · rw [if_neg h, outsAt0_C m c t (by omega) h (by omega)]
    dsimp only
    rw [latent_dq (hx := iblk0 m c t) (hQ := hQ') (hK := hK'), mat1, mat2, mat3]

/-! ### The three arrays -/

/-- The gradient of the queries, row `R`, column `e`. -/
theorem array_dq (R : Fin 2304) (e : Fin 1024) :
    ((Gen.dats m 0 c).arrAt 4 cfg0.N : Vec Ideal S2304x1024 .f32) (ix2 R e) = if R.val / 128 < 2
      then blockDq (n := 256) (by norm_num) (rowBlock (argQ m c) ⟨R.val / 128, by omega⟩) (rowBlock (argO m c) ⟨R.val / 128, by omega⟩)
        (argK m c) (argV m c) ⟨R.val % 128, by omega⟩ e
      else blockDq (n := 2304) (by norm_num) (rowBlock (argQ m c) ⟨R.val / 128, by omega⟩) (rowBlock (argO m c) ⟨R.val / 128, by omega⟩)
        (argK m c) (argV m c) ⟨R.val % 128, by omega⟩ e := by
  have ht : R.val / 128 < cfg0.N := lt_of_lt_of_eq (by omega) N_0.symm
  have b := congrFun (Value.blocks4 m c ⟨R.val / 128, ht⟩ (flush0_4 _)) (ix2 ⟨R.val % 128, by omega⟩ e)
  rw [View.read_apply, Value.flushed4] at b
  have hy : (((cfg0.win 4).blk ⟨R.val / 128, ht⟩).view.emb (ix2 ⟨R.val % 128, by omega⟩ e) : S2304x1024.Idx) = ix2 R e := by
    refine funext fun a => Fin.ext ?_
    have hi := (win_index ⟨R.val / 128, ht⟩).2.2.2.2.1
    match a with
    | ⟨0, _⟩ => show win0_4.index ⟨R.val / 128, ht⟩ 0 * 128 + 1 * (R.val % 128) = R.val; rw [hi.1]; dsimp only; omega
    | ⟨1, _⟩ => show win0_4.index ⟨R.val / 128, ht⟩ 1 * 1024 + 1 * e.val = e.val; rw [hi.2]; omega
  rw [hy] at b
  refine b.trans (outs_dq hQ hK ⟨R.val / 128, ht⟩ _ e)

/-- The gradient of the keys, row `j`, column `e`: the sum of the points' shares. -/
theorem array_dk (j : Fin 2304) (e : Fin 256) :
    ((Gen.dats m 0 c).arrAt 5 cfg0.N : Vec Ideal S2304x256 .f32) (ix2 j e)
      = ∑ t, shareDk (argQ m c) (argO m c) (argK m c) (argV m c) t j e := by
  obtain ⟨t, h17⟩ : ∃ t : Fin cfg0.N, t.val = 17 := ⟨⟨17, lt_of_lt_of_eq (by norm_num) N_0.symm⟩, rfl⟩
  have hd : ∀ t t' : Fin cfg0.N, (cfg0.win 5).flush t = true → (cfg0.win 5).flush t' = true → t ≠ t' →
      Disjoint ((cfg0.win 5).blk t).view.set ((cfg0.win 5).blk t').view.set := fun t t' h h' hne => by
    have := (flush0_5 t).mp h
    have := (flush0_5 t').mp h'
    have : t.val < 18 := lt_of_lt_of_eq t.isLt N_0
    have : t'.val < 18 := lt_of_lt_of_eq t'.isLt N_0
    exact absurd (Fin.ext (by omega)) hne
  have b := congrFun ((Gen.dats m 0 c).read_blk_arrAt_eq_flushed 5 hd cfg0.N t t.isLt ((flush0_5 t).mpr (by omega))) (ix2 j e)
  rw [View.read_apply, Value.flushed5] at b
  have hy : (((cfg0.win 5).blk t).view.emb (ix2 j e) : S2304x256.Idx) = ix2 j e := by
    refine funext fun a => Fin.ext ?_
    have hi := (win_index t).2.2.2.2.2.1
    match a with
    | ⟨0, _⟩ => show win0_5.index t 0 * 2304 + 1 * j.val = j.val; rw [hi.1]; omega
    | ⟨1, _⟩ => show win0_5.index t 1 * 256 + 1 * e.val = e.val; rw [hi.2]; omega
  rw [hy] at b
  refine b.trans (((outs_acc hQ hK t.val t.isLt).1 j e).trans ?_)
  rw [h17, upTo_last]

/-- The gradient of the values, row `j`, column `e`: the sum of the points' shares. -/
theorem array_dv (j : Fin 2304) (e : Fin 256) :
    ((Gen.dats m 0 c).arrAt 6 cfg0.N : Vec Ideal S2304x256 .f32) (ix2 j e)
      = ∑ t, shareDv (argQ m c) (argO m c) (argK m c) t j e := by
  obtain ⟨t, h17⟩ : ∃ t : Fin cfg0.N, t.val = 17 := ⟨⟨17, lt_of_lt_of_eq (by norm_num) N_0.symm⟩, rfl⟩
  have hd : ∀ t t' : Fin cfg0.N, (cfg0.win 6).flush t = true → (cfg0.win 6).flush t' = true → t ≠ t' →
      Disjoint ((cfg0.win 6).blk t).view.set ((cfg0.win 6).blk t').view.set := fun t t' h h' hne => by
    have := (flush0_6 t).mp h
    have := (flush0_6 t').mp h'
    have : t.val < 18 := lt_of_lt_of_eq t.isLt N_0
    have : t'.val < 18 := lt_of_lt_of_eq t'.isLt N_0
    exact absurd (Fin.ext (by omega)) hne
  have b := congrFun ((Gen.dats m 0 c).read_blk_arrAt_eq_flushed 6 hd cfg0.N t t.isLt ((flush0_6 t).mpr (by omega))) (ix2 j e)
  rw [View.read_apply, Value.flushed6] at b
  have hy : (((cfg0.win 6).blk t).view.emb (ix2 j e) : S2304x256.Idx) = ix2 j e := by
    refine funext fun a => Fin.ext ?_
    have hi := (win_index t).2.2.2.2.2.2
    match a with
    | ⟨0, _⟩ => show win0_6.index t 0 * 2304 + 1 * j.val = j.val; rw [hi.1]; omega
    | ⟨1, _⟩ => show win0_6.index t 1 * 256 + 1 * e.val = e.val; rw [hi.2]; omega
  rw [hy] at b
  refine b.trans (((outs_acc hQ hK t.val t.isLt).2 j e).trans ?_)
  rw [h17, upTo_last]

end Cert.Attn

end
-- ==== Proof.RefRead.lean ====
module

public import proofs.«01_k».proof.Proof.KernelGroup
public import proofs.«01_k».proof.Proof.Literals
public import proofs.«01_k».proof.Proof.Gen.ReferenceIdeal.Read

/- What the reference computes: its stages at an index, as the gradient of one query's attention. The context's 256
   queries see the first 256 keys, the other 2048 queries see all 2304. -/

@[expose] public section

set_option maxRecDepth 16384

noncomputable section

namespace Cert.Attn

open Idealize.ShloMosaic Cert.ReferenceIdeal Cert.ReferenceIdeal.Read

/-- The query (or the incoming gradient) at row `R`, head group `a`, head `g` of the group. -/
def query {N : ℕ} (X : Fin N → Fin 1024 → EReal) (R : Fin N) (a : Fin 2) (g : Fin 4) (d : Fin 128) : EReal :=
  X R ⟨a.val * 512 + g.val * 128 + d.val, by omega⟩

/-- The scale as the reference writes it. -/
theorem ref_scale : Ideal.div 1 (Ideal.sqrt (Ideal.ofBits FTy.f32 1124073472#32)) = (scale : EReal) := by
  have hs : (0 : ℝ) < Real.sqrt 128 := Real.sqrt_pos.mpr (by norm_num)
  rw [ofBits_128, Ideal.sqrt_coe, if_neg (by norm_num), Ideal.div_coe hs.ne', one_mul, one_div]
  rfl

/-- The gradient of a softmax as the reference writes it, from unnormalised weights `w`: the quotient's two gradients,
    times the exponential. -/
theorem ref_softmax {n : ℕ} {q : Fin 128 → EReal} {k v : Fin n → Fin 128 → EReal} {o : Fin 128 → EReal} {E P : Fin n → EReal}
    (hP : ∀ j, P j = dprob v o j)
    (h : ∃ w : Fin n → ℝ, (∀ j, E j = w j) ∧ 0 < ∑ j, w j ∧ (∀ j, 0 < w j) ∧ ∀ j, w j / ∑ i, w i = prob q k j) (j : Fin n) :
    (Ideal.div (P j) (∑ x, E x) + ∑ _ : Fin 1, -∑ x, P x * Ideal.div 1 ((∑ x, E x) * ∑ x, E x) * E x) * E j = dscore q k v o j := by
  obtain ⟨w, hw, hl, h0, hp⟩ := h
  simp only [hw, hP, Finset.univ_unique, Finset.sum_singleton]
  rw [← coe_sum, ← EReal.coe_mul, Ideal.div_coe hl.ne', Ideal.div_coe (mul_pos hl hl).ne', ← sub_eq_add_neg,
    sub_mul_coe _ _ (h0 j).le, sum_mul_coe _ _ (h0 j).le, mul_assoc, ← EReal.coe_mul, dscore, mul_comm _ (_ - _),
    sub_mul_coe _ _ (by rw [← hp]; exact (div_pos (h0 j) hl).le), ← hp j]
  congr 1
  · congr 2; field_simp
  · rw [sum_mul_coe _ _ (div_pos (h0 j) hl).le]
    refine Finset.sum_congr rfl fun i _ => ?_
    rw [one_mul, mul_assoc, mul_assoc, mul_comm (_ : EReal) (dprob v o i), mul_assoc, ← EReal.coe_mul, ← EReal.coe_mul,
      ← hp i, ← EReal.coe_mul]
    congr 2; field_simp

/-- A quotient by the weights' sum. -/
theorem ref_prob {n : ℕ} {q : Fin 128 → EReal} {k : Fin n → Fin 128 → EReal} {E : Fin n → EReal}
    (h : ∃ w : Fin n → ℝ, (∀ j, E j = w j) ∧ 0 < ∑ j, w j ∧ (∀ j, 0 < w j) ∧ ∀ j, w j / ∑ i, w i = prob q k j) (j : Fin n) :
    Ideal.div (E j) (∑ x, E x) = (prob q k j : EReal) := by
  obtain ⟨w, hw, hl, _, hp⟩ := h
  simp only [hw]
  rw [← coe_sum, Ideal.div_coe hl.ne', ← EReal.coe_mul, ← hp, mul_one_div]

/-- The arrays of 1024 columns (queries, incoming gradient) and of 256 (keys, values) as matrices. -/
abbrev wide (x : S2304x1024.Idx → EReal) : Fin 2304 → Fin 1024 → EReal := mat x
abbrev narrow (x : S2304x256.Idx → EReal) : Fin 2304 → Fin 256 → EReal := mat x

variable {x0 : (⟨S2304x1024, .f32⟩ : BufTy).Contents (Elt Ideal)} {x1 x2 : (⟨S2304x256, .bf16⟩ : BufTy).Contents (Elt Ideal)}
  {x3 : (⟨S2304x1024, .bf16⟩ : BufTy).Contents (Elt Ideal)}

/-! ### The context's queries -/

/-- The row of query `i`. -/
def ctxRow (i : Fin 256) : Fin 2304 := ⟨i.val, by omega⟩

/-- The scaled scores. -/
theorem ctx_score (a : Fin 2) (g : Fin 4) (i : Fin 256) (j : Fin 256) : val_main_v55 (F := Ideal) x0 x1 (ix4 a g i j)
    = (∑ d, keyCols (n := 256) (by norm_num) (narrow x1) a j d * query (wide x0) (ctxRow i) a g d) * (scale : EReal) := by
  refine Eq.trans ?_ (congrArg _ ref_scale)
  pointwise [val_main_v55, val_main_v54, val_main_v53, val_main_v52, val_main_v51, val_main_v50, val_main_v48, val_main_v47, val_main_v46, val_main_v45, val_main_v44, val_main_v0, val_main_v1, val_main_cst_11, val_main_cst_12]
  rfl

/-- The greatest score of a query, from `-∞`. -/
theorem ctx_max (a : Fin 2) (g : Fin 4) (i : Fin 256) : val_main_v63 (F := Ideal) x0 x1 (ix3 a g i)
    = max ⊥ (Finset.univ.fold max ⊥ fun j => val_main_v55 (F := Ideal) x0 x1 (ix4 a g i j)) := by
  have h : val_main_v56 (F := Ideal) x0 x1 (ix3 a g i)
      = Finset.univ.fold max ⊥ fun j => val_main_v55 (F := Ideal) x0 x1 (ix4 a g i j) := by
    rw [← ofBits_negInf]
    pointwise [val_main_v56, val_main_cst_13]
  rw [val_main_v63_apply, h]
  generalize (Finset.univ.fold max ⊥ fun j => val_main_v55 (F := Ideal) x0 x1 (ix4 a g i j)) = y
  rw [← ofBits_negInf]
  pointwise [val_main_v62, val_main_cst_15]

variable (hQ : ∀ R, Fin1 (wide x0 R)) (hK : ∀ j, Fin1 (narrow x1 j))
include hQ hK

/-- The exponentials are positive real numbers, and over their sum the softmax's weights. -/
theorem ctx_weights (a : Fin 2) (g : Fin 4) (i : Fin 256) : ∃ w : Fin 256 → ℝ,
    (∀ j, val_main_v76 (F := Ideal) x0 x1 (ix4 a g i j) = w j) ∧ 0 < ∑ j, w j ∧ (∀ j, 0 < w j)
    ∧ ∀ j, w j / ∑ i, w i = prob (query (wide x0) (ctxRow i) a g) (keyCols (by norm_num) (narrow x1) a) j := by
  obtain ⟨w, hw, h⟩ := weights_exp (n := 256) (by norm_num) (q := query (wide x0) (ctxRow i) a g) (k := keyCols (by norm_num) (narrow x1) a)
    (fun d => hQ _ _) (fun j d => hK _ _) (s := fun j => val_main_v55 (F := Ideal) x0 x1 (ix4 a g i j)) (ctx_score a g i)
  refine ⟨w, fun j => (Eq.trans ?_ (hw j)), h⟩
  rw [← ctx_max]
  pointwise [val_main_v76, val_main_v75, val_main_v74, val_main_v73]

/-- The softmax's weights. -/
theorem ctx_prob (a : Fin 2) (g : Fin 4) (i : Fin 256) (j : Fin 256) : val_main_v80 (F := Ideal) x0 x1 (ix4 a g i j)
    = (prob (query (wide x0) (ctxRow i) a g) (keyCols (by norm_num) (narrow x1) a) j : EReal) := by
  refine Eq.trans ?_ (ref_prob (ctx_weights hQ hK a g i) j)
  pointwise [val_main_v80, val_main_v79, val_main_v78, val_main_v77, val_main_cst_21]

omit hQ hK in
/-- The gradient of the weights. -/
theorem ctx_dprob (a : Fin 2) (g : Fin 4) (i : Fin 256) (j : Fin 256) : val_main_v92 (F := Ideal) x2 x3 (ix4 a g i j)
    = dprob (keyCols (by norm_num) (narrow x2) a) (query (wide x3) (ctxRow i) a g) j := by
  pointwise [val_main_v92, val_main_v91, val_main_v90, val_main_v88, val_main_v2, val_main_v49, val_main_v46, val_main_v1]
  rfl

/-- The gradient of the products of queries and keys. -/
theorem ctx_dscore (a : Fin 2) (g : Fin 4) (i : Fin 256) (j : Fin 256) : val_main_v108 (F := Ideal) x0 x1 x2 x3 (ix4 a g i j)
    = dscore (query (wide x0) (ctxRow i) a g) (keyCols (by norm_num) (narrow x1) a) (keyCols (by norm_num) (narrow x2) a) (query (wide x3) (ctxRow i) a g) j
      * (scale : EReal) := by
  refine Eq.trans ?_ (congrArg₂ (· * ·) (ref_softmax (ctx_dprob a g i) (ctx_weights hQ hK a g i) j) ref_scale)
  pointwise [val_main_v108, val_main_v107, val_main_v53, val_main_v52, val_main_cst_11, val_main_cst_12, val_main_v106, val_main_v105, val_main_v104, val_main_v103, val_main_v102, val_main_v101, val_main_v100, val_main_v99, val_main_v98, val_main_v97, val_main_v96, val_main_v95, val_main_v83, val_main_v82, val_main_v81, val_main_v78, val_main_v77, val_main_cst_21, val_main_cst_22, val_main_cst_23, val_main_cst_24]

/-- The keys' gradient from these queries. -/
theorem ctx_dk (j : Fin 2304) (e : Fin 256) : val_main_v118 (F := Ideal) x0 x1 x2 x3 (ix2 j e)
    = if h : j.val < 256 then ∑ i : Fin 256, ∑ g : Fin 4, dkRow (query (wide x0) (ctxRow i) ⟨e.val / 128, by omega⟩ g)
        (keyCols (n := 256) (by norm_num) (narrow x1) ⟨e.val / 128, by omega⟩) (keyCols (by norm_num) (narrow x2) ⟨e.val / 128, by omega⟩)
        (query (wide x3) (ctxRow i) ⟨e.val / 128, by omega⟩ g) ⟨j.val, h⟩ ⟨e.val % 128, by omega⟩ else 0 := by
  have hs := fun i g h => ctx_dscore (x0 := x0) (x1 := x1) (x2 := x2) (x3 := x3) hQ hK ⟨e.val / 128, by omega⟩ g i ⟨j.val, h⟩
  simp only [dkRow, mul_comm (query _ _ _ _ _), ← mul_assoc, ← hs]
  pointwise [val_main_v118, val_main_v115, val_main_v113, val_main_v112, val_main_v109, val_main_v47, val_main_v44, val_main_cst_26]
  rfl

/-- The values' gradient from these queries. -/
theorem ctx_dv (j : Fin 2304) (e : Fin 256) : val_main_v117 (F := Ideal) x0 x1 x3 (ix2 j e)
    = if h : j.val < 256 then ∑ g : Fin 4, ∑ i : Fin 256, dvRow (query (wide x0) (ctxRow i) ⟨e.val / 128, by omega⟩ g)
        (keyCols (n := 256) (by norm_num) (narrow x1) ⟨e.val / 128, by omega⟩)
        (query (wide x3) (ctxRow i) ⟨e.val / 128, by omega⟩ g) ⟨j.val, h⟩ ⟨e.val % 128, by omega⟩ else 0 := by
  have hs := fun i g h => ctx_prob (x0 := x0) (x1 := x1) hQ hK ⟨e.val / 128, by omega⟩ g i ⟨j.val, h⟩
  simp only [dvRow, ← hs]
  simp only [mul_comm (val_main_v80 (F := Ideal) x0 x1 _)]
  pointwise [val_main_v117, val_main_v114, val_main_v94, val_main_v93, val_main_v91, val_main_v90, val_main_v88, val_main_v2, val_main_cst_25]
  rfl

/-- The queries' gradient: a query outside these has none here. -/
theorem ctx_dq (R : Fin 2304) (e : Fin 1024) : val_main_v119 (F := Ideal) x0 x1 x2 x3 (ix2 R e)
    = if R.val < 256 then dqRow (query (wide x0) R ⟨e.val / 512, by omega⟩ ⟨e.val / 128 % 4, by omega⟩) (keyCols (n := 256) (by norm_num) (narrow x1) ⟨e.val / 512, by omega⟩)
        (keyCols (by norm_num) (narrow x2) ⟨e.val / 512, by omega⟩) (query (wide x3) R ⟨e.val / 512, by omega⟩ ⟨e.val / 128 % 4, by omega⟩) ⟨e.val % 128, by omega⟩
      else 0 := by
  have hs := fun (h : R.val < 256) j => ctx_dscore (x0 := x0) (x1 := x1) (x2 := x2) (x3 := x3) hQ hK ⟨e.val / 512, by omega⟩ ⟨e.val / 128 % 4, by omega⟩ ⟨R.val, by omega⟩ j
  have hr : ∀ h : R.val < 256, ctxRow ⟨R.val, by omega⟩ = R := fun h => Fin.ext (by show R.val = R.val; omega)
  by_cases h : R.val < 256
  · rw [if_pos h, dqRow, sum_mul_coe _ _ scale_pos.le]
    simp only [mul_right_comm _ _ (scale : EReal)]
    simp only [hr h] at hs
    simp only [← hs h]
    pointwise [val_main_v119, val_main_v116, val_main_v111, val_main_v110, val_main_v109, val_main_v48, val_main_v45, val_main_v0, val_main_cst_27]
    rw [dif_pos h]
    rfl
  · rw [if_neg h]
    pointwise [val_main_v119, val_main_v116, val_main_v111, val_main_v110, val_main_v109, val_main_v48, val_main_v45, val_main_v0, val_main_cst_27]
    rw [dif_neg h]

omit hQ hK

/-! ### The latent queries -/

/-- The row of query `i`. -/
def latRow (i : Fin 2048) : Fin 2304 := ⟨256 + i.val, by omega⟩

/-- The scaled scores. -/
theorem lat_score (a : Fin 2) (g : Fin 4) (i : Fin 2048) (j : Fin 2304) : val_main_v12 (F := Ideal) x0 x1 (ix4 a g i j)
    = (∑ d, keyCols (n := 2304) (by norm_num) (narrow x1) a j d * query (wide x0) (latRow i) a g d) * (scale : EReal) := by
  refine Eq.trans ?_ (congrArg _ ref_scale)
  pointwise [val_main_v12, val_main_v11, val_main_v10, val_main_v9, val_main_v8, val_main_v7, val_main_v6, val_main_v5, val_main_v4, val_main_v3, val_main_v0, val_main_v1, val_main_cst, val_main_cst_0]
  rfl

/-- The greatest score of a query, from `-∞`. -/
theorem lat_max (a : Fin 2) (g : Fin 4) (i : Fin 2048) : val_main_v20 (F := Ideal) x0 x1 (ix3 a g i)
    = max ⊥ (Finset.univ.fold max ⊥ fun j => val_main_v12 (F := Ideal) x0 x1 (ix4 a g i j)) := by
  have h : val_main_v13 (F := Ideal) x0 x1 (ix3 a g i)
      = Finset.univ.fold max ⊥ fun j => val_main_v12 (F := Ideal) x0 x1 (ix4 a g i j) := by
    rw [← ofBits_negInf]
    pointwise [val_main_v13, val_main_cst_1]
  rw [val_main_v20_apply, h]
  generalize (Finset.univ.fold max ⊥ fun j => val_main_v12 (F := Ideal) x0 x1 (ix4 a g i j)) = y
  rw [← ofBits_negInf]
  pointwise [val_main_v19, val_main_cst_3]

variable (hQ : ∀ R, Fin1 (wide x0 R)) (hK : ∀ j, Fin1 (narrow x1 j))
include hQ hK

/-- The exponentials are positive real numbers, and over their sum the softmax's weights. -/
theorem lat_weights (a : Fin 2) (g : Fin 4) (i : Fin 2048) : ∃ w : Fin 2304 → ℝ,
    (∀ j, val_main_v33 (F := Ideal) x0 x1 (ix4 a g i j) = w j) ∧ 0 < ∑ j, w j ∧ (∀ j, 0 < w j)
    ∧ ∀ j, w j / ∑ i, w i = prob (query (wide x0) (latRow i) a g) (keyCols (by norm_num) (narrow x1) a) j := by
  obtain ⟨w, hw, h⟩ := weights_exp (n := 2304) (by norm_num) (q := query (wide x0) (latRow i) a g) (k := keyCols (by norm_num) (narrow x1) a)
    (fun d => hQ _ _) (fun j d => hK _ _) (s := fun j => val_main_v12 (F := Ideal) x0 x1 (ix4 a g i j)) (lat_score a g i)
  refine ⟨w, fun j => (Eq.trans ?_ (hw j)), h⟩
  rw [← lat_max]
  pointwise [val_main_v33, val_main_v32, val_main_v31, val_main_v30]

/-- The softmax's weights. -/
theorem lat_prob (a : Fin 2) (g : Fin 4) (i : Fin 2048) (j : Fin 2304) : val_main_v37 (F := Ideal) x0 x1 (ix4 a g i j)
    = (prob (query (wide x0) (latRow i) a g) (keyCols (by norm_num) (narrow x1) a) j : EReal) := by
  refine Eq.trans ?_ (ref_prob (lat_weights hQ hK a g i) j)
  pointwise [val_main_v37, val_main_v36, val_main_v35, val_main_v34, val_main_cst_9]

omit hQ hK in
/-- The gradient of the weights. -/
theorem lat_dprob (a : Fin 2) (g : Fin 4) (i : Fin 2048) (j : Fin 2304) : val_main_v122 (F := Ideal) x2 x3 (ix4 a g i j)
    = dprob (keyCols (by norm_num) (narrow x2) a) (query (wide x3) (latRow i) a g) j := by
  pointwise [val_main_v122, val_main_v121, val_main_v120, val_main_v89, val_main_v2, val_main_v6, val_main_v1]
  rfl

/-- The gradient of the products of queries and keys. -/
theorem lat_dscore (a : Fin 2) (g : Fin 4) (i : Fin 2048) (j : Fin 2304) : val_main_v138 (F := Ideal) x0 x1 x2 x3 (ix4 a g i j)
    = dscore (query (wide x0) (latRow i) a g) (keyCols (by norm_num) (narrow x1) a) (keyCols (by norm_num) (narrow x2) a) (query (wide x3) (latRow i) a g) j
      * (scale : EReal) := by
  refine Eq.trans ?_ (congrArg₂ (· * ·) (ref_softmax (lat_dprob a g i) (lat_weights hQ hK a g i) j) ref_scale)
  pointwise [val_main_v138, val_main_v137, val_main_v10, val_main_v9, val_main_cst, val_main_cst_0, val_main_v136, val_main_v135, val_main_v134, val_main_v133, val_main_v132, val_main_v131, val_main_v130, val_main_v129, val_main_v128, val_main_v127, val_main_v126, val_main_v125, val_main_v40, val_main_v39, val_main_v38, val_main_v35, val_main_v34, val_main_cst_9, val_main_cst_10, val_main_cst_28, val_main_cst_29]

/-- The keys' gradient from these queries. -/
theorem lat_dk (j : Fin 2304) (e : Fin 256) : val_main_v146 (F := Ideal) x0 x1 x2 x3 (ix2 j e)
    = ∑ i : Fin 2048, ∑ g : Fin 4, dkRow (query (wide x0) (latRow i) ⟨e.val / 128, by omega⟩ g)
        (keyCols (n := 2304) (by norm_num) (narrow x1) ⟨e.val / 128, by omega⟩) (keyCols (by norm_num) (narrow x2) ⟨e.val / 128, by omega⟩)
        (query (wide x3) (latRow i) ⟨e.val / 128, by omega⟩ g) j ⟨e.val % 128, by omega⟩ := by
  have hs := fun i g => lat_dscore (x0 := x0) (x1 := x1) (x2 := x2) (x3 := x3) hQ hK ⟨e.val / 128, by omega⟩ g i j
  simp only [dkRow, mul_comm (query _ _ _ _ _), ← mul_assoc, ← hs]
  pointwise [val_main_v146, val_main_v143, val_main_v142, val_main_v139, val_main_v4, val_main_v3]
  rfl

/-- The values' gradient from these queries. -/
theorem lat_dv (j : Fin 2304) (e : Fin 256) : val_main_v144 (F := Ideal) x0 x1 x3 (ix2 j e)
    = ∑ g : Fin 4, ∑ i : Fin 2048, dvRow (query (wide x0) (latRow i) ⟨e.val / 128, by omega⟩ g)
        (keyCols (n := 2304) (by norm_num) (narrow x1) ⟨e.val / 128, by omega⟩)
        (query (wide x3) (latRow i) ⟨e.val / 128, by omega⟩ g) j ⟨e.val % 128, by omega⟩ := by
  have hs := fun i g => lat_prob (x0 := x0) (x1 := x1) hQ hK ⟨e.val / 128, by omega⟩ g i j
  simp only [dvRow, ← hs]
  simp only [mul_comm (val_main_v37 (F := Ideal) x0 x1 _)]
  pointwise [val_main_v144, val_main_v124, val_main_v123, val_main_v121, val_main_v120, val_main_v89, val_main_v2]
  rfl

/-- The queries' gradient: a query outside these has none here. -/
theorem lat_dq (R : Fin 2304) (e : Fin 1024) : val_main_v149 (F := Ideal) x0 x1 x2 x3 (ix2 R e)
    = if 256 ≤ R.val then dqRow (query (wide x0) R ⟨e.val / 512, by omega⟩ ⟨e.val / 128 % 4, by omega⟩) (keyCols (n := 2304) (by norm_num) (narrow x1) ⟨e.val / 512, by omega⟩)
        (keyCols (by norm_num) (narrow x2) ⟨e.val / 512, by omega⟩) (query (wide x3) R ⟨e.val / 512, by omega⟩ ⟨e.val / 128 % 4, by omega⟩) ⟨e.val % 128, by omega⟩
      else 0 := by
  have hs := fun (h : 256 ≤ R.val) j => lat_dscore (x0 := x0) (x1 := x1) (x2 := x2) (x3 := x3) hQ hK ⟨e.val / 512, by omega⟩ ⟨e.val / 128 % 4, by omega⟩ ⟨R.val - 256, by omega⟩ j
  have hr : ∀ h : 256 ≤ R.val, latRow ⟨R.val - 256, by omega⟩ = R := fun h => Fin.ext (by show 256 + (R.val - 256) = R.val; omega)
  by_cases h : 256 ≤ R.val
  · rw [if_pos h, dqRow, sum_mul_coe _ _ scale_pos.le]
    simp only [mul_right_comm _ _ (scale : EReal)]
    simp only [hr h] at hs
    simp only [← hs h]
    pointwise [val_main_v149, val_main_v148, val_main_v141, val_main_v140, val_main_v139, val_main_v5, val_main_v0, val_main_cst_30]
    rw [dif_pos ⟨h, by omega⟩]
    rfl
  · rw [if_neg h]
    pointwise [val_main_v149, val_main_v148, val_main_v141, val_main_v140, val_main_v139, val_main_v5, val_main_v0, val_main_cst_30]
    rw [dif_neg fun h' => h h'.1]

omit hQ hK

end Cert.Attn

end
-- ==== Proof.Equation.lean ====
module

public import proofs.«01_k».proof.Proof.KernelArray
public import proofs.«01_k».proof.Proof.RefRead

/- The kernel's three result arrays are the reference's, where the queries and keys are finite: the kernel's sum over
   blocks of 128 rows and 512 (head, row) pairs is the reference's sum over rows and heads. -/

@[expose] public section

set_option maxRecDepth 16384

noncomputable section

namespace Cert.Attn

open Idealize.ShloMosaic Idealize.ShloMosaic.TcCoe

/-- A sum over `a * b` positions, as a sum over `a` blocks of `b`. -/
theorem sum_blocks {a b : ℕ} (f : Fin (a * b) → EReal) (G : Fin a → Fin b → EReal)
    (h : ∀ i j (hh : i.val * b + j.val < a * b), f ⟨i.val * b + j.val, hh⟩ = G i j) : ∑ x, f x = ∑ i, ∑ j, G i j := by
  rw [← finProdFinEquiv.sum_comp, Fintype.sum_prod_type]
  refine Finset.sum_congr rfl fun i _ => Finset.sum_congr rfl fun j _ => ?_
  have e : (finProdFinEquiv (i, j)).val = i.val * b + j.val := by
    rw [finProdFinEquiv_apply_val]; dsimp only; rw [mul_comm b, add_comm]
  rw [← h i j (e ▸ (finProdFinEquiv (i, j)).isLt)]
  exact congrArg f (Fin.ext e)

/-- The eighteen blocks of 128 rows, two of them the context's, and in each the four heads' rows one below another: the
    rows of the context and those after it, each with its four heads. -/
theorem sum_points (S T : Fin 2304 → Fin 4 → EReal) :
    ∑ t : Fin 18, ∑ x : Fin 512, (if t.val < 2 then S else T) ⟨t.val * 128 + x.val % 128, by omega⟩ ⟨x.val / 128, by omega⟩
      = ∑ i : Fin 256, ∑ g, S ⟨i.val, by omega⟩ g + ∑ i : Fin 2048, ∑ g, T ⟨256 + i.val, by omega⟩ g := by
  have hx : ∀ t : Fin 18, ∑ x : Fin 512, (if t.val < 2 then S else T) ⟨t.val * 128 + x.val % 128, by omega⟩ ⟨x.val / 128, by omega⟩
      = ∑ r : Fin 128, ∑ g : Fin 4, (if t.val < 2 then S else T) ⟨t.val * 128 + r.val, by omega⟩ g := fun t => by
    rw [Finset.sum_comm]
    refine sum_blocks (a := 4) (b := 128) _ _ fun g r _ => ?_
    have e1 : (⟨t.val * 128 + (g.val * 128 + r.val) % 128, by omega⟩ : Fin 2304) = ⟨t.val * 128 + r.val, by omega⟩ := Fin.ext (by dsimp only; omega)
    have e2 : (⟨(g.val * 128 + r.val) / 128, by omega⟩ : Fin 4) = g := Fin.ext (by dsimp only; omega)
    exact congrArg₂ (if t.val < 2 then S else T) e1 e2
  rw [Finset.sum_congr rfl fun t _ => hx t, show (Finset.univ : Finset (Fin 18)) = (Finset.univ : Finset (Fin (2 + 16))) from rfl,
    Fin.sum_univ_add]
  congr 1
  · symm
    refine sum_blocks (a := 2) (b := 128) _ _ fun t r _ => ?_
    rw [if_pos (by show t.val < 2; omega)]; rfl
  · symm
    refine sum_blocks (a := 16) (b := 128) _ _ fun t r _ => ?_
    rw [if_neg (by show ¬ 2 + t.val < 2; omega)]
    refine Finset.sum_congr rfl fun g _ => congrFun (congrArg T (Fin.ext ?_)) g
    show 256 + (t.val * 128 + r.val) = (2 + t.val) * 128 + r.val
    omega

/-- The kernel's row of a head in a block is the reference's query. -/
theorem headRow_block (X : Fin 2304 → Fin 1024 → EReal) (t : Fin 18) (a : Fin 2) (x : Fin 512) :
    headRow (rowBlock X t) a x = query X ⟨t.val * 128 + x.val % 128, by omega⟩ a ⟨x.val / 128, by omega⟩ := rfl

/-- The points' shares of the keys' gradient, as a sum over the rows and the heads. -/
theorem sum_shareDk (Q O : Fin 2304 → Fin 1024 → EReal) (K V : Fin 2304 → Fin 256 → EReal) (j : Fin 2304) (e : Fin 256) :
    ∑ t, shareDk Q O K V t j e = (if h : j.val < 256 then ∑ i : Fin 256, ∑ g : Fin 4,
        dkRow (query Q (ctxRow i) ⟨e.val / 128, by omega⟩ g) (keyCols (n := 256) (by norm_num) K ⟨e.val / 128, by omega⟩)
          (keyCols (by norm_num) V ⟨e.val / 128, by omega⟩) (query O (ctxRow i) ⟨e.val / 128, by omega⟩ g) ⟨j.val, h⟩ ⟨e.val % 128, by omega⟩ else 0)
      + ∑ i : Fin 2048, ∑ g : Fin 4,
        dkRow (query Q (latRow i) ⟨e.val / 128, by omega⟩ g) (keyCols (n := 2304) (by norm_num) K ⟨e.val / 128, by omega⟩)
          (keyCols (by norm_num) V ⟨e.val / 128, by omega⟩) (query O (latRow i) ⟨e.val / 128, by omega⟩ g) j ⟨e.val % 128, by omega⟩ := by
  have key := sum_points
    (fun R g => if h : j.val < 256 then dkRow (query Q R ⟨e.val / 128, by omega⟩ g) (keyCols (n := 256) (by norm_num) K ⟨e.val / 128, by omega⟩)
      (keyCols (by norm_num) V ⟨e.val / 128, by omega⟩) (query O R ⟨e.val / 128, by omega⟩ g) ⟨j.val, h⟩ ⟨e.val % 128, by omega⟩ else 0)
    (fun R g => dkRow (query Q R ⟨e.val / 128, by omega⟩ g) (keyCols (n := 2304) (by norm_num) K ⟨e.val / 128, by omega⟩)
      (keyCols (by norm_num) V ⟨e.val / 128, by omega⟩) (query O R ⟨e.val / 128, by omega⟩ g) j ⟨e.val % 128, by omega⟩)
  refine Eq.trans (Finset.sum_congr rfl fun t _ => ?_) (key.trans (congrArg₂ (· + ·) ?_ rfl))
  · unfold shareDk share blockDk
    simp only [headRow_block]
    split_ifs <;> simp
  · split_ifs
    · rfl
    · simp

/-- The points' shares of the values' gradient, as a sum over the rows and the heads. -/
theorem sum_shareDv (Q O : Fin 2304 → Fin 1024 → EReal) (K : Fin 2304 → Fin 256 → EReal) (j : Fin 2304) (e : Fin 256) :
    ∑ t, shareDv Q O K t j e = (if h : j.val < 256 then ∑ g : Fin 4, ∑ i : Fin 256,
        dvRow (query Q (ctxRow i) ⟨e.val / 128, by omega⟩ g) (keyCols (n := 256) (by norm_num) K ⟨e.val / 128, by omega⟩)
          (query O (ctxRow i) ⟨e.val / 128, by omega⟩ g) ⟨j.val, h⟩ ⟨e.val % 128, by omega⟩ else 0)
      + ∑ g : Fin 4, ∑ i : Fin 2048,
        dvRow (query Q (latRow i) ⟨e.val / 128, by omega⟩ g) (keyCols (n := 2304) (by norm_num) K ⟨e.val / 128, by omega⟩)
          (query O (latRow i) ⟨e.val / 128, by omega⟩ g) j ⟨e.val % 128, by omega⟩ := by
  have key := sum_points
    (fun R g => if h : j.val < 256 then dvRow (query Q R ⟨e.val / 128, by omega⟩ g) (keyCols (n := 256) (by norm_num) K ⟨e.val / 128, by omega⟩)
      (query O R ⟨e.val / 128, by omega⟩ g) ⟨j.val, h⟩ ⟨e.val % 128, by omega⟩ else 0)
    (fun R g => dvRow (query Q R ⟨e.val / 128, by omega⟩ g) (keyCols (n := 2304) (by norm_num) K ⟨e.val / 128, by omega⟩)
      (query O R ⟨e.val / 128, by omega⟩ g) j ⟨e.val % 128, by omega⟩)
  refine Eq.trans (Finset.sum_congr rfl fun t _ => ?_) (key.trans (congrArg₂ (· + ·) ?_ Finset.sum_comm))
  · unfold shareDv share blockDv
    simp only [headRow_block]
    split_ifs <;> simp
  · rw [Finset.sum_comm]
    split_ifs
    · rfl
    · simp

open Cert.ReferenceIdeal.Read

variable {m : (ℓ : Loc Cert.KernelIdeal.nD Cert.KernelIdeal.τ Cert.KernelIdeal.sig) → Buf (Elt Ideal) ℓ} {c : Dev Cert.KernelIdeal.nD}
  (hQ : ∀ r, Fin1 (argQ m c r)) (hK : ∀ j, Fin1 (argK m c j))
include hQ hK

/-- The gradient of the queries. -/
theorem eq_dq (R : Fin 2304) (e : Fin 1024) :
    ((Cert.KernelIdeal.Gen.dats m 0 c).arrAt 4 Cert.KernelIdeal.cfg0.N : Vec Ideal Cert.KernelIdeal.S2304x1024 .f32) (ix2 R e)
      = val_main_v150 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3)) (ix2 R e) := by
  have hh : ∀ X : Fin 2304 → Fin 1024 → EReal, headRow (rowBlock X ⟨R.val / 128, by omega⟩) ⟨e.val / 512, by omega⟩ ⟨e.val % 512 / 128 * 128 + R.val % 128, by omega⟩
      = query X R ⟨e.val / 512, by omega⟩ ⟨e.val / 128 % 4, by omega⟩ := fun X => by
    rw [headRow_block]
    congr 1
    · apply Fin.ext; dsimp only; omega
    · apply Fin.ext; dsimp only; omega
  rw [array_dq hQ hK, val_main_v150_apply, ctx_dq hQ hK, lat_dq hQ hK]
  unfold blockDq
  simp only [hh]
  by_cases h : R.val < 256
  · rw [if_pos (by omega), if_pos h, if_neg (by omega)]
    exact (add_zero (M := EReal) _).symm
  · rw [if_neg (by omega), if_neg h, if_pos (by omega)]
    exact (zero_add (M := EReal) _).symm

/-- The gradient of the keys. -/
theorem eq_dk (j : Fin 2304) (e : Fin 256) :
    ((Cert.KernelIdeal.Gen.dats m 0 c).arrAt 5 Cert.KernelIdeal.cfg0.N : Vec Ideal Cert.KernelIdeal.S2304x256 .f32) (ix2 j e)
      = val_main_v147 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg2))
          (m ((c : Thread Cert.KernelIdeal.nD Cert.KernelIdeal.τ).loc Cert.KernelIdeal.main_arg3)) (ix2 j e) := by
  rw [array_dk hQ hK, val_main_v147_apply, ctx_dk hQ hK, lat_dk hQ hK]
  exact sum_shareDk _ _ _ _ j e

/-- The gradient of the values. -/
theorem eq_dv (j : Fin 2304) (e : Fin 256) :
    ((Cert.KernelIdeal.Gen.dats m 0 c).arrAt 6 Cert.KernelIdeal.cfg0.N : Vec Ideal Cert.KernelIdeal.S2304x256 .f32) (ix2 j e)
      = val_main_v145 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg1))
          (m ((c : Thread Cert.KernelIdeal.nD Cert.KernelIdeal.τ).loc Cert.KernelIdeal.main_arg3)) (ix2 j e) := by
  rw [array_dv hQ hK, val_main_v145_apply, ctx_dv hQ hK, lat_dv hQ hK]
  exact sum_shareDv _ _ _ j e

end Cert.Attn

end
-- ==== Proof.Algebraic.lean ====
module

public import proofs.«01_k».proof.Proof.Frames
public import proofs.«01_k».proof.Proof.Equation

/- The attention gradient: the idealized kernel and the reference leave the same three arrays. -/

@[expose] public section

set_option maxRecDepth 16384

noncomputable section

namespace Cert.Attn

open Idealize.ShloMosaic Idealize.ShloMosaic.TcCoe Idealize.SL.Sem

/-- A number whose absolute value is below `+∞` is finite. -/
theorem finite_of_lt {x : EReal} (h : FloatOps.cmpf (F := Ideal) (φ := .f32) .olt (max x (-x)) ⊤ = 1#1) : x ≠ ⊥ ∧ x ≠ ⊤ := by
  constructor <;> rintro rfl <;> simp [FloatOps.cmpf, Ideal.cmp] at h

/-- The precondition says that no query and no key is infinite. -/
theorem finite_args {m : (ℓ : Loc Cert.KernelIdeal.nD Cert.KernelIdeal.τ Cert.KernelIdeal.sig) → Buf (Elt Ideal) ℓ}
    (h : Cert.Pre_KernelIdeal_finite (hPre_finite := AttnClaims.preFacts) m) (c : Dev Cert.KernelIdeal.nD) :
    (∀ r, Fin1 (argQ m c r)) ∧ ∀ j, Fin1 (argK m c j) := by
  refine ⟨fun r d => finite_of_lt ?_, fun j d => finite_of_lt ?_⟩
  · rw [← ofBits_posInf]
    exact congrFun (h c).1 (ix2 r d)
  · rw [← ofBits_posInf]
    exact congrFun (h c).2 (ix2 j d)

/-- Where the queries and keys are finite, the kernel's gradients of the queries, the keys and the values are the
    reference's. -/
theorem algebraic : Cert.algebraic_KernelIdeal_ReferenceIdeal_pre_finite (hPre_finite := AttnClaims.preFacts) := by
  intro m g m' g' hpre hin
  refine ⟨_, _, _, Cert.KernelIdeal.Value.run_blocks m g, (θ_run Cert.ReferenceIdeal.defs _ _).mono (fun r h c => ?_)
    (Cert.ReferenceIdeal.Value.run (F := Ideal) m' g')⟩
  obtain ⟨h0, h1, h2, hargs⟩ := h c
  obtain ⟨hQ, hK⟩ := finite_args hpre c
  obtain ⟨a0, a1, a2, a3⟩ := hin c
  refine ⟨(h0.trans (Cert.ReferenceIdeal.Read.val_main_v150_eq _)).trans ?_, (h1.trans (Cert.ReferenceIdeal.Read.val_main_v147_eq _)).trans ?_,
    (h2.trans (Cert.ReferenceIdeal.Read.val_main_v145_eq _)).trans ?_, hargs⟩
  · rw [StableHlo.launchContents_devRef, StableHlo.launchContents_devRef, StableHlo.launchContents_devRef, StableHlo.launchContents_devRef,
      a0, a1, a2, a3]
    funext i
    rw [eq_ix2 i]
    exact (eq_dq hQ hK (i 0) (i 1)).symm
  · rw [StableHlo.launchContents_devRef, StableHlo.launchContents_devRef, StableHlo.launchContents_devRef, StableHlo.launchContents_devRef,
      a0, a1, a2, a3]
    funext i
    rw [eq_ix2 i]
    exact (eq_dk hQ hK (i 0) (i 1)).symm
  · rw [StableHlo.launchContents_devRef, StableHlo.launchContents_devRef, StableHlo.launchContents_devRef, a0, a1, a3]
    funext i
    rw [eq_ix2 i]
    exact (eq_dv hQ hK (i 0) (i 1)).symm

end Cert.Attn

end
-- ==== Proof.Silu.lean ====
module

public import proofs.«01_k».proof.Proof.Literals

/- The derivative of `g ↦ g · σ(g)` as the SwiGLU's gradient writes it, at finite numbers. -/

@[expose] public section

noncomputable section

namespace Cert.Silu

open Idealize.ShloMosaic

/-- A product of finite numbers is finite. -/
theorem mul_real {x y : EReal} (hx : x ≠ ⊥ ∧ x ≠ ⊤) (hy : y ≠ ⊥ ∧ y ≠ ⊤) : x * y ≠ ⊥ ∧ x * y ≠ ⊤ := by
  lift x to ℝ using hx.symm
  lift y to ℝ using hy.symm
  rw [← EReal.coe_mul]
  exact ⟨EReal.coe_ne_bot _, EReal.coe_ne_top _⟩

/-- A sum of two finite numbers is finite. -/
theorem add_real {x y : EReal} (hx : x ≠ ⊥ ∧ x ≠ ⊤) (hy : y ≠ ⊥ ∧ y ≠ ⊤) : x + y ≠ ⊥ ∧ x + y ≠ ⊤ := by
  lift x to ℝ using hx.symm
  lift y to ℝ using hy.symm
  rw [← EReal.coe_add]
  exact ⟨EReal.coe_ne_bot _, EReal.coe_ne_top _⟩

/-- A finite sum of finite numbers is finite. -/
theorem sum_real {ι : Type} (s : Finset ι) (f : ι → EReal) (h : ∀ i ∈ s, f i ≠ ⊥ ∧ f i ≠ ⊤) :
    ∑ i ∈ s, f i ≠ ⊥ ∧ ∑ i ∈ s, f i ≠ ⊤ := by
  have e : ∑ i ∈ s, f i = ((∑ i ∈ s, (f i).toReal : ℝ) : EReal) := by
    rw [show ((∑ i ∈ s, (f i).toReal : ℝ) : EReal) = ∑ i ∈ s, ((f i).toReal : EReal) from map_sum (⟨⟨Real.toEReal, rfl⟩, EReal.coe_add⟩ : ℝ →+ EReal) _ _]
    exact Finset.sum_congr rfl fun i hi => (EReal.coe_toReal (h i hi).2 (h i hi).1).symm
  rw [e]
  exact ⟨EReal.coe_ne_bot _, EReal.coe_ne_top _⟩

/-- The product rule for `g · σ(g)`, applied to a factor `t`, against its factored form `t · σ · (1 + g · (1 - σ))`. -/
theorem product_rule {t g : EReal} (ht : t ≠ ⊥ ∧ t ≠ ⊤) (hg : g ≠ ⊥ ∧ g ≠ ⊤) :
    t * Ideal.div 1 (1 + Ideal.exp (-g)) + g * t * (Ideal.div 1 (1 + Ideal.exp (-g)) * (1 - Ideal.div 1 (1 + Ideal.exp (-g))))
      = t * Ideal.logistic g * (1 + g * (1 - Ideal.logistic g)) := by
  show t * Ideal.logistic g + g * t * (Ideal.logistic g * (1 - Ideal.logistic g)) = _
  lift t to ℝ using ht.symm
  lift g to ℝ using hg.symm
  rw [Ideal.logistic_coe]
  norm_cast
  ring

end Cert.Silu

end
-- ==== Proof.FfDown.lean ====
module

public import proofs.«01_k».proof.Defs
public import proofs.«01_k».proof.Proof.Gen.FfDown.Frame
public import proofs.«01_k».proof.Proof.Gen.FfDownIdeal.Value
public import proofs.«01_k».proof.Proof.Gen.FfDownReferenceIdeal.Run
public import proofs.«01_k».proof.Proof.Gen.FfDownReferenceIdeal.Read
public import proofs.«01_k».proof.Proof.Silu
public import Idealize.ShloMosaic.Lib.Claim
public import Idealize.ShloMosaic.Lib.Pointwise
public import Idealize.ShloMosaic.Lib.Pipeline.ValueKit.Basic

/- The gradient of the SwiGLU's two pre-activations: the incoming gradient through the last weight matrix, the gate's and
   the other factor's derivatives.  Kernel and reference. -/

@[expose] public section

set_option maxRecDepth 16384

noncomputable section

namespace Cert.FfDownProof

open Idealize.ShloMosaic Idealize.ShloMosaic.TcCoe Idealize.SL.Sem Cert.FfDownIdeal Cert.FfDownIdeal.Gen

/-- The gradient of the activation: a row of the incoming gradient against a row of the weight matrix, kept in four
    shards of 1408 rows. -/
def dact (d : Vec Ideal S2304x2048 .bf16) (w : Vec Ideal S4x1408x2048 .bf16) (r : Fin 2304) (j : Fin 5632) : EReal :=
  ∑ n : Fin 2048, d (ix2 r n) * w (ix3 ⟨j.val / 1408, by omega⟩ ⟨j.val % 1408, by omega⟩ n)

/-- The gradient of the gate: what reaches `g` of `g · σ(g) · u` for the gradient `da`. -/
def gate (da g u : EReal) : EReal := da * u * Ideal.logistic g * (1 + g * (1 - Ideal.logistic g))

/-- The gradient of the other factor. -/
def factor (da g : EReal) : EReal := da * g * Ideal.logistic g

/-- Grid point `t` takes 384 rows and one shard's 1408 columns. -/
theorem index (t : Fin cfg0.N) : (win0_0.index t 0 = t.val % 6 ∧ win0_0.index t 1 = 0)
    ∧ (win0_1.index t 0 = t.val / 6 ∧ win0_1.index t 1 = 0 ∧ win0_1.index t 2 = 0)
    ∧ (win0_2.index t 0 = t.val % 6 ∧ win0_2.index t 1 = t.val / 6) ∧ (win0_3.index t 0 = t.val % 6 ∧ win0_3.index t 1 = t.val / 6)
    ∧ (win0_4.index t 0 = t.val % 6 ∧ win0_4.index t 1 = t.val / 6) ∧ (win0_5.index t 0 = t.val % 6 ∧ win0_5.index t 1 = t.val / 6) := by
  revert t
  change ∀ t : Fin grid0.N, _
  decide +kernel

section Block

variable (x0 : Vec Ideal S384x2048 .bf16) (x1 : Vec Ideal S1x1408x2048 .bf16) (x2 x3 : Vec Ideal S384x1408 .bf16) (r : Fin 384) (j : Fin 1408)

/-- The gate's gradient that the body stores. -/
theorem stored_gate : out0_4 x0 x1 x2 x3 (ix2 r j) = gate (∑ n : Fin 2048, x0 (ix2 r n) * x1 (ix3 0 j n)) (x2 (ix2 r j)) (x3 (ix2 r j)) := by
  have e : out0_4 x0 x1 x2 x3 = k0_pay4 x0 x1 x2 x3 := by
    unfold out0_4
    rw [View.canon_cons_unit_lit _ _ _ (by decide), View.ld_unit_lit _ _ (by decide), View.ld_unit_lit _ _ (by decide),
      View.ld_unit_lit _ _ (by decide), View.ld_unit_lit _ _ (by decide)]
  rw [e]
  unfold gate
  pointwise [k0_pay4, k0_pay1, k0_pay2, k0_pay3]

/-- The other factor's gradient that the body stores. -/
theorem stored_factor : out0_5 x0 x1 x2 x3 (ix2 r j) = factor (∑ n : Fin 2048, x0 (ix2 r n) * x1 (ix3 0 j n)) (x2 (ix2 r j)) := by
  have e : out0_5 x0 x1 x2 x3 = k0_pay5 x0 x1 x2 := by
    unfold out0_5
    rw [View.canon_cons_unit_lit _ _ _ (by decide), View.ld_unit_lit _ _ (by decide), View.ld_unit_lit _ _ (by decide),
      View.ld_unit_lit _ _ (by decide)]
  rw [e]
  unfold factor
  pointwise [k0_pay5, k0_pay1, k0_pay2, k0_pay3]

end Block

section Array

variable (m : (ℓ : Loc nD τ sig) → Buf (Elt Ideal) ℓ) (c : Dev nD)

/-- The argument arrays. -/
abbrev arg0 : Vec Ideal S2304x2048 .bf16 := m ((c : Thread nD τ).loc main_arg0)
abbrev arg1 : Vec Ideal S4x1408x2048 .bf16 := m ((c : Thread nD τ).loc main_arg1)

/-- The gradient of the activation, of the arrays in the initial memory. -/
abbrev da (r : Fin 2304) (j : Fin 5632) : EReal := dact (arg0 m c) (arg1 m c) r j

/-- The gate's pre-activation in the initial memory. -/
abbrev argG : Vec Ideal S2304x5632 .bf16 := m ((c : Thread nD τ).loc main_arg2)

/-- The other factor in the initial memory. -/
abbrev argU : Vec Ideal S2304x5632 .bf16 := m ((c : Thread nD τ).loc main_arg3)

/-- Point `t`'s block of the incoming gradient. -/
abbrev blk0 (t : Fin cfg0.N) : Vec Ideal S384x2048 .bf16 := iblk m c 0 t

/-- Point `t`'s block of the weights. -/
abbrev blk1 (t : Fin cfg0.N) : Vec Ideal S1x1408x2048 .bf16 := iblk m c 1 t

/-- The grid point that computes entry `(r, j)`. -/
theorem point (r : Fin 2304) (j : Fin 5632) : ∃ t : Fin cfg0.N, t.val % 6 = r.val / 384 ∧ t.val / 6 = j.val / 1408 :=
  ⟨⟨j.val / 1408 * 6 + r.val / 384, lt_of_lt_of_eq (by omega) N_0.symm⟩, by show (_ * 6 + _) % 6 = _; omega, by show (_ * 6 + _) / 6 = _; omega⟩

variable {t : Fin cfg0.N}

/-- The point's block of the incoming gradient. -/
theorem block0 {r : Fin 2304} (hr : t.val % 6 = r.val / 384) (n : Fin 2048) : blk0 m c t (ix2 ⟨r.val % 384, by omega⟩ n)
    = (arg0 m c) (ix2 r n) := by
  obtain ⟨i0, -⟩ := index t
  unfold blk0 iblk
  rw [View.read_apply]
  show V m c main_arg0 _ = _
  rw [V_main_arg0]
  refine congrArg (arg0 m c) (funext fun a => Fin.ext ?_)
  match a with
  | ⟨0, _⟩ => show win0_0.index t 0 * 384 + 1 * (r.val % 384) = r.val; rw [i0.1]; omega
  | ⟨1, _⟩ => show win0_0.index t 1 * 2048 + 1 * n.val = n.val; rw [i0.2]; omega

/-- The point's block of the weights. -/
theorem block1 {j : Fin 5632} (hj : t.val / 6 = j.val / 1408) (n : Fin 2048) : blk1 m c t (ix3 0 ⟨j.val % 1408, by omega⟩ n)
    = (arg1 m c) (ix3 ⟨j.val / 1408, by omega⟩ ⟨j.val % 1408, by omega⟩ n) := by
  obtain ⟨-, i1, -⟩ := index t
  unfold blk1 iblk
  rw [View.read_apply]
  show V m c main_arg1 _ = _
  rw [V_main_arg1]
  refine congrArg (arg1 m c) (funext fun a => Fin.ext ?_)
  match a with
  | ⟨0, _⟩ => show win0_1.index t 0 * 1 + 1 * 0 = j.val / 1408; rw [i1.1]; omega
  | ⟨1, _⟩ => show win0_1.index t 1 * 1408 + 1 * (j.val % 1408) = j.val % 1408; rw [i1.2.1]; omega
  | ⟨2, _⟩ => show win0_1.index t 2 * 2048 + 1 * n.val = n.val; rw [i1.2.2]; omega

/-- The point's block of the gate. -/
theorem block2 {r : Fin 2304} (hr : t.val % 6 = r.val / 384)
    {j : Fin 5632} (hj : t.val / 6 = j.val / 1408) : (iblk m c 2 t : Vec Ideal S384x1408 .bf16) (ix2 ⟨r.val % 384, by omega⟩ ⟨j.val % 1408, by omega⟩) = argG m c (ix2 r j) := by
  obtain ⟨-, -, i2, -⟩ := index t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 384 + 1 * (r.val % 384) = r.val; rw [i2.1]; omega
  | ⟨1, _⟩ => show win0_2.index t 1 * 1408 + 1 * (j.val % 1408) = j.val; rw [i2.2]; omega

/-- The point's block of the other factor. -/
theorem block3 {r : Fin 2304} (hr : t.val % 6 = r.val / 384)
    {j : Fin 5632} (hj : t.val / 6 = j.val / 1408) : (iblk m c 3 t : Vec Ideal S384x1408 .bf16) (ix2 ⟨r.val % 384, by omega⟩ ⟨j.val % 1408, by omega⟩) = argU m c (ix2 r j) := by
  obtain ⟨-, -, -, i3, -⟩ := index t
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t 0 * 384 + 1 * (r.val % 384) = r.val; rw [i3.1]; omega
  | ⟨1, _⟩ => show win0_3.index t 1 * 1408 + 1 * (j.val % 1408) = j.val; rw [i3.2]; omega

/-- The product that the body forms is the gradient of the activation. -/
theorem block_da {r : Fin 2304} (hr : t.val % 6 = r.val / 384)
    {j : Fin 5632} (hj : t.val / 6 = j.val / 1408) : (∑ n : Fin 2048, blk0 m c t (ix2 ⟨r.val % 384, by omega⟩ n)
      * blk1 m c t (ix3 0 ⟨j.val % 1408, by omega⟩ n)) = da m c r j :=
  Finset.sum_congr rfl fun n _ => congrArg₂ (· * ·) (block0 m c hr n) (block1 m c hj n)

/-- The kernel's gradient of the gate. -/
theorem kernel_gate (r : Fin 2304) (j : Fin 5632) : ((dats m 0 c).arrAt 4 cfg0.N : Vec Ideal S2304x5632 .bf16) (ix2 r j)
    = gate (da m c r j) (argG m c (ix2 r j)) (argU m c (ix2 r j)) := by
  obtain ⟨t, hr, hj⟩ := point r j
  obtain ⟨-, -, -, -, i4, -⟩ := index t
  have b := congrFun (Value.blocks4 m c t (flush0_4 t)) (ix2 ⟨r.val % 384, by omega⟩ ⟨j.val % 1408, by omega⟩)
  rw [View.read_apply, Value.flushed4] at b
  have hy : (((cfg0.win 4).blk t).view.emb (ix2 ⟨r.val % 384, by omega⟩ ⟨j.val % 1408, by omega⟩) : S2304x5632.Idx) = ix2 r j := by
    refine funext fun a => Fin.ext ?_
    match a with
    | ⟨0, _⟩ => show win0_4.index t 0 * 384 + 1 * (r.val % 384) = r.val; rw [i4.1]; omega
    | ⟨1, _⟩ => show win0_4.index t 1 * 1408 + 1 * (j.val % 1408) = j.val; rw [i4.2]; omega
  rw [hy] at b
  refine b.trans ((stored_gate _ _ _ _ _ _).trans ?_)
  rw [block_da m c hr hj, block2 m c hr hj, block3 m c hr hj]

/-- The kernel's gradient of the other factor. -/
theorem kernel_factor (r : Fin 2304) (j : Fin 5632) : ((dats m 0 c).arrAt 5 cfg0.N : Vec Ideal S2304x5632 .bf16) (ix2 r j)
    = factor (da m c r j) (argG m c (ix2 r j)) := by
  obtain ⟨t, hr, hj⟩ := point r j
  obtain ⟨-, -, -, -, -, i5⟩ := index t
  have b := congrFun (Value.blocks5 m c t (flush0_5 t)) (ix2 ⟨r.val % 384, by omega⟩ ⟨j.val % 1408, by omega⟩)
  rw [View.read_apply, Value.flushed5] at b
  have hy : (((cfg0.win 5).blk t).view.emb (ix2 ⟨r.val % 384, by omega⟩ ⟨j.val % 1408, by omega⟩) : S2304x5632.Idx) = ix2 r j := by
    refine funext fun a => Fin.ext ?_
    match a with
    | ⟨0, _⟩ => show win0_5.index t 0 * 384 + 1 * (r.val % 384) = r.val; rw [i5.1]; omega
    | ⟨1, _⟩ => show win0_5.index t 1 * 1408 + 1 * (j.val % 1408) = j.val; rw [i5.2]; omega
  rw [hy] at b
  refine b.trans ((stored_factor _ _ _ _ _ _).trans ?_)
  rw [block_da m c hr hj, block2 m c hr hj]

end Array

section Reference

variable (x0 : Vec Ideal S2304x2048 .bf16) (x1 : Vec Ideal S4x1408x2048 .bf16) (x2 x3 : Vec Ideal S2304x5632 .bf16) (r : Fin 2304) (j : Fin 5632)

open Cert.FfDownReferenceIdeal.Read in
/-- The reference's gradient of the gate: the product rule, equal to `gate` at finite numbers. -/
theorem reference_gate (ht : dact x0 x1 r j * x3 (ix2 r j) ≠ ⊥ ∧ dact x0 x1 r j * x3 (ix2 r j) ≠ ⊤) (hg : x2 (ix2 r j) ≠ ⊥ ∧ x2 (ix2 r j) ≠ ⊤) :
    val_main_v12 (F := Ideal) x0 x1 x2 x3 (ix2 r j) = gate (dact x0 x1 r j) (x2 (ix2 r j)) (x3 (ix2 r j)) := by
  refine Eq.trans ?_ (Silu.product_rule ht hg)
  unfold dact
  pointwise [val_main_v12, val_main_v11, val_main_call1_v0, val_main_call1_v1, val_main_call1_v2, val_main_v10, val_main_v8, val_main_v6, val_main_v4_1,
    val_main_v4_2, val_main_call0_v7, val_main_call0_v6, val_main_call0_v4, val_main_call0_v3, val_main_call0_v2, val_main_call0_v1, val_main_call0_v0,
    val_main_call0_cst, val_main_call0_cst_0, val_main_call0_cst_1, val_main_v0, val_main_v1, val_main_v2, val_main_v3]

open Cert.FfDownReferenceIdeal.Read in
/-- The reference's gradient of the other factor. -/
theorem reference_factor : val_main_v13 (F := Ideal) x0 x1 x2 (ix2 r j) = factor (dact x0 x1 r j) (x2 (ix2 r j)) := by
  refine Eq.trans (b := x2 (ix2 r j) * Ideal.logistic (x2 (ix2 r j)) * dact x0 x1 r j) ?_ (by unfold factor; ac_rfl)
  unfold dact Ideal.logistic
  pointwise [val_main_v13, val_main_v9, val_main_v8, val_main_v6, val_main_v4_0,
    val_main_v4_2, val_main_call0_v4, val_main_call0_v3, val_main_call0_v2, val_main_call0_v1, val_main_call0_v0,
    val_main_call0_cst, val_main_call0_cst_0, val_main_v0, val_main_v1, val_main_v2]

end Reference

section Claims

/-- The kernel runs on the machine, keeps its arguments, and ends with every counter at zero. -/
theorem frame : Cert.quiescent_FfDown := fun m ρ _ => Cert.FfDown.Gen.frame m ρ

/-- The same of its idealization. -/
theorem frameIdeal : Cert.quiescent_FfDownIdeal := fun m ρ _ => Cert.FfDownIdeal.Gen.frame m ρ

/-- The same of the reference. -/
theorem frameReference : Cert.quiescent_FfDownReferenceIdeal := fun m ρ _ =>
  (θ_run Cert.FfDownReferenceIdeal.defs _ _).mono (fun r h => ⟨fun c => (h c).2.2, sem_eq_zero_of_no_sems (by decide) r.2⟩)
    (Cert.FfDownReferenceIdeal.Value.run (F := Ideal) m ρ)

/-- The side conditions that the precondition's operations take. -/
theorem preFacts : Cert.Pre_finite_ff.Facts where
  bitsLt_bf16_f32 := by decide
  bcast_S_S2304x2048 := by decide
  bcast_S_S4x1408x2048 := by decide
  bcast_S_S2304x5632 := by decide

/-- The idealized kernel's frame at finite arguments. -/
theorem frameIdeal_pre : Cert.quiescent_FfDownIdeal_pre_finite_ff (hPre_finite_ff := preFacts) := fun m ρ _ => frameIdeal m ρ trivial

/-- The reference's frame at finite arguments. -/
theorem frameReference_pre : Cert.quiescent_FfDownReferenceIdeal_pre_finite_ff (hPre_finite_ff := preFacts) :=
  fun m ρ _ => frameReference m ρ trivial

/-- A number whose absolute value is below `+∞` is finite. -/
theorem finite_of_lt {x : EReal} (h : FloatOps.cmpf (F := Ideal) (φ := .f32) .olt (max x (-x)) ⊤ = 1#1) : x ≠ ⊥ ∧ x ≠ ⊤ := by
  constructor <;> rintro rfl <;> simp [FloatOps.cmpf, Ideal.cmp] at h

/-- Where the four arguments are finite, the kernel's two gradients are the reference's. -/
theorem algebraic : Cert.algebraic_FfDownIdeal_FfDownReferenceIdeal_pre_finite_ff (hPre_finite_ff := preFacts) := by
  intro m g m' g' hpre hin
  refine ⟨_, _, Value.run_blocks m g, (θ_run Cert.FfDownReferenceIdeal.defs _ _).mono (fun r h c => ?_)
    (Cert.FfDownReferenceIdeal.Value.run (F := Ideal) m' g')⟩
  obtain ⟨h0, h1, hargs⟩ := h c
  obtain ⟨a0, a1, a2, a3⟩ := hin c
  obtain ⟨f0, f1, f2, f3⟩ := hpre c
  refine ⟨(h0.trans (Cert.FfDownReferenceIdeal.Read.val_main_v12_eq _ _ _ _)).trans ?_,
    (h1.trans (Cert.FfDownReferenceIdeal.Read.val_main_v13_eq _ _ _)).trans ?_, hargs⟩
  · rw [a0, a1, a2, a3]
    funext i
    rw [eq_ix2 i]
    refine (reference_gate _ _ _ _ _ _ (Silu.mul_real (Silu.sum_real _ _ fun n _ => Silu.mul_real (finite_of_lt ?_) (finite_of_lt ?_)) (finite_of_lt ?_))
      (finite_of_lt ?_)).trans (kernel_gate m c _ _).symm
    · rw [← Attn.ofBits_posInf]; exact congrFun f0 _
    · rw [← Attn.ofBits_posInf]; exact congrFun f1 _
    · rw [← Attn.ofBits_posInf]; exact congrFun f3 _
    · rw [← Attn.ofBits_posInf]; exact congrFun f2 _
  · rw [a0, a1, a2]
    funext i
    rw [eq_ix2 i]
    exact (reference_factor _ _ _ _ _).trans (kernel_factor m c _ _).symm

end Claims

end Cert.FfDownProof

end
-- ==== Proof.FfUp.lean ====
module

public import proofs.«01_k».proof.Defs
public import proofs.«01_k».proof.Proof.Gen.FfUp.Frame
public import proofs.«01_k».proof.Proof.Gen.FfUpIdeal.Value
public import proofs.«01_k».proof.Proof.Gen.FfUpReferenceIdeal.Run
public import proofs.«01_k».proof.Proof.Gen.FfUpReferenceIdeal.Read
public import Idealize.ShloMosaic.Lib.Claim
public import Idealize.ShloMosaic.Lib.Pointwise
public import Idealize.ShloMosaic.Lib.Pipeline.ValueKit.Basic

/- The SwiGLU's forward products: the gate's pre-activation, the other factor, and the activation.  Kernel and reference. -/

@[expose] public section

set_option maxRecDepth 16384

noncomputable section

namespace Cert.FfUpProof

open Idealize.ShloMosaic Idealize.ShloMosaic.TcCoe Idealize.SL.Sem Cert.FfUpIdeal Cert.FfUpIdeal.Gen

/-- Entry `(r, j)` of a product of the hidden state with a weight matrix kept in four shards of 1408 columns. -/
def proj (h : Vec Ideal S2304x2048 .bf16) (w : Vec Ideal S4x2048x1408 .bf16) (r : Fin 2304) (j : Fin 5632) : EReal :=
  ∑ k : Fin 2048, h (ix2 r k) * w (ix3 ⟨j.val / 1408, by omega⟩ k ⟨j.val % 1408, by omega⟩)

/-- The activation `g · σ(g) · u`. -/
def act (g u : EReal) : EReal := g * Ideal.logistic g * u

/-- Grid point `t` takes 384 rows and one shard's 1408 columns. -/
theorem index (t : Fin cfg0.N) : (win0_0.index t 0 = t.val % 6 ∧ win0_0.index t 1 = 0)
    ∧ (win0_1.index t 0 = t.val / 6 ∧ win0_1.index t 1 = 0 ∧ win0_1.index t 2 = 0)
    ∧ (win0_2.index t 0 = t.val / 6 ∧ win0_2.index t 1 = 0 ∧ win0_2.index t 2 = 0)
    ∧ (win0_3.index t 0 = t.val % 6 ∧ win0_3.index t 1 = t.val / 6) ∧ (win0_4.index t 0 = t.val % 6 ∧ win0_4.index t 1 = t.val / 6)
    ∧ (win0_5.index t 0 = t.val % 6 ∧ win0_5.index t 1 = t.val / 6) := by
  revert t
  change ∀ t : Fin grid0.N, _
  decide +kernel

section Block

variable (x0 : Vec Ideal S384x2048 .bf16) (x1 x2 : Vec Ideal S1x2048x1408 .bf16) (r : Fin 384) (j : Fin 1408)

/-- The gate's pre-activation that the body stores. -/
theorem stored_gate : out0_3 x0 x1 x2 (ix2 r j) = ∑ k : Fin 2048, x0 (ix2 r k) * x1 (ix3 0 k j) := by
  have e : out0_3 x0 x1 x2 = k0_pay3 x0 x1 := by
    unfold out0_3
    rw [View.canon_cons_unit_lit _ _ _ (by decide), View.ld_unit_lit _ _ (by decide), View.ld_unit_lit _ _ (by decide)]
  rw [e]
  pointwise [k0_pay3, k0_pay1]

/-- The other factor that the body stores. -/
theorem stored_factor : out0_4 x0 x1 x2 (ix2 r j) = ∑ k : Fin 2048, x0 (ix2 r k) * x2 (ix3 0 k j) := by
  have e : out0_4 x0 x1 x2 = k0_pay4 x0 x2 := by
    unfold out0_4
    rw [View.canon_cons_unit_lit _ _ _ (by decide), View.ld_unit_lit _ _ (by decide), View.ld_unit_lit _ _ (by decide)]
  rw [e]
  pointwise [k0_pay4, k0_pay2]

/-- The activation that the body stores. -/
theorem stored_act : out0_5 x0 x1 x2 (ix2 r j)
    = act (∑ k : Fin 2048, x0 (ix2 r k) * x1 (ix3 0 k j)) (∑ k : Fin 2048, x0 (ix2 r k) * x2 (ix3 0 k j)) := by
  have e : out0_5 x0 x1 x2 = k0_pay5 x0 x1 x2 := by
    unfold out0_5
    rw [View.canon_cons_unit_lit _ _ _ (by decide), View.ld_unit_lit _ _ (by decide), View.ld_unit_lit _ _ (by decide),
      View.ld_unit_lit _ _ (by decide)]
  rw [e]
  unfold act
  pointwise [k0_pay5, k0_pay1, k0_pay2]

end Block

section Array

variable (m : (ℓ : Loc nD τ sig) → Buf (Elt Ideal) ℓ) (c : Dev nD)

/-- The gate's pre-activation, of the arrays in the initial memory. -/
abbrev gate (r : Fin 2304) (j : Fin 5632) : EReal := proj (m ((c : Thread nD τ).loc main_arg0)) (m ((c : Thread nD τ).loc main_arg1)) r j

/-- The other factor, of the arrays in the initial memory. -/
abbrev factor (r : Fin 2304) (j : Fin 5632) : EReal := proj (m ((c : Thread nD τ).loc main_arg0)) (m ((c : Thread nD τ).loc main_arg2)) r j

/-- Point `t`'s block of the hidden state. -/
abbrev blk0 (t : Fin cfg0.N) : Vec Ideal S384x2048 .bf16 := iblk m c 0 t

/-- Point `t`'s block of the gate's weights. -/
abbrev blk1 (t : Fin cfg0.N) : Vec Ideal S1x2048x1408 .bf16 := iblk m c 1 t

/-- Point `t`'s block of the other factor's weights. -/
abbrev blk2 (t : Fin cfg0.N) : Vec Ideal S1x2048x1408 .bf16 := iblk m c 2 t

/-- The grid point that computes entry `(r, j)`. -/
theorem point (r : Fin 2304) (j : Fin 5632) : ∃ t : Fin cfg0.N, t.val % 6 = r.val / 384 ∧ t.val / 6 = j.val / 1408 :=
  ⟨⟨j.val / 1408 * 6 + r.val / 384, lt_of_lt_of_eq (by omega) N_0.symm⟩, by show (_ * 6 + _) % 6 = _; omega, by show (_ * 6 + _) / 6 = _; omega⟩

variable {t : Fin cfg0.N}

/-- The point's block of the hidden state holds the array's rows. -/
theorem block0 {r : Fin 2304} (hr : t.val % 6 = r.val / 384) (k : Fin 2048) : blk0 m c t (ix2 ⟨r.val % 384, by omega⟩ k)
    = (m ((c : Thread nD τ).loc main_arg0) : Vec Ideal S2304x2048 .bf16) (ix2 r k) := by
  obtain ⟨i0, -⟩ := index t
  unfold blk0 iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 384 + 1 * (r.val % 384) = r.val; rw [i0.1]; omega
  | ⟨1, _⟩ => show win0_0.index t 1 * 2048 + 1 * k.val = k.val; rw [i0.2]; omega

/-- The product with the gate's weights that the body forms. -/
theorem block_gate {r : Fin 2304} (hr : t.val % 6 = r.val / 384) {j : Fin 5632} (hj : t.val / 6 = j.val / 1408) :
    (∑ k : Fin 2048, blk0 m c t (ix2 ⟨r.val % 384, by omega⟩ k) * blk1 m c t (ix3 0 k ⟨j.val % 1408, by omega⟩)) = gate m c r j := by
  obtain ⟨-, i1, -⟩ := index t
  refine Finset.sum_congr rfl fun k _ => congrArg₂ (· * ·) (block0 m c hr k) ?_
  unfold blk1 iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1 + 1 * 0 = j.val / 1408; rw [i1.1]; omega
  | ⟨1, _⟩ => show win0_1.index t 1 * 2048 + 1 * k.val = k.val; rw [i1.2.1]; omega
  | ⟨2, _⟩ => show win0_1.index t 2 * 1408 + 1 * (j.val % 1408) = j.val % 1408; rw [i1.2.2]; omega

/-- The product with the other factor's weights that the body forms. -/
theorem block_factor {r : Fin 2304} (hr : t.val % 6 = r.val / 384) {j : Fin 5632} (hj : t.val / 6 = j.val / 1408) :
    (∑ k : Fin 2048, blk0 m c t (ix2 ⟨r.val % 384, by omega⟩ k) * blk2 m c t (ix3 0 k ⟨j.val % 1408, by omega⟩)) = factor m c r j := by
  obtain ⟨-, -, i2, -⟩ := index t
  refine Finset.sum_congr rfl fun k _ => congrArg₂ (· * ·) (block0 m c hr k) ?_
  unfold blk2 iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 1 + 1 * 0 = j.val / 1408; rw [i2.1]; omega
  | ⟨1, _⟩ => show win0_2.index t 1 * 2048 + 1 * k.val = k.val; rw [i2.2.1]; omega
  | ⟨2, _⟩ => show win0_2.index t 2 * 1408 + 1 * (j.val % 1408) = j.val % 1408; rw [i2.2.2]; omega

/-- The kernel's gate's pre-activation. -/
theorem kernel_gate (r : Fin 2304) (j : Fin 5632) : ((dats m 0 c).arrAt 3 cfg0.N : Vec Ideal S2304x5632 .bf16) (ix2 r j) = gate m c r j := by
  obtain ⟨t, hr, hj⟩ := point r j
  obtain ⟨-, -, -, i3, -⟩ := index t
  have b := congrFun (Value.blocks3 m c t (flush0_3 t)) (ix2 ⟨r.val % 384, by omega⟩ ⟨j.val % 1408, by omega⟩)
  rw [View.read_apply, Value.flushed3] at b
  have hy : (((cfg0.win 3).blk t).view.emb (ix2 ⟨r.val % 384, by omega⟩ ⟨j.val % 1408, by omega⟩) : S2304x5632.Idx) = ix2 r j := by
    refine funext fun a => Fin.ext ?_
    match a with
    | ⟨0, _⟩ => show win0_3.index t 0 * 384 + 1 * (r.val % 384) = r.val; rw [i3.1]; omega
    | ⟨1, _⟩ => show win0_3.index t 1 * 1408 + 1 * (j.val % 1408) = j.val; rw [i3.2]; omega
  rw [hy] at b
  refine b.trans ((stored_gate _ _ _ _ _).trans ?_)
  rw [block_gate m c hr hj]

/-- The kernel's other factor. -/
theorem kernel_factor (r : Fin 2304) (j : Fin 5632) : ((dats m 0 c).arrAt 4 cfg0.N : Vec Ideal S2304x5632 .bf16) (ix2 r j) = factor m c r j := by
  obtain ⟨t, hr, hj⟩ := point r j
  obtain ⟨-, -, -, -, i4, -⟩ := index t
  have b := congrFun (Value.blocks4 m c t (flush0_4 t)) (ix2 ⟨r.val % 384, by omega⟩ ⟨j.val % 1408, by omega⟩)
  rw [View.read_apply, Value.flushed4] at b
  have hy : (((cfg0.win 4).blk t).view.emb (ix2 ⟨r.val % 384, by omega⟩ ⟨j.val % 1408, by omega⟩) : S2304x5632.Idx) = ix2 r j := by
    refine funext fun a => Fin.ext ?_
    match a with
    | ⟨0, _⟩ => show win0_4.index t 0 * 384 + 1 * (r.val % 384) = r.val; rw [i4.1]; omega
    | ⟨1, _⟩ => show win0_4.index t 1 * 1408 + 1 * (j.val % 1408) = j.val; rw [i4.2]; omega
  rw [hy] at b
  refine b.trans ((stored_factor _ _ _ _ _).trans ?_)
  rw [block_factor m c hr hj]

/-- The kernel's activation. -/
theorem kernel_act (r : Fin 2304) (j : Fin 5632) : ((dats m 0 c).arrAt 5 cfg0.N : Vec Ideal S2304x5632 .bf16) (ix2 r j) = act (gate m c r j) (factor m c r j) := by
  obtain ⟨t, hr, hj⟩ := point r j
  obtain ⟨-, -, -, -, -, i5⟩ := index t
  have b := congrFun (Value.blocks5 m c t (flush0_5 t)) (ix2 ⟨r.val % 384, by omega⟩ ⟨j.val % 1408, by omega⟩)
  rw [View.read_apply, Value.flushed5] at b
  have hy : (((cfg0.win 5).blk t).view.emb (ix2 ⟨r.val % 384, by omega⟩ ⟨j.val % 1408, by omega⟩) : S2304x5632.Idx) = ix2 r j := by
    refine funext fun a => Fin.ext ?_
    match a with
    | ⟨0, _⟩ => show win0_5.index t 0 * 384 + 1 * (r.val % 384) = r.val; rw [i5.1]; omega
    | ⟨1, _⟩ => show win0_5.index t 1 * 1408 + 1 * (j.val % 1408) = j.val; rw [i5.2]; omega
  rw [hy] at b
  refine b.trans ((stored_act _ _ _ _ _).trans ?_)
  rw [block_gate m c hr hj, block_factor m c hr hj]

end Array

section Reference

variable (x0 : Vec Ideal S2304x2048 .bf16) (x1 x2 : Vec Ideal S4x2048x1408 .bf16) (r : Fin 2304) (j : Fin 5632)

open Cert.FfUpReferenceIdeal.Read in
/-- The reference's pre-activation of the gate. -/
theorem reference_gate : val_main_v9 (F := Ideal) x0 x1 (ix2 r j) = proj x0 x1 r j := by
  unfold proj
  pointwise [val_main_v9, val_main_v5, val_main_v4, val_main_v3, val_main_v1, val_main_v0]

open Cert.FfUpReferenceIdeal.Read in
/-- The reference's other factor. -/
theorem reference_factor : val_main_v10 (F := Ideal) x0 x2 (ix2 r j) = proj x0 x2 r j := by
  unfold proj
  pointwise [val_main_v10, val_main_v8, val_main_v7, val_main_v6, val_main_v2, val_main_v0]

open Cert.FfUpReferenceIdeal.Read in
/-- The reference's activation. -/
theorem reference_act : val_main_v13 (F := Ideal) x0 x1 x2 (ix2 r j) = act (proj x0 x1 r j) (proj x0 x2 r j) := by
  unfold act proj Ideal.logistic
  pointwise [val_main_v13, val_main_v12, val_main_v11, val_main_call0_v5, val_main_call0_v4, val_main_call0_v3, val_main_call0_v2, val_main_call0_v1,
    val_main_call0_v0, val_main_call0_cst, val_main_call0_cst_0, val_main_v5, val_main_v4, val_main_v3, val_main_v8, val_main_v7, val_main_v6,
    val_main_v2, val_main_v1, val_main_v0]

end Reference

section Claims

/-- The kernel runs on the machine, keeps its arguments, and ends with every counter at zero. -/
theorem frame : Cert.quiescent_FfUp := fun m ρ _ => Cert.FfUp.Gen.frame m ρ

/-- The same of its idealization. -/
theorem frameIdeal : Cert.quiescent_FfUpIdeal := fun m ρ _ => Cert.FfUpIdeal.Gen.frame m ρ

/-- The same of the reference. -/
theorem frameReference : Cert.quiescent_FfUpReferenceIdeal := fun m ρ _ =>
  (θ_run Cert.FfUpReferenceIdeal.defs _ _).mono (fun r h => ⟨fun c => (h c).2.2.2, sem_eq_zero_of_no_sems (by decide) r.2⟩)
    (Cert.FfUpReferenceIdeal.Value.run (F := Ideal) m ρ)

/-- The kernel's three results are the reference's. -/
theorem algebraic : Cert.algebraic_FfUpIdeal_FfUpReferenceIdeal := by
  intro m g m' g' _ hin
  refine ⟨_, _, _, Value.run_blocks m g, (θ_run Cert.FfUpReferenceIdeal.defs _ _).mono (fun r h c => ?_)
    (Cert.FfUpReferenceIdeal.Value.run (F := Ideal) m' g')⟩
  obtain ⟨h0, h1, h2, hargs⟩ := h c
  obtain ⟨a0, a1, a2⟩ := hin c
  refine ⟨(h0.trans (Cert.FfUpReferenceIdeal.Read.val_main_v9_eq _ _)).trans ?_, (h1.trans (Cert.FfUpReferenceIdeal.Read.val_main_v10_eq _ _)).trans ?_,
    (h2.trans (Cert.FfUpReferenceIdeal.Read.val_main_v13_eq _ _ _)).trans ?_, hargs⟩
  · rw [a0, a1]
    funext i
    rw [eq_ix2 i]
    exact (reference_gate _ _ _ _).trans (kernel_gate m c _ _).symm
  · rw [a0, a2]
    funext i
    rw [eq_ix2 i]
    exact (reference_factor _ _ _ _).trans (kernel_factor m c _ _).symm
  · rw [a0, a1, a2]
    funext i
    rw [eq_ix2 i]
    exact (reference_act _ _ _ _ _).trans (kernel_act m c _ _).symm

end Claims

end Cert.FfUpProof

end
-- ==== Proof.Shards.lean ====
module

public import Idealize.ShloMosaic.Lib.Pointwise

/- A sum over the columns of a matrix kept in shards of equal width is the sum of the shards' sums. -/

@[expose] public section

namespace Cert.Shards

/-- The sum over `c = a · b` indices, shard by shard: shard `q` holds the indices `q · b + n`. -/
theorem sum_shards {M : Type} [AddCommMonoid M] {a b c : ℕ} (h : c = a * b) (f : Fin c → M) :
    ∑ j, f j = ∑ q : Fin a, ∑ n : Fin b, f ⟨q.val * b + n.val, by
      have := q.isLt; have := n.isLt
      calc q.val * b + n.val < q.val * b + b := by omega
        _ = (q.val + 1) * b := by ring
        _ ≤ a * b := Nat.mul_le_mul_right b (by omega)
        _ = c := h.symm⟩ := by
  subst h
  rw [← finProdFinEquiv.sum_comp, Fintype.sum_prod_type]
  refine Finset.sum_congr rfl fun q _ => Finset.sum_congr rfl fun n _ => congrArg f (Fin.ext ?_)
  show n.val + b * q.val = _
  ring

end Cert.Shards
-- ==== Proof.NtFf.lean ====
module

public import proofs.«01_k».proof.Defs
public import proofs.«01_k».proof.Proof.Shards
public import proofs.«01_k».proof.Proof.Gen.NtFf.Frame
public import proofs.«01_k».proof.Proof.Gen.NtFfIdeal.Value
public import proofs.«01_k».proof.Proof.Gen.NtFfReferenceIdeal.Run
public import proofs.«01_k».proof.Proof.Gen.NtFfReferenceIdeal.Read
public import Idealize.ShloMosaic.Lib.Claim
public import Idealize.ShloMosaic.Lib.Pointwise
public import Idealize.ShloMosaic.Lib.Pipeline.ValueKit.Basic

/- The gradient that the SwiGLU's first two products send to the hidden state, `dc · wᵀ`.  Kernel and reference. -/

@[expose] public section

set_option maxRecDepth 16384

noncomputable section

namespace Cert.NtFfProof

open Idealize.ShloMosaic Idealize.ShloMosaic.TcCoe Idealize.SL.Sem Cert.NtFfIdeal Cert.NtFfIdeal.Gen

/-- Entry `(r, k)`: row `r` of the incoming gradient against row `k` of the weights, shard by shard. -/
def grad (dc : Vec Ideal S2304x5632 .bf16) (w : Vec Ideal S4x2048x1408 .bf16) (r : Fin 2304) (k : Fin 2048) : EReal :=
  ∑ q : Fin 4, ∑ n : Fin 1408, dc (ix2 r ⟨q.val * 1408 + n.val, by omega⟩) * w (ix3 q k n)

/-- Grid point `t` takes 768 rows of the gradient and 512 rows of every shard. -/
theorem index (t : Fin cfg0.N) : (win0_0.index t 0 = t.val / 4 ∧ win0_0.index t 1 = 0)
    ∧ (win0_1.index t 0 = 0 ∧ win0_1.index t 1 = 0 ∧ win0_1.index t 2 = t.val % 4 ∧ win0_1.index t 3 = 0)
    ∧ (win0_2.index t 0 = t.val / 4 ∧ win0_2.index t 1 = t.val % 4) := by
  revert t
  change ∀ t : Fin grid0.N, _
  decide +kernel

/-- What the body stores: the sum of its four products, one for each shard. -/
theorem stored (x : Vec Ideal S768x5632 .bf16) (w : Vec Ideal S4x1x512x1408 .bf16) (r : Fin 768) (k : Fin 512) :
    out0_2 x w (ix2 r k) = ∑ q : Fin 4, ∑ n : Fin 1408, x (ix2 r ⟨q.val * 1408 + n.val, by omega⟩) * w (ix4 q 0 k n) := by
  have e : out0_2 x w = k0_pay1 (View.ld x r0_0) (View.ld w r0_1) (View.ld x r0_2) (View.ld w r0_3) (View.ld x r0_4) (View.ld w r0_5)
      (View.ld x r0_6) (View.ld w r0_7) := by
    unfold out0_2
    rw [View.canon_cons_unit_lit _ _ _ (by decide)]
  rw [e, Fin.sum_univ_four]
  refine Eq.trans (b := ∑ n : Fin 1408, x (ix2 r ⟨n.val, by omega⟩) * w (ix4 0 0 k n) + ∑ n : Fin 1408, x (ix2 r ⟨1408 + n.val, by omega⟩) * w (ix4 1 0 k n)
    + ∑ n : Fin 1408, x (ix2 r ⟨2816 + n.val, by omega⟩) * w (ix4 2 0 k n) + ∑ n : Fin 1408, x (ix2 r ⟨4224 + n.val, by omega⟩) * w (ix4 3 0 k n))
    (by pointwise [k0_pay1]) ?_
  refine congrArg₂ (· + ·) (congrArg₂ (· + ·) (congrArg₂ (· + ·) ?_ ?_) ?_) ?_
  all_goals
    refine Finset.sum_congr rfl fun n _ => congrArg (fun j => x (ix2 r j) * _) (Fin.ext ?_)
    simp

variable (m : (ℓ : Loc nD τ sig) → Buf (Elt Ideal) ℓ) (c : Dev nD)

/-- The host gives the weights a unit axis. -/
theorem weights (q : Fin 4) (k : Fin 2048) (n : Fin 1408) : (V m c main_v0 : Vec Ideal S4x1x2048x1408 .bf16) (ix4 q 0 k n)
    = (m ((c : Thread nD τ).loc main_arg1) : Vec Ideal S4x2048x1408 .bf16) (ix3 q k n) := by
  entry_read
  pointwise

/-- The result array of the kernel. -/
theorem kernel_entry (r : Fin 2304) (k : Fin 2048) : ((dats m 0 c).arrAt 2 cfg0.N : Vec Ideal S2304x2048 .f32) (ix2 r k)
    = grad (m ((c : Thread nD τ).loc main_arg0)) (m ((c : Thread nD τ).loc main_arg1)) r k := by
  obtain ⟨t, h0, h1⟩ : ∃ t : Fin cfg0.N, t.val / 4 = r.val / 768 ∧ t.val % 4 = k.val / 512 :=
    ⟨⟨r.val / 768 * 4 + k.val / 512, lt_of_lt_of_eq (by omega) N_0.symm⟩, by show (_ * 4 + _) / 4 = _; omega, by show (_ * 4 + _) % 4 = _; omega⟩
  obtain ⟨i0, i1, i2⟩ := index t
  have b := congrFun (Value.blocks2 m c t (flush0_2 t)) (ix2 ⟨r.val % 768, by omega⟩ ⟨k.val % 512, by omega⟩)
  rw [View.read_apply, Value.flushed2] at b
  have hy : (((cfg0.win 2).blk t).view.emb (ix2 ⟨r.val % 768, by omega⟩ ⟨k.val % 512, by omega⟩) : S2304x2048.Idx) = ix2 r k := by
    refine funext fun a => Fin.ext ?_
    match a with
    | ⟨0, _⟩ => show win0_2.index t 0 * 768 + 1 * (r.val % 768) = r.val; rw [i2.1]; omega
    | ⟨1, _⟩ => show win0_2.index t 1 * 512 + 1 * (k.val % 512) = k.val; rw [i2.2]; omega
  rw [hy] at b
  refine b.trans ((stored _ _ _ _).trans (Finset.sum_congr rfl fun q _ => Finset.sum_congr rfl fun n _ => congrArg₂ (· * ·) ?_ ?_))
  · unfold iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 768 + 1 * (r.val % 768) = r.val; rw [i0.1]; omega
    | ⟨1, _⟩ => show win0_0.index t 1 * 5632 + 1 * (q.val * 1408 + n.val) = q.val * 1408 + n.val; rw [i0.2]; omega
  · refine Eq.trans ?_ (weights m c q k n)
    unfold iblk
    rw [View.read_apply]
    refine congrArg (V m c main_v0) (funext fun a => Fin.ext ?_)
    match a with
    | ⟨0, _⟩ => show win0_1.index t 0 * 4 + 1 * q.val = q.val; rw [i1.1]; omega
    | ⟨1, _⟩ => show win0_1.index t 1 * 1 + 1 * 0 = 0; rw [i1.2.1]
    | ⟨2, _⟩ => show win0_1.index t 2 * 512 + 1 * (k.val % 512) = k.val; rw [i1.2.2.1]; omega
    | ⟨3, _⟩ => show win0_1.index t 3 * 1408 + 1 * n.val = n.val; rw [i1.2.2.2]; omega

open Cert.NtFfReferenceIdeal.Read in
/-- The result array of the reference. -/
theorem reference_entry (x0 : Vec Ideal S2304x5632 .bf16) (x1 : Vec Ideal S4x2048x1408 .bf16) (r : Fin 2304) (k : Fin 2048) :
    val_main_v6 (F := Ideal) x0 x1 (ix2 r k) = grad x0 x1 r k := by
  refine Eq.trans (b := ∑ j : Fin 5632, x0 (ix2 r j) * x1 (ix3 ⟨j.val / 1408, by omega⟩ k ⟨j.val % 1408, by omega⟩))
    (by pointwise [val_main_v6, val_main_v4, val_main_v3, val_main_v1, val_main_v0]) ?_
  rw [Shards.sum_shards (a := 4) (b := 1408) rfl]
  refine Finset.sum_congr rfl fun q _ => Finset.sum_congr rfl fun n _ => congrArg (_ * ·) (congrArg x1 ?_)
  exact congrArg₂ (fun u v => ix3 u k v) (Fin.ext (by show (q.val * 1408 + n.val) / 1408 = q.val; omega))
    (Fin.ext (by show (q.val * 1408 + n.val) % 1408 = n.val; omega))

/-- The kernel runs on the machine, keeps its arguments, and ends with every counter at zero. -/
theorem frame : Cert.quiescent_NtFf := fun m ρ _ => Cert.NtFf.Gen.frame m ρ

/-- The same of its idealization. -/
theorem frameIdeal : Cert.quiescent_NtFfIdeal := fun m ρ _ => Cert.NtFfIdeal.Gen.frame m ρ

/-- The same of the reference. -/
theorem frameReference : Cert.quiescent_NtFfReferenceIdeal := fun m ρ _ =>
  (θ_run Cert.NtFfReferenceIdeal.defs _ _).mono (fun r h => ⟨fun c => (h c).2, sem_eq_zero_of_no_sems (by decide) r.2⟩)
    (Cert.NtFfReferenceIdeal.Value.run (F := Ideal) m ρ)

/-- The kernel's gradient is the reference's. -/
theorem algebraic : Cert.algebraic_NtFfIdeal_NtFfReferenceIdeal := by
  intro m g m' g' _ hin
  refine ⟨_, Value.run_blocks m g, (θ_run Cert.NtFfReferenceIdeal.defs _ _).mono (fun r h c => ?_)
    (Cert.NtFfReferenceIdeal.Value.run (F := Ideal) m' g')⟩
  obtain ⟨h0, hargs⟩ := h c
  obtain ⟨a0, a1⟩ := hin c
  refine ⟨(h0.trans (Cert.NtFfReferenceIdeal.Read.val_main_v6_eq _ _)).trans ?_, hargs⟩
  rw [a0, a1]
  funext i
  rw [eq_ix2 i]
  exact (reference_entry _ _ _ _).trans (kernel_entry m c _ _).symm

end Cert.NtFfProof

end
-- ==== Proof.TnFf.lean ====
module

public import proofs.«01_k».proof.Defs
public import proofs.«01_k».proof.Proof.Gen.TnFf.Frame
public import proofs.«01_k».proof.Proof.Gen.TnFfIdeal.Value
public import proofs.«01_k».proof.Proof.Gen.TnFfReferenceIdeal.Run
public import proofs.«01_k».proof.Proof.Gen.TnFfReferenceIdeal.Read
public import Idealize.ShloMosaic.Lib.Claim
public import Idealize.ShloMosaic.Lib.Pointwise
public import Idealize.ShloMosaic.Lib.Pipeline.ValueKit.Basic

/- The gradient of the SwiGLU's first two weight matrices, `hᵀ · dc`, in shards of 1408 columns: kernel and reference. -/

@[expose] public section

set_option maxRecDepth 16384

noncomputable section

namespace Cert.TnFfProof

open Idealize.ShloMosaic Idealize.ShloMosaic.TcCoe Idealize.SL.Sem Cert.TnFfIdeal Cert.TnFfIdeal.Gen

/-- Entry `(k, n)` of shard `q`: column `k` of `h` against column `1408 q + n` of the incoming gradient. -/
def grad (h : Vec Ideal S2304x2048 .bf16) (dc : Vec Ideal S2304x5632 .bf16) (q : Fin 4) (k : Fin 2048) (n : Fin 1408) : EReal :=
  ∑ r : Fin 2304, h (ix2 r k) * dc (ix2 r ⟨q.val * 1408 + n.val, by omega⟩)

/-- Grid point `t` takes 512 columns of `h` and one shard's columns of the gradient. -/
theorem index (t : Fin cfg0.N) : (win0_0.index t 0 = 0 ∧ win0_0.index t 1 = t.val % 4) ∧ (win0_1.index t 0 = 0 ∧ win0_1.index t 1 = t.val / 4)
    ∧ (win0_2.index t 0 = t.val / 4 ∧ win0_2.index t 1 = t.val % 4 ∧ win0_2.index t 2 = 0) := by
  revert t
  change ∀ t : Fin grid0.N, _
  decide +kernel

/-- What the body stores. -/
theorem stored (x : Vec Ideal S2304x512 .bf16) (y : Vec Ideal S2304x1408 .bf16) (k : Fin 512) (n : Fin 1408) :
    out0_2 x y (ix3 0 k n) = ∑ r : Fin 2304, x (ix2 r k) * y (ix2 r n) := by
  have e : out0_2 x y = k0_pay1 x y := by
    unfold out0_2
    rw [View.canon_cons_unit_lit _ _ _ (by decide), View.ld_unit_lit _ _ (by decide), View.ld_unit_lit _ _ (by decide)]
  rw [e]
  pointwise [k0_pay1]

variable (m : (ℓ : Loc nD τ sig) → Buf (Elt Ideal) ℓ) (c : Dev nD)

/-- The result array of the kernel. -/
theorem kernel_entry (q : Fin 4) (k : Fin 2048) (n : Fin 1408) :
    ((dats m 0 c).arrAt 2 cfg0.N : Vec Ideal S4x2048x1408 .bf16) (ix3 q k n)
      = grad (m ((c : Thread nD τ).loc main_arg0)) (m ((c : Thread nD τ).loc main_arg1)) q k n := by
  obtain ⟨t, ht⟩ : ∃ t : Fin cfg0.N, t.val = q.val * 4 + k.val / 512 := ⟨⟨q.val * 4 + k.val / 512, lt_of_lt_of_eq (by omega) N_0.symm⟩, rfl⟩
  obtain ⟨i0, i1, i2⟩ := index t
  have b := congrFun (Value.blocks2 m c t (flush0_2 t)) (ix3 0 ⟨k.val % 512, by omega⟩ n)
  rw [View.read_apply, Value.flushed2] at b
  have hy : (((cfg0.win 2).blk t).view.emb (ix3 0 ⟨k.val % 512, by omega⟩ n) : S4x2048x1408.Idx) = ix3 q k n := by
    refine funext fun a => Fin.ext ?_
    match a with
    | ⟨0, _⟩ => show win0_2.index t 0 * 1 + 1 * 0 = q.val; rw [i2.1]; omega
    | ⟨1, _⟩ => show win0_2.index t 1 * 512 + 1 * (k.val % 512) = k.val; rw [i2.2.1]; omega
    | ⟨2, _⟩ => show win0_2.index t 2 * 1408 + 1 * n.val = n.val; rw [i2.2.2]; omega
  rw [hy] at b
  refine b.trans ((stored _ _ _ n).trans (Finset.sum_congr rfl fun r _ => congrArg₂ (· * ·) ?_ ?_))
  · unfold iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 2304 + 1 * r.val = r.val; rw [i0.1]; omega
    | ⟨1, _⟩ => show win0_0.index t 1 * 512 + 1 * (k.val % 512) = k.val; rw [i0.2]; omega
  · unfold iblk
    rw [View.read_apply]
    show V m c main_arg1 _ = _
    rw [V_main_arg1]
    refine congrArg (m ((c : Thread nD τ).loc main_arg1)) (funext fun a => Fin.ext ?_)
    match a with
    | ⟨0, _⟩ => show win0_1.index t 0 * 2304 + 1 * r.val = r.val; rw [i1.1]; omega
    | ⟨1, _⟩ => show win0_1.index t 1 * 1408 + 1 * n.val = q.val * 1408 + n.val; rw [i1.2]; omega

open Cert.TnFfReferenceIdeal.Read in
/-- The result array of the reference. -/
theorem reference_entry (x0 : Vec Ideal S2304x2048 .bf16) (x1 : Vec Ideal S2304x5632 .bf16) (q : Fin 4) (k : Fin 2048) (n : Fin 1408) :
    val_main_v10 (F := Ideal) x0 x1 (ix3 q k n) = grad x0 x1 q k n := by
  unfold grad
  pointwise [val_main_v10, val_main_v9, val_main_v8, val_main_v7, val_main_v6, val_main_v1, val_main_v0]
  exact Finset.sum_congr rfl fun r _ => mul_comm _ _

/-- The kernel runs on the machine, keeps its arguments, and ends with every counter at zero. -/
theorem frame : Cert.quiescent_TnFf := fun m ρ _ => Cert.TnFf.Gen.frame m ρ

/-- The same of its idealization. -/
theorem frameIdeal : Cert.quiescent_TnFfIdeal := fun m ρ _ => Cert.TnFfIdeal.Gen.frame m ρ

/-- The same of the reference. -/
theorem frameReference : Cert.quiescent_TnFfReferenceIdeal := fun m ρ _ =>
  (θ_run Cert.TnFfReferenceIdeal.defs _ _).mono (fun r h => ⟨fun c => (h c).2, sem_eq_zero_of_no_sems (by decide) r.2⟩)
    (Cert.TnFfReferenceIdeal.Value.run (F := Ideal) m ρ)

/-- The kernel's gradient is the reference's. -/
theorem algebraic : Cert.algebraic_TnFfIdeal_TnFfReferenceIdeal := by
  intro m g m' g' _ hin
  refine ⟨_, Value.run_blocks m g, (θ_run Cert.TnFfReferenceIdeal.defs _ _).mono (fun r h c => ?_)
    (Cert.TnFfReferenceIdeal.Value.run (F := Ideal) m' g')⟩
  obtain ⟨h0, hargs⟩ := h c
  obtain ⟨a0, a1⟩ := hin c
  refine ⟨(h0.trans (Cert.TnFfReferenceIdeal.Read.val_main_v10_eq _ _)).trans ?_, hargs⟩
  rw [a0, a1]
  funext i
  rw [eq_ix3 i]
  exact (reference_entry _ _ _ _ _).trans (kernel_entry m c _ _ _).symm

end Cert.TnFfProof

end
-- ==== Proof.TnFfDown.lean ====
module

public import proofs.«01_k».proof.Defs
public import proofs.«01_k».proof.Proof.Gen.TnFfDown.Frame
public import proofs.«01_k».proof.Proof.Gen.TnFfDownIdeal.Value
public import proofs.«01_k».proof.Proof.Gen.TnFfDownReferenceIdeal.Run
public import proofs.«01_k».proof.Proof.Gen.TnFfDownReferenceIdeal.Read
public import Idealize.ShloMosaic.Lib.Claim
public import Idealize.ShloMosaic.Lib.Pointwise
public import Idealize.ShloMosaic.Lib.Pipeline.ValueKit.Basic

/- The gradient of the SwiGLU's last weight matrix, `aᵀ · dc`, in shards of 1408 rows: kernel and reference. -/

@[expose] public section

set_option maxRecDepth 16384

noncomputable section

namespace Cert.TnFfDownProof

open Idealize.ShloMosaic Idealize.ShloMosaic.TcCoe Idealize.SL.Sem Cert.TnFfDownIdeal Cert.TnFfDownIdeal.Gen

/-- Entry `(k, n)` of shard `q`: column `1408 q + k` of the activation against column `n` of the incoming gradient. -/
def grad (a : Vec Ideal S2304x5632 .bf16) (dc : Vec Ideal S2304x2048 .bf16) (q : Fin 4) (k : Fin 1408) (n : Fin 2048) : EReal :=
  ∑ r : Fin 2304, a (ix2 r ⟨q.val * 1408 + k.val, by omega⟩) * dc (ix2 r n)

/-- Grid point `t` takes one shard's columns of the activation and 512 columns of the gradient. -/
theorem index (t : Fin cfg0.N) : (win0_0.index t 0 = 0 ∧ win0_0.index t 1 = t.val / 4) ∧ (win0_1.index t 0 = 0 ∧ win0_1.index t 1 = t.val % 4)
    ∧ (win0_2.index t 0 = t.val / 4 ∧ win0_2.index t 1 = 0 ∧ win0_2.index t 2 = t.val % 4) := by
  revert t
  change ∀ t : Fin grid0.N, _
  decide +kernel

/-- What the body stores. -/
theorem stored (x : Vec Ideal S2304x1408 .bf16) (y : Vec Ideal S2304x512 .bf16) (k : Fin 1408) (n : Fin 512) :
    out0_2 x y (ix3 0 k n) = ∑ r : Fin 2304, x (ix2 r k) * y (ix2 r n) := by
  have e : out0_2 x y = k0_pay1 x y := by
    unfold out0_2
    rw [View.canon_cons_unit_lit _ _ _ (by decide), View.ld_unit_lit _ _ (by decide), View.ld_unit_lit _ _ (by decide)]
  rw [e]
  pointwise [k0_pay1]

variable (m : (ℓ : Loc nD τ sig) → Buf (Elt Ideal) ℓ) (c : Dev nD)

/-- The result array of the kernel. -/
theorem kernel_entry (q : Fin 4) (k : Fin 1408) (n : Fin 2048) :
    ((dats m 0 c).arrAt 2 cfg0.N : Vec Ideal S4x1408x2048 .bf16) (ix3 q k n)
      = grad (m ((c : Thread nD τ).loc main_arg0)) (m ((c : Thread nD τ).loc main_arg1)) q k n := by
  obtain ⟨t, ht⟩ : ∃ t : Fin cfg0.N, t.val = q.val * 4 + n.val / 512 := ⟨⟨q.val * 4 + n.val / 512, lt_of_lt_of_eq (by omega) N_0.symm⟩, rfl⟩
  obtain ⟨i0, i1, i2⟩ := index t
  have b := congrFun (Value.blocks2 m c t (flush0_2 t)) (ix3 0 k ⟨n.val % 512, by omega⟩)
  rw [View.read_apply, Value.flushed2] at b
  have hy : (((cfg0.win 2).blk t).view.emb (ix3 0 k ⟨n.val % 512, by omega⟩) : S4x1408x2048.Idx) = ix3 q k n := by
    refine funext fun a => Fin.ext ?_
    match a with
    | ⟨0, _⟩ => show win0_2.index t 0 * 1 + 1 * 0 = q.val; rw [i2.1]; omega
    | ⟨1, _⟩ => show win0_2.index t 1 * 1408 + 1 * k.val = k.val; rw [i2.2.1]; omega
    | ⟨2, _⟩ => show win0_2.index t 2 * 512 + 1 * (n.val % 512) = n.val; rw [i2.2.2]; omega
  rw [hy] at b
  refine b.trans ((stored _ _ k _).trans (Finset.sum_congr rfl fun r _ => congrArg₂ (· * ·) ?_ ?_))
  · unfold iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 2304 + 1 * r.val = r.val; rw [i0.1]; omega
    | ⟨1, _⟩ => show win0_0.index t 1 * 1408 + 1 * k.val = q.val * 1408 + k.val; rw [i0.2]; omega
  · unfold iblk
    rw [View.read_apply]
    show V m c main_arg1 _ = _
    rw [V_main_arg1]
    refine congrArg (m ((c : Thread nD τ).loc main_arg1)) (funext fun a => Fin.ext ?_)
    match a with
    | ⟨0, _⟩ => show win0_1.index t 0 * 2304 + 1 * r.val = r.val; rw [i1.1]; omega
    | ⟨1, _⟩ => show win0_1.index t 1 * 512 + 1 * (n.val % 512) = n.val; rw [i1.2]; omega

open Cert.TnFfDownReferenceIdeal.Read in
/-- The result array of the reference. -/
theorem reference_entry (x0 : Vec Ideal S2304x5632 .bf16) (x1 : Vec Ideal S2304x2048 .bf16) (q : Fin 4) (k : Fin 1408) (n : Fin 2048) :
    val_main_v8 (F := Ideal) x0 x1 (ix3 q k n) = grad x0 x1 q k n := by
  unfold grad
  pointwise [val_main_v8, val_main_v7, val_main_v6, val_main_v5, val_main_v1, val_main_v0]
  exact Finset.sum_congr rfl fun r _ => mul_comm _ _

/-- The kernel runs on the machine, keeps its arguments, and ends with every counter at zero. -/
theorem frame : Cert.quiescent_TnFfDown := fun m ρ _ => Cert.TnFfDown.Gen.frame m ρ

/-- The same of its idealization. -/
theorem frameIdeal : Cert.quiescent_TnFfDownIdeal := fun m ρ _ => Cert.TnFfDownIdeal.Gen.frame m ρ

/-- The same of the reference. -/
theorem frameReference : Cert.quiescent_TnFfDownReferenceIdeal := fun m ρ _ =>
  (θ_run Cert.TnFfDownReferenceIdeal.defs _ _).mono (fun r h => ⟨fun c => (h c).2, sem_eq_zero_of_no_sems (by decide) r.2⟩)
    (Cert.TnFfDownReferenceIdeal.Value.run (F := Ideal) m ρ)

/-- The kernel's gradient is the reference's. -/
theorem algebraic : Cert.algebraic_TnFfDownIdeal_TnFfDownReferenceIdeal := by
  intro m g m' g' _ hin
  refine ⟨_, Value.run_blocks m g, (θ_run Cert.TnFfDownReferenceIdeal.defs _ _).mono (fun r h c => ?_)
    (Cert.TnFfDownReferenceIdeal.Value.run (F := Ideal) m' g')⟩
  obtain ⟨h0, hargs⟩ := h c
  obtain ⟨a0, a1⟩ := hin c
  refine ⟨(h0.trans (Cert.TnFfDownReferenceIdeal.Read.val_main_v8_eq _ _)).trans ?_, hargs⟩
  rw [a0, a1]
  funext i
  rw [eq_ix3 i]
  exact (reference_entry _ _ _ _ _).trans (kernel_entry m c _ _ _).symm

end Cert.TnFfDownProof

end
-- ==== Proof.NtGate.lean ====
module

public import proofs.«01_k».proof.Defs
public import Idealize.ShloMosaic.Lib.Pipeline.ReadBack
public import Idealize.ShloMosaic.Lib.Pipeline.ValueKit
public import proofs.«01_k».proof.Proof.Shards
public import proofs.«01_k».proof.Proof.Gen.NtGate.Frame
public import proofs.«01_k».proof.Proof.Gen.NtGateIdeal.Value
public import proofs.«01_k».proof.Proof.Gen.NtGateReferenceIdeal.Run
public import proofs.«01_k».proof.Proof.Gen.NtGateReferenceIdeal.Read
public import Idealize.ShloMosaic.Lib.Claim
public import Idealize.ShloMosaic.Lib.Pointwise
public import Idealize.ShloMosaic.Lib.Pipeline.ValueKit.Basic

/- The gradient that the gates send to the hidden state, `dc · wᵀ`, accumulated over the four branches.  Kernel and reference. -/

@[expose] public section

set_option maxRecDepth 16384

noncomputable section

namespace Cert.NtGateProof

open Idealize.ShloMosaic Idealize.ShloMosaic.TcCoe Idealize.SL.Sem Cert.NtGateIdeal Cert.NtGateIdeal.Gen

/-- Branch `q`'s part of entry `(r, k)`: row `r` of the branch's incoming gradient against row `k` of its weights. -/
def part (dc : Vec Ideal S2304x8192 .bf16) (w : Vec Ideal S4x2048x2048 .bf16) (r : Fin 2304) (k : Fin 2048) (q : Fin 4) : EReal :=
  ∑ n : Fin 2048, dc (ix2 r ⟨q.val * 2048 + n.val, by omega⟩) * w (ix3 q k n)

/-- Entry `(r, k)`: the sum over the branches. -/
def grad (dc : Vec Ideal S2304x8192 .bf16) (w : Vec Ideal S4x2048x2048 .bf16) (r : Fin 2304) (k : Fin 2048) : EReal := ∑ q : Fin 4, part dc w r k q

/-- Grid point `t` takes 768 rows of one branch's gradient and 1024 rows of that branch's weights. -/
theorem index (t : Fin cfg0.N) : (win0_0.index t 0 = t.val / 4 % 3 ∧ win0_0.index t 1 = t.val % 4)
    ∧ (win0_1.index t 0 = t.val % 4 ∧ win0_1.index t 1 = 0 ∧ win0_1.index t 2 = t.val / 12 ∧ win0_1.index t 3 = 0)
    ∧ (win0_2.index t 0 = t.val / 4 % 3 ∧ win0_2.index t 1 = t.val / 12) := by
  revert t
  change ∀ t : Fin grid0.N, _
  decide +kernel

/-- What the body stores at a block's first point: one product. -/
theorem first_apply (x : Vec Ideal S768x2048 .bf16) (w : Vec Ideal S1x1x1024x2048 .bf16) (r : Fin 768) (k : Fin 1024) :
    k0_pay2 x w (ix2 r k) = ∑ n : Fin 2048, x (ix2 r n) * w (ix4 0 0 k n) := by
  pointwise [k0_pay2, k0_pay1]

/-- What the body stores at a later point: what the scratch held, and one product. -/
theorem next_apply (x : Vec Ideal S768x2048 .bf16) (w : Vec Ideal S1x1x1024x2048 .bf16) (a : Vec Ideal S768x1024 .f32) (r : Fin 768) (k : Fin 1024) :
    k0_pay3 x w a (ix2 r k) = a (ix2 r k) + ∑ n : Fin 2048, x (ix2 r n) * w (ix4 0 0 k n) := by
  pointwise [k0_pay3, k0_pay1]

variable (m : (ℓ : Loc nD τ sig) → Buf (Elt Ideal) ℓ) (c : Dev nD)

/-- Point `t`'s block of the incoming gradient. -/
abbrev blk0 (t : Fin cfg0.N) : Vec Ideal S768x2048 .bf16 := iblk m c 0 t

/-- Point `t`'s block of the weights. -/
abbrev blk1 (t : Fin cfg0.N) : Vec Ideal S1x1x1024x2048 .bf16 := iblk m c 1 t

/-- What the scratch holds after point `t`. -/
abbrev scratch (t : Fin cfg0.N) : Vec Ideal S768x1024 .f32 := (outsAt0 m c t.val t.isLt).2

/-- The scratch after a block's first point. -/
theorem scratch_first (t : Fin cfg0.N) (h : t.val % 4 = 0) : scratch m c t = k0_pay2 (blk0 m c t) (blk1 m c t) := by
  unfold scratch
  rw [outsAt0_A m c t h (by omega) (by omega)]
  frame_out

/-- The scratch after a later point. -/
theorem scratch_next (t s : Fin cfg0.N) (h : t.val % 4 ≠ 0) (hs : s.val = t.val - 1) :
    scratch m c t = k0_pay3 (blk0 m c t) (blk1 m c t) (scratch m c s) := by
  obtain ⟨s, hlt⟩ := s
  obtain rfl : s = t.val - 1 := hs
  unfold scratch
  by_cases h3 : t.val % 4 = 3
  · rw [outsAt0_C m c t h (by omega) h3]
    frame_out
    rw [read_unread_whole]
  · rw [outsAt0_B m c t h (by omega) h3]
    frame_out
    rw [read_unread_whole]

/-- What a block's last point writes back is the scratch. -/
theorem out_last (t : Fin cfg0.N) (h : t.val % 4 = 3) : (outsAt0 m c t.val t.isLt).1 = scratch m c t := by
  unfold scratch
  rw [outsAt0_C m c t (by omega) (by omega) h]
  frame_out

/-- The host gives the weights a unit axis. -/
theorem weights (q : Fin 4) (k n : Fin 2048) : (V m c main_v0 : Vec Ideal S4x1x2048x2048 .bf16) (ix4 q 0 k n)
    = (m ((c : Thread nD τ).loc main_arg1) : Vec Ideal S4x2048x2048 .bf16) (ix3 q k n) := by
  entry_read
  pointwise

/-- The product of point `t`'s blocks is one branch's part. -/
theorem block_part (t : Fin cfg0.N) (r : Fin 2304) (k : Fin 2048) (q : Fin 4) (ht : t.val = k.val / 1024 * 12 + r.val / 768 * 4 + q.val) :
    (∑ n : Fin 2048, blk0 m c t (ix2 ⟨r.val % 768, by omega⟩ n) * blk1 m c t (ix4 0 0 ⟨k.val % 1024, by omega⟩ n))
      = part (m ((c : Thread nD τ).loc main_arg0)) (m ((c : Thread nD τ).loc main_arg1)) r k q := by
  obtain ⟨i0, i1, -⟩ := index t
  refine Finset.sum_congr rfl fun n _ => congrArg₂ (· * ·) ?_ ?_
  · unfold blk0 iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 768 + 1 * (r.val % 768) = r.val; rw [i0.1]; omega
    | ⟨1, _⟩ => show win0_0.index t 1 * 2048 + 1 * n.val = q.val * 2048 + n.val; rw [i0.2]; omega
  · refine Eq.trans ?_ (weights m c q k n)
    unfold blk1 iblk
    rw [View.read_apply]
    refine congrArg (V m c main_v0) (funext fun a => Fin.ext ?_)
    match a with
    | ⟨0, _⟩ => show win0_1.index t 0 * 1 + 1 * 0 = q.val; rw [i1.1]; omega
    | ⟨1, _⟩ => show win0_1.index t 1 * 1 + 1 * 0 = 0; rw [i1.2.1]
    | ⟨2, _⟩ => show win0_1.index t 2 * 1024 + 1 * (k.val % 1024) = k.val; rw [i1.2.2.1]; omega
    | ⟨3, _⟩ => show win0_1.index t 3 * 2048 + 1 * n.val = n.val; rw [i1.2.2.2]; omega

/-- The result array of the kernel. -/
theorem kernel_entry (r : Fin 2304) (k : Fin 2048) : ((dats m 0 c).arrAt 2 cfg0.N : Vec Ideal S2304x2048 .f32) (ix2 r k)
    = grad (m ((c : Thread nD τ).loc main_arg0)) (m ((c : Thread nD τ).loc main_arg1)) r k := by
  have point (q : Fin 4) : ∃ t : Fin cfg0.N, t.val = k.val / 1024 * 12 + r.val / 768 * 4 + q.val :=
    ⟨⟨k.val / 1024 * 12 + r.val / 768 * 4 + q.val, lt_of_lt_of_eq (by omega) N_0.symm⟩, rfl⟩
  obtain ⟨t0, h0⟩ := point 0
  obtain ⟨t1, h1⟩ := point 1
  obtain ⟨t2, h2⟩ := point 2
  obtain ⟨t3, h3⟩ := point 3
  have e0 : (0 : Fin 4).val = 0 := rfl
  have e1 : (1 : Fin 4).val = 1 := rfl
  have e2 : (2 : Fin 4).val = 2 := rfl
  have e3 : (3 : Fin 4).val = 3 := rfl
  have b : ((dats m 0 c).arrAt 2 cfg0.N : Vec Ideal S2304x2048 .f32) (ix2 r k)
      = scratch m c t3 (ix2 ⟨r.val % 768, by omega⟩ ⟨k.val % 1024, by omega⟩) := by
    rw [Value.final2, ← out_last m c t3 (by omega), Value.outsAt0_sweep]
    have hp : Value.pt2Of (ix2 r k) = t3.val := by
      show 4 * (1 * (r.val / 768 - 0) + 3 * (k.val / 1024 - 0)) + 3 = _
      omega
    unfold Value.G2
    rw [dif_pos (by rw [hp]; exact t3.isLt), Value.fold0_congr m c _ _ _ (by rw [Nat.zero_add]; exact t3.isLt) hp]
    refine congrArg _ (funext fun a => Fin.ext ?_)
    match a with
    | ⟨0, _⟩ => rfl
    | ⟨1, _⟩ => rfl
  refine b.trans (Eq.trans (b := part (m ((c : Thread nD τ).loc main_arg0)) (m ((c : Thread nD τ).loc main_arg1)) r k 0 + part _ _ r k 1
    + part _ _ r k 2 + part _ _ r k 3) ?_ (Fin.sum_univ_four _).symm)
  rw [scratch_next m c t3 t2 (by omega) (by omega), next_apply, scratch_next m c t2 t1 (by omega) (by omega), next_apply,
    scratch_next m c t1 t0 (by omega) (by omega), next_apply, scratch_first m c t0 (by omega), first_apply,
    block_part m c t0 r k 0 h0, block_part m c t1 r k 1 h1, block_part m c t2 r k 2 h2, block_part m c t3 r k 3 h3]

open Cert.NtGateReferenceIdeal.Read in
/-- The result array of the reference. -/
theorem reference_entry (x0 : Vec Ideal S2304x8192 .bf16) (x1 : Vec Ideal S4x2048x2048 .bf16) (r : Fin 2304) (k : Fin 2048) :
    val_main_v6 (F := Ideal) x0 x1 (ix2 r k) = grad x0 x1 r k := by
  refine Eq.trans (b := ∑ j : Fin 8192, x0 (ix2 r j) * x1 (ix3 ⟨j.val / 2048, by omega⟩ k ⟨j.val % 2048, by omega⟩))
    (by pointwise [val_main_v6, val_main_v4, val_main_v3, val_main_v1, val_main_v0]) ?_
  rw [Shards.sum_shards (a := 4) (b := 2048) rfl]
  refine Finset.sum_congr rfl fun q _ => Finset.sum_congr rfl fun n _ => congrArg (_ * ·) (congrArg x1 ?_)
  exact congrArg₂ (fun u v => ix3 u k v) (Fin.ext (by show (q.val * 2048 + n.val) / 2048 = q.val; omega))
    (Fin.ext (by show (q.val * 2048 + n.val) % 2048 = n.val; omega))

/-- The kernel runs on the machine, keeps its arguments, and ends with every counter at zero. -/
theorem frame : Cert.quiescent_NtGate := fun m ρ _ => Cert.NtGate.Gen.frame m ρ

/-- The same of its idealization. -/
theorem frameIdeal : Cert.quiescent_NtGateIdeal := fun m ρ _ => Cert.NtGateIdeal.Gen.frame m ρ

/-- The same of the reference. -/
theorem frameReference : Cert.quiescent_NtGateReferenceIdeal := fun m ρ _ =>
  (θ_run Cert.NtGateReferenceIdeal.defs _ _).mono (fun r h => ⟨fun c => (h c).2, sem_eq_zero_of_no_sems (by decide) r.2⟩)
    (Cert.NtGateReferenceIdeal.Value.run (F := Ideal) m ρ)

/-- The kernel's gradient is the reference's. -/
theorem algebraic : Cert.algebraic_NtGateIdeal_NtGateReferenceIdeal := by
  intro m g m' g' _ hin
  refine ⟨_, Value.run_blocks m g, (θ_run Cert.NtGateReferenceIdeal.defs _ _).mono (fun r h c => ?_)
    (Cert.NtGateReferenceIdeal.Value.run (F := Ideal) m' g')⟩
  obtain ⟨h0, hargs⟩ := h c
  obtain ⟨a0, a1⟩ := hin c
  refine ⟨(h0.trans (Cert.NtGateReferenceIdeal.Read.val_main_v6_eq _ _)).trans ?_, hargs⟩
  rw [a0, a1]
  funext i
  rw [eq_ix2 i]
  exact (reference_entry _ _ _ _).trans (kernel_entry m c _ _).symm

end Cert.NtGateProof

end
-- ==== Proof.TnGate.lean ====
module

public import proofs.«01_k».proof.Defs
public import proofs.«01_k».proof.Proof.Gen.TnGate.Frame
public import proofs.«01_k».proof.Proof.Gen.TnGateIdeal.Value
public import proofs.«01_k».proof.Proof.Gen.TnGateReferenceIdeal.Run
public import proofs.«01_k».proof.Proof.Gen.TnGateReferenceIdeal.Read
public import Idealize.ShloMosaic.Lib.Claim
public import Idealize.ShloMosaic.Lib.Pointwise
public import Idealize.ShloMosaic.Lib.Pipeline.ValueKit.Basic

/- The gradient of the gates' weight matrices, `hᵀ · dc`, one shard of 2048 columns for each branch: kernel and reference. -/

@[expose] public section

set_option maxRecDepth 16384

noncomputable section

namespace Cert.TnGateProof

open Idealize.ShloMosaic Idealize.ShloMosaic.TcCoe Idealize.SL.Sem Cert.TnGateIdeal Cert.TnGateIdeal.Gen

/-- Entry `(k, n)` of shard `q`: column `k` of `h` against column `2048 q + n` of the incoming gradient. -/
def grad (h : Vec Ideal S2304x2048 .bf16) (dc : Vec Ideal S2304x8192 .bf16) (q : Fin 4) (k : Fin 2048) (n : Fin 2048) : EReal :=
  ∑ r : Fin 2304, h (ix2 r k) * dc (ix2 r ⟨q.val * 2048 + n.val, by omega⟩)

/-- Grid point `t` takes 512 columns of `h` and 1024 columns of the gradient. -/
theorem index (t : Fin cfg0.N) : (win0_0.index t 0 = 0 ∧ win0_0.index t 1 = t.val / 2 % 4) ∧ (win0_1.index t 0 = 0 ∧ win0_1.index t 1 = t.val / 8 * 2 + t.val % 2)
    ∧ (win0_2.index t 0 = t.val / 8 ∧ win0_2.index t 1 = t.val / 2 % 4 ∧ win0_2.index t 2 = t.val % 2) := by
  revert t
  change ∀ t : Fin grid0.N, _
  decide +kernel

/-- What the body stores. -/
theorem stored (x : Vec Ideal S2304x512 .bf16) (y : Vec Ideal S2304x1024 .bf16) (k : Fin 512) (n : Fin 1024) :
    out0_2 x y (ix3 0 k n) = ∑ r : Fin 2304, x (ix2 r k) * y (ix2 r n) := by
  have e : out0_2 x y = k0_pay1 x y := by
    unfold out0_2
    rw [View.canon_cons_unit_lit _ _ _ (by decide), View.ld_unit_lit _ _ (by decide), View.ld_unit_lit _ _ (by decide)]
  rw [e]
  pointwise [k0_pay1]

variable (m : (ℓ : Loc nD τ sig) → Buf (Elt Ideal) ℓ) (c : Dev nD)

/-- The result array of the kernel. -/
theorem kernel_entry (q : Fin 4) (k : Fin 2048) (n : Fin 2048) :
    ((dats m 0 c).arrAt 2 cfg0.N : Vec Ideal S4x2048x2048 .bf16) (ix3 q k n)
      = grad (m ((c : Thread nD τ).loc main_arg0)) (m ((c : Thread nD τ).loc main_arg1)) q k n := by
  obtain ⟨t, ht⟩ : ∃ t : Fin cfg0.N, t.val = q.val * 8 + k.val / 512 * 2 + n.val / 1024 :=
    ⟨⟨q.val * 8 + k.val / 512 * 2 + n.val / 1024, lt_of_lt_of_eq (by omega) N_0.symm⟩, rfl⟩
  obtain ⟨i0, i1, i2⟩ := index t
  have b := congrFun (Value.blocks2 m c t (flush0_2 t)) (ix3 0 ⟨k.val % 512, by omega⟩ ⟨n.val % 1024, by omega⟩)
  rw [View.read_apply, Value.flushed2] at b
  have hy : (((cfg0.win 2).blk t).view.emb (ix3 0 ⟨k.val % 512, by omega⟩ ⟨n.val % 1024, by omega⟩) : S4x2048x2048.Idx) = ix3 q k n := by
    refine funext fun a => Fin.ext ?_
    match a with
    | ⟨0, _⟩ => show win0_2.index t 0 * 1 + 1 * 0 = q.val; rw [i2.1]; omega
    | ⟨1, _⟩ => show win0_2.index t 1 * 512 + 1 * (k.val % 512) = k.val; rw [i2.2.1]; omega
    | ⟨2, _⟩ => show win0_2.index t 2 * 1024 + 1 * (n.val % 1024) = n.val; rw [i2.2.2]; omega
  rw [hy] at b
  refine b.trans ((stored _ _ _ _).trans (Finset.sum_congr rfl fun r _ => congrArg₂ (· * ·) ?_ ?_))
  · unfold iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 2304 + 1 * r.val = r.val; rw [i0.1]; omega
    | ⟨1, _⟩ => show win0_0.index t 1 * 512 + 1 * (k.val % 512) = k.val; rw [i0.2]; omega
  · unfold iblk
    rw [View.read_apply]
    show V m c main_arg1 _ = _
    rw [V_main_arg1]
    refine congrArg (m ((c : Thread nD τ).loc main_arg1)) (funext fun a => Fin.ext ?_)
    match a with
    | ⟨0, _⟩ => show win0_1.index t 0 * 2304 + 1 * r.val = r.val; rw [i1.1]; omega
    | ⟨1, _⟩ => show win0_1.index t 1 * 1024 + 1 * (n.val % 1024) = q.val * 2048 + n.val; rw [i1.2]; omega

open Cert.TnGateReferenceIdeal.Read in
/-- The result array of the reference. -/
theorem reference_entry (x0 : Vec Ideal S2304x2048 .bf16) (x1 : Vec Ideal S2304x8192 .bf16) (q : Fin 4) (k : Fin 2048) (n : Fin 2048) :
    val_main_v10 (F := Ideal) x0 x1 (ix3 q k n) = grad x0 x1 q k n := by
  unfold grad
  pointwise [val_main_v10, val_main_v9, val_main_v8, val_main_v7, val_main_v6, val_main_v1, val_main_v0]
  exact Finset.sum_congr rfl fun r _ => mul_comm _ _

/-- The kernel runs on the machine, keeps its arguments, and ends with every counter at zero. -/
theorem frame : Cert.quiescent_TnGate := fun m ρ _ => Cert.TnGate.Gen.frame m ρ

/-- The same of its idealization. -/
theorem frameIdeal : Cert.quiescent_TnGateIdeal := fun m ρ _ => Cert.TnGateIdeal.Gen.frame m ρ

/-- The same of the reference. -/
theorem frameReference : Cert.quiescent_TnGateReferenceIdeal := fun m ρ _ =>
  (θ_run Cert.TnGateReferenceIdeal.defs _ _).mono (fun r h => ⟨fun c => (h c).2, sem_eq_zero_of_no_sems (by decide) r.2⟩)
    (Cert.TnGateReferenceIdeal.Value.run (F := Ideal) m ρ)

/-- The kernel's gradient is the reference's. -/
theorem algebraic : Cert.algebraic_TnGateIdeal_TnGateReferenceIdeal := by
  intro m g m' g' _ hin
  refine ⟨_, Value.run_blocks m g, (θ_run Cert.TnGateReferenceIdeal.defs _ _).mono (fun r h c => ?_)
    (Cert.TnGateReferenceIdeal.Value.run (F := Ideal) m' g')⟩
  obtain ⟨h0, hargs⟩ := h c
  obtain ⟨a0, a1⟩ := hin c
  refine ⟨(h0.trans (Cert.TnGateReferenceIdeal.Read.val_main_v10_eq _ _)).trans ?_, hargs⟩
  rw [a0, a1]
  funext i
  rw [eq_ix3 i]
  exact (reference_entry _ _ _ _ _).trans (kernel_entry m c _ _ _).symm

end Cert.TnGateProof

end
-- ==== Proof.MergeBwd.lean ====
module

public import proofs.«01_k».proof.Defs
public import proofs.«01_k».proof.Proof.Gen.MergeBwd.Frame
public import proofs.«01_k».proof.Proof.Gen.MergeBwdIdeal.Value
public import proofs.«01_k».proof.Proof.Gen.MergeBwdReferenceIdeal.Run
public import proofs.«01_k».proof.Proof.Gen.MergeBwdReferenceIdeal.Read
public import Idealize.ShloMosaic.Lib.Claim
public import Idealize.ShloMosaic.Lib.Pointwise
public import Idealize.ShloMosaic.Lib.Pipeline.ValueKit
public import Idealize.ShloMosaic.Lib.Pipeline.ValueKit.Basic

/- The gradient of the gated merge of the four branches: of the gates' pre-activations, of the branches, and the pre-activations' column sums over blocks of 128 rows.  Kernel and reference. -/

@[expose] public section

set_option maxRecDepth 16384

noncomputable section

namespace Cert.MergeBwdProof

open Idealize.ShloMosaic Idealize.ShloMosaic.TcCoe Idealize.SL.Sem Cert.MergeBwdIdeal Cert.MergeBwdIdeal.Gen

/-- The gradient of a gate's pre-activation, of the merge's gradient `d`, the branch `t` and the gate `g`. -/
def slope (d t g : EReal) : EReal := d * t * g * (1 - g)

/-- The branch that column `j` of the gates belongs to. -/
def pick {α : Type} (t0 t1 t2 t3 : α) (j : ℕ) : α := if j < 2048 then t0 else if j < 4096 then t1 else if j < 6144 then t2 else t3

/-- Entry `(r, j)` of the gates' gradient. -/
def dgate (d : Vec Ideal S2304x2048 .f32) (pre : Vec Ideal S2304x8192 .f32) (t0 t1 t2 t3 : Vec Ideal S2304x2048 .bf16) (r : Fin 2304) (j : Fin 8192) : EReal :=
  slope (d (ix2 r ⟨j.val % 2048, by omega⟩)) (pick t0 t1 t2 t3 j.val (ix2 r ⟨j.val % 2048, by omega⟩)) (Ideal.logistic (pre (ix2 r j)))

/-- Entry `(r, n)` of the gradient of the branch whose gates begin at column `o`. -/
def dbranch (d : Vec Ideal S2304x2048 .f32) (pre : Vec Ideal S2304x8192 .f32) (o : ℕ) (ho : o ≤ 6144) (r : Fin 2304) (n : Fin 2048) : EReal :=
  d (ix2 r n) * Ideal.logistic (pre (ix2 r ⟨o + n.val, by omega⟩))

/-- Column `j`'s sum of the gates' gradient over block `b` of 128 rows. -/
def dsum (d : Vec Ideal S2304x2048 .f32) (pre : Vec Ideal S2304x8192 .f32) (t0 t1 t2 t3 : Vec Ideal S2304x2048 .bf16) (b : Fin 18) (j : Fin 8192) : EReal :=
  ∑ r : Fin 128, dgate d pre t0 t1 t2 t3 ⟨b.val * 128 + r.val, by omega⟩ j

/-- Grid point `t` takes 128 rows of every array. -/
theorem index (t : Fin cfg0.N) : (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) ∧ (win0_8.index t 0 = t.val ∧ win0_8.index t 1 = 0) ∧ (win0_9.index t 0 = t.val ∧ win0_9.index t 1 = 0) ∧ (win0_10.index t 0 = t.val ∧ win0_10.index t 1 = 0)
    ∧ (win0_11.index t 0 = t.val ∧ win0_11.index t 1 = 0 ∧ win0_11.index t 2 = 0) := by
  revert t
  change ∀ t : Fin grid0.N, _
  decide +kernel

section Payload

variable (d : Vec Ideal S128x2048 .f32) (g t : Vec Ideal S128x2048 .bf16) (r : Fin 128) (n : Fin 2048)

/-- The gradient of the first gate's pre-activations, as the body forms it. -/
theorem slope0 : k0_pay7 d g t (ix2 r n) = slope (d (ix2 r n)) (t (ix2 r n)) (g (ix2 r n)) := by
  unfold slope
  pointwise [k0_pay7, k0_pay6, k0_pay4]

/-- Its column sums. -/
theorem sum0 : k0_pay8 d g t (ix3 0 0 n) = ∑ r : Fin 128, slope (d (ix2 r n)) (t (ix2 r n)) (g (ix2 r n)) := by
  unfold slope
  pointwise [k0_pay8, k0_pay6, k0_pay4]

/-- The gradient of the second gate's pre-activations, as the body forms it. -/
theorem slope1 : k0_pay14 (k0_pay11 d g t) (k0_pay12 g) (ix2 r n) = slope (d (ix2 r n)) (t (ix2 r n)) (g (ix2 r n)) := by
  unfold slope
  pointwise [k0_pay14, k0_pay13, k0_pay12, k0_pay11, k0_pay9]

/-- Its column sums. -/
theorem sum1 : k0_pay15 (k0_pay11 d g t) (k0_pay12 g) (ix3 0 0 n) = ∑ r : Fin 128, slope (d (ix2 r n)) (t (ix2 r n)) (g (ix2 r n)) := by
  unfold slope
  pointwise [k0_pay15, k0_pay13, k0_pay12, k0_pay11, k0_pay9]

/-- The gradient of the third gate's pre-activations, as the body forms it. -/
theorem slope2 : k0_pay19 d g t (ix2 r n) = slope (d (ix2 r n)) (t (ix2 r n)) (g (ix2 r n)) := by
  unfold slope
  pointwise [k0_pay19, k0_pay18, k0_pay16]

/-- Its column sums. -/
theorem sum2 : k0_pay20 d g t (ix3 0 0 n) = ∑ r : Fin 128, slope (d (ix2 r n)) (t (ix2 r n)) (g (ix2 r n)) := by
  unfold slope
  pointwise [k0_pay20, k0_pay18, k0_pay16]

/-- The gradient of the fourth gate's pre-activations, as the body forms it. -/
theorem slope3 : k0_pay2 d (k0_pay21 g) t (ix2 r n) = slope (d (ix2 r n)) (t (ix2 r n)) (g (ix2 r n)) := by
  unfold slope
  pointwise [k0_pay2, k0_pay1, k0_pay21]

/-- Its column sums. -/
theorem sum3 : k0_pay3 d (k0_pay21 g) t (ix3 0 0 n) = ∑ r : Fin 128, slope (d (ix2 r n)) (t (ix2 r n)) (g (ix2 r n)) := by
  unfold slope
  pointwise [k0_pay3, k0_pay1, k0_pay21]

end Payload

section Block

variable (x0 : Vec Ideal S128x2048 .f32) (x1 : Vec Ideal S128x8192 .bf16) (x2 x3 x4 x5 : Vec Ideal S128x2048 .bf16)

/-- A whole block read back. -/
theorem whole {e : EltTy} (x : Vec Ideal S128x2048 e) : View.ld x r0_0 = x := View.ld_unit_lit _ _ (by decide)

/-- Four columns apart by 2048 of the gates' block. -/
theorem cols (o : ℕ) (inb : ∀ a, (![0, o] : Fin 2 → ℕ) a + S128x2048.size a ≤ S128x8192.size a) (r : Fin 128) (n : Fin 2048) (j : Fin 8192) (hj : j.val = o + n.val) :
    View.ld x1 (Rect.unit (s := S128x8192) ![0, o] S128x2048.size inb) (ix2 r n) = x1 (ix2 r j) := by
  refine View.ld_unit_apply_of _ _ _ _ _ _ fun a => ?_
  match a with
  | ⟨0, _⟩ => show r.val = 0 + r.val; omega
  | ⟨1, _⟩ => exact hj

/-- The gates' gradient that the body stores. -/
theorem stored6 (r : Fin 128) (j : Fin 8192) : out0_6 x0 x1 x2 x3 x4 x5 (ix2 r j)
    = slope (x0 (ix2 r ⟨j.val % 2048, by omega⟩)) (pick x2 x3 x4 x5 j.val (ix2 r ⟨j.val % 2048, by omega⟩)) (x1 (ix2 r j)) := by
  unfold_out out0_6
  unfold pick
  canon_tiles x h
  · change j.val = 6144 + (x 1).val at h1
    have e : x = ix2 r ⟨j.val % 2048, by omega⟩ := (eq_ix2 x).trans (congrArg₂ ix2 (Fin.ext h0.symm) (Fin.ext (by show (x 1).val = j.val % 2048; omega)))
    rw [e, whole, whole, slope3, cols x1 6144 _ r _ j (by show j.val = 6144 + j.val % 2048; omega)]
    rw [if_neg (by omega), if_neg (by omega), if_neg (by omega)]
  · change j.val = 4096 + (x 1).val at h1
    have e : x = ix2 r ⟨j.val % 2048, by omega⟩ := (eq_ix2 x).trans (congrArg₂ ix2 (Fin.ext h0.symm) (Fin.ext (by show (x 1).val = j.val % 2048; omega)))
    rw [e, whole, whole, slope2, cols x1 4096 _ r _ j (by show j.val = 4096 + j.val % 2048; omega)]
    rw [if_neg (by omega), if_neg (by omega), if_pos (by omega)]
  · change j.val = 2048 + (x 1).val at h1
    have e : x = ix2 r ⟨j.val % 2048, by omega⟩ := (eq_ix2 x).trans (congrArg₂ ix2 (Fin.ext h0.symm) (Fin.ext (by show (x 1).val = j.val % 2048; omega)))
    rw [e, whole, whole, slope1, cols x1 2048 _ r _ j (by show j.val = 2048 + j.val % 2048; omega)]
    rw [if_neg (by omega), if_pos (by omega)]
  · change j.val = (x 1).val at h1
    have e : x = ix2 r ⟨j.val % 2048, by omega⟩ := (eq_ix2 x).trans (congrArg₂ ix2 (Fin.ext h0.symm) (Fin.ext (by show (x 1).val = j.val % 2048; omega)))
    rw [e, whole, whole, slope0, cols x1 0 _ r _ j (by show j.val = 0 + j.val % 2048; omega)]
    rw [if_pos (by omega)]

/-- The column sums that the body stores. -/
theorem stored11 (j : Fin 8192) : out0_11 x0 x1 x2 x3 x4 x5 (ix3 0 0 j)
    = ∑ r : Fin 128, slope (x0 (ix2 r ⟨j.val % 2048, by omega⟩)) (pick x2 x3 x4 x5 j.val (ix2 r ⟨j.val % 2048, by omega⟩)) (x1 (ix2 r j)) := by
  unfold_out out0_11
  unfold pick
  canon_tiles x h
  · change j.val = 6144 + (x 2).val at h2
    have e : x = ix3 0 0 ⟨j.val % 2048, by omega⟩ := by
      refine funext fun a => Fin.ext ?_
      match a with
      | ⟨0, _⟩ => show (x 0).val = 0; omega
      | ⟨1, _⟩ => show (x 1).val = 0; omega
      | ⟨2, _⟩ => show (x 2).val = j.val % 2048; omega
    rw [e, whole, whole, sum3]
    refine Finset.sum_congr rfl fun r _ => ?_
    rw [cols x1 6144 _ r _ j (by show j.val = 6144 + j.val % 2048; omega)]
    rw [if_neg (by omega), if_neg (by omega), if_neg (by omega)]
  · change j.val = 4096 + (x 2).val at h2
    have e : x = ix3 0 0 ⟨j.val % 2048, by omega⟩ := by
      refine funext fun a => Fin.ext ?_
      match a with
      | ⟨0, _⟩ => show (x 0).val = 0; omega
      | ⟨1, _⟩ => show (x 1).val = 0; omega
      | ⟨2, _⟩ => show (x 2).val = j.val % 2048; omega
    rw [e, whole, whole, sum2]
    refine Finset.sum_congr rfl fun r _ => ?_
    rw [cols x1 4096 _ r _ j (by show j.val = 4096 + j.val % 2048; omega)]
    rw [if_neg (by omega), if_neg (by omega), if_pos (by omega)]
  · change j.val = 2048 + (x 2).val at h2
    have e : x = ix3 0 0 ⟨j.val % 2048, by omega⟩ := by
      refine funext fun a => Fin.ext ?_
      match a with
      | ⟨0, _⟩ => show (x 0).val = 0; omega
      | ⟨1, _⟩ => show (x 1).val = 0; omega
      | ⟨2, _⟩ => show (x 2).val = j.val % 2048; omega
    rw [e, whole, whole, sum1]
    refine Finset.sum_congr rfl fun r _ => ?_
    rw [cols x1 2048 _ r _ j (by show j.val = 2048 + j.val % 2048; omega)]
    rw [if_neg (by omega), if_pos (by omega)]
  · change j.val = (x 2).val at h2
    have e : x = ix3 0 0 ⟨j.val % 2048, by omega⟩ := by
      refine funext fun a => Fin.ext ?_
      match a with
      | ⟨0, _⟩ => show (x 0).val = 0; omega
      | ⟨1, _⟩ => show (x 1).val = 0; omega
      | ⟨2, _⟩ => show (x 2).val = j.val % 2048; omega
    rw [e, whole, whole, sum0]
    refine Finset.sum_congr rfl fun r _ => ?_
    rw [cols x1 0 _ r _ j (by show j.val = 0 + j.val % 2048; omega)]
    rw [if_pos (by omega)]

/-- The first branch's gradient that the body stores. -/
theorem stored7 (r : Fin 128) (n : Fin 2048) : out0_7 x0 x1 x2 x3 x4 x5 (ix2 r n) = x0 (ix2 r n) * x1 (ix2 r ⟨0 + n.val, by omega⟩) := by
  have e : out0_7 x0 x1 x2 x3 x4 x5 = k0_pay5 x0 (View.ld x1 r0_1) := by
    unfold out0_7
    rw [View.canon_cons_unit_lit _ _ _ (by decide), whole]
  refine (congrFun e _).trans (Eq.trans (b := x0 (ix2 r n) * (View.ld x1 r0_1 : Vec Ideal S128x2048 .bf16) (ix2 r n)) ?_
    (congrArg (_ * ·) (cols x1 0 _ r n ⟨0 + n.val, by omega⟩ rfl)))
  generalize (View.ld x1 r0_1 : Vec Ideal S128x2048 .bf16) = g
  pointwise [k0_pay5, k0_pay4]

/-- The second branch's gradient that the body stores. -/
theorem stored8 (r : Fin 128) (n : Fin 2048) : out0_8 x0 x1 x2 x3 x4 x5 (ix2 r n) = x0 (ix2 r n) * x1 (ix2 r ⟨2048 + n.val, by omega⟩) := by
  have e : out0_8 x0 x1 x2 x3 x4 x5 = k0_pay10 x0 (View.ld x1 r0_3) := by
    unfold out0_8
    rw [View.canon_cons_unit_lit _ _ _ (by decide), whole]
  refine (congrFun e _).trans (Eq.trans (b := x0 (ix2 r n) * (View.ld x1 r0_3 : Vec Ideal S128x2048 .bf16) (ix2 r n)) ?_
    (congrArg (_ * ·) (cols x1 2048 _ r n ⟨2048 + n.val, by omega⟩ rfl)))
  generalize (View.ld x1 r0_3 : Vec Ideal S128x2048 .bf16) = g
  pointwise [k0_pay10, k0_pay9]

/-- The third branch's gradient that the body stores. -/
theorem stored9 (r : Fin 128) (n : Fin 2048) : out0_9 x0 x1 x2 x3 x4 x5 (ix2 r n) = x0 (ix2 r n) * x1 (ix2 r ⟨4096 + n.val, by omega⟩) := by
  have e : out0_9 x0 x1 x2 x3 x4 x5 = k0_pay17 x0 (View.ld x1 r0_5) := by
    unfold out0_9
    rw [View.canon_cons_unit_lit _ _ _ (by decide), whole]
  refine (congrFun e _).trans (Eq.trans (b := x0 (ix2 r n) * (View.ld x1 r0_5 : Vec Ideal S128x2048 .bf16) (ix2 r n)) ?_
    (congrArg (_ * ·) (cols x1 4096 _ r n ⟨4096 + n.val, by omega⟩ rfl)))
  generalize (View.ld x1 r0_5 : Vec Ideal S128x2048 .bf16) = g
  pointwise [k0_pay17, k0_pay16]

/-- The fourth branch's gradient that the body stores. -/
theorem stored10 (r : Fin 128) (n : Fin 2048) : out0_10 x0 x1 x2 x3 x4 x5 (ix2 r n) = x0 (ix2 r n) * x1 (ix2 r ⟨6144 + n.val, by omega⟩) := by
  have e : out0_10 x0 x1 x2 x3 x4 x5 = k0_pay22 x0 (View.ld x1 r0_7) := by
    unfold out0_10
    rw [View.canon_cons_unit_lit _ _ _ (by decide), whole]
  refine (congrFun e _).trans (Eq.trans (b := x0 (ix2 r n) * (View.ld x1 r0_7 : Vec Ideal S128x2048 .bf16) (ix2 r n)) ?_
    (congrArg (_ * ·) (cols x1 6144 _ r n ⟨6144 + n.val, by omega⟩ rfl)))
  generalize (View.ld x1 r0_7 : Vec Ideal S128x2048 .bf16) = g
  pointwise [k0_pay22, k0_pay21]

end Block

section Array

variable (m : (ℓ : Loc nD τ sig) → Buf (Elt Ideal) ℓ) (c : Dev nD)

/-- The argument arrays. -/
abbrev arg0 : Vec Ideal S2304x2048 .f32 := m ((c : Thread nD τ).loc main_arg0)
abbrev arg1 : Vec Ideal S2304x8192 .f32 := m ((c : Thread nD τ).loc main_arg1)
abbrev arg2 : Vec Ideal S2304x2048 .bf16 := m ((c : Thread nD τ).loc main_arg2)
abbrev arg3 : Vec Ideal S2304x2048 .bf16 := m ((c : Thread nD τ).loc main_arg3)
abbrev arg4 : Vec Ideal S2304x2048 .bf16 := m ((c : Thread nD τ).loc main_arg4)
abbrev arg5 : Vec Ideal S2304x2048 .bf16 := m ((c : Thread nD τ).loc main_arg5)

/-- The host forms the gates. -/
theorem gates (r : Fin 2304) (j : Fin 8192) : (V m c main_v6 : Vec Ideal S2304x8192 .bf16) (ix2 r j)
    = Ideal.logistic ((arg1 m c) (ix2 r j)) := by
  unfold Ideal.logistic
  entry_read
  pointwise

/-- Point `t`'s block of the merge's gradient. -/
abbrev blk0 (t : Fin cfg0.N) : Vec Ideal S128x2048 .f32 := iblk m c 0 t

/-- Point `t`'s block of the gates. -/
abbrev blk1 (t : Fin cfg0.N) : Vec Ideal S128x8192 .bf16 := iblk m c 1 t

/-- Point `t`'s block of a branch. -/
abbrev blk2 (t : Fin cfg0.N) : Vec Ideal S128x2048 .bf16 := iblk m c 2 t

/-- Point `t`'s block of a branch. -/
abbrev blk3 (t : Fin cfg0.N) : Vec Ideal S128x2048 .bf16 := iblk m c 3 t

/-- Point `t`'s block of a branch. -/
abbrev blk4 (t : Fin cfg0.N) : Vec Ideal S128x2048 .bf16 := iblk m c 4 t

/-- Point `t`'s block of a branch. -/
abbrev blk5 (t : Fin cfg0.N) : Vec Ideal S128x2048 .bf16 := iblk m c 5 t

variable {t : Fin cfg0.N} {r : Fin 2304} (ht : t.val = r.val / 128)

include ht in
/-- The block holds the array's rows. -/
theorem block0 (n : Fin 2048) : blk0 m c t (ix2 ⟨r.val % 128, by omega⟩ n)
    = (arg0 m c) (ix2 r n) := by
  obtain ⟨i, -⟩ := index t
  unfold blk0 iblk
  rw [View.read_apply]
  show V m c main_arg0 _ = _
  rw [V_main_arg0]
  refine congrArg (arg0 m c) (funext fun a => Fin.ext ?_)
  match a with
  | ⟨0, _⟩ => show win0_0.index t 0 * 128 + 1 * (r.val % 128) = r.val; rw [i.1] <;> omega
  | ⟨1, _⟩ => show win0_0.index t 1 * 2048 + 1 * n.val = n.val; rw [i.2] <;> omega

include ht in
/-- The gates' block holds the array's rows. -/
theorem block1 (j : Fin 8192) : blk1 m c t (ix2 ⟨r.val % 128, by omega⟩ j)
    = Ideal.logistic ((arg1 m c) (ix2 r j)) := by
  obtain ⟨-, i, -⟩ := index t
  refine Eq.trans ?_ (gates m c r j)
  unfold blk1 iblk
  rw [View.read_apply]
  refine congrArg (V m c main_v6) (funext fun a => Fin.ext ?_)
  match a with
  | ⟨0, _⟩ => show win0_1.index t 0 * 128 + 1 * (r.val % 128) = r.val; rw [i.1] <;> omega
  | ⟨1, _⟩ => show win0_1.index t 1 * 8192 + 1 * j.val = j.val; rw [i.2] <;> omega

include ht in
/-- The block holds the array's rows. -/
theorem block2 (n : Fin 2048) : blk2 m c t (ix2 ⟨r.val % 128, by omega⟩ n)
    = (arg2 m c) (ix2 r n) := by
  obtain ⟨-, -, i, -⟩ := index t
  unfold blk2 iblk
  rw [View.read_apply]
  show V m c main_arg2 _ = _
  rw [V_main_arg2]
  refine congrArg (arg2 m c) (funext fun a => Fin.ext ?_)
  match a with
  | ⟨0, _⟩ => show win0_2.index t 0 * 128 + 1 * (r.val % 128) = r.val; rw [i.1] <;> omega
  | ⟨1, _⟩ => show win0_2.index t 1 * 2048 + 1 * n.val = n.val; rw [i.2] <;> omega

include ht in
/-- The block holds the array's rows. -/
theorem block3 (n : Fin 2048) : blk3 m c t (ix2 ⟨r.val % 128, by omega⟩ n)
    = (arg3 m c) (ix2 r n) := by
  obtain ⟨-, -, -, i, -⟩ := index t
  unfold blk3 iblk
  rw [View.read_apply]
  show V m c main_arg3 _ = _
  rw [V_main_arg3]
  refine congrArg (arg3 m c) (funext fun a => Fin.ext ?_)
  match a with
  | ⟨0, _⟩ => show win0_3.index t 0 * 128 + 1 * (r.val % 128) = r.val; rw [i.1] <;> omega
  | ⟨1, _⟩ => show win0_3.index t 1 * 2048 + 1 * n.val = n.val; rw [i.2] <;> omega

include ht in
/-- The block holds the array's rows. -/
theorem block4 (n : Fin 2048) : blk4 m c t (ix2 ⟨r.val % 128, by omega⟩ n)
    = (arg4 m c) (ix2 r n) := by
  obtain ⟨-, -, -, -, i, -⟩ := index t
  unfold blk4 iblk
  rw [View.read_apply]
  show V m c main_arg4 _ = _
  rw [V_main_arg4]
  refine congrArg (arg4 m c) (funext fun a => Fin.ext ?_)
  match a with
  | ⟨0, _⟩ => show win0_4.index t 0 * 128 + 1 * (r.val % 128) = r.val; rw [i.1] <;> omega
  | ⟨1, _⟩ => show win0_4.index t 1 * 2048 + 1 * n.val = n.val; rw [i.2] <;> omega

include ht in
/-- The block holds the array's rows. -/
theorem block5 (n : Fin 2048) : blk5 m c t (ix2 ⟨r.val % 128, by omega⟩ n)
    = (arg5 m c) (ix2 r n) := by
  obtain ⟨-, -, -, -, -, i, -⟩ := index t
  unfold blk5 iblk
  rw [View.read_apply]
  show V m c main_arg5 _ = _
  rw [V_main_arg5]
  refine congrArg (arg5 m c) (funext fun a => Fin.ext ?_)
  match a with
  | ⟨0, _⟩ => show win0_5.index t 0 * 128 + 1 * (r.val % 128) = r.val; rw [i.1] <;> omega
  | ⟨1, _⟩ => show win0_5.index t 1 * 2048 + 1 * n.val = n.val; rw [i.2] <;> omega

include ht in
/-- The gradient of one gate that the body forms. -/
theorem block_slope (j : Fin 8192) : slope (blk0 m c t (ix2 ⟨r.val % 128, by omega⟩ ⟨j.val % 2048, by omega⟩))
    (pick (blk2 m c t) (blk3 m c t) (blk4 m c t) (blk5 m c t) j.val (ix2 ⟨r.val % 128, by omega⟩ ⟨j.val % 2048, by omega⟩))
    (blk1 m c t (ix2 ⟨r.val % 128, by omega⟩ j)) = dgate (arg0 m c) (arg1 m c) (arg2 m c) (arg3 m c) (arg4 m c) (arg5 m c) r j := by
  unfold dgate
  rw [block0 m c ht, block1 m c ht]
  refine congrArg (fun z => slope _ z _) ?_
  unfold pick
  split
  · exact block2 m c ht _
  split
  · exact block3 m c ht _
  split
  · exact block4 m c ht _
  · exact block5 m c ht _

end Array

section Kernel

variable (m : (ℓ : Loc nD τ sig) → Buf (Elt Ideal) ℓ) (c : Dev nD)

/-- The grid point of a row. -/
theorem point (r : Fin 2304) : ∃ t : Fin cfg0.N, t.val = r.val / 128 := ⟨⟨r.val / 128, lt_of_lt_of_eq (by omega) N_0.symm⟩, rfl⟩

/-- The gates' gradient that the kernel leaves. -/
theorem kernel6 (r : Fin 2304) (j : Fin 8192) : ((dats m 0 c).arrAt 6 cfg0.N : Vec Ideal S2304x8192 .bf16) (ix2 r j) = dgate (arg0 m c) (arg1 m c) (arg2 m c) (arg3 m c) (arg4 m c) (arg5 m c) r j := by
  obtain ⟨t, ht⟩ := point r
  obtain ⟨-, -, -, -, -, -, i, -⟩ := index t
  have b := congrFun (Value.blocks6 m c t (flush0_6 t)) (ix2 ⟨r.val % 128, by omega⟩ j)
  rw [View.read_apply, Value.flushed6] at b
  have hy : (((cfg0.win 6).blk t).view.emb (ix2 ⟨r.val % 128, by omega⟩ j) : S2304x8192.Idx) = ix2 r j := by
    refine funext fun a => Fin.ext ?_
    match a with
    | ⟨0, _⟩ => show win0_6.index t 0 * 128 + 1 * (r.val % 128) = r.val; rw [i.1] <;> omega
    | ⟨1, _⟩ => show win0_6.index t 1 * 8192 + 1 * j.val = j.val; rw [i.2] <;> omega
  rw [hy] at b
  exact b.trans ((stored6 _ _ _ _ _ _ _ _).trans (block_slope m c ht j))

/-- The first branch's gradient that the kernel leaves. -/
theorem kernel7 (r : Fin 2304) (n : Fin 2048) : ((dats m 0 c).arrAt 7 cfg0.N : Vec Ideal S2304x2048 .bf16) (ix2 r n) = dbranch (arg0 m c) (arg1 m c) 0 (by omega) r n := by
  obtain ⟨t, ht⟩ := point r
  obtain ⟨-, -, -, -, -, -, -, i, -⟩ := index t
  have b := congrFun (Value.blocks7 m c t (flush0_7 t)) (ix2 ⟨r.val % 128, by omega⟩ n)
  rw [View.read_apply, Value.flushed7] at b
  have hy : (((cfg0.win 7).blk t).view.emb (ix2 ⟨r.val % 128, by omega⟩ n) : S2304x2048.Idx) = ix2 r n := by
    refine funext fun a => Fin.ext ?_
    match a with
    | ⟨0, _⟩ => show win0_7.index t 0 * 128 + 1 * (r.val % 128) = r.val; rw [i.1] <;> omega
    | ⟨1, _⟩ => show win0_7.index t 1 * 2048 + 1 * n.val = n.val; rw [i.2] <;> omega
  rw [hy] at b
  exact b.trans ((stored7 _ _ _ _ _ _ _ _).trans (congrArg₂ (· * ·) (block0 m c ht n) (block1 m c ht _)))

/-- The second branch's gradient that the kernel leaves. -/
theorem kernel8 (r : Fin 2304) (n : Fin 2048) : ((dats m 0 c).arrAt 8 cfg0.N : Vec Ideal S2304x2048 .bf16) (ix2 r n) = dbranch (arg0 m c) (arg1 m c) 2048 (by omega) r n := by
  obtain ⟨t, ht⟩ := point r
  obtain ⟨-, -, -, -, -, -, -, -, i, -⟩ := index t
  have b := congrFun (Value.blocks8 m c t (flush0_8 t)) (ix2 ⟨r.val % 128, by omega⟩ n)
  rw [View.read_apply, Value.flushed8] at b
  have hy : (((cfg0.win 8).blk t).view.emb (ix2 ⟨r.val % 128, by omega⟩ n) : S2304x2048.Idx) = ix2 r n := by
    refine funext fun a => Fin.ext ?_
    match a with
    | ⟨0, _⟩ => show win0_8.index t 0 * 128 + 1 * (r.val % 128) = r.val; rw [i.1] <;> omega
    | ⟨1, _⟩ => show win0_8.index t 1 * 2048 + 1 * n.val = n.val; rw [i.2] <;> omega
  rw [hy] at b
  exact b.trans ((stored8 _ _ _ _ _ _ _ _).trans (congrArg₂ (· * ·) (block0 m c ht n) (block1 m c ht _)))

/-- The third branch's gradient that the kernel leaves. -/
theorem kernel9 (r : Fin 2304) (n : Fin 2048) : ((dats m 0 c).arrAt 9 cfg0.N : Vec Ideal S2304x2048 .bf16) (ix2 r n) = dbranch (arg0 m c) (arg1 m c) 4096 (by omega) r n := by
  obtain ⟨t, ht⟩ := point r
  obtain ⟨-, -, -, -, -, -, -, -, -, i, -⟩ := index t
  have b := congrFun (Value.blocks9 m c t (flush0_9 t)) (ix2 ⟨r.val % 128, by omega⟩ n)
  rw [View.read_apply, Value.flushed9] at b
  have hy : (((cfg0.win 9).blk t).view.emb (ix2 ⟨r.val % 128, by omega⟩ n) : S2304x2048.Idx) = ix2 r n := by
    refine funext fun a => Fin.ext ?_
    match a with
    | ⟨0, _⟩ => show win0_9.index t 0 * 128 + 1 * (r.val % 128) = r.val; rw [i.1] <;> omega
    | ⟨1, _⟩ => show win0_9.index t 1 * 2048 + 1 * n.val = n.val; rw [i.2] <;> omega
  rw [hy] at b
  exact b.trans ((stored9 _ _ _ _ _ _ _ _).trans (congrArg₂ (· * ·) (block0 m c ht n) (block1 m c ht _)))

/-- The fourth branch's gradient that the kernel leaves. -/
theorem kernel10 (r : Fin 2304) (n : Fin 2048) : ((dats m 0 c).arrAt 10 cfg0.N : Vec Ideal S2304x2048 .bf16) (ix2 r n) = dbranch (arg0 m c) (arg1 m c) 6144 (by omega) r n := by
  obtain ⟨t, ht⟩ := point r
  obtain ⟨-, -, -, -, -, -, -, -, -, -, i, -⟩ := index t
  have b := congrFun (Value.blocks10 m c t (flush0_10 t)) (ix2 ⟨r.val % 128, by omega⟩ n)
  rw [View.read_apply, Value.flushed10] at b
  have hy : (((cfg0.win 10).blk t).view.emb (ix2 ⟨r.val % 128, by omega⟩ n) : S2304x2048.Idx) = ix2 r n := by
    refine funext fun a => Fin.ext ?_
    match a with
    | ⟨0, _⟩ => show win0_10.index t 0 * 128 + 1 * (r.val % 128) = r.val; rw [i.1] <;> omega
    | ⟨1, _⟩ => show win0_10.index t 1 * 2048 + 1 * n.val = n.val; rw [i.2] <;> omega
  rw [hy] at b
  exact b.trans ((stored10 _ _ _ _ _ _ _ _).trans (congrArg₂ (· * ·) (block0 m c ht n) (block1 m c ht _)))

/-- The column sums that the kernel leaves. -/
theorem kernel11 (b : Fin 18) (j : Fin 8192) : ((dats m 0 c).arrAt 11 cfg0.N : Vec Ideal S18x1x8192 .f32) (ix3 b 0 j) = dsum (arg0 m c) (arg1 m c) (arg2 m c) (arg3 m c) (arg4 m c) (arg5 m c) b j := by
  obtain ⟨t, ht⟩ : ∃ t : Fin cfg0.N, t.val = b.val := ⟨⟨b.val, lt_of_lt_of_eq b.isLt N_0.symm⟩, rfl⟩
  obtain ⟨-, -, -, -, -, -, -, -, -, -, -, i⟩ := index t
  have e := congrFun (Value.blocks11 m c t (flush0_11 t)) (ix3 0 0 j)
  rw [View.read_apply, Value.flushed11] at e
  have hy : (((cfg0.win 11).blk t).view.emb (ix3 0 0 j) : S18x1x8192.Idx) = ix3 b 0 j := by
    refine funext fun a => Fin.ext ?_
    match a with
    | ⟨0, _⟩ => show win0_11.index t 0 * 1 + 1 * 0 = b.val; rw [i.1] <;> omega
    | ⟨1, _⟩ => show win0_11.index t 1 * 1 + 1 * 0 = 0; rw [i.2.1] <;> omega
    | ⟨2, _⟩ => show win0_11.index t 2 * 8192 + 1 * j.val = j.val; rw [i.2.2] <;> omega
  rw [hy] at e
  refine e.trans ((stored11 _ _ _ _ _ _ _).trans (Finset.sum_congr rfl fun r _ => ?_))
  have hr : t.val = (⟨b.val * 128 + r.val, by omega⟩ : Fin 2304).val / 128 := by show _ = (b.val * 128 + r.val) / 128; omega
  have er : r = ⟨(⟨b.val * 128 + r.val, by omega⟩ : Fin 2304).val % 128, by omega⟩ := Fin.ext (by show r.val = (b.val * 128 + r.val) % 128; omega)
  refine Eq.trans ?_ (block_slope m c hr j)
  rw [← er]

end Kernel

section Reference

open Cert.MergeBwdReferenceIdeal.Read

variable (y0 : Vec Ideal S2304x2048 .f32) (y1 : Vec Ideal S2304x8192 .f32) (y2 y3 y4 y5 : Vec Ideal S2304x2048 .bf16) (r : Fin 2304) (n : Fin 2048)

/-- The reference's gradient of the first gate. -/
theorem reference_slope0 : val_main_v71 (F := Ideal) y0 y1 y2 y3 y4 y5 (ix2 r ⟨0 + n.val, by omega⟩)
    = slope (y0 (ix2 r n)) (y2 (ix2 r n)) (Ideal.logistic (y1 (ix2 r ⟨0 + n.val, by omega⟩))) := by
  unfold slope Ideal.logistic
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_v71, val_main_v70, val_main_v66, val_main_v65, val_main_v61, val_main_v60, val_main_v56, val_main_v69, val_main_v68, val_main_v51, val_main_v0, val_main_v13, val_main_v12, val_main_v11, val_main_v10, val_main_v9, val_main_v8, val_main_v7, val_main_v6, val_main_v5, val_main_v4]
  rw [dif_neg (by omega), dif_neg (by omega), dif_neg (fun h => h.1), zero_add, zero_add, zero_add, ← mul_assoc]

/-- The reference's gradient of the second gate. -/
theorem reference_slope1 : val_main_v71 (F := Ideal) y0 y1 y2 y3 y4 y5 (ix2 r ⟨2048 + n.val, by omega⟩)
    = slope (y0 (ix2 r n)) (y3 (ix2 r n)) (Ideal.logistic (y1 (ix2 r ⟨2048 + n.val, by omega⟩))) := by
  unfold slope Ideal.logistic
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_v71, val_main_v70, val_main_v66, val_main_v65, val_main_v61, val_main_v60, val_main_v56, val_main_v64, val_main_v63, val_main_v51, val_main_v1, val_main_v24, val_main_v23, val_main_v22, val_main_v21, val_main_v20, val_main_v19, val_main_v18, val_main_v17, val_main_v16, val_main_v15]
  rw [dif_neg (by omega), dif_neg (by omega), zero_add, zero_add, ← mul_assoc]

/-- The reference's gradient of the third gate. -/
theorem reference_slope2 : val_main_v71 (F := Ideal) y0 y1 y2 y3 y4 y5 (ix2 r ⟨4096 + n.val, by omega⟩)
    = slope (y0 (ix2 r n)) (y4 (ix2 r n)) (Ideal.logistic (y1 (ix2 r ⟨4096 + n.val, by omega⟩))) := by
  unfold slope Ideal.logistic
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_v71, val_main_v70, val_main_v66, val_main_v65, val_main_v61, val_main_v60, val_main_v56, val_main_v59, val_main_v58, val_main_v51, val_main_v2, val_main_v35, val_main_v34, val_main_v33, val_main_v32, val_main_v31, val_main_v30, val_main_v29, val_main_v28, val_main_v27, val_main_v26]
  rw [dif_neg (by omega), dif_neg (by omega), dif_neg (by omega), zero_add, add_zero, add_zero, ← mul_assoc]

/-- The reference's gradient of the fourth gate. -/
theorem reference_slope3 : val_main_v71 (F := Ideal) y0 y1 y2 y3 y4 y5 (ix2 r ⟨6144 + n.val, by omega⟩)
    = slope (y0 (ix2 r n)) (y5 (ix2 r n)) (Ideal.logistic (y1 (ix2 r ⟨6144 + n.val, by omega⟩))) := by
  unfold slope Ideal.logistic
  pointwise [val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14, val_main_v71, val_main_v70, val_main_v66, val_main_v65, val_main_v61, val_main_v60, val_main_v56, val_main_v55, val_main_v54, val_main_v52, val_main_v3, val_main_v46, val_main_v45, val_main_v44, val_main_v43, val_main_v42, val_main_v41, val_main_v40, val_main_v39, val_main_v38, val_main_v37]
  rw [dif_neg (by omega), dif_neg (by omega), dif_neg (by omega), add_zero, add_zero, add_zero, ← mul_assoc]

/-- The reference's gradient of the gates. -/
theorem reference_dgate (j : Fin 8192) : val_main_v71 (F := Ideal) y0 y1 y2 y3 y4 y5 (ix2 r j) = dgate y0 y1 y2 y3 y4 y5 r j := by
  unfold dgate pick
  split
  · have e : j = ⟨0 + (⟨j.val % 2048, by omega⟩ : Fin 2048).val, by omega⟩ := Fin.ext (by show j.val = 0 + j.val % 2048; omega)
    refine (congrArg (fun z => val_main_v71 (F := Ideal) y0 y1 y2 y3 y4 y5 (ix2 r z)) e).trans ((reference_slope0 y0 y1 y2 y3 y4 y5 r _).trans ?_)
    exact congrArg (fun z => slope _ _ (Ideal.logistic (y1 (ix2 r z)))) e.symm
  split
  · have e : j = ⟨2048 + (⟨j.val % 2048, by omega⟩ : Fin 2048).val, by omega⟩ := Fin.ext (by show j.val = 2048 + j.val % 2048; omega)
    refine (congrArg (fun z => val_main_v71 (F := Ideal) y0 y1 y2 y3 y4 y5 (ix2 r z)) e).trans ((reference_slope1 y0 y1 y2 y3 y4 y5 r _).trans ?_)
    exact congrArg (fun z => slope _ _ (Ideal.logistic (y1 (ix2 r z)))) e.symm
  split
  · have e : j = ⟨4096 + (⟨j.val % 2048, by omega⟩ : Fin 2048).val, by omega⟩ := Fin.ext (by show j.val = 4096 + j.val % 2048; omega)
    refine (congrArg (fun z => val_main_v71 (F := Ideal) y0 y1 y2 y3 y4 y5 (ix2 r z)) e).trans ((reference_slope2 y0 y1 y2 y3 y4 y5 r _).trans ?_)
    exact congrArg (fun z => slope _ _ (Ideal.logistic (y1 (ix2 r z)))) e.symm
  · have e : j = ⟨6144 + (⟨j.val % 2048, by omega⟩ : Fin 2048).val, by omega⟩ := Fin.ext (by show j.val = 6144 + j.val % 2048; omega)
    refine (congrArg (fun z => val_main_v71 (F := Ideal) y0 y1 y2 y3 y4 y5 (ix2 r z)) e).trans ((reference_slope3 y0 y1 y2 y3 y4 y5 r _).trans ?_)
    exact congrArg (fun z => slope _ _ (Ideal.logistic (y1 (ix2 r z)))) e.symm

/-- The reference's gradient of the first branch. -/
theorem reference_branch0 : val_main_v72 (F := Ideal) y0 y1 (ix2 r n) = dbranch y0 y1 0 (by omega) r n := by
  unfold dbranch Ideal.logistic
  rw [mul_comm]
  pointwise [val_main_v72, val_main_v67, val_main_v51, val_main_v10, val_main_v9, val_main_v8, val_main_v7, val_main_v6, val_main_v5, val_main_v4, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]

/-- The reference's gradient of the second branch. -/
theorem reference_branch1 : val_main_v73 (F := Ideal) y0 y1 (ix2 r n) = dbranch y0 y1 2048 (by omega) r n := by
  unfold dbranch Ideal.logistic
  rw [mul_comm]
  pointwise [val_main_v73, val_main_v62, val_main_v51, val_main_v21, val_main_v20, val_main_v19, val_main_v18, val_main_v17, val_main_v16, val_main_v15, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]

/-- The reference's gradient of the third branch. -/
theorem reference_branch2 : val_main_v74 (F := Ideal) y0 y1 (ix2 r n) = dbranch y0 y1 4096 (by omega) r n := by
  unfold dbranch Ideal.logistic
  rw [mul_comm]
  pointwise [val_main_v74, val_main_v57, val_main_v51, val_main_v32, val_main_v31, val_main_v30, val_main_v29, val_main_v28, val_main_v27, val_main_v26, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]

/-- The reference's gradient of the fourth branch. -/
theorem reference_branch3 : val_main_v75 (F := Ideal) y0 y1 (ix2 r n) = dbranch y0 y1 6144 (by omega) r n := by
  unfold dbranch Ideal.logistic
  rw [mul_comm]
  pointwise [val_main_v75, val_main_v53, val_main_v52, val_main_v43, val_main_v42, val_main_v41, val_main_v40, val_main_v39, val_main_v38, val_main_v37, val_main_cst, val_main_cst_0, val_main_cst_1, val_main_cst_2, val_main_cst_3, val_main_cst_4, val_main_cst_5, val_main_cst_6, val_main_cst_7, val_main_cst_8, val_main_cst_9, val_main_cst_10, val_main_cst_11, val_main_cst_12, val_main_cst_13, val_main_cst_14]

/-- The reference's column sums. -/
theorem reference_sum (b : Fin 18) (j : Fin 8192) : val_main_v79 (F := Ideal) y0 y1 y2 y3 y4 y5 (ix3 b 0 j) = dsum y0 y1 y2 y3 y4 y5 b j := by
  unfold dsum
  refine Eq.trans (b := ∑ r : Fin 128, val_main_v71 (F := Ideal) y0 y1 y2 y3 y4 y5 (ix2 ⟨b.val * 128 + r.val, by omega⟩ j)) ?_
    (Finset.sum_congr rfl fun r _ => reference_dgate _ _ _ _ _ _ _ _)
  pointwise [val_main_v79, val_main_v78, val_main_v77, val_main_cst_15]

end Reference

/-- The kernel runs on the machine, keeps its arguments, and ends with every counter at zero. -/
theorem frame : Cert.quiescent_MergeBwd := fun m ρ _ => Cert.MergeBwd.Gen.frame m ρ

/-- The same of its idealization. -/
theorem frameIdeal : Cert.quiescent_MergeBwdIdeal := fun m ρ _ => Cert.MergeBwdIdeal.Gen.frame m ρ

/-- The same of the reference. -/
theorem frameReference : Cert.quiescent_MergeBwdReferenceIdeal := fun m ρ _ =>
  (θ_run Cert.MergeBwdReferenceIdeal.defs _ _).mono (fun r h => ⟨fun c => (h c).2.2.2.2.2.2, sem_eq_zero_of_no_sems (by decide) r.2⟩)
    (Cert.MergeBwdReferenceIdeal.Value.run (F := Ideal) m ρ)

/-- The kernel's six gradients are the reference's. -/
theorem algebraic : Cert.algebraic_MergeBwdIdeal_MergeBwdReferenceIdeal := by
  intro m g m' g' _ hin
  refine ⟨_, _, _, _, _, _, Value.run_blocks m g, (θ_run Cert.MergeBwdReferenceIdeal.defs _ _).mono (fun r h c => ?_)
    (Cert.MergeBwdReferenceIdeal.Value.run (F := Ideal) m' g')⟩
  obtain ⟨h0, h1, h2, h3, h4, h5, hargs⟩ := h c
  obtain ⟨a0, a1, a2, a3, a4, a5⟩ := hin c
  refine ⟨(h0.trans (Cert.MergeBwdReferenceIdeal.Read.val_main_v76_eq _ _)).trans ?_, (h1.trans (Cert.MergeBwdReferenceIdeal.Read.val_main_v72_eq _ _)).trans ?_,
    (h2.trans (Cert.MergeBwdReferenceIdeal.Read.val_main_v73_eq _ _)).trans ?_, (h3.trans (Cert.MergeBwdReferenceIdeal.Read.val_main_v74_eq _ _)).trans ?_,
    (h4.trans (Cert.MergeBwdReferenceIdeal.Read.val_main_v75_eq _ _)).trans ?_, (h5.trans (Cert.MergeBwdReferenceIdeal.Read.val_main_v79_eq _ _)).trans ?_, hargs⟩
  · rw [a0, a1, a2, a3, a4, a5]
    funext i
    rw [eq_ix2 i]
    refine Eq.trans ?_ ((reference_dgate _ _ _ _ _ _ _ _).trans (kernel6 m c _ _).symm)
    rfl
  · rw [a0, a1]
    funext i
    rw [eq_ix2 i]
    exact (reference_branch0 _ _ _ _).trans (kernel7 m c _ _).symm
  · rw [a0, a1]
    funext i
    rw [eq_ix2 i]
    exact (reference_branch1 _ _ _ _).trans (kernel8 m c _ _).symm
  · rw [a0, a1]
    funext i
    rw [eq_ix2 i]
    exact (reference_branch2 _ _ _ _).trans (kernel9 m c _ _).symm
  · rw [a0, a1]
    funext i
    rw [eq_ix2 i]
    exact (reference_branch3 _ _ _ _).trans (kernel10 m c _ _).symm
  · rw [a0, a1, a2, a3, a4, a5]
    funext i
    obtain ⟨b, u, j, rfl⟩ : ∃ (b : Fin 18) (u : Fin 1) (j : Fin 8192), i = ix3 b u j := ⟨_, _, _, eq_ix3 i⟩
    obtain rfl : u = 0 := Subsingleton.elim _ _
    exact (reference_sum _ _ _ _ _ _ _ _).trans (kernel11 m c _ _).symm

end Cert.MergeBwdProof

end
-- ==== Proof.MergeFwd.lean ====
module

public import proofs.«01_k».proof.Defs
public import proofs.«01_k».proof.Proof.Gen.MergeFwd.Frame
public import proofs.«01_k».proof.Proof.Gen.MergeFwdIdeal.Value
public import proofs.«01_k».proof.Proof.Gen.MergeFwdReferenceIdeal.Run
public import proofs.«01_k».proof.Proof.Gen.MergeFwdReferenceIdeal.Read
public import Idealize.ShloMosaic.Lib.Claim
public import Idealize.ShloMosaic.Lib.Pointwise
public import Idealize.ShloMosaic.Lib.Pipeline.ValueKit
public import Idealize.ShloMosaic.Lib.Pipeline.ValueKit.Basic

/- The merge of the four branches: each times its gate, summed.  Kernel and reference. -/

@[expose] public section

set_option maxRecDepth 16384

noncomputable section

namespace Cert.MergeFwdProof

open Idealize.ShloMosaic Idealize.ShloMosaic.TcCoe Idealize.SL.Sem Cert.MergeFwdIdeal Cert.MergeFwdIdeal.Gen

/-- Entry `(r, n)`: the four branches' entries, each times its gate. -/
def merged (x0 : Vec Ideal S2304x8192 .bf16) (x1 x2 x3 x4 : Vec Ideal S2304x2048 .bf16) (r : Fin 2304) (n : Fin 2048) : EReal :=
  x0 (ix2 r ⟨0 + n.val, by omega⟩) * x1 (ix2 r n) + x0 (ix2 r ⟨2048 + n.val, by omega⟩) * x2 (ix2 r n)
    + x0 (ix2 r ⟨4096 + n.val, by omega⟩) * x3 (ix2 r n) + x0 (ix2 r ⟨6144 + n.val, by omega⟩) * x4 (ix2 r n)

/-- Grid point `t` takes 128 rows of every array. -/
theorem index (t : Fin cfg0.N) : (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) := by
  revert t
  change ∀ t : Fin grid0.N, _
  decide +kernel

section Block

variable (x0 : Vec Ideal S128x8192 .bf16) (x1 x2 x3 x4 : Vec Ideal S128x2048 .bf16) (r : Fin 128) (n : Fin 2048)

/-- The columns of the gates' block that belong to one branch. -/
theorem cols (o : ℕ) (ho : o ≤ 6144) (inb : ∀ a, (![0, o] : Fin 2 → ℕ) a + S128x2048.size a ≤ S128x8192.size a) :
    View.ld x0 (Rect.unit (s := S128x8192) ![0, o] S128x2048.size inb) (ix2 r n) = x0 (ix2 r ⟨o + n.val, by omega⟩) := by
  refine View.ld_unit_apply_of _ _ _ _ _ _ fun a => ?_
  match a with
  | ⟨0, _⟩ => show r.val = 0 + r.val; omega
  | ⟨1, _⟩ => rfl

/-- The body's sum of products. -/
theorem pay_apply (g1 g2 g3 g4 : Vec Ideal S128x2048 .bf16) : k0_pay1 g1 x1 g2 x2 g3 x3 g4 x4 (ix2 r n)
    = g1 (ix2 r n) * x1 (ix2 r n) + g2 (ix2 r n) * x2 (ix2 r n) + g3 (ix2 r n) * x3 (ix2 r n) + g4 (ix2 r n) * x4 (ix2 r n) := by
  pointwise [k0_pay1]

/-- What the body stores. -/
theorem stored : out0_5 x0 x1 x2 x3 x4 (ix2 r n) =
    x0 (ix2 r ⟨0 + n.val, by omega⟩) * x1 (ix2 r n) + x0 (ix2 r ⟨2048 + n.val, by omega⟩) * x2 (ix2 r n)
    + x0 (ix2 r ⟨4096 + n.val, by omega⟩) * x3 (ix2 r n) + x0 (ix2 r ⟨6144 + n.val, by omega⟩) * x4 (ix2 r n) := by
  have e : out0_5 x0 x1 x2 x3 x4 = k0_pay1 (View.ld x0 r0_0) x1 (View.ld x0 r0_2) x2 (View.ld x0 r0_3) x3 (View.ld x0 r0_4) x4 := by
    unfold out0_5
    rw [View.canon_cons_unit_lit _ _ _ (by decide), View.ld_unit_lit (S := S128x2048) _ x1 (by decide), View.ld_unit_lit (S := S128x2048) _ x2 (by decide), View.ld_unit_lit (S := S128x2048) _ x3 (by decide), View.ld_unit_lit (S := S128x2048) _ x4 (by decide)]
  rw [e, pay_apply, cols x0 r n 0 (by omega), cols x0 r n 2048 (by omega), cols x0 r n 4096 (by omega), cols x0 r n 6144 (by omega)]

end Block

section Array

variable (m : (ℓ : Loc nD τ sig) → Buf (Elt Ideal) ℓ) (c : Dev nD)

/-- Point `t`'s block of the gates holds the array's rows. -/
theorem block0 {t : Fin cfg0.N} {r : Fin 2304} (ht : t.val = r.val / 128) (n : Fin 8192) :
    (iblk m c 0 t : Vec Ideal S128x8192 .bf16) (ix2 ⟨r.val % 128, by omega⟩ n) = (m ((c : Thread nD τ).loc main_arg0) : Vec Ideal S2304x8192 .bf16) (ix2 r n) := by
  obtain ⟨i, -⟩ := index t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 128 + 1 * (r.val % 128) = r.val; rw [i.1] <;> omega
  | ⟨1, _⟩ => show win0_0.index t 1 * 8192 + 1 * n.val = n.val; rw [i.2] <;> omega

/-- Point `t`'s block of a branch holds the array's rows. -/
theorem block1 {t : Fin cfg0.N} {r : Fin 2304} (ht : t.val = r.val / 128) (n : Fin 2048) :
    (iblk m c 1 t : Vec Ideal S128x2048 .bf16) (ix2 ⟨r.val % 128, by omega⟩ n) = (m ((c : Thread nD τ).loc main_arg1) : Vec Ideal S2304x2048 .bf16) (ix2 r n) := by
  obtain ⟨-, i, -⟩ := index t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 128 + 1 * (r.val % 128) = r.val; rw [i.1] <;> omega
  | ⟨1, _⟩ => show win0_1.index t 1 * 2048 + 1 * n.val = n.val; rw [i.2] <;> omega

/-- Point `t`'s block of a branch holds the array's rows. -/
theorem block2 {t : Fin cfg0.N} {r : Fin 2304} (ht : t.val = r.val / 128) (n : Fin 2048) :
    (iblk m c 2 t : Vec Ideal S128x2048 .bf16) (ix2 ⟨r.val % 128, by omega⟩ n) = (m ((c : Thread nD τ).loc main_arg2) : Vec Ideal S2304x2048 .bf16) (ix2 r n) := by
  obtain ⟨-, -, i, -⟩ := index t
  unfold iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 128 + 1 * (r.val % 128) = r.val; rw [i.1] <;> omega
  | ⟨1, _⟩ => show win0_2.index t 1 * 2048 + 1 * n.val = n.val; rw [i.2] <;> omega

/-- Point `t`'s block of a branch holds the array's rows. -/
theorem block3 {t : Fin cfg0.N} {r : Fin 2304} (ht : t.val = r.val / 128) (n : Fin 2048) :
    (iblk m c 3 t : Vec Ideal S128x2048 .bf16) (ix2 ⟨r.val % 128, by omega⟩ n) = (m ((c : Thread nD τ).loc main_arg3) : Vec Ideal S2304x2048 .bf16) (ix2 r n) := by
  obtain ⟨-, -, -, i, -⟩ := index t
  unfold iblk
  rw [View.read_apply]
  show V m c main_arg3 _ = _
  rw [V_main_arg3]
  refine congrArg (m ((c : Thread nD τ).loc main_arg3)) (funext fun a => Fin.ext ?_)
  match a with
  | ⟨0, _⟩ => show win0_3.index t 0 * 128 + 1 * (r.val % 128) = r.val; rw [i.1] <;> omega
  | ⟨1, _⟩ => show win0_3.index t 1 * 2048 + 1 * n.val = n.val; rw [i.2] <;> omega

/-- Point `t`'s block of a branch holds the array's rows. -/
theorem block4 {t : Fin cfg0.N} {r : Fin 2304} (ht : t.val = r.val / 128) (n : Fin 2048) :
    (iblk m c 4 t : Vec Ideal S128x2048 .bf16) (ix2 ⟨r.val % 128, by omega⟩ n) = (m ((c : Thread nD τ).loc main_arg4) : Vec Ideal S2304x2048 .bf16) (ix2 r n) := by
  obtain ⟨-, -, -, -, i, -⟩ := index t
  unfold iblk
  rw [View.read_apply]
  show V m c main_arg4 _ = _
  rw [V_main_arg4]
  refine congrArg (m ((c : Thread nD τ).loc main_arg4)) (funext fun a => Fin.ext ?_)
  match a with
  | ⟨0, _⟩ => show win0_4.index t 0 * 128 + 1 * (r.val % 128) = r.val; rw [i.1] <;> omega
  | ⟨1, _⟩ => show win0_4.index t 1 * 2048 + 1 * n.val = n.val; rw [i.2] <;> omega

/-- The result array of the kernel. -/
theorem kernel_entry (r : Fin 2304) (n : Fin 2048) : ((dats m 0 c).arrAt 5 cfg0.N : Vec Ideal S2304x2048 .bf16) (ix2 r n) = merged (m ((c : Thread nD τ).loc main_arg0)) (m ((c : Thread nD τ).loc main_arg1)) (m ((c : Thread nD τ).loc main_arg2)) (m ((c : Thread nD τ).loc main_arg3)) (m ((c : Thread nD τ).loc main_arg4)) r n := by
  obtain ⟨t, ht⟩ : ∃ t : Fin cfg0.N, t.val = r.val / 128 := ⟨⟨r.val / 128, lt_of_lt_of_eq (by omega) N_0.symm⟩, rfl⟩
  obtain ⟨-, -, -, -, -, i⟩ := index t
  have b := congrFun (Value.blocks5 m c t (flush0_5 t)) (ix2 ⟨r.val % 128, by omega⟩ n)
  rw [View.read_apply, Value.flushed5] at b
  have hy : (((cfg0.win 5).blk t).view.emb (ix2 ⟨r.val % 128, by omega⟩ n) : S2304x2048.Idx) = ix2 r n := by
    refine funext fun a => Fin.ext ?_
    match a with
    | ⟨0, _⟩ => show win0_5.index t 0 * 128 + 1 * (r.val % 128) = r.val; rw [i.1] <;> omega
    | ⟨1, _⟩ => show win0_5.index t 1 * 2048 + 1 * n.val = n.val; rw [i.2] <;> omega
  rw [hy] at b
  refine b.trans ((stored _ _ _ _ _ _ _).trans ?_)
  rw [block0 m c ht, block0 m c ht, block0 m c ht, block0 m c ht, block1 m c ht, block2 m c ht, block3 m c ht, block4 m c ht]
  rfl

end Array

open Cert.MergeFwdReferenceIdeal.Read in
/-- The result array of the reference. -/
theorem reference_entry (x0 : Vec Ideal S2304x8192 .bf16) (x1 x2 x3 x4 : Vec Ideal S2304x2048 .bf16) (r : Fin 2304) (n : Fin 2048) :
    val_main_v19 (F := Ideal) x0 x1 x2 x3 x4 (ix2 r n) = merged x0 x1 x2 x3 x4 r n := by
  unfold merged
  pointwise [val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0]

/-- The kernel runs on the machine, keeps its arguments, and ends with every counter at zero. -/
theorem frame : Cert.quiescent_MergeFwd := fun m ρ _ => Cert.MergeFwd.Gen.frame m ρ

/-- The same of its idealization. -/
theorem frameIdeal : Cert.quiescent_MergeFwdIdeal := fun m ρ _ => Cert.MergeFwdIdeal.Gen.frame m ρ

/-- The same of the reference. -/
theorem frameReference : Cert.quiescent_MergeFwdReferenceIdeal := fun m ρ _ =>
  (θ_run Cert.MergeFwdReferenceIdeal.defs _ _).mono (fun r h => ⟨fun c => (h c).2, sem_eq_zero_of_no_sems (by decide) r.2⟩)
    (Cert.MergeFwdReferenceIdeal.Value.run (F := Ideal) m ρ)

/-- The kernel's merge is the reference's. -/
theorem algebraic : Cert.algebraic_MergeFwdIdeal_MergeFwdReferenceIdeal := by
  intro m g m' g' _ hin
  refine ⟨_, Value.run_blocks m g, (θ_run Cert.MergeFwdReferenceIdeal.defs _ _).mono (fun r h c => ?_)
    (Cert.MergeFwdReferenceIdeal.Value.run (F := Ideal) m' g')⟩
  obtain ⟨h0, hargs⟩ := h c
  obtain ⟨a0, a1, a2, a3, a4⟩ := hin c
  refine ⟨(h0.trans (Cert.MergeFwdReferenceIdeal.Read.val_main_v19_eq _ _ _ _ _)).trans ?_, hargs⟩
  rw [a0, a1, a2, a3, a4]
  funext i
  rw [eq_ix2 i]
  exact (reference_entry _ _ _ _ _ _ _).trans (kernel_entry m c _ _).symm

end Cert.MergeFwdProof

end
-- ==== Proof.MmGate.lean ====
module

public import proofs.«01_k».proof.Defs
public import proofs.«01_k».proof.Proof.Gen.MmGate.Frame
public import proofs.«01_k».proof.Proof.Gen.MmGateIdeal.Value
public import proofs.«01_k».proof.Proof.Gen.MmGateReferenceIdeal.Run
public import proofs.«01_k».proof.Proof.Gen.MmGateReferenceIdeal.Read
public import Idealize.ShloMosaic.Lib.Claim
public import Idealize.ShloMosaic.Lib.Pointwise
public import Idealize.ShloMosaic.Lib.Pipeline.ValueKit.Basic

/- The branch gates: the logistic function of a product, whose weights' columns lie in four shards of 2048, plus a bias.  Kernel and reference. -/

@[expose] public section

set_option maxRecDepth 16384

noncomputable section

namespace Cert.MmGateProof

open Idealize.ShloMosaic Idealize.ShloMosaic.TcCoe Idealize.SL.Sem Cert.MmGateIdeal Cert.MmGateIdeal.Gen

/-- Entry `(r, n)`: the gate of row `r` and column `n`, whose weights lie in four shards of 2048 columns. -/
def gate (x : Vec Ideal S2304x2048 .bf16) (w : Vec Ideal S4x2048x2048 .bf16) (b : Vec Ideal S8192 .f32) (r : Fin 2304) (n : Fin 8192) : EReal :=
  Ideal.logistic ((∑ k : Fin 2048, x (ix2 r k) * w (ix3 ⟨n.val / 2048, by omega⟩ k ⟨n.val % 2048, by omega⟩)) + b (ix1 n))

/-- Grid point `t` takes 768 rows and half a shard's columns. -/
theorem index (t : Fin cfg0.N) : (win0_0.index t 0 = t.val % 3 ∧ win0_0.index t 1 = 0)
    ∧ (win0_1.index t 0 = t.val / 3 / 2 ∧ win0_1.index t 1 = 0 ∧ win0_1.index t 2 = 0 ∧ win0_1.index t 3 = t.val / 3 % 2)
    ∧ (win0_2.index t 0 = 0 ∧ win0_2.index t 1 = t.val / 3) ∧ (win0_3.index t 0 = t.val % 3 ∧ win0_3.index t 1 = t.val / 3) := by
  revert t
  change ∀ t : Fin grid0.N, _
  decide +kernel

/-- What the body stores. -/
theorem stored (x : Vec Ideal S768x2048 .bf16) (w : Vec Ideal S1x1x2048x1024 .bf16) (b : Vec Ideal S1x1024 .f32) (r : Fin 768) (n : Fin 1024) :
    out0_3 x w b (ix2 r n) = Ideal.logistic ((∑ k : Fin 2048, x (ix2 r k) * w (ix4 0 0 k n)) + b (ix2 0 n)) := by
  have e : out0_3 x w b = k0_pay1 w x b := by
    unfold out0_3
    rw [View.canon_cons_unit_lit _ _ _ (by decide), View.ld_unit_lit _ _ (by decide), View.ld_unit_lit _ _ (by decide), View.ld_unit_lit _ _ (by decide)]
  rw [e]
  pointwise [k0_pay1]

variable (m : (ℓ : Loc nD τ sig) → Buf (Elt Ideal) ℓ) (c : Dev nD)

/-- The host gives the weights a unit axis. -/
theorem weights (q : Fin 4) (k : Fin 2048) (n : Fin 2048) : (V m c main_v1 : Vec Ideal S4x1x2048x2048 .bf16) (ix4 q 0 k n)
    = (m ((c : Thread nD τ).loc main_arg1) : Vec Ideal S4x2048x2048 .bf16) (ix3 q k n) := by
  entry_read
  pointwise

/-- The host gives the bias a unit axis. -/
theorem bias (n : Fin 8192) : (V m c main_v0 : Vec Ideal S1x8192 .f32) (ix2 0 n) = (m ((c : Thread nD τ).loc main_arg2) : Vec Ideal S8192 .f32) (ix1 n) := by
  entry_read
  pointwise

/-- The result array of the kernel. -/
theorem kernel_entry (r : Fin 2304) (n : Fin 8192) : ((dats m 0 c).arrAt 3 cfg0.N : Vec Ideal S2304x8192 .bf16) (ix2 r n)
    = gate (m ((c : Thread nD τ).loc main_arg0)) (m ((c : Thread nD τ).loc main_arg1)) (m ((c : Thread nD τ).loc main_arg2)) r n := by
  obtain ⟨t, ht⟩ : ∃ t : Fin cfg0.N, t.val = n.val / 1024 * 3 + r.val / 768 :=
    ⟨⟨n.val / 1024 * 3 + r.val / 768, lt_of_lt_of_eq (by omega) N_0.symm⟩, rfl⟩
  obtain ⟨i0, i1, i2, i3⟩ := index t
  have b := congrFun (Value.blocks3 m c t (flush0_3 t)) (ix2 ⟨r.val % 768, by omega⟩ ⟨n.val % 1024, by omega⟩)
  rw [View.read_apply, Value.flushed3] at b
  have hy : (((cfg0.win 3).blk t).view.emb (ix2 ⟨r.val % 768, by omega⟩ ⟨n.val % 1024, by omega⟩) : S2304x8192.Idx) = ix2 r n := by
    refine funext fun a => Fin.ext ?_
    match a with
    | ⟨0, _⟩ => show win0_3.index t 0 * 768 + 1 * (r.val % 768) = r.val; rw [i3.1] <;> omega
    | ⟨1, _⟩ => show win0_3.index t 1 * 1024 + 1 * (n.val % 1024) = n.val; rw [i3.2] <;> omega
  rw [hy] at b
  refine b.trans ((stored _ _ _ _ _).trans (congrArg Ideal.logistic (congrArg₂ (· + ·) (Finset.sum_congr rfl fun k _ => congrArg₂ (· * ·) ?_ ?_) ?_)))
  · unfold iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 768 + 1 * (r.val % 768) = r.val; rw [i0.1] <;> omega
    | ⟨1, _⟩ => show win0_0.index t 1 * 2048 + 1 * k.val = k.val; rw [i0.2] <;> omega
  · refine Eq.trans ?_ (weights m c ⟨n.val / 2048, by omega⟩ k ⟨n.val % 2048, by omega⟩)
    unfold iblk
    rw [View.read_apply]
    refine congrArg (V m c main_v1) (funext fun a => Fin.ext ?_)
    match a with
    | ⟨0, _⟩ => show win0_1.index t 0 * 1 + 1 * 0 = n.val / 2048; rw [i1.1] <;> omega
    | ⟨1, _⟩ => show win0_1.index t 1 * 1 + 1 * 0 = 0; rw [i1.2.1] <;> omega
    | ⟨2, _⟩ => show win0_1.index t 2 * 2048 + 1 * k.val = k.val; rw [i1.2.2.1] <;> omega
    | ⟨3, _⟩ => show win0_1.index t 3 * 1024 + 1 * (n.val % 1024) = n.val % 2048; rw [i1.2.2.2] <;> omega
  · refine Eq.trans ?_ (bias m c n)
    unfold iblk
    rw [View.read_apply]
    refine congrArg (V m c main_v0) (funext fun a => Fin.ext ?_)
    match a with
    | ⟨0, _⟩ => show win0_2.index t 0 * 1 + 1 * 0 = 0; rw [i2.1] <;> omega
    | ⟨1, _⟩ => show win0_2.index t 1 * 1024 + 1 * (n.val % 1024) = n.val; rw [i2.2] <;> omega

open Cert.MmGateReferenceIdeal.Read in
/-- The result array of the reference. -/
theorem reference_entry (x0 : Vec Ideal S2304x2048 .bf16) (x1 : Vec Ideal S4x2048x2048 .bf16) (x2 : Vec Ideal S8192 .f32) (r : Fin 2304) (n : Fin 8192) :
    val_main_v14 (F := Ideal) x0 x1 x2 (ix2 r n) = gate x0 x1 x2 r n := by
  unfold gate Ideal.logistic
  pointwise [val_main_v14, val_main_v13, val_main_v12, val_main_cst_0, val_main_v11, val_main_v10, val_main_cst, val_main_v9, val_main_v8,
    val_main_v7, val_main_v6, val_main_v5, val_main_v4, val_main_v3, val_main_v2, val_main_v1, val_main_v0]

/-- The kernel runs on the machine, keeps its arguments, and ends with every counter at zero. -/
theorem frame : Cert.quiescent_MmGate := fun m ρ _ => Cert.MmGate.Gen.frame m ρ

/-- The same of its idealization. -/
theorem frameIdeal : Cert.quiescent_MmGateIdeal := fun m ρ _ => Cert.MmGateIdeal.Gen.frame m ρ

/-- The same of the reference. -/
theorem frameReference : Cert.quiescent_MmGateReferenceIdeal := fun m ρ _ =>
  (θ_run Cert.MmGateReferenceIdeal.defs _ _).mono (fun r h => ⟨fun c => (h c).2, sem_eq_zero_of_no_sems (by decide) r.2⟩)
    (Cert.MmGateReferenceIdeal.Value.run (F := Ideal) m ρ)

/-- The kernel's gates are the reference's. -/
theorem algebraic : Cert.algebraic_MmGateIdeal_MmGateReferenceIdeal := by
  intro m g m' g' _ hin
  refine ⟨_, Value.run_blocks m g, (θ_run Cert.MmGateReferenceIdeal.defs _ _).mono (fun r h c => ?_)
    (Cert.MmGateReferenceIdeal.Value.run (F := Ideal) m' g')⟩
  obtain ⟨h0, hargs⟩ := h c
  obtain ⟨a0, a1, a2⟩ := hin c
  refine ⟨(h0.trans (Cert.MmGateReferenceIdeal.Read.val_main_v14_eq _ _ _)).trans ?_, hargs⟩
  rw [a0, a1, a2]
  funext i
  rw [eq_ix2 i]
  exact (reference_entry _ _ _ _ _).trans (kernel_entry m c _ _).symm

end Cert.MmGateProof

end
-- ==== Proof.MmFfDown.lean ====
module

public import proofs.«01_k».proof.Defs
public import proofs.«01_k».proof.Proof.Gen.MmFfDown.Frame
public import proofs.«01_k».proof.Proof.Gen.MmFfDownIdeal.Value
public import proofs.«01_k».proof.Proof.Gen.MmFfDownReferenceIdeal.Run
public import proofs.«01_k».proof.Proof.Gen.MmFfDownReferenceIdeal.Read
public import Idealize.ShloMosaic.Lib.Claim
public import Idealize.ShloMosaic.Lib.Pointwise
public import Idealize.ShloMosaic.Lib.Pipeline.ValueKit.Basic

/- The SwiGLU's last product, whose weights' rows lie in four shards of 1408: kernel and reference. -/

@[expose] public section

set_option maxRecDepth 16384

noncomputable section

namespace Cert.MmFfDownProof

open Idealize.ShloMosaic Idealize.ShloMosaic.TcCoe Idealize.SL.Sem Cert.MmFfDownIdeal Cert.MmFfDownIdeal.Gen

/-- Entry `(r, n)`: row `r` against column `n` of the weights, whose rows lie in four shards of 1408. -/
def product (x : Vec Ideal S2304x5632 .bf16) (w : Vec Ideal S4x1408x2048 .bf16) (r : Fin 2304) (n : Fin 2048) : EReal :=
  ∑ j : Fin 5632, x (ix2 r j) * w (ix3 ⟨j.val / 1408, by omega⟩ ⟨j.val % 1408, by omega⟩ n)

/-- Grid point `t` takes 384 rows and 512 columns of every shard. -/
theorem index (t : Fin cfg0.N) : (win0_0.index t 0 = t.val % 6 ∧ win0_0.index t 1 = 0)
    ∧ (win0_1.index t 0 = 0 ∧ win0_1.index t 1 = 0 ∧ win0_1.index t 2 = 0 ∧ win0_1.index t 3 = t.val / 6)
    ∧ (win0_2.index t 0 = t.val % 6 ∧ win0_2.index t 1 = t.val / 6) := by
  revert t
  change ∀ t : Fin grid0.N, _
  decide +kernel

/-- What the body stores. -/
theorem stored (x : Vec Ideal S384x5632 .bf16) (w : Vec Ideal S4x1x1408x512 .bf16) (r : Fin 384) (n : Fin 512) :
    out0_2 x w (ix2 r n) = ∑ j : Fin 5632, x (ix2 r j) * w (ix4 ⟨j.val / 1408, by omega⟩ 0 ⟨j.val % 1408, by omega⟩ n) := by
  have e : out0_2 x w = k0_pay1 w x := by
    unfold out0_2
    rw [View.canon_cons_unit_lit _ _ _ (by decide), View.ld_unit_lit _ _ (by decide), View.ld_unit_lit _ _ (by decide)]
  rw [e]
  pointwise [k0_pay1]

variable (m : (ℓ : Loc nD τ sig) → Buf (Elt Ideal) ℓ) (c : Dev nD)

/-- The host gives the weights a unit axis. -/
theorem weights (q : Fin 4) (k : Fin 1408) (n : Fin 2048) : (V m c main_v0 : Vec Ideal S4x1x1408x2048 .bf16) (ix4 q 0 k n)
    = (m ((c : Thread nD τ).loc main_arg1) : Vec Ideal S4x1408x2048 .bf16) (ix3 q k n) := by
  entry_read
  pointwise

/-- The result array of the kernel. -/
theorem kernel_entry (r : Fin 2304) (n : Fin 2048) : ((dats m 0 c).arrAt 2 cfg0.N : Vec Ideal S2304x2048 .f32) (ix2 r n)
    = product (m ((c : Thread nD τ).loc main_arg0)) (m ((c : Thread nD τ).loc main_arg1)) r n := by
  obtain ⟨t, ht⟩ : ∃ t : Fin cfg0.N, t.val = n.val / 512 * 6 + r.val / 384 :=
    ⟨⟨n.val / 512 * 6 + r.val / 384, lt_of_lt_of_eq (by omega) N_0.symm⟩, rfl⟩
  obtain ⟨i0, i1, i2⟩ := index t
  have b := congrFun (Value.blocks2 m c t (flush0_2 t)) (ix2 ⟨r.val % 384, by omega⟩ ⟨n.val % 512, by omega⟩)
  rw [View.read_apply, Value.flushed2] at b
  have hy : (((cfg0.win 2).blk t).view.emb (ix2 ⟨r.val % 384, by omega⟩ ⟨n.val % 512, by omega⟩) : S2304x2048.Idx) = ix2 r n := by
    refine funext fun a => Fin.ext ?_
    match a with
    | ⟨0, _⟩ => show win0_2.index t 0 * 384 + 1 * (r.val % 384) = r.val; rw [i2.1] <;> omega
    | ⟨1, _⟩ => show win0_2.index t 1 * 512 + 1 * (n.val % 512) = n.val; rw [i2.2] <;> omega
  rw [hy] at b
  refine b.trans ((stored _ _ _ _).trans (Finset.sum_congr rfl fun j _ => congrArg₂ (· * ·) ?_ ?_))
  · unfold iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 384 + 1 * (r.val % 384) = r.val; rw [i0.1] <;> omega
    | ⟨1, _⟩ => show win0_0.index t 1 * 5632 + 1 * j.val = j.val; rw [i0.2] <;> omega
  · refine Eq.trans ?_ (weights m c ⟨j.val / 1408, by omega⟩ ⟨j.val % 1408, by omega⟩ n)
    unfold iblk
    rw [View.read_apply]
    refine congrArg (V m c main_v0) (funext fun a => Fin.ext ?_)
    match a with
    | ⟨0, _⟩ => show win0_1.index t 0 * 4 + 1 * (j.val / 1408) = j.val / 1408; rw [i1.1] <;> omega
    | ⟨1, _⟩ => show win0_1.index t 1 * 1 + 1 * 0 = 0; rw [i1.2.1] <;> omega
    | ⟨2, _⟩ => show win0_1.index t 2 * 1408 + 1 * (j.val % 1408) = j.val % 1408; rw [i1.2.2.1] <;> omega
    | ⟨3, _⟩ => show win0_1.index t 3 * 512 + 1 * (n.val % 512) = n.val; rw [i1.2.2.2] <;> omega

open Cert.MmFfDownReferenceIdeal.Read in
/-- The result array of the reference. -/
theorem reference_entry (x0 : Vec Ideal S2304x5632 .bf16) (x1 : Vec Ideal S4x1408x2048 .bf16) (r : Fin 2304) (n : Fin 2048) :
    val_main_v3 (F := Ideal) x0 x1 (ix2 r n) = product x0 x1 r n := by
  unfold product
  pointwise [val_main_v3, val_main_v2, val_main_v1, val_main_v0]

/-- The kernel runs on the machine, keeps its arguments, and ends with every counter at zero. -/
theorem frame : Cert.quiescent_MmFfDown := fun m ρ _ => Cert.MmFfDown.Gen.frame m ρ

/-- The same of its idealization. -/
theorem frameIdeal : Cert.quiescent_MmFfDownIdeal := fun m ρ _ => Cert.MmFfDownIdeal.Gen.frame m ρ

/-- The same of the reference. -/
theorem frameReference : Cert.quiescent_MmFfDownReferenceIdeal := fun m ρ _ =>
  (θ_run Cert.MmFfDownReferenceIdeal.defs _ _).mono (fun r h => ⟨fun c => (h c).2, sem_eq_zero_of_no_sems (by decide) r.2⟩)
    (Cert.MmFfDownReferenceIdeal.Value.run (F := Ideal) m ρ)

/-- The kernel's product is the reference's. -/
theorem algebraic : Cert.algebraic_MmFfDownIdeal_MmFfDownReferenceIdeal := by
  intro m g m' g' _ hin
  refine ⟨_, Value.run_blocks m g, (θ_run Cert.MmFfDownReferenceIdeal.defs _ _).mono (fun r h c => ?_)
    (Cert.MmFfDownReferenceIdeal.Value.run (F := Ideal) m' g')⟩
  obtain ⟨h0, hargs⟩ := h c
  obtain ⟨a0, a1⟩ := hin c
  refine ⟨(h0.trans (Cert.MmFfDownReferenceIdeal.Read.val_main_v3_eq _ _)).trans ?_, hargs⟩
  rw [a0, a1]
  funext i
  rw [eq_ix2 i]
  exact (reference_entry _ _ _ _).trans (kernel_entry m c _ _).symm

end Cert.MmFfDownProof

end
-- ==== Proof.MmIn.lean ====
module

public import proofs.«01_k».proof.Defs
public import proofs.«01_k».proof.Proof.Gen.MmIn.Frame
public import proofs.«01_k».proof.Proof.Gen.MmInIdeal.Value
public import proofs.«01_k».proof.Proof.Gen.MmInReferenceIdeal.Run
public import proofs.«01_k».proof.Proof.Gen.MmInReferenceIdeal.Read
public import Idealize.ShloMosaic.Lib.Claim
public import Idealize.ShloMosaic.Lib.Pointwise
public import Idealize.ShloMosaic.Lib.Pipeline.ValueKit.Basic

/- The input projection, `h · w_in`, whose columns lie in four shards of 1152: kernel and reference. -/

@[expose] public section

set_option maxRecDepth 16384

noncomputable section

namespace Cert.MmInProof

open Idealize.ShloMosaic Idealize.ShloMosaic.TcCoe Idealize.SL.Sem Cert.MmInIdeal Cert.MmInIdeal.Gen

/-- Entry `(r, j)`: row `r` of the hidden state against column `j` of the weights, which is column `j % 1152` of shard `j / 1152`. -/
def product (x : Vec Ideal S2304x2048 .bf16) (w : Vec Ideal S4x2048x1152 .bf16) (r : Fin 2304) (j : Fin 4608) : EReal :=
  ∑ k : Fin 2048, x (ix2 r k) * w (ix3 ⟨j.val / 1152, by omega⟩ k ⟨j.val % 1152, by omega⟩)

/-- Grid point `t` takes 768 rows and 1152 columns. -/
theorem index (t : Fin cfg0.N) : (win0_0.index t 0 = t.val % 3 ∧ win0_0.index t 1 = 0)
    ∧ (win0_1.index t 0 = t.val / 3 ∧ win0_1.index t 1 = 0 ∧ win0_1.index t 2 = 0 ∧ win0_1.index t 3 = 0)
    ∧ (win0_2.index t 0 = t.val % 3 ∧ win0_2.index t 1 = t.val / 3) := by
  revert t
  change ∀ t : Fin grid0.N, _
  decide +kernel

/-- What the body stores. -/
theorem stored (x : Vec Ideal S768x2048 .bf16) (w : Vec Ideal S1x1x2048x1152 .bf16) (r : Fin 768) (j : Fin 1152) :
    out0_2 x w (ix2 r j) = ∑ k : Fin 2048, x (ix2 r k) * w (ix4 0 0 k j) := by
  have e : out0_2 x w = k0_pay1 w x := by
    unfold out0_2
    rw [View.canon_cons_unit_lit _ _ _ (by decide), View.ld_unit_lit _ _ (by decide), View.ld_unit_lit _ _ (by decide)]
  rw [e]
  pointwise [k0_pay1]

variable (m : (ℓ : Loc nD τ sig) → Buf (Elt Ideal) ℓ) (c : Dev nD)

/-- The host gives the weights a unit axis. -/
theorem weights (q : Fin 4) (k : Fin 2048) (n : Fin 1152) : (V m c main_v0 : Vec Ideal S4x1x2048x1152 .bf16) (ix4 q 0 k n)
    = (m ((c : Thread nD τ).loc main_arg1) : Vec Ideal S4x2048x1152 .bf16) (ix3 q k n) := by
  entry_read
  pointwise

/-- The result array of the kernel. -/
theorem kernel_entry (r : Fin 2304) (j : Fin 4608) : ((dats m 0 c).arrAt 2 cfg0.N : Vec Ideal S2304x4608 .f32) (ix2 r j)
    = product (m ((c : Thread nD τ).loc main_arg0)) (m ((c : Thread nD τ).loc main_arg1)) r j := by
  obtain ⟨t, ht⟩ : ∃ t : Fin cfg0.N, t.val = j.val / 1152 * 3 + r.val / 768 :=
    ⟨⟨j.val / 1152 * 3 + r.val / 768, lt_of_lt_of_eq (by omega) N_0.symm⟩, rfl⟩
  obtain ⟨i0, i1, i2⟩ := index t
  have b := congrFun (Value.blocks2 m c t (flush0_2 t)) (ix2 ⟨r.val % 768, by omega⟩ ⟨j.val % 1152, by omega⟩)
  rw [View.read_apply, Value.flushed2] at b
  have hy : (((cfg0.win 2).blk t).view.emb (ix2 ⟨r.val % 768, by omega⟩ ⟨j.val % 1152, by omega⟩) : S2304x4608.Idx) = ix2 r j := by
    refine funext fun a => Fin.ext ?_
    match a with
    | ⟨0, _⟩ => show win0_2.index t 0 * 768 + 1 * (r.val % 768) = r.val; rw [i2.1] <;> omega
    | ⟨1, _⟩ => show win0_2.index t 1 * 1152 + 1 * (j.val % 1152) = j.val; rw [i2.2] <;> omega
  rw [hy] at b
  refine b.trans ((stored _ _ _ _).trans (Finset.sum_congr rfl fun k _ => congrArg₂ (· * ·) ?_ ?_))
  · unfold iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 768 + 1 * (r.val % 768) = r.val; rw [i0.1] <;> omega
    | ⟨1, _⟩ => show win0_0.index t 1 * 2048 + 1 * k.val = k.val; rw [i0.2] <;> omega
  · refine Eq.trans ?_ (weights m c ⟨j.val / 1152, by omega⟩ k ⟨j.val % 1152, by omega⟩)
    unfold iblk
    rw [View.read_apply]
    refine congrArg (V m c main_v0) (funext fun a => Fin.ext ?_)
    match a with
    | ⟨0, _⟩ => show win0_1.index t 0 * 1 + 1 * 0 = j.val / 1152; rw [i1.1] <;> omega
    | ⟨1, _⟩ => show win0_1.index t 1 * 1 + 1 * 0 = 0; rw [i1.2.1] <;> omega
    | ⟨2, _⟩ => show win0_1.index t 2 * 2048 + 1 * k.val = k.val; rw [i1.2.2.1] <;> omega
    | ⟨3, _⟩ => show win0_1.index t 3 * 1152 + 1 * (j.val % 1152) = j.val % 1152; rw [i1.2.2.2] <;> omega

open Cert.MmInReferenceIdeal.Read in
/-- The result array of the reference. -/
theorem reference_entry (x0 : Vec Ideal S2304x2048 .bf16) (x1 : Vec Ideal S4x2048x1152 .bf16) (r : Fin 2304) (j : Fin 4608) :
    val_main_v4 (F := Ideal) x0 x1 (ix2 r j) = product x0 x1 r j := by
  unfold product
  pointwise [val_main_v4, val_main_v3, val_main_v2, val_main_v1, val_main_v0]

/-- The kernel runs on the machine, keeps its arguments, and ends with every counter at zero. -/
theorem frame : Cert.quiescent_MmIn := fun m ρ _ => Cert.MmIn.Gen.frame m ρ

/-- The same of its idealization. -/
theorem frameIdeal : Cert.quiescent_MmInIdeal := fun m ρ _ => Cert.MmInIdeal.Gen.frame m ρ

/-- The same of the reference. -/
theorem frameReference : Cert.quiescent_MmInReferenceIdeal := fun m ρ _ =>
  (θ_run Cert.MmInReferenceIdeal.defs _ _).mono (fun r h => ⟨fun c => (h c).2, sem_eq_zero_of_no_sems (by decide) r.2⟩)
    (Cert.MmInReferenceIdeal.Value.run (F := Ideal) m ρ)

/-- The kernel's product is the reference's. -/
theorem algebraic : Cert.algebraic_MmInIdeal_MmInReferenceIdeal := by
  intro m g m' g' _ hin
  refine ⟨_, Value.run_blocks m g, (θ_run Cert.MmInReferenceIdeal.defs _ _).mono (fun r h c => ?_)
    (Cert.MmInReferenceIdeal.Value.run (F := Ideal) m' g')⟩
  obtain ⟨h0, hargs⟩ := h c
  obtain ⟨a0, a1⟩ := hin c
  refine ⟨(h0.trans (Cert.MmInReferenceIdeal.Read.val_main_v4_eq _ _)).trans ?_, hargs⟩
  rw [a0, a1]
  funext i
  rw [eq_ix2 i]
  exact (reference_entry _ _ _ _).trans (kernel_entry m c _ _).symm

end Cert.MmInProof

end
-- ==== Proof.NtIn.lean ====
module

public import proofs.«01_k».proof.Defs
public import proofs.«01_k».proof.Proof.Shards
public import proofs.«01_k».proof.Proof.Gen.NtIn.Frame
public import proofs.«01_k».proof.Proof.Gen.NtInIdeal.Value
public import proofs.«01_k».proof.Proof.Gen.NtInReferenceIdeal.Run
public import proofs.«01_k».proof.Proof.Gen.NtInReferenceIdeal.Read
public import Idealize.ShloMosaic.Lib.Claim
public import Idealize.ShloMosaic.Lib.Pointwise
public import Idealize.ShloMosaic.Lib.Pipeline.ValueKit.Basic

/- The gradient that the input projection sends to the hidden state, `dc · w_inᵀ`: kernel and reference. -/

@[expose] public section

set_option maxRecDepth 16384

noncomputable section

namespace Cert.NtInProof

open Idealize.ShloMosaic Idealize.ShloMosaic.TcCoe Idealize.SL.Sem Cert.NtInIdeal Cert.NtInIdeal.Gen

/-- Entry `(r, k)`: row `r` of the incoming gradient against row `k` of the weights, shard by shard. -/
def grad (dc : Vec Ideal S2304x4608 .bf16) (w : Vec Ideal S4x2048x1152 .bf16) (r : Fin 2304) (k : Fin 2048) : EReal :=
  ∑ q : Fin 4, ∑ n : Fin 1152, dc (ix2 r ⟨q.val * 1152 + n.val, by omega⟩) * w (ix3 q k n)

/-- Grid point `t` takes 768 rows of the gradient and 512 rows of every shard. -/
theorem index (t : Fin cfg0.N) : (win0_0.index t 0 = t.val / 4 ∧ win0_0.index t 1 = 0)
    ∧ (win0_1.index t 0 = 0 ∧ win0_1.index t 1 = 0 ∧ win0_1.index t 2 = t.val % 4 ∧ win0_1.index t 3 = 0)
    ∧ (win0_2.index t 0 = t.val / 4 ∧ win0_2.index t 1 = t.val % 4) := by
  revert t
  change ∀ t : Fin grid0.N, _
  decide +kernel

/-- What the body stores: the sum of its four products, one for each shard. -/
theorem stored (x : Vec Ideal S768x4608 .bf16) (w : Vec Ideal S4x1x512x1152 .bf16) (r : Fin 768) (k : Fin 512) :
    out0_2 x w (ix2 r k) = ∑ q : Fin 4, ∑ n : Fin 1152, x (ix2 r ⟨q.val * 1152 + n.val, by omega⟩) * w (ix4 q 0 k n) := by
  have e : out0_2 x w = k0_pay1 (View.ld x r0_0) (View.ld w r0_1) (View.ld x r0_2) (View.ld w r0_3) (View.ld x r0_4) (View.ld w r0_5)
      (View.ld x r0_6) (View.ld w r0_7) := by
    unfold out0_2
    rw [View.canon_cons_unit_lit _ _ _ (by decide)]
  rw [e, Fin.sum_univ_four]
  refine Eq.trans (b := ∑ n : Fin 1152, x (ix2 r ⟨n.val, by omega⟩) * w (ix4 0 0 k n) + ∑ n : Fin 1152, x (ix2 r ⟨1152 + n.val, by omega⟩) * w (ix4 1 0 k n)
    + ∑ n : Fin 1152, x (ix2 r ⟨2304 + n.val, by omega⟩) * w (ix4 2 0 k n) + ∑ n : Fin 1152, x (ix2 r ⟨3456 + n.val, by omega⟩) * w (ix4 3 0 k n))
    (by pointwise [k0_pay1]) ?_
  refine congrArg₂ (· + ·) (congrArg₂ (· + ·) (congrArg₂ (· + ·) ?_ ?_) ?_) ?_
  all_goals
    refine Finset.sum_congr rfl fun n _ => congrArg (fun j => x (ix2 r j) * _) (Fin.ext ?_)
    simp

variable (m : (ℓ : Loc nD τ sig) → Buf (Elt Ideal) ℓ) (c : Dev nD)

/-- The host gives the weights a unit axis. -/
theorem weights (q : Fin 4) (k : Fin 2048) (n : Fin 1152) : (V m c main_v0 : Vec Ideal S4x1x2048x1152 .bf16) (ix4 q 0 k n)
    = (m ((c : Thread nD τ).loc main_arg1) : Vec Ideal S4x2048x1152 .bf16) (ix3 q k n) := by
  entry_read
  pointwise

/-- The result array of the kernel. -/
theorem kernel_entry (r : Fin 2304) (k : Fin 2048) : ((dats m 0 c).arrAt 2 cfg0.N : Vec Ideal S2304x2048 .f32) (ix2 r k)
    = grad (m ((c : Thread nD τ).loc main_arg0)) (m ((c : Thread nD τ).loc main_arg1)) r k := by
  obtain ⟨t, h0, h1⟩ : ∃ t : Fin cfg0.N, t.val / 4 = r.val / 768 ∧ t.val % 4 = k.val / 512 :=
    ⟨⟨r.val / 768 * 4 + k.val / 512, lt_of_lt_of_eq (by omega) N_0.symm⟩, by show (_ * 4 + _) / 4 = _; omega, by show (_ * 4 + _) % 4 = _; omega⟩
  obtain ⟨i0, i1, i2⟩ := index t
  have b := congrFun (Value.blocks2 m c t (flush0_2 t)) (ix2 ⟨r.val % 768, by omega⟩ ⟨k.val % 512, by omega⟩)
  rw [View.read_apply, Value.flushed2] at b
  have hy : (((cfg0.win 2).blk t).view.emb (ix2 ⟨r.val % 768, by omega⟩ ⟨k.val % 512, by omega⟩) : S2304x2048.Idx) = ix2 r k := by
    refine funext fun a => Fin.ext ?_
    match a with
    | ⟨0, _⟩ => show win0_2.index t 0 * 768 + 1 * (r.val % 768) = r.val; rw [i2.1]; omega
    | ⟨1, _⟩ => show win0_2.index t 1 * 512 + 1 * (k.val % 512) = k.val; rw [i2.2]; omega
  rw [hy] at b
  refine b.trans ((stored _ _ _ _).trans (Finset.sum_congr rfl fun q _ => Finset.sum_congr rfl fun n _ => congrArg₂ (· * ·) ?_ ?_))
  · unfold iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 768 + 1 * (r.val % 768) = r.val; rw [i0.1]; omega
    | ⟨1, _⟩ => show win0_0.index t 1 * 4608 + 1 * (q.val * 1152 + n.val) = q.val * 1152 + n.val; rw [i0.2]; omega
  · refine Eq.trans ?_ (weights m c q k n)
    unfold iblk
    rw [View.read_apply]
    refine congrArg (V m c main_v0) (funext fun a => Fin.ext ?_)
    match a with
    | ⟨0, _⟩ => show win0_1.index t 0 * 4 + 1 * q.val = q.val; rw [i1.1]; omega
    | ⟨1, _⟩ => show win0_1.index t 1 * 1 + 1 * 0 = 0; rw [i1.2.1]
    | ⟨2, _⟩ => show win0_1.index t 2 * 512 + 1 * (k.val % 512) = k.val; rw [i1.2.2.1]; omega
    | ⟨3, _⟩ => show win0_1.index t 3 * 1152 + 1 * n.val = n.val; rw [i1.2.2.2]; omega

open Cert.NtInReferenceIdeal.Read in
/-- The result array of the reference. -/
theorem reference_entry (x0 : Vec Ideal S2304x4608 .bf16) (x1 : Vec Ideal S4x2048x1152 .bf16) (r : Fin 2304) (k : Fin 2048) :
    val_main_v6 (F := Ideal) x0 x1 (ix2 r k) = grad x0 x1 r k := by
  refine Eq.trans (b := ∑ j : Fin 4608, x0 (ix2 r j) * x1 (ix3 ⟨j.val / 1152, by omega⟩ k ⟨j.val % 1152, by omega⟩))
    (by pointwise [val_main_v6, val_main_v4, val_main_v3, val_main_v1, val_main_v0]) ?_
  rw [Shards.sum_shards (a := 4) (b := 1152) rfl]
  refine Finset.sum_congr rfl fun q _ => Finset.sum_congr rfl fun n _ => congrArg (_ * ·) (congrArg x1 ?_)
  exact congrArg₂ (fun u v => ix3 u k v) (Fin.ext (by show (q.val * 1152 + n.val) / 1152 = q.val; omega))
    (Fin.ext (by show (q.val * 1152 + n.val) % 1152 = n.val; omega))

/-- The kernel runs on the machine, keeps its arguments, and ends with every counter at zero. -/
theorem frame : Cert.quiescent_NtIn := fun m ρ _ => Cert.NtIn.Gen.frame m ρ

/-- The same of its idealization. -/
theorem frameIdeal : Cert.quiescent_NtInIdeal := fun m ρ _ => Cert.NtInIdeal.Gen.frame m ρ

/-- The same of the reference. -/
theorem frameReference : Cert.quiescent_NtInReferenceIdeal := fun m ρ _ =>
  (θ_run Cert.NtInReferenceIdeal.defs _ _).mono (fun r h => ⟨fun c => (h c).2, sem_eq_zero_of_no_sems (by decide) r.2⟩)
    (Cert.NtInReferenceIdeal.Value.run (F := Ideal) m ρ)

/-- The kernel's gradient is the reference's. -/
theorem algebraic : Cert.algebraic_NtInIdeal_NtInReferenceIdeal := by
  intro m g m' g' _ hin
  refine ⟨_, Value.run_blocks m g, (θ_run Cert.NtInReferenceIdeal.defs _ _).mono (fun r h c => ?_)
    (Cert.NtInReferenceIdeal.Value.run (F := Ideal) m' g')⟩
  obtain ⟨h0, hargs⟩ := h c
  obtain ⟨a0, a1⟩ := hin c
  refine ⟨(h0.trans (Cert.NtInReferenceIdeal.Read.val_main_v6_eq _ _)).trans ?_, hargs⟩
  rw [a0, a1]
  funext i
  rw [eq_ix2 i]
  exact (reference_entry _ _ _ _).trans (kernel_entry m c _ _).symm

end Cert.NtInProof

end
-- ==== Proof.TnIn.lean ====
module

public import proofs.«01_k».proof.Defs
public import proofs.«01_k».proof.Proof.Gen.TnIn.Frame
public import proofs.«01_k».proof.Proof.Gen.TnInIdeal.Value
public import proofs.«01_k».proof.Proof.Gen.TnInReferenceIdeal.Run
public import proofs.«01_k».proof.Proof.Gen.TnInReferenceIdeal.Read
public import Idealize.ShloMosaic.Lib.Claim
public import Idealize.ShloMosaic.Lib.Pointwise
public import Idealize.ShloMosaic.Lib.Pipeline.ValueKit.Basic

/- The gradient of the input projection's weights, `hᵀ · dc`, in shards of 1152 columns: kernel and reference. -/

@[expose] public section

set_option maxRecDepth 16384

noncomputable section

namespace Cert.TnInProof

open Idealize.ShloMosaic Idealize.ShloMosaic.TcCoe Idealize.SL.Sem Cert.TnInIdeal Cert.TnInIdeal.Gen

/-- Entry `(k, n)` of shard `q`: column `k` of the activation against column `1152 q + n` of the incoming gradient. -/
def grad (a : Vec Ideal S2304x2048 .bf16) (dc : Vec Ideal S2304x4608 .bf16) (q : Fin 4) (k : Fin 2048) (n : Fin 1152) : EReal :=
  ∑ r : Fin 2304, a (ix2 r k) * dc (ix2 r ⟨q.val * 1152 + n.val, by omega⟩)

/-- Grid point `t` takes 512 columns of the activation and 1152 of the gradient. -/
theorem index (t : Fin cfg0.N) : (win0_0.index t 0 = 0 ∧ win0_0.index t 1 = t.val % 4)
    ∧ (win0_1.index t 0 = 0 ∧ win0_1.index t 1 = t.val / 4)
    ∧ (win0_2.index t 0 = t.val / 4 ∧ win0_2.index t 1 = t.val % 4 ∧ win0_2.index t 2 = 0) := by
  revert t
  change ∀ t : Fin grid0.N, _
  decide +kernel

/-- What the body stores. -/
theorem stored (x : Vec Ideal S2304x512 .bf16) (y : Vec Ideal S2304x1152 .bf16) (k : Fin 512) (n : Fin 1152) :
    out0_2 x y (ix3 0 k n) = ∑ r : Fin 2304, x (ix2 r k) * y (ix2 r n) := by
  have e : out0_2 x y = k0_pay1 x y := by
    unfold out0_2
    rw [View.canon_cons_unit_lit _ _ _ (by decide), View.ld_unit_lit _ _ (by decide), View.ld_unit_lit _ _ (by decide)]
  rw [e]
  pointwise [k0_pay1]

variable (m : (ℓ : Loc nD τ sig) → Buf (Elt Ideal) ℓ) (c : Dev nD)

/-- The result array of the kernel. -/
theorem kernel_entry (q : Fin 4) (k : Fin 2048) (n : Fin 1152) : ((dats m 0 c).arrAt 2 cfg0.N : Vec Ideal S4x2048x1152 .bf16) (ix3 q k n)
    = grad (m ((c : Thread nD τ).loc main_arg0)) (m ((c : Thread nD τ).loc main_arg1)) q k n := by
  obtain ⟨t, ht⟩ : ∃ t : Fin cfg0.N, t.val = q.val * 4 + k.val / 512 :=
    ⟨⟨q.val * 4 + k.val / 512, lt_of_lt_of_eq (by omega) N_0.symm⟩, rfl⟩
  obtain ⟨i0, i1, i2⟩ := index t
  have b := congrFun (Value.blocks2 m c t (flush0_2 t)) (ix3 0 ⟨k.val % 512, by omega⟩ ⟨n.val % 1152, by omega⟩)
  rw [View.read_apply, Value.flushed2] at b
  have hy : (((cfg0.win 2).blk t).view.emb (ix3 0 ⟨k.val % 512, by omega⟩ ⟨n.val % 1152, by omega⟩) : S4x2048x1152.Idx) = ix3 q k n := by
    refine funext fun a => Fin.ext ?_
    match a with
    | ⟨0, _⟩ => show win0_2.index t 0 * 1 + 1 * 0 = q.val; rw [i2.1] <;> omega
    | ⟨1, _⟩ => show win0_2.index t 1 * 512 + 1 * (k.val % 512) = k.val; rw [i2.2.1] <;> omega
    | ⟨2, _⟩ => show win0_2.index t 2 * 1152 + 1 * (n.val % 1152) = n.val; rw [i2.2.2] <;> omega
  rw [hy] at b
  refine b.trans ((stored _ _ _ _).trans (Finset.sum_congr rfl fun r _ => congrArg₂ (· * ·) ?_ ?_))
  · unfold iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 2304 + 1 * r.val = r.val; rw [i0.1] <;> omega
    | ⟨1, _⟩ => show win0_0.index t 1 * 512 + 1 * (k.val % 512) = k.val; rw [i0.2] <;> omega
  · unfold iblk
    rw [View.read_apply]
    show V m c main_arg1 _ = _
    rw [V_main_arg1]
    refine congrArg (m ((c : Thread nD τ).loc main_arg1)) (funext fun a => Fin.ext ?_)
    match a with
    | ⟨0, _⟩ => show win0_1.index t 0 * 2304 + 1 * r.val = r.val; rw [i1.1] <;> omega
    | ⟨1, _⟩ => show win0_1.index t 1 * 1152 + 1 * (n.val % 1152) = q.val * 1152 + n.val; rw [i1.2] <;> omega

open Cert.TnInReferenceIdeal.Read in
/-- The result array of the reference. -/
theorem reference_entry (x0 : Vec Ideal S2304x2048 .bf16) (x1 : Vec Ideal S2304x4608 .bf16) (q : Fin 4) (k : Fin 2048) (n : Fin 1152) :
    val_main_v10 (F := Ideal) x0 x1 (ix3 q k n) = grad x0 x1 q k n := by
  unfold grad
  pointwise [val_main_v10, val_main_v9, val_main_v8, val_main_v7, val_main_v6, val_main_v1, val_main_v0]
  exact Finset.sum_congr rfl fun r _ => mul_comm _ _

/-- The kernel runs on the machine, keeps its arguments, and ends with every counter at zero. -/
theorem frame : Cert.quiescent_TnIn := fun m ρ _ => Cert.TnIn.Gen.frame m ρ

/-- The same of its idealization. -/
theorem frameIdeal : Cert.quiescent_TnInIdeal := fun m ρ _ => Cert.TnInIdeal.Gen.frame m ρ

/-- The same of the reference. -/
theorem frameReference : Cert.quiescent_TnInReferenceIdeal := fun m ρ _ =>
  (θ_run Cert.TnInReferenceIdeal.defs _ _).mono (fun r h => ⟨fun c => (h c).2, sem_eq_zero_of_no_sems (by decide) r.2⟩)
    (Cert.TnInReferenceIdeal.Value.run (F := Ideal) m ρ)

/-- The kernel's gradient is the reference's. -/
theorem algebraic : Cert.algebraic_TnInIdeal_TnInReferenceIdeal := by
  intro m g m' g' _ hin
  refine ⟨_, Value.run_blocks m g, (θ_run Cert.TnInReferenceIdeal.defs _ _).mono (fun r h c => ?_)
    (Cert.TnInReferenceIdeal.Value.run (F := Ideal) m' g')⟩
  obtain ⟨h0, hargs⟩ := h c
  obtain ⟨a0, a1⟩ := hin c
  refine ⟨(h0.trans (Cert.TnInReferenceIdeal.Read.val_main_v10_eq _ _)).trans ?_, hargs⟩
  rw [a0, a1]
  funext i
  rw [eq_ix3 i]
  exact (reference_entry _ _ _ _ _).trans (kernel_entry m c _ _ _).symm

end Cert.TnInProof

end
-- ==== Proof.MmOut.lean ====
module

public import proofs.«01_k».proof.Defs
public import proofs.«01_k».proof.Proof.Gen.MmOut.Frame
public import proofs.«01_k».proof.Proof.Gen.MmOutIdeal.Value
public import proofs.«01_k».proof.Proof.Gen.MmOutReferenceIdeal.Run
public import proofs.«01_k».proof.Proof.Gen.MmOutReferenceIdeal.Read
public import Idealize.ShloMosaic.Lib.Claim
public import Idealize.ShloMosaic.Lib.Pointwise
public import Idealize.ShloMosaic.Lib.Pipeline.ValueKit.Basic

/- The output projection, `merged · w_o`, whose rows lie in four shards of 512: kernel and reference. -/

@[expose] public section

set_option maxRecDepth 16384

noncomputable section

namespace Cert.MmOutProof

open Idealize.ShloMosaic Idealize.ShloMosaic.TcCoe Idealize.SL.Sem Cert.MmOutIdeal Cert.MmOutIdeal.Gen

/-- Entry `(r, n)`: row `r` against column `n` of the weights, whose rows lie in four shards of 512. -/
def product (x : Vec Ideal S2304x2048 .bf16) (w : Vec Ideal S4x512x2048 .bf16) (r : Fin 2304) (n : Fin 2048) : EReal :=
  ∑ j : Fin 2048, x (ix2 r j) * w (ix3 ⟨j.val / 512, by omega⟩ ⟨j.val % 512, by omega⟩ n)

/-- Grid point `t` takes 768 rows and 1024 columns of every shard. -/
theorem index (t : Fin cfg0.N) : (win0_0.index t 0 = t.val % 3 ∧ win0_0.index t 1 = 0)
    ∧ (win0_1.index t 0 = 0 ∧ win0_1.index t 1 = 0 ∧ win0_1.index t 2 = 0 ∧ win0_1.index t 3 = t.val / 3)
    ∧ (win0_2.index t 0 = t.val % 3 ∧ win0_2.index t 1 = t.val / 3) := by
  revert t
  change ∀ t : Fin grid0.N, _
  decide +kernel

/-- What the body stores. -/
theorem stored (x : Vec Ideal S768x2048 .bf16) (w : Vec Ideal S4x1x512x1024 .bf16) (r : Fin 768) (n : Fin 1024) :
    out0_2 x w (ix2 r n) = ∑ j : Fin 2048, x (ix2 r j) * w (ix4 ⟨j.val / 512, by omega⟩ 0 ⟨j.val % 512, by omega⟩ n) := by
  have e : out0_2 x w = k0_pay1 w x := by
    unfold out0_2
    rw [View.canon_cons_unit_lit _ _ _ (by decide), View.ld_unit_lit _ _ (by decide), View.ld_unit_lit _ _ (by decide)]
  rw [e]
  pointwise [k0_pay1]

variable (m : (ℓ : Loc nD τ sig) → Buf (Elt Ideal) ℓ) (c : Dev nD)

/-- The host gives the weights a unit axis. -/
theorem weights (q : Fin 4) (k : Fin 512) (n : Fin 2048) : (V m c main_v0 : Vec Ideal S4x1x512x2048 .bf16) (ix4 q 0 k n)
    = (m ((c : Thread nD τ).loc main_arg1) : Vec Ideal S4x512x2048 .bf16) (ix3 q k n) := by
  entry_read
  pointwise

/-- The result array of the kernel. -/
theorem kernel_entry (r : Fin 2304) (n : Fin 2048) : ((dats m 0 c).arrAt 2 cfg0.N : Vec Ideal S2304x2048 .f32) (ix2 r n)
    = product (m ((c : Thread nD τ).loc main_arg0)) (m ((c : Thread nD τ).loc main_arg1)) r n := by
  obtain ⟨t, ht⟩ : ∃ t : Fin cfg0.N, t.val = n.val / 1024 * 3 + r.val / 768 :=
    ⟨⟨n.val / 1024 * 3 + r.val / 768, lt_of_lt_of_eq (by omega) N_0.symm⟩, rfl⟩
  obtain ⟨i0, i1, i2⟩ := index t
  have b := congrFun (Value.blocks2 m c t (flush0_2 t)) (ix2 ⟨r.val % 768, by omega⟩ ⟨n.val % 1024, by omega⟩)
  rw [View.read_apply, Value.flushed2] at b
  have hy : (((cfg0.win 2).blk t).view.emb (ix2 ⟨r.val % 768, by omega⟩ ⟨n.val % 1024, by omega⟩) : S2304x2048.Idx) = ix2 r n := by
    refine funext fun a => Fin.ext ?_
    match a with
    | ⟨0, _⟩ => show win0_2.index t 0 * 768 + 1 * (r.val % 768) = r.val; rw [i2.1] <;> omega
    | ⟨1, _⟩ => show win0_2.index t 1 * 1024 + 1 * (n.val % 1024) = n.val; rw [i2.2] <;> omega
  rw [hy] at b
  refine b.trans ((stored _ _ _ _).trans (Finset.sum_congr rfl fun j _ => congrArg₂ (· * ·) ?_ ?_))
  · unfold iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 768 + 1 * (r.val % 768) = r.val; rw [i0.1] <;> omega
    | ⟨1, _⟩ => show win0_0.index t 1 * 2048 + 1 * j.val = j.val; rw [i0.2] <;> omega
  · refine Eq.trans ?_ (weights m c ⟨j.val / 512, by omega⟩ ⟨j.val % 512, by omega⟩ n)
    unfold iblk
    rw [View.read_apply]
    refine congrArg (V m c main_v0) (funext fun a => Fin.ext ?_)
    match a with
    | ⟨0, _⟩ => show win0_1.index t 0 * 4 + 1 * (j.val / 512) = j.val / 512; rw [i1.1] <;> omega
    | ⟨1, _⟩ => show win0_1.index t 1 * 1 + 1 * 0 = 0; rw [i1.2.1] <;> omega
    | ⟨2, _⟩ => show win0_1.index t 2 * 512 + 1 * (j.val % 512) = j.val % 512; rw [i1.2.2.1] <;> omega
    | ⟨3, _⟩ => show win0_1.index t 3 * 1024 + 1 * (n.val % 1024) = n.val; rw [i1.2.2.2] <;> omega

open Cert.MmOutReferenceIdeal.Read in
/-- The result array of the reference. -/
theorem reference_entry (x0 : Vec Ideal S2304x2048 .bf16) (x1 : Vec Ideal S4x512x2048 .bf16) (r : Fin 2304) (n : Fin 2048) :
    val_main_v3 (F := Ideal) x0 x1 (ix2 r n) = product x0 x1 r n := by
  unfold product
  pointwise [val_main_v3, val_main_v2, val_main_v1, val_main_v0]

/-- The kernel runs on the machine, keeps its arguments, and ends with every counter at zero. -/
theorem frame : Cert.quiescent_MmOut := fun m ρ _ => Cert.MmOut.Gen.frame m ρ

/-- The same of its idealization. -/
theorem frameIdeal : Cert.quiescent_MmOutIdeal := fun m ρ _ => Cert.MmOutIdeal.Gen.frame m ρ

/-- The same of the reference. -/
theorem frameReference : Cert.quiescent_MmOutReferenceIdeal := fun m ρ _ =>
  (θ_run Cert.MmOutReferenceIdeal.defs _ _).mono (fun r h => ⟨fun c => (h c).2, sem_eq_zero_of_no_sems (by decide) r.2⟩)
    (Cert.MmOutReferenceIdeal.Value.run (F := Ideal) m ρ)

/-- The kernel's product is the reference's. -/
theorem algebraic : Cert.algebraic_MmOutIdeal_MmOutReferenceIdeal := by
  intro m g m' g' _ hin
  refine ⟨_, Value.run_blocks m g, (θ_run Cert.MmOutReferenceIdeal.defs _ _).mono (fun r h c => ?_)
    (Cert.MmOutReferenceIdeal.Value.run (F := Ideal) m' g')⟩
  obtain ⟨h0, hargs⟩ := h c
  obtain ⟨a0, a1⟩ := hin c
  refine ⟨(h0.trans (Cert.MmOutReferenceIdeal.Read.val_main_v3_eq _ _)).trans ?_, hargs⟩
  rw [a0, a1]
  funext i
  rw [eq_ix2 i]
  exact (reference_entry _ _ _ _).trans (kernel_entry m c _ _).symm

end Cert.MmOutProof

end
-- ==== Proof.NtOut.lean ====
module

public import proofs.«01_k».proof.Defs
public import proofs.«01_k».proof.Proof.Gen.NtOut.Frame
public import proofs.«01_k».proof.Proof.Gen.NtOutIdeal.Value
public import proofs.«01_k».proof.Proof.Gen.NtOutReferenceIdeal.Run
public import proofs.«01_k».proof.Proof.Gen.NtOutReferenceIdeal.Read
public import Idealize.ShloMosaic.Lib.Claim
public import Idealize.ShloMosaic.Lib.Pointwise
public import Idealize.ShloMosaic.Lib.Pipeline.ValueKit.Basic

/- The gradient that the output projection sends to the merged branches, `dc · w_oᵀ`: kernel and reference. -/

@[expose] public section

set_option maxRecDepth 16384

noncomputable section

namespace Cert.NtOutProof

open Idealize.ShloMosaic Idealize.ShloMosaic.TcCoe Idealize.SL.Sem Cert.NtOutIdeal Cert.NtOutIdeal.Gen

/-- Entry `(r, j)`: row `r` of the incoming gradient against row `j` of the weights, which lie in four shards of 512 rows. -/
def grad (dc : Vec Ideal S2304x2048 .bf16) (w : Vec Ideal S4x512x2048 .bf16) (r : Fin 2304) (j : Fin 2048) : EReal :=
  ∑ n : Fin 2048, dc (ix2 r n) * w (ix3 ⟨j.val / 512, by omega⟩ ⟨j.val % 512, by omega⟩ n)

/-- Grid point `t` takes 768 rows of the gradient and one shard of the weights. -/
theorem index (t : Fin cfg0.N) : (win0_0.index t 0 = t.val % 3 ∧ win0_0.index t 1 = 0)
    ∧ (win0_1.index t 0 = t.val / 3 ∧ win0_1.index t 1 = 0 ∧ win0_1.index t 2 = 0 ∧ win0_1.index t 3 = 0)
    ∧ (win0_2.index t 0 = t.val % 3 ∧ win0_2.index t 1 = t.val / 3) := by
  revert t
  change ∀ t : Fin grid0.N, _
  decide +kernel

/-- What the body stores. -/
theorem stored (x : Vec Ideal S768x2048 .bf16) (w : Vec Ideal S1x1x512x2048 .bf16) (r : Fin 768) (k : Fin 512) :
    out0_2 x w (ix2 r k) = ∑ n : Fin 2048, x (ix2 r n) * w (ix4 0 0 k n) := by
  have e : out0_2 x w = k0_pay1 x w := by
    unfold out0_2
    rw [View.canon_cons_unit_lit _ _ _ (by decide), View.ld_unit_lit _ _ (by decide), View.ld_unit_lit _ _ (by decide)]
  rw [e]
  pointwise [k0_pay1]

variable (m : (ℓ : Loc nD τ sig) → Buf (Elt Ideal) ℓ) (c : Dev nD)

/-- The host gives the weights a unit axis. -/
theorem weights (q : Fin 4) (k : Fin 512) (n : Fin 2048) : (V m c main_v0 : Vec Ideal S4x1x512x2048 .bf16) (ix4 q 0 k n)
    = (m ((c : Thread nD τ).loc main_arg1) : Vec Ideal S4x512x2048 .bf16) (ix3 q k n) := by
  entry_read
  pointwise

/-- The result array of the kernel. -/
theorem kernel_entry (r : Fin 2304) (j : Fin 2048) : ((dats m 0 c).arrAt 2 cfg0.N : Vec Ideal S2304x2048 .f32) (ix2 r j)
    = grad (m ((c : Thread nD τ).loc main_arg0)) (m ((c : Thread nD τ).loc main_arg1)) r j := by
  obtain ⟨t, ht⟩ : ∃ t : Fin cfg0.N, t.val = j.val / 512 * 3 + r.val / 768 :=
    ⟨⟨j.val / 512 * 3 + r.val / 768, lt_of_lt_of_eq (by omega) N_0.symm⟩, rfl⟩
  obtain ⟨i0, i1, i2⟩ := index t
  have b := congrFun (Value.blocks2 m c t (flush0_2 t)) (ix2 ⟨r.val % 768, by omega⟩ ⟨j.val % 512, by omega⟩)
  rw [View.read_apply, Value.flushed2] at b
  have hy : (((cfg0.win 2).blk t).view.emb (ix2 ⟨r.val % 768, by omega⟩ ⟨j.val % 512, by omega⟩) : S2304x2048.Idx) = ix2 r j := by
    refine funext fun a => Fin.ext ?_
    match a with
    | ⟨0, _⟩ => show win0_2.index t 0 * 768 + 1 * (r.val % 768) = r.val; rw [i2.1] <;> omega
    | ⟨1, _⟩ => show win0_2.index t 1 * 512 + 1 * (j.val % 512) = j.val; rw [i2.2] <;> omega
  rw [hy] at b
  refine b.trans ((stored _ _ _ _).trans (Finset.sum_congr rfl fun n _ => congrArg₂ (· * ·) ?_ ?_))
  · unfold iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 768 + 1 * (r.val % 768) = r.val; rw [i0.1] <;> omega
    | ⟨1, _⟩ => show win0_0.index t 1 * 2048 + 1 * n.val = n.val; rw [i0.2] <;> omega
  · refine Eq.trans ?_ (weights m c ⟨j.val / 512, by omega⟩ ⟨j.val % 512, by omega⟩ n)
    unfold iblk
    rw [View.read_apply]
    refine congrArg (V m c main_v0) (funext fun a => Fin.ext ?_)
    match a with
    | ⟨0, _⟩ => show win0_1.index t 0 * 1 + 1 * 0 = j.val / 512; rw [i1.1] <;> omega
    | ⟨1, _⟩ => show win0_1.index t 1 * 1 + 1 * 0 = 0; rw [i1.2.1] <;> omega
    | ⟨2, _⟩ => show win0_1.index t 2 * 512 + 1 * (j.val % 512) = j.val % 512; rw [i1.2.2.1] <;> omega
    | ⟨3, _⟩ => show win0_1.index t 3 * 2048 + 1 * n.val = n.val; rw [i1.2.2.2] <;> omega

open Cert.NtOutReferenceIdeal.Read in
/-- The result array of the reference. -/
theorem reference_entry (x0 : Vec Ideal S2304x2048 .bf16) (x1 : Vec Ideal S4x512x2048 .bf16) (r : Fin 2304) (j : Fin 2048) :
    val_main_v5 (F := Ideal) x0 x1 (ix2 r j) = grad x0 x1 r j := by
  unfold grad
  pointwise [val_main_v5, val_main_v4, val_main_v3, val_main_v2, val_main_v1, val_main_v0]

/-- The kernel runs on the machine, keeps its arguments, and ends with every counter at zero. -/
theorem frame : Cert.quiescent_NtOut := fun m ρ _ => Cert.NtOut.Gen.frame m ρ

/-- The same of its idealization. -/
theorem frameIdeal : Cert.quiescent_NtOutIdeal := fun m ρ _ => Cert.NtOutIdeal.Gen.frame m ρ

/-- The same of the reference. -/
theorem frameReference : Cert.quiescent_NtOutReferenceIdeal := fun m ρ _ =>
  (θ_run Cert.NtOutReferenceIdeal.defs _ _).mono (fun r h => ⟨fun c => (h c).2, sem_eq_zero_of_no_sems (by decide) r.2⟩)
    (Cert.NtOutReferenceIdeal.Value.run (F := Ideal) m ρ)

/-- The kernel's gradient is the reference's. -/
theorem algebraic : Cert.algebraic_NtOutIdeal_NtOutReferenceIdeal := by
  intro m g m' g' _ hin
  refine ⟨_, Value.run_blocks m g, (θ_run Cert.NtOutReferenceIdeal.defs _ _).mono (fun r h c => ?_)
    (Cert.NtOutReferenceIdeal.Value.run (F := Ideal) m' g')⟩
  obtain ⟨h0, hargs⟩ := h c
  obtain ⟨a0, a1⟩ := hin c
  refine ⟨(h0.trans (Cert.NtOutReferenceIdeal.Read.val_main_v5_eq _ _)).trans ?_, hargs⟩
  rw [a0, a1]
  funext i
  rw [eq_ix2 i]
  exact (reference_entry _ _ _ _).trans (kernel_entry m c _ _).symm

end Cert.NtOutProof

end
-- ==== Proof.TnOut.lean ====
module

public import proofs.«01_k».proof.Defs
public import proofs.«01_k».proof.Proof.Gen.TnOut.Frame
public import proofs.«01_k».proof.Proof.Gen.TnOutIdeal.Value
public import proofs.«01_k».proof.Proof.Gen.TnOutReferenceIdeal.Run
public import proofs.«01_k».proof.Proof.Gen.TnOutReferenceIdeal.Read
public import Idealize.ShloMosaic.Lib.Claim
public import Idealize.ShloMosaic.Lib.Pointwise
public import Idealize.ShloMosaic.Lib.Pipeline.ValueKit.Basic

/- The gradient of the output projection's weights, in shards of 512 rows: kernel and reference. -/

@[expose] public section

set_option maxRecDepth 16384

noncomputable section

namespace Cert.TnOutProof

open Idealize.ShloMosaic Idealize.ShloMosaic.TcCoe Idealize.SL.Sem Cert.TnOutIdeal Cert.TnOutIdeal.Gen

/-- Entry `(k, n)` of shard `q`: column `512 q + k` of the activation against column `n` of the incoming gradient. -/
def grad (a : Vec Ideal S2304x2048 .bf16) (dc : Vec Ideal S2304x2048 .bf16) (q : Fin 4) (k : Fin 512) (n : Fin 2048) : EReal :=
  ∑ r : Fin 2304, a (ix2 r ⟨q.val * 512 + k.val, by omega⟩) * dc (ix2 r n)

/-- Grid point `t` takes 512 columns of the activation and 1024 of the gradient. -/
theorem index (t : Fin cfg0.N) : (win0_0.index t 0 = 0 ∧ win0_0.index t 1 = t.val / 2)
    ∧ (win0_1.index t 0 = 0 ∧ win0_1.index t 1 = t.val % 2)
    ∧ (win0_2.index t 0 = t.val / 2 ∧ win0_2.index t 1 = 0 ∧ win0_2.index t 2 = t.val % 2) := by
  revert t
  change ∀ t : Fin grid0.N, _
  decide +kernel

/-- What the body stores. -/
theorem stored (x : Vec Ideal S2304x512 .bf16) (y : Vec Ideal S2304x1024 .bf16) (k : Fin 512) (n : Fin 1024) :
    out0_2 x y (ix3 0 k n) = ∑ r : Fin 2304, x (ix2 r k) * y (ix2 r n) := by
  have e : out0_2 x y = k0_pay1 x y := by
    unfold out0_2
    rw [View.canon_cons_unit_lit _ _ _ (by decide), View.ld_unit_lit _ _ (by decide), View.ld_unit_lit _ _ (by decide)]
  rw [e]
  pointwise [k0_pay1]

variable (m : (ℓ : Loc nD τ sig) → Buf (Elt Ideal) ℓ) (c : Dev nD)

/-- The result array of the kernel. -/
theorem kernel_entry (q : Fin 4) (k : Fin 512) (n : Fin 2048) : ((dats m 0 c).arrAt 2 cfg0.N : Vec Ideal S4x512x2048 .bf16) (ix3 q k n)
    = grad (m ((c : Thread nD τ).loc main_arg0)) (m ((c : Thread nD τ).loc main_arg1)) q k n := by
  obtain ⟨t, ht⟩ : ∃ t : Fin cfg0.N, t.val = q.val * 2 + n.val / 1024 :=
    ⟨⟨q.val * 2 + n.val / 1024, lt_of_lt_of_eq (by omega) N_0.symm⟩, rfl⟩
  obtain ⟨i0, i1, i2⟩ := index t
  have b := congrFun (Value.blocks2 m c t (flush0_2 t)) (ix3 0 ⟨k.val % 512, by omega⟩ ⟨n.val % 1024, by omega⟩)
  rw [View.read_apply, Value.flushed2] at b
  have hy : (((cfg0.win 2).blk t).view.emb (ix3 0 ⟨k.val % 512, by omega⟩ ⟨n.val % 1024, by omega⟩) : S4x512x2048.Idx) = ix3 q k n := by
    refine funext fun a => Fin.ext ?_
    match a with
    | ⟨0, _⟩ => show win0_2.index t 0 * 1 + 1 * 0 = q.val; rw [i2.1] <;> omega
    | ⟨1, _⟩ => show win0_2.index t 1 * 512 + 1 * (k.val % 512) = k.val; rw [i2.2.1] <;> omega
    | ⟨2, _⟩ => show win0_2.index t 2 * 1024 + 1 * (n.val % 1024) = n.val; rw [i2.2.2] <;> omega
  rw [hy] at b
  refine b.trans ((stored _ _ _ _).trans (Finset.sum_congr rfl fun r _ => congrArg₂ (· * ·) ?_ ?_))
  · unfold iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 2304 + 1 * r.val = r.val; rw [i0.1] <;> omega
    | ⟨1, _⟩ => show win0_0.index t 1 * 512 + 1 * (k.val % 512) = q.val * 512 + k.val; rw [i0.2] <;> omega
  · unfold iblk
    rw [View.read_apply]
    show V m c main_arg1 _ = _
    rw [V_main_arg1]
    refine congrArg (m ((c : Thread nD τ).loc main_arg1)) (funext fun a => Fin.ext ?_)
    match a with
    | ⟨0, _⟩ => show win0_1.index t 0 * 2304 + 1 * r.val = r.val; rw [i1.1] <;> omega
    | ⟨1, _⟩ => show win0_1.index t 1 * 1024 + 1 * (n.val % 1024) = n.val; rw [i1.2] <;> omega

open Cert.TnOutReferenceIdeal.Read in
/-- The result array of the reference. -/
theorem reference_entry (x0 : Vec Ideal S2304x2048 .bf16) (x1 : Vec Ideal S2304x2048 .bf16) (q : Fin 4) (k : Fin 512) (n : Fin 2048) :
    val_main_v8 (F := Ideal) x0 x1 (ix3 q k n) = grad x0 x1 q k n := by
  unfold grad
  pointwise [val_main_v8, val_main_v7, val_main_v6, val_main_v5, val_main_v1, val_main_v0]
  exact Finset.sum_congr rfl fun r _ => mul_comm _ _

/-- The kernel runs on the machine, keeps its arguments, and ends with every counter at zero. -/
theorem frame : Cert.quiescent_TnOut := fun m ρ _ => Cert.TnOut.Gen.frame m ρ

/-- The same of its idealization. -/
theorem frameIdeal : Cert.quiescent_TnOutIdeal := fun m ρ _ => Cert.TnOutIdeal.Gen.frame m ρ

/-- The same of the reference. -/
theorem frameReference : Cert.quiescent_TnOutReferenceIdeal := fun m ρ _ =>
  (θ_run Cert.TnOutReferenceIdeal.defs _ _).mono (fun r h => ⟨fun c => (h c).2, sem_eq_zero_of_no_sems (by decide) r.2⟩)
    (Cert.TnOutReferenceIdeal.Value.run (F := Ideal) m ρ)

/-- The kernel's gradient is the reference's. -/
theorem algebraic : Cert.algebraic_TnOutIdeal_TnOutReferenceIdeal := by
  intro m g m' g' _ hin
  refine ⟨_, Value.run_blocks m g, (θ_run Cert.TnOutReferenceIdeal.defs _ _).mono (fun r h c => ?_)
    (Cert.TnOutReferenceIdeal.Value.run (F := Ideal) m' g')⟩
  obtain ⟨h0, hargs⟩ := h c
  obtain ⟨a0, a1⟩ := hin c
  refine ⟨(h0.trans (Cert.TnOutReferenceIdeal.Read.val_main_v8_eq _ _)).trans ?_, hargs⟩
  rw [a0, a1]
  funext i
  rw [eq_ix3 i]
  exact (reference_entry _ _ _ _ _).trans (kernel_entry m c _ _ _).symm

end Cert.TnOutProof

end
-- ==== Proof.MmAttn.lean ====
module

public import proofs.«01_k».proof.Defs
public import proofs.«01_k».proof.Proof.Gen.MmAttn.Frame
public import proofs.«01_k».proof.Proof.Gen.MmAttnIdeal.Value
public import proofs.«01_k».proof.Proof.Gen.MmAttnReferenceIdeal.Run
public import proofs.«01_k».proof.Proof.Gen.MmAttnReferenceIdeal.Read
public import Idealize.ShloMosaic.Lib.Claim
public import Idealize.ShloMosaic.Lib.Pointwise
public import Idealize.ShloMosaic.Lib.Pipeline.ValueKit.Basic

/- The projection of the attention's branch to the model's width, whose columns lie in four shards of 512: kernel and reference. -/

@[expose] public section

set_option maxRecDepth 16384

noncomputable section

namespace Cert.MmAttnProof

open Idealize.ShloMosaic Idealize.ShloMosaic.TcCoe Idealize.SL.Sem Cert.MmAttnIdeal Cert.MmAttnIdeal.Gen

/-- Entry `(r, j)`: row `r` of the branch against column `j` of the weights, which is column `j % 512` of shard `j / 512`. -/
def product (x : Vec Ideal S2304x1024 .bf16) (w : Vec Ideal S4x1024x512 .bf16) (r : Fin 2304) (j : Fin 2048) : EReal :=
  ∑ k : Fin 1024, x (ix2 r k) * w (ix3 ⟨j.val / 512, by omega⟩ k ⟨j.val % 512, by omega⟩)

/-- Grid point `t` takes 768 rows and 512 columns. -/
theorem index (t : Fin cfg0.N) : (win0_0.index t 0 = t.val % 3 ∧ win0_0.index t 1 = 0)
    ∧ (win0_1.index t 0 = t.val / 3 ∧ win0_1.index t 1 = 0 ∧ win0_1.index t 2 = 0 ∧ win0_1.index t 3 = 0)
    ∧ (win0_2.index t 0 = t.val % 3 ∧ win0_2.index t 1 = t.val / 3) := by
  revert t
  change ∀ t : Fin grid0.N, _
  decide +kernel

/-- What the body stores. -/
theorem stored (x : Vec Ideal S768x1024 .bf16) (w : Vec Ideal S1x1x1024x512 .bf16) (r : Fin 768) (j : Fin 512) :
    out0_2 x w (ix2 r j) = ∑ k : Fin 1024, x (ix2 r k) * w (ix4 0 0 k j) := by
  have e : out0_2 x w = k0_pay1 w x := by
    unfold out0_2
    rw [View.canon_cons_unit_lit _ _ _ (by decide), View.ld_unit_lit _ _ (by decide), View.ld_unit_lit _ _ (by decide)]
  rw [e]
  pointwise [k0_pay1]

variable (m : (ℓ : Loc nD τ sig) → Buf (Elt Ideal) ℓ) (c : Dev nD)

/-- The host gives the weights a unit axis. -/
theorem weights (q : Fin 4) (k : Fin 1024) (n : Fin 512) : (V m c main_v0 : Vec Ideal S4x1x1024x512 .bf16) (ix4 q 0 k n)
    = (m ((c : Thread nD τ).loc main_arg1) : Vec Ideal S4x1024x512 .bf16) (ix3 q k n) := by
  entry_read
  pointwise

/-- The result array of the kernel. -/
theorem kernel_entry (r : Fin 2304) (j : Fin 2048) : ((dats m 0 c).arrAt 2 cfg0.N : Vec Ideal S2304x2048 .bf16) (ix2 r j)
    = product (m ((c : Thread nD τ).loc main_arg0)) (m ((c : Thread nD τ).loc main_arg1)) r j := by
  obtain ⟨t, ht⟩ : ∃ t : Fin cfg0.N, t.val = j.val / 512 * 3 + r.val / 768 :=
    ⟨⟨j.val / 512 * 3 + r.val / 768, lt_of_lt_of_eq (by omega) N_0.symm⟩, rfl⟩
  obtain ⟨i0, i1, i2⟩ := index t
  have b := congrFun (Value.blocks2 m c t (flush0_2 t)) (ix2 ⟨r.val % 768, by omega⟩ ⟨j.val % 512, by omega⟩)
  rw [View.read_apply, Value.flushed2] at b
  have hy : (((cfg0.win 2).blk t).view.emb (ix2 ⟨r.val % 768, by omega⟩ ⟨j.val % 512, by omega⟩) : S2304x2048.Idx) = ix2 r j := by
    refine funext fun a => Fin.ext ?_
    match a with
    | ⟨0, _⟩ => show win0_2.index t 0 * 768 + 1 * (r.val % 768) = r.val; rw [i2.1] <;> omega
    | ⟨1, _⟩ => show win0_2.index t 1 * 512 + 1 * (j.val % 512) = j.val; rw [i2.2] <;> omega
  rw [hy] at b
  refine b.trans ((stored _ _ _ _).trans (Finset.sum_congr rfl fun k _ => congrArg₂ (· * ·) ?_ ?_))
  · unfold iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 768 + 1 * (r.val % 768) = r.val; rw [i0.1] <;> omega
    | ⟨1, _⟩ => show win0_0.index t 1 * 1024 + 1 * k.val = k.val; rw [i0.2] <;> omega
  · refine Eq.trans ?_ (weights m c ⟨j.val / 512, by omega⟩ k ⟨j.val % 512, by omega⟩)
    unfold iblk
    rw [View.read_apply]
    refine congrArg (V m c main_v0) (funext fun a => Fin.ext ?_)
    match a with
    | ⟨0, _⟩ => show win0_1.index t 0 * 1 + 1 * 0 = j.val / 512; rw [i1.1] <;> omega
    | ⟨1, _⟩ => show win0_1.index t 1 * 1 + 1 * 0 = 0; rw [i1.2.1] <;> omega
    | ⟨2, _⟩ => show win0_1.index t 2 * 1024 + 1 * k.val = k.val; rw [i1.2.2.1] <;> omega
    | ⟨3, _⟩ => show win0_1.index t 3 * 512 + 1 * (j.val % 512) = j.val % 512; rw [i1.2.2.2] <;> omega

open Cert.MmAttnReferenceIdeal.Read in
/-- The result array of the reference. -/
theorem reference_entry (x0 : Vec Ideal S2304x1024 .bf16) (x1 : Vec Ideal S4x1024x512 .bf16) (r : Fin 2304) (j : Fin 2048) :
    val_main_v5 (F := Ideal) x0 x1 (ix2 r j) = product x0 x1 r j := by
  unfold product
  pointwise [val_main_v5, val_main_v4, val_main_v3, val_main_v2, val_main_v1, val_main_v0]

/-- The kernel runs on the machine, keeps its arguments, and ends with every counter at zero. -/
theorem frame : Cert.quiescent_MmAttn := fun m ρ _ => Cert.MmAttn.Gen.frame m ρ

/-- The same of its idealization. -/
theorem frameIdeal : Cert.quiescent_MmAttnIdeal := fun m ρ _ => Cert.MmAttnIdeal.Gen.frame m ρ

/-- The same of the reference. -/
theorem frameReference : Cert.quiescent_MmAttnReferenceIdeal := fun m ρ _ =>
  (θ_run Cert.MmAttnReferenceIdeal.defs _ _).mono (fun r h => ⟨fun c => (h c).2, sem_eq_zero_of_no_sems (by decide) r.2⟩)
    (Cert.MmAttnReferenceIdeal.Value.run (F := Ideal) m ρ)

/-- The kernel's product is the reference's. -/
theorem algebraic : Cert.algebraic_MmAttnIdeal_MmAttnReferenceIdeal := by
  intro m g m' g' _ hin
  refine ⟨_, Value.run_blocks m g, (θ_run Cert.MmAttnReferenceIdeal.defs _ _).mono (fun r h c => ?_)
    (Cert.MmAttnReferenceIdeal.Value.run (F := Ideal) m' g')⟩
  obtain ⟨h0, hargs⟩ := h c
  obtain ⟨a0, a1⟩ := hin c
  refine ⟨(h0.trans (Cert.MmAttnReferenceIdeal.Read.val_main_v5_eq _ _)).trans ?_, hargs⟩
  rw [a0, a1]
  funext i
  rw [eq_ix2 i]
  exact (reference_entry _ _ _ _).trans (kernel_entry m c _ _).symm

end Cert.MmAttnProof

end
-- ==== Proof.NtAttn.lean ====
module

public import proofs.«01_k».proof.Defs
public import proofs.«01_k».proof.Proof.Shards
public import proofs.«01_k».proof.Proof.Gen.NtAttn.Frame
public import proofs.«01_k».proof.Proof.Gen.NtAttnIdeal.Value
public import proofs.«01_k».proof.Proof.Gen.NtAttnReferenceIdeal.Run
public import proofs.«01_k».proof.Proof.Gen.NtAttnReferenceIdeal.Read
public import Idealize.ShloMosaic.Lib.Claim
public import Idealize.ShloMosaic.Lib.Pointwise
public import Idealize.ShloMosaic.Lib.Pipeline.ValueKit.Basic

/- The gradient that the projection of the attention's branch sends to the branch: kernel and reference. -/

@[expose] public section

set_option maxRecDepth 16384

noncomputable section

namespace Cert.NtAttnProof

open Idealize.ShloMosaic Idealize.ShloMosaic.TcCoe Idealize.SL.Sem Cert.NtAttnIdeal Cert.NtAttnIdeal.Gen

/-- Entry `(r, k)`: row `r` of the incoming gradient against row `k` of the weights, shard by shard. -/
def grad (dc : Vec Ideal S2304x2048 .bf16) (w : Vec Ideal S4x1024x512 .bf16) (r : Fin 2304) (k : Fin 1024) : EReal :=
  ∑ q : Fin 4, ∑ n : Fin 512, dc (ix2 r ⟨q.val * 512 + n.val, by omega⟩) * w (ix3 q k n)

/-- Grid point `t` takes 768 rows of the gradient and 512 rows of every shard. -/
theorem index (t : Fin cfg0.N) : (win0_0.index t 0 = t.val / 2 ∧ win0_0.index t 1 = 0)
    ∧ (win0_1.index t 0 = 0 ∧ win0_1.index t 1 = 0 ∧ win0_1.index t 2 = t.val % 2 ∧ win0_1.index t 3 = 0)
    ∧ (win0_2.index t 0 = t.val / 2 ∧ win0_2.index t 1 = t.val % 2) := by
  revert t
  change ∀ t : Fin grid0.N, _
  decide +kernel

/-- What the body stores: the sum of its four products, one for each shard. -/
theorem stored (x : Vec Ideal S768x2048 .bf16) (w : Vec Ideal S4x1x512x512 .bf16) (r : Fin 768) (k : Fin 512) :
    out0_2 x w (ix2 r k) = ∑ q : Fin 4, ∑ n : Fin 512, x (ix2 r ⟨q.val * 512 + n.val, by omega⟩) * w (ix4 q 0 k n) := by
  have e : out0_2 x w = k0_pay1 (View.ld x r0_0) (View.ld w r0_1) (View.ld x r0_2) (View.ld w r0_3) (View.ld x r0_4) (View.ld w r0_5)
      (View.ld x r0_6) (View.ld w r0_7) := by
    unfold out0_2
    rw [View.canon_cons_unit_lit _ _ _ (by decide)]
  rw [e, Fin.sum_univ_four]
  refine Eq.trans (b := ∑ n : Fin 512, x (ix2 r ⟨n.val, by omega⟩) * w (ix4 0 0 k n) + ∑ n : Fin 512, x (ix2 r ⟨512 + n.val, by omega⟩) * w (ix4 1 0 k n)
    + ∑ n : Fin 512, x (ix2 r ⟨1024 + n.val, by omega⟩) * w (ix4 2 0 k n) + ∑ n : Fin 512, x (ix2 r ⟨1536 + n.val, by omega⟩) * w (ix4 3 0 k n))
    (by pointwise [k0_pay1]) ?_
  refine congrArg₂ (· + ·) (congrArg₂ (· + ·) (congrArg₂ (· + ·) ?_ ?_) ?_) ?_
  all_goals
    refine Finset.sum_congr rfl fun n _ => congrArg (fun j => x (ix2 r j) * _) (Fin.ext ?_)
    simp

variable (m : (ℓ : Loc nD τ sig) → Buf (Elt Ideal) ℓ) (c : Dev nD)

/-- The host gives the weights a unit axis. -/
theorem weights (q : Fin 4) (k : Fin 1024) (n : Fin 512) : (V m c main_v0 : Vec Ideal S4x1x1024x512 .bf16) (ix4 q 0 k n)
    = (m ((c : Thread nD τ).loc main_arg1) : Vec Ideal S4x1024x512 .bf16) (ix3 q k n) := by
  entry_read
  pointwise

/-- The result array of the kernel. -/
theorem kernel_entry (r : Fin 2304) (k : Fin 1024) : ((dats m 0 c).arrAt 2 cfg0.N : Vec Ideal S2304x1024 .bf16) (ix2 r k)
    = grad (m ((c : Thread nD τ).loc main_arg0)) (m ((c : Thread nD τ).loc main_arg1)) r k := by
  obtain ⟨t, h0, h1⟩ : ∃ t : Fin cfg0.N, t.val / 2 = r.val / 768 ∧ t.val % 2 = k.val / 512 :=
    ⟨⟨r.val / 768 * 2 + k.val / 512, lt_of_lt_of_eq (by omega) N_0.symm⟩, by show (_ * 2 + _) / 2 = _; omega, by show (_ * 2 + _) % 2 = _; omega⟩
  obtain ⟨i0, i1, i2⟩ := index t
  have b := congrFun (Value.blocks2 m c t (flush0_2 t)) (ix2 ⟨r.val % 768, by omega⟩ ⟨k.val % 512, by omega⟩)
  rw [View.read_apply, Value.flushed2] at b
  have hy : (((cfg0.win 2).blk t).view.emb (ix2 ⟨r.val % 768, by omega⟩ ⟨k.val % 512, by omega⟩) : S2304x1024.Idx) = ix2 r k := by
    refine funext fun a => Fin.ext ?_
    match a with
    | ⟨0, _⟩ => show win0_2.index t 0 * 768 + 1 * (r.val % 768) = r.val; rw [i2.1]; omega
    | ⟨1, _⟩ => show win0_2.index t 1 * 512 + 1 * (k.val % 512) = k.val; rw [i2.2]; omega
  rw [hy] at b
  refine b.trans ((stored _ _ _ _).trans (Finset.sum_congr rfl fun q _ => Finset.sum_congr rfl fun n _ => congrArg₂ (· * ·) ?_ ?_))
  · unfold iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 768 + 1 * (r.val % 768) = r.val; rw [i0.1]; omega
    | ⟨1, _⟩ => show win0_0.index t 1 * 2048 + 1 * (q.val * 512 + n.val) = q.val * 512 + n.val; rw [i0.2]; omega
  · refine Eq.trans ?_ (weights m c q k n)
    unfold iblk
    rw [View.read_apply]
    refine congrArg (V m c main_v0) (funext fun a => Fin.ext ?_)
    match a with
    | ⟨0, _⟩ => show win0_1.index t 0 * 4 + 1 * q.val = q.val; rw [i1.1]; omega
    | ⟨1, _⟩ => show win0_1.index t 1 * 1 + 1 * 0 = 0; rw [i1.2.1]
    | ⟨2, _⟩ => show win0_1.index t 2 * 512 + 1 * (k.val % 512) = k.val; rw [i1.2.2.1]; omega
    | ⟨3, _⟩ => show win0_1.index t 3 * 512 + 1 * n.val = n.val; rw [i1.2.2.2]; omega

open Cert.NtAttnReferenceIdeal.Read in
/-- The result array of the reference. -/
theorem reference_entry (x0 : Vec Ideal S2304x2048 .bf16) (x1 : Vec Ideal S4x1024x512 .bf16) (r : Fin 2304) (k : Fin 1024) :
    val_main_v7 (F := Ideal) x0 x1 (ix2 r k) = grad x0 x1 r k := by
  refine Eq.trans (b := ∑ j : Fin 2048, x0 (ix2 r j) * x1 (ix3 ⟨j.val / 512, by omega⟩ k ⟨j.val % 512, by omega⟩))
    (by pointwise [val_main_v7, val_main_v6, val_main_v4, val_main_v3, val_main_v1, val_main_v0]) ?_
  rw [Shards.sum_shards (a := 4) (b := 512) rfl]
  refine Finset.sum_congr rfl fun q _ => Finset.sum_congr rfl fun n _ => congrArg (_ * ·) (congrArg x1 ?_)
  exact congrArg₂ (fun u v => ix3 u k v) (Fin.ext (by show (q.val * 512 + n.val) / 512 = q.val; omega))
    (Fin.ext (by show (q.val * 512 + n.val) % 512 = n.val; omega))

/-- The kernel runs on the machine, keeps its arguments, and ends with every counter at zero. -/
theorem frame : Cert.quiescent_NtAttn := fun m ρ _ => Cert.NtAttn.Gen.frame m ρ

/-- The same of its idealization. -/
theorem frameIdeal : Cert.quiescent_NtAttnIdeal := fun m ρ _ => Cert.NtAttnIdeal.Gen.frame m ρ

/-- The same of the reference. -/
theorem frameReference : Cert.quiescent_NtAttnReferenceIdeal := fun m ρ _ =>
  (θ_run Cert.NtAttnReferenceIdeal.defs _ _).mono (fun r h => ⟨fun c => (h c).2, sem_eq_zero_of_no_sems (by decide) r.2⟩)
    (Cert.NtAttnReferenceIdeal.Value.run (F := Ideal) m ρ)

/-- The kernel's gradient is the reference's. -/
theorem algebraic : Cert.algebraic_NtAttnIdeal_NtAttnReferenceIdeal := by
  intro m g m' g' _ hin
  refine ⟨_, Value.run_blocks m g, (θ_run Cert.NtAttnReferenceIdeal.defs _ _).mono (fun r h c => ?_)
    (Cert.NtAttnReferenceIdeal.Value.run (F := Ideal) m' g')⟩
  obtain ⟨h0, hargs⟩ := h c
  obtain ⟨a0, a1⟩ := hin c
  refine ⟨(h0.trans (Cert.NtAttnReferenceIdeal.Read.val_main_v7_eq _ _)).trans ?_, hargs⟩
  rw [a0, a1]
  funext i
  rw [eq_ix2 i]
  exact (reference_entry _ _ _ _).trans (kernel_entry m c _ _).symm

end Cert.NtAttnProof

end
-- ==== Proof.TnAttn.lean ====
module

public import proofs.«01_k».proof.Defs
public import proofs.«01_k».proof.Proof.Gen.TnAttn.Frame
public import proofs.«01_k».proof.Proof.Gen.TnAttnIdeal.Value
public import proofs.«01_k».proof.Proof.Gen.TnAttnReferenceIdeal.Run
public import proofs.«01_k».proof.Proof.Gen.TnAttnReferenceIdeal.Read
public import Idealize.ShloMosaic.Lib.Claim
public import Idealize.ShloMosaic.Lib.Pointwise
public import Idealize.ShloMosaic.Lib.Pipeline.ValueKit.Basic

/- The gradient of the weights that project the attention's branch, in shards of 512 columns: kernel and reference. -/

@[expose] public section

set_option maxRecDepth 16384

noncomputable section

namespace Cert.TnAttnProof

open Idealize.ShloMosaic Idealize.ShloMosaic.TcCoe Idealize.SL.Sem Cert.TnAttnIdeal Cert.TnAttnIdeal.Gen

/-- Entry `(k, n)` of shard `q`: column `k` of the activation against column `512 q + n` of the incoming gradient. -/
def grad (a : Vec Ideal S2304x1024 .bf16) (dc : Vec Ideal S2304x2048 .bf16) (q : Fin 4) (k : Fin 1024) (n : Fin 512) : EReal :=
  ∑ r : Fin 2304, a (ix2 r k) * dc (ix2 r ⟨q.val * 512 + n.val, by omega⟩)

/-- Grid point `t` takes 512 columns of the activation and 512 of the gradient. -/
theorem index (t : Fin cfg0.N) : (win0_0.index t 0 = 0 ∧ win0_0.index t 1 = t.val % 2)
    ∧ (win0_1.index t 0 = 0 ∧ win0_1.index t 1 = t.val / 2)
    ∧ (win0_2.index t 0 = t.val / 2 ∧ win0_2.index t 1 = t.val % 2 ∧ win0_2.index t 2 = 0) := by
  revert t
  change ∀ t : Fin grid0.N, _
  decide +kernel

/-- What the body stores. -/
theorem stored (x : Vec Ideal S2304x512 .bf16) (y : Vec Ideal S2304x512 .bf16) (k : Fin 512) (n : Fin 512) :
    out0_2 x y (ix3 0 k n) = ∑ r : Fin 2304, x (ix2 r k) * y (ix2 r n) := by
  have e : out0_2 x y = k0_pay1 x y := by
    unfold out0_2
    rw [View.canon_cons_unit_lit _ _ _ (by decide), View.ld_unit_lit _ _ (by decide), View.ld_unit_lit _ _ (by decide)]
  rw [e]
  pointwise [k0_pay1]

variable (m : (ℓ : Loc nD τ sig) → Buf (Elt Ideal) ℓ) (c : Dev nD)

/-- The result array of the kernel. -/
theorem kernel_entry (q : Fin 4) (k : Fin 1024) (n : Fin 512) : ((dats m 0 c).arrAt 2 cfg0.N : Vec Ideal S4x1024x512 .bf16) (ix3 q k n)
    = grad (m ((c : Thread nD τ).loc main_arg0)) (m ((c : Thread nD τ).loc main_arg1)) q k n := by
  obtain ⟨t, ht⟩ : ∃ t : Fin cfg0.N, t.val = q.val * 2 + k.val / 512 :=
    ⟨⟨q.val * 2 + k.val / 512, lt_of_lt_of_eq (by omega) N_0.symm⟩, rfl⟩
  obtain ⟨i0, i1, i2⟩ := index t
  have b := congrFun (Value.blocks2 m c t (flush0_2 t)) (ix3 0 ⟨k.val % 512, by omega⟩ ⟨n.val % 512, by omega⟩)
  rw [View.read_apply, Value.flushed2] at b
  have hy : (((cfg0.win 2).blk t).view.emb (ix3 0 ⟨k.val % 512, by omega⟩ ⟨n.val % 512, by omega⟩) : S4x1024x512.Idx) = ix3 q k n := by
    refine funext fun a => Fin.ext ?_
    match a with
    | ⟨0, _⟩ => show win0_2.index t 0 * 1 + 1 * 0 = q.val; rw [i2.1] <;> omega
    | ⟨1, _⟩ => show win0_2.index t 1 * 512 + 1 * (k.val % 512) = k.val; rw [i2.2.1] <;> omega
    | ⟨2, _⟩ => show win0_2.index t 2 * 512 + 1 * (n.val % 512) = n.val; rw [i2.2.2] <;> omega
  rw [hy] at b
  refine b.trans ((stored _ _ _ _).trans (Finset.sum_congr rfl fun r _ => congrArg₂ (· * ·) ?_ ?_))
  · unfold iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 2304 + 1 * r.val = r.val; rw [i0.1] <;> omega
    | ⟨1, _⟩ => show win0_0.index t 1 * 512 + 1 * (k.val % 512) = k.val; rw [i0.2] <;> omega
  · unfold iblk
    rw [View.read_apply]
    show V m c main_arg1 _ = _
    rw [V_main_arg1]
    refine congrArg (m ((c : Thread nD τ).loc main_arg1)) (funext fun a => Fin.ext ?_)
    match a with
    | ⟨0, _⟩ => show win0_1.index t 0 * 2304 + 1 * r.val = r.val; rw [i1.1] <;> omega
    | ⟨1, _⟩ => show win0_1.index t 1 * 512 + 1 * (n.val % 512) = q.val * 512 + n.val; rw [i1.2] <;> omega

open Cert.TnAttnReferenceIdeal.Read in
/-- The result array of the reference. -/
theorem reference_entry (x0 : Vec Ideal S2304x1024 .bf16) (x1 : Vec Ideal S2304x2048 .bf16) (q : Fin 4) (k : Fin 1024) (n : Fin 512) :
    val_main_v10 (F := Ideal) x0 x1 (ix3 q k n) = grad x0 x1 q k n := by
  unfold grad
  pointwise [val_main_v10, val_main_v9, val_main_v8, val_main_v7, val_main_v6, val_main_v1, val_main_v0]
  exact Finset.sum_congr rfl fun r _ => mul_comm _ _

/-- The kernel runs on the machine, keeps its arguments, and ends with every counter at zero. -/
theorem frame : Cert.quiescent_TnAttn := fun m ρ _ => Cert.TnAttn.Gen.frame m ρ

/-- The same of its idealization. -/
theorem frameIdeal : Cert.quiescent_TnAttnIdeal := fun m ρ _ => Cert.TnAttnIdeal.Gen.frame m ρ

/-- The same of the reference. -/
theorem frameReference : Cert.quiescent_TnAttnReferenceIdeal := fun m ρ _ =>
  (θ_run Cert.TnAttnReferenceIdeal.defs _ _).mono (fun r h => ⟨fun c => (h c).2, sem_eq_zero_of_no_sems (by decide) r.2⟩)
    (Cert.TnAttnReferenceIdeal.Value.run (F := Ideal) m ρ)

/-- The kernel's gradient is the reference's. -/
theorem algebraic : Cert.algebraic_TnAttnIdeal_TnAttnReferenceIdeal := by
  intro m g m' g' _ hin
  refine ⟨_, Value.run_blocks m g, (θ_run Cert.TnAttnReferenceIdeal.defs _ _).mono (fun r h c => ?_)
    (Cert.TnAttnReferenceIdeal.Value.run (F := Ideal) m' g')⟩
  obtain ⟨h0, hargs⟩ := h c
  obtain ⟨a0, a1⟩ := hin c
  refine ⟨(h0.trans (Cert.TnAttnReferenceIdeal.Read.val_main_v10_eq _ _)).trans ?_, hargs⟩
  rw [a0, a1]
  funext i
  rw [eq_ix3 i]
  exact (reference_entry _ _ _ _ _).trans (kernel_entry m c _ _ _).symm

end Cert.TnAttnProof

end
-- ==== Proof.MmBranch.lean ====
module

public import proofs.«01_k».proof.Defs
public import proofs.«01_k».proof.Proof.Gen.MmBranch.Frame
public import proofs.«01_k».proof.Proof.Gen.MmBranchIdeal.Value
public import proofs.«01_k».proof.Proof.Gen.MmBranchReferenceIdeal.Run
public import proofs.«01_k».proof.Proof.Gen.MmBranchReferenceIdeal.Read
public import Idealize.ShloMosaic.Lib.Claim
public import Idealize.ShloMosaic.Lib.Pointwise
public import Idealize.ShloMosaic.Lib.Pipeline.ValueKit.Basic

/- The projection of the pooling's, the spatial gating's or the convolution's branch to the model's width, whose columns lie
   in four shards of 512: kernel and reference. -/

@[expose] public section

set_option maxRecDepth 16384

noncomputable section

namespace Cert.MmBranchProof

open Idealize.ShloMosaic Idealize.ShloMosaic.TcCoe Idealize.SL.Sem Cert.MmBranchIdeal Cert.MmBranchIdeal.Gen

/-- Entry `(r, j)`: row `r` of the branch against column `j` of the weights, which is column `j % 512` of shard `j / 512`. -/
def product (x : Vec Ideal S2304x512 .bf16) (w : Vec Ideal S4x512x512 .bf16) (r : Fin 2304) (j : Fin 2048) : EReal :=
  ∑ k : Fin 512, x (ix2 r k) * w (ix3 ⟨j.val / 512, by omega⟩ k ⟨j.val % 512, by omega⟩)

/-- Grid point `t` takes 768 rows and 512 columns. -/
theorem index (t : Fin cfg0.N) : (win0_0.index t 0 = t.val % 3 ∧ win0_0.index t 1 = 0)
    ∧ (win0_1.index t 0 = t.val / 3 ∧ win0_1.index t 1 = 0 ∧ win0_1.index t 2 = 0 ∧ win0_1.index t 3 = 0)
    ∧ (win0_2.index t 0 = t.val % 3 ∧ win0_2.index t 1 = t.val / 3) := by
  revert t
  change ∀ t : Fin grid0.N, _
  decide +kernel

/-- What the body stores. -/
theorem stored (x : Vec Ideal S768x512 .bf16) (w : Vec Ideal S1x1x512x512 .bf16) (r : Fin 768) (j : Fin 512) :
    out0_2 x w (ix2 r j) = ∑ k : Fin 512, x (ix2 r k) * w (ix4 0 0 k j) := by
  have e : out0_2 x w = k0_pay1 w x := by
    unfold out0_2
    rw [View.canon_cons_unit_lit _ _ _ (by decide), View.ld_unit_lit _ _ (by decide), View.ld_unit_lit _ _ (by decide)]
  rw [e]
  pointwise [k0_pay1]

variable (m : (ℓ : Loc nD τ sig) → Buf (Elt Ideal) ℓ) (c : Dev nD)

/-- The host gives the weights a unit axis. -/
theorem weights (q : Fin 4) (k : Fin 512) (n : Fin 512) : (V m c main_v0 : Vec Ideal S4x1x512x512 .bf16) (ix4 q 0 k n)
    = (m ((c : Thread nD τ).loc main_arg1) : Vec Ideal S4x512x512 .bf16) (ix3 q k n) := by
  entry_read
  pointwise

/-- The result array of the kernel. -/
theorem kernel_entry (r : Fin 2304) (j : Fin 2048) : ((dats m 0 c).arrAt 2 cfg0.N : Vec Ideal S2304x2048 .bf16) (ix2 r j)
    = product (m ((c : Thread nD τ).loc main_arg0)) (m ((c : Thread nD τ).loc main_arg1)) r j := by
  obtain ⟨t, ht⟩ : ∃ t : Fin cfg0.N, t.val = j.val / 512 * 3 + r.val / 768 :=
    ⟨⟨j.val / 512 * 3 + r.val / 768, lt_of_lt_of_eq (by omega) N_0.symm⟩, rfl⟩
  obtain ⟨i0, i1, i2⟩ := index t
  have b := congrFun (Value.blocks2 m c t (flush0_2 t)) (ix2 ⟨r.val % 768, by omega⟩ ⟨j.val % 512, by omega⟩)
  rw [View.read_apply, Value.flushed2] at b
  have hy : (((cfg0.win 2).blk t).view.emb (ix2 ⟨r.val % 768, by omega⟩ ⟨j.val % 512, by omega⟩) : S2304x2048.Idx) = ix2 r j := by
    refine funext fun a => Fin.ext ?_
    match a with
    | ⟨0, _⟩ => show win0_2.index t 0 * 768 + 1 * (r.val % 768) = r.val; rw [i2.1] <;> omega
    | ⟨1, _⟩ => show win0_2.index t 1 * 512 + 1 * (j.val % 512) = j.val; rw [i2.2] <;> omega
  rw [hy] at b
  refine b.trans ((stored _ _ _ _).trans (Finset.sum_congr rfl fun k _ => congrArg₂ (· * ·) ?_ ?_))
  · unfold iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 768 + 1 * (r.val % 768) = r.val; rw [i0.1] <;> omega
    | ⟨1, _⟩ => show win0_0.index t 1 * 512 + 1 * k.val = k.val; rw [i0.2] <;> omega
  · refine Eq.trans ?_ (weights m c ⟨j.val / 512, by omega⟩ k ⟨j.val % 512, by omega⟩)
    unfold iblk
    rw [View.read_apply]
    refine congrArg (V m c main_v0) (funext fun a => Fin.ext ?_)
    match a with
    | ⟨0, _⟩ => show win0_1.index t 0 * 1 + 1 * 0 = j.val / 512; rw [i1.1] <;> omega
    | ⟨1, _⟩ => show win0_1.index t 1 * 1 + 1 * 0 = 0; rw [i1.2.1] <;> omega
    | ⟨2, _⟩ => show win0_1.index t 2 * 512 + 1 * k.val = k.val; rw [i1.2.2.1] <;> omega
    | ⟨3, _⟩ => show win0_1.index t 3 * 512 + 1 * (j.val % 512) = j.val % 512; rw [i1.2.2.2] <;> omega

open Cert.MmBranchReferenceIdeal.Read in
/-- The result array of the reference. -/
theorem reference_entry (x0 : Vec Ideal S2304x512 .bf16) (x1 : Vec Ideal S4x512x512 .bf16) (r : Fin 2304) (j : Fin 2048) :
    val_main_v5 (F := Ideal) x0 x1 (ix2 r j) = product x0 x1 r j := by
  unfold product
  pointwise [val_main_v5, val_main_v4, val_main_v3, val_main_v2, val_main_v1, val_main_v0]

/-- The kernel runs on the machine, keeps its arguments, and ends with every counter at zero. -/
theorem frame : Cert.quiescent_MmBranch := fun m ρ _ => Cert.MmBranch.Gen.frame m ρ

/-- The same of its idealization. -/
theorem frameIdeal : Cert.quiescent_MmBranchIdeal := fun m ρ _ => Cert.MmBranchIdeal.Gen.frame m ρ

/-- The same of the reference. -/
theorem frameReference : Cert.quiescent_MmBranchReferenceIdeal := fun m ρ _ =>
  (θ_run Cert.MmBranchReferenceIdeal.defs _ _).mono (fun r h => ⟨fun c => (h c).2, sem_eq_zero_of_no_sems (by decide) r.2⟩)
    (Cert.MmBranchReferenceIdeal.Value.run (F := Ideal) m ρ)

/-- The kernel's product is the reference's. -/
theorem algebraic : Cert.algebraic_MmBranchIdeal_MmBranchReferenceIdeal := by
  intro m g m' g' _ hin
  refine ⟨_, Value.run_blocks m g, (θ_run Cert.MmBranchReferenceIdeal.defs _ _).mono (fun r h c => ?_)
    (Cert.MmBranchReferenceIdeal.Value.run (F := Ideal) m' g')⟩
  obtain ⟨h0, hargs⟩ := h c
  obtain ⟨a0, a1⟩ := hin c
  refine ⟨(h0.trans (Cert.MmBranchReferenceIdeal.Read.val_main_v5_eq _ _)).trans ?_, hargs⟩
  rw [a0, a1]
  funext i
  rw [eq_ix2 i]
  exact (reference_entry _ _ _ _).trans (kernel_entry m c _ _).symm

end Cert.MmBranchProof

end
-- ==== Proof.NtBranch.lean ====
module

public import proofs.«01_k».proof.Defs
public import proofs.«01_k».proof.Proof.Shards
public import proofs.«01_k».proof.Proof.Gen.NtBranch.Frame
public import proofs.«01_k».proof.Proof.Gen.NtBranchIdeal.Value
public import proofs.«01_k».proof.Proof.Gen.NtBranchReferenceIdeal.Run
public import proofs.«01_k».proof.Proof.Gen.NtBranchReferenceIdeal.Read
public import Idealize.ShloMosaic.Lib.Claim
public import Idealize.ShloMosaic.Lib.Pointwise
public import Idealize.ShloMosaic.Lib.Pipeline.ValueKit.Basic

/- The gradient that the projection of one of the three other branches sends to the branch: kernel and reference. -/

@[expose] public section

set_option maxRecDepth 16384

noncomputable section

namespace Cert.NtBranchProof

open Idealize.ShloMosaic Idealize.ShloMosaic.TcCoe Idealize.SL.Sem Cert.NtBranchIdeal Cert.NtBranchIdeal.Gen

/-- Entry `(r, k)`: row `r` of the incoming gradient against row `k` of the weights, shard by shard. -/
def grad (dc : Vec Ideal S2304x2048 .bf16) (w : Vec Ideal S4x512x512 .bf16) (r : Fin 2304) (k : Fin 512) : EReal :=
  ∑ q : Fin 4, ∑ n : Fin 512, dc (ix2 r ⟨q.val * 512 + n.val, by omega⟩) * w (ix3 q k n)

/-- Grid point `t` takes 768 rows of the gradient and 512 rows of every shard. -/
theorem index (t : Fin cfg0.N) : (win0_0.index t 0 = t.val ∧ win0_0.index t 1 = 0)
    ∧ (win0_1.index t 0 = 0 ∧ win0_1.index t 1 = 0 ∧ win0_1.index t 2 = 0 ∧ win0_1.index t 3 = 0)
    ∧ (win0_2.index t 0 = t.val ∧ win0_2.index t 1 = 0) := by
  revert t
  change ∀ t : Fin grid0.N, _
  decide +kernel

/-- What the body stores: the sum of its four products, one for each shard. -/
theorem stored (x : Vec Ideal S768x2048 .bf16) (w : Vec Ideal S4x1x512x512 .bf16) (r : Fin 768) (k : Fin 512) :
    out0_2 x w (ix2 r k) = ∑ q : Fin 4, ∑ n : Fin 512, x (ix2 r ⟨q.val * 512 + n.val, by omega⟩) * w (ix4 q 0 k n) := by
  have e : out0_2 x w = k0_pay1 (View.ld x r0_0) (View.ld w r0_1) (View.ld x r0_2) (View.ld w r0_3) (View.ld x r0_4) (View.ld w r0_5)
      (View.ld x r0_6) (View.ld w r0_7) := by
    unfold out0_2
    rw [View.canon_cons_unit_lit _ _ _ (by decide)]
  rw [e, Fin.sum_univ_four]
  refine Eq.trans (b := ∑ n : Fin 512, x (ix2 r ⟨n.val, by omega⟩) * w (ix4 0 0 k n) + ∑ n : Fin 512, x (ix2 r ⟨512 + n.val, by omega⟩) * w (ix4 1 0 k n)
    + ∑ n : Fin 512, x (ix2 r ⟨1024 + n.val, by omega⟩) * w (ix4 2 0 k n) + ∑ n : Fin 512, x (ix2 r ⟨1536 + n.val, by omega⟩) * w (ix4 3 0 k n))
    (by pointwise [k0_pay1]) ?_
  refine congrArg₂ (· + ·) (congrArg₂ (· + ·) (congrArg₂ (· + ·) ?_ ?_) ?_) ?_
  all_goals
    refine Finset.sum_congr rfl fun n _ => congrArg (fun j => x (ix2 r j) * _) (Fin.ext ?_)
    simp

variable (m : (ℓ : Loc nD τ sig) → Buf (Elt Ideal) ℓ) (c : Dev nD)

/-- The host gives the weights a unit axis. -/
theorem weights (q : Fin 4) (k : Fin 512) (n : Fin 512) : (V m c main_v0 : Vec Ideal S4x1x512x512 .bf16) (ix4 q 0 k n)
    = (m ((c : Thread nD τ).loc main_arg1) : Vec Ideal S4x512x512 .bf16) (ix3 q k n) := by
  entry_read
  pointwise

/-- The result array of the kernel. -/
theorem kernel_entry (r : Fin 2304) (k : Fin 512) : ((dats m 0 c).arrAt 2 cfg0.N : Vec Ideal S2304x512 .f32) (ix2 r k)
    = grad (m ((c : Thread nD τ).loc main_arg0)) (m ((c : Thread nD τ).loc main_arg1)) r k := by
  obtain ⟨t, h0⟩ : ∃ t : Fin cfg0.N, t.val = r.val / 768 := ⟨⟨r.val / 768, lt_of_lt_of_eq (by omega) N_0.symm⟩, rfl⟩
  obtain ⟨i0, i1, i2⟩ := index t
  have b := congrFun (Value.blocks2 m c t (flush0_2 t)) (ix2 ⟨r.val % 768, by omega⟩ ⟨k.val % 512, by omega⟩)
  rw [View.read_apply, Value.flushed2] at b
  have hy : (((cfg0.win 2).blk t).view.emb (ix2 ⟨r.val % 768, by omega⟩ ⟨k.val % 512, by omega⟩) : S2304x512.Idx) = ix2 r k := by
    refine funext fun a => Fin.ext ?_
    match a with
    | ⟨0, _⟩ => show win0_2.index t 0 * 768 + 1 * (r.val % 768) = r.val; rw [i2.1]; omega
    | ⟨1, _⟩ => show win0_2.index t 1 * 512 + 1 * (k.val % 512) = k.val; rw [i2.2]; omega
  rw [hy] at b
  refine b.trans ((stored _ _ _ _).trans (Finset.sum_congr rfl fun q _ => Finset.sum_congr rfl fun n _ => congrArg₂ (· * ·) ?_ ?_))
  · unfold iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 768 + 1 * (r.val % 768) = r.val; rw [i0.1]; omega
    | ⟨1, _⟩ => show win0_0.index t 1 * 2048 + 1 * (q.val * 512 + n.val) = q.val * 512 + n.val; rw [i0.2]; omega
  · refine Eq.trans ?_ (weights m c q k n)
    unfold iblk
    rw [View.read_apply]
    refine congrArg (V m c main_v0) (funext fun a => Fin.ext ?_)
    match a with
    | ⟨0, _⟩ => show win0_1.index t 0 * 4 + 1 * q.val = q.val; rw [i1.1]; omega
    | ⟨1, _⟩ => show win0_1.index t 1 * 1 + 1 * 0 = 0; rw [i1.2.1]
    | ⟨2, _⟩ => show win0_1.index t 2 * 512 + 1 * (k.val % 512) = k.val; rw [i1.2.2.1]; omega
    | ⟨3, _⟩ => show win0_1.index t 3 * 512 + 1 * n.val = n.val; rw [i1.2.2.2]; omega

open Cert.NtBranchReferenceIdeal.Read in
/-- The result array of the reference. -/
theorem reference_entry (x0 : Vec Ideal S2304x2048 .bf16) (x1 : Vec Ideal S4x512x512 .bf16) (r : Fin 2304) (k : Fin 512) :
    val_main_v6 (F := Ideal) x0 x1 (ix2 r k) = grad x0 x1 r k := by
  refine Eq.trans (b := ∑ j : Fin 2048, x0 (ix2 r j) * x1 (ix3 ⟨j.val / 512, by omega⟩ k ⟨j.val % 512, by omega⟩))
    (by pointwise [val_main_v6, val_main_v4, val_main_v3, val_main_v1, val_main_v0]) ?_
  rw [Shards.sum_shards (a := 4) (b := 512) rfl]
  refine Finset.sum_congr rfl fun q _ => Finset.sum_congr rfl fun n _ => congrArg (_ * ·) (congrArg x1 ?_)
  exact congrArg₂ (fun u v => ix3 u k v) (Fin.ext (by show (q.val * 512 + n.val) / 512 = q.val; omega))
    (Fin.ext (by show (q.val * 512 + n.val) % 512 = n.val; omega))

/-- The kernel runs on the machine, keeps its arguments, and ends with every counter at zero. -/
theorem frame : Cert.quiescent_NtBranch := fun m ρ _ => Cert.NtBranch.Gen.frame m ρ

/-- The same of its idealization. -/
theorem frameIdeal : Cert.quiescent_NtBranchIdeal := fun m ρ _ => Cert.NtBranchIdeal.Gen.frame m ρ

/-- The same of the reference. -/
theorem frameReference : Cert.quiescent_NtBranchReferenceIdeal := fun m ρ _ =>
  (θ_run Cert.NtBranchReferenceIdeal.defs _ _).mono (fun r h => ⟨fun c => (h c).2, sem_eq_zero_of_no_sems (by decide) r.2⟩)
    (Cert.NtBranchReferenceIdeal.Value.run (F := Ideal) m ρ)

/-- The kernel's gradient is the reference's. -/
theorem algebraic : Cert.algebraic_NtBranchIdeal_NtBranchReferenceIdeal := by
  intro m g m' g' _ hin
  refine ⟨_, Value.run_blocks m g, (θ_run Cert.NtBranchReferenceIdeal.defs _ _).mono (fun r h c => ?_)
    (Cert.NtBranchReferenceIdeal.Value.run (F := Ideal) m' g')⟩
  obtain ⟨h0, hargs⟩ := h c
  obtain ⟨a0, a1⟩ := hin c
  refine ⟨(h0.trans (Cert.NtBranchReferenceIdeal.Read.val_main_v6_eq _ _)).trans ?_, hargs⟩
  rw [a0, a1]
  funext i
  rw [eq_ix2 i]
  exact (reference_entry _ _ _ _).trans (kernel_entry m c _ _).symm

end Cert.NtBranchProof

end
-- ==== Proof.TnBranch.lean ====
module

public import proofs.«01_k».proof.Defs
public import proofs.«01_k».proof.Proof.Gen.TnBranch.Frame
public import proofs.«01_k».proof.Proof.Gen.TnBranchIdeal.Value
public import proofs.«01_k».proof.Proof.Gen.TnBranchReferenceIdeal.Run
public import proofs.«01_k».proof.Proof.Gen.TnBranchReferenceIdeal.Read
public import Idealize.ShloMosaic.Lib.Claim
public import Idealize.ShloMosaic.Lib.Pointwise
public import Idealize.ShloMosaic.Lib.Pipeline.ValueKit.Basic

/- The gradient of the weights that project one of the three other branches, in shards of 512 columns: kernel and reference. -/

@[expose] public section

set_option maxRecDepth 16384

noncomputable section

namespace Cert.TnBranchProof

open Idealize.ShloMosaic Idealize.ShloMosaic.TcCoe Idealize.SL.Sem Cert.TnBranchIdeal Cert.TnBranchIdeal.Gen

/-- Entry `(k, n)` of shard `q`: column `k` of the activation against column `512 q + n` of the incoming gradient. -/
def grad (a : Vec Ideal S2304x512 .bf16) (dc : Vec Ideal S2304x2048 .bf16) (q : Fin 4) (k : Fin 512) (n : Fin 512) : EReal :=
  ∑ r : Fin 2304, a (ix2 r k) * dc (ix2 r ⟨q.val * 512 + n.val, by omega⟩)

/-- Grid point `t` takes 512 columns of the activation and 512 of the gradient. -/
theorem index (t : Fin cfg0.N) : (win0_0.index t 0 = 0 ∧ win0_0.index t 1 = 0)
    ∧ (win0_1.index t 0 = 0 ∧ win0_1.index t 1 = t.val)
    ∧ (win0_2.index t 0 = t.val ∧ win0_2.index t 1 = 0 ∧ win0_2.index t 2 = 0) := by
  revert t
  change ∀ t : Fin grid0.N, _
  decide +kernel

/-- What the body stores. -/
theorem stored (x : Vec Ideal S2304x512 .bf16) (y : Vec Ideal S2304x512 .bf16) (k : Fin 512) (n : Fin 512) :
    out0_2 x y (ix3 0 k n) = ∑ r : Fin 2304, x (ix2 r k) * y (ix2 r n) := by
  have e : out0_2 x y = k0_pay1 x y := by
    unfold out0_2
    rw [View.canon_cons_unit_lit _ _ _ (by decide), View.ld_unit_lit _ _ (by decide), View.ld_unit_lit _ _ (by decide)]
  rw [e]
  pointwise [k0_pay1]

variable (m : (ℓ : Loc nD τ sig) → Buf (Elt Ideal) ℓ) (c : Dev nD)

/-- The result array of the kernel. -/
theorem kernel_entry (q : Fin 4) (k : Fin 512) (n : Fin 512) : ((dats m 0 c).arrAt 2 cfg0.N : Vec Ideal S4x512x512 .bf16) (ix3 q k n)
    = grad (m ((c : Thread nD τ).loc main_arg0)) (m ((c : Thread nD τ).loc main_arg1)) q k n := by
  obtain ⟨t, ht⟩ : ∃ t : Fin cfg0.N, t.val = q.val :=
    ⟨⟨q.val, lt_of_lt_of_eq (by omega) N_0.symm⟩, rfl⟩
  obtain ⟨i0, i1, i2⟩ := index t
  have b := congrFun (Value.blocks2 m c t (flush0_2 t)) (ix3 0 ⟨k.val % 512, by omega⟩ ⟨n.val % 512, by omega⟩)
  rw [View.read_apply, Value.flushed2] at b
  have hy : (((cfg0.win 2).blk t).view.emb (ix3 0 ⟨k.val % 512, by omega⟩ ⟨n.val % 512, by omega⟩) : S4x512x512.Idx) = ix3 q k n := by
    refine funext fun a => Fin.ext ?_
    match a with
    | ⟨0, _⟩ => show win0_2.index t 0 * 1 + 1 * 0 = q.val; rw [i2.1] <;> omega
    | ⟨1, _⟩ => show win0_2.index t 1 * 512 + 1 * (k.val % 512) = k.val; rw [i2.2.1] <;> omega
    | ⟨2, _⟩ => show win0_2.index t 2 * 512 + 1 * (n.val % 512) = n.val; rw [i2.2.2] <;> omega
  rw [hy] at b
  refine b.trans ((stored _ _ _ _).trans (Finset.sum_congr rfl fun r _ => congrArg₂ (· * ·) ?_ ?_))
  · unfold iblk
    rw [View.read_apply]
    show V m c main_arg0 _ = _
    rw [V_main_arg0]
    refine congrArg (m ((c : Thread nD τ).loc main_arg0)) (funext fun a => Fin.ext ?_)
    match a with
    | ⟨0, _⟩ => show win0_0.index t 0 * 2304 + 1 * r.val = r.val; rw [i0.1] <;> omega
    | ⟨1, _⟩ => show win0_0.index t 1 * 512 + 1 * (k.val % 512) = k.val; rw [i0.2] <;> omega
  · unfold iblk
    rw [View.read_apply]
    show V m c main_arg1 _ = _
    rw [V_main_arg1]
    refine congrArg (m ((c : Thread nD τ).loc main_arg1)) (funext fun a => Fin.ext ?_)
    match a with
    | ⟨0, _⟩ => show win0_1.index t 0 * 2304 + 1 * r.val = r.val; rw [i1.1] <;> omega
    | ⟨1, _⟩ => show win0_1.index t 1 * 512 + 1 * (n.val % 512) = q.val * 512 + n.val; rw [i1.2] <;> omega

open Cert.TnBranchReferenceIdeal.Read in
/-- The result array of the reference. -/
theorem reference_entry (x0 : Vec Ideal S2304x512 .bf16) (x1 : Vec Ideal S2304x2048 .bf16) (q : Fin 4) (k : Fin 512) (n : Fin 512) :
    val_main_v10 (F := Ideal) x0 x1 (ix3 q k n) = grad x0 x1 q k n := by
  unfold grad
  pointwise [val_main_v10, val_main_v9, val_main_v8, val_main_v7, val_main_v6, val_main_v1, val_main_v0]
  exact Finset.sum_congr rfl fun r _ => mul_comm _ _

/-- The kernel runs on the machine, keeps its arguments, and ends with every counter at zero. -/
theorem frame : Cert.quiescent_TnBranch := fun m ρ _ => Cert.TnBranch.Gen.frame m ρ

/-- The same of its idealization. -/
theorem frameIdeal : Cert.quiescent_TnBranchIdeal := fun m ρ _ => Cert.TnBranchIdeal.Gen.frame m ρ

/-- The same of the reference. -/
theorem frameReference : Cert.quiescent_TnBranchReferenceIdeal := fun m ρ _ =>
  (θ_run Cert.TnBranchReferenceIdeal.defs _ _).mono (fun r h => ⟨fun c => (h c).2, sem_eq_zero_of_no_sems (by decide) r.2⟩)
    (Cert.TnBranchReferenceIdeal.Value.run (F := Ideal) m ρ)

/-- The kernel's gradient is the reference's. -/
theorem algebraic : Cert.algebraic_TnBranchIdeal_TnBranchReferenceIdeal := by
  intro m g m' g' _ hin
  refine ⟨_, Value.run_blocks m g, (θ_run Cert.TnBranchReferenceIdeal.defs _ _).mono (fun r h c => ?_)
    (Cert.TnBranchReferenceIdeal.Value.run (F := Ideal) m' g')⟩
  obtain ⟨h0, hargs⟩ := h c
  obtain ⟨a0, a1⟩ := hin c
  refine ⟨(h0.trans (Cert.TnBranchReferenceIdeal.Read.val_main_v10_eq _ _)).trans ?_, hargs⟩
  rw [a0, a1]
  funext i
  rw [eq_ix3 i]
  exact (reference_entry _ _ _ _ _).trans (kernel_entry m c _ _ _).symm

end Cert.TnBranchProof

end
-- ==== Proof.AdaFwd.lean ====
module

public import proofs.«01_k».proof.Defs
public import proofs.«01_k».proof.Proof.Gen.AdaFwd.Frame
public import proofs.«01_k».proof.Proof.Gen.AdaFwdIdeal.Value
public import proofs.«01_k».proof.Proof.Gen.AdaFwdReferenceIdeal.Run
public import proofs.«01_k».proof.Proof.Gen.AdaFwdReferenceIdeal.Read
public import Idealize.ShloMosaic.Lib.Claim
public import Idealize.ShloMosaic.Lib.Pointwise
public import Idealize.ShloMosaic.Lib.Pipeline.ValueKit.Basic

/- The modulations of both layers from the conditioning, `silu(c) · w + b`.  Kernel and reference. -/

@[expose] public section

set_option maxRecDepth 16384

noncomputable section

namespace Cert.AdaFwdProof

open Idealize.ShloMosaic Idealize.ShloMosaic.TcCoe Idealize.SL.Sem Cert.AdaFwdIdeal Cert.AdaFwdIdeal.Gen

/-- The gate `x · σ(x)` of an entry. -/
def silu (x : EReal) : EReal := x * Ideal.logistic x

/-- Entry `(l, s, n)`: the gated conditioning's row `s` against column `n` of layer `l`'s weights, and the bias. -/
def modulation (x : Vec Ideal S16x2048 .f32) (w : Vec Ideal S2x2048x3072 .f32) (b : Vec Ideal S2x3072 .f32) (l : Fin 2) (s : Fin 16) (n : Fin 3072) : EReal :=
  (∑ k : Fin 2048, silu (x (ix2 s k)) * w (ix3 l k n)) + b (ix2 l n)

/-- Grid point `t` takes a quarter of one layer's columns. -/
theorem index (t : Fin cfg0.N) : (win0_0.index t 0 = 0 ∧ win0_0.index t 1 = 0)
    ∧ (win0_1.index t 0 = t.val / 4 ∧ win0_1.index t 1 = 0 ∧ win0_1.index t 2 = t.val % 4)
    ∧ (win0_2.index t 0 = t.val / 4 ∧ win0_2.index t 1 = 0 ∧ win0_2.index t 2 = t.val % 4)
    ∧ (win0_3.index t 0 = t.val / 4 ∧ win0_3.index t 1 = 0 ∧ win0_3.index t 2 = t.val % 4) := by
  revert t
  change ∀ t : Fin grid0.N, _
  decide +kernel

/-- What the body stores. -/
theorem stored (x : Vec Ideal S16x2048 .f32) (w : Vec Ideal S1x2048x768 .f32) (b : Vec Ideal S1x1x768 .f32) (s : Fin 16) (n : Fin 768) :
    out0_3 x w b (ix3 0 s n) = (∑ k : Fin 2048, silu (x (ix2 s k)) * w (ix3 0 k n)) + b (ix3 0 0 n) := by
  have e : out0_3 x w b = k0_pay1 x w b := by
    unfold out0_3
    rw [View.canon_cons_unit_lit _ _ _ (by decide), View.ld_unit_lit _ _ (by decide), View.ld_unit_lit _ _ (by decide), View.ld_unit_lit _ _ (by decide)]
  rw [e]
  unfold silu
  pointwise [k0_pay1]

variable (m : (ℓ : Loc nD τ sig) → Buf (Elt Ideal) ℓ) (c : Dev nD)

/-- The host gives the bias a unit axis. -/
theorem bias (l : Fin 2) (n : Fin 3072) : (V m c main_v0 : Vec Ideal S2x1x3072 .f32) (ix3 l 0 n)
    = (m ((c : Thread nD τ).loc main_arg2) : Vec Ideal S2x3072 .f32) (ix2 l n) := by
  entry_read
  pointwise

/-- Every point's block of the conditioning is the whole array. -/
theorem block0 (t : Fin cfg0.N) (s : Fin 16) (k : Fin 2048) :
    (iblk m c 0 t : Vec Ideal S16x2048 .f32) (ix2 s k) = (m ((c : Thread nD τ).loc main_arg0) : Vec Ideal S16x2048 .f32) (ix2 s k) := by
  obtain ⟨i, -⟩ := index t
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 16 + 1 * s.val = s.val; rw [i.1] <;> omega
  | ⟨1, _⟩ => show win0_0.index t 1 * 2048 + 1 * k.val = k.val; rw [i.2] <;> omega

/-- Point `t`'s block of the weights. -/
theorem block1 {t : Fin cfg0.N} {l : Fin 2} {n : Fin 3072} (ht : t.val = l.val * 4 + n.val / 768) (k : Fin 2048) :
    (iblk m c 1 t : Vec Ideal S1x2048x768 .f32) (ix3 0 k ⟨n.val % 768, by omega⟩)
      = (m ((c : Thread nD τ).loc main_arg1) : Vec Ideal S2x2048x3072 .f32) (ix3 l k n) := by
  obtain ⟨-, i, -⟩ := index t
  unfold iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1 + 1 * 0 = l.val; rw [i.1] <;> omega
  | ⟨1, _⟩ => show win0_1.index t 1 * 2048 + 1 * k.val = k.val; rw [i.2.1] <;> omega
  | ⟨2, _⟩ => show win0_1.index t 2 * 768 + 1 * (n.val % 768) = n.val; rw [i.2.2] <;> omega

/-- Point `t`'s block of the bias. -/
theorem block2 {t : Fin cfg0.N} {l : Fin 2} {n : Fin 3072} (ht : t.val = l.val * 4 + n.val / 768) :
    (iblk m c 2 t : Vec Ideal S1x1x768 .f32) (ix3 0 0 ⟨n.val % 768, by omega⟩)
      = (m ((c : Thread nD τ).loc main_arg2) : Vec Ideal S2x3072 .f32) (ix2 l n) := by
  obtain ⟨-, -, i, -⟩ := index t
  refine Eq.trans ?_ (bias m c l n)
  unfold iblk
  rw [View.read_apply]
  refine congrArg (V m c main_v0) (funext fun a => Fin.ext ?_)
  match a with
  | ⟨0, _⟩ => show win0_2.index t 0 * 1 + 1 * 0 = l.val; rw [i.1] <;> omega
  | ⟨1, _⟩ => show win0_2.index t 1 * 1 + 1 * 0 = 0; rw [i.2.1]
  | ⟨2, _⟩ => show win0_2.index t 2 * 768 + 1 * (n.val % 768) = n.val; rw [i.2.2] <;> omega

/-- The result array of the kernel. -/
theorem kernel_entry (l : Fin 2) (s : Fin 16) (n : Fin 3072) : ((dats m 0 c).arrAt 3 cfg0.N : Vec Ideal S2x16x3072 .f32) (ix3 l s n)
    = modulation (m ((c : Thread nD τ).loc main_arg0)) (m ((c : Thread nD τ).loc main_arg1)) (m ((c : Thread nD τ).loc main_arg2)) l s n := by
  obtain ⟨t, ht⟩ : ∃ t : Fin cfg0.N, t.val = l.val * 4 + n.val / 768 := ⟨⟨l.val * 4 + n.val / 768, lt_of_lt_of_eq (by omega) N_0.symm⟩, rfl⟩
  obtain ⟨-, -, -, i⟩ := index t
  have b := congrFun (Value.blocks3 m c t (flush0_3 t)) (ix3 0 s ⟨n.val % 768, by omega⟩)
  rw [View.read_apply, Value.flushed3] at b
  have hy : (((cfg0.win 3).blk t).view.emb (ix3 0 s ⟨n.val % 768, by omega⟩) : S2x16x3072.Idx) = ix3 l s n := by
    refine funext fun a => Fin.ext ?_
    match a with
    | ⟨0, _⟩ => show win0_3.index t 0 * 1 + 1 * 0 = l.val; rw [i.1] <;> omega
    | ⟨1, _⟩ => show win0_3.index t 1 * 16 + 1 * s.val = s.val; rw [i.2.1] <;> omega
    | ⟨2, _⟩ => show win0_3.index t 2 * 768 + 1 * (n.val % 768) = n.val; rw [i.2.2] <;> omega
  rw [hy] at b
  refine b.trans ((stored _ _ _ _ _).trans ?_)
  rw [block2 m c ht]
  exact congrArg (· + _) (Finset.sum_congr rfl fun k _ => congrArg₂ (fun u v => silu u * v) (block0 m c t s k) (block1 m c ht k))

open Cert.AdaFwdReferenceIdeal.Read in
/-- The result array of the reference. -/
theorem reference_entry (x : Vec Ideal S16x2048 .f32) (w : Vec Ideal S2x2048x3072 .f32) (b : Vec Ideal S2x3072 .f32) (l : Fin 2) (s : Fin 16) (n : Fin 3072) :
    val_main_v20 (F := Ideal) x w b (ix3 l s n) = modulation x w b l s n := by
  unfold modulation silu Ideal.logistic
  match l with
  | ⟨0, _⟩ => pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0, val_main_call1_v5, val_main_call1_v4, val_main_call1_v3, val_main_call1_v2, val_main_call1_v1, val_main_call1_v0, val_main_call1_cst, val_main_call1_cst_0]
  | ⟨1, _⟩ => pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_call0_v5, val_main_call0_v4, val_main_call0_v3, val_main_call0_v2, val_main_call0_v1, val_main_call0_v0, val_main_call0_cst, val_main_call0_cst_0, val_main_call1_v5, val_main_call1_v4, val_main_call1_v3, val_main_call1_v2, val_main_call1_v1, val_main_call1_v0, val_main_call1_cst, val_main_call1_cst_0]

/-- The kernel runs on the machine, keeps its arguments, and ends with every counter at zero. -/
theorem frame : Cert.quiescent_AdaFwd := fun m ρ _ => Cert.AdaFwd.Gen.frame m ρ

/-- The same of its idealization. -/
theorem frameIdeal : Cert.quiescent_AdaFwdIdeal := fun m ρ _ => Cert.AdaFwdIdeal.Gen.frame m ρ

/-- The same of the reference. -/
theorem frameReference : Cert.quiescent_AdaFwdReferenceIdeal := fun m ρ _ =>
  (θ_run Cert.AdaFwdReferenceIdeal.defs _ _).mono (fun r h => ⟨fun c => (h c).2, sem_eq_zero_of_no_sems (by decide) r.2⟩)
    (Cert.AdaFwdReferenceIdeal.Value.run (F := Ideal) m ρ)

/-- The kernel's modulations are the reference's. -/
theorem algebraic : Cert.algebraic_AdaFwdIdeal_AdaFwdReferenceIdeal := by
  intro m g m' g' _ hin
  refine ⟨_, Value.run_blocks m g, (θ_run Cert.AdaFwdReferenceIdeal.defs _ _).mono (fun r h c => ?_)
    (Cert.AdaFwdReferenceIdeal.Value.run (F := Ideal) m' g')⟩
  obtain ⟨h0, hargs⟩ := h c
  obtain ⟨a0, a1, a2⟩ := hin c
  refine ⟨(h0.trans (Cert.AdaFwdReferenceIdeal.Read.val_main_v20_eq _ _ _)).trans ?_, hargs⟩
  rw [a0, a1, a2]
  funext i
  rw [eq_ix3 i]
  exact (reference_entry _ _ _ _ _ _).trans (kernel_entry m c _ _ _).symm

end Cert.AdaFwdProof

end
-- ==== Proof.AdaBwd.lean ====
module

public import proofs.«01_k».proof.Defs
public import proofs.«01_k».proof.Proof.Gen.AdaBwd.Frame
public import proofs.«01_k».proof.Proof.Gen.AdaBwdIdeal.Value
public import proofs.«01_k».proof.Proof.Gen.AdaBwdReferenceIdeal.Run
public import proofs.«01_k».proof.Proof.Gen.AdaBwdReferenceIdeal.Read
public import Idealize.ShloMosaic.Lib.Pipeline.ReadBack
public import Idealize.ShloMosaic.Lib.Pipeline.ValueKit
public import proofs.«01_k».proof.Proof.Shards
public import Idealize.ShloMosaic.Lib.Claim
public import Idealize.ShloMosaic.Lib.Pointwise
public import Idealize.ShloMosaic.Lib.Pipeline.ValueKit.Basic

/- The gradients of the modulations: of the weights, and of the gated conditioning summed over both layers.  Kernel and reference. -/

@[expose] public section

set_option maxRecDepth 16384

noncomputable section

namespace Cert.AdaBwdProof

open Idealize.ShloMosaic Idealize.ShloMosaic.TcCoe Idealize.SL.Sem Cert.AdaBwdIdeal Cert.AdaBwdIdeal.Gen

/-- The gate `x · σ(x)` of an entry. -/
def silu (x : EReal) : EReal := x * Ideal.logistic x

/-- Entry `(l, k, n)` of the weights' gradient: the gated conditioning's column `k` against the incoming gradient's column `n`. -/
def weightGrad (x : Vec Ideal S16x2048 .f32) (d : Vec Ideal S2x16x3072 .f32) (l : Fin 2) (k : Fin 2048) (n : Fin 3072) : EReal :=
  ∑ s : Fin 16, silu (x (ix2 s k)) * d (ix3 l s n)

/-- What quarter `q` of layer `l`'s columns sends to entry `(s, k)` of the conditioning. -/
def part (d : Vec Ideal S2x16x3072 .f32) (w : Vec Ideal S2x2048x3072 .f32) (s : Fin 16) (k : Fin 2048) (l : Fin 2) (q : Fin 4) : EReal :=
  ∑ n : Fin 768, d (ix3 l s ⟨q.val * 768 + n.val, by omega⟩) * w (ix3 l k ⟨q.val * 768 + n.val, by omega⟩)

/-- Entry `(s, k)` of the conditioning's gradient: all parts, layer by layer. -/
def condGrad (d : Vec Ideal S2x16x3072 .f32) (w : Vec Ideal S2x2048x3072 .f32) (s : Fin 16) (k : Fin 2048) : EReal :=
  ∑ l : Fin 2, ∑ q : Fin 4, part d w s k l q

/-- Grid point `t` takes a quarter of one layer's columns. -/
theorem index (t : Fin cfg0.N) : (win0_0.index t 0 = 0 ∧ win0_0.index t 1 = 0)
    ∧ (win0_1.index t 0 = t.val / 4 ∧ win0_1.index t 1 = 0 ∧ win0_1.index t 2 = t.val % 4)
    ∧ (win0_2.index t 0 = t.val / 4 ∧ win0_2.index t 1 = 0 ∧ win0_2.index t 2 = t.val % 4)
    ∧ (win0_3.index t 0 = t.val / 4 ∧ win0_3.index t 1 = 0 ∧ win0_3.index t 2 = t.val % 4)
    ∧ (win0_4.index t 0 = 0 ∧ win0_4.index t 1 = 0) := by
  revert t
  change ∀ t : Fin grid0.N, _
  decide +kernel

/-- The body's block of the weights' gradient. -/
theorem weight_apply (x : Vec Ideal S16x2048 .f32) (d : Vec Ideal S1x16x768 .f32) (k : Fin 2048) (n : Fin 768) :
    k0_pay3 x d (ix3 0 k n) = ∑ s : Fin 16, silu (x (ix2 s k)) * d (ix3 0 s n) := by
  unfold silu
  pointwise [k0_pay3, k0_pay2]

/-- The body adds one product to the conditioning's gradient. -/
theorem next_apply (d : Vec Ideal S1x16x768 .f32) (a : Vec Ideal S16x2048 .f32) (w : Vec Ideal S1x2048x768 .f32) (s : Fin 16) (k : Fin 2048) :
    k0_pay4 d a w (ix2 s k) = a (ix2 s k) + ∑ n : Fin 768, d (ix3 0 s n) * w (ix3 0 k n) := by
  pointwise [k0_pay4, k0_pay2]

/-- The conditioning's gradient starts at zero. -/
theorem zero_apply (s : Fin 16) (k : Fin 2048) : k0_pay1 (F := Ideal) (ix2 s k) = 0 := by
  pointwise [k0_pay1]

variable (m : (ℓ : Loc nD τ sig) → Buf (Elt Ideal) ℓ) (c : Dev nD)

/-- The argument arrays. -/
abbrev arg0 : Vec Ideal S16x2048 .f32 := m ((c : Thread nD τ).loc main_arg0)
abbrev arg1 : Vec Ideal S2x16x3072 .f32 := m ((c : Thread nD τ).loc main_arg1)
abbrev arg2 : Vec Ideal S2x2048x3072 .f32 := m ((c : Thread nD τ).loc main_arg2)

/-- Point `t`'s block of the conditioning. -/
abbrev blk0 (t : Fin cfg0.N) : Vec Ideal S16x2048 .f32 := iblk m c 0 t

/-- Point `t`'s block of the incoming gradient. -/
abbrev blk1 (t : Fin cfg0.N) : Vec Ideal S1x16x768 .f32 := iblk m c 1 t

/-- Point `t`'s block of the weights. -/
abbrev blk2 (t : Fin cfg0.N) : Vec Ideal S1x2048x768 .f32 := iblk m c 2 t

/-- The conditioning's gradient after point `t`. -/
abbrev acc (t : Fin cfg0.N) : Vec Ideal S16x2048 .f32 := (outsAt0 m c t.val t.isLt).2

/-- What a point leaves of the weights' gradient. -/
theorem weight_out (t : Fin cfg0.N) : (outsAt0 m c t.val t.isLt).1 = k0_pay3 (blk0 m c t) (blk1 m c t) := by
  by_cases h : t.val % 8 = 0
  · rw [outsAt0_A m c t h]
    frame_out
  · rw [outsAt0_B m c t h]
    frame_out

/-- The conditioning's gradient after the first point. -/
theorem acc_first (t : Fin cfg0.N) (h : t.val % 8 = 0) : acc m c t = k0_pay4 (blk1 m c t) (k0_pay1 (F := Ideal)) (blk2 m c t) := by
  unfold acc
  rw [outsAt0_A m c t h]
  frame_out

/-- The conditioning's gradient after a later point. -/
theorem acc_next (t s : Fin cfg0.N) (h : ¬t.val % 8 = 0) (hs : s.val = t.val - 1) :
    acc m c t = k0_pay4 (blk1 m c t) (acc m c s) (blk2 m c t) := by
  obtain ⟨s, hlt⟩ := s
  obtain rfl : s = t.val - 1 := hs
  unfold acc
  rw [outsAt0_B m c t h]
  frame_out

/-- Every point's block of the conditioning is the whole array. -/
theorem block0 (t : Fin cfg0.N) (s : Fin 16) (k : Fin 2048) :
    blk0 m c t (ix2 s k) = (arg0 m c) (ix2 s k) := by
  obtain ⟨i, -⟩ := index t
  unfold blk0 iblk
  rw [View.read_apply]
  show V m c main_arg0 _ = _
  rw [V_main_arg0]
  refine congrArg (arg0 m c) (funext fun a => Fin.ext ?_)
  match a with
  | ⟨0, _⟩ => show win0_0.index t 0 * 16 + 1 * s.val = s.val; rw [i.1] <;> omega
  | ⟨1, _⟩ => show win0_0.index t 1 * 2048 + 1 * k.val = k.val; rw [i.2] <;> omega

/-- Point `t`'s block of the incoming gradient. -/
theorem block1 {t : Fin cfg0.N} {l : Fin 2} {q : Fin 4} (ht : t.val = l.val * 4 + q.val) (s : Fin 16) (n : Fin 768) :
    blk1 m c t (ix3 0 s n) = (arg1 m c) (ix3 l s ⟨q.val * 768 + n.val, by omega⟩) := by
  obtain ⟨-, i, -⟩ := index t
  unfold blk1 iblk
  rw [View.read_apply]
  show V m c main_arg1 _ = _
  rw [V_main_arg1]
  refine congrArg (arg1 m c) (funext fun a => Fin.ext ?_)
  match a with
  | ⟨0, _⟩ => show win0_1.index t 0 * 1 + 1 * 0 = l.val; rw [i.1] <;> omega
  | ⟨1, _⟩ => show win0_1.index t 1 * 16 + 1 * s.val = s.val; rw [i.2.1] <;> omega
  | ⟨2, _⟩ => show win0_1.index t 2 * 768 + 1 * n.val = q.val * 768 + n.val; rw [i.2.2] <;> omega

/-- Point `t`'s block of the weights. -/
theorem block2 {t : Fin cfg0.N} {l : Fin 2} {q : Fin 4} (ht : t.val = l.val * 4 + q.val) (k : Fin 2048) (n : Fin 768) :
    blk2 m c t (ix3 0 k n) = (arg2 m c) (ix3 l k ⟨q.val * 768 + n.val, by omega⟩) := by
  obtain ⟨-, -, i, -⟩ := index t
  unfold blk2 iblk
  rw [View.read_apply]
  show V m c main_arg2 _ = _
  rw [V_main_arg2]
  refine congrArg (arg2 m c) (funext fun a => Fin.ext ?_)
  match a with
  | ⟨0, _⟩ => show win0_2.index t 0 * 1 + 1 * 0 = l.val; rw [i.1] <;> omega
  | ⟨1, _⟩ => show win0_2.index t 1 * 2048 + 1 * k.val = k.val; rw [i.2.1] <;> omega
  | ⟨2, _⟩ => show win0_2.index t 2 * 768 + 1 * n.val = q.val * 768 + n.val; rw [i.2.2] <;> omega

/-- The product of point `t`'s blocks is one part. -/
theorem block_part {t : Fin cfg0.N} {l : Fin 2} {q : Fin 4} (ht : t.val = l.val * 4 + q.val) (s : Fin 16) (k : Fin 2048) :
    (∑ n : Fin 768, blk1 m c t (ix3 0 s n) * blk2 m c t (ix3 0 k n))
      = part (arg1 m c) (arg2 m c) s k l q :=
  Finset.sum_congr rfl fun n _ => congrArg₂ (· * ·) (block1 m c ht s n) (block2 m c ht k n)

/-- The weights' gradient of the kernel. -/
theorem weight_entry (l : Fin 2) (k : Fin 2048) (n : Fin 3072) : ((dats m 0 c).arrAt 3 cfg0.N : Vec Ideal S2x2048x3072 .f32) (ix3 l k n)
    = weightGrad (arg0 m c) (arg1 m c) l k n := by
  obtain ⟨q, hq⟩ : ∃ q : Fin 4, q.val = n.val / 768 := ⟨⟨n.val / 768, by omega⟩, rfl⟩
  obtain ⟨t, ht⟩ : ∃ t : Fin cfg0.N, t.val = l.val * 4 + q.val := ⟨⟨l.val * 4 + q.val, lt_of_lt_of_eq (by omega) N_0.symm⟩, rfl⟩
  obtain ⟨-, -, -, i, -⟩ := index t
  have b := congrFun (Value.blocks3 m c t (flush0_3 t)) (ix3 0 k ⟨n.val % 768, by omega⟩)
  rw [View.read_apply, Value.flushed3, weight_out] at b
  have hy : (((cfg0.win 3).blk t).view.emb (ix3 0 k ⟨n.val % 768, by omega⟩) : S2x2048x3072.Idx) = ix3 l k n := by
    refine funext fun a => Fin.ext ?_
    match a with
    | ⟨0, _⟩ => show win0_3.index t 0 * 1 + 1 * 0 = l.val; rw [i.1] <;> omega
    | ⟨1, _⟩ => show win0_3.index t 1 * 2048 + 1 * k.val = k.val; rw [i.2.1] <;> omega
    | ⟨2, _⟩ => show win0_3.index t 2 * 768 + 1 * (n.val % 768) = n.val; rw [i.2.2] <;> omega
  rw [hy] at b
  refine b.trans ((weight_apply _ _ _ _).trans (Finset.sum_congr rfl fun s _ => ?_))
  rw [block0, block1 m c ht]
  exact congrArg (_ * ·) (congrArg (fun u => (arg1 m c) (ix3 l s u))
    (Fin.ext (by show q.val * 768 + n.val % 768 = n.val; omega)))

/-- The conditioning's gradient of the kernel. -/
theorem cond_entry (s : Fin 16) (k : Fin 2048) : ((dats m 0 c).arrAt 4 cfg0.N : Vec Ideal S16x2048 .f32) (ix2 s k)
    = condGrad (arg1 m c) (arg2 m c) s k := by
  have point (l : Fin 2) (q : Fin 4) : ∃ t : Fin cfg0.N, t.val = l.val * 4 + q.val :=
    ⟨⟨l.val * 4 + q.val, lt_of_lt_of_eq (by omega) N_0.symm⟩, rfl⟩
  obtain ⟨t0, h0⟩ := point 0 0
  obtain ⟨t1, h1⟩ := point 0 1
  obtain ⟨t2, h2⟩ := point 0 2
  obtain ⟨t3, h3⟩ := point 0 3
  obtain ⟨t4, h4⟩ := point 1 0
  obtain ⟨t5, h5⟩ := point 1 1
  obtain ⟨t6, h6⟩ := point 1 2
  obtain ⟨t7, h7⟩ := point 1 3
  have v0 : t0.val = 0 := h0
  have v1 : t1.val = 1 := h1
  have v2 : t2.val = 2 := h2
  have v3 : t3.val = 3 := h3
  have v4 : t4.val = 4 := h4
  have v5 : t5.val = 5 := h5
  have v6 : t6.val = 6 := h6
  have v7 : t7.val = 7 := h7
  obtain ⟨-, -, -, -, i⟩ := index t7
  have hf : (cfg0.win 4).flush t7 = true := (flush0_4 t7).mpr (by omega)
  have b := congrFun ((dats m 0 c).read_blk_arrAt_eq_flushed 4 (fun t t' h h' hne => absurd (Fin.ext (by
    have := (flush0_4 t).mp h; have := (flush0_4 t').mp h'; have := lt_of_lt_of_eq t.isLt N_0; have := lt_of_lt_of_eq t'.isLt N_0; omega)) hne)
    cfg0.N t7 t7.isLt hf) (ix2 s k)
  rw [View.read_apply, Value.flushed4] at b
  have hy : (((cfg0.win 4).blk t7).view.emb (ix2 s k) : S16x2048.Idx) = ix2 s k := by
    refine funext fun a => Fin.ext ?_
    match a with
    | ⟨0, _⟩ => show win0_4.index t7 0 * 16 + 1 * s.val = s.val; rw [i.1] <;> omega
    | ⟨1, _⟩ => show win0_4.index t7 1 * 2048 + 1 * k.val = k.val; rw [i.2] <;> omega
  rw [hy] at b
  refine Eq.trans (b := acc m c t7 (ix2 s k)) b ?_
  rw [acc_next m c t7 t6 (by omega) (by omega), next_apply, acc_next m c t6 t5 (by omega) (by omega), next_apply,
    acc_next m c t5 t4 (by omega) (by omega), next_apply, acc_next m c t4 t3 (by omega) (by omega), next_apply,
    acc_next m c t3 t2 (by omega) (by omega), next_apply, acc_next m c t2 t1 (by omega) (by omega), next_apply,
    acc_next m c t1 t0 (by omega) (by omega), next_apply, acc_first m c t0 (by omega), next_apply, zero_apply,
    block_part m c h0, block_part m c h1, block_part m c h2, block_part m c h3, block_part m c h4, block_part m c h5,
    block_part m c h6, block_part m c h7]
  unfold condGrad
  rw [Fin.sum_univ_two, Fin.sum_univ_four, Fin.sum_univ_four, zero_add]
  simp only [add_assoc]

open Cert.AdaBwdReferenceIdeal.Read in
/-- The weights' gradient of the reference. -/
theorem reference_weight (x : Vec Ideal S16x2048 .f32) (d : Vec Ideal S2x16x3072 .f32) (l : Fin 2) (k : Fin 2048) (n : Fin 3072) :
    val_main_v25 (F := Ideal) x d (ix3 l k n) = weightGrad x d l k n := by
  refine Eq.trans (b := ∑ s : Fin 16, d (ix3 l s n) * silu (x (ix2 s k))) ?_ (Finset.sum_congr rfl fun s _ => mul_comm _ _)
  unfold silu Ideal.logistic
  match l with
  | ⟨0, _⟩ =>
    pointwise [val_main_v25, val_main_v24, val_main_v23, val_main_v20, val_main_v19, val_main_v18, val_main_v17, val_main_v15, val_main_v14, val_main_v13, val_main_v12, val_main_v11, val_main_v10, val_main_v9, val_main_v8, val_main_v7, val_main_v6, val_main_v3, val_main_v0, val_main_call0_v5, val_main_call0_v4, val_main_call0_v3, val_main_call0_v2, val_main_call0_v1, val_main_call0_v0, val_main_call0_cst, val_main_call0_cst_0, val_main_cst, val_main_cst_0]
  | ⟨1, _⟩ =>
    pointwise [val_main_v25, val_main_v24, val_main_v23, val_main_v20, val_main_v19, val_main_v18, val_main_v17, val_main_v15, val_main_v14, val_main_v13, val_main_v12, val_main_v11, val_main_v10, val_main_v9, val_main_v8, val_main_v7, val_main_v6, val_main_v3, val_main_v0, val_main_call0_v5, val_main_call0_v4, val_main_call0_v3, val_main_call0_v2, val_main_call0_v1, val_main_call0_v0, val_main_call0_cst, val_main_call0_cst_0, val_main_cst, val_main_cst_0]

open Cert.AdaBwdReferenceIdeal.Read in
/-- The conditioning's gradient of the reference. -/
theorem reference_cond (d : Vec Ideal S2x16x3072 .f32) (w : Vec Ideal S2x2048x3072 .f32) (s : Fin 16) (k : Fin 2048) :
    val_main_v22 (F := Ideal) d w (ix2 s k) = condGrad d w s k := by
  refine Eq.trans (b := (∑ n : Fin 3072, d (ix3 1 s n) * w (ix3 1 k n)) + ∑ n : Fin 3072, d (ix3 0 s n) * w (ix3 0 k n))
    (by pointwise [val_main_v22, val_main_v21, val_main_v16, val_main_v13, val_main_v12, val_main_v11, val_main_v10, val_main_v5, val_main_v4, val_main_v2, val_main_v1]) ?_
  rw [add_comm, Shards.sum_shards (a := 4) (b := 768) rfl, Shards.sum_shards (a := 4) (b := 768) rfl]
  exact (Fin.sum_univ_two fun l : Fin 2 => ∑ q : Fin 4, part d w s k l q).symm

/-- The kernel runs on the machine, keeps its arguments, and ends with every counter at zero. -/
theorem frame : Cert.quiescent_AdaBwd := fun m ρ _ => Cert.AdaBwd.Gen.frame m ρ

/-- The same of its idealization. -/
theorem frameIdeal : Cert.quiescent_AdaBwdIdeal := fun m ρ _ => Cert.AdaBwdIdeal.Gen.frame m ρ

/-- The same of the reference. -/
theorem frameReference : Cert.quiescent_AdaBwdReferenceIdeal := fun m ρ _ =>
  (θ_run Cert.AdaBwdReferenceIdeal.defs _ _).mono (fun r h => ⟨fun c => (h c).2.2, sem_eq_zero_of_no_sems (by decide) r.2⟩)
    (Cert.AdaBwdReferenceIdeal.Value.run (F := Ideal) m ρ)

/-- The kernel's two gradients are the reference's. -/
theorem algebraic : Cert.algebraic_AdaBwdIdeal_AdaBwdReferenceIdeal := by
  intro m g m' g' _ hin
  refine ⟨_, _, Value.run_blocks m g, (θ_run Cert.AdaBwdReferenceIdeal.defs _ _).mono (fun r h c => ?_)
    (Cert.AdaBwdReferenceIdeal.Value.run (F := Ideal) m' g')⟩
  obtain ⟨h0, h1, hargs⟩ := h c
  obtain ⟨a0, a1, a2⟩ := hin c
  refine ⟨(h0.trans (Cert.AdaBwdReferenceIdeal.Read.val_main_v25_eq _ _)).trans ?_,
    (h1.trans (Cert.AdaBwdReferenceIdeal.Read.val_main_v22_eq _ _)).trans ?_, hargs⟩
  · rw [a0, a1]
    funext i
    rw [eq_ix3 i]
    exact (reference_weight _ _ _ _ _).trans (weight_entry m c _ _ _).symm
  · rw [a1, a2]
    funext i
    rw [eq_ix2 i]
    exact (reference_cond _ _ _ _).trans (cond_entry m c _ _).symm

end Cert.AdaBwdProof

end
-- ==== Proof.Adam.lean ====
module

public import Idealize.ShloMosaic.Lib.Pointwise

/- One entry of the AdamW update, on the extended reals. -/

@[expose] public section

noncomputable section

namespace Cert.Adam

open Idealize.ShloMosaic

/-- The first moment: `0.9` of the old one and `0.1` of the gradient. -/
def moment (g m : EReal) : EReal := Ideal.ofBits .f32 0x3F666666#32 * m + Ideal.ofBits .f32 0x3DCCCCCD#32 * g

/-- The second moment: `0.999` of the old one and `0.001` of the gradient's square. -/
def square (g v : EReal) : EReal := Ideal.ofBits .f32 0x3F7FBE77#32 * v + Ideal.ofBits .f32 0x3A83126F#32 * (g * g)

/-- The step of the weight `w`: the corrected first moment over the root of the corrected second, with weight decay, times the negative rate. -/
def step (w g m v : EReal) : EReal :=
  Ideal.ofBits .f32 0xBA83126F#32 * (Ideal.div (Ideal.div (moment g m) (Ideal.ofBits .f32 0x3F26BD02#32))
    (Ideal.sqrt (Ideal.div (square g v) (Ideal.ofBits .f32 0x3C231ACC#32)) + Ideal.ofBits .f32 0x322BCC77#32)
      + Ideal.ofBits .f32 0x3C23D70A#32 * w)

end Cert.Adam

end
-- ==== Proof.AdamAda.lean ====
module

public import proofs.«01_k».proof.Defs
public import proofs.«01_k».proof.Proof.Gen.AdamAda.Frame
public import proofs.«01_k».proof.Proof.Gen.AdamAdaIdeal.Value
public import proofs.«01_k».proof.Proof.Gen.AdamAdaReferenceIdeal.Run
public import proofs.«01_k».proof.Proof.Gen.AdamAdaReferenceIdeal.Read
public import proofs.«01_k».proof.Proof.Adam
public import Idealize.ShloMosaic.Lib.Claim
public import Idealize.ShloMosaic.Lib.Pointwise
public import Idealize.ShloMosaic.Lib.Pipeline.ValueKit.Basic

/- The AdamW update of the modulation weights of both layers.  Kernel and reference. -/

@[expose] public section

set_option maxRecDepth 16384

noncomputable section

namespace Cert.AdamAdaProof

open Idealize.ShloMosaic Idealize.ShloMosaic.TcCoe Idealize.SL.Sem Cert.AdamAdaIdeal Cert.AdamAdaIdeal.Gen

open Cert.Adam

/-- Grid point `t` takes 128 rows of every array. -/
theorem index (t : Fin cfg0.N) : (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) := by
  revert t
  change ∀ t : Fin grid0.N, _
  decide +kernel

section Block

variable (w g m v : Vec Ideal S128x3072 .f32) (r : Fin 128) (n : Fin 3072)

/-- The step that the body stores. -/
theorem stored4 : out0_4 w g m v (ix2 r n) = step (w (ix2 r n)) (g (ix2 r n)) (m (ix2 r n)) (v (ix2 r n)) := by
  have e : out0_4 w g m v = k0_pay4 g m v w := by
    unfold out0_4
    rw [View.canon_cons_unit_lit _ _ _ (by decide), View.ld_unit_lit _ _ (by decide), View.ld_unit_lit _ _ (by decide), View.ld_unit_lit _ _ (by decide), View.ld_unit_lit _ _ (by decide)]
  rw [e]
  unfold step moment square
  pointwise [k0_pay4, k0_pay2, k0_pay3, k0_pay1]

/-- The first moment that the body stores. -/
theorem stored5 : out0_5 w g m v (ix2 r n) = moment (g (ix2 r n)) (m (ix2 r n)) := by
  have e : out0_5 w g m v = k0_pay2 g m := by
    unfold out0_5
    rw [View.canon_cons_unit_lit _ _ _ (by decide), View.ld_unit_lit _ _ (by decide), View.ld_unit_lit _ _ (by decide)]
  rw [e]
  unfold moment
  pointwise [k0_pay2, k0_pay1]

/-- The second moment that the body stores. -/
theorem stored6 : out0_6 w g m v (ix2 r n) = square (g (ix2 r n)) (v (ix2 r n)) := by
  have e : out0_6 w g m v = k0_pay3 g v := by
    unfold out0_6
    rw [View.canon_cons_unit_lit _ _ _ (by decide), View.ld_unit_lit _ _ (by decide), View.ld_unit_lit _ _ (by decide)]
  rw [e]
  unfold square
  pointwise [k0_pay3, k0_pay1]

end Block

variable (m : (ℓ : Loc nD τ sig) → Buf (Elt Ideal) ℓ) (c : Dev nD)

/-- The argument arrays. -/
abbrev arg0 : Vec Ideal S2x2048x3072 .f32 := m ((c : Thread nD τ).loc main_arg0)
abbrev arg1 : Vec Ideal S2x2048x3072 .f32 := m ((c : Thread nD τ).loc main_arg1)
abbrev arg2 : Vec Ideal S2x2048x3072 .f32 := m ((c : Thread nD τ).loc main_arg2)
abbrev arg3 : Vec Ideal S2x2048x3072 .f32 := m ((c : Thread nD τ).loc main_arg3)

/-- The host lays array 0's two layers one after the other. -/
theorem laid0 (r : Fin 4096) (n : Fin 3072) : (V m c main_v0 : Vec Ideal S4096x3072 .f32) (ix2 r n)
    = (arg0 m c) (ix3 ⟨r.val / 2048, by omega⟩ ⟨r.val % 2048, by omega⟩ n) := by
  entry_read
  pointwise

/-- The host lays array 1's two layers one after the other. -/
theorem laid1 (r : Fin 4096) (n : Fin 3072) : (V m c main_v1 : Vec Ideal S4096x3072 .f32) (ix2 r n)
    = (arg1 m c) (ix3 ⟨r.val / 2048, by omega⟩ ⟨r.val % 2048, by omega⟩ n) := by
  entry_read
  pointwise

/-- The host lays array 2's two layers one after the other. -/
theorem laid2 (r : Fin 4096) (n : Fin 3072) : (V m c main_v2 : Vec Ideal S4096x3072 .f32) (ix2 r n)
    = (arg2 m c) (ix3 ⟨r.val / 2048, by omega⟩ ⟨r.val % 2048, by omega⟩ n) := by
  entry_read
  pointwise

/-- The host lays array 3's two layers one after the other. -/
theorem laid3 (r : Fin 4096) (n : Fin 3072) : (V m c main_v3 : Vec Ideal S4096x3072 .f32) (ix2 r n)
    = (arg3 m c) (ix3 ⟨r.val / 2048, by omega⟩ ⟨r.val % 2048, by omega⟩ n) := by
  entry_read
  pointwise

section Array

variable {t : Fin cfg0.N} {r : Fin 4096} (ht : t.val = r.val / 128) (n : Fin 3072)

include ht in
/-- Point `t`'s block of array 0. -/
theorem block0 : (iblk m c 0 t : Vec Ideal S128x3072 .f32) (ix2 ⟨r.val % 128, by omega⟩ n) = ((arg0 m c) (ix3 ⟨r.val / 2048, by omega⟩ ⟨r.val % 2048, by omega⟩ n)) := by
  obtain ⟨i, -⟩ := index t
  refine Eq.trans ?_ (laid0 m c r n)
  unfold iblk
  rw [View.read_apply]
  refine congrArg (V m c main_v0) (funext fun a => Fin.ext ?_)
  match a with
  | ⟨0, _⟩ => show win0_0.index t 0 * 128 + 1 * (r.val % 128) = r.val; rw [i.1] <;> omega
  | ⟨1, _⟩ => show win0_0.index t 1 * 3072 + 1 * n.val = n.val; rw [i.2] <;> omega

include ht in
/-- Point `t`'s block of array 1. -/
theorem block1 : (iblk m c 1 t : Vec Ideal S128x3072 .f32) (ix2 ⟨r.val % 128, by omega⟩ n) = ((arg1 m c) (ix3 ⟨r.val / 2048, by omega⟩ ⟨r.val % 2048, by omega⟩ n)) := by
  obtain ⟨-, i, -⟩ := index t
  refine Eq.trans ?_ (laid1 m c r n)
  unfold iblk
  rw [View.read_apply]
  refine congrArg (V m c main_v1) (funext fun a => Fin.ext ?_)
  match a with
  | ⟨0, _⟩ => show win0_1.index t 0 * 128 + 1 * (r.val % 128) = r.val; rw [i.1] <;> omega
  | ⟨1, _⟩ => show win0_1.index t 1 * 3072 + 1 * n.val = n.val; rw [i.2] <;> omega

include ht in
/-- Point `t`'s block of array 2. -/
theorem block2 : (iblk m c 2 t : Vec Ideal S128x3072 .f32) (ix2 ⟨r.val % 128, by omega⟩ n) = ((arg2 m c) (ix3 ⟨r.val / 2048, by omega⟩ ⟨r.val % 2048, by omega⟩ n)) := by
  obtain ⟨-, -, i, -⟩ := index t
  refine Eq.trans ?_ (laid2 m c r n)
  unfold iblk
  rw [View.read_apply]
  refine congrArg (V m c main_v2) (funext fun a => Fin.ext ?_)
  match a with
  | ⟨0, _⟩ => show win0_2.index t 0 * 128 + 1 * (r.val % 128) = r.val; rw [i.1] <;> omega
  | ⟨1, _⟩ => show win0_2.index t 1 * 3072 + 1 * n.val = n.val; rw [i.2] <;> omega

include ht in
/-- Point `t`'s block of array 3. -/
theorem block3 : (iblk m c 3 t : Vec Ideal S128x3072 .f32) (ix2 ⟨r.val % 128, by omega⟩ n) = ((arg3 m c) (ix3 ⟨r.val / 2048, by omega⟩ ⟨r.val % 2048, by omega⟩ n)) := by
  obtain ⟨-, -, -, i, -⟩ := index t
  refine Eq.trans ?_ (laid3 m c r n)
  unfold iblk
  rw [View.read_apply]
  refine congrArg (V m c main_v3) (funext fun a => Fin.ext ?_)
  match a with
  | ⟨0, _⟩ => show win0_3.index t 0 * 128 + 1 * (r.val % 128) = r.val; rw [i.1] <;> omega
  | ⟨1, _⟩ => show win0_3.index t 1 * 3072 + 1 * n.val = n.val; rw [i.2] <;> omega

end Array

/-- The step that the kernel leaves. -/
theorem kernel_entry4 (r : Fin 4096) (n : Fin 3072) : ((dats m 0 c).arrAt 4 cfg0.N : Vec Ideal S4096x3072 .f32) (ix2 r n)
    = step ((arg0 m c) (ix3 ⟨r.val / 2048, by omega⟩ ⟨r.val % 2048, by omega⟩ n)) ((arg1 m c) (ix3 ⟨r.val / 2048, by omega⟩ ⟨r.val % 2048, by omega⟩ n)) ((arg2 m c) (ix3 ⟨r.val / 2048, by omega⟩ ⟨r.val % 2048, by omega⟩ n)) ((arg3 m c) (ix3 ⟨r.val / 2048, by omega⟩ ⟨r.val % 2048, by omega⟩ n)) := by
  obtain ⟨t, ht⟩ : ∃ t : Fin cfg0.N, t.val = r.val / 128 := ⟨⟨r.val / 128, lt_of_lt_of_eq (by omega) N_0.symm⟩, rfl⟩
  obtain ⟨-, -, -, -, i, -⟩ := index t
  have b := congrFun (Value.blocks4 m c t (flush0_4 t)) (ix2 ⟨r.val % 128, by omega⟩ n)
  rw [View.read_apply, Value.flushed4] at b
  have hy : (((cfg0.win 4).blk t).view.emb (ix2 ⟨r.val % 128, by omega⟩ n) : S4096x3072.Idx) = ix2 r n := by
    refine funext fun a => Fin.ext ?_
    match a with
    | ⟨0, _⟩ => show win0_4.index t 0 * 128 + 1 * (r.val % 128) = r.val; rw [i.1] <;> omega
    | ⟨1, _⟩ => show win0_4.index t 1 * 3072 + 1 * n.val = n.val; rw [i.2] <;> omega
  rw [hy] at b
  refine b.trans ((stored4 _ _ _ _ _ _).trans ?_)
  rw [block0 m c ht n, block1 m c ht n, block2 m c ht n, block3 m c ht n]

/-- The first moment that the kernel leaves. -/
theorem kernel_entry5 (r : Fin 4096) (n : Fin 3072) : ((dats m 0 c).arrAt 5 cfg0.N : Vec Ideal S4096x3072 .f32) (ix2 r n)
    = moment ((arg1 m c) (ix3 ⟨r.val / 2048, by omega⟩ ⟨r.val % 2048, by omega⟩ n)) ((arg2 m c) (ix3 ⟨r.val / 2048, by omega⟩ ⟨r.val % 2048, by omega⟩ n)) := by
  obtain ⟨t, ht⟩ : ∃ t : Fin cfg0.N, t.val = r.val / 128 := ⟨⟨r.val / 128, lt_of_lt_of_eq (by omega) N_0.symm⟩, rfl⟩
  obtain ⟨-, -, -, -, -, i, -⟩ := index t
  have b := congrFun (Value.blocks5 m c t (flush0_5 t)) (ix2 ⟨r.val % 128, by omega⟩ n)
  rw [View.read_apply, Value.flushed5] at b
  have hy : (((cfg0.win 5).blk t).view.emb (ix2 ⟨r.val % 128, by omega⟩ n) : S4096x3072.Idx) = ix2 r n := by
    refine funext fun a => Fin.ext ?_
    match a with
    | ⟨0, _⟩ => show win0_5.index t 0 * 128 + 1 * (r.val % 128) = r.val; rw [i.1] <;> omega
    | ⟨1, _⟩ => show win0_5.index t 1 * 3072 + 1 * n.val = n.val; rw [i.2] <;> omega
  rw [hy] at b
  refine b.trans ((stored5 _ _ _ _ _ _).trans ?_)
  rw [block1 m c ht n, block2 m c ht n]

/-- The second moment that the kernel leaves. -/
theorem kernel_entry6 (r : Fin 4096) (n : Fin 3072) : ((dats m 0 c).arrAt 6 cfg0.N : Vec Ideal S4096x3072 .f32) (ix2 r n)
    = square ((arg1 m c) (ix3 ⟨r.val / 2048, by omega⟩ ⟨r.val % 2048, by omega⟩ n)) ((arg3 m c) (ix3 ⟨r.val / 2048, by omega⟩ ⟨r.val % 2048, by omega⟩ n)) := by
  obtain ⟨t, ht⟩ : ∃ t : Fin cfg0.N, t.val = r.val / 128 := ⟨⟨r.val / 128, lt_of_lt_of_eq (by omega) N_0.symm⟩, rfl⟩
  obtain ⟨-, -, -, -, -, -, i⟩ := index t
  have b := congrFun (Value.blocks6 m c t (flush0_6 t)) (ix2 ⟨r.val % 128, by omega⟩ n)
  rw [View.read_apply, Value.flushed6] at b
  have hy : (((cfg0.win 6).blk t).view.emb (ix2 ⟨r.val % 128, by omega⟩ n) : S4096x3072.Idx) = ix2 r n := by
    refine funext fun a => Fin.ext ?_
    match a with
    | ⟨0, _⟩ => show win0_6.index t 0 * 128 + 1 * (r.val % 128) = r.val; rw [i.1] <;> omega
    | ⟨1, _⟩ => show win0_6.index t 1 * 3072 + 1 * n.val = n.val; rw [i.2] <;> omega
  rw [hy] at b
  refine b.trans ((stored6 _ _ _ _ _ _).trans ?_)
  rw [block1 m c ht n, block3 m c ht n]

open Cert.AdamAdaReferenceIdeal.Read in
/-- The step of the reference. -/
theorem reference_entry4 (x0 x1 x2 x3 : Vec Ideal S2x2048x3072 .f32) (r : Fin 4096) (n : Fin 3072) :
    val_main_v24 (F := Ideal) x0 x1 x2 x3 (ix2 r n) = step (x0 (ix3 ⟨r.val / 2048, by omega⟩ ⟨r.val % 2048, by omega⟩ n)) (x1 (ix3 ⟨r.val / 2048, by omega⟩ ⟨r.val % 2048, by omega⟩ n)) (x2 (ix3 ⟨r.val / 2048, by omega⟩ ⟨r.val % 2048, by omega⟩ n)) (x3 (ix3 ⟨r.val / 2048, by omega⟩ ⟨r.val % 2048, by omega⟩ n)) := by
  unfold step moment square
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

open Cert.AdamAdaReferenceIdeal.Read in
/-- The first moment of the reference. -/
theorem reference_entry5 (x1 x2 : Vec Ideal S2x2048x3072 .f32) (r : Fin 4096) (n : Fin 3072) :
    val_main_v25 (F := Ideal) x1 x2 (ix2 r n) = moment (x1 (ix3 ⟨r.val / 2048, by omega⟩ ⟨r.val % 2048, by omega⟩ n)) (x2 (ix3 ⟨r.val / 2048, by omega⟩ ⟨r.val % 2048, by omega⟩ n)) := by
  unfold moment
  pointwise [val_main_v4, val_main_v3, val_main_v2, val_main_v1, val_main_v0, val_main_cst, val_main_cst_0, val_main_v25]

open Cert.AdamAdaReferenceIdeal.Read in
/-- The second moment of the reference. -/
theorem reference_entry6 (x1 x3 : Vec Ideal S2x2048x3072 .f32) (r : Fin 4096) (n : Fin 3072) :
    val_main_v26 (F := Ideal) x1 x3 (ix2 r n) = square (x1 (ix3 ⟨r.val / 2048, by omega⟩ ⟨r.val % 2048, by omega⟩ n)) (x3 (ix3 ⟨r.val / 2048, by omega⟩ ⟨r.val % 2048, by omega⟩ n)) := by
  unfold square
  pointwise [val_main_v10, val_main_v9, val_main_v8, val_main_v7, val_main_v6, val_main_v5, val_main_v4, val_main_v3, val_main_v2, val_main_v1, val_main_v0, val_main_cst, val_main_cst_0, val_main_cst_1, val_main_cst_2, val_main_v26]

/-- The kernel runs on the machine, keeps its arguments, and ends with every counter at zero. -/
theorem frame : Cert.quiescent_AdamAda := fun m ρ _ => Cert.AdamAda.Gen.frame m ρ

/-- The same of its idealization. -/
theorem frameIdeal : Cert.quiescent_AdamAdaIdeal := fun m ρ _ => Cert.AdamAdaIdeal.Gen.frame m ρ

/-- The same of the reference. -/
theorem frameReference : Cert.quiescent_AdamAdaReferenceIdeal := fun m ρ _ =>
  (θ_run Cert.AdamAdaReferenceIdeal.defs _ _).mono (fun r h => ⟨fun c => (h c).2.2.2, sem_eq_zero_of_no_sems (by decide) r.2⟩)
    (Cert.AdamAdaReferenceIdeal.Value.run (F := Ideal) m ρ)

/-- The kernel's steps and moments are the reference's. -/
theorem algebraic : Cert.algebraic_AdamAdaIdeal_AdamAdaReferenceIdeal := by
  intro m g m' g' _ hin
  refine ⟨_, _, _, Value.run_blocks m g, (θ_run Cert.AdamAdaReferenceIdeal.defs _ _).mono (fun r h c => ?_)
    (Cert.AdamAdaReferenceIdeal.Value.run (F := Ideal) m' g')⟩
  obtain ⟨h0, h1, h2, hargs⟩ := h c
  obtain ⟨a0, a1, a2, a3⟩ := hin c
  refine ⟨?_, ?_, ?_, hargs⟩
  · refine (h0.trans (Cert.AdamAdaReferenceIdeal.Read.val_main_v24_eq _ _ _ _)).trans ?_
    rw [a0, a1, a2, a3]
    funext i
    rw [eq_ix2 i]
    exact (reference_entry4 _ _ _ _ _ _).trans (kernel_entry4 m c _ _).symm
  · refine (h1.trans (Cert.AdamAdaReferenceIdeal.Read.val_main_v25_eq _ _)).trans ?_
    rw [a1, a2]
    funext i
    rw [eq_ix2 i]
    exact (reference_entry5 _ _ _ _).trans (kernel_entry5 m c _ _).symm
  · refine (h2.trans (Cert.AdamAdaReferenceIdeal.Read.val_main_v26_eq _ _)).trans ?_
    rw [a1, a3]
    funext i
    rw [eq_ix2 i]
    exact (reference_entry6 _ _ _ _).trans (kernel_entry6 m c _ _).symm

end Cert.AdamAdaProof

end
-- ==== Proof.AdamSmall.lean ====
module

public import proofs.«01_k».proof.Defs
public import proofs.«01_k».proof.Proof.Gen.AdamSmall.Frame
public import proofs.«01_k».proof.Proof.Gen.AdamSmallIdeal.Value
public import proofs.«01_k».proof.Proof.Gen.AdamSmallReferenceIdeal.Run
public import proofs.«01_k».proof.Proof.Gen.AdamSmallReferenceIdeal.Read
public import proofs.«01_k».proof.Proof.Adam
public import Idealize.ShloMosaic.Lib.Claim
public import Idealize.ShloMosaic.Lib.Pointwise
public import Idealize.ShloMosaic.Lib.Pipeline.ValueKit.Basic

/- The AdamW update of the slab that holds the small weights.  Kernel and reference. -/

@[expose] public section

set_option maxRecDepth 16384

noncomputable section

namespace Cert.AdamSmallProof

open Idealize.ShloMosaic Idealize.ShloMosaic.TcCoe Idealize.SL.Sem Cert.AdamSmallIdeal Cert.AdamSmallIdeal.Gen

open Cert.Adam

/-- Grid point `t` takes 640 rows of every array. -/
theorem index (t : Fin cfg0.N) : (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) := by
  revert t
  change ∀ t : Fin grid0.N, _
  decide +kernel

section Block

variable (w g m v : Vec Ideal S640x128 .f32) (r : Fin 640) (n : Fin 128)

/-- The step that the body stores. -/
theorem stored4 : out0_4 w g m v (ix2 r n) = step (w (ix2 r n)) (g (ix2 r n)) (m (ix2 r n)) (v (ix2 r n)) := by
  have e : out0_4 w g m v = k0_pay3 g m v w := by
    unfold out0_4
    rw [View.canon_cons_unit_lit _ _ _ (by decide), View.ld_unit_lit _ _ (by decide), View.ld_unit_lit _ _ (by decide), View.ld_unit_lit _ _ (by decide), View.ld_unit_lit _ _ (by decide)]
  rw [e]
  unfold step moment square
  pointwise [k0_pay3, k0_pay1, k0_pay2]

/-- The first moment that the body stores. -/
theorem stored5 : out0_5 w g m v (ix2 r n) = moment (g (ix2 r n)) (m (ix2 r n)) := by
  have e : out0_5 w g m v = k0_pay1 g m := by
    unfold out0_5
    rw [View.canon_cons_unit_lit _ _ _ (by decide), View.ld_unit_lit _ _ (by decide), View.ld_unit_lit _ _ (by decide)]
  rw [e]
  unfold moment
  pointwise [k0_pay1]

/-- The second moment that the body stores. -/
theorem stored6 : out0_6 w g m v (ix2 r n) = square (g (ix2 r n)) (v (ix2 r n)) := by
  have e : out0_6 w g m v = k0_pay2 g v := by
    unfold out0_6
    rw [View.canon_cons_unit_lit _ _ _ (by decide), View.ld_unit_lit _ _ (by decide), View.ld_unit_lit _ _ (by decide)]
  rw [e]
  unfold square
  pointwise [k0_pay2]

end Block

variable (m : (ℓ : Loc nD τ sig) → Buf (Elt Ideal) ℓ) (c : Dev nD)

/-- The argument arrays. -/
abbrev arg0 : Vec Ideal S2560x128 .f32 := m ((c : Thread nD τ).loc main_arg0)
abbrev arg1 : Vec Ideal S2560x128 .f32 := m ((c : Thread nD τ).loc main_arg1)
abbrev arg2 : Vec Ideal S2560x128 .f32 := m ((c : Thread nD τ).loc main_arg2)
abbrev arg3 : Vec Ideal S2560x128 .f32 := m ((c : Thread nD τ).loc main_arg3)

section Array

variable {t : Fin cfg0.N} {r : Fin 2560} (ht : t.val = r.val / 640) (n : Fin 128)

include ht in
/-- Point `t`'s block of array 0. -/
theorem block0 : (iblk m c 0 t : Vec Ideal S640x128 .f32) (ix2 ⟨r.val % 640, by omega⟩ n) = ((arg0 m c) (ix2 r n)) := by
  obtain ⟨i, -⟩ := index t
  unfold iblk
  rw [View.read_apply]
  show V m c main_arg0 _ = _
  rw [V_main_arg0]
  refine congrArg (arg0 m c) (funext fun a => Fin.ext ?_)
  match a with
  | ⟨0, _⟩ => show win0_0.index t 0 * 640 + 1 * (r.val % 640) = r.val; rw [i.1] <;> omega
  | ⟨1, _⟩ => show win0_0.index t 1 * 128 + 1 * n.val = n.val; rw [i.2] <;> omega

include ht in
/-- Point `t`'s block of array 1. -/
theorem block1 : (iblk m c 1 t : Vec Ideal S640x128 .f32) (ix2 ⟨r.val % 640, by omega⟩ n) = ((arg1 m c) (ix2 r n)) := by
  obtain ⟨-, i, -⟩ := index t
  unfold iblk
  rw [View.read_apply]
  show V m c main_arg1 _ = _
  rw [V_main_arg1]
  refine congrArg (arg1 m c) (funext fun a => Fin.ext ?_)
  match a with
  | ⟨0, _⟩ => show win0_1.index t 0 * 640 + 1 * (r.val % 640) = r.val; rw [i.1] <;> omega
  | ⟨1, _⟩ => show win0_1.index t 1 * 128 + 1 * n.val = n.val; rw [i.2] <;> omega

include ht in
/-- Point `t`'s block of array 2. -/
theorem block2 : (iblk m c 2 t : Vec Ideal S640x128 .f32) (ix2 ⟨r.val % 640, by omega⟩ n) = ((arg2 m c) (ix2 r n)) := by
  obtain ⟨-, -, i, -⟩ := index t
  unfold iblk
  rw [View.read_apply]
  show V m c main_arg2 _ = _
  rw [V_main_arg2]
  refine congrArg (arg2 m c) (funext fun a => Fin.ext ?_)
  match a with
  | ⟨0, _⟩ => show win0_2.index t 0 * 640 + 1 * (r.val % 640) = r.val; rw [i.1] <;> omega
  | ⟨1, _⟩ => show win0_2.index t 1 * 128 + 1 * n.val = n.val; rw [i.2] <;> omega

include ht in
/-- Point `t`'s block of array 3. -/
theorem block3 : (iblk m c 3 t : Vec Ideal S640x128 .f32) (ix2 ⟨r.val % 640, by omega⟩ n) = ((arg3 m c) (ix2 r n)) := by
  obtain ⟨-, -, -, i, -⟩ := index t
  unfold iblk
  rw [View.read_apply]
  show V m c main_arg3 _ = _
  rw [V_main_arg3]
  refine congrArg (arg3 m c) (funext fun a => Fin.ext ?_)
  match a with
  | ⟨0, _⟩ => show win0_3.index t 0 * 640 + 1 * (r.val % 640) = r.val; rw [i.1] <;> omega
  | ⟨1, _⟩ => show win0_3.index t 1 * 128 + 1 * n.val = n.val; rw [i.2] <;> omega

end Array

/-- The step that the kernel leaves. -/
theorem kernel_entry4 (r : Fin 2560) (n : Fin 128) : ((dats m 0 c).arrAt 4 cfg0.N : Vec Ideal S2560x128 .f32) (ix2 r n)
    = step ((arg0 m c) (ix2 r n)) ((arg1 m c) (ix2 r n)) ((arg2 m c) (ix2 r n)) ((arg3 m c) (ix2 r n)) := by
  obtain ⟨t, ht⟩ : ∃ t : Fin cfg0.N, t.val = r.val / 640 := ⟨⟨r.val / 640, lt_of_lt_of_eq (by omega) N_0.symm⟩, rfl⟩
  obtain ⟨-, -, -, -, i, -⟩ := index t
  have b := congrFun (Value.blocks4 m c t (flush0_4 t)) (ix2 ⟨r.val % 640, by omega⟩ n)
  rw [View.read_apply, Value.flushed4] at b
  have hy : (((cfg0.win 4).blk t).view.emb (ix2 ⟨r.val % 640, by omega⟩ n) : S2560x128.Idx) = ix2 r n := by
    refine funext fun a => Fin.ext ?_
    match a with
    | ⟨0, _⟩ => show win0_4.index t 0 * 640 + 1 * (r.val % 640) = r.val; rw [i.1] <;> omega
    | ⟨1, _⟩ => show win0_4.index t 1 * 128 + 1 * n.val = n.val; rw [i.2] <;> omega
  rw [hy] at b
  refine b.trans ((stored4 _ _ _ _ _ _).trans ?_)
  rw [block0 m c ht n, block1 m c ht n, block2 m c ht n, block3 m c ht n]

/-- The first moment that the kernel leaves. -/
theorem kernel_entry5 (r : Fin 2560) (n : Fin 128) : ((dats m 0 c).arrAt 5 cfg0.N : Vec Ideal S2560x128 .f32) (ix2 r n)
    = moment ((arg1 m c) (ix2 r n)) ((arg2 m c) (ix2 r n)) := by
  obtain ⟨t, ht⟩ : ∃ t : Fin cfg0.N, t.val = r.val / 640 := ⟨⟨r.val / 640, lt_of_lt_of_eq (by omega) N_0.symm⟩, rfl⟩
  obtain ⟨-, -, -, -, -, i, -⟩ := index t
  have b := congrFun (Value.blocks5 m c t (flush0_5 t)) (ix2 ⟨r.val % 640, by omega⟩ n)
  rw [View.read_apply, Value.flushed5] at b
  have hy : (((cfg0.win 5).blk t).view.emb (ix2 ⟨r.val % 640, by omega⟩ n) : S2560x128.Idx) = ix2 r n := by
    refine funext fun a => Fin.ext ?_
    match a with
    | ⟨0, _⟩ => show win0_5.index t 0 * 640 + 1 * (r.val % 640) = r.val; rw [i.1] <;> omega
    | ⟨1, _⟩ => show win0_5.index t 1 * 128 + 1 * n.val = n.val; rw [i.2] <;> omega
  rw [hy] at b
  refine b.trans ((stored5 _ _ _ _ _ _).trans ?_)
  rw [block1 m c ht n, block2 m c ht n]

/-- The second moment that the kernel leaves. -/
theorem kernel_entry6 (r : Fin 2560) (n : Fin 128) : ((dats m 0 c).arrAt 6 cfg0.N : Vec Ideal S2560x128 .f32) (ix2 r n)
    = square ((arg1 m c) (ix2 r n)) ((arg3 m c) (ix2 r n)) := by
  obtain ⟨t, ht⟩ : ∃ t : Fin cfg0.N, t.val = r.val / 640 := ⟨⟨r.val / 640, lt_of_lt_of_eq (by omega) N_0.symm⟩, rfl⟩
  obtain ⟨-, -, -, -, -, -, i⟩ := index t
  have b := congrFun (Value.blocks6 m c t (flush0_6 t)) (ix2 ⟨r.val % 640, by omega⟩ n)
  rw [View.read_apply, Value.flushed6] at b
  have hy : (((cfg0.win 6).blk t).view.emb (ix2 ⟨r.val % 640, by omega⟩ n) : S2560x128.Idx) = ix2 r n := by
    refine funext fun a => Fin.ext ?_
    match a with
    | ⟨0, _⟩ => show win0_6.index t 0 * 640 + 1 * (r.val % 640) = r.val; rw [i.1] <;> omega
    | ⟨1, _⟩ => show win0_6.index t 1 * 128 + 1 * n.val = n.val; rw [i.2] <;> omega
  rw [hy] at b
  refine b.trans ((stored6 _ _ _ _ _ _).trans ?_)
  rw [block1 m c ht n, block3 m c ht n]

open Cert.AdamSmallReferenceIdeal.Read in
/-- The step of the reference. -/
theorem reference_entry4 (x0 x1 x2 x3 : Vec Ideal S2560x128 .f32) (r : Fin 2560) (n : Fin 128) :
    val_main_v23 (F := Ideal) x0 x1 x2 x3 (ix2 r n) = step (x0 (ix2 r n)) (x1 (ix2 r n)) (x2 (ix2 r n)) (x3 (ix2 r n)) := by
  unfold step moment square
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3, val_main_cst_4, val_main_cst_5, val_main_cst_6, val_main_cst_7]

open Cert.AdamSmallReferenceIdeal.Read in
/-- The first moment of the reference. -/
theorem reference_entry5 (x1 x2 : Vec Ideal S2560x128 .f32) (r : Fin 2560) (n : Fin 128) :
    val_main_v4 (F := Ideal) x1 x2 (ix2 r n) = moment (x1 (ix2 r n)) (x2 (ix2 r n)) := by
  unfold moment
  pointwise [val_main_v4, val_main_v3, val_main_v2, val_main_v1, val_main_v0, val_main_cst, val_main_cst_0]

open Cert.AdamSmallReferenceIdeal.Read in
/-- The second moment of the reference. -/
theorem reference_entry6 (x1 x3 : Vec Ideal S2560x128 .f32) (r : Fin 2560) (n : Fin 128) :
    val_main_v10 (F := Ideal) x1 x3 (ix2 r n) = square (x1 (ix2 r n)) (x3 (ix2 r n)) := by
  unfold square
  pointwise [val_main_v10, val_main_v9, val_main_v8, val_main_v7, val_main_v6, val_main_v5, val_main_v4, val_main_v3, val_main_v2, val_main_v1, val_main_v0, val_main_cst, val_main_cst_0, val_main_cst_1, val_main_cst_2]

/-- The kernel runs on the machine, keeps its arguments, and ends with every counter at zero. -/
theorem frame : Cert.quiescent_AdamSmall := fun m ρ _ => Cert.AdamSmall.Gen.frame m ρ

/-- The same of its idealization. -/
theorem frameIdeal : Cert.quiescent_AdamSmallIdeal := fun m ρ _ => Cert.AdamSmallIdeal.Gen.frame m ρ

/-- The same of the reference. -/
theorem frameReference : Cert.quiescent_AdamSmallReferenceIdeal := fun m ρ _ =>
  (θ_run Cert.AdamSmallReferenceIdeal.defs _ _).mono (fun r h => ⟨fun c => (h c).2.2.2, sem_eq_zero_of_no_sems (by decide) r.2⟩)
    (Cert.AdamSmallReferenceIdeal.Value.run (F := Ideal) m ρ)

/-- The kernel's steps and moments are the reference's. -/
theorem algebraic : Cert.algebraic_AdamSmallIdeal_AdamSmallReferenceIdeal := by
  intro m g m' g' _ hin
  refine ⟨_, _, _, Value.run_blocks m g, (θ_run Cert.AdamSmallReferenceIdeal.defs _ _).mono (fun r h c => ?_)
    (Cert.AdamSmallReferenceIdeal.Value.run (F := Ideal) m' g')⟩
  obtain ⟨h0, h1, h2, hargs⟩ := h c
  obtain ⟨a0, a1, a2, a3⟩ := hin c
  refine ⟨?_, ?_, ?_, hargs⟩
  · refine (h0.trans (Cert.AdamSmallReferenceIdeal.Read.val_main_v23_eq _ _ _ _)).trans ?_
    rw [a0, a1, a2, a3]
    funext i
    rw [eq_ix2 i]
    exact (reference_entry4 _ _ _ _ _ _).trans (kernel_entry4 m c _ _).symm
  · refine (h1.trans (Cert.AdamSmallReferenceIdeal.Read.val_main_v4_eq _ _)).trans ?_
    rw [a1, a2]
    funext i
    rw [eq_ix2 i]
    exact (reference_entry5 _ _ _ _).trans (kernel_entry5 m c _ _).symm
  · refine (h2.trans (Cert.AdamSmallReferenceIdeal.Read.val_main_v10_eq _ _)).trans ?_
    rw [a1, a3]
    funext i
    rw [eq_ix2 i]
    exact (reference_entry6 _ _ _ _).trans (kernel_entry6 m c _ _).symm

end Cert.AdamSmallProof

end
-- ==== Proof.AdamIn.lean ====
module

public import proofs.«01_k».proof.Defs
public import proofs.«01_k».proof.Proof.Gen.AdamIn.Frame
public import proofs.«01_k».proof.Proof.Gen.AdamInIdeal.Value
public import proofs.«01_k».proof.Proof.Gen.AdamInReferenceIdeal.Run
public import proofs.«01_k».proof.Proof.Gen.AdamInReferenceIdeal.Read
public import Idealize.ShloMosaic.Lib.Pipeline.ReadBack
public import Idealize.ShloMosaic.Lib.Pipeline.ValueKit
public import proofs.«01_k».proof.Proof.Adam
public import Idealize.ShloMosaic.Lib.Claim
public import Idealize.ShloMosaic.Lib.Pointwise
public import Idealize.ShloMosaic.Lib.Pipeline.ValueKit.Basic

/- The AdamW update of one layer of the input projection's weights.  Kernel and reference. -/

@[expose] public section

set_option maxRecDepth 16384

noncomputable section

namespace Cert.AdamInProof

open Idealize.ShloMosaic Idealize.ShloMosaic.TcCoe Idealize.SL.Sem Cert.AdamInIdeal Cert.AdamInIdeal.Gen

open Cert.Adam

/-- Grid point `t` takes 512 rows of layer 0 of every array. -/
theorem index (t : Fin cfg0.N) : (win0_0.index t 0 = 0 ∧ win0_0.index t 1 = t.val ∧ win0_0.index t 2 = 0)
    ∧ (win0_1.index t 0 = 0 ∧ win0_1.index t 1 = t.val ∧ win0_1.index t 2 = 0)
    ∧ (win0_2.index t 0 = 0 ∧ win0_2.index t 1 = t.val ∧ win0_2.index t 2 = 0)
    ∧ (win0_3.index t 0 = 0 ∧ win0_3.index t 1 = t.val ∧ win0_3.index t 2 = 0)
    ∧ (win0_4.index t 0 = 0 ∧ win0_4.index t 1 = t.val ∧ win0_4.index t 2 = 0)
    ∧ (win0_5.index t 0 = 0 ∧ win0_5.index t 1 = t.val ∧ win0_5.index t 2 = 0)
    ∧ (win0_6.index t 0 = 0 ∧ win0_6.index t 1 = t.val ∧ win0_6.index t 2 = 0) := by
  revert t
  change ∀ t : Fin grid0.N, _
  decide +kernel

section Block

variable (w g m v : Vec Ideal S1x512x1152 .f32) (r : Fin 512) (n : Fin 1152)

/-- The body's step. -/
theorem step_apply : k0_pay1 (k0_pay7 g m v) w (ix3 0 r n) = step (w (ix3 0 r n)) (g (ix3 0 r n)) (m (ix3 0 r n)) (v (ix3 0 r n)) := by
  unfold step moment square
  pointwise [k0_pay1, k0_pay7, k0_pay4, k0_pay3, k0_pay2]

/-- The body's first moment. -/
theorem moment_apply : k0_pay5 g m (ix3 0 r n) = moment (g (ix3 0 r n)) (m (ix3 0 r n)) := by
  unfold moment
  pointwise [k0_pay5, k0_pay3, k0_pay2]

/-- The body's second moment. -/
theorem square_apply : k0_pay6 g v (ix3 0 r n) = square (g (ix3 0 r n)) (v (ix3 0 r n)) := by
  unfold square
  pointwise [k0_pay6, k0_pay4, k0_pay2]

end Block

variable (m : (ℓ : Loc nD τ sig) → Buf (Elt Ideal) ℓ) (c : Dev nD)

/-- The argument arrays. -/
abbrev arg0 : Vec Ideal S2x2048x1152 .f32 := m ((c : Thread nD τ).loc main_arg0)
abbrev arg1 : Vec Ideal S2x2048x1152 .f32 := m ((c : Thread nD τ).loc main_arg1)
abbrev arg2 : Vec Ideal S2x2048x1152 .f32 := m ((c : Thread nD τ).loc main_arg2)
abbrev arg3 : Vec Ideal S2x2048x1152 .f32 := m ((c : Thread nD τ).loc main_arg3)

/-- Point `t`'s block of the weights. -/
abbrev blk0 (t : Fin cfg0.N) : Vec Ideal S1x512x1152 .f32 := iblk m c 0 t

/-- Point `t`'s block of the gradient. -/
abbrev blk1 (t : Fin cfg0.N) : Vec Ideal S1x512x1152 .f32 := iblk m c 1 t

/-- Point `t`'s block of the first moment. -/
abbrev blk2 (t : Fin cfg0.N) : Vec Ideal S1x512x1152 .f32 := iblk m c 2 t

/-- Point `t`'s block of the second moment. -/
abbrev blk3 (t : Fin cfg0.N) : Vec Ideal S1x512x1152 .f32 := iblk m c 3 t

/-- The step that point `t` leaves. -/
theorem left4 (t : Fin cfg0.N) : (outsAt0 m c t).1 = k0_pay1 (k0_pay7 (blk1 m c t) (blk2 m c t) (blk3 m c t)) (blk0 m c t) := by
  unfold outsAt0
  frame_out

/-- The first moment that point `t` leaves. -/
theorem left5 (t : Fin cfg0.N) : (outsAt0 m c t).2.1 = k0_pay5 (blk1 m c t) (blk2 m c t) := by
  unfold outsAt0
  frame_out

/-- The second moment that point `t` leaves. -/
theorem left6 (t : Fin cfg0.N) : (outsAt0 m c t).2.2 = k0_pay6 (blk1 m c t) (blk3 m c t) := by
  unfold outsAt0
  frame_out

/-- Point `t`'s block of array 0 holds layer 0's rows. -/
theorem block0 {t : Fin cfg0.N} {r : Fin 2048} (ht : t.val = r.val / 512) (n : Fin 1152) :
    blk0 m c t (ix3 0 ⟨r.val % 512, by omega⟩ n) = (arg0 m c) (ix3 0 r n) := by
  obtain ⟨i, -⟩ := index t
  unfold blk0 iblk
  rw [View.read_apply]
  show V m c main_arg0 _ = _
  rw [V_main_arg0]
  refine congrArg (arg0 m c) (funext fun a => Fin.ext ?_)
  match a with
  | ⟨0, _⟩ => show win0_0.index t 0 * 1 + 1 * 0 = 0; rw [i.1]
  | ⟨1, _⟩ => show win0_0.index t 1 * 512 + 1 * (r.val % 512) = r.val; rw [i.2.1] <;> omega
  | ⟨2, _⟩ => show win0_0.index t 2 * 1152 + 1 * n.val = n.val; rw [i.2.2] <;> omega

/-- Point `t`'s block of array 1 holds layer 0's rows. -/
theorem block1 {t : Fin cfg0.N} {r : Fin 2048} (ht : t.val = r.val / 512) (n : Fin 1152) :
    blk1 m c t (ix3 0 ⟨r.val % 512, by omega⟩ n) = (arg1 m c) (ix3 0 r n) := by
  obtain ⟨-, i, -⟩ := index t
  unfold blk1 iblk
  rw [View.read_apply]
  show V m c main_arg1 _ = _
  rw [V_main_arg1]
  refine congrArg (arg1 m c) (funext fun a => Fin.ext ?_)
  match a with
  | ⟨0, _⟩ => show win0_1.index t 0 * 1 + 1 * 0 = 0; rw [i.1]
  | ⟨1, _⟩ => show win0_1.index t 1 * 512 + 1 * (r.val % 512) = r.val; rw [i.2.1] <;> omega
  | ⟨2, _⟩ => show win0_1.index t 2 * 1152 + 1 * n.val = n.val; rw [i.2.2] <;> omega

/-- Point `t`'s block of array 2 holds layer 0's rows. -/
theorem block2 {t : Fin cfg0.N} {r : Fin 2048} (ht : t.val = r.val / 512) (n : Fin 1152) :
    blk2 m c t (ix3 0 ⟨r.val % 512, by omega⟩ n) = (arg2 m c) (ix3 0 r n) := by
  obtain ⟨-, -, i, -⟩ := index t
  unfold blk2 iblk
  rw [View.read_apply]
  show V m c main_arg2 _ = _
  rw [V_main_arg2]
  refine congrArg (arg2 m c) (funext fun a => Fin.ext ?_)
  match a with
  | ⟨0, _⟩ => show win0_2.index t 0 * 1 + 1 * 0 = 0; rw [i.1]
  | ⟨1, _⟩ => show win0_2.index t 1 * 512 + 1 * (r.val % 512) = r.val; rw [i.2.1] <;> omega
  | ⟨2, _⟩ => show win0_2.index t 2 * 1152 + 1 * n.val = n.val; rw [i.2.2] <;> omega

/-- Point `t`'s block of array 3 holds layer 0's rows. -/
theorem block3 {t : Fin cfg0.N} {r : Fin 2048} (ht : t.val = r.val / 512) (n : Fin 1152) :
    blk3 m c t (ix3 0 ⟨r.val % 512, by omega⟩ n) = (arg3 m c) (ix3 0 r n) := by
  obtain ⟨-, -, -, i, -⟩ := index t
  unfold blk3 iblk
  rw [View.read_apply]
  show V m c main_arg3 _ = _
  rw [V_main_arg3]
  refine congrArg (arg3 m c) (funext fun a => Fin.ext ?_)
  match a with
  | ⟨0, _⟩ => show win0_3.index t 0 * 1 + 1 * 0 = 0; rw [i.1]
  | ⟨1, _⟩ => show win0_3.index t 1 * 512 + 1 * (r.val % 512) = r.val; rw [i.2.1] <;> omega
  | ⟨2, _⟩ => show win0_3.index t 2 * 1152 + 1 * n.val = n.val; rw [i.2.2] <;> omega

/-- The step of layer 0 that the kernel leaves. -/
theorem kernel_first4 (r : Fin 2048) (n : Fin 1152) : ((dats m 0 c).arrAt 4 cfg0.N : Vec Ideal S2x2048x1152 .f32) (ix3 0 r n)
    = step ((arg0 m c) (ix3 0 r n)) ((arg1 m c) (ix3 0 r n)) ((arg2 m c) (ix3 0 r n)) ((arg3 m c) (ix3 0 r n)) := by
  obtain ⟨t, ht⟩ : ∃ t : Fin cfg0.N, t.val = r.val / 512 := ⟨⟨r.val / 512, lt_of_lt_of_eq (by omega) N_0.symm⟩, rfl⟩
  obtain ⟨-, -, -, -, i, -⟩ := index t
  have b := congrFun (Value.blocks4 m c t (flush0_4 t)) (ix3 0 ⟨r.val % 512, by omega⟩ n)
  rw [View.read_apply, Value.flushed4, left4] at b
  have hy : (((cfg0.win 4).blk t).view.emb (ix3 0 ⟨r.val % 512, by omega⟩ n) : S2x2048x1152.Idx) = ix3 0 r n := by
    refine funext fun a => Fin.ext ?_
    match a with
    | ⟨0, _⟩ => show win0_4.index t 0 * 1 + 1 * 0 = 0; rw [i.1]
    | ⟨1, _⟩ => show win0_4.index t 1 * 512 + 1 * (r.val % 512) = r.val; rw [i.2.1] <;> omega
    | ⟨2, _⟩ => show win0_4.index t 2 * 1152 + 1 * n.val = n.val; rw [i.2.2] <;> omega
  rw [hy] at b
  refine b.trans ((step_apply _ _ _ _ _ _).trans ?_)
  rw [block0 m c ht n, block1 m c ht n, block2 m c ht n, block3 m c ht n]

/-- Layer 1 of the step is what the kernel was given. -/
theorem kernel_second4 (r : Fin 2048) (n : Fin 1152) : ((dats m 0 c).arrAt 4 cfg0.N : Vec Ideal S2x2048x1152 .f32) (ix3 1 r n)
    = (m ((c : Thread nD τ).loc main_arg4) : Vec Ideal S2x2048x1152 .f32) (ix3 1 r n) := by
  refine (Value.entry4 m c (ix3 1 r n) fun t _ hm => ?_).trans ?_
  · obtain ⟨-, -, -, -, i, -⟩ := index t
    obtain ⟨y, -, hy⟩ := Finset.mem_map.mp hm
    have e : win0_4.index t 0 * 1 + 1 * (y 0).val = 1 := congrArg Fin.val (congrFun hy 0)
    have hlt : (y 0).val < 1 := (y 0).isLt
    rw [i.1] at e
    omega
  · show V m c main_v0_0 _ = _
    entry_read
    rfl

/-- The first moment of layer 0 that the kernel leaves. -/
theorem kernel_first5 (r : Fin 2048) (n : Fin 1152) : ((dats m 0 c).arrAt 5 cfg0.N : Vec Ideal S2x2048x1152 .f32) (ix3 0 r n)
    = moment ((arg1 m c) (ix3 0 r n)) ((arg2 m c) (ix3 0 r n)) := by
  obtain ⟨t, ht⟩ : ∃ t : Fin cfg0.N, t.val = r.val / 512 := ⟨⟨r.val / 512, lt_of_lt_of_eq (by omega) N_0.symm⟩, rfl⟩
  obtain ⟨-, -, -, -, -, i, -⟩ := index t
  have b := congrFun (Value.blocks5 m c t (flush0_5 t)) (ix3 0 ⟨r.val % 512, by omega⟩ n)
  rw [View.read_apply, Value.flushed5, left5] at b
  have hy : (((cfg0.win 5).blk t).view.emb (ix3 0 ⟨r.val % 512, by omega⟩ n) : S2x2048x1152.Idx) = ix3 0 r n := by
    refine funext fun a => Fin.ext ?_
    match a with
    | ⟨0, _⟩ => show win0_5.index t 0 * 1 + 1 * 0 = 0; rw [i.1]
    | ⟨1, _⟩ => show win0_5.index t 1 * 512 + 1 * (r.val % 512) = r.val; rw [i.2.1] <;> omega
    | ⟨2, _⟩ => show win0_5.index t 2 * 1152 + 1 * n.val = n.val; rw [i.2.2] <;> omega
  rw [hy] at b
  refine b.trans ((moment_apply _ _ _ _).trans ?_)
  rw [block1 m c ht n, block2 m c ht n]

/-- Layer 1 of the first moment is what the kernel was given. -/
theorem kernel_second5 (r : Fin 2048) (n : Fin 1152) : ((dats m 0 c).arrAt 5 cfg0.N : Vec Ideal S2x2048x1152 .f32) (ix3 1 r n)
    = (m ((c : Thread nD τ).loc main_arg5) : Vec Ideal S2x2048x1152 .f32) (ix3 1 r n) := by
  refine (Value.entry5 m c (ix3 1 r n) fun t _ hm => ?_).trans ?_
  · obtain ⟨-, -, -, -, -, i, -⟩ := index t
    obtain ⟨y, -, hy⟩ := Finset.mem_map.mp hm
    have e : win0_5.index t 0 * 1 + 1 * (y 0).val = 1 := congrArg Fin.val (congrFun hy 0)
    have hlt : (y 0).val < 1 := (y 0).isLt
    rw [i.1] at e
    omega
  · show V m c main_v0_1 _ = _
    entry_read
    rfl

/-- The second moment of layer 0 that the kernel leaves. -/
theorem kernel_first6 (r : Fin 2048) (n : Fin 1152) : ((dats m 0 c).arrAt 6 cfg0.N : Vec Ideal S2x2048x1152 .f32) (ix3 0 r n)
    = square ((arg1 m c) (ix3 0 r n)) ((arg3 m c) (ix3 0 r n)) := by
  obtain ⟨t, ht⟩ : ∃ t : Fin cfg0.N, t.val = r.val / 512 := ⟨⟨r.val / 512, lt_of_lt_of_eq (by omega) N_0.symm⟩, rfl⟩
  obtain ⟨-, -, -, -, -, -, i⟩ := index t
  have b := congrFun (Value.blocks6 m c t (flush0_6 t)) (ix3 0 ⟨r.val % 512, by omega⟩ n)
  rw [View.read_apply, Value.flushed6, left6] at b
  have hy : (((cfg0.win 6).blk t).view.emb (ix3 0 ⟨r.val % 512, by omega⟩ n) : S2x2048x1152.Idx) = ix3 0 r n := by
    refine funext fun a => Fin.ext ?_
    match a with
    | ⟨0, _⟩ => show win0_6.index t 0 * 1 + 1 * 0 = 0; rw [i.1]
    | ⟨1, _⟩ => show win0_6.index t 1 * 512 + 1 * (r.val % 512) = r.val; rw [i.2.1] <;> omega
    | ⟨2, _⟩ => show win0_6.index t 2 * 1152 + 1 * n.val = n.val; rw [i.2.2] <;> omega
  rw [hy] at b
  refine b.trans ((square_apply _ _ _ _).trans ?_)
  rw [block1 m c ht n, block3 m c ht n]

/-- Layer 1 of the second moment is what the kernel was given. -/
theorem kernel_second6 (r : Fin 2048) (n : Fin 1152) : ((dats m 0 c).arrAt 6 cfg0.N : Vec Ideal S2x2048x1152 .f32) (ix3 1 r n)
    = (m ((c : Thread nD τ).loc main_arg6) : Vec Ideal S2x2048x1152 .f32) (ix3 1 r n) := by
  refine (Value.entry6 m c (ix3 1 r n) fun t _ hm => ?_).trans ?_
  · obtain ⟨-, -, -, -, -, -, i⟩ := index t
    obtain ⟨y, -, hy⟩ := Finset.mem_map.mp hm
    have e : win0_6.index t 0 * 1 + 1 * (y 0).val = 1 := congrArg Fin.val (congrFun hy 0)
    have hlt : (y 0).val < 1 := (y 0).isLt
    rw [i.1] at e
    omega
  · show V m c main_v0_2 _ = _
    entry_read
    rfl

open Cert.AdamInReferenceIdeal.Read in
/-- The step of the reference, layer 0. -/
theorem reference_first4 (x0 x1 x2 x3 x4 : Vec Ideal S2x2048x1152 .f32) (r : Fin 2048) (n : Fin 1152) :
    val_main_v36 (F := Ideal) x0 x1 x2 x3 x4 (ix3 0 r n) = step (x0 (ix3 0 r n)) (x1 (ix3 0 r n)) (x2 (ix3 0 r n)) (x3 (ix3 0 r n)) := by
  unfold step moment square
  pointwise [val_main_v36, val_main_v34, val_main_v35, val_main_v31, val_main_v33, val_main_v30, val_main_v29, val_main_v32, val_main_cst_7, val_main_v26, val_main_v28, val_main_v20, val_main_v25, val_main_v27, val_main_v1, val_main_v12, val_main_v19, val_main_v23, val_main_v24, val_main_cst_6, val_main_v0, val_main_v9, val_main_v11, val_main_cst_3, val_main_v22, val_main_cst_5, val_main_v8, val_main_v5, val_main_v10, val_main_v3, val_main_v18, val_main_v21, val_main_cst, val_main_v4, val_main_cst_0, val_main_v2, val_main_v14, val_main_v17, val_main_cst_4, val_main_v13, val_main_v7, val_main_v16, val_main_v15, val_main_cst_1, val_main_v6, val_main_cst_2]

open Cert.AdamInReferenceIdeal.Read in
/-- The step of the reference, layer 1. -/
theorem reference_second4 (x0 x1 x2 x3 x4 : Vec Ideal S2x2048x1152 .f32) (r : Fin 2048) (n : Fin 1152) :
    val_main_v36 (F := Ideal) x0 x1 x2 x3 x4 (ix3 1 r n) = x4 (ix3 1 r n) := by
  pointwise [val_main_v36, val_main_v34, val_main_v35, val_main_v31, val_main_v33, val_main_v30, val_main_v29, val_main_v32, val_main_cst_7, val_main_v26, val_main_v28, val_main_v20, val_main_v25, val_main_v27, val_main_v1, val_main_v12, val_main_v19, val_main_v23, val_main_v24, val_main_cst_6, val_main_v0, val_main_v9, val_main_v11, val_main_cst_3, val_main_v22, val_main_cst_5, val_main_v8, val_main_v5, val_main_v10, val_main_v3, val_main_v18, val_main_v21, val_main_cst, val_main_v4, val_main_cst_0, val_main_v2, val_main_v14, val_main_v17, val_main_cst_4, val_main_v13, val_main_v7, val_main_v16, val_main_v15, val_main_cst_1, val_main_v6, val_main_cst_2]

open Cert.AdamInReferenceIdeal.Read in
/-- The first moment of the reference, layer 0. -/
theorem reference_first5 (x1 x2 x5 : Vec Ideal S2x2048x1152 .f32) (r : Fin 2048) (n : Fin 1152) :
    val_main_v41 (F := Ideal) x1 x2 x5 (ix3 0 r n) = moment (x1 (ix3 0 r n)) (x2 (ix3 0 r n)) := by
  unfold moment
  pointwise [val_main_v41, val_main_v39, val_main_v40, val_main_v12, val_main_v38, val_main_v9, val_main_v11, val_main_v37, val_main_v8, val_main_v5, val_main_v10, val_main_v3, val_main_cst, val_main_v4, val_main_cst_0, val_main_v2]

open Cert.AdamInReferenceIdeal.Read in
/-- The first moment of the reference, layer 1. -/
theorem reference_second5 (x1 x2 x5 : Vec Ideal S2x2048x1152 .f32) (r : Fin 2048) (n : Fin 1152) :
    val_main_v41 (F := Ideal) x1 x2 x5 (ix3 1 r n) = x5 (ix3 1 r n) := by
  pointwise [val_main_v41, val_main_v39, val_main_v40, val_main_v12, val_main_v38, val_main_v9, val_main_v11, val_main_v37, val_main_v8, val_main_v5, val_main_v10, val_main_v3, val_main_cst, val_main_v4, val_main_cst_0, val_main_v2]

open Cert.AdamInReferenceIdeal.Read in
/-- The second moment of the reference, layer 0. -/
theorem reference_first6 (x1 x3 x6 : Vec Ideal S2x2048x1152 .f32) (r : Fin 2048) (n : Fin 1152) :
    val_main_v46 (F := Ideal) x1 x3 x6 (ix3 0 r n) = square (x1 (ix3 0 r n)) (x3 (ix3 0 r n)) := by
  unfold square
  pointwise [val_main_v46, val_main_v44, val_main_v45, val_main_v18, val_main_v43, val_main_v14, val_main_v17, val_main_v42, val_main_v13, val_main_v7, val_main_v16, val_main_v15, val_main_cst_1, val_main_v6, val_main_cst_2, val_main_v3, val_main_v2]

open Cert.AdamInReferenceIdeal.Read in
/-- The second moment of the reference, layer 1. -/
theorem reference_second6 (x1 x3 x6 : Vec Ideal S2x2048x1152 .f32) (r : Fin 2048) (n : Fin 1152) :
    val_main_v46 (F := Ideal) x1 x3 x6 (ix3 1 r n) = x6 (ix3 1 r n) := by
  pointwise [val_main_v46, val_main_v44, val_main_v45, val_main_v18, val_main_v43, val_main_v14, val_main_v17, val_main_v42, val_main_v13, val_main_v7, val_main_v16, val_main_v15, val_main_cst_1, val_main_v6, val_main_cst_2, val_main_v3, val_main_v2]

/-- The kernel runs on the machine, keeps its arguments, and ends with every counter at zero. -/
theorem frame : Cert.quiescent_AdamIn := fun m ρ _ => Cert.AdamIn.Gen.frame m ρ

/-- The same of its idealization. -/
theorem frameIdeal : Cert.quiescent_AdamInIdeal := fun m ρ _ => Cert.AdamInIdeal.Gen.frame m ρ

/-- The same of the reference. -/
theorem frameReference : Cert.quiescent_AdamInReferenceIdeal := fun m ρ _ =>
  (θ_run Cert.AdamInReferenceIdeal.defs _ _).mono (fun r h => ⟨fun c => (h c).2.2.2, sem_eq_zero_of_no_sems (by decide) r.2⟩)
    (Cert.AdamInReferenceIdeal.Value.run (F := Ideal) m ρ)

/-- The kernel's steps and moments are the reference's. -/
theorem algebraic : Cert.algebraic_AdamInIdeal_AdamInReferenceIdeal := by
  intro m g m' g' _ hin
  refine ⟨_, _, _, Value.run_blocks m g, (θ_run Cert.AdamInReferenceIdeal.defs _ _).mono (fun r h c => ?_)
    (Cert.AdamInReferenceIdeal.Value.run (F := Ideal) m' g')⟩
  obtain ⟨h0, h1, h2, hargs⟩ := h c
  obtain ⟨a0, a1, a2, a3, a4, a5, a6⟩ := hin c
  refine ⟨?_, ?_, ?_, hargs⟩
  · refine (h0.trans (Cert.AdamInReferenceIdeal.Read.val_main_v36_eq _ _ _ _ _)).trans ?_
    rw [a0, a1, a2, a3, a4]
    funext i
    obtain ⟨l, r, n, rfl⟩ : ∃ l r n, i = ix3 l r n := ⟨_, _, _, eq_ix3 i⟩
    match l with
    | ⟨0, _⟩ => exact (reference_first4 _ _ _ _ _ _ _).trans (kernel_first4 m c _ _).symm
    | ⟨1, _⟩ => exact (reference_second4 _ _ _ _ _ _ _).trans (kernel_second4 m c _ _).symm
  · refine (h1.trans (Cert.AdamInReferenceIdeal.Read.val_main_v41_eq _ _ _)).trans ?_
    rw [a1, a2, a5]
    funext i
    obtain ⟨l, r, n, rfl⟩ : ∃ l r n, i = ix3 l r n := ⟨_, _, _, eq_ix3 i⟩
    match l with
    | ⟨0, _⟩ => exact (reference_first5 _ _ _ _ _).trans (kernel_first5 m c _ _).symm
    | ⟨1, _⟩ => exact (reference_second5 _ _ _ _ _).trans (kernel_second5 m c _ _).symm
  · refine (h2.trans (Cert.AdamInReferenceIdeal.Read.val_main_v46_eq _ _ _)).trans ?_
    rw [a1, a3, a6]
    funext i
    obtain ⟨l, r, n, rfl⟩ : ∃ l r n, i = ix3 l r n := ⟨_, _, _, eq_ix3 i⟩
    match l with
    | ⟨0, _⟩ => exact (reference_first6 _ _ _ _ _).trans (kernel_first6 m c _ _).symm
    | ⟨1, _⟩ => exact (reference_second6 _ _ _ _ _).trans (kernel_second6 m c _ _).symm

end Cert.AdamInProof

end
-- ==== Proof.CctxGrad.lean ====
module

public import proofs.«01_k».proof.Defs
public import proofs.«01_k».proof.Proof.Gen.CctxGrad.Frame
public import proofs.«01_k».proof.Proof.Gen.CctxGradIdeal.Value
public import proofs.«01_k».proof.Proof.Gen.CctxGradReferenceIdeal.Run
public import proofs.«01_k».proof.Proof.Gen.CctxGradReferenceIdeal.Read
public import proofs.«01_k».proof.Proof.FfDown
public import Idealize.ShloMosaic.Lib.Pipeline.ValueKit
public import Idealize.ShloMosaic.Lib.Claim
public import Idealize.ShloMosaic.Lib.Pointwise
public import Idealize.ShloMosaic.Lib.Pipeline.ValueKit.Basic

/- The gradient of the context's constant conditioning vector: the sum of the four chips' parts through the derivative of `x · σ(x)`.  Kernel and reference. -/

@[expose] public section

set_option maxRecDepth 16384

noncomputable section

namespace Cert.CctxGradProof

open Idealize.ShloMosaic Idealize.ShloMosaic.TcCoe Idealize.SL.Sem Cert.CctxGradIdeal Cert.CctxGradIdeal.Gen

/-- Entry `(r, j)` of the sum of the four chips' parts. -/
def parts (x0 : Vec Ideal S8x16x128 .f32) (r : Fin 16) (j : Fin 128) : EReal :=
  x0 (ix3 0 r j) + x0 (ix3 2 r j) + x0 (ix3 4 r j) + x0 (ix3 6 r j)

/-- The derivative of `x · σ(x)` at `x`, applied to `t`. -/
def dsilu (t x : EReal) : EReal := t * Ideal.logistic x * (1 + x * (1 - Ideal.logistic x))

section Values

variable (x0 : Vec Ideal S8x16x128 .f32) (x1 : Vec Ideal S16x128 .f32) (r : Fin 16) (j : Fin 128)

/-- The sum of the parts is finite where they are. -/
theorem parts_real (h : ∀ i, x0 i ≠ ⊥ ∧ x0 i ≠ ⊤) : parts x0 r j ≠ ⊥ ∧ parts x0 r j ≠ ⊤ :=
  Silu.add_real (Silu.add_real (Silu.add_real (h _) (h _)) (h _)) (h _)

/-- The kernel's result. -/
theorem kernel_apply : Value.G2 x0 x1 (ix2 r j) = dsilu (parts x0 r j) (x1 (ix2 r j)) := by
  have e : ∀ (a b d e : Vec Ideal S1x16x128 .f32), k0_pay1 a b d e x1 (ix2 r j)
      = dsilu (a (ix3 0 r j) + b (ix3 0 r j) + d (ix3 0 r j) + e (ix3 0 r j)) (x1 (ix2 r j)) := fun a b d e => by
    unfold dsilu
    pointwise [k0_pay1]
  refine (e _ _ _ _).trans ?_
  unfold parts
  congr 1
  refine congrArg₂ (· + ·) (congrArg₂ (· + ·) (congrArg₂ (· + ·) ?_ ?_) ?_) ?_
  all_goals
    refine View.ld_unit_apply_of _ _ _ _ _ _ fun a => ?_
    match a with
    | ⟨0, _⟩ => rfl
    | ⟨1, _⟩ => show r.val = 0 + r.val; omega
    | ⟨2, _⟩ => show j.val = 0 + j.val; omega

open Cert.CctxGradReferenceIdeal.Read in
/-- The reference's result: the product rule, equal to `dsilu` at finite numbers. -/
theorem reference_apply (ht : parts x0 r j ≠ ⊥ ∧ parts x0 r j ≠ ⊤) (hx : x1 (ix2 r j) ≠ ⊥ ∧ x1 (ix2 r j) ≠ ⊤) :
    val_main_v12 (F := Ideal) x0 x1 (ix2 r j) = dsilu (parts x0 r j) (x1 (ix2 r j)) := by
  refine Eq.trans ?_ (Silu.product_rule ht hx)
  unfold parts
  pointwise [val_main_v12, val_main_call1_v0, val_main_call1_v1, val_main_call1_v2, val_main_v11_1, val_main_v11_2, val_main_call0_v7, val_main_call0_v6,
    val_main_call0_v4, val_main_call0_v3, val_main_call0_v2, val_main_call0_v1, val_main_call0_v0, val_main_call0_cst, val_main_call0_cst_0,
    val_main_call0_cst_1, val_main_v10, val_main_v9, val_main_v8, val_main_v7, val_main_v6, val_main_v5, val_main_v4, val_main_v3, val_main_v2,
    val_main_v1, val_main_v0]

end Values

section Claims

/-- The kernel runs on the machine, keeps its arguments, and ends with every counter at zero. -/
theorem frame : Cert.quiescent_CctxGrad := fun m ρ _ => Cert.CctxGrad.Gen.frame m ρ

/-- The same of its idealization. -/
theorem frameIdeal : Cert.quiescent_CctxGradIdeal := fun m ρ _ => Cert.CctxGradIdeal.Gen.frame m ρ

/-- The same of the reference. -/
theorem frameReference : Cert.quiescent_CctxGradReferenceIdeal := fun m ρ _ =>
  (θ_run Cert.CctxGradReferenceIdeal.defs _ _).mono (fun r h => ⟨fun c => (h c).2, sem_eq_zero_of_no_sems (by decide) r.2⟩)
    (Cert.CctxGradReferenceIdeal.Value.run (F := Ideal) m ρ)

/-- The side conditions that the precondition's operations take. -/
theorem preFacts : Cert.Pre_finite_cctx.Facts where
  bcast_S_S8x16x128 := by decide
  bcast_S_S16x128 := by decide

/-- The idealized kernel's frame at finite arguments. -/
theorem frameIdeal_pre : Cert.quiescent_CctxGradIdeal_pre_finite_cctx (hPre_finite_cctx := preFacts) := fun m ρ _ => frameIdeal m ρ trivial

/-- The reference's frame at finite arguments. -/
theorem frameReference_pre : Cert.quiescent_CctxGradReferenceIdeal_pre_finite_cctx (hPre_finite_cctx := preFacts) :=
  fun m ρ _ => frameReference m ρ trivial

/-- Where both arguments are finite, the kernel's gradient is the reference's. -/
theorem algebraic : Cert.algebraic_CctxGradIdeal_CctxGradReferenceIdeal_pre_finite_cctx (hPre_finite_cctx := preFacts) := by
  intro m g m' g' hpre hin
  refine ⟨_, Value.run m g, (θ_run Cert.CctxGradReferenceIdeal.defs _ _).mono (fun r h c => ?_)
    (Cert.CctxGradReferenceIdeal.Value.run (F := Ideal) m' g')⟩
  obtain ⟨h0, hargs⟩ := h c
  obtain ⟨a0, a1⟩ := hin c
  obtain ⟨f0, f1⟩ := hpre c
  refine ⟨(h0.trans (Cert.CctxGradReferenceIdeal.Read.val_main_v12_eq _ _)).trans ?_, hargs⟩
  rw [a0, a1]
  funext i
  rw [eq_ix2 i]
  refine (reference_apply _ _ _ _ ?_ (FfDownProof.finite_of_lt ?_)).trans (kernel_apply _ _ _ _).symm
  · exact parts_real _ _ _ fun i => FfDownProof.finite_of_lt (by rw [← Attn.ofBits_posInf]; exact congrFun f0 i)
  · rw [← Attn.ofBits_posInf]; exact congrFun f1 _

end Claims

end Cert.CctxGradProof

end
-- ==== Proof.Rows.lean ====
module

public import Idealize.ShloMosaic.Lib.Pointwise

/- The rows of the token matrix: nine blocks of 256 tokens, the context's block first and the latent's eight after it. -/

@[expose] public section

namespace Cert.Rows

/-- Token `r` of block `t`. -/
def row (t : Fin 9) (r : Fin 256) : Fin 2304 := ⟨t.val * 256 + r.val, by omega⟩

/-- The row of a modulation that block `t` takes: the context's or the latent's. -/
def side (t : Fin 9) : Fin 2 := ⟨min t.val 1, by omega⟩

/-- Every token lies in a block. -/
theorem eq_row (i : Fin 2304) : ∃ t r, i = row t r :=
  ⟨⟨i.val / 256, by omega⟩, ⟨i.val % 256, by omega⟩, Fin.ext (by show i.val = i.val / 256 * 256 + i.val % 256; omega)⟩

/-- A token's block … -/
theorem row_div (t : Fin 9) (r : Fin 256) (h : (row t r).val / 256 < 9) : (⟨(row t r).val / 256, h⟩ : Fin 9) = t :=
  Fin.ext (by show (t.val * 256 + r.val) / 256 = t.val; omega)

/-- … and its place there. -/
theorem row_mod (t : Fin 9) (r : Fin 256) (h : (row t r).val % 256 < 256) : (⟨(row t r).val % 256, h⟩ : Fin 256) = r :=
  Fin.ext (by show (t.val * 256 + r.val) % 256 = r.val; omega)

end Cert.Rows
-- ==== Proof.ModBwd.lean ====
module

public import proofs.«01_k».proof.Defs
public import proofs.«01_k».proof.Proof.Gen.ModBwd.Frame
public import proofs.«01_k».proof.Proof.Gen.ModBwdIdeal.Value
public import proofs.«01_k».proof.Proof.Gen.ModBwdReferenceIdeal.Run
public import proofs.«01_k».proof.Proof.Gen.ModBwdReferenceIdeal.Read
public import Idealize.ShloMosaic.Lib.Pipeline.ReadBack
public import Idealize.ShloMosaic.Lib.Pipeline.ValueKit
public import proofs.«01_k».proof.Proof.Rows
public import Idealize.ShloMosaic.Lib.Claim
public import Idealize.ShloMosaic.Lib.Pointwise
public import Idealize.ShloMosaic.Lib.Pipeline.ValueKit.Basic

/- The gradient of a modulation, added to what bypasses it, and the blocks' sums that the modulation takes.  Kernel and reference. -/

@[expose] public section

set_option maxRecDepth 16384

noncomputable section

namespace Cert.ModBwdProof

open Idealize.ShloMosaic Idealize.ShloMosaic.TcCoe Idealize.SL.Sem Cert.ModBwdIdeal Cert.ModBwdIdeal.Gen Cert.Rows

/-- Entry `(r, j)` of block `t` of the tokens' gradient. -/
def tokenGrad (a d e : Vec Ideal S2304x2048 .f32) (sc : Vec Ideal S2x1x2048 .f32) (t : Fin 9) (r : Fin 256) (j : Fin 2048) : EReal :=
  a (ix2 (row t r) j) + (d (ix2 (row t r) j) + e (ix2 (row t r) j)) * (1 + sc (ix3 (side t) 0 j))

/-- Column `j` of block `t`'s sums: row 0 for the scale, row 1 for the shift, zero below. -/
def modGrad (d e x : Vec Ideal S2304x2048 .f32) (t : Fin 9) (s : Fin 8) (j : Fin 2048) : EReal :=
  if s.val = 0 then ∑ r : Fin 256, x (ix2 (row t r) j) * (d (ix2 (row t r) j) + e (ix2 (row t r) j))
  else if s.val = 1 then ∑ r : Fin 256, (d (ix2 (row t r) j) + e (ix2 (row t r) j)) else 0

/-- Grid point `t` takes a block of tokens, with its side's row of the modulations. -/
theorem index (t : Fin cfg0.N) : (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = min t.val 1 ∧ win0_3.index t 1 = 0 ∧ win0_3.index t 2 = 0)
    ∧ (win0_4.index t 0 = t.val ∧ win0_4.index t 1 = 0)
    ∧ (win0_5.index t 0 = t.val ∧ win0_5.index t 1 = 0)
    ∧ (win0_6.index t 0 = t.val ∧ win0_6.index t 1 = 0 ∧ win0_6.index t 2 = 0) := by
  revert t
  change ∀ t : Fin grid0.N, _
  decide +kernel

/-- The body's gradient of a block of tokens. -/
theorem token_apply (d e a : Vec Ideal S256x2048 .f32) (sc : Vec Ideal S1x1x2048 .f32) (r : Fin 256) (j : Fin 2048) :
    k0_pay2 d e a sc (ix2 r j) = a (ix2 r j) + (d (ix2 r j) + e (ix2 r j)) * (1 + sc (ix3 0 0 j)) := by
  pointwise [k0_pay2, k0_pay1]

/-- The body's sum for the scale. -/
theorem scale_apply (d e x : Vec Ideal S256x2048 .f32) (j : Fin 2048) :
    k0_pay3 d e x (ix3 0 0 j) = ∑ r : Fin 256, x (ix2 r j) * (d (ix2 r j) + e (ix2 r j)) := by
  refine Eq.trans (b := ∑ r : Fin 256, (d (ix2 r j) + e (ix2 r j)) * x (ix2 r j)) ?_ (Finset.sum_congr rfl fun r _ => mul_comm _ _)
  pointwise [k0_pay3, k0_pay1]

/-- The body's sum for the shift. -/
theorem shift_apply (d e : Vec Ideal S256x2048 .f32) (j : Fin 2048) :
    k0_pay4 d e (ix3 0 0 j) = ∑ r : Fin 256, (d (ix2 r j) + e (ix2 r j)) := by
  pointwise [k0_pay4, k0_pay1]

/-- The rows that hold nothing. -/
theorem zero_apply (i : S1x6x2048.Idx) : k0_pay5 (F := Ideal) i = 0 := by
  pointwise [k0_pay5]

variable (m : (ℓ : Loc nD τ sig) → Buf (Elt Ideal) ℓ) (c : Dev nD)

/-- The argument arrays. -/
abbrev arg0 : Vec Ideal S2304x2048 .f32 := m ((c : Thread nD τ).loc main_arg0)
abbrev arg1 : Vec Ideal S2304x2048 .f32 := m ((c : Thread nD τ).loc main_arg1)
abbrev arg2 : Vec Ideal S2304x2048 .f32 := m ((c : Thread nD τ).loc main_arg2)
abbrev arg3 : Vec Ideal S2x1x2048 .f32 := m ((c : Thread nD τ).loc main_arg3)
abbrev arg4 : Vec Ideal S2304x2048 .f32 := m ((c : Thread nD τ).loc main_arg4)

/-- Point `t`'s block of the gradient that bypasses the modulation. -/
abbrev blk0 (t : Fin cfg0.N) : Vec Ideal S256x2048 .f32 := iblk m c 0 t

/-- Argument 0's block. -/
theorem block0 (t : Fin cfg0.N) (r : Fin 256) (j : Fin 2048) : blk0 m c t (ix2 r j) = (arg0 m c) (ix2 (row t r) j) := by
  obtain ⟨i, -⟩ := index t
  unfold blk0 iblk
  rw [View.read_apply]
  show V m c main_arg0 _ = _
  rw [V_main_arg0]
  refine congrArg (arg0 m c) (funext fun a => Fin.ext ?_)
  match a with
  | ⟨0, _⟩ => show win0_0.index t 0 * 256 + 1 * r.val = t.val * 256 + r.val; rw [i.1]; omega
  | ⟨1, _⟩ => show win0_0.index t 1 * 2048 + 1 * j.val = j.val; rw [i.2]; omega

/-- Point `t`'s block of the first half of the gradient of the modulated tokens. -/
abbrev blk1 (t : Fin cfg0.N) : Vec Ideal S256x2048 .f32 := iblk m c 1 t

/-- Argument 1's block. -/
theorem block1 (t : Fin cfg0.N) (r : Fin 256) (j : Fin 2048) : blk1 m c t (ix2 r j) = (arg1 m c) (ix2 (row t r) j) := by
  obtain ⟨-, i, -⟩ := index t
  unfold blk1 iblk
  rw [View.read_apply]
  show V m c main_arg1 _ = _
  rw [V_main_arg1]
  refine congrArg (arg1 m c) (funext fun a => Fin.ext ?_)
  match a with
  | ⟨0, _⟩ => show win0_1.index t 0 * 256 + 1 * r.val = t.val * 256 + r.val; rw [i.1]; omega
  | ⟨1, _⟩ => show win0_1.index t 1 * 2048 + 1 * j.val = j.val; rw [i.2]; omega

/-- Point `t`'s block of the second half. -/
abbrev blk2 (t : Fin cfg0.N) : Vec Ideal S256x2048 .f32 := iblk m c 2 t

/-- Argument 2's block. -/
theorem block2 (t : Fin cfg0.N) (r : Fin 256) (j : Fin 2048) : blk2 m c t (ix2 r j) = (arg2 m c) (ix2 (row t r) j) := by
  obtain ⟨-, -, i, -⟩ := index t
  unfold blk2 iblk
  rw [View.read_apply]
  show V m c main_arg2 _ = _
  rw [V_main_arg2]
  refine congrArg (arg2 m c) (funext fun a => Fin.ext ?_)
  match a with
  | ⟨0, _⟩ => show win0_2.index t 0 * 256 + 1 * r.val = t.val * 256 + r.val; rw [i.1]; omega
  | ⟨1, _⟩ => show win0_2.index t 1 * 2048 + 1 * j.val = j.val; rw [i.2]; omega

/-- Point `t`'s block of the scales. -/
abbrev blk3 (t : Fin cfg0.N) : Vec Ideal S1x1x2048 .f32 := iblk m c 3 t

/-- Argument 3's block. -/
theorem block3 (t : Fin cfg0.N) (j : Fin 2048) : blk3 m c t (ix3 0 0 j) = (arg3 m c) (ix3 (side t) 0 j) := by
  obtain ⟨-, -, -, i, -⟩ := index t
  unfold blk3 iblk
  rw [View.read_apply]
  show V m c main_arg3 _ = _
  rw [V_main_arg3]
  refine congrArg (arg3 m c) (funext fun a => Fin.ext ?_)
  match a with
  | ⟨0, _⟩ => show win0_3.index t 0 * 1 + 1 * 0 = min t.val 1; rw [i.1]; omega
  | ⟨1, _⟩ => show win0_3.index t 1 * 1 + 1 * 0 = 0; rw [i.2.1]
  | ⟨2, _⟩ => show win0_3.index t 2 * 2048 + 1 * j.val = j.val; rw [i.2.2]; omega

/-- Point `t`'s block of the tokens. -/
abbrev blk4 (t : Fin cfg0.N) : Vec Ideal S256x2048 .f32 := iblk m c 4 t

/-- Argument 4's block. -/
theorem block4 (t : Fin cfg0.N) (r : Fin 256) (j : Fin 2048) : blk4 m c t (ix2 r j) = (arg4 m c) (ix2 (row t r) j) := by
  obtain ⟨-, -, -, -, i, -⟩ := index t
  unfold blk4 iblk
  rw [View.read_apply]
  show V m c main_arg4 _ = _
  rw [V_main_arg4]
  refine congrArg (arg4 m c) (funext fun a => Fin.ext ?_)
  match a with
  | ⟨0, _⟩ => show win0_4.index t 0 * 256 + 1 * r.val = t.val * 256 + r.val; rw [i.1]; omega
  | ⟨1, _⟩ => show win0_4.index t 1 * 2048 + 1 * j.val = j.val; rw [i.2]; omega

/-- The tokens' gradient, block by block. -/
theorem written5 (t : Fin cfg0.N) (r : Fin 256) (j : Fin 2048) : ((dats m 0 c).arrAt 5 cfg0.N : Vec Ideal S2304x2048 .f32) (ix2 (row t r) j)
    = ((outsAt0 m c t).1 : Vec Ideal S256x2048 .f32) (ix2 r j) := by
  obtain ⟨-, -, -, -, -, i, -⟩ := index t
  have b := congrFun (Value.blocks5 m c t (flush0_5 t)) (ix2 r j)
  rw [View.read_apply, Value.flushed5] at b
  have hy : (((cfg0.win 5).blk t).view.emb (ix2 r j) : S2304x2048.Idx) = (ix2 (row t r) j) := by
    refine funext fun a => Fin.ext ?_
    match a with
    | ⟨0, _⟩ => show win0_5.index t 0 * 256 + 1 * r.val = t.val * 256 + r.val; rw [i.1]; omega
    | ⟨1, _⟩ => show win0_5.index t 1 * 2048 + 1 * j.val = j.val; rw [i.2]; omega
  rw [hy] at b
  exact b

/-- The sums, block by block. -/
theorem written6 (t : Fin cfg0.N) (s : Fin 8) (j : Fin 2048) : ((dats m 0 c).arrAt 6 cfg0.N : Vec Ideal S9x8x2048 .f32) (ix3 t s j)
    = ((outsAt0 m c t).2 : Vec Ideal S1x8x2048 .f32) (ix3 0 s j) := by
  obtain ⟨-, -, -, -, -, -, i⟩ := index t
  have b := congrFun (Value.blocks6 m c t (flush0_6 t)) (ix3 0 s j)
  rw [View.read_apply, Value.flushed6] at b
  have hy : (((cfg0.win 6).blk t).view.emb (ix3 0 s j) : S9x8x2048.Idx) = (ix3 t s j) := by
    refine funext fun a => Fin.ext ?_
    match a with
    | ⟨0, _⟩ => show win0_6.index t 0 * 1 + 1 * 0 = t.val; rw [i.1]; omega
    | ⟨1, _⟩ => show win0_6.index t 1 * 8 + 1 * s.val = s.val; rw [i.2.1]; omega
    | ⟨2, _⟩ => show win0_6.index t 2 * 2048 + 1 * j.val = j.val; rw [i.2.2]; omega
  rw [hy] at b
  exact b

/-- The tokens' gradient of the kernel. -/
theorem kernel_token (t : Fin cfg0.N) (r : Fin 256) (j : Fin 2048) : ((dats m 0 c).arrAt 5 cfg0.N : Vec Ideal S2304x2048 .f32) (ix2 (row t r) j)
    = tokenGrad (arg0 m c) (arg1 m c) (arg2 m c) (arg3 m c) t r j := by
  have e : (outsAt0 m c t).1 = k0_pay2 (blk1 m c t) (blk2 m c t) (blk0 m c t) (blk3 m c t) := by
    unfold outsAt0
    frame_out
  rw [written5 m c t r j, e, token_apply, block0, block1, block2, block3]
  rfl

/-- A place in a single row is its column. -/
theorem unit_row (x : S1x1x2048.Idx) (j : Fin 2048) (h : j.val = (x 2).val) : x = ix3 0 0 j := by
  refine funext fun a => ?_
  match a with
  | ⟨0, _⟩ => exact Subsingleton.elim (α := Fin 1) _ _
  | ⟨1, _⟩ => exact Subsingleton.elim (α := Fin 1) _ _
  | ⟨2, _⟩ => exact Fin.ext h.symm

/-- The blocks' sums of the kernel. -/
theorem kernel_sums (t : Fin cfg0.N) (s : Fin 8) (j : Fin 2048) : ((dats m 0 c).arrAt 6 cfg0.N : Vec Ideal S9x8x2048 .f32) (ix3 t s j)
    = modGrad (arg1 m c) (arg2 m c) (arg4 m c) t s j := by
  rw [written6 m c t s j]
  unfold outsAt0
  frame_out
  canon_tiles x h using View.cover_of_tiledBy _ ![1, 1, 2048] (by sl_kernel_rfl) (ix3 0 s j)
  · change s.val = 2 + (x 1).val at h1
    rw [zero_apply]
    unfold modGrad
    rw [if_neg (by omega), if_neg (by omega)]
  · change s.val = 1 + (x 1).val at h1
    rw [unit_row x j h2, shift_apply]
    simp only [block1, block2]
    unfold modGrad
    rw [if_neg (by omega), if_pos (by omega)]
  · change s.val = (x 1).val at h1
    rw [unit_row x j h2, scale_apply]
    simp only [block1, block2, block4]
    unfold modGrad
    rw [if_pos (by omega)]

open Cert.ModBwdReferenceIdeal.Read in
/-- The tokens' gradient of the reference. -/
theorem reference_token (a d e : Vec Ideal S2304x2048 .f32) (sc : Vec Ideal S2x1x2048 .f32) (t : Fin 9) (r : Fin 256) (j : Fin 2048) :
    val_main_v22 (F := Ideal) a d e sc (ix2 (row t r) j) = tokenGrad a d e sc t r j := by
  unfold tokenGrad
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  refine congrArg (fun z => a (ix2 (row t r) j) + (d (ix2 (row t r) j) + e (ix2 (row t r) j)) * (1 + z)) ?_
  have hr : (row t r).val / 256 = t.val := by show (t.val * 256 + r.val) / 256 = t.val; omega
  split_ifs with h
  · exact congrArg (fun q => sc (ix3 q 0 j)) (Fin.ext (by show (row t r).val / 256 = min t.val 1; omega))
  · exact congrArg (fun q => sc (ix3 q 0 j)) (Fin.ext (by show 1 = min t.val 1; omega))

open Cert.ModBwdReferenceIdeal.Read in
/-- The blocks' sums of the reference. -/
theorem reference_sums (d e x : Vec Ideal S2304x2048 .f32) (t : Fin 9) (s : Fin 8) (j : Fin 2048) :
    val_main_v24 (F := Ideal) d e x (ix3 t s j) = modGrad d e x t s j := by
  unfold modGrad
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2, val_main_cst_3]
  split_ifs <;> first | rfl | omega

/-- The kernel runs on the machine, keeps its arguments, and ends with every counter at zero. -/
theorem frame : Cert.quiescent_ModBwd := fun m ρ _ => Cert.ModBwd.Gen.frame m ρ

/-- The same of its idealization. -/
theorem frameIdeal : Cert.quiescent_ModBwdIdeal := fun m ρ _ => Cert.ModBwdIdeal.Gen.frame m ρ

/-- The same of the reference. -/
theorem frameReference : Cert.quiescent_ModBwdReferenceIdeal := fun m ρ _ =>
  (θ_run Cert.ModBwdReferenceIdeal.defs _ _).mono (fun r h => ⟨fun c => (h c).2.2, sem_eq_zero_of_no_sems (by decide) r.2⟩)
    (Cert.ModBwdReferenceIdeal.Value.run (F := Ideal) m ρ)

/-- The kernel's two results are the reference's. -/
theorem algebraic : Cert.algebraic_ModBwdIdeal_ModBwdReferenceIdeal := by
  intro m g m' g' _ hin
  refine ⟨_, _, Value.run_blocks m g, (θ_run Cert.ModBwdReferenceIdeal.defs _ _).mono (fun r h c => ?_)
    (Cert.ModBwdReferenceIdeal.Value.run (F := Ideal) m' g')⟩
  obtain ⟨h0, h1, hargs⟩ := h c
  obtain ⟨a0, a1, a2, a3, a4⟩ := hin c
  refine ⟨(h0.trans (Cert.ModBwdReferenceIdeal.Read.val_main_v22_eq _ _ _ _)).trans ?_,
    (h1.trans (Cert.ModBwdReferenceIdeal.Read.val_main_v24_eq _ _ _)).trans ?_, hargs⟩
  · rw [a0, a1, a2, a3]
    funext i
    rw [eq_ix2 i]
    obtain ⟨t, r, e⟩ := eq_row (i 0)
    rw [e]
    exact (reference_token _ _ _ _ t r _).trans (kernel_token m c t r _).symm
  · rw [a1, a2, a4]
    funext i
    rw [eq_ix3 i]
    exact (reference_sums _ _ _ _ _ _).trans (kernel_sums m c _ _ _).symm

end Cert.ModBwdProof

end
-- ==== Proof.Modulate.lean ====
module

public import proofs.«01_k».proof.Defs
public import proofs.«01_k».proof.Proof.Gen.Modulate.Frame
public import proofs.«01_k».proof.Proof.Gen.ModulateIdeal.Value
public import proofs.«01_k».proof.Proof.Gen.ModulateReferenceIdeal.Run
public import proofs.«01_k».proof.Proof.Gen.ModulateReferenceIdeal.Read
public import Idealize.ShloMosaic.Lib.Pipeline.ValueKit
public import proofs.«01_k».proof.Proof.Rows
public import Idealize.ShloMosaic.Lib.Claim
public import Idealize.ShloMosaic.Lib.Pointwise
public import Idealize.ShloMosaic.Lib.Pipeline.ValueKit.Basic

/- The modulation of the tokens: each side by its own row of scales and shifts.  Kernel and reference. -/

@[expose] public section

set_option maxRecDepth 16384

noncomputable section

namespace Cert.ModulateProof

open Idealize.ShloMosaic Idealize.ShloMosaic.TcCoe Idealize.SL.Sem Cert.ModulateIdeal Cert.ModulateIdeal.Gen Cert.Rows

/-- Entry `(r, j)` of block `t` of the modulated tokens. -/
def modulated (x : Vec Ideal S2304x2048 .f32) (sc sh : Vec Ideal S2x1x2048 .f32) (t : Fin 9) (r : Fin 256) (j : Fin 2048) : EReal :=
  x (ix2 (row t r) j) * (1 + sc (ix3 (side t) 0 j)) + sh (ix3 (side t) 0 j)

/-- Grid point `t` takes a block of tokens, with its side's row of the modulations. -/
theorem index (t : Fin cfg0.N) : (win0_0.index t 0 = t.val ∧ win0_0.index t 1 = 0)
    ∧ (win0_1.index t 0 = min t.val 1 ∧ win0_1.index t 1 = 0 ∧ win0_1.index t 2 = 0)
    ∧ (win0_2.index t 0 = min t.val 1 ∧ win0_2.index t 1 = 0 ∧ win0_2.index t 2 = 0)
    ∧ (win0_3.index t 0 = t.val ∧ win0_3.index t 1 = 0) := by
  revert t
  change ∀ t : Fin grid0.N, _
  decide +kernel

/-- The body's block of modulated tokens. -/
theorem stored (x : Vec Ideal S256x2048 .f32) (sc sh : Vec Ideal S1x1x2048 .f32) (r : Fin 256) (j : Fin 2048) :
    out0_3 x sc sh (ix2 r j) = x (ix2 r j) * (1 + sc (ix3 0 0 j)) + sh (ix3 0 0 j) := by
  unfold out0_3
  rw [View.canon_cons_unit_lit _ _ _ (by decide), View.ld_unit_lit _ _ (by decide), View.ld_unit_lit _ _ (by decide), View.ld_unit_lit _ _ (by decide)]
  pointwise [k0_pay1]

variable (m : (ℓ : Loc nD τ sig) → Buf (Elt Ideal) ℓ) (c : Dev nD)

/-- Point `t`'s block of the tokens. -/
abbrev blk0 (t : Fin cfg0.N) : Vec Ideal S256x2048 .f32 := iblk m c 0 t

/-- Argument 0's block. -/
theorem block0 (t : Fin cfg0.N) (r : Fin 256) (j : Fin 2048) : blk0 m c t (ix2 r j) = (m ((c : Thread nD τ).loc main_arg0) : Vec Ideal S2304x2048 .f32) (ix2 (row t r) j) := by
  obtain ⟨i, -⟩ := index t
  unfold blk0 iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 256 + 1 * r.val = t.val * 256 + r.val; rw [i.1]; omega
  | ⟨1, _⟩ => show win0_0.index t 1 * 2048 + 1 * j.val = j.val; rw [i.2]; omega

/-- Point `t`'s block of the scales. -/
abbrev blk1 (t : Fin cfg0.N) : Vec Ideal S1x1x2048 .f32 := iblk m c 1 t

/-- Argument 1's block. -/
theorem block1 (t : Fin cfg0.N) (j : Fin 2048) : blk1 m c t (ix3 0 0 j) = (m ((c : Thread nD τ).loc main_arg1) : Vec Ideal S2x1x2048 .f32) (ix3 (side t) 0 j) := by
  obtain ⟨-, i, -⟩ := index t
  unfold blk1 iblk
  rw [View.read_apply]
  show V m c main_arg1 _ = _
  rw [V_main_arg1]
  refine congrArg (m ((c : Thread nD τ).loc main_arg1)) (funext fun a => Fin.ext ?_)
  match a with
  | ⟨0, _⟩ => show win0_1.index t 0 * 1 + 1 * 0 = min t.val 1; rw [i.1]; omega
  | ⟨1, _⟩ => show win0_1.index t 1 * 1 + 1 * 0 = 0; rw [i.2.1]
  | ⟨2, _⟩ => show win0_1.index t 2 * 2048 + 1 * j.val = j.val; rw [i.2.2]; omega

/-- Point `t`'s block of the shifts. -/
abbrev blk2 (t : Fin cfg0.N) : Vec Ideal S1x1x2048 .f32 := iblk m c 2 t

/-- Argument 2's block. -/
theorem block2 (t : Fin cfg0.N) (j : Fin 2048) : blk2 m c t (ix3 0 0 j) = (m ((c : Thread nD τ).loc main_arg2) : Vec Ideal S2x1x2048 .f32) (ix3 (side t) 0 j) := by
  obtain ⟨-, -, i, -⟩ := index t
  unfold blk2 iblk
  rw [View.read_apply]
  show V m c main_arg2 _ = _
  rw [V_main_arg2]
  refine congrArg (m ((c : Thread nD τ).loc main_arg2)) (funext fun a => Fin.ext ?_)
  match a with
  | ⟨0, _⟩ => show win0_2.index t 0 * 1 + 1 * 0 = min t.val 1; rw [i.1]; omega
  | ⟨1, _⟩ => show win0_2.index t 1 * 1 + 1 * 0 = 0; rw [i.2.1]
  | ⟨2, _⟩ => show win0_2.index t 2 * 2048 + 1 * j.val = j.val; rw [i.2.2]; omega

/-- The modulated tokens, block by block. -/
theorem written3 (t : Fin cfg0.N) (r : Fin 256) (j : Fin 2048) : ((dats m 0 c).arrAt 3 cfg0.N : Vec Ideal S2304x2048 .bf16) (ix2 (row t r) j)
    = (out0_3 (blk0 m c t) (blk1 m c t) (blk2 m c t) : Vec Ideal S256x2048 .bf16) (ix2 r j) := by
  obtain ⟨-, -, -, i⟩ := index t
  have b := congrFun (Value.blocks3 m c t (flush0_3 t)) (ix2 r j)
  rw [View.read_apply, Value.flushed3] at b
  have hy : (((cfg0.win 3).blk t).view.emb (ix2 r j) : S2304x2048.Idx) = (ix2 (row t r) j) := by
    refine funext fun a => Fin.ext ?_
    match a with
    | ⟨0, _⟩ => show win0_3.index t 0 * 256 + 1 * r.val = t.val * 256 + r.val; rw [i.1]; omega
    | ⟨1, _⟩ => show win0_3.index t 1 * 2048 + 1 * j.val = j.val; rw [i.2]; omega
  rw [hy] at b
  exact b

/-- The modulated tokens of the kernel. -/
theorem kernel_entry (t : Fin cfg0.N) (r : Fin 256) (j : Fin 2048) : ((dats m 0 c).arrAt 3 cfg0.N : Vec Ideal S2304x2048 .bf16) (ix2 (row t r) j)
    = modulated (m ((c : Thread nD τ).loc main_arg0)) (m ((c : Thread nD τ).loc main_arg1)) (m ((c : Thread nD τ).loc main_arg2)) t r j := by
  rw [written3 m c t r j, stored, block0, block1, block2]
  rfl

open Cert.ModulateReferenceIdeal.Read in
/-- The modulated tokens of the reference. -/
theorem reference_entry (x : Vec Ideal S2304x2048 .f32) (sc sh : Vec Ideal S2x1x2048 .f32) (t : Fin 9) (r : Fin 256) (j : Fin 2048) :
    val_main_v23 (F := Ideal) x sc sh (ix2 (row t r) j) = modulated x sc sh t r j := by
  unfold modulated
  pointwise [val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]
  have e : (row t r).val = t.val * 256 + r.val := rfl
  by_cases h : (row t r).val < 256
  · refine (dif_pos h).trans ?_
    rw [show side t = 0 from Fin.ext (by show min t.val 1 = 0; omega)]
  · refine (dif_neg h).trans ?_
    rw [show side t = 1 from Fin.ext (by show min t.val 1 = 1; omega)]
    exact congrArg (fun q => x (ix2 q j) * (1 + sc (ix3 1 0 j)) + sh (ix3 1 0 j)) (Fin.ext (by show 256 + ((row t r).val - 256) = (row t r).val; omega))

/-- The kernel runs on the machine, keeps its arguments, and ends with every counter at zero. -/
theorem frame : Cert.quiescent_Modulate := fun m ρ _ => Cert.Modulate.Gen.frame m ρ

/-- The same of its idealization. -/
theorem frameIdeal : Cert.quiescent_ModulateIdeal := fun m ρ _ => Cert.ModulateIdeal.Gen.frame m ρ

/-- The same of the reference. -/
theorem frameReference : Cert.quiescent_ModulateReferenceIdeal := fun m ρ _ =>
  (θ_run Cert.ModulateReferenceIdeal.defs _ _).mono (fun r h => ⟨fun c => (h c).2, sem_eq_zero_of_no_sems (by decide) r.2⟩)
    (Cert.ModulateReferenceIdeal.Value.run (F := Ideal) m ρ)

/-- The kernel's modulated tokens are the reference's. -/
theorem algebraic : Cert.algebraic_ModulateIdeal_ModulateReferenceIdeal := by
  intro m g m' g' _ hin
  refine ⟨_, Value.run_blocks m g, (θ_run Cert.ModulateReferenceIdeal.defs _ _).mono (fun r h c => ?_)
    (Cert.ModulateReferenceIdeal.Value.run (F := Ideal) m' g')⟩
  obtain ⟨h0, hargs⟩ := h c
  obtain ⟨a0, a1, a2⟩ := hin c
  refine ⟨(h0.trans (Cert.ModulateReferenceIdeal.Read.val_main_v23_eq _ _ _)).trans ?_, hargs⟩
  rw [a0, a1, a2]
  funext i
  rw [eq_ix2 i]
  obtain ⟨t, r, e⟩ := eq_row (i 0)
  rw [e]
  exact (reference_entry _ _ _ t r _).trans (kernel_entry m c t r _).symm

end Cert.ModulateProof

end
-- ==== Proof.Norm.lean ====
module

public import proofs.«01_k».proof.Proof.Literals

/- The normalisation of a row of 2048 numbers, and its gradient in the two forms that the programs write. -/

@[expose] public section

noncomputable section

namespace Cert.Norm

open Idealize.ShloMosaic

/-- The mean of a row. -/
def mean (f : Fin 2048 → EReal) : EReal := Ideal.div (∑ k, f k) (Ideal.ofBits .f32 0x45000000#32)

/-- A row's entry less the mean. -/
def centred (f : Fin 2048 → EReal) (j : Fin 2048) : EReal := f j - mean f

/-- A row's variance, with the small constant added. -/
def spread (f : Fin 2048 → EReal) : EReal := mean (fun k => centred f k * centred f k) + Ideal.ofBits .f32 0x3727C5AC#32

/-- The reciprocal of a row's standard deviation. -/
def rstd (f : Fin 2048 → EReal) : EReal := Ideal.rsqrt (spread f)

/-- The normalised row. -/
def normal (f : Fin 2048 → EReal) (j : Fin 2048) : EReal := centred f j * rstd f

/-- The gradient `w` of the normalised row, taken back to the row: in closed form. -/
def backward (f w : Fin 2048 → EReal) (j : Fin 2048) : EReal :=
  rstd f * (w j - mean w - normal f j * mean (fun k => w k * normal f k))

/-- What each squared deviation receives when the gradient is taken back step by step. -/
def slope (f w : Fin 2048 → EReal) : EReal :=
  Ideal.div ((∑ k, centred f k * w k) * (Ideal.ofBits .f32 0xBF000000#32 * Ideal.div (rstd f) (spread f))) (Ideal.ofBits .f32 0x45000000#32)

/-- The same gradient taken back step by step: through the product, through the variance, and through the mean. -/
def stepwise (f w : Fin 2048 → EReal) (j : Fin 2048) : EReal :=
  w j * rstd f + slope f w * (Ideal.ofBits .f32 0x40000000#32 * centred f j)
    + Ideal.div ((∑ k, -(w k * rstd f)) + ∑ k, -(slope f w * (Ideal.ofBits .f32 0x40000000#32 * centred f k))) (Ideal.ofBits .f32 0x45000000#32)

/-- The width's bits. -/
theorem ofBits_2048 : Ideal.ofBits .f32 0x45000000#32 = ((2048 : ℝ) : EReal) := by
  simp [Ideal.ofBits, Ideal.ieee, -EReal.coe_mul]; norm_num

/-- The bits of minus a half. -/
theorem ofBits_neg_half : Ideal.ofBits .f32 0xBF000000#32 = ((-1 / 2 : ℝ) : EReal) := by
  simp [Ideal.ofBits, Ideal.ieee, -EReal.coe_mul]; norm_num

/-- The constant added to the variance. -/
def small : ℝ := 10995116 / 2 ^ 40

/-- The small constant's bits. -/
theorem ofBits_small : Ideal.ofBits .f32 0x3727C5AC#32 = ((small : ℝ) : EReal) := by
  unfold small
  simp [Ideal.ofBits, Ideal.ieee, -EReal.coe_mul]; norm_num

/-- A sum of real numbers, as extended reals. -/
theorem sum_coe {ι : Type} (s : Finset ι) (f : ι → ℝ) : ∑ k ∈ s, (f k : EReal) = ((∑ k ∈ s, f k : ℝ) : EReal) :=
  (map_sum (⟨⟨Real.toEReal, rfl⟩, EReal.coe_add⟩ : ℝ →+ EReal) f s).symm

variable (f w : Fin 2048 → ℝ)

/-- The mean of a row of real numbers. -/
def meanR : ℝ := (∑ k, f k) * (1 / 2048)

/-- The mean of real numbers is real. -/
theorem mean_coe : mean (fun k => (f k : EReal)) = (meanR f : EReal) := by
  unfold mean meanR
  rw [ofBits_2048, Ideal.div_coe (by norm_num), sum_coe, ← EReal.coe_mul]

/-- A deviation of real numbers is real. -/
theorem centred_coe (j : Fin 2048) : centred (fun k => (f k : EReal)) j = ((f j - meanR f : ℝ) : EReal) := by
  unfold centred
  rw [mean_coe, ← EReal.coe_sub]

/-- The deviations from the mean add up to zero. -/
theorem sum_centred : ∑ k, (f k - meanR f) = 0 := by
  rw [Finset.sum_sub_distrib, Finset.sum_const, Finset.card_univ, Fintype.card_fin]
  unfold meanR
  simp only [nsmul_eq_mul]
  push_cast
  ring

/-- The variance with the small constant is positive. -/
def spreadR : ℝ := meanR (fun k => (f k - meanR f) * (f k - meanR f)) + small

/-- The variance with its small constant is positive. -/
theorem spread_pos : 0 < spreadR f := by
  unfold spreadR meanR small
  have : 0 ≤ ∑ k, (f k - meanR f) * (f k - meanR f) := Finset.sum_nonneg fun k _ => mul_self_nonneg _
  unfold meanR at this
  positivity

/-- The variance of real numbers is real. -/
theorem spread_coe : spread (fun k => (f k : EReal)) = (spreadR f : EReal) := by
  unfold spread spreadR
  simp only [centred_coe, ← EReal.coe_mul]
  rw [mean_coe (fun k => (f k - meanR f) * (f k - meanR f)), ofBits_small, ← EReal.coe_add]

/-- The reciprocal of the standard deviation of a row of real numbers. -/
def rstdR : ℝ := (Real.sqrt (spreadR f))⁻¹

/-- The inverse deviation of real numbers is real. -/
theorem rstd_coe : rstd (fun k => (f k : EReal)) = (rstdR f : EReal) := by
  unfold rstd rstdR
  rw [spread_coe, Ideal.rsqrt_coe, if_neg (not_lt.mpr (spread_pos f).le), if_neg (spread_pos f).ne']

/-- The inverse deviation over the variance is its cube. -/
theorem rstd_sq : rstdR f * (1 / spreadR f) = rstdR f ^ 3 := by
  unfold rstdR
  have h := Real.sq_sqrt (spread_pos f).le
  have p := Real.sqrt_pos.mpr (spread_pos f)
  rw [one_div, pow_succ, mul_comm, inv_pow, h]

/-- A normed real number is real. -/
theorem normal_coe (j : Fin 2048) : normal (fun k => (f k : EReal)) j = (((f j - meanR f) * rstdR f : ℝ) : EReal) := by
  unfold normal
  rw [centred_coe, rstd_coe, ← EReal.coe_mul]

/-- The inverse deviation's gradient of real numbers is real. -/
theorem slope_coe : slope (fun k => (f k : EReal)) (fun k => (w k : EReal))
    = (((∑ k, (f k - meanR f) * w k) * (-1 / 2 * rstdR f ^ 3) * (1 / 2048) : ℝ) : EReal) := by
  unfold slope
  simp only [centred_coe, ← EReal.coe_mul]
  rw [sum_coe, rstd_coe, spread_coe, ofBits_neg_half, ofBits_2048, Ideal.div_coe (spread_pos f).ne', Ideal.div_coe (by norm_num),
    ← EReal.coe_mul, ← EReal.coe_mul, ← EReal.coe_mul, ← EReal.coe_mul, rstd_sq]

/-- On rows of real numbers the two forms of the gradient agree. -/
theorem stepwise_coe (j : Fin 2048) : stepwise (fun k => (f k : EReal)) (fun k => (w k : EReal)) j
    = backward (fun k => (f k : EReal)) (fun k => (w k : EReal)) j := by
  unfold stepwise backward
  simp only [slope_coe, centred_coe, normal_coe, rstd_coe, Attn.ofBits_2, ofBits_2048, ← EReal.coe_mul, ← EReal.coe_neg]
  rw [sum_coe, sum_coe, mean_coe, mean_coe (fun k => w k * ((f k - meanR f) * rstdR f)), Ideal.div_coe (by norm_num)]
  simp only [← EReal.coe_mul, ← EReal.coe_add, ← EReal.coe_sub]
  refine congrArg _ ?_
  have e1 : ∑ k, -(w k * rstdR f) = -(∑ k, w k) * rstdR f := by
    rw [Finset.sum_neg_distrib, ← Finset.sum_mul]; ring
  have e2 : ∑ k, -((∑ k, (f k - meanR f) * w k) * (-1 / 2 * rstdR f ^ 3) * (1 / 2048) * (2 * (f k - meanR f))) = 0 := by
    rw [Finset.sum_neg_distrib, ← Finset.mul_sum, ← Finset.mul_sum, sum_centred]; ring
  have e3 : meanR (fun k => w k * ((f k - meanR f) * rstdR f)) = (∑ k, (f k - meanR f) * w k) * rstdR f * (1 / 2048) := by
    unfold meanR
    rw [Finset.sum_mul (Finset.univ) _ (rstdR f)]
    exact congrArg (· * (1 / 2048 : ℝ)) (Finset.sum_congr rfl fun k _ => by ring)
  rw [e1, e2, e3]
  unfold meanR
  ring

/-- On rows of finite numbers the two forms of the gradient agree. -/
theorem stepwise_eq {f w : Fin 2048 → EReal} (hf : ∀ k, f k ≠ ⊥ ∧ f k ≠ ⊤) (hw : ∀ k, w k ≠ ⊥ ∧ w k ≠ ⊤) (j : Fin 2048) :
    stepwise f w j = backward f w j := by
  have ef : f = fun k => ((f k).toReal : EReal) := funext fun k => (EReal.coe_toReal (hf k).2 (hf k).1).symm
  have ew : w = fun k => ((w k).toReal : EReal) := funext fun k => (EReal.coe_toReal (hw k).2 (hw k).1).symm
  rw [ef, ew]
  exact stepwise_coe _ _ j

end Cert.Norm

end
-- ==== Proof.LnBwd.lean ====
module

public import proofs.«01_k».proof.Defs
public import proofs.«01_k».proof.Proof.Gen.LnBwd.Frame
public import proofs.«01_k».proof.Proof.Gen.LnBwdIdeal.Value
public import proofs.«01_k».proof.Proof.Gen.LnBwdReferenceIdeal.Run
public import proofs.«01_k».proof.Proof.Gen.LnBwdReferenceIdeal.Read
public import Idealize.ShloMosaic.Lib.Pipeline.ReadBack
public import Idealize.ShloMosaic.Lib.Pipeline.ValueKit
public import proofs.«01_k».proof.Proof.Rows
public import proofs.«01_k».proof.Proof.Norm
public import proofs.«01_k».proof.Proof.Silu
public import proofs.«01_k».proof.Proof.FfDown
public import Idealize.ShloMosaic.Lib.Claim
public import Idealize.ShloMosaic.Lib.Pointwise
public import Idealize.ShloMosaic.Lib.Pipeline.ValueKit.Basic

/- The gradient of a residual layer norm with the modulation that follows it.  Kernel and reference. -/

@[expose] public section

set_option maxRecDepth 16384

noncomputable section

namespace Cert.LnBwdProof

open Idealize.ShloMosaic Idealize.ShloMosaic.TcCoe Idealize.SL.Sem Cert.LnBwdIdeal Cert.LnBwdIdeal.Gen Cert.Rows Cert.Norm

local notation "Tokens" => Vec Ideal S2304x2048 EltTy.f32
local notation "Mods" => Vec Ideal S2x1x2048 EltTy.f32
local notation "Cols" => Vec Ideal S2048 EltTy.f32
local notation "BT" => Vec Ideal S256x2048 EltTy.f32
local notation "BM" => Vec Ideal S1x1x2048 EltTy.f32
local notation "BC" => Vec Ideal S1x2048 EltTy.f32

/-- The weight of the residual. -/
def alpha : EReal := Ideal.ofBits .f32 0x3FB504F3#32

/-- A token's row before the norm: the residual with the gated branch. -/
def resid (x y : Tokens) (gate : Mods) (t : Fin 9) (r : Fin 256) (k : Fin 2048) : EReal :=
  alpha * x (ix2 (row t r) k) + gate (ix3 (side t) 0 k) * y (ix2 (row t r) k)

/-- The gradient of the modulated tokens. -/
def modGrad (d e : Tokens) (t : Fin 9) (r : Fin 256) (k : Fin 2048) : EReal := d (ix2 (row t r) k) + e (ix2 (row t r) k)

/-- The gradient of the norm's output. -/
def outGrad (a d e : Tokens) (sc : Mods) (t : Fin 9) (r : Fin 256) (k : Fin 2048) : EReal :=
  a (ix2 (row t r) k) + modGrad d e t r k * (1 + sc (ix3 (side t) 0 k))

/-- The gradient of the normalised row. -/
def normGrad (a d e : Tokens) (sc : Mods) (g : Cols) (t : Fin 9) (r : Fin 256) (k : Fin 2048) : EReal :=
  outGrad a d e sc t r k * g (ix1 k)

/-- The gradient of the row before the norm. -/
def rowGrad (a d e : Tokens) (sc : Mods) (x y : Tokens) (gate : Mods) (g : Cols) (t : Fin 9) (r : Fin 256) (k : Fin 2048) : EReal :=
  backward (resid x y gate t r) (normGrad a d e sc g t r) k

/-- The gradient of the branch that is added. -/
def branchGrad (a d e : Tokens) (sc : Mods) (x y : Tokens) (gate : Mods) (g : Cols) (t : Fin 9) (r : Fin 256) (k : Fin 2048) : EReal :=
  gate (ix3 (side t) 0 k) * rowGrad a d e sc x y gate g t r k

/-- Column `j` of block `t`'s sums: for the gain, the bias, the gate, the scale and the shift, and zero below. -/
def sums (a d e : Tokens) (sc : Mods) (x y : Tokens) (gate : Mods) (g b : Cols) (t : Fin 9) (s : Fin 8) (j : Fin 2048) : EReal :=
  if s.val = 0 then ∑ r : Fin 256, outGrad a d e sc t r j * normal (resid x y gate t r) j
  else if s.val = 1 then ∑ r : Fin 256, outGrad a d e sc t r j
  else if s.val = 2 then ∑ r : Fin 256, rowGrad a d e sc x y gate g t r j * y (ix2 (row t r) j)
  else if s.val = 3 then ∑ r : Fin 256, modGrad d e t r j * (normal (resid x y gate t r) j * g (ix1 j) + b (ix1 j))
  else if s.val = 4 then ∑ r : Fin 256, modGrad d e t r j
  else 0

/-- Grid point `t` takes a block of tokens, with its side's row of the modulations. -/
theorem index (t : Fin cfg0.N) : (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = min t.val 1 ∧ win0_3.index t 1 = 0 ∧ win0_3.index t 2 = 0)
    ∧ (win0_4.index t 0 = t.val ∧ win0_4.index t 1 = 0)
    ∧ (win0_5.index t 0 = t.val ∧ win0_5.index t 1 = 0)
    ∧ (win0_6.index t 0 = min t.val 1 ∧ win0_6.index t 1 = 0 ∧ win0_6.index t 2 = 0)
    ∧ (win0_7.index t 0 = 0 ∧ win0_7.index t 1 = 0)
    ∧ (win0_8.index t 0 = 0 ∧ win0_8.index t 1 = 0)
    ∧ (win0_9.index t 0 = t.val ∧ win0_9.index t 1 = 0)
    ∧ (win0_10.index t 0 = t.val ∧ win0_10.index t 1 = 0)
    ∧ (win0_11.index t 0 = t.val ∧ win0_11.index t 1 = 0 ∧ win0_11.index t 2 = 0) := by
  revert t
  change ∀ t : Fin grid0.N, _
  decide +kernel

/-- The weight of the residual is a finite number. -/
theorem ofBits_alpha : alpha ≠ ⊥ ∧ alpha ≠ ⊤ := by
  have e : alpha = ((11863283 / 2 ^ 23 : ℝ) : EReal) := by
    unfold alpha
    simp [Ideal.ofBits, Ideal.ieee, -EReal.coe_mul]; norm_num
  rw [e]
  exact ⟨EReal.coe_ne_bot _, EReal.coe_ne_top _⟩

/-- So is one. -/
theorem one_real : (1 : EReal) ≠ ⊥ ∧ (1 : EReal) ≠ ⊤ := ⟨EReal.coe_ne_bot 1, EReal.coe_ne_top 1⟩

/-- A block's row before the norm. -/
def residB (y x : BT) (gate : BM) (r : Fin 256) (k : Fin 2048) : EReal := alpha * x (ix2 r k) + gate (ix3 0 0 k) * y (ix2 r k)

/-- The body's deviations from the mean. -/
theorem centred_apply (y x : BT) (gate : BM) (r : Fin 256) (j : Fin 2048) :
    k0_pay1 y x gate (ix2 r j) = centred (residB y x gate r) j := by
  unfold centred mean residB alpha
  pointwise [k0_pay1]

/-- The body's inverse deviation. -/
theorem rstd_apply (y x : BT) (gate : BM) (r : Fin 256) : k0_pay2 y x gate (ix2 r 0) = rstd (residB y x gate r) := by
  unfold rstd spread mean
  simp only [← centred_apply]
  pointwise [k0_pay2]

/-- The body's normed block. -/
theorem normal_apply (y x : BT) (gate : BM) (r : Fin 256) (j : Fin 2048) :
    k0_pay3 y x gate (ix2 r j) = normal (residB y x gate r) j := by
  unfold normal
  rw [← centred_apply, ← rstd_apply]
  pointwise [k0_pay3]

/-- The body's gradient of the modulated tokens. -/
theorem mod_apply (d e : BT) (r : Fin 256) (j : Fin 2048) : k0_pay4 d e (ix2 r j) = d (ix2 r j) + e (ix2 r j) := by
  pointwise [k0_pay4]

/-- The body's gradient of the layer norm's result. -/
theorem out_apply (a d e : BT) (sc : BM) (r : Fin 256) (j : Fin 2048) :
    k0_pay5 a d e sc (ix2 r j) = a (ix2 r j) + (d (ix2 r j) + e (ix2 r j)) * (1 + sc (ix3 0 0 j)) := by
  pointwise [k0_pay5, k0_pay4]

/-- The body's products for the scale's sum. -/
theorem scale_apply (n h : FVec Ideal S256x2048 .f32) (g b : BC) (r : Fin 256) (j : Fin 2048) :
    k0_pay6 n h g b (ix2 r j) = h (ix2 r j) * (n (ix2 r j) * g (ix2 0 j) + b (ix2 0 j)) := by
  pointwise [k0_pay6]

/-- The body's gradient through the norm. -/
theorem back_apply (s : FVec Ideal S256x1 .f32) (n o : FVec Ideal S256x2048 .f32) (g : BC) (r : Fin 256) (j : Fin 2048) :
    k0_pay7 s n o g (ix2 r j) = s (ix2 r 0) * (o (ix2 r j) * g (ix2 0 j) - mean (fun k => o (ix2 r k) * g (ix2 0 k))
      - n (ix2 r j) * mean (fun k => o (ix2 r k) * g (ix2 0 k) * n (ix2 r k))) := by
  unfold mean
  pointwise [k0_pay7]

/-- The body's gradient of the tokens. -/
theorem token_apply (s : FVec Ideal S256x1 .f32) (n o : FVec Ideal S256x2048 .f32) (g : BC) (r : Fin 256) (j : Fin 2048) :
    k0_pay8 s n o g (ix2 r j) = alpha * k0_pay7 s n o g (ix2 r j) := by
  unfold alpha
  pointwise [k0_pay8]

/-- The body's gradient of the branch. -/
theorem branch_apply (s : FVec Ideal S256x1 .f32) (n o : FVec Ideal S256x2048 .f32) (g : BC) (gate : BM) (r : Fin 256) (j : Fin 2048) :
    k0_pay9 s n o g gate (ix2 r j) = gate (ix3 0 0 j) * k0_pay7 s n o g (ix2 r j) := by
  pointwise [k0_pay9]

/-- The body's products for the gain's sum. -/
theorem gain_apply (n o : FVec Ideal S256x2048 .f32) (r : Fin 256) (j : Fin 2048) : k0_pay10 n o (ix2 r j) = o (ix2 r j) * n (ix2 r j) := by
  pointwise [k0_pay10]

/-- The body's products for the gate's sum. -/
theorem gate_apply (y : BT) (s : FVec Ideal S256x1 .f32) (n o : FVec Ideal S256x2048 .f32) (g : BC) (r : Fin 256) (j : Fin 2048) :
    k0_pay11 y s n o g (ix2 r j) = k0_pay7 s n o g (ix2 r j) * y (ix2 r j) := by
  pointwise [k0_pay11]

/-- A sum over the block of tokens. -/
theorem sum12 (v : FVec Ideal S256x2048 .f32) (j : Fin 2048) : k0_pay12 v (ix3 0 0 j) = ∑ r : Fin 256, v (ix2 r j) := by
  pointwise [k0_pay12]
/-- A sum over the block of tokens. -/
theorem sum13 (v : FVec Ideal S256x2048 .f32) (j : Fin 2048) : k0_pay13 v (ix3 0 0 j) = ∑ r : Fin 256, v (ix2 r j) := by
  pointwise [k0_pay13]
/-- A sum over the block of tokens. -/
theorem sum14 (v : FVec Ideal S256x2048 .f32) (j : Fin 2048) : k0_pay14 v (ix3 0 0 j) = ∑ r : Fin 256, v (ix2 r j) := by
  pointwise [k0_pay14]
/-- A sum over the block of tokens. -/
theorem sum15 (v : FVec Ideal S256x2048 .f32) (j : Fin 2048) : k0_pay15 v (ix3 0 0 j) = ∑ r : Fin 256, v (ix2 r j) := by
  pointwise [k0_pay15]
/-- A sum over the block of tokens. -/
theorem sum16 (v : FVec Ideal S256x2048 .f32) (j : Fin 2048) : k0_pay16 v (ix3 0 0 j) = ∑ r : Fin 256, v (ix2 r j) := by
  pointwise [k0_pay16]

/-- The rows that hold nothing. -/
theorem zero_apply (i : S1x3x2048.Idx) : k0_pay17 (F := Ideal) i = 0 := by
  pointwise [k0_pay17]

/-- A place in a single row is its column. -/
theorem unit_row (x : S1x1x2048.Idx) (j : Fin 2048) (h : j.val = (x 2).val) : x = ix3 0 0 j := by
  refine funext fun a => ?_
  match a with
  | ⟨0, _⟩ => exact Subsingleton.elim (α := Fin 1) _ _
  | ⟨1, _⟩ => exact Subsingleton.elim (α := Fin 1) _ _
  | ⟨2, _⟩ => exact Fin.ext h.symm

variable (m : (ℓ : Loc nD τ sig) → Buf (Elt Ideal) ℓ) (c : Dev nD)

/-- The argument arrays. -/
abbrev arg0 : Vec Ideal S2304x2048 .f32 := m ((c : Thread nD τ).loc main_arg0)
abbrev arg1 : Vec Ideal S2304x2048 .f32 := m ((c : Thread nD τ).loc main_arg1)
abbrev arg2 : Vec Ideal S2304x2048 .f32 := m ((c : Thread nD τ).loc main_arg2)
abbrev arg3 : Vec Ideal S2x1x2048 .f32 := m ((c : Thread nD τ).loc main_arg3)
abbrev arg4 : Vec Ideal S2304x2048 .f32 := m ((c : Thread nD τ).loc main_arg4)
abbrev arg5 : Vec Ideal S2304x2048 .f32 := m ((c : Thread nD τ).loc main_arg5)
abbrev arg6 : Vec Ideal S2x1x2048 .f32 := m ((c : Thread nD τ).loc main_arg6)
abbrev arg7 : Vec Ideal S2048 .f32 := m ((c : Thread nD τ).loc main_arg7)
abbrev arg8 : Vec Ideal S2048 .f32 := m ((c : Thread nD τ).loc main_arg8)

/-- Point `t`'s block of the gradient that bypasses the modulation. -/
abbrev blk0 (t : Fin cfg0.N) : Vec Ideal S256x2048 .f32 := iblk m c 0 t

/-- Argument 0's block. -/
theorem block0 (t : Fin cfg0.N) (r : Fin 256) (j : Fin 2048) : blk0 m c t (ix2 r j) = (arg0 m c) (ix2 (row t r) j) := by
  obtain ⟨i, -⟩ := index t
  unfold blk0 iblk
  rw [View.read_apply]
  show V m c main_arg0 _ = _
  rw [V_main_arg0]
  refine congrArg (arg0 m c) (funext fun a => Fin.ext ?_)
  match a with
  | ⟨0, _⟩ => show win0_0.index t 0 * 256 + 1 * r.val = t.val * 256 + r.val; rw [i.1]; omega
  | ⟨1, _⟩ => show win0_0.index t 1 * 2048 + 1 * j.val = j.val; rw [i.2]; omega

/-- Point `t`'s block of the first half of the gradient of the modulated tokens. -/
abbrev blk1 (t : Fin cfg0.N) : Vec Ideal S256x2048 .f32 := iblk m c 1 t

/-- Argument 1's block. -/
theorem block1 (t : Fin cfg0.N) (r : Fin 256) (j : Fin 2048) : blk1 m c t (ix2 r j) = (arg1 m c) (ix2 (row t r) j) := by
  obtain ⟨-, i, -⟩ := index t
  unfold blk1 iblk
  rw [View.read_apply]
  show V m c main_arg1 _ = _
  rw [V_main_arg1]
  refine congrArg (arg1 m c) (funext fun a => Fin.ext ?_)
  match a with
  | ⟨0, _⟩ => show win0_1.index t 0 * 256 + 1 * r.val = t.val * 256 + r.val; rw [i.1]; omega
  | ⟨1, _⟩ => show win0_1.index t 1 * 2048 + 1 * j.val = j.val; rw [i.2]; omega

/-- Point `t`'s block of the second half. -/
abbrev blk2 (t : Fin cfg0.N) : Vec Ideal S256x2048 .f32 := iblk m c 2 t

/-- Argument 2's block. -/
theorem block2 (t : Fin cfg0.N) (r : Fin 256) (j : Fin 2048) : blk2 m c t (ix2 r j) = (arg2 m c) (ix2 (row t r) j) := by
  obtain ⟨-, -, i, -⟩ := index t
  unfold blk2 iblk
  rw [View.read_apply]
  show V m c main_arg2 _ = _
  rw [V_main_arg2]
  refine congrArg (arg2 m c) (funext fun a => Fin.ext ?_)
  match a with
  | ⟨0, _⟩ => show win0_2.index t 0 * 256 + 1 * r.val = t.val * 256 + r.val; rw [i.1]; omega
  | ⟨1, _⟩ => show win0_2.index t 1 * 2048 + 1 * j.val = j.val; rw [i.2]; omega

/-- Point `t`'s block of the scales. -/
abbrev blk3 (t : Fin cfg0.N) : Vec Ideal S1x1x2048 .f32 := iblk m c 3 t

/-- Argument 3's block. -/
theorem block3 (t : Fin cfg0.N) (j : Fin 2048) : blk3 m c t (ix3 0 0 j) = (arg3 m c) (ix3 (side t) 0 j) := by
  obtain ⟨-, -, -, i, -⟩ := index t
  unfold blk3 iblk
  rw [View.read_apply]
  show V m c main_arg3 _ = _
  rw [V_main_arg3]
  refine congrArg (arg3 m c) (funext fun a => Fin.ext ?_)
  match a with
  | ⟨0, _⟩ => show win0_3.index t 0 * 1 + 1 * 0 = min t.val 1; rw [i.1]; omega
  | ⟨1, _⟩ => show win0_3.index t 1 * 1 + 1 * 0 = 0; rw [i.2.1]
  | ⟨2, _⟩ => show win0_3.index t 2 * 2048 + 1 * j.val = j.val; rw [i.2.2]; omega

/-- Point `t`'s block of the tokens. -/
abbrev blk4 (t : Fin cfg0.N) : Vec Ideal S256x2048 .f32 := iblk m c 4 t

/-- Argument 4's block. -/
theorem block4 (t : Fin cfg0.N) (r : Fin 256) (j : Fin 2048) : blk4 m c t (ix2 r j) = (arg4 m c) (ix2 (row t r) j) := by
  obtain ⟨-, -, -, -, i, -⟩ := index t
  unfold blk4 iblk
  rw [View.read_apply]
  show V m c main_arg4 _ = _
  rw [V_main_arg4]
  refine congrArg (arg4 m c) (funext fun a => Fin.ext ?_)
  match a with
  | ⟨0, _⟩ => show win0_4.index t 0 * 256 + 1 * r.val = t.val * 256 + r.val; rw [i.1]; omega
  | ⟨1, _⟩ => show win0_4.index t 1 * 2048 + 1 * j.val = j.val; rw [i.2]; omega

/-- Point `t`'s block of the branch that is added. -/
abbrev blk5 (t : Fin cfg0.N) : Vec Ideal S256x2048 .f32 := iblk m c 5 t

/-- Argument 5's block. -/
theorem block5 (t : Fin cfg0.N) (r : Fin 256) (j : Fin 2048) : blk5 m c t (ix2 r j) = (arg5 m c) (ix2 (row t r) j) := by
  obtain ⟨-, -, -, -, -, i, -⟩ := index t
  unfold blk5 iblk
  rw [View.read_apply]
  show V m c main_arg5 _ = _
  rw [V_main_arg5]
  refine congrArg (arg5 m c) (funext fun a => Fin.ext ?_)
  match a with
  | ⟨0, _⟩ => show win0_5.index t 0 * 256 + 1 * r.val = t.val * 256 + r.val; rw [i.1]; omega
  | ⟨1, _⟩ => show win0_5.index t 1 * 2048 + 1 * j.val = j.val; rw [i.2]; omega

/-- Point `t`'s block of the gates. -/
abbrev blk6 (t : Fin cfg0.N) : Vec Ideal S1x1x2048 .f32 := iblk m c 6 t

/-- Argument 6's block. -/
theorem block6 (t : Fin cfg0.N) (j : Fin 2048) : blk6 m c t (ix3 0 0 j) = (arg6 m c) (ix3 (side t) 0 j) := by
  obtain ⟨-, -, -, -, -, -, i, -⟩ := index t
  unfold blk6 iblk
  rw [View.read_apply]
  show V m c main_arg6 _ = _
  rw [V_main_arg6]
  refine congrArg (arg6 m c) (funext fun a => Fin.ext ?_)
  match a with
  | ⟨0, _⟩ => show win0_6.index t 0 * 1 + 1 * 0 = min t.val 1; rw [i.1]; omega
  | ⟨1, _⟩ => show win0_6.index t 1 * 1 + 1 * 0 = 0; rw [i.2.1]
  | ⟨2, _⟩ => show win0_6.index t 2 * 2048 + 1 * j.val = j.val; rw [i.2.2]; omega

/-- Point `t`'s block of the gain. -/
abbrev blk7 (t : Fin cfg0.N) : Vec Ideal S1x2048 .f32 := iblk m c 7 t

/-- The host gives the gain a unit axis. -/
theorem host7 (j : Fin 2048) : (V m c main_v0 : Vec Ideal S1x2048 .f32) (ix2 0 j) = (arg7 m c) (ix1 j) := by
  entry_read
  pointwise

/-- Argument 7's block. -/
theorem block7 (t : Fin cfg0.N) (j : Fin 2048) : blk7 m c t (ix2 0 j) = (arg7 m c) (ix1 j) := by
  obtain ⟨-, -, -, -, -, -, -, i, -⟩ := index t
  unfold blk7 iblk
  rw [View.read_apply]
  show V m c main_v0 _ = _
  refine Eq.trans (congrArg (V m c main_v0) (funext fun a => Fin.ext ?_)) (host7 m c j)
  match a with
  | ⟨0, _⟩ => show win0_7.index t 0 * 1 + 1 * 0 = 0; rw [i.1]
  | ⟨1, _⟩ => show win0_7.index t 1 * 2048 + 1 * j.val = j.val; rw [i.2]; omega

/-- Point `t`'s block of the bias. -/
abbrev blk8 (t : Fin cfg0.N) : Vec Ideal S1x2048 .f32 := iblk m c 8 t

/-- The host gives the bias a unit axis. -/
theorem host8 (j : Fin 2048) : (V m c main_v1 : Vec Ideal S1x2048 .f32) (ix2 0 j) = (arg8 m c) (ix1 j) := by
  entry_read
  pointwise

/-- Argument 8's block. -/
theorem block8 (t : Fin cfg0.N) (j : Fin 2048) : blk8 m c t (ix2 0 j) = (arg8 m c) (ix1 j) := by
  obtain ⟨-, -, -, -, -, -, -, -, i, -⟩ := index t
  unfold blk8 iblk
  rw [View.read_apply]
  show V m c main_v1 _ = _
  refine Eq.trans (congrArg (V m c main_v1) (funext fun a => Fin.ext ?_)) (host8 m c j)
  match a with
  | ⟨0, _⟩ => show win0_8.index t 0 * 1 + 1 * 0 = 0; rw [i.1]
  | ⟨1, _⟩ => show win0_8.index t 1 * 2048 + 1 * j.val = j.val; rw [i.2]; omega

/-- The tokens' gradient, block by block. -/
theorem written9 (t : Fin cfg0.N) (r : Fin 256) (j : Fin 2048) : ((dats m 0 c).arrAt 9 cfg0.N : Vec Ideal S2304x2048 .f32) (ix2 (row t r) j)
    = ((outsAt0 m c t).1 : Vec Ideal S256x2048 .f32) (ix2 r j) := by
  obtain ⟨-, -, -, -, -, -, -, -, -, i, -⟩ := index t
  have b := congrFun (Value.blocks9 m c t (flush0_9 t)) (ix2 r j)
  rw [View.read_apply, Value.flushed9] at b
  have hy : (((cfg0.win 9).blk t).view.emb (ix2 r j) : S2304x2048.Idx) = (ix2 (row t r) j) := by
    refine funext fun a => Fin.ext ?_
    match a with
    | ⟨0, _⟩ => show win0_9.index t 0 * 256 + 1 * r.val = t.val * 256 + r.val; rw [i.1]; omega
    | ⟨1, _⟩ => show win0_9.index t 1 * 2048 + 1 * j.val = j.val; rw [i.2]; omega
  rw [hy] at b
  exact b

/-- The branch's gradient, block by block. -/
theorem written10 (t : Fin cfg0.N) (r : Fin 256) (j : Fin 2048) : ((dats m 0 c).arrAt 10 cfg0.N : Vec Ideal S2304x2048 .bf16) (ix2 (row t r) j)
    = ((outsAt0 m c t).2.1 : Vec Ideal S256x2048 .bf16) (ix2 r j) := by
  obtain ⟨-, -, -, -, -, -, -, -, -, -, i, -⟩ := index t
  have b := congrFun (Value.blocks10 m c t (flush0_10 t)) (ix2 r j)
  rw [View.read_apply, Value.flushed10] at b
  have hy : (((cfg0.win 10).blk t).view.emb (ix2 r j) : S2304x2048.Idx) = (ix2 (row t r) j) := by
    refine funext fun a => Fin.ext ?_
    match a with
    | ⟨0, _⟩ => show win0_10.index t 0 * 256 + 1 * r.val = t.val * 256 + r.val; rw [i.1]; omega
    | ⟨1, _⟩ => show win0_10.index t 1 * 2048 + 1 * j.val = j.val; rw [i.2]; omega
  rw [hy] at b
  exact b

/-- The sums, block by block. -/
theorem written11 (t : Fin cfg0.N) (s : Fin 8) (j : Fin 2048) : ((dats m 0 c).arrAt 11 cfg0.N : Vec Ideal S9x8x2048 .f32) (ix3 t s j)
    = ((outsAt0 m c t).2.2 : Vec Ideal S1x8x2048 .f32) (ix3 0 s j) := by
  obtain ⟨-, -, -, -, -, -, -, -, -, -, -, i⟩ := index t
  have b := congrFun (Value.blocks11 m c t (flush0_11 t)) (ix3 0 s j)
  rw [View.read_apply, Value.flushed11] at b
  have hy : (((cfg0.win 11).blk t).view.emb (ix3 0 s j) : S9x8x2048.Idx) = (ix3 t s j) := by
    refine funext fun a => Fin.ext ?_
    match a with
    | ⟨0, _⟩ => show win0_11.index t 0 * 1 + 1 * 0 = t.val; rw [i.1]; omega
    | ⟨1, _⟩ => show win0_11.index t 1 * 8 + 1 * s.val = s.val; rw [i.2.1]; omega
    | ⟨2, _⟩ => show win0_11.index t 2 * 2048 + 1 * j.val = j.val; rw [i.2.2]; omega
  rw [hy] at b
  exact b

/-- Point `t`'s reciprocal deviations, normalised rows and gradient of the norm's output. -/
abbrev dev (t : Fin cfg0.N) : FVec Ideal S256x1 .f32 := k0_pay2 (blk5 m c t) (blk4 m c t) (blk6 m c t)
abbrev nrm (t : Fin cfg0.N) : FVec Ideal S256x2048 .f32 := k0_pay3 (blk5 m c t) (blk4 m c t) (blk6 m c t)
abbrev out (t : Fin cfg0.N) : FVec Ideal S256x2048 .f32 := k0_pay5 (blk0 m c t) (blk1 m c t) (blk2 m c t) (blk3 m c t)

/-- The residual's block. -/
theorem resid_block (t : Fin cfg0.N) (r : Fin 256) : residB (blk5 m c t) (blk4 m c t) (blk6 m c t) r = resid (arg4 m c) (arg5 m c) (arg6 m c) t r := by
  funext k
  unfold residB resid
  rw [block4, block5, block6]

/-- The inverse deviation at a point. -/
theorem dev_block (t : Fin cfg0.N) (r : Fin 256) : dev m c t (ix2 r 0) = rstd (resid (arg4 m c) (arg5 m c) (arg6 m c) t r) := by
  rw [dev, rstd_apply, resid_block]

/-- The normed block at a point. -/
theorem nrm_block (t : Fin cfg0.N) (r : Fin 256) (j : Fin 2048) : nrm m c t (ix2 r j) = normal (resid (arg4 m c) (arg5 m c) (arg6 m c) t r) j := by
  rw [nrm, normal_apply, resid_block]

/-- The gradient of the norm's result at a point. -/
theorem out_block (t : Fin cfg0.N) (r : Fin 256) (j : Fin 2048) : out m c t (ix2 r j) = outGrad (arg0 m c) (arg1 m c) (arg2 m c) (arg3 m c) t r j := by
  unfold outGrad modGrad
  rw [out, out_apply, block0, block1, block2, block3]

/-- The gradient of the modulated tokens at a point. -/
theorem mod_block (t : Fin cfg0.N) (r : Fin 256) (j : Fin 2048) : k0_pay4 (blk1 m c t) (blk2 m c t) (ix2 r j) = modGrad (arg1 m c) (arg2 m c) t r j := by
  unfold modGrad
  rw [mod_apply, block1, block2]

/-- The gradient through the norm at a point. -/
theorem row_block (t : Fin cfg0.N) (r : Fin 256) (j : Fin 2048) : k0_pay7 (dev m c t) (nrm m c t) (out m c t) (blk7 m c t) (ix2 r j)
    = rowGrad (arg0 m c) (arg1 m c) (arg2 m c) (arg3 m c) (arg4 m c) (arg5 m c) (arg6 m c) (arg7 m c) t r j := by
  unfold rowGrad backward normGrad
  rw [back_apply]
  simp only [dev_block, nrm_block, out_block, block7]

/-- The tokens' gradient of the kernel. -/
theorem kernel_token (t : Fin cfg0.N) (r : Fin 256) (j : Fin 2048) : ((dats m 0 c).arrAt 9 cfg0.N : Vec Ideal S2304x2048 .f32) (ix2 (row t r) j)
    = alpha * rowGrad (arg0 m c) (arg1 m c) (arg2 m c) (arg3 m c) (arg4 m c) (arg5 m c) (arg6 m c) (arg7 m c) t r j := by
  have e : (outsAt0 m c t).1 = k0_pay8 (dev m c t) (nrm m c t) (out m c t) (blk7 m c t) := by
    unfold outsAt0
    frame_out
  rw [written9 m c t r j, e, token_apply, row_block]

/-- The branch's gradient of the kernel. -/
theorem kernel_branch (t : Fin cfg0.N) (r : Fin 256) (j : Fin 2048) : ((dats m 0 c).arrAt 10 cfg0.N : Vec Ideal S2304x2048 .bf16) (ix2 (row t r) j)
    = branchGrad (arg0 m c) (arg1 m c) (arg2 m c) (arg3 m c) (arg4 m c) (arg5 m c) (arg6 m c) (arg7 m c) t r j := by
  have e : (outsAt0 m c t).2.1 = k0_pay9 (dev m c t) (nrm m c t) (out m c t) (blk7 m c t) (blk6 m c t) := by
    unfold outsAt0
    frame_out
  unfold branchGrad
  rw [written10 m c t r j, e, branch_apply, row_block, block6]

/-- The blocks' sums of the kernel. -/
theorem kernel_sums (t : Fin cfg0.N) (s : Fin 8) (j : Fin 2048) : ((dats m 0 c).arrAt 11 cfg0.N : Vec Ideal S9x8x2048 .f32) (ix3 t s j)
    = sums (arg0 m c) (arg1 m c) (arg2 m c) (arg3 m c) (arg4 m c) (arg5 m c) (arg6 m c) (arg7 m c) (arg8 m c) t s j := by
  rw [written11 m c t s j]
  unfold outsAt0
  frame_out
  canon_tiles x h using View.cover_of_tiledBy _ ![1, 1, 2048] (by sl_kernel_rfl) (ix3 0 s j)
  · change s.val = 5 + (x 1).val at h1
    rw [zero_apply]
    unfold sums
    rw [if_neg (by omega), if_neg (by omega), if_neg (by omega), if_neg (by omega), if_neg (by omega)]
  · change s.val = 4 + (x 1).val at h1
    rw [unit_row x j h2, sum16]
    unfold sums
    rw [if_neg (by omega), if_neg (by omega), if_neg (by omega), if_neg (by omega), if_pos (by omega)]
    exact Finset.sum_congr rfl fun r _ => by simp only [mod_block]
  · change s.val = 3 + (x 1).val at h1
    rw [unit_row x j h2, sum15]
    unfold sums
    rw [if_neg (by omega), if_neg (by omega), if_neg (by omega), if_pos (by omega)]
    exact Finset.sum_congr rfl fun r _ => by simp only [scale_apply, mod_block, nrm_block, block7, block8]
  · change s.val = 2 + (x 1).val at h1
    rw [unit_row x j h2, sum14]
    unfold sums
    rw [if_neg (by omega), if_neg (by omega), if_pos (by omega)]
    exact Finset.sum_congr rfl fun r _ => by simp only [gate_apply, row_block, block5]
  · change s.val = 1 + (x 1).val at h1
    rw [unit_row x j h2, sum13]
    unfold sums
    rw [if_neg (by omega), if_pos (by omega)]
    exact Finset.sum_congr rfl fun r _ => by simp only [out_block]
  · change s.val = (x 1).val at h1
    rw [unit_row x j h2, sum12]
    unfold sums
    rw [if_pos (by omega)]
    exact Finset.sum_congr rfl fun r _ => by simp only [gain_apply, out_block, nrm_block]

open Cert.LnBwdReferenceIdeal.Read in
/-- The reference's scale by block. -/
theorem ref_scale (sc : Mods) (t : Fin 9) (j : Fin 2048) :
    val_main_v3 (F := Ideal) sc (ix3 t 0 j) = sc (ix3 (side t) 0 j) := by
  pointwise [val_main_v3, val_main_v2, val_main_v1, val_main_v0]
  by_cases h : t.val < 1
  · exact (dif_pos h).trans (congrArg (fun q => sc (ix3 q 0 j)) (Fin.ext (by show t.val = min t.val 1; omega)))
  · exact (dif_neg h).trans (congrArg (fun q => sc (ix3 q 0 j)) (Fin.ext (by show 1 = min t.val 1; omega)))

open Cert.LnBwdReferenceIdeal.Read in
/-- The reference's gate by block. -/
theorem ref_gate (sc : Mods) (t : Fin 9) (j : Fin 2048) :
    val_main_v7 (F := Ideal) sc (ix3 t 0 j) = sc (ix3 (side t) 0 j) := by
  pointwise [val_main_v7, val_main_v6, val_main_v5, val_main_v4]
  by_cases h : t.val < 1
  · exact (dif_pos h).trans (congrArg (fun q => sc (ix3 q 0 j)) (Fin.ext (by show t.val = min t.val 1; omega)))
  · exact (dif_neg h).trans (congrArg (fun q => sc (ix3 q 0 j)) (Fin.ext (by show 1 = min t.val 1; omega)))

open Cert.LnBwdReferenceIdeal.Read in
/-- The reference's residual. -/
theorem ref_resid (x y : Tokens) (gate : Mods) (t : Fin 9) (r : Fin 256) (j : Fin 2048) :
    val_main_v17 (F := Ideal) x y gate (ix3 t r j) = resid x y gate t r j := by
  unfold resid alpha
  rw [← ref_gate gate t j]
  pointwise [val_main_v17, val_main_v16, val_main_v15, val_main_v14, val_main_v13, val_main_cst_0, val_main_v11, val_main_v10]
  rfl

open Cert.LnBwdReferenceIdeal.Read in
/-- The reference's mean. -/
theorem ref_mean (x y : Tokens) (gate : Mods) (t : Fin 9) (r : Fin 256) :
    val_main_v21 (F := Ideal) x y gate (ix3 t r 0) = mean (resid x y gate t r) := by
  unfold mean
  simp only [← ref_resid]
  pointwise [val_main_v21, val_main_v20, val_main_v19, val_main_v18, val_main_cst_1, val_main_cst_2]

open Cert.LnBwdReferenceIdeal.Read in
/-- The reference's deviations, as the normed rows take them … -/
theorem ref_centred (x y : Tokens) (gate : Mods) (t : Fin 9) (r : Fin 256) (j : Fin 2048) :
    val_main_v23 (F := Ideal) x y gate (ix3 t r j) = centred (resid x y gate t r) j := by
  unfold centred
  rw [← ref_resid, ← ref_mean]
  pointwise [val_main_v23, val_main_v22]

open Cert.LnBwdReferenceIdeal.Read in
/-- … and as the variance does. -/
theorem ref_centred2 (x y : Tokens) (gate : Mods) (t : Fin 9) (r : Fin 256) (j : Fin 2048) :
    val_main_v32 (F := Ideal) x y gate (ix3 t r j) = centred (resid x y gate t r) j := by
  unfold centred
  rw [← ref_resid, ← ref_mean]
  pointwise [val_main_v32, val_main_v31]

open Cert.LnBwdReferenceIdeal.Read in
/-- The reference's variance. -/
theorem ref_spread (x y : Tokens) (gate : Mods) (t : Fin 9) (r : Fin 256) :
    val_main_v34 (F := Ideal) x y gate (ix3 t r 0) = spread (resid x y gate t r) := by
  unfold spread mean
  simp only [← ref_centred]
  pointwise [val_main_v34, val_main_v33, val_main_v30, val_main_v29, val_main_v28, val_main_v27, val_main_v24, val_main_cst_4, val_main_cst_5, val_main_cst_6]

open Cert.LnBwdReferenceIdeal.Read in
/-- The reference's inverse deviation. -/
theorem ref_rstd (x y : Tokens) (gate : Mods) (t : Fin 9) (r : Fin 256) :
    val_main_v35 (F := Ideal) x y gate (ix3 t r 0) = rstd (resid x y gate t r) := by
  unfold rstd
  rw [← ref_spread]
  pointwise [val_main_v35]

open Cert.LnBwdReferenceIdeal.Read in
/-- The reference's normed rows. -/
theorem ref_normal (x y : Tokens) (gate : Mods) (t : Fin 9) (r : Fin 256) (j : Fin 2048) :
    val_main_v40 (F := Ideal) x y gate (ix3 t r j) = normal (resid x y gate t r) j := by
  unfold normal
  rw [← ref_centred2, ← ref_rstd]
  pointwise [val_main_v40, val_main_v39]

open Cert.LnBwdReferenceIdeal.Read in
/-- The reference's gradient of the modulated tokens. -/
theorem ref_mod (d e : Tokens) (t : Fin 9) (r : Fin 256) (j : Fin 2048) :
    val_main_v53 (F := Ideal) d e (ix3 t r j) = modGrad d e t r j := by
  unfold modGrad
  pointwise [val_main_v53, val_main_v52]
  rfl

open Cert.LnBwdReferenceIdeal.Read in
/-- The reference's gradient of the norm's result. -/
theorem ref_out (a d e : Tokens) (sc : Mods) (t : Fin 9) (r : Fin 256) (j : Fin 2048) :
    val_main_v61 (F := Ideal) a d e sc (ix3 t r j) = outGrad a d e sc t r j := by
  unfold outGrad
  rw [← ref_mod, ← ref_scale sc t j]
  pointwise [val_main_v61, val_main_v60, val_main_v59, val_main_v51, val_main_v46, val_main_v45, val_main_cst_8]
  rfl

open Cert.LnBwdReferenceIdeal.Read in
/-- The reference's gradient of the normed rows. -/
theorem ref_norm (a d e : Tokens) (sc : Mods) (g : Cols) (t : Fin 9) (r : Fin 256) (j : Fin 2048) :
    val_main_v68 (F := Ideal) a d e sc g (ix3 t r j) = normGrad a d e sc g t r j := by
  unfold normGrad
  rw [← ref_out]
  pointwise [val_main_v68, val_main_v67, val_main_v8]

open Cert.LnBwdReferenceIdeal.Read in
/-- The reference's gradient of the variance. -/
theorem ref_slope (a d e : Tokens) (sc : Mods) (x y : Tokens) (gate : Mods) (g : Cols) (t : Fin 9) (r : Fin 256) :
    val_main_v79 (F := Ideal) a d e sc x y gate g (ix3 t r 0) = Norm.slope (resid x y gate t r) (normGrad a d e sc g t r) := by
  unfold Norm.slope
  simp only [← ref_centred2, ← ref_norm, ← ref_rstd, ← ref_spread]
  pointwise [val_main_v79, val_main_v78, val_main_v74, val_main_v71, val_main_v70, val_main_v69, val_main_v38, val_main_v37, val_main_v36, val_main_cst_13, val_main_cst_7, val_main_cst_15]

open Cert.LnBwdReferenceIdeal.Read in
/-- The reference's gradient through the norm, step by step. -/
theorem ref_step (a d e : Tokens) (sc : Mods) (x y : Tokens) (gate : Mods) (g : Cols) (t : Fin 9) (r : Fin 256) (j : Fin 2048) :
    val_main_v92 (F := Ideal) a d e sc x y gate g (ix3 t r j) = stepwise (resid x y gate t r) (normGrad a d e sc g t r) j := by
  unfold stepwise
  simp only [← ref_centred, ← ref_norm, ← ref_rstd, ← ref_slope]
  pointwise [val_main_v92, val_main_v91, val_main_v90, val_main_v89, val_main_v88, val_main_v87, val_main_v86, val_main_v85, val_main_v84, val_main_v83, val_main_v82, val_main_v81, val_main_v80, val_main_v77, val_main_v76, val_main_v75, val_main_v73, val_main_v72, val_main_v26, val_main_v25, val_main_cst_3, val_main_cst_14, val_main_cst_16, val_main_cst_17, val_main_cst_18, val_main_cst_19]
  simp only [Finset.univ_unique, Finset.sum_singleton]
  rfl

open Cert.LnBwdReferenceIdeal.Read in
/-- At finite arguments the reference's gradient of the row before the norm is the closed form. -/
theorem ref_row (a d e : Tokens) (sc : Mods) (x y : Tokens) (gate : Mods) (g : Cols) (t : Fin 9) (r : Fin 256) (ha : ∀ i, a i ≠ ⊥ ∧ a i ≠ ⊤) (hd : ∀ i, d i ≠ ⊥ ∧ d i ≠ ⊤) (he : ∀ i, e i ≠ ⊥ ∧ e i ≠ ⊤) (hs : ∀ i, sc i ≠ ⊥ ∧ sc i ≠ ⊤) (hx : ∀ i, x i ≠ ⊥ ∧ x i ≠ ⊤)
    (hy : ∀ i, y i ≠ ⊥ ∧ y i ≠ ⊤) (hg : ∀ i, gate i ≠ ⊥ ∧ gate i ≠ ⊤) (hl : ∀ i, g i ≠ ⊥ ∧ g i ≠ ⊤) (j : Fin 2048) :
    val_main_v92 (F := Ideal) a d e sc x y gate g (ix3 t r j) = rowGrad a d e sc x y gate g t r j := by
  rw [ref_step]
  unfold rowGrad
  refine stepwise_eq (fun k => ?_) (fun k => ?_) j
  · unfold resid alpha
    exact Silu.add_real (Silu.mul_real ofBits_alpha (hx _)) (Silu.mul_real (hg _) (hy _))
  · unfold normGrad outGrad modGrad
    exact Silu.mul_real (Silu.add_real (ha _) (Silu.mul_real (Silu.add_real (hd _) (he _)) (Silu.add_real one_real (hs _)))) (hl _)

open Cert.LnBwdReferenceIdeal.Read in
/-- The reference's gradient of the tokens. -/
theorem ref_token (a d e : Tokens) (sc : Mods) (x y : Tokens) (gate : Mods) (g : Cols) (t : Fin 9) (r : Fin 256) (j : Fin 2048) :
    val_main_v102 (F := Ideal) a d e sc x y gate g (ix2 (row t r) j) = alpha * val_main_v92 (F := Ideal) a d e sc x y gate g (ix3 t r j) := by
  unfold alpha
  pointwise [val_main_v102, val_main_v99, val_main_v98, val_main_cst_21]
  simp only [row_div, row_mod]

open Cert.LnBwdReferenceIdeal.Read in
/-- The reference's gradient of the branch. -/
theorem ref_branch (a d e : Tokens) (sc : Mods) (x y : Tokens) (gate : Mods) (g : Cols) (t : Fin 9) (r : Fin 256) (j : Fin 2048) :
    val_main_v104 (F := Ideal) a d e sc x y gate g (ix2 (row t r) j) = gate (ix3 (side t) 0 j) * val_main_v92 (F := Ideal) a d e sc x y gate g (ix3 t r j) := by
  rw [← ref_gate gate t j]
  pointwise [val_main_v104, val_main_v103, val_main_v94, val_main_v93]
  simp only [row_div, row_mod]

open Cert.LnBwdReferenceIdeal.Read in
/-- The reference's sums over a block. -/
theorem ref_sums (a d e : Tokens) (sc : Mods) (x y : Tokens) (gate : Mods) (g : Cols) (b : Cols) (t : Fin 9) (s : Fin 8) (j : Fin 2048) :
    val_main_v101 (F := Ideal) a d e sc x y gate g b (ix3 t s j) =
      (if s.val = 0 then ∑ r : Fin 256, val_main_v40 (F := Ideal) x y gate (ix3 t r j) * val_main_v61 (F := Ideal) a d e sc (ix3 t r j)
      else if s.val = 1 then ∑ r : Fin 256, val_main_v61 (F := Ideal) a d e sc (ix3 t r j)
      else if s.val = 2 then ∑ r : Fin 256, val_main_v92 (F := Ideal) a d e sc x y gate g (ix3 t r j) * y (ix2 (row t r) j)
      else if s.val = 3 then ∑ r : Fin 256, (val_main_v40 (F := Ideal) x y gate (ix3 t r j) * g (ix1 j) + b (ix1 j)) * val_main_v53 (F := Ideal) d e (ix3 t r j)
      else if s.val = 4 then ∑ r : Fin 256, val_main_v53 (F := Ideal) d e (ix3 t r j)
      else 0 : EReal) := by
  pointwise [val_main_v101, val_main_v100, val_main_v97, val_main_v96, val_main_v95, val_main_v66, val_main_v65, val_main_v64, val_main_v63, val_main_v62, val_main_v58, val_main_v57, val_main_v56, val_main_v55, val_main_v54, val_main_v44, val_main_v43, val_main_v42, val_main_v41, val_main_v11, val_main_v9, val_main_v8, val_main_cst_9, val_main_cst_10, val_main_cst_11, val_main_cst_12, val_main_cst_20, val_main_cst_22]
  split_ifs <;> first | rfl | omega

open Cert.LnBwdReferenceIdeal.Read in
/-- Once the gradients of the rows agree, so do the sums. -/
theorem sums_eq (a d e : Tokens) (sc : Mods) (x y : Tokens) (gate : Mods) (g b : Cols)
    (hb : ∀ t r j, val_main_v92 (F := Ideal) a d e sc x y gate g (ix3 t r j) = rowGrad a d e sc x y gate g t r j) (t : Fin 9) (s : Fin 8) (j : Fin 2048) :
    val_main_v101 (F := Ideal) a d e sc x y gate g b (ix3 t s j) = sums a d e sc x y gate g b t s j := by
  rw [ref_sums]
  simp only [hb, ref_normal, ref_out, ref_mod]
  unfold sums
  split_ifs
  · exact Finset.sum_congr rfl fun r _ => mul_comm _ _
  · rfl
  · rfl
  · exact Finset.sum_congr rfl fun r _ => mul_comm _ _
  · rfl
  · rfl

open Cert.LnBwdReferenceIdeal.Read in
/-- Once the gradients of the rows agree, so do those of the branch. -/
theorem branch_eq (a d e : Tokens) (sc : Mods) (x y : Tokens) (gate : Mods) (g : Cols)
    (hb : ∀ t r j, val_main_v92 (F := Ideal) a d e sc x y gate g (ix3 t r j) = rowGrad a d e sc x y gate g t r j) (t : Fin 9) (r : Fin 256) (j : Fin 2048) :
    val_main_v104 (F := Ideal) a d e sc x y gate g (ix2 (row t r) j) = branchGrad a d e sc x y gate g t r j := by
  rw [ref_branch, hb]
  rfl

/-- The kernel runs on the machine, keeps its arguments, and ends with every counter at zero. -/
theorem frame : Cert.quiescent_LnBwd := fun m ρ _ => Cert.LnBwd.Gen.frame m ρ

/-- The same of its idealization. -/
theorem frameIdeal : Cert.quiescent_LnBwdIdeal := fun m ρ _ => Cert.LnBwdIdeal.Gen.frame m ρ

/-- The same of the reference. -/
theorem frameReference : Cert.quiescent_LnBwdReferenceIdeal := fun m ρ _ =>
  (θ_run Cert.LnBwdReferenceIdeal.defs _ _).mono (fun r h => ⟨fun c => (h c).2.2.2, sem_eq_zero_of_no_sems (by decide) r.2⟩)
    (Cert.LnBwdReferenceIdeal.Value.run (F := Ideal) m ρ)

/-- The precondition's shapes fit. -/
theorem preFacts : Cert.Pre_finite_ln.Facts where
  bcast_S_S2304x2048 := by decide
  bcast_S_S2x1x2048 := by decide
  bcast_S_S2048 := by decide

/-- The idealized kernel's frame at finite arguments. -/
theorem frameIdeal_pre : Cert.quiescent_LnBwdIdeal_pre_finite_ln (hPre_finite_ln := preFacts) := fun m ρ _ => frameIdeal m ρ trivial

/-- The reference's frame at finite arguments. -/
theorem frameReference_pre : Cert.quiescent_LnBwdReferenceIdeal_pre_finite_ln (hPre_finite_ln := preFacts) :=
  fun m ρ _ => frameReference m ρ trivial

open Cert.LnBwdReferenceIdeal.Read in
/-- Where every argument is finite, the kernel's three results are the reference's. -/
theorem algebraic : Cert.algebraic_LnBwdIdeal_LnBwdReferenceIdeal_pre_finite_ln (hPre_finite_ln := preFacts) := by
  intro m g m' g' hpre hin
  refine ⟨_, _, _, Value.run_blocks m g, (θ_run Cert.LnBwdReferenceIdeal.defs _ _).mono (fun r h c => ?_)
    (Cert.LnBwdReferenceIdeal.Value.run (F := Ideal) m' g')⟩
  obtain ⟨h0, h1, h2, hargs⟩ := h c
  obtain ⟨a0, a1, a2, a3, a4, a5, a6, a7, a8⟩ := hin c
  obtain ⟨f0, f1, f2, f3, f4, f5, f6, f7, -⟩ := hpre c
  have back (t : Fin 9) (r : Fin 256) := ref_row (arg0 m c) (arg1 m c) (arg2 m c) (arg3 m c) (arg4 m c) (arg5 m c) (arg6 m c) (arg7 m c) t r
    (fun i => FfDownProof.finite_of_lt (by rw [← Attn.ofBits_posInf]; exact congrFun f0 i))
    (fun i => FfDownProof.finite_of_lt (by rw [← Attn.ofBits_posInf]; exact congrFun f1 i))
    (fun i => FfDownProof.finite_of_lt (by rw [← Attn.ofBits_posInf]; exact congrFun f2 i))
    (fun i => FfDownProof.finite_of_lt (by rw [← Attn.ofBits_posInf]; exact congrFun f3 i))
    (fun i => FfDownProof.finite_of_lt (by rw [← Attn.ofBits_posInf]; exact congrFun f4 i))
    (fun i => FfDownProof.finite_of_lt (by rw [← Attn.ofBits_posInf]; exact congrFun f5 i))
    (fun i => FfDownProof.finite_of_lt (by rw [← Attn.ofBits_posInf]; exact congrFun f6 i))
    (fun i => FfDownProof.finite_of_lt (by rw [← Attn.ofBits_posInf]; exact congrFun f7 i))
  refine ⟨(h0.trans (val_main_v102_eq _ _)).trans ?_, (h1.trans (val_main_v104_eq _ _)).trans ?_, (h2.trans (val_main_v101_eq _ _)).trans ?_, hargs⟩
  · rw [a0, a1, a2, a3, a4, a5, a6, a7]
    funext i
    rw [eq_ix2 i]
    obtain ⟨t, r, e⟩ := eq_row (i 0)
    rw [e]
    refine (ref_token _ _ _ _ _ _ _ _ t r _).trans ((congrArg (alpha * ·) (back t r _)).trans (kernel_token m c t r _).symm)
  · rw [a0, a1, a2, a3, a4, a5, a6, a7]
    funext i
    rw [eq_ix2 i]
    obtain ⟨t, r, e⟩ := eq_row (i 0)
    rw [e]
    exact (branch_eq _ _ _ _ _ _ _ _ back t r _).trans (kernel_branch m c t r _).symm
  · rw [a0, a1, a2, a3, a4, a5, a6, a7, a8]
    funext i
    rw [eq_ix3 i]
    exact (sums_eq _ _ _ _ _ _ _ _ _ back _ _ _).trans (kernel_sums m c _ _ _).symm

end Cert.LnBwdProof

end
-- ==== Proof.ResidLn.lean ====
module

public import proofs.«01_k».proof.Defs
public import proofs.«01_k».proof.Proof.Gen.ResidLn.Frame
public import proofs.«01_k».proof.Proof.Gen.ResidLnIdeal.Value
public import proofs.«01_k».proof.Proof.Gen.ResidLnReferenceIdeal.Run
public import proofs.«01_k».proof.Proof.Gen.ResidLnReferenceIdeal.Read
public import Idealize.ShloMosaic.Lib.Pipeline.ValueKit
public import proofs.«01_k».proof.Proof.Rows
public import proofs.«01_k».proof.Proof.Norm
public import Idealize.ShloMosaic.Lib.Claim
public import Idealize.ShloMosaic.Lib.Pointwise
public import Idealize.ShloMosaic.Lib.Pipeline.ValueKit.Basic

/- The residual, its layer norm, and the modulation of the normed tokens.  Kernel and reference. -/

@[expose] public section

set_option maxRecDepth 16384

noncomputable section

namespace Cert.ResidLnProof

open Idealize.ShloMosaic Idealize.ShloMosaic.TcCoe Idealize.SL.Sem Cert.ResidLnIdeal Cert.ResidLnIdeal.Gen Cert.Rows Cert.Norm

local notation "Tokens" => Vec Ideal S2304x2048 EltTy.f32
local notation "Mods" => Vec Ideal S2x1x2048 EltTy.f32
local notation "Cols" => Vec Ideal S2048 EltTy.f32
local notation "BT" => Vec Ideal S256x2048 EltTy.f32
local notation "BM" => Vec Ideal S1x1x2048 EltTy.f32
local notation "BC" => Vec Ideal S1x2048 EltTy.f32

/-- The weight of the residual. -/
def alpha : EReal := Ideal.ofBits .f32 0x3FB504F3#32

/-- Token `R`'s row before the norm, with side `s`'s gate: the residual with the gated branch. -/
def resid (x y : Tokens) (gate : Mods) (R : Fin 2304) (s : Fin 2) (k : Fin 2048) : EReal :=
  alpha * x (ix2 R k) + gate (ix3 s 0 k) * y (ix2 R k)

/-- The normed token. -/
def normed (x y : Tokens) (gate : Mods) (g b : Cols) (R : Fin 2304) (s : Fin 2) (j : Fin 2048) : EReal :=
  normal (resid x y gate R s) j * g (ix1 j) + b (ix1 j)

/-- The normed token, modulated. -/
def modulated (x y : Tokens) (gate : Mods) (g b : Cols) (sc sh : Mods) (R : Fin 2304) (s : Fin 2) (j : Fin 2048) : EReal :=
  normed x y gate g b R s j * (1 + sc (ix3 s 0 j)) + sh (ix3 s 0 j)

/-- A block's row before the norm. -/
def residB (x y : BT) (gate : BM) (r : Fin 256) (k : Fin 2048) : EReal := alpha * x (ix2 r k) + gate (ix3 0 0 k) * y (ix2 r k)

/-- The body's block of normed tokens. -/
theorem normed_apply (x : BT) (gate : BM) (y : BT) (g b : BC) (r : Fin 256) (j : Fin 2048) :
    k0_pay2 x gate y g b (ix2 r j) = normal (residB x y gate r) j * g (ix2 0 j) + b (ix2 0 j) := by
  unfold normal rstd spread centred mean residB alpha
  pointwise [k0_pay2]

/-- The body's block of modulated tokens, from a normed one. -/
theorem modulated_apply (v : FVec Ideal S256x2048 .f32) (sc sh : BM) (r : Fin 256) (j : Fin 2048) :
    k0_pay1 v (k0_pay3 sc) sh (ix2 r j) = v (ix2 r j) * (1 + sc (ix3 0 0 j)) + sh (ix3 0 0 j) := by
  pointwise [k0_pay1, k0_pay3]

/-- What the body leaves in the two results' blocks. -/
theorem stored7 (x y : BT) (gate : BM) (g b : BC) (sc sh : BM) : out0_7 x y gate g b sc sh = k0_pay2 x gate y g b := by
  unfold out0_7
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide)]

/-- The second of them. -/
theorem stored8 (x y : BT) (gate : BM) (g b : BC) (sc sh : BM) :
    out0_8 x y gate g b sc sh = k0_pay1 (k0_pay2 x gate y g b) (k0_pay3 sc) sh := by
  unfold out0_8
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide), View.ld_unit_lit _ _ (by decide), View.ld_unit_lit _ _ (by decide)]

/-- Grid point `t` takes a block of tokens, with its side's row of the modulations. -/
theorem index (t : Fin cfg0.N) : (win0_0.index t 0 = t.val ∧ win0_0.index t 1 = 0)
    ∧ (win0_1.index t 0 = t.val ∧ win0_1.index t 1 = 0)
    ∧ (win0_2.index t 0 = min t.val 1 ∧ win0_2.index t 1 = 0 ∧ win0_2.index t 2 = 0)
    ∧ (win0_3.index t 0 = 0 ∧ win0_3.index t 1 = 0)
    ∧ (win0_4.index t 0 = 0 ∧ win0_4.index t 1 = 0)
    ∧ (win0_5.index t 0 = min t.val 1 ∧ win0_5.index t 1 = 0 ∧ win0_5.index t 2 = 0)
    ∧ (win0_6.index t 0 = min t.val 1 ∧ win0_6.index t 1 = 0 ∧ win0_6.index t 2 = 0)
    ∧ (win0_7.index t 0 = t.val ∧ win0_7.index t 1 = 0)
    ∧ (win0_8.index t 0 = t.val ∧ win0_8.index t 1 = 0) := by
  revert t
  change ∀ t : Fin grid0.N, _
  decide +kernel

variable (m : (ℓ : Loc nD τ sig) → Buf (Elt Ideal) ℓ) (c : Dev nD)

/-- The argument arrays. -/
abbrev arg0 : Vec Ideal S2304x2048 .f32 := m ((c : Thread nD τ).loc main_arg0)
abbrev arg1 : Vec Ideal S2304x2048 .f32 := m ((c : Thread nD τ).loc main_arg1)
abbrev arg2 : Vec Ideal S2x1x2048 .f32 := m ((c : Thread nD τ).loc main_arg2)
abbrev arg3 : Vec Ideal S2048 .f32 := m ((c : Thread nD τ).loc main_arg3)
abbrev arg4 : Vec Ideal S2048 .f32 := m ((c : Thread nD τ).loc main_arg4)
abbrev arg5 : Vec Ideal S2x1x2048 .f32 := m ((c : Thread nD τ).loc main_arg5)
abbrev arg6 : Vec Ideal S2x1x2048 .f32 := m ((c : Thread nD τ).loc main_arg6)

/-- Point `t`'s block of the tokens. -/
abbrev blk0 (t : Fin cfg0.N) : Vec Ideal S256x2048 .f32 := iblk m c 0 t

/-- Argument 0's block. -/
theorem block0 (t : Fin cfg0.N) (r : Fin 256) (j : Fin 2048) : blk0 m c t (ix2 r j) = (arg0 m c) (ix2 (row t r) j) := by
  obtain ⟨i, -⟩ := index t
  unfold blk0 iblk
  rw [View.read_apply]
  show V m c main_arg0 _ = _
  rw [V_main_arg0]
  refine congrArg (arg0 m c) (funext fun a => Fin.ext ?_)
  match a with
  | ⟨0, _⟩ => show win0_0.index t 0 * 256 + 1 * r.val = t.val * 256 + r.val; rw [i.1]; omega
  | ⟨1, _⟩ => show win0_0.index t 1 * 2048 + 1 * j.val = j.val; rw [i.2]; omega

/-- Point `t`'s block of the branch. -/
abbrev blk1 (t : Fin cfg0.N) : Vec Ideal S256x2048 .f32 := iblk m c 1 t

/-- Argument 1's block. -/
theorem block1 (t : Fin cfg0.N) (r : Fin 256) (j : Fin 2048) : blk1 m c t (ix2 r j) = (arg1 m c) (ix2 (row t r) j) := by
  obtain ⟨-, i, -⟩ := index t
  unfold blk1 iblk
  rw [View.read_apply]
  show V m c main_arg1 _ = _
  rw [V_main_arg1]
  refine congrArg (arg1 m c) (funext fun a => Fin.ext ?_)
  match a with
  | ⟨0, _⟩ => show win0_1.index t 0 * 256 + 1 * r.val = t.val * 256 + r.val; rw [i.1]; omega
  | ⟨1, _⟩ => show win0_1.index t 1 * 2048 + 1 * j.val = j.val; rw [i.2]; omega

/-- Point `t`'s block of the gates. -/
abbrev blk2 (t : Fin cfg0.N) : Vec Ideal S1x1x2048 .f32 := iblk m c 2 t

/-- Argument 2's block. -/
theorem block2 (t : Fin cfg0.N) (j : Fin 2048) : blk2 m c t (ix3 0 0 j) = (arg2 m c) (ix3 (side t) 0 j) := by
  obtain ⟨-, -, i, -⟩ := index t
  unfold blk2 iblk
  rw [View.read_apply]
  show V m c main_arg2 _ = _
  rw [V_main_arg2]
  refine congrArg (arg2 m c) (funext fun a => Fin.ext ?_)
  match a with
  | ⟨0, _⟩ => show win0_2.index t 0 * 1 + 1 * 0 = min t.val 1; rw [i.1]; omega
  | ⟨1, _⟩ => show win0_2.index t 1 * 1 + 1 * 0 = 0; rw [i.2.1]
  | ⟨2, _⟩ => show win0_2.index t 2 * 2048 + 1 * j.val = j.val; rw [i.2.2]; omega

/-- Point `t`'s block of the gains. -/
abbrev blk3 (t : Fin cfg0.N) : Vec Ideal S1x2048 .f32 := iblk m c 3 t

/-- The host gives the gains a unit axis. -/
theorem host3 (j : Fin 2048) : (V m c main_v0 : Vec Ideal S1x2048 .f32) (ix2 0 j) = (arg3 m c) (ix1 j) := by
  entry_read
  pointwise

/-- Argument 3's block. -/
theorem block3 (t : Fin cfg0.N) (j : Fin 2048) : blk3 m c t (ix2 0 j) = (arg3 m c) (ix1 j) := by
  obtain ⟨-, -, -, i, -⟩ := index t
  unfold blk3 iblk
  rw [View.read_apply]
  show V m c main_v0 _ = _
  refine Eq.trans (congrArg (V m c main_v0) (funext fun a => Fin.ext ?_)) (host3 m c j)
  match a with
  | ⟨0, _⟩ => show win0_3.index t 0 * 1 + 1 * 0 = 0; rw [i.1]
  | ⟨1, _⟩ => show win0_3.index t 1 * 2048 + 1 * j.val = j.val; rw [i.2]; omega

/-- Point `t`'s block of the biases. -/
abbrev blk4 (t : Fin cfg0.N) : Vec Ideal S1x2048 .f32 := iblk m c 4 t

/-- The host gives the biases a unit axis. -/
theorem host4 (j : Fin 2048) : (V m c main_v1 : Vec Ideal S1x2048 .f32) (ix2 0 j) = (arg4 m c) (ix1 j) := by
  entry_read
  pointwise

/-- Argument 4's block. -/
theorem block4 (t : Fin cfg0.N) (j : Fin 2048) : blk4 m c t (ix2 0 j) = (arg4 m c) (ix1 j) := by
  obtain ⟨-, -, -, -, i, -⟩ := index t
  unfold blk4 iblk
  rw [View.read_apply]
  show V m c main_v1 _ = _
  refine Eq.trans (congrArg (V m c main_v1) (funext fun a => Fin.ext ?_)) (host4 m c j)
  match a with
  | ⟨0, _⟩ => show win0_4.index t 0 * 1 + 1 * 0 = 0; rw [i.1]
  | ⟨1, _⟩ => show win0_4.index t 1 * 2048 + 1 * j.val = j.val; rw [i.2]; omega

/-- Point `t`'s block of the scales. -/
abbrev blk5 (t : Fin cfg0.N) : Vec Ideal S1x1x2048 .f32 := iblk m c 5 t

/-- Argument 5's block. -/
theorem block5 (t : Fin cfg0.N) (j : Fin 2048) : blk5 m c t (ix3 0 0 j) = (arg5 m c) (ix3 (side t) 0 j) := by
  obtain ⟨-, -, -, -, -, i, -⟩ := index t
  unfold blk5 iblk
  rw [View.read_apply]
  show V m c main_arg5 _ = _
  rw [V_main_arg5]
  refine congrArg (arg5 m c) (funext fun a => Fin.ext ?_)
  match a with
  | ⟨0, _⟩ => show win0_5.index t 0 * 1 + 1 * 0 = min t.val 1; rw [i.1]; omega
  | ⟨1, _⟩ => show win0_5.index t 1 * 1 + 1 * 0 = 0; rw [i.2.1]
  | ⟨2, _⟩ => show win0_5.index t 2 * 2048 + 1 * j.val = j.val; rw [i.2.2]; omega

/-- Point `t`'s block of the shifts. -/
abbrev blk6 (t : Fin cfg0.N) : Vec Ideal S1x1x2048 .f32 := iblk m c 6 t

/-- Argument 6's block. -/
theorem block6 (t : Fin cfg0.N) (j : Fin 2048) : blk6 m c t (ix3 0 0 j) = (arg6 m c) (ix3 (side t) 0 j) := by
  obtain ⟨-, -, -, -, -, -, i, -⟩ := index t
  unfold blk6 iblk
  rw [View.read_apply]
  show V m c main_arg6 _ = _
  rw [V_main_arg6]
  refine congrArg (arg6 m c) (funext fun a => Fin.ext ?_)
  match a with
  | ⟨0, _⟩ => show win0_6.index t 0 * 1 + 1 * 0 = min t.val 1; rw [i.1]; omega
  | ⟨1, _⟩ => show win0_6.index t 1 * 1 + 1 * 0 = 0; rw [i.2.1]
  | ⟨2, _⟩ => show win0_6.index t 2 * 2048 + 1 * j.val = j.val; rw [i.2.2]; omega

/-- The normed tokens, block by block. -/
theorem written7 (t : Fin cfg0.N) (r : Fin 256) (j : Fin 2048) : ((dats m 0 c).arrAt 7 cfg0.N : Vec Ideal S2304x2048 .f32) (ix2 (row t r) j)
    = (out0_7 (blk0 m c t) (blk1 m c t) (blk2 m c t) (blk3 m c t) (blk4 m c t) (blk5 m c t) (blk6 m c t) : Vec Ideal S256x2048 .f32) (ix2 r j) := by
  obtain ⟨-, -, -, -, -, -, -, i, -⟩ := index t
  have b := congrFun (Value.blocks7 m c t (flush0_7 t)) (ix2 r j)
  rw [View.read_apply, Value.flushed7] at b
  have hy : (((cfg0.win 7).blk t).view.emb (ix2 r j) : S2304x2048.Idx) = (ix2 (row t r) j) := by
    refine funext fun a => Fin.ext ?_
    match a with
    | ⟨0, _⟩ => show win0_7.index t 0 * 256 + 1 * r.val = t.val * 256 + r.val; rw [i.1]; omega
    | ⟨1, _⟩ => show win0_7.index t 1 * 2048 + 1 * j.val = j.val; rw [i.2]; omega
  rw [hy] at b
  exact b

/-- The modulated tokens, block by block. -/
theorem written8 (t : Fin cfg0.N) (r : Fin 256) (j : Fin 2048) : ((dats m 0 c).arrAt 8 cfg0.N : Vec Ideal S2304x2048 .bf16) (ix2 (row t r) j)
    = (out0_8 (blk0 m c t) (blk1 m c t) (blk2 m c t) (blk3 m c t) (blk4 m c t) (blk5 m c t) (blk6 m c t) : Vec Ideal S256x2048 .bf16) (ix2 r j) := by
  obtain ⟨-, -, -, -, -, -, -, -, i⟩ := index t
  have b := congrFun (Value.blocks8 m c t (flush0_8 t)) (ix2 r j)
  rw [View.read_apply, Value.flushed8] at b
  have hy : (((cfg0.win 8).blk t).view.emb (ix2 r j) : S2304x2048.Idx) = (ix2 (row t r) j) := by
    refine funext fun a => Fin.ext ?_
    match a with
    | ⟨0, _⟩ => show win0_8.index t 0 * 256 + 1 * r.val = t.val * 256 + r.val; rw [i.1]; omega
    | ⟨1, _⟩ => show win0_8.index t 1 * 2048 + 1 * j.val = j.val; rw [i.2]; omega
  rw [hy] at b
  exact b

/-- A block's row before the norm is a token's. -/
theorem resid_block (t : Fin cfg0.N) (r : Fin 256) : residB (blk0 m c t) (blk1 m c t) (blk2 m c t) r
    = resid (arg0 m c) (arg1 m c) (arg2 m c) (row t r) (side t) := by
  funext k
  unfold residB resid
  rw [block0, block1, block2]

/-- The normed tokens of the kernel. -/
theorem kernel_normed (t : Fin cfg0.N) (r : Fin 256) (j : Fin 2048) : ((dats m 0 c).arrAt 7 cfg0.N : Vec Ideal S2304x2048 .f32) (ix2 (row t r) j)
    = normed (arg0 m c) (arg1 m c) (arg2 m c) (arg3 m c) (arg4 m c) (row t r) (side t) j := by
  rw [written7 m c t r j, stored7, normed_apply, resid_block, block3, block4]
  rfl

/-- The modulated tokens of the kernel. -/
theorem kernel_modulated (t : Fin cfg0.N) (r : Fin 256) (j : Fin 2048) : ((dats m 0 c).arrAt 8 cfg0.N : Vec Ideal S2304x2048 .bf16) (ix2 (row t r) j)
    = modulated (arg0 m c) (arg1 m c) (arg2 m c) (arg3 m c) (arg4 m c) (arg5 m c) (arg6 m c) (row t r) (side t) j := by
  rw [written8 m c t r j, stored8, modulated_apply, normed_apply, resid_block, block3, block4, block5, block6]
  rfl

/-! ### The reference's two sides -/

/-- The context's tokens … -/
def ctxRow (i : Fin 256) : Fin 2304 := ⟨i.val, by omega⟩

/-- … and the latent's after them. -/
def latRow (i : Fin 2048) : Fin 2304 := ⟨256 + i.val, by omega⟩

section Reference
open Cert.ResidLnReferenceIdeal.Read
variable (x y : Tokens) (gate : Mods) (g b : Cols) (sc sh : Mods)

/-- The context's rows before the norm. -/
theorem ctx_resid (i : Fin 256) (j : Fin 2048) : val_main_v8 (F := Ideal) x y gate (ix2 i j) = resid x y gate (ctxRow i) 0 j := by
  unfold resid alpha
  pointwise [val_main_v8, val_main_v7, val_main_v6, val_main_v5, val_main_v4, val_main_v3, val_main_v2, val_main_v1, val_main_v0, val_main_cst]
  rfl

/-- Their means. -/
theorem ctx_mean (i : Fin 256) : val_main_v12 (F := Ideal) x y gate (ix2 i 0) = mean (resid x y gate (ctxRow i) 0) := by
  unfold mean
  simp only [← ctx_resid]
  pointwise [val_main_v12, val_main_v11, val_main_v10, val_main_v9, val_main_cst_0, val_main_cst_1]

/-- Their deviations from the mean. -/
theorem ctx_centred (i : Fin 256) (j : Fin 2048) : val_main_v14 (F := Ideal) x y gate (ix2 i j) = centred (resid x y gate (ctxRow i) 0) j := by
  unfold centred
  rw [← ctx_resid, ← ctx_mean]
  pointwise [val_main_v14, val_main_v13]

/-- The normalised rows. -/
theorem ctx_normal (i : Fin 256) (j : Fin 2048) : val_main_v26 (F := Ideal) x y gate (ix2 i j) = normal (resid x y gate (ctxRow i) 0) j := by
  unfold normal rstd spread
  have h : mean (fun k => centred (resid x y gate (ctxRow i) 0) k * centred (resid x y gate (ctxRow i) 0) k)
      = Ideal.div (∑ k, val_main_v14 (F := Ideal) x y gate (ix2 i k) * val_main_v14 (F := Ideal) x y gate (ix2 i k)) (Ideal.ofBits .f32 0x45000000#32) := by
    simp only [ctx_centred]
    rfl
  have e : val_main_v21 (F := Ideal) x y gate = val_main_v14 (F := Ideal) x y gate := rfl
  rw [h, ← ctx_centred]
  simp only [← e]
  pointwise [val_main_v26, val_main_v25, val_main_v24, val_main_v23, val_main_v22, val_main_v19, val_main_v18, val_main_v17, val_main_v16, val_main_v15, val_main_cst_2, val_main_cst_3, val_main_cst_4]
  rw [e]

/-- The context's normed tokens. -/
theorem ctx_normed (i : Fin 256) (j : Fin 2048) : val_main_v32 (F := Ideal) x y gate g b (ix2 i j) = normed x y gate g b (ctxRow i) 0 j := by
  unfold normed
  rw [← ctx_normal]
  pointwise [val_main_v32, val_main_v31, val_main_v30, val_main_v29, val_main_v28, val_main_v27]

/-- The context's modulated tokens. -/
theorem ctx_modulated (i : Fin 256) (j : Fin 2048) : val_main_v75 (F := Ideal) x y gate g b sc sh (ix2 i j) = modulated x y gate g b sc sh (ctxRow i) 0 j := by
  unfold modulated
  rw [← ctx_normed]
  pointwise [val_main_v75, val_main_v74, val_main_v73, val_main_v72, val_main_v71, val_main_v70, val_main_v69, val_main_v68, val_main_v67, val_main_v66, val_main_cst_11]

/-- The latent's rows before the norm. -/
theorem lat_resid (i : Fin 2048) (j : Fin 2048) : val_main_v41 (F := Ideal) x y gate (ix2 i j) = resid x y gate (latRow i) 1 j := by
  unfold resid alpha
  pointwise [val_main_v41, val_main_v40, val_main_v39, val_main_v38, val_main_v37, val_main_v36, val_main_v35, val_main_v34, val_main_v33, val_main_cst_5]
  rfl

/-- Their means. -/
theorem lat_mean (i : Fin 2048) : val_main_v45 (F := Ideal) x y gate (ix2 i 0) = mean (resid x y gate (latRow i) 1) := by
  unfold mean
  simp only [← lat_resid]
  pointwise [val_main_v45, val_main_v44, val_main_v43, val_main_v42, val_main_cst_6, val_main_cst_7]

/-- Their deviations from the mean. -/
theorem lat_centred (i : Fin 2048) (j : Fin 2048) : val_main_v47 (F := Ideal) x y gate (ix2 i j) = centred (resid x y gate (latRow i) 1) j := by
  unfold centred
  rw [← lat_resid, ← lat_mean]
  pointwise [val_main_v47, val_main_v46]

/-- The normalised rows. -/
theorem lat_normal (i : Fin 2048) (j : Fin 2048) : val_main_v59 (F := Ideal) x y gate (ix2 i j) = normal (resid x y gate (latRow i) 1) j := by
  unfold normal rstd spread
  have h : mean (fun k => centred (resid x y gate (latRow i) 1) k * centred (resid x y gate (latRow i) 1) k)
      = Ideal.div (∑ k, val_main_v47 (F := Ideal) x y gate (ix2 i k) * val_main_v47 (F := Ideal) x y gate (ix2 i k)) (Ideal.ofBits .f32 0x45000000#32) := by
    simp only [lat_centred]
    rfl
  have e : val_main_v54 (F := Ideal) x y gate = val_main_v47 (F := Ideal) x y gate := rfl
  rw [h, ← lat_centred]
  simp only [← e]
  pointwise [val_main_v59, val_main_v58, val_main_v57, val_main_v56, val_main_v55, val_main_v52, val_main_v51, val_main_v50, val_main_v49, val_main_v48, val_main_cst_8, val_main_cst_9, val_main_cst_10]
  rw [e]

/-- The latent's normed tokens. -/
theorem lat_normed (i : Fin 2048) (j : Fin 2048) : val_main_v65 (F := Ideal) x y gate g b (ix2 i j) = normed x y gate g b (latRow i) 1 j := by
  unfold normed
  rw [← lat_normal]
  pointwise [val_main_v65, val_main_v64, val_main_v63, val_main_v62, val_main_v61, val_main_v60]

/-- The latent's modulated tokens. -/
theorem lat_modulated (i : Fin 2048) (j : Fin 2048) : val_main_v85 (F := Ideal) x y gate g b sc sh (ix2 i j) = modulated x y gate g b sc sh (latRow i) 1 j := by
  unfold modulated
  rw [← lat_normed]
  pointwise [val_main_v85, val_main_v84, val_main_v83, val_main_v82, val_main_v81, val_main_v80, val_main_v79, val_main_v78, val_main_v77, val_main_v76, val_main_cst_12]

/-- The normed tokens of the reference. -/
theorem reference_normed (t : Fin 9) (r : Fin 256) (j : Fin 2048) :
    val_main_v86 (F := Ideal) x y gate g b (ix2 (row t r) j) = normed x y gate g b (row t r) (side t) j := by
  have e : (row t r).val = t.val * 256 + r.val := rfl
  pointwise [val_main_v86]
  by_cases h : (row t r).val < 256
  · rw [show side t = 0 from Fin.ext (by show min t.val 1 = 0; omega)]
    refine (dif_pos h).trans ((ctx_normed x y gate g b ⟨(row t r).val, h⟩ j).trans ?_)
    rfl
  · rw [show side t = 1 from Fin.ext (by show min t.val 1 = 1; omega)]
    refine (dif_neg h).trans ((lat_normed x y gate g b ⟨(row t r).val - 256, by omega⟩ j).trans ?_)
    exact congrArg (fun R => normed x y gate g b R 1 j) (Fin.ext (by show 256 + ((row t r).val - 256) = (row t r).val; omega))

/-- The modulated tokens of the reference. -/
theorem reference_modulated (t : Fin 9) (r : Fin 256) (j : Fin 2048) :
    val_main_v88 (F := Ideal) x y gate g b sc sh (ix2 (row t r) j) = modulated x y gate g b sc sh (row t r) (side t) j := by
  have e : (row t r).val = t.val * 256 + r.val := rfl
  pointwise [val_main_v88, val_main_v87]
  by_cases h : (row t r).val < 256
  · rw [show side t = 0 from Fin.ext (by show min t.val 1 = 0; omega)]
    refine (dif_pos h).trans ((ctx_modulated x y gate g b sc sh ⟨(row t r).val, h⟩ j).trans ?_)
    rfl
  · rw [show side t = 1 from Fin.ext (by show min t.val 1 = 1; omega)]
    refine (dif_neg h).trans ((lat_modulated x y gate g b sc sh ⟨(row t r).val - 256, by omega⟩ j).trans ?_)
    exact congrArg (fun R => modulated x y gate g b sc sh R 1 j) (Fin.ext (by show 256 + ((row t r).val - 256) = (row t r).val; omega))

end Reference

/-- The kernel runs on the machine, keeps its arguments, and ends with every counter at zero. -/
theorem frame : Cert.quiescent_ResidLn := fun m ρ _ => Cert.ResidLn.Gen.frame m ρ

/-- The same of its idealization. -/
theorem frameIdeal : Cert.quiescent_ResidLnIdeal := fun m ρ _ => Cert.ResidLnIdeal.Gen.frame m ρ

/-- The same of the reference. -/
theorem frameReference : Cert.quiescent_ResidLnReferenceIdeal := fun m ρ _ =>
  (θ_run Cert.ResidLnReferenceIdeal.defs _ _).mono (fun r h => ⟨fun c => (h c).2.2, sem_eq_zero_of_no_sems (by decide) r.2⟩)
    (Cert.ResidLnReferenceIdeal.Value.run (F := Ideal) m ρ)

/-- The kernel's normed and modulated tokens are the reference's. -/
theorem algebraic : Cert.algebraic_ResidLnIdeal_ResidLnReferenceIdeal := by
  intro m g m' g' _ hin
  refine ⟨_, _, Value.run_blocks m g, (θ_run Cert.ResidLnReferenceIdeal.defs _ _).mono (fun r h c => ?_)
    (Cert.ResidLnReferenceIdeal.Value.run (F := Ideal) m' g')⟩
  obtain ⟨h0, h1, hargs⟩ := h c
  obtain ⟨a0, a1, a2, a3, a4, a5, a6⟩ := hin c
  refine ⟨(h0.trans (Cert.ResidLnReferenceIdeal.Read.val_main_v86_eq m' c)).trans ?_, (h1.trans (Cert.ResidLnReferenceIdeal.Read.val_main_v88_eq m' c)).trans ?_, hargs⟩
  · rw [a0, a1, a2, a3, a4]
    funext i
    rw [eq_ix2 i]
    obtain ⟨t, r, e⟩ := eq_row (i 0)
    rw [e]
    exact (reference_normed _ _ _ _ _ t r _).trans (kernel_normed m c t r _).symm
  · rw [a0, a1, a2, a3, a4, a5, a6]
    funext i
    rw [eq_ix2 i]
    obtain ⟨t, r, e⟩ := eq_row (i 0)
    rw [e]
    exact (reference_modulated _ _ _ _ _ _ _ t r _).trans (kernel_modulated m c t r _).symm

end Cert.ResidLnProof

end
-- ==== Proof.LossHead.lean ====
module

public import proofs.«01_k».proof.Defs
public import proofs.«01_k».proof.Proof.Gen.LossHead.Frame
public import proofs.«01_k».proof.Proof.Gen.LossHeadIdeal.Value
public import proofs.«01_k».proof.Proof.Gen.LossHeadReferenceIdeal.Run
public import proofs.«01_k».proof.Proof.Gen.LossHeadReferenceIdeal.Read
public import Idealize.ShloMosaic.Lib.Pipeline.ValueKit
public import proofs.«01_k».proof.Proof.Rows
public import proofs.«01_k».proof.Proof.Norm
public import proofs.«01_k».proof.Proof.ResidLn
public import proofs.«01_k».proof.Proof.Spec
public import proofs.«01_k».proof.Proof.Literals
public import Idealize.ShloMosaic.Lib.Claim
public import Idealize.ShloMosaic.Lib.Pointwise
public import Idealize.ShloMosaic.Lib.Pipeline.ValueKit.Basic

/- The loss and its gradient at the last layer norm.  Kernel and reference. -/

@[expose] public section

set_option maxRecDepth 16384

noncomputable section

namespace Cert.LossHeadProof

open Idealize.ShloMosaic Idealize.ShloMosaic.TcCoe Idealize.SL.Sem Cert.LossHeadIdeal Cert.LossHeadIdeal.Gen Cert.Rows Cert.Norm Cert.ResidLnProof

local notation "Tokens" => Vec Ideal S2304x2048 EltTy.f32
local notation "Mods" => Vec Ideal S2x1x2048 EltTy.f32
local notation "Cols" => Vec Ideal S2048 EltTy.f32
local notation "Target" => Vec Ideal S2048x2048 EltTy.f32
local notation "BT" => Vec Ideal S256x2048 EltTy.f32
local notation "BM" => Vec Ideal S1x1x2048 EltTy.f32
local notation "BC" => Vec Ideal S1x2048 EltTy.f32

/-- The target's row for token `r` of block `t`: the target has the latent's tokens only. -/
def lrow (t : Fin 9) (r : Fin 256) : Fin 2048 := ⟨(t.val - 1) * 256 + r.val, by omega⟩

/-- How far a normed token is from its target. -/
def miss (x y : Tokens) (gate : Mods) (g b : Cols) (tg : Target) (t : Fin 9) (r : Fin 256) (j : Fin 2048) : EReal :=
  normed x y gate g b (row t r) (side t) j - tg (ix2 (lrow t r) j)

/-- The loss's gradient: a context token has none. -/
def grad (x y : Tokens) (gate : Mods) (g b : Cols) (tg : Target) (t : Fin 9) (r : Fin 256) (j : Fin 2048) : EReal :=
  if t.val = 0 then 0 else miss x y gate g b tg t r j * ((1 / 2048 : ℝ) : EReal)

/-- A block's share of the loss: half the mean square of each token's miss. -/
def part (x y : Tokens) (gate : Mods) (g b : Cols) (tg : Target) (t : Fin 9) : EReal :=
  if t.val = 0 then 0 else ((1 / 4096 : ℝ) : EReal) * ∑ r, ∑ j, miss x y gate g b tg t r j * miss x y gate g b tg t r j

/-! ### The constants -/

/-- One half … -/
theorem ofBits_half : Ideal.ofBits .f32 0x3F000000#32 = ((1 / 2 : ℝ) : EReal) := by
  simp [Ideal.ofBits, Ideal.ieee, -EReal.coe_mul]; norm_num

/-- … and two; -/
theorem ofBits_two : Ideal.ofBits .f32 0x40000000#32 = ((2 : ℝ) : EReal) := by
  simp [Ideal.ofBits, Ideal.ieee, -EReal.coe_mul]; norm_num

/-- the reciprocal of the width … -/
theorem ofBits_width : Ideal.ofBits .f32 0x3A000000#32 = ((1 / 2048 : ℝ) : EReal) := by
  simp [Ideal.ofBits, Ideal.ieee, -EReal.coe_mul]; norm_num

/-- … and its half. -/
theorem ofBits_half_width : Ideal.ofBits .f32 0x39800000#32 = ((1 / 4096 : ℝ) : EReal) := by
  simp [Ideal.ofBits, Ideal.ieee, -EReal.coe_mul]; norm_num

/-- Half the sum of the rows' means, as one factor on the whole sum. -/
theorem half_means (a : Fin 256 → EReal) : Ideal.ofBits .f32 0x3F000000#32 * ∑ r, Ideal.div (a r) (Ideal.ofBits .f32 0x45000000#32)
    = ((1 / 4096 : ℝ) : EReal) * ∑ r, a r := by
  simp only [ofBits_2048, Ideal.div_coe (show (2048 : ℝ) ≠ 0 by norm_num)]
  rw [← Attn.sum_mul_coe _ _ (by norm_num), ofBits_half, mul_comm (∑ r, a r), ← mul_assoc, ← EReal.coe_mul]
  norm_num

/-- The gradient of half a mean square. -/
theorem half_square (e : EReal) : Ideal.div (Ideal.ofBits .f32 0x3F000000#32 * 1) (Ideal.ofBits .f32 0x45000000#32) * (Ideal.ofBits .f32 0x40000000#32 * e)
    = e * ((1 / 2048 : ℝ) : EReal) := by
  rw [ofBits_2048, Ideal.div_coe (show (2048 : ℝ) ≠ 0 by norm_num), ofBits_half, ofBits_two, mul_one, ← mul_assoc, ← EReal.coe_mul, ← EReal.coe_mul, mul_comm]
  norm_num

/-! ### The body -/

/-- The flag that a grid point is past the context's. -/
theorem flag (t : Fin cfg0.N) (r : Fin 256) (j : Fin 2048) :
    k0_pay5 (F := Ideal) (grid0.coords t) (ix2 r j) = if t.val = 0 then 0 else 1 := by
  have h := (by decide +kernel : ∀ t : Fin grid0.N, (Scalar.extui (Scalar.cmpi .sge (BitVec.ofNat 32 (grid0.coords t 0).val) 1#32) : BitVec 32)
    = if t.val = 0 then 0#32 else 1#32) t
  unfold k0_pay5
  simp only [h]
  by_cases h0 : t.val = 0
  · rw [if_pos h0, if_pos h0]
    pointwise
    simp
  · rw [if_neg h0, if_neg h0]
    pointwise
    have h1 : (1#32 : BitVec 32).toInt = 1 := by decide
    simp [h1]

/-- The body's normed block less its target. -/
theorem miss_apply (x : BT) (gate : BM) (y : BT) (g b : BC) (tg : BT) (r : Fin 256) (j : Fin 2048) :
    k0_pay4 x gate y g b tg (ix2 r j) = normal (residB x y gate r) j * g (ix2 0 j) + b (ix2 0 j) - tg (ix2 r j) := by
  unfold normal rstd spread centred mean residB alpha
  pointwise [k0_pay4]

/-- The body's block of the gradient. -/
theorem grad_apply (v w : FVec Ideal S256x2048 .f32) (r : Fin 256) (j : Fin 2048) :
    k0_pay2 v w (ix2 r j) = v (ix2 r j) * w (ix2 r j) * ((1 / 2048 : ℝ) : EReal) := by
  rw [← ofBits_width]
  pointwise [k0_pay2, k0_pay1]

/-- The body's block of the loss: one number in every place. -/
theorem part_apply (v w : FVec Ideal S256x2048 .f32) (s : Fin 8) (l : Fin 128) :
    k0_pay3 v w (ix3 0 s l) = ((1 / 4096 : ℝ) : EReal) * ∑ r, ∑ j, (v (ix2 r j) * w (ix2 r j)) * (v (ix2 r j) * w (ix2 r j)) := by
  rw [← ofBits_half_width]
  pointwise [k0_pay3, k0_pay1]

/-- What the body leaves in the gradient's block. -/
theorem stored6 (i : grid0.Coords) (x y : BT) (gate : BM) (g b : BC) (tg : BT) :
    out0_6 i x y gate g b tg = k0_pay2 (k0_pay4 x gate y g b tg) (k0_pay5 i) := by
  unfold out0_6 k0_pay7 k0_pay6
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide), View.ld_unit_lit _ _ (by decide)]

/-- What it leaves in the loss's block. -/
theorem stored7 (i : grid0.Coords) (x y : BT) (gate : BM) (g b : BC) (tg : BT) :
    out0_7 i x y gate g b tg = k0_pay3 (k0_pay4 x gate y g b tg) (k0_pay5 i) := by
  unfold out0_7 k0_pay7 k0_pay6
  rw [View.canon_cons_unit_lit _ _ _ (by decide), View.ld_unit_lit _ _ (by decide), View.ld_unit_lit _ _ (by decide), View.ld_unit_lit _ _ (by decide),
    View.ld_unit_lit _ _ (by decide), View.ld_unit_lit _ _ (by decide), View.ld_unit_lit _ _ (by decide)]

/-- Grid point `t` takes a block of tokens, with its side's row of the modulations. -/
theorem index (t : Fin cfg0.N) : (win0_0.index t 0 = t.val ∧ win0_0.index t 1 = 0)
    ∧ (win0_1.index t 0 = t.val ∧ win0_1.index t 1 = 0)
    ∧ (win0_2.index t 0 = min t.val 1 ∧ win0_2.index t 1 = 0 ∧ win0_2.index t 2 = 0)
    ∧ (win0_3.index t 0 = 0 ∧ win0_3.index t 1 = 0)
    ∧ (win0_4.index t 0 = 0 ∧ win0_4.index t 1 = 0)
    ∧ (win0_5.index t 0 = t.val - 1 ∧ win0_5.index t 1 = 0)
    ∧ (win0_6.index t 0 = t.val ∧ win0_6.index t 1 = 0)
    ∧ (win0_7.index t 0 = t.val ∧ win0_7.index t 1 = 0 ∧ win0_7.index t 2 = 0) := by
  revert t
  change ∀ t : Fin grid0.N, _
  decide +kernel

variable (m : (ℓ : Loc nD τ sig) → Buf (Elt Ideal) ℓ) (c : Dev nD)

/-- The argument arrays. -/
abbrev arg0 : Vec Ideal S2304x2048 .f32 := m ((c : Thread nD τ).loc main_arg0)
abbrev arg1 : Vec Ideal S2304x2048 .f32 := m ((c : Thread nD τ).loc main_arg1)
abbrev arg2 : Vec Ideal S2x1x2048 .f32 := m ((c : Thread nD τ).loc main_arg2)
abbrev arg3 : Vec Ideal S2048 .f32 := m ((c : Thread nD τ).loc main_arg3)
abbrev arg4 : Vec Ideal S2048 .f32 := m ((c : Thread nD τ).loc main_arg4)
abbrev arg5 : Vec Ideal S2048x2048 .f32 := m ((c : Thread nD τ).loc main_arg5)

/-- Point `t`'s block of the tokens. -/
abbrev blk0 (t : Fin cfg0.N) : Vec Ideal S256x2048 .f32 := iblk m c 0 t

/-- Argument 0's block. -/
theorem block0 (t : Fin cfg0.N) (r : Fin 256) (j : Fin 2048) : blk0 m c t (ix2 r j) = (arg0 m c) (ix2 (row t r) j) := by
  obtain ⟨i, -⟩ := index t
  unfold blk0 iblk
  rw [View.read_apply]
  show V m c main_arg0 _ = _
  rw [V_main_arg0]
  refine congrArg (arg0 m c) (funext fun a => Fin.ext ?_)
  match a with
  | ⟨0, _⟩ => show win0_0.index t 0 * 256 + 1 * r.val = t.val * 256 + r.val; rw [i.1]; omega
  | ⟨1, _⟩ => show win0_0.index t 1 * 2048 + 1 * j.val = j.val; rw [i.2]; omega

/-- Point `t`'s block of the branch. -/
abbrev blk1 (t : Fin cfg0.N) : Vec Ideal S256x2048 .f32 := iblk m c 1 t

/-- Argument 1's block. -/
theorem block1 (t : Fin cfg0.N) (r : Fin 256) (j : Fin 2048) : blk1 m c t (ix2 r j) = (arg1 m c) (ix2 (row t r) j) := by
  obtain ⟨-, i, -⟩ := index t
  unfold blk1 iblk
  rw [View.read_apply]
  show V m c main_arg1 _ = _
  rw [V_main_arg1]
  refine congrArg (arg1 m c) (funext fun a => Fin.ext ?_)
  match a with
  | ⟨0, _⟩ => show win0_1.index t 0 * 256 + 1 * r.val = t.val * 256 + r.val; rw [i.1]; omega
  | ⟨1, _⟩ => show win0_1.index t 1 * 2048 + 1 * j.val = j.val; rw [i.2]; omega

/-- Point `t`'s block of the gates. -/
abbrev blk2 (t : Fin cfg0.N) : Vec Ideal S1x1x2048 .f32 := iblk m c 2 t

/-- Argument 2's block. -/
theorem block2 (t : Fin cfg0.N) (j : Fin 2048) : blk2 m c t (ix3 0 0 j) = (arg2 m c) (ix3 (side t) 0 j) := by
  obtain ⟨-, -, i, -⟩ := index t
  unfold blk2 iblk
  rw [View.read_apply]
  show V m c main_arg2 _ = _
  rw [V_main_arg2]
  refine congrArg (arg2 m c) (funext fun a => Fin.ext ?_)
  match a with
  | ⟨0, _⟩ => show win0_2.index t 0 * 1 + 1 * 0 = min t.val 1; rw [i.1]; omega
  | ⟨1, _⟩ => show win0_2.index t 1 * 1 + 1 * 0 = 0; rw [i.2.1]
  | ⟨2, _⟩ => show win0_2.index t 2 * 2048 + 1 * j.val = j.val; rw [i.2.2]; omega

/-- Point `t`'s block of the gains. -/
abbrev blk3 (t : Fin cfg0.N) : Vec Ideal S1x2048 .f32 := iblk m c 3 t

/-- The host gives the gains a unit axis. -/
theorem host3 (j : Fin 2048) : (V m c main_v0 : Vec Ideal S1x2048 .f32) (ix2 0 j) = (arg3 m c) (ix1 j) := by
  entry_read
  pointwise

/-- Argument 3's block. -/
theorem block3 (t : Fin cfg0.N) (j : Fin 2048) : blk3 m c t (ix2 0 j) = (arg3 m c) (ix1 j) := by
  obtain ⟨-, -, -, i, -⟩ := index t
  unfold blk3 iblk
  rw [View.read_apply]
  show V m c main_v0 _ = _
  refine Eq.trans (congrArg (V m c main_v0) (funext fun a => Fin.ext ?_)) (host3 m c j)
  match a with
  | ⟨0, _⟩ => show win0_3.index t 0 * 1 + 1 * 0 = 0; rw [i.1]
  | ⟨1, _⟩ => show win0_3.index t 1 * 2048 + 1 * j.val = j.val; rw [i.2]; omega

/-- Point `t`'s block of the biases. -/
abbrev blk4 (t : Fin cfg0.N) : Vec Ideal S1x2048 .f32 := iblk m c 4 t

/-- The host gives the biases a unit axis. -/
theorem host4 (j : Fin 2048) : (V m c main_v1 : Vec Ideal S1x2048 .f32) (ix2 0 j) = (arg4 m c) (ix1 j) := by
  entry_read
  pointwise

/-- Argument 4's block. -/
theorem block4 (t : Fin cfg0.N) (j : Fin 2048) : blk4 m c t (ix2 0 j) = (arg4 m c) (ix1 j) := by
  obtain ⟨-, -, -, -, i, -⟩ := index t
  unfold blk4 iblk
  rw [View.read_apply]
  show V m c main_v1 _ = _
  refine Eq.trans (congrArg (V m c main_v1) (funext fun a => Fin.ext ?_)) (host4 m c j)
  match a with
  | ⟨0, _⟩ => show win0_4.index t 0 * 1 + 1 * 0 = 0; rw [i.1]
  | ⟨1, _⟩ => show win0_4.index t 1 * 2048 + 1 * j.val = j.val; rw [i.2]; omega

/-- Point `t`'s block of the target. -/
abbrev blk5 (t : Fin cfg0.N) : Vec Ideal S256x2048 .f32 := iblk m c 5 t

/-- It is the block before, since the target has no context. -/
theorem block5 (t : Fin cfg0.N) (r : Fin 256) (j : Fin 2048) :
    blk5 m c t (ix2 r j) = (arg5 m c) (ix2 (lrow t r) j) := by
  obtain ⟨-, -, -, -, -, i, -⟩ := index t
  unfold blk5 iblk
  rw [View.read_apply]
  show V m c main_arg5 _ = _
  rw [V_main_arg5]
  refine congrArg (arg5 m c) (funext fun a => Fin.ext ?_)
  match a with
  | ⟨0, _⟩ => show win0_5.index t 0 * 256 + 1 * r.val = (t.val - 1) * 256 + r.val; rw [i.1]; omega
  | ⟨1, _⟩ => show win0_5.index t 1 * 2048 + 1 * j.val = j.val; rw [i.2]; omega

/-- The gradient, block by block. -/
theorem written6 (t : Fin cfg0.N) (r : Fin 256) (j : Fin 2048) : ((dats m 0 c).arrAt 6 cfg0.N : Vec Ideal S2304x2048 .f32) (ix2 (row t r) j)
    = (out0_6 (grid0.coords t) (blk0 m c t) (blk1 m c t) (blk2 m c t) (blk3 m c t) (blk4 m c t) (blk5 m c t) : Vec Ideal S256x2048 .f32) (ix2 r j) := by
  obtain ⟨-, -, -, -, -, -, i, -⟩ := index t
  have b := congrFun (Value.blocks6 m c t (flush0_6 t)) (ix2 r j)
  rw [View.read_apply, Value.flushed6] at b
  have hy : (((cfg0.win 6).blk t).view.emb (ix2 r j) : S2304x2048.Idx) = (ix2 (row t r) j) := by
    refine funext fun a => Fin.ext ?_
    match a with
    | ⟨0, _⟩ => show win0_6.index t 0 * 256 + 1 * r.val = t.val * 256 + r.val; rw [i.1]; omega
    | ⟨1, _⟩ => show win0_6.index t 1 * 2048 + 1 * j.val = j.val; rw [i.2]; omega
  rw [hy] at b
  exact b

/-- The loss, block by block. -/
theorem written7 (t : Fin cfg0.N) (s : Fin 8) (j : Fin 128) : ((dats m 0 c).arrAt 7 cfg0.N : Vec Ideal S9x8x128 .f32) (ix3 t s j)
    = (out0_7 (grid0.coords t) (blk0 m c t) (blk1 m c t) (blk2 m c t) (blk3 m c t) (blk4 m c t) (blk5 m c t) : Vec Ideal S1x8x128 .f32) (ix3 0 s j) := by
  obtain ⟨-, -, -, -, -, -, -, i⟩ := index t
  have b := congrFun (Value.blocks7 m c t (flush0_7 t)) (ix3 0 s j)
  rw [View.read_apply, Value.flushed7] at b
  have hy : (((cfg0.win 7).blk t).view.emb (ix3 0 s j) : S9x8x128.Idx) = (ix3 t s j) := by
    refine funext fun a => Fin.ext ?_
    match a with
    | ⟨0, _⟩ => show win0_7.index t 0 * 1 + 1 * 0 = t.val; rw [i.1]; omega
    | ⟨1, _⟩ => show win0_7.index t 1 * 8 + 1 * s.val = s.val; rw [i.2.1]; omega
    | ⟨2, _⟩ => show win0_7.index t 2 * 128 + 1 * j.val = j.val; rw [i.2.2]; omega
  rw [hy] at b
  exact b

/-- A block's row before the norm is a token's. -/
theorem resid_block (t : Fin cfg0.N) (r : Fin 256) : residB (blk0 m c t) (blk1 m c t) (blk2 m c t) r = resid (arg0 m c) (arg1 m c) (arg2 m c) (row t r) (side t) := by
  funext k
  unfold residB resid
  rw [block0, block1, block2]

/-- A block's misses are the tokens'. -/
theorem miss_block (t : Fin cfg0.N) (r : Fin 256) (j : Fin 2048) :
    k0_pay4 (blk0 m c t) (blk2 m c t) (blk1 m c t) (blk3 m c t) (blk4 m c t) (blk5 m c t) (ix2 r j) = miss (arg0 m c) (arg1 m c) (arg2 m c) (arg3 m c) (arg4 m c) (arg5 m c) t r j := by
  rw [miss_apply, resid_block, block3, block4, block5]
  rfl

/-- The kernel's gradient. -/
theorem kernel_grad (t : Fin cfg0.N) (r : Fin 256) (j : Fin 2048) : ((dats m 0 c).arrAt 6 cfg0.N : Vec Ideal S2304x2048 .f32) (ix2 (row t r) j)
    = grad (arg0 m c) (arg1 m c) (arg2 m c) (arg3 m c) (arg4 m c) (arg5 m c) t r j := by
  rw [written6 m c t r j, stored6, grad_apply, flag, miss_block]
  unfold grad
  by_cases h : t.val = 0
  · rw [if_pos h, if_pos h, mul_zero, zero_mul]
  · rw [if_neg h, if_neg h, mul_one]

/-- The kernel's loss. -/
theorem kernel_part (t : Fin cfg0.N) (s : Fin 8) (l : Fin 128) : ((dats m 0 c).arrAt 7 cfg0.N : Vec Ideal S9x8x128 .f32) (ix3 t s l)
    = part (arg0 m c) (arg1 m c) (arg2 m c) (arg3 m c) (arg4 m c) (arg5 m c) t := by
  rw [written7 m c t s l, stored7, part_apply]
  simp only [flag, miss_block]
  unfold part
  by_cases h : t.val = 0
  · simp only [if_pos h, mul_zero, Finset.sum_const_zero]
  · simp only [if_neg h, mul_one]

/-! ### The reference -/

section Reference
open Cert.LossHeadReferenceIdeal.Read
variable (x y : Tokens) (gate : Mods) (g b : Cols) (tg : Target)

/-- A token's row before the norm, with the latent's gate. -/
theorem ref_resid (R : Fin 2304) (j : Fin 2048) : val_main_v6 (F := Ideal) x y gate (ix2 R j) = resid x y gate R 1 j := by
  unfold resid alpha
  pointwise [val_main_v6, val_main_v5, val_main_v4, val_main_v3, val_main_v2, val_main_v1, val_main_v0, val_main_cst]

/-- Its mean. -/
theorem ref_mean (R : Fin 2304) : val_main_v10 (F := Ideal) x y gate (ix2 R 0) = mean (resid x y gate R 1) := by
  unfold mean
  simp only [← ref_resid]
  pointwise [val_main_v10, val_main_v9, val_main_v8, val_main_v7, val_main_cst_0, val_main_cst_1]

/-- Its deviations from the mean. -/
theorem ref_centred (R : Fin 2304) (j : Fin 2048) : val_main_v12 (F := Ideal) x y gate (ix2 R j) = centred (resid x y gate R 1) j := by
  unfold centred
  rw [← ref_resid, ← ref_mean]
  pointwise [val_main_v12, val_main_v11]

/-- The normalised row. -/
theorem ref_normal (R : Fin 2304) (j : Fin 2048) : val_main_v24 (F := Ideal) x y gate (ix2 R j) = normal (resid x y gate R 1) j := by
  unfold normal rstd spread
  have h : mean (fun k => centred (resid x y gate R 1) k * centred (resid x y gate R 1) k)
      = Ideal.div (∑ k, val_main_v12 (F := Ideal) x y gate (ix2 R k) * val_main_v12 (F := Ideal) x y gate (ix2 R k)) (Ideal.ofBits .f32 0x45000000#32) := by
    simp only [ref_centred]
    rfl
  have e : val_main_v19 (F := Ideal) x y gate = val_main_v12 (F := Ideal) x y gate := rfl
  rw [h, ← ref_centred]
  simp only [← e]
  pointwise [val_main_v24, val_main_v23, val_main_v22, val_main_v21, val_main_v20, val_main_v17, val_main_v16, val_main_v15, val_main_v14, val_main_v13, val_main_cst_2, val_main_cst_3, val_main_cst_4]
  rw [e]

/-- The normed token. -/
theorem ref_normed (R : Fin 2304) (j : Fin 2048) : val_main_v30 (F := Ideal) x y gate g b (ix2 R j) = normed x y gate g b R 1 j := by
  unfold normed
  rw [← ref_normal]
  pointwise [val_main_v30, val_main_v29, val_main_v28, val_main_v27, val_main_v26, val_main_v25]

/-- A latent block's misses. -/
theorem ref_miss (t : Fin 9) (h : t.val ≠ 0) (r : Fin 256) (j : Fin 2048) :
    val_main_v34 (F := Ideal) x y gate g b tg (ix3 ⟨t.val - 1, by omega⟩ r j) = miss x y gate g b tg t r j := by
  unfold miss
  rw [show side t = 1 from Fin.ext (by show min t.val 1 = 1; omega), ← ref_normed]
  pointwise [val_main_v34, val_main_v33, val_main_v32, val_main_v31]
  refine congrArg₂ (· - ·) (congrArg (fun R => val_main_v30 (F := Ideal) x y gate g b (ix2 R j)) (Fin.ext ?_))
    (congrArg (fun R => tg (ix2 R j)) (Fin.ext ?_))
  · show _ = t.val * 256 + r.val
    dsimp only
    omega
  · show _ = (t.val - 1) * 256 + r.val
    dsimp only

/-- The reference's gradient, block by block. -/
theorem ref_grad (t : Fin 9) (h : t.val ≠ 0) (r : Fin 256) (j : Fin 2048) :
    val_main_v51 (F := Ideal) x y gate g b tg (ix3 ⟨t.val - 1, by omega⟩ r j) = miss x y gate g b tg t r j * ((1 / 2048 : ℝ) : EReal) := by
  rw [← half_square, ← ref_miss x y gate g b tg t h]
  pointwise [val_main_v51, val_main_v50, val_main_v49, val_main_v48, val_main_v47, val_main_v46, val_main_v45, val_main_v44, val_main_v37, val_main_v36, val_main_cst_5, val_main_cst_10, val_main_cst_11, val_main_cst_12]

/-- The reference's loss, block by block. -/
theorem ref_part (t : Fin 9) (h : t.val ≠ 0) : val_main_v43 (F := Ideal) x y gate g b tg (ix1 ⟨t.val - 1, by omega⟩)
    = ((1 / 4096 : ℝ) : EReal) * ∑ r, ∑ j, miss x y gate g b tg t r j * miss x y gate g b tg t r j := by
  rw [← half_means]
  simp only [← ref_miss x y gate g b tg t h]
  pointwise [val_main_v43, val_main_v42, val_main_v41, val_main_v40, val_main_v39, val_main_v38, val_main_v35, val_main_cst_6, val_main_cst_7, val_main_cst_8, val_main_cst_9]

/-- The gradient of the reference. -/
theorem reference_grad (t : Fin 9) (r : Fin 256) (j : Fin 2048) :
    val_main_v56 (F := Ideal) x y gate g b tg (ix2 (row t r) j) = grad x y gate g b tg t r j := by
  have e : (row t r).val = t.val * 256 + r.val := rfl
  unfold grad
  pointwise [val_main_v56, val_main_v55, val_main_v52, val_main_cst_13]
  by_cases h : (row t r).val < 256
  · exact (dif_pos h).trans (if_pos (by omega)).symm
  · have h0 : t.val ≠ 0 := by omega
    refine (dif_neg h).trans (Eq.trans ?_ (if_neg h0).symm)
    rw [← ref_grad x y gate g b tg t h0]
    refine congrArg₂ (fun q s => val_main_v51 (F := Ideal) x y gate g b tg (ix3 q s j)) (Fin.ext ?_) (Fin.ext ?_)
    · show ((row t r).val - 256) / 256 = t.val - 1
      omega
    · show ((row t r).val - 256) % 256 = r.val
      omega

/-- The loss of the reference. -/
theorem reference_part (t : Fin 9) (s : Fin 8) (l : Fin 128) :
    val_main_v58 (F := Ideal) x y gate g b tg (ix3 t s l) = part x y gate g b tg t := by
  unfold part
  pointwise [val_main_v58, val_main_v57, val_main_v54, val_main_v53, val_main_cst_14]
  by_cases h : t.val = 0
  · exact (dif_pos (by omega)).trans (if_pos h).symm
  · refine (dif_neg (by omega)).trans (Eq.trans ?_ (if_neg h).symm)
    exact ref_part x y gate g b tg t h

end Reference

/-- The kernel runs on the machine, keeps its arguments, and ends with every counter at zero. -/
theorem frame : Cert.quiescent_LossHead := fun m ρ _ => Cert.LossHead.Gen.frame m ρ

/-- The same of its idealization. -/
theorem frameIdeal : Cert.quiescent_LossHeadIdeal := fun m ρ _ => Cert.LossHeadIdeal.Gen.frame m ρ

/-- The same of the reference. -/
theorem frameReference : Cert.quiescent_LossHeadReferenceIdeal := fun m ρ _ =>
  (θ_run Cert.LossHeadReferenceIdeal.defs _ _).mono (fun r h => ⟨fun c => (h c).2.2, sem_eq_zero_of_no_sems (by decide) r.2⟩)
    (Cert.LossHeadReferenceIdeal.Value.run (F := Ideal) m ρ)

/-- The kernel's gradient and loss are the reference's. -/
theorem algebraic : Cert.algebraic_LossHeadIdeal_LossHeadReferenceIdeal := by
  intro m g m' g' _ hin
  refine ⟨_, _, Value.run_blocks m g, (θ_run Cert.LossHeadReferenceIdeal.defs _ _).mono (fun r h c => ?_)
    (Cert.LossHeadReferenceIdeal.Value.run (F := Ideal) m' g')⟩
  obtain ⟨h0, h1, hargs⟩ := h c
  obtain ⟨a0, a1, a2, a3, a4, a5⟩ := hin c
  refine ⟨(h0.trans (Cert.LossHeadReferenceIdeal.Read.val_main_v56_eq m' c)).trans ?_, (h1.trans (Cert.LossHeadReferenceIdeal.Read.val_main_v58_eq m' c)).trans ?_, hargs⟩
  · rw [a0, a1, a2, a3, a4, a5]
    funext i
    rw [eq_ix2 i]
    obtain ⟨t, r, e⟩ := eq_row (i 0)
    rw [e]
    exact (reference_grad _ _ _ _ _ _ t r _).trans (kernel_grad m c t r _).symm
  · rw [a0, a1, a2, a3, a4, a5]
    funext i
    rw [eq_ix3 i]
    exact (reference_part _ _ _ _ _ _ _ _ _).trans (kernel_part m c (i 0) _ _).symm

end Cert.LossHeadProof

end
-- ==== Proof.ConvFwd.lean ====
module

public import proofs.«01_k».proof.Defs
public import proofs.«01_k».proof.Proof.Gen.ConvFwd.Frame
public import proofs.«01_k».proof.Proof.Gen.ConvFwdIdeal.Value
public import proofs.«01_k».proof.Proof.Gen.ConvFwdReferenceIdeal.Run
public import proofs.«01_k».proof.Proof.Gen.ConvFwdReferenceIdeal.Read
public import Idealize.ShloMosaic.Lib.Pipeline.ValueKit
public import Idealize.ShloMosaic.Lib.KernelVsHost
public import Idealize.ShloMosaic.Lib.WordArith
public import Idealize.ShloMosaic.Lib.Claim
public import Idealize.ShloMosaic.Lib.Pointwise
public import Idealize.ShloMosaic.Lib.Pipeline.ValueKit.Basic

/- The short convolution along the tokens of a segment, between its two gates.  Kernel and reference. -/

@[expose] public section

set_option maxRecDepth 16384

noncomputable section

namespace Cert.ConvFwdProof

open Idealize.ShloMosaic Idealize.ShloMosaic.TcCoe Idealize.SL.Sem Cert.ConvFwdIdeal Cert.ConvFwdIdeal.Gen

local notation "X" => Vec Ideal S2304x4608 EltTy.f32
local notation "W" => Vec Ideal S3x512 EltTy.f32
local notation "B" => Vec Ideal S2304x128 EltTy.f32

/-- The gated tokens that are convolved. -/
def gated (x : X) (R : Fin 2304) (e : Fin 512) : EReal := x (ix2 R ⟨3584 + e.val, by omega⟩) * x (ix2 R ⟨4096 + e.val, by omega⟩)

/-- The token before, and the one after, around the end. -/
def before (R : Fin 2304) : Fin 2304 := ⟨(R.val + 2303) % 2304, by omega⟩
def after (R : Fin 2304) : Fin 2304 := ⟨(R.val + 1) % 2304, by omega⟩

/-- The first and the last token of a segment: the context has tokens 0 to 255, the latent 256 to 2303. -/
abbrev isFirst (R : Fin 2304) : Prop := R.val = 0 ∨ R.val = 256
abbrev isLast (R : Fin 2304) : Prop := R.val = 255 ∨ R.val = 2303

/-- The convolution's result: a segment's ends see zeros outside it. -/
def conv (x : X) (w : W) (R : Fin 2304) (e : Fin 512) : EReal :=
  x (ix2 R ⟨3072 + e.val, by omega⟩)
    * (w (ix2 0 e) * (if isFirst R then 0 else gated x (before R) e) + w (ix2 1 e) * gated x R e
      + w (ix2 2 e) * (if isLast R then 0 else gated x (after R) e))

/-! ### The body -/

/-- The product of two of the blocks. -/
def prod (b c : B) (R : Fin 2304) (k : Fin 128) : EReal := b (ix2 R k) * c (ix2 R k)

/-- The first product of the body, entry by entry. -/
theorem prod_apply (b c : B) (R : Fin 2304) (k : Fin 128) : k0_pay2 b c (ix2 R k) = prod b c R k := by
  unfold prod
  pointwise [k0_pay2]

/-- One place of rotation down … -/
theorem rotate_one (y : B) (R : Fin 2304) (k : Fin 128) :
    dynamicRotate 0 1#32 none y rotates_S2304x128_d0 (ix2 R k) = y (ix2 (before R) k) := by
  refine dynamicRotate_apply _ _ _ _ _ _ fun b => ?_
  match b with
  | 0 => rw [if_pos rfl]; show (R.val + 2303) % 2304 = (R.val + 2304 - 1 % 2304) % 2304; rfl
  | 1 => rw [if_neg (by decide)]; rfl

/-- … and one up. -/
theorem rotate_back (y : B) (R : Fin 2304) (k : Fin 128) :
    dynamicRotate 0 2303#32 none y rotates_S2304x128_d0 (ix2 R k) = y (ix2 (after R) k) := by
  refine dynamicRotate_apply _ _ _ _ _ _ fun b => ?_
  match b with
  | 0 => rw [if_pos rfl]; show (R.val + 1) % 2304 = (R.val + 2304 - 2303 % 2304) % 2304; congr 1
  | 1 => rw [if_neg (by decide)]; rfl

/-- What the body computes of a token's number says whether the token has one before it in its segment … -/
theorem mask_first : ∀ R : Fin 2304,
    IntOp.andi
      (IntOp.cmpi CmpIPredicate.sge (IntOp.addi (BitVec.ofNat 32 R.val) 4294967295#32)
        (Scalar.select (IntOp.cmpi CmpIPredicate.slt (BitVec.ofNat 32 R.val) 256#32) 0#32 256#32))
      (IntOp.cmpi CmpIPredicate.slt (IntOp.addi (BitVec.ofNat 32 R.val) 4294967295#32)
        (Scalar.select (IntOp.cmpi CmpIPredicate.slt (BitVec.ofNat 32 R.val) 256#32) 256#32 2304#32))
    = if isFirst R then 0#1 else 1#1 := by
  decide +kernel

/-- … or one after it. -/
theorem mask_last : ∀ R : Fin 2304,
    IntOp.andi
      (IntOp.cmpi CmpIPredicate.sge (IntOp.addi (BitVec.ofNat 32 R.val) 1#32)
        (Scalar.select (IntOp.cmpi CmpIPredicate.slt (BitVec.ofNat 32 R.val) 256#32) 0#32 256#32))
      (IntOp.cmpi CmpIPredicate.slt (IntOp.addi (BitVec.ofNat 32 R.val) 1#32)
        (Scalar.select (IntOp.cmpi CmpIPredicate.slt (BitVec.ofNat 32 R.val) 256#32) 256#32 2304#32))
    = if isLast R then 0#1 else 1#1 := by
  decide +kernel

/-- The first two taps. -/
theorem taps (b c : B) (w0 w1 : Vec Ideal S1x128 .f32) (R : Fin 2304) (k : Fin 128) :
    k0_pay3 b c w0 w1 (ix2 R k) = w0 (ix2 0 k) * (if isFirst R then 0 else prod b c (before R) k) + w1 (ix2 0 k) * prod b c R k := by
  rw [← prod_apply, ← prod_apply, ← rotate_one (k0_pay2 b c)]
  pointwise [k0_pay3]
  rw [mask_first]
  split_ifs with h
  · rw [mul_zero]; rfl
  · rfl

/-- The third tap, and the gate. -/
theorem stored (b c d : B) (w : Vec Ideal S3x128 .f32) (R : Fin 2304) (k : Fin 128) :
    out0_4 b c d w (ix2 R k)
      = b (ix2 R k) * (w (ix2 0 k) * (if isFirst R then 0 else prod c d (before R) k) + w (ix2 1 k) * prod c d R k
          + w (ix2 2 k) * (if isLast R then 0 else prod c d (after R) k)) := by
  unfold out0_4
  rw [View.canon_cons_unit_lit _ _ _ (by decide), View.ld_unit_lit _ b (by decide), View.ld_unit_lit _ c (by decide), View.ld_unit_lit _ d (by decide)]
  have e0 : View.ld w r0_1 (ix2 0 k) = w (ix2 0 k) := congrArg w (funext fun a => Fin.ext (match a with
    | ⟨0, _⟩ => rfl
    | ⟨1, _⟩ => by show 0 + 1 * k.val = k.val; omega))
  have e1 : View.ld w r0_2 (ix2 0 k) = w (ix2 1 k) := congrArg w (funext fun a => Fin.ext (match a with
    | ⟨0, _⟩ => rfl
    | ⟨1, _⟩ => by show 0 + 1 * k.val = k.val; omega))
  have e2 : View.ld w r0_3 (ix2 0 k) = w (ix2 2 k) := congrArg w (funext fun a => Fin.ext (match a with
    | ⟨0, _⟩ => rfl
    | ⟨1, _⟩ => by show 0 + 1 * k.val = k.val; omega))
  rw [← e0, ← e1, ← e2, ← taps, ← prod_apply, ← rotate_back (k0_pay2 c d)]
  pointwise [k0_pay1, k0_pay4]
  rw [mask_last]
  split_ifs with h
  · rw [mul_zero]; rfl
  · rfl

/-! ### The array -/

/-- The grid is the blocks of 128 columns: the three parts of the packed row start at block 24, 28 and 32. -/
theorem index (t : Fin cfg0.N) : (win0_0.index t 0 = 0 ∧ win0_0.index t 1 = 24 + t.val) ∧ (win0_1.index t 0 = 0 ∧ win0_1.index t 1 = 28 + t.val)
    ∧ (win0_2.index t 0 = 0 ∧ win0_2.index t 1 = 32 + t.val) ∧ (win0_3.index t 0 = 0 ∧ win0_3.index t 1 = t.val)
    ∧ (win0_4.index t 0 = 0 ∧ win0_4.index t 1 = t.val) := by
  revert t
  decide +kernel

/-- Column `k` of block `t`. -/
def col (t : Fin 4) (k : Fin 128) : Fin 512 := ⟨t.val * 128 + k.val, by omega⟩

/-- Every column lies in a block. -/
theorem eq_col (i : Fin 512) : ∃ t k, i = col t k :=
  ⟨⟨i.val / 128, by omega⟩, ⟨i.val % 128, by omega⟩, Fin.ext (by show i.val = i.val / 128 * 128 + i.val % 128; omega)⟩

variable (m : (ℓ : Loc nD τ sig) → Buf (Elt Ideal) ℓ) (c : Dev nD)

/-- The argument arrays. -/
abbrev arg0 : X := m ((c : Thread nD τ).loc main_arg0)
abbrev arg1 : W := m ((c : Thread nD τ).loc main_arg1)

/-- The gate's block, the convolved parts' blocks and the taps' block at a grid point. -/
abbrev blk0 (t : Fin cfg0.N) : B := iblk m c 0 t
abbrev blk1 (t : Fin cfg0.N) : B := iblk m c 1 t
abbrev blk2 (t : Fin cfg0.N) : B := iblk m c 2 t
abbrev blk3 (t : Fin cfg0.N) : Vec Ideal S3x128 .f32 := iblk m c 3 t

/-- The gate: columns 3072 on. -/
theorem block0 (t : Fin cfg0.N) (R : Fin 2304) (k : Fin 128) :
    blk0 m c t (ix2 R k) = (arg0 m c) (ix2 R ⟨3072 + (col t k).val, by have := (col t k).isLt; omega⟩) := by
  obtain ⟨i, -⟩ := index t
  unfold blk0 iblk
  rw [View.read_apply]
  show V m c main_arg0 _ = _
  rw [V_main_arg0]
  refine congrArg (arg0 m c) (funext fun a => Fin.ext ?_)
  match a with
  | ⟨0, _⟩ => show win0_0.index t 0 * 2304 + 1 * R.val = R.val; rw [i.1]; omega
  | ⟨1, _⟩ => show win0_0.index t 1 * 128 + 1 * k.val = 3072 + (t.val * 128 + k.val); rw [i.2]; omega

/-- The first part of what is convolved: columns 3584 on. -/
theorem block1 (t : Fin cfg0.N) (R : Fin 2304) (k : Fin 128) :
    blk1 m c t (ix2 R k) = (arg0 m c) (ix2 R ⟨3584 + (col t k).val, by have := (col t k).isLt; omega⟩) := by
  obtain ⟨-, i, -⟩ := index t
  unfold blk1 iblk
  rw [View.read_apply]
  show V m c main_arg0 _ = _
  rw [V_main_arg0]
  refine congrArg (arg0 m c) (funext fun a => Fin.ext ?_)
  match a with
  | ⟨0, _⟩ => show win0_1.index t 0 * 2304 + 1 * R.val = R.val; rw [i.1]; omega
  | ⟨1, _⟩ => show win0_1.index t 1 * 128 + 1 * k.val = 3584 + (t.val * 128 + k.val); rw [i.2]; omega

/-- The second: columns 4096 on. -/
theorem block2 (t : Fin cfg0.N) (R : Fin 2304) (k : Fin 128) :
    blk2 m c t (ix2 R k) = (arg0 m c) (ix2 R ⟨4096 + (col t k).val, by have := (col t k).isLt; omega⟩) := by
  obtain ⟨-, -, i, -⟩ := index t
  unfold blk2 iblk
  rw [View.read_apply]
  show V m c main_arg0 _ = _
  rw [V_main_arg0]
  refine congrArg (arg0 m c) (funext fun a => Fin.ext ?_)
  match a with
  | ⟨0, _⟩ => show win0_2.index t 0 * 2304 + 1 * R.val = R.val; rw [i.1]; omega
  | ⟨1, _⟩ => show win0_2.index t 1 * 128 + 1 * k.val = 4096 + (t.val * 128 + k.val); rw [i.2]; omega

/-- The taps' columns. -/
theorem block3 (t : Fin cfg0.N) (q : Fin 3) (k : Fin 128) :
    blk3 m c t (ix2 q k) = (arg1 m c) (ix2 q (col t k)) := by
  obtain ⟨-, -, -, i, -⟩ := index t
  unfold blk3 iblk
  rw [View.read_apply]
  show V m c main_arg1 _ = _
  rw [V_main_arg1]
  refine congrArg (arg1 m c) (funext fun a => Fin.ext ?_)
  match a with
  | ⟨0, _⟩ => show win0_3.index t 0 * 3 + 1 * q.val = q.val; rw [i.1]; omega
  | ⟨1, _⟩ => show win0_3.index t 1 * 128 + 1 * k.val = t.val * 128 + k.val; rw [i.2]; omega

/-- The result, column block by column block. -/
theorem kernel_entry (R : Fin 2304) (t : Fin cfg0.N) (k : Fin 128) :
    ((dats m 0 c).arrAt 4 cfg0.N : Vec Ideal S2304x512 .bf16) (ix2 R (col t k))
      = conv (arg0 m c) (arg1 m c) R (col t k) := by
  obtain ⟨-, -, -, -, i⟩ := index t
  have b := congrFun (Value.blocks4 m c t (flush0_4 t)) (ix2 R k)
  rw [View.read_apply, Value.flushed4] at b
  have hy : (((cfg0.win 4).blk t).view.emb (ix2 R k) : S2304x512.Idx) = (ix2 R (col t k)) := by
    refine funext fun a => Fin.ext ?_
    match a with
    | ⟨0, _⟩ => show win0_4.index t 0 * 2304 + 1 * R.val = R.val; rw [i.1]; omega
    | ⟨1, _⟩ => show win0_4.index t 1 * 128 + 1 * k.val = t.val * 128 + k.val; rw [i.2]; omega
  rw [hy] at b
  refine (b.trans (stored (blk0 m c t) (blk1 m c t) (blk2 m c t) (blk3 m c t) R k)).trans ?_
  unfold prod
  simp only [block0, block1, block2, block3]
  rfl

/-! ### The reference -/

section Reference
open Cert.ConvFwdReferenceIdeal.Read
open Cert.ConvFwdReferenceIdeal (S258x512 S2050x512)
variable (x : X) (w : W)

/-- The context's and the latent's tokens in the whole. -/
def ctxRow (i : Fin 256) : Fin 2304 := ⟨i.val, by omega⟩
def latRow (i : Fin 2048) : Fin 2304 := ⟨256 + i.val, by omega⟩

/-- The reference's padded context: its three shifts are the token before, the token and the token after. -/
theorem ctx_shift (i : Fin 256) (e : Fin 512) :
    val_main_v6 (F := Ideal) x (ix2 ⟨i.val, by omega⟩ e) = (if isFirst (ctxRow i) then 0 else gated x (before (ctxRow i)) e)
    ∧ val_main_v6 (F := Ideal) x (ix2 ⟨1 + i.val, by omega⟩ e) = gated x (ctxRow i) e
    ∧ val_main_v6 (F := Ideal) x (ix2 ⟨2 + i.val, by omega⟩ e) = (if isLast (ctxRow i) then 0 else gated x (after (ctxRow i)) e) := by
  refine ⟨?_, ?_, ?_⟩
  · by_cases h : i.val = 0
    · rw [if_pos (show isFirst (ctxRow i) from Or.inl h)]
      pointwise [val_main_v6, val_main_v5, val_main_v4, val_main_v3, val_main_v2, val_main_v0, val_main_cst]
      rw [dif_pos (by omega)]
    · rw [if_neg (show ¬isFirst (ctxRow i) from fun q => by have := i.isLt; rcases q with q | q <;> change i.val = _ at q <;> omega)]
      unfold gated
      have e1 : before (ctxRow i) = ⟨i.val - 1, by have := i.isLt; omega⟩ := Fin.ext (by show (i.val + 2303) % 2304 = i.val - 1; omega)
      rw [e1]
      pointwise [val_main_v6, val_main_v5, val_main_v4, val_main_v3, val_main_v2, val_main_v0, val_main_cst]
      rw [dif_neg (by omega), dif_pos (by have := i.isLt; omega)]
  · pointwise [val_main_v6, val_main_v5, val_main_v4, val_main_v3, val_main_v2, val_main_v0, val_main_cst]
    rfl
  · by_cases h : i.val = 255
    · rw [if_pos (show isLast (ctxRow i) from Or.inl h)]
      pointwise [val_main_v6, val_main_v5, val_main_v4, val_main_v3, val_main_v2, val_main_v0, val_main_cst]
      rw [dif_neg (by omega), dif_neg (by omega)]
    · rw [if_neg (show ¬isLast (ctxRow i) from fun q => by have := i.isLt; rcases q with q | q <;> change i.val = _ at q <;> omega)]
      unfold gated
      have e1 : after (ctxRow i) = ⟨2 + i.val - 1, by have := i.isLt; omega⟩ := Fin.ext (by show (i.val + 1) % 2304 = 2 + i.val - 1; omega)
      rw [e1]
      pointwise [val_main_v6, val_main_v5, val_main_v4, val_main_v3, val_main_v2, val_main_v0, val_main_cst]
      rw [dif_neg (by omega), dif_pos (by have := i.isLt; omega)]

/-- The context's result. -/
theorem ctx_out (i : Fin 256) (e : Fin 512) : val_main_v27 (F := Ideal) x w (ix2 i e) = conv x w (ctxRow i) e := by
  unfold conv
  rw [← (ctx_shift x i e).1, ← (ctx_shift x i e).2.1, ← (ctx_shift x i e).2.2]
  simp only [mul_comm (w _)]
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v1, val_main_v0]
  rfl

/-- The padded latent in the same way. -/
theorem lat_shift (i : Fin 2048) (e : Fin 512) :
    val_main_v34 (F := Ideal) x (ix2 ⟨i.val, by omega⟩ e) = (if isFirst (latRow i) then 0 else gated x (before (latRow i)) e)
    ∧ val_main_v34 (F := Ideal) x (ix2 ⟨1 + i.val, by omega⟩ e) = gated x (latRow i) e
    ∧ val_main_v34 (F := Ideal) x (ix2 ⟨2 + i.val, by omega⟩ e) = (if isLast (latRow i) then 0 else gated x (after (latRow i)) e) := by
  refine ⟨?_, ?_, ?_⟩
  · by_cases h : i.val = 0
    · rw [if_pos (show isFirst (latRow i) from Or.inr (by show 256 + i.val = 256; omega))]
      pointwise [val_main_v34, val_main_v33, val_main_v32, val_main_v31, val_main_v30, val_main_v28, val_main_cst_0]
      rw [dif_pos (by omega)]
    · rw [if_neg (show ¬isFirst (latRow i) from fun q => by have := i.isLt; rcases q with q | q <;> change 256 + i.val = _ at q <;> omega)]
      unfold gated
      have e1 : before (latRow i) = ⟨256 + (i.val - 1), by have := i.isLt; omega⟩ := Fin.ext (by show (256 + i.val + 2303) % 2304 = 256 + (i.val - 1); omega)
      rw [e1]
      pointwise [val_main_v34, val_main_v33, val_main_v32, val_main_v31, val_main_v30, val_main_v28, val_main_cst_0]
      rw [dif_neg (by omega), dif_pos (by have := i.isLt; omega)]
  · pointwise [val_main_v34, val_main_v33, val_main_v32, val_main_v31, val_main_v30, val_main_v28, val_main_cst_0]
    rfl
  · by_cases h : i.val = 2047
    · rw [if_pos (show isLast (latRow i) from Or.inr (by show 256 + i.val = 2303; omega))]
      pointwise [val_main_v34, val_main_v33, val_main_v32, val_main_v31, val_main_v30, val_main_v28, val_main_cst_0]
      rw [dif_neg (by omega), dif_neg (by omega)]
    · rw [if_neg (show ¬isLast (latRow i) from fun q => by have := i.isLt; rcases q with q | q <;> change 256 + i.val = _ at q <;> omega)]
      unfold gated
      have e1 : after (latRow i) = ⟨256 + (2 + i.val - 1), by have := i.isLt; omega⟩ := Fin.ext (by show (256 + i.val + 1) % 2304 = 256 + (2 + i.val - 1); omega)
      rw [e1]
      pointwise [val_main_v34, val_main_v33, val_main_v32, val_main_v31, val_main_v30, val_main_v28, val_main_cst_0]
      rw [dif_neg (by omega), dif_pos (by have := i.isLt; omega)]

/-- The latent's result. -/
theorem lat_out (i : Fin 2048) (e : Fin 512) : val_main_v55 (F := Ideal) x w (ix2 i e) = conv x w (latRow i) e := by
  unfold conv
  rw [← (lat_shift x i e).1, ← (lat_shift x i e).2.1, ← (lat_shift x i e).2.2]
  simp only [mul_comm (w _)]
  pointwise [val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v29, val_main_v28]
  rfl

/-- The context's half of the result … -/
theorem ctx_entry (i : Fin 256) (e : Fin 512) : val_main_v57 (F := Ideal) x w (ix2 (ctxRow i) e) = conv x w (ctxRow i) e := by
  rw [← ctx_out]
  pointwise [val_main_v57, val_main_v56]
  exact dif_pos i.isLt

/-- … and the latent's. -/
theorem lat_entry (i : Fin 2048) (e : Fin 512) : val_main_v57 (F := Ideal) x w (ix2 (latRow i) e) = conv x w (latRow i) e := by
  rw [← lat_out]
  have e1 : (latRow i).val = 256 + i.val := rfl
  have e2 : ∀ h, (⟨(latRow i).val - 256, h⟩ : Fin 2048) = i := fun h => Fin.ext (by show (latRow i).val - 256 = i.val; omega)
  pointwise [val_main_v57, val_main_v56]
  rw [dif_neg (by omega), e2]

/-- The reference's result. -/
theorem reference_entry (R : Fin 2304) (e : Fin 512) : val_main_v57 (F := Ideal) x w (ix2 R e) = conv x w R e := by
  by_cases h : R.val < 256
  · exact ctx_entry x w ⟨R.val, h⟩ e
  · have h1 : R = latRow ⟨R.val - 256, by omega⟩ := Fin.ext (by show R.val = 256 + (R.val - 256); omega)
    rw [h1]
    exact lat_entry x w _ e

end Reference

/-- The kernel runs on the machine, keeps its arguments, and ends with every counter at zero. -/
theorem frame : Cert.quiescent_ConvFwd := fun m ρ _ => Cert.ConvFwd.Gen.frame m ρ

/-- The same of its idealization. -/
theorem frameIdeal : Cert.quiescent_ConvFwdIdeal := fun m ρ _ => Cert.ConvFwdIdeal.Gen.frame m ρ

/-- The same of the reference. -/
theorem frameReference : Cert.quiescent_ConvFwdReferenceIdeal := fun m ρ _ =>
  (θ_run Cert.ConvFwdReferenceIdeal.defs _ _).mono (fun r h => ⟨fun c => (h c).2, sem_eq_zero_of_no_sems (by decide) r.2⟩)
    (Cert.ConvFwdReferenceIdeal.Value.run (F := Ideal) m ρ)

/-- The kernel's convolved tokens are the reference's. -/
theorem algebraic : Cert.algebraic_ConvFwdIdeal_ConvFwdReferenceIdeal := by
  intro m g m' g' _ hin
  refine ⟨_, Value.run_blocks m g, (θ_run Cert.ConvFwdReferenceIdeal.defs _ _).mono (fun r h c => ?_)
    (Cert.ConvFwdReferenceIdeal.Value.run (F := Ideal) m' g')⟩
  obtain ⟨h0, hargs⟩ := h c
  obtain ⟨a0, a1⟩ := hin c
  refine ⟨(h0.trans (Cert.ConvFwdReferenceIdeal.Read.val_main_v57_eq _ _)).trans ?_, hargs⟩
  rw [a0, a1]
  funext i
  rw [eq_ix2 i]
  obtain ⟨t, k, e⟩ := eq_col (i 1)
  rw [e]
  exact (reference_entry _ _ _ _).trans (kernel_entry m c _ t k).symm

end Cert.ConvFwdProof

end
-- ==== Proof.AttnFwdRef.lean ====
module

public import proofs.«01_k».proof.Proof.Gen.AttnFwdReferenceIdeal.Read
public import proofs.«01_k».proof.Proof.RefRead

/- What the attention's reference computes, stage by stage: the context's 256 queries see the first 256 keys, the other 2048
   queries see all 2304. -/

@[expose] public section

set_option maxRecDepth 16384

noncomputable section

namespace Cert.AttnFwdProof

open Idealize.ShloMosaic Cert.AttnFwdReferenceIdeal Cert.AttnFwdReferenceIdeal.Read
open Cert.Attn hiding ctx_score ctx_max ctx_weights ctx_prob lat_score lat_max lat_weights lat_prob

/-- One query's attention: the values, weighted. -/
def outRow {n : ℕ} (q : Fin 128 → EReal) (k v : Fin n → Fin 128 → EReal) (d : Fin 128) : EReal := ∑ j, (prob q k j : EReal) * v j d

/-- Row `r`, column `e` of the attention of a matrix of queries: the column says the head. -/
def attend {N n : ℕ} (hn : n ≤ 2304) (Q : Fin N → Fin 1024 → EReal) (K V : Fin 2304 → Fin 256 → EReal) (r : Fin N) (e : Fin 1024) : EReal :=
  outRow (query Q r ⟨e.val / 512, by omega⟩ ⟨e.val / 128 % 4, by omega⟩) (keyCols hn K ⟨e.val / 512, by omega⟩)
    (keyCols hn V ⟨e.val / 512, by omega⟩) ⟨e.val % 128, by omega⟩

variable {x0 : (⟨S2304x1024, .f32⟩ : BufTy).Contents (Elt Ideal)} {x1 x2 : (⟨S2304x256, .bf16⟩ : BufTy).Contents (Elt Ideal)}

/-! ### The context's queries -/

/-- The scaled scores. -/
theorem ctx_score (a : Fin 2) (g : Fin 4) (i : Fin 256) (j : Fin 256) : val_main_v37 (F := Ideal) x0 x1 (ix4 a g i j)
    = (∑ d, keyCols (n := 256) (by norm_num) (narrow x1) a j d * query (wide x0) (ctxRow i) a g d) * (scale : EReal) := by
  refine Eq.trans ?_ (congrArg _ ref_scale)
  pointwise [val_main_v37, val_main_v36, val_main_v35, val_main_v34, val_main_v33, val_main_v32, val_main_v30, val_main_v29, val_main_v27, val_main_v26, val_main_v0, val_main_cst_4, val_main_cst_5]
  rfl

/-- The greatest score of a query, from `-∞`. -/
theorem ctx_max (a : Fin 2) (g : Fin 4) (i : Fin 256) : val_main_v40 (F := Ideal) x0 x1 (ix3 a g i)
    = max ⊥ (Finset.univ.fold max ⊥ fun j => val_main_v37 (F := Ideal) x0 x1 (ix4 a g i j)) := by
  have h : val_main_v38 (F := Ideal) x0 x1 (ix3 a g i) = Finset.univ.fold max ⊥ fun j => val_main_v37 (F := Ideal) x0 x1 (ix4 a g i j) := by
    rw [← ofBits_negInf]
    pointwise [val_main_v38, val_main_cst_6]
  rw [val_main_v40_apply, h]
  generalize (Finset.univ.fold max ⊥ fun j => val_main_v37 (F := Ideal) x0 x1 (ix4 a g i j)) = y
  rw [← ofBits_negInf]
  pointwise [val_main_v39, val_main_cst_7]

section
variable (hQ : ∀ R, Fin1 (wide x0 R)) (hK : ∀ j, Fin1 (narrow x1 j))
include hQ hK

/-- The exponentials are positive real numbers, and over their sum the softmax's weights. -/
theorem ctx_weights (a : Fin 2) (g : Fin 4) (i : Fin 256) : ∃ w : Fin 256 → ℝ,
    (∀ j, val_main_v44 (F := Ideal) x0 x1 (ix4 a g i j) = w j) ∧ 0 < ∑ j, w j ∧ (∀ j, 0 < w j)
    ∧ ∀ j, w j / ∑ i, w i = prob (query (wide x0) (ctxRow i) a g) (keyCols (by norm_num) (narrow x1) a) j := by
  obtain ⟨w, hw, h⟩ := weights_exp (n := 256) (by norm_num) (q := query (wide x0) (ctxRow i) a g) (k := keyCols (by norm_num) (narrow x1) a)
    (fun d => hQ _ _) (fun j d => hK _ _) (s := fun j => val_main_v37 (F := Ideal) x0 x1 (ix4 a g i j)) (ctx_score a g i)
  refine ⟨w, fun j => (Eq.trans ?_ (hw j)), h⟩
  rw [← ctx_max]
  pointwise [val_main_v44, val_main_v43, val_main_v42, val_main_v41]

/-- The softmax's weights. -/
theorem ctx_prob (a : Fin 2) (g : Fin 4) (i : Fin 256) (j : Fin 256) : val_main_v48 (F := Ideal) x0 x1 (ix4 a g i j)
    = (prob (query (wide x0) (ctxRow i) a g) (keyCols (by norm_num) (narrow x1) a) j : EReal) := by
  refine Eq.trans ?_ (ref_prob (ctx_weights hQ hK a g i) j)
  pointwise [val_main_v48, val_main_v47, val_main_v46, val_main_v45, val_main_cst_8]

/-- These queries' rows of the result. -/
theorem ctx_out (i : Fin 256) (e : Fin 1024) : val_main_v51 (F := Ideal) x0 x1 x2 (ix2 i e)
    = attend (n := 256) (by norm_num) (wide x0) (narrow x1) (narrow x2) (ctxRow i) e := by
  have hs := fun j => ctx_prob (x0 := x0) (x1 := x1) hQ hK ⟨e.val / 512, by omega⟩ ⟨e.val / 128 % 4, by omega⟩ i j
  unfold attend outRow
  simp only [← hs]
  simp only [mul_comm (val_main_v48 (F := Ideal) x0 x1 _)]
  pointwise [val_main_v51, val_main_v50, val_main_v49, val_main_v31, val_main_v28, val_main_v1]
  rfl

end

/-! ### The latent's queries -/

/-- The scaled scores. -/
theorem lat_score (a : Fin 2) (g : Fin 4) (i : Fin 2048) (j : Fin 2304) : val_main_v11 (F := Ideal) x0 x1 (ix4 a g i j)
    = (∑ d, keyCols (n := 2304) (by norm_num) (narrow x1) a j d * query (wide x0) (latRow i) a g d) * (scale : EReal) := by
  refine Eq.trans ?_ (congrArg _ ref_scale)
  pointwise [val_main_v11, val_main_v10, val_main_v9, val_main_v8, val_main_v7, val_main_v6, val_main_v4, val_main_v3, val_main_v2, val_main_v0, val_main_cst, val_main_cst_0]
  rfl

/-- The greatest score of a query, from `-∞`. -/
theorem lat_max (a : Fin 2) (g : Fin 4) (i : Fin 2048) : val_main_v14 (F := Ideal) x0 x1 (ix3 a g i)
    = max ⊥ (Finset.univ.fold max ⊥ fun j => val_main_v11 (F := Ideal) x0 x1 (ix4 a g i j)) := by
  have h : val_main_v12 (F := Ideal) x0 x1 (ix3 a g i) = Finset.univ.fold max ⊥ fun j => val_main_v11 (F := Ideal) x0 x1 (ix4 a g i j) := by
    rw [← ofBits_negInf]
    pointwise [val_main_v12, val_main_cst_1]
  rw [val_main_v14_apply, h]
  generalize (Finset.univ.fold max ⊥ fun j => val_main_v11 (F := Ideal) x0 x1 (ix4 a g i j)) = y
  rw [← ofBits_negInf]
  pointwise [val_main_v13, val_main_cst_2]

section
variable (hQ : ∀ R, Fin1 (wide x0 R)) (hK : ∀ j, Fin1 (narrow x1 j))
include hQ hK

/-- The exponentials are positive real numbers, and over their sum the softmax's weights. -/
theorem lat_weights (a : Fin 2) (g : Fin 4) (i : Fin 2048) : ∃ w : Fin 2304 → ℝ,
    (∀ j, val_main_v18 (F := Ideal) x0 x1 (ix4 a g i j) = w j) ∧ 0 < ∑ j, w j ∧ (∀ j, 0 < w j)
    ∧ ∀ j, w j / ∑ i, w i = prob (query (wide x0) (latRow i) a g) (keyCols (by norm_num) (narrow x1) a) j := by
  obtain ⟨w, hw, h⟩ := weights_exp (n := 2304) (by norm_num) (q := query (wide x0) (latRow i) a g) (k := keyCols (by norm_num) (narrow x1) a)
    (fun d => hQ _ _) (fun j d => hK _ _) (s := fun j => val_main_v11 (F := Ideal) x0 x1 (ix4 a g i j)) (lat_score a g i)
  refine ⟨w, fun j => (Eq.trans ?_ (hw j)), h⟩
  rw [← lat_max]
  pointwise [val_main_v18, val_main_v17, val_main_v16, val_main_v15]

/-- The softmax's weights. -/
theorem lat_prob (a : Fin 2) (g : Fin 4) (i : Fin 2048) (j : Fin 2304) : val_main_v22 (F := Ideal) x0 x1 (ix4 a g i j)
    = (prob (query (wide x0) (latRow i) a g) (keyCols (by norm_num) (narrow x1) a) j : EReal) := by
  refine Eq.trans ?_ (ref_prob (lat_weights hQ hK a g i) j)
  pointwise [val_main_v22, val_main_v21, val_main_v20, val_main_v19, val_main_cst_3]

/-- These queries' rows of the result. -/
theorem lat_out (i : Fin 2048) (e : Fin 1024) : val_main_v25 (F := Ideal) x0 x1 x2 (ix2 i e)
    = attend (n := 2304) (by norm_num) (wide x0) (narrow x1) (narrow x2) (latRow i) e := by
  have hs := fun j => lat_prob (x0 := x0) (x1 := x1) hQ hK ⟨e.val / 512, by omega⟩ ⟨e.val / 128 % 4, by omega⟩ i j
  unfold attend outRow
  simp only [← hs]
  simp only [mul_comm (val_main_v22 (F := Ideal) x0 x1 _)]
  pointwise [val_main_v25, val_main_v24, val_main_v23, val_main_v5, val_main_v1]
  rfl

end

/-- The reference's result: the attention of each query, the row saying which keys it sees. -/
theorem reference (hQ : ∀ R, Fin1 (wide x0 R)) (hK : ∀ j, Fin1 (narrow x1 j)) (R : Fin 2304) (e : Fin 1024) :
    val_main_v53 (F := Ideal) x0 x1 x2 (ix2 R e)
      = if R.val < 256 then attend (n := 256) (by norm_num) (wide x0) (narrow x1) (narrow x2) R e
        else attend (n := 2304) (by norm_num) (wide x0) (narrow x1) (narrow x2) R e := by
  have hc : ∀ h : R.val < 256, ctxRow ⟨R.val, h⟩ = R := fun h => rfl
  have hl : ∀ h : ¬R.val < 256, latRow ⟨R.val - 256, by omega⟩ = R := fun h => Fin.ext (by show 256 + (R.val - 256) = R.val; omega)
  pointwise [val_main_v53, val_main_v52]
  by_cases h : R.val < 256
  · refine (dif_pos h).trans (Eq.trans ?_ (if_pos h).symm)
    exact (ctx_out hQ hK ⟨R.val, h⟩ e).trans (by rw [hc h])
  · refine (dif_neg h).trans (Eq.trans ?_ (if_neg h).symm)
    exact (lat_out hQ hK ⟨R.val - 256, by omega⟩ e).trans (by rw [hl h])

end Cert.AttnFwdProof

end
-- ==== Proof.AttnFwd.lean ====
module

public import proofs.«01_k».proof.Defs
public import proofs.«01_k».proof.Proof.Gen.AttnFwd.Frame
public import proofs.«01_k».proof.Proof.Gen.AttnFwdIdeal.Value
public import proofs.«01_k».proof.Proof.Gen.AttnFwdReferenceIdeal.Run
public import proofs.«01_k».proof.Proof.Gen.AttnFwdReferenceIdeal.Read
public import Idealize.ShloMosaic.Lib.Pipeline.ReadBack
public import Idealize.ShloMosaic.Lib.Pipeline.ValueKit
public import proofs.«01_k».proof.Proof.KernelArray
public import proofs.«01_k».proof.Proof.AttnFwdRef
public import proofs.«01_k».proof.Proof.FfDown
public import Idealize.ShloMosaic.Lib.Claim
public import Idealize.ShloMosaic.Lib.Pointwise
public import Idealize.ShloMosaic.Lib.Pipeline.ValueKit.Basic

/- The attention: context queries against the first 256 keys, latent queries against all 2304.  Kernel and reference. -/

@[expose] public section

set_option maxRecDepth 16384

noncomputable section

namespace Cert.AttnFwdProof

open Idealize.ShloMosaic Idealize.ShloMosaic.TcCoe Idealize.SL.Sem Cert.AttnFwdIdeal Cert.AttnFwdIdeal.Gen Cert.Attn

/-- The attention from unnormalised weights, the factor applied once to the whole sum. -/
theorem weights_out {n : ℕ} {q : Fin 128 → EReal} {k : Fin n → Fin 128 → EReal} {w : Fin n → EReal} {r : EReal}
    (h : Weights q k w r) (v : Fin n → Fin 128 → EReal) (d : Fin 128) : (∑ j, w j * v j d) * r = outRow q k v d := by
  have hm := h.mul
  obtain ⟨_, r', hr, _, _, hr', _⟩ := h.real
  unfold outRow
  simp only [← hm]
  rw [hr', sum_mul_coe _ _ hr]
  exact Finset.sum_congr rfl fun j _ => mul_right_comm _ _ _

/-- A column of a head, in the whole row. -/
theorem attend_at {N n : ℕ} (hn : n ≤ 2304) (Q : Fin N → Fin 1024 → EReal) (K V : Fin 2304 → Fin 256 → EReal) (r : Fin N) (i : Fin 128)
    (a : Fin 2) (g : Fin 4) (o : ℕ) (ho : o = a.val * 512 + g.val * 128) (h : o + i.val < 1024) :
    attend hn Q K V r ⟨o + i.val, h⟩ = outRow (query Q r a g) (keyCols hn K a) (keyCols hn V a) i := by
  have e1 : (⟨(o + i.val) / 512, by omega⟩ : Fin 2) = a := Fin.ext (by simp only; omega)
  have e2 : (⟨(o + i.val) / 128 % 4, by omega⟩ : Fin 4) = g := Fin.ext (by simp only; omega)
  have e3 : (⟨(o + i.val) % 128, by omega⟩ : Fin 128) = i := Fin.ext (by simp only; omega)
  unfold attend
  simp only [e1, e2, e3]

/-! ### A head's block -/

/-- A head's block against 256 keys: the powers of two and the factor are unnormalised weights of each row's softmax. -/
theorem head256 {kk vv : Vec Ideal S256x128 .bf16} {x : Vec Ideal S128x128 .bf16} {Q : Fin 128 → Fin 128 → EReal}
    (hx : ∀ r i, x (ix2 r i) = Q r i * (prescale : EReal)) (hQ : ∀ r, Fin1 (Q r)) (hK : ∀ j, Fin1 (rows kk j)) (r i : Fin 128) :
    k0_pay3 kk vv x (ix2 r i) = outRow (Q r) (rows kk) (rows vv) i := by
  have h := weights_exp2 (by norm_num) (hQ r) hK (s := fun j => ∑ i, x (ix2 r i) * kk (ix2 j i)) (fun j => by simp only [hx])
  rw [← weights_out h]
  pointwise [k0_pay3, ofBits_negInf]
  rfl

/-- A head's block against 2304 keys: the powers of two and the factor are unnormalised weights of each row's softmax. -/
theorem head2304 {kk vv : Vec Ideal S2304x128 .bf16} {x : Vec Ideal S128x128 .bf16} {Q : Fin 128 → Fin 128 → EReal}
    (hx : ∀ r i, x (ix2 r i) = Q r i * (prescale : EReal)) (hQ : ∀ r, Fin1 (Q r)) (hK : ∀ j, Fin1 (rows kk j)) (r i : Fin 128) :
    k0_pay15 kk vv x (ix2 r i) = outRow (Q r) (rows kk) (rows vv) i := by
  have h := weights_exp2 (by norm_num) (hQ r) hK (s := fun j => ∑ i, x (ix2 r i) * kk (ix2 j i)) (fun j => by simp only [hx])
  rw [← weights_out h]
  pointwise [k0_pay15, ofBits_negInf]
  rfl

/-- The other heads' text is the first's, cut in other places: 256 keys. -/
theorem cuts256 (kk vv : Vec Ideal S256x128 .bf16) (x : Vec Ideal S128x128 .bf16) :
    k0_pay7 vv (k0_pay5 kk x) (k0_pay6 kk x) (constant S128x128 .f32 0x00000000#32) = k0_pay3 kk vv x
    ∧ k0_pay8 kk vv x = k0_pay3 kk vv x ∧ k0_pay10 vv (k0_pay9 kk x) = k0_pay3 kk vv x ∧ k0_pay11 kk vv x = k0_pay3 kk vv x
    ∧ k0_pay13 kk vv (k0_pay12 x) = k0_pay3 kk vv x ∧ k0_pay14 kk vv x = k0_pay3 kk vv x ∧ k0_pay1 kk vv x = k0_pay3 kk vv x :=
  ⟨rfl, rfl, rfl, rfl, rfl, rfl, rfl⟩

/-- The other heads' text is the first's, cut in other places: 2304 keys. -/
theorem cuts2304 (kk vv : Vec Ideal S2304x128 .bf16) (x : Vec Ideal S128x128 .bf16) :
    k0_pay19 vv (k0_pay17 kk x) (k0_pay18 kk x) (constant S128x128 .f32 0x00000000#32) = k0_pay15 kk vv x
    ∧ k0_pay20 kk vv x = k0_pay15 kk vv x ∧ k0_pay22 vv (k0_pay21 kk x) = k0_pay15 kk vv x ∧ k0_pay23 kk vv x = k0_pay15 kk vv x
    ∧ k0_pay25 kk vv (k0_pay24 x) = k0_pay15 kk vv x ∧ k0_pay26 kk vv x = k0_pay15 kk vv x ∧ k0_pay2 kk vv x = k0_pay15 kk vv x :=
  ⟨rfl, rfl, rfl, rfl, rfl, rfl, rfl⟩

/-- A head's block of the boxes that a grid point loads, 256 keys. -/
theorem loaded256 {x0 : Vec Ideal S128x1024 .bf16} {x1 x2 : Vec Ideal S2304x256 .bf16} {Q : Fin 128 → Fin 1024 → EReal}
    (hx : ∀ r e, x0 (ix2 r e) = Q r e * (prescale : EReal)) (hQ : ∀ r, Fin1 (Q r)) (hK : ∀ j, Fin1 (mat x1 j))
    (a : Fin 2) (g : Fin 4) (o p : ℕ) (ho : o = a.val * 512 + g.val * 128) (hp : p = a.val * 128)
    (inbq : ∀ b, (![0, o] : Fin 2 → ℕ) b + (![128, 128] : Fin 2 → ℕ) b ≤ S128x1024.size b)
    (inbk : ∀ b, (![0, p] : Fin 2 → ℕ) b + (![256, 128] : Fin 2 → ℕ) b ≤ S2304x256.size b)
    (r : Fin 128) (e : Fin 1024) (i : S128x128.Idx) (h0 : r.val = (i 0).val) (h1 : e.val = o + (i 1).val) :
    k0_pay3 (View.ld x1 (Rect.unit (s := S2304x256) ![0, p] ![256, 128] inbk)) (View.ld x2 (Rect.unit (s := S2304x256) ![0, p] ![256, 128] inbk))
      (View.ld x0 (Rect.unit (s := S128x1024) ![0, o] ![128, 128] inbq)) i = attend (n := 256) (by norm_num) Q (mat x1) (mat x2) r e := by
  obtain ⟨x, y, rfl⟩ : ∃ x y : Fin 128, i = ix2 x y := ⟨i 0, i 1, eq_ix2 i⟩
  obtain rfl : r = x := Fin.ext h0
  have hi : o + y.val < 1024 := (show e.val = o + y.val from h1) ▸ e.isLt
  obtain rfl : e = ⟨o + y.val, hi⟩ := Fin.ext h1
  have hk := rows_ld (n := 256) (by norm_num) x1 a p hp inbk
  rw [attend_at _ _ _ _ _ y a g o ho, ← hk, ← rows_ld (n := 256) (by norm_num) x2 a p hp inbk]
  refine head256 (Q := fun r => query Q r a g) (fun r i => ?_) (fun r d => hQ _ _) (fun j => ?_) r y
  · rw [ld_cols x0 o inbq r i r.isLt (by omega), hx]
    exact congrArg (fun q => Q r q * (prescale : EReal)) (Fin.ext (by simp only; omega))
  · rw [hk]
    exact fin1_keyCols (by norm_num) hK a j

/-- A head's block of the boxes that a grid point loads, 2304 keys. -/
theorem loaded2304 {x0 : Vec Ideal S128x1024 .bf16} {x1 x2 : Vec Ideal S2304x256 .bf16} {Q : Fin 128 → Fin 1024 → EReal}
    (hx : ∀ r e, x0 (ix2 r e) = Q r e * (prescale : EReal)) (hQ : ∀ r, Fin1 (Q r)) (hK : ∀ j, Fin1 (mat x1 j))
    (a : Fin 2) (g : Fin 4) (o p : ℕ) (ho : o = a.val * 512 + g.val * 128) (hp : p = a.val * 128)
    (inbq : ∀ b, (![0, o] : Fin 2 → ℕ) b + (![128, 128] : Fin 2 → ℕ) b ≤ S128x1024.size b)
    (inbk : ∀ b, (![0, p] : Fin 2 → ℕ) b + (![2304, 128] : Fin 2 → ℕ) b ≤ S2304x256.size b)
    (r : Fin 128) (e : Fin 1024) (i : S128x128.Idx) (h0 : r.val = (i 0).val) (h1 : e.val = o + (i 1).val) :
    k0_pay15 (View.ld x1 (Rect.unit (s := S2304x256) ![0, p] ![2304, 128] inbk)) (View.ld x2 (Rect.unit (s := S2304x256) ![0, p] ![2304, 128] inbk))
      (View.ld x0 (Rect.unit (s := S128x1024) ![0, o] ![128, 128] inbq)) i = attend (n := 2304) (by norm_num) Q (mat x1) (mat x2) r e := by
  obtain ⟨x, y, rfl⟩ : ∃ x y : Fin 128, i = ix2 x y := ⟨i 0, i 1, eq_ix2 i⟩
  obtain rfl : r = x := Fin.ext h0
  have hi : o + y.val < 1024 := (show e.val = o + y.val from h1) ▸ e.isLt
  obtain rfl : e = ⟨o + y.val, hi⟩ := Fin.ext h1
  have hk := rows_ld (n := 2304) (by norm_num) x1 a p hp inbk
  rw [attend_at _ _ _ _ _ y a g o ho, ← hk, ← rows_ld (n := 2304) (by norm_num) x2 a p hp inbk]
  refine head2304 (Q := fun r => query Q r a g) (fun r i => ?_) (fun r d => hQ _ _) (fun j => ?_) r y
  · rw [ld_cols x0 o inbq r i r.isLt (by omega), hx]
    exact congrArg (fun q => Q r q * (prescale : EReal)) (Fin.ext (by simp only; omega))
  · rw [hk]
    exact fin1_keyCols (by norm_num) hK a j

/-! ### The grid points -/

variable (m : (ℓ : Loc nD τ sig) → Buf (Elt Ideal) ℓ) (c : Dev nD)

/-- The three arguments as matrices. -/
abbrev inQ : Fin 2304 → Fin 1024 → EReal := mat (n := 2304) (m := 1024) (m ((c : Thread nD τ).loc main_arg0))
abbrev inK : Fin 2304 → Fin 256 → EReal := mat (n := 2304) (m := 256) (m ((c : Thread nD τ).loc main_arg1))
abbrev inV : Fin 2304 → Fin 256 → EReal := mat (n := 2304) (m := 256) (m ((c : Thread nD τ).loc main_arg2))

/-- Each block of queries is 128 rows from row `128 t` on; the keys' and values' window never moves. -/
theorem index (t : Fin cfg0.N) : (win0_0.index t 0 = t.val ∧ win0_0.index t 1 = 0) ∧ (win0_1.index t 0 = 0 ∧ win0_1.index t 1 = 0)
    ∧ (win0_2.index t 0 = 0 ∧ win0_2.index t 1 = 0) ∧ (win0_3.index t 0 = t.val ∧ win0_3.index t 1 = 0) := by
  revert t
  change ∀ t : Fin grid0.N, _
  decide +kernel

/-- Block `t` of the host's scaled queries. -/
theorem queries (t : Fin cfg0.N) (r : Fin 128) (e : Fin 1024) :
    (iblk m c 0 t : Vec Ideal S128x1024 .bf16) (ix2 r e) = rowBlock (inQ m c) ⟨t.val, lt_of_lt_of_eq t.isLt N_0⟩ r e * (prescale : EReal) := by
  unfold iblk
  rw [View.read_apply]
  show V m c main_v5 _ = _
  entry_read
  have hy : (((View.whole main_v5).slice ((win0 0).rect t)).emb (ix2 r e) : S2304x1024.Idx)
      = ix2 ⟨t.val * 128 + r.val, by have := t.isLt; have : t.val < 18 := lt_of_lt_of_eq t.isLt N_0; omega⟩ e := by
    refine funext fun a => Fin.ext ?_
    have hi := (index t).1
    match a with
    | ⟨0, _⟩ => show win0_0.index t 0 * 128 + 1 * r.val = t.val * 128 + r.val; rw [hi.1]; omega
    | ⟨1, _⟩ => show win0_0.index t 1 * 1024 + 1 * e.val = e.val; rw [hi.2]; omega
  rw [hy]
  pointwise
  exact host_prescale _

/-- The keys' block is the array. -/
theorem keys (t : Fin cfg0.N) : mat (n := 2304) (m := 256) (iblk m c 1 t : Vec Ideal S2304x256 .bf16) = inK m c := by
  funext j e
  unfold iblk mat
  rw [View.read_apply]
  show V m c main_arg1 _ = _
  rw [V_main_arg1]
  refine congrArg (m ((c : Thread nD τ).loc main_arg1)) (funext fun a => Fin.ext ?_)
  have hi := (index t).2.1
  match a with
  | ⟨0, _⟩ => show win0_1.index t 0 * 2304 + 1 * j.val = j.val; rw [hi.1]; omega
  | ⟨1, _⟩ => show win0_1.index t 1 * 256 + 1 * e.val = e.val; rw [hi.2]; omega

/-- The values' block is the array. -/
theorem values (t : Fin cfg0.N) : mat (n := 2304) (m := 256) (iblk m c 2 t : Vec Ideal S2304x256 .bf16) = inV m c := by
  funext j e
  unfold iblk mat
  rw [View.read_apply]
  show V m c main_arg2 _ = _
  rw [V_main_arg2]
  refine congrArg (m ((c : Thread nD τ).loc main_arg2)) (funext fun a => Fin.ext ?_)
  have hi := (index t).2.2.1
  match a with
  | ⟨0, _⟩ => show win0_2.index t 0 * 2304 + 1 * j.val = j.val; rw [hi.1]; omega
  | ⟨1, _⟩ => show win0_2.index t 1 * 256 + 1 * e.val = e.val; rw [hi.2]; omega

section Points
variable {m c} (hQ : ∀ R, Fin1 (inQ m c R)) (hK : ∀ j, Fin1 (inK m c j))
include hQ hK

/-- What a point of the context leaves in the result's block. -/
theorem left256 (t : Fin cfg0.N) (h : t.val < 2) (r : Fin 128) (e : Fin 1024) :
    (outsAt0 m c t.val t.isLt : Vec Ideal S128x1024 .bf16) (ix2 r e)
      = attend (n := 256) (by norm_num) (rowBlock (inQ m c) ⟨t.val, lt_of_lt_of_eq t.isLt N_0⟩) (inK m c) (inV m c) r e := by
  have hb := fun a g o p ho hp => loaded256 (x1 := iblk m c 1 t) (x2 := iblk m c 2 t) (queries m c t) (fun r => hQ _)
    (by rw [keys]; exact hK) a g o p ho hp
  simp only [keys, values] at hb
  rw [outsAt0_A m c t h (by omega)]
  frame_out
  simp only [cuts256]
  canon_tiles x h using View.cover_of_tiledBy _ ![128, 128] (by sl_kernel_rfl) (ix2 r e)
  · exact hb 1 3 896 128 rfl rfl _ _ r e _ h0 h1
  · exact hb 1 2 768 128 rfl rfl _ _ r e _ h0 h1
  · exact hb 1 1 640 128 rfl rfl _ _ r e _ h0 h1
  · exact hb 1 0 512 128 rfl rfl _ _ r e _ h0 h1
  · exact hb 0 3 384 0 rfl rfl _ _ r e _ h0 h1
  · exact hb 0 2 256 0 rfl rfl _ _ r e _ h0 h1
  · exact hb 0 1 128 0 rfl rfl _ _ r e _ h0 h1
  · exact hb 0 0 0 0 rfl rfl _ _ r e _ h0 (h1.trans (Nat.zero_add _).symm)

/-- What a point of the latent leaves in the result's block. -/
theorem left2304 (t : Fin cfg0.N) (h : ¬t.val < 2) (r : Fin 128) (e : Fin 1024) :
    (outsAt0 m c t.val t.isLt : Vec Ideal S128x1024 .bf16) (ix2 r e)
      = attend (n := 2304) (by norm_num) (rowBlock (inQ m c) ⟨t.val, lt_of_lt_of_eq t.isLt N_0⟩) (inK m c) (inV m c) r e := by
  have hb := fun a g o p ho hp => loaded2304 (x1 := iblk m c 1 t) (x2 := iblk m c 2 t) (queries m c t) (fun r => hQ _)
    (by rw [keys]; exact hK) a g o p ho hp
  simp only [keys, values] at hb
  rw [outsAt0_B m c t h (by omega)]
  frame_out
  simp only [cuts2304]
  canon_tiles x h using View.cover_of_tiledBy _ ![128, 128] (by sl_kernel_rfl) (ix2 r e)
  · exact hb 1 3 896 128 rfl rfl _ _ r e _ h0 h1
  · exact hb 1 2 768 128 rfl rfl _ _ r e _ h0 h1
  · exact hb 1 1 640 128 rfl rfl _ _ r e _ h0 h1
  · exact hb 1 0 512 128 rfl rfl _ _ r e _ h0 h1
  · exact hb 0 3 384 0 rfl rfl _ _ r e _ h0 h1
  · exact hb 0 2 256 0 rfl rfl _ _ r e _ h0 h1
  · exact hb 0 1 128 0 rfl rfl _ _ r e _ h0 h1
  · exact hb 0 0 0 0 rfl rfl _ _ r e _ h0 (h1.trans (Nat.zero_add _).symm)

end Points

/-- A block's row is the array's. -/
theorem attend_rowBlock {n : ℕ} (hn : n ≤ 2304) (Q : Fin 2304 → Fin 1024 → EReal) (K V : Fin 2304 → Fin 256 → EReal) (R : Fin 2304) (e : Fin 1024) :
    attend hn (rowBlock Q ⟨R.val / 128, by omega⟩) K V ⟨R.val % 128, by omega⟩ e = attend hn Q K V R e := by
  have h : (⟨R.val / 128 * 128 + R.val % 128, by omega⟩ : Fin 2304) = R := Fin.ext (by show R.val / 128 * 128 + R.val % 128 = R.val; omega)
  unfold attend query rowBlock
  simp only [h]

/-- The result array, row `R`, column `e`: the attention of each query, the row saying which keys it sees. -/
theorem array (hQ : ∀ R, Fin1 (inQ m c R)) (hK : ∀ j, Fin1 (inK m c j)) (R : Fin 2304) (e : Fin 1024) :
    ((Gen.dats m 0 c).arrAt 3 cfg0.N : Vec Ideal S2304x1024 .bf16) (ix2 R e) = if R.val < 256
      then attend (n := 256) (by norm_num) (inQ m c) (inK m c) (inV m c) R e
      else attend (n := 2304) (by norm_num) (inQ m c) (inK m c) (inV m c) R e := by
  have ht : R.val / 128 < cfg0.N := lt_of_lt_of_eq (by omega) N_0.symm
  have b := congrFun (Value.blocks3 m c ⟨R.val / 128, ht⟩ (flush0_3 _)) (ix2 ⟨R.val % 128, by omega⟩ e)
  rw [View.read_apply, Value.flushed3] at b
  have hy : (((cfg0.win 3).blk ⟨R.val / 128, ht⟩).view.emb (ix2 ⟨R.val % 128, by omega⟩ e) : S2304x1024.Idx) = ix2 R e := by
    refine funext fun a => Fin.ext ?_
    have hi := (index ⟨R.val / 128, ht⟩).2.2.2
    match a with
    | ⟨0, _⟩ => show win0_3.index ⟨R.val / 128, ht⟩ 0 * 128 + 1 * (R.val % 128) = R.val; rw [hi.1]; dsimp only; omega
    | ⟨1, _⟩ => show win0_3.index ⟨R.val / 128, ht⟩ 1 * 1024 + 1 * e.val = e.val; rw [hi.2]; omega
  rw [hy] at b
  refine b.trans ?_
  by_cases h : R.val < 256
  · rw [if_pos h, ← attend_rowBlock]
    exact left256 hQ hK ⟨R.val / 128, ht⟩ (by show R.val / 128 < 2; omega) _ e
  · rw [if_neg h, ← attend_rowBlock]
    exact left2304 hQ hK ⟨R.val / 128, ht⟩ (by show ¬R.val / 128 < 2; omega) _ e

/-- The kernel runs on the machine, keeps its arguments, and ends with every counter at zero. -/
theorem frame : Cert.quiescent_AttnFwd := fun m ρ _ => Cert.AttnFwd.Gen.frame m ρ

/-- The same of its idealization. -/
theorem frameIdeal : Cert.quiescent_AttnFwdIdeal := fun m ρ _ => Cert.AttnFwdIdeal.Gen.frame m ρ

/-- The same of the reference. -/
theorem frameReference : Cert.quiescent_AttnFwdReferenceIdeal := fun m ρ _ =>
  (θ_run Cert.AttnFwdReferenceIdeal.defs _ _).mono (fun r h => ⟨fun c => (h c).2, sem_eq_zero_of_no_sems (by decide) r.2⟩)
    (Cert.AttnFwdReferenceIdeal.Value.run (F := Ideal) m ρ)

/-- The side conditions that the precondition's operations take. -/
theorem preFacts : Cert.Pre_finite_keys.Facts where
  bcast_S_S2304x1024 := by decide
  bitsLt_bf16_f32 := by decide
  bcast_S_S2304x256 := by decide

/-- The idealized kernel's frame at finite queries and keys. -/
theorem frameIdeal_pre : Cert.quiescent_AttnFwdIdeal_pre_finite_keys (hPre_finite_keys := preFacts) := fun m ρ _ => frameIdeal m ρ trivial

/-- The reference's frame at finite queries and keys. -/
theorem frameReference_pre : Cert.quiescent_AttnFwdReferenceIdeal_pre_finite_keys (hPre_finite_keys := preFacts) :=
  fun m ρ _ => frameReference m ρ trivial

/-- Where queries and keys are finite, the kernel's attention is the reference's. -/
theorem algebraic : Cert.algebraic_AttnFwdIdeal_AttnFwdReferenceIdeal_pre_finite_keys (hPre_finite_keys := preFacts) := by
  intro m g m' g' hpre hin
  refine ⟨_, Value.run_blocks m g, (θ_run Cert.AttnFwdReferenceIdeal.defs _ _).mono (fun r h c => ?_)
    (Cert.AttnFwdReferenceIdeal.Value.run (F := Ideal) m' g')⟩
  obtain ⟨h0, hargs⟩ := h c
  obtain ⟨a0, a1, a2⟩ := hin c
  obtain ⟨f0, f1⟩ := hpre c
  refine ⟨(h0.trans (Cert.AttnFwdReferenceIdeal.Read.val_main_v53_eq _ _)).trans ?_, hargs⟩
  rw [a0, a1, a2]
  funext i
  rw [eq_ix2 i]
  have hQ : ∀ R, Fin1 (inQ m c R) := fun R e => FfDownProof.finite_of_lt (by rw [← Attn.ofBits_posInf]; exact congrFun f0 (ix2 R e))
  have hK : ∀ j, Fin1 (inK m c j) := fun j e => FfDownProof.finite_of_lt (by rw [← Attn.ofBits_posInf]; exact congrFun f1 (ix2 j e))
  exact (reference hQ hK _ _).trans (array m c hQ hK _ _).symm

end Cert.AttnFwdProof

end
-- ==== Proof.SguFwd.lean ====
module

public import proofs.«01_k».proof.Defs
public import proofs.«01_k».proof.Proof.Gen.SguFwd.Frame
public import proofs.«01_k».proof.Proof.Gen.SguFwdIdeal.Value
public import proofs.«01_k».proof.Proof.Gen.SguFwdReferenceIdeal.Run
public import proofs.«01_k».proof.Proof.Gen.SguFwdReferenceIdeal.Read
public import Idealize.ShloMosaic.Lib.Pipeline.ValueKit
public import Idealize.ShloMosaic.Lib.Claim
public import Idealize.ShloMosaic.Lib.Pointwise
public import Idealize.ShloMosaic.Lib.Pipeline.ValueKit.Basic

/- The spatial gating unit: one half gates the other, normed and mixed along the tokens of a chunk.  Kernel and reference. -/

@[expose] public section

set_option maxRecDepth 16384

noncomputable section

namespace Cert.SguFwdProof

open Idealize.ShloMosaic Idealize.ShloMosaic.TcCoe Idealize.SL.Sem Cert.SguFwdIdeal Cert.SguFwdIdeal.Gen

/-- The width of a row. -/
def width : EReal := Ideal.ofBits .f32 0x44000000#32

/-- The smooth rectifier, by a hyperbolic tangent. -/
def gelu (x : EReal) : EReal :=
  Ideal.ofBits .f32 0x3F000000#32 * x * (1 + Ideal.tanh (Ideal.ofBits .f32 0x3F4C422A#32 * (x + Ideal.ofBits .f32 0x3D372713#32 * x * x * x)))

/-- A row less its mean. -/
def centred (f : Fin 512 → EReal) (j : Fin 512) : EReal := f j - Ideal.div (∑ k, f k) width

/-- The reciprocal of a row's deviation. -/
def rstd (f : Fin 512 → EReal) : EReal :=
  Ideal.rsqrt (Ideal.div (∑ k, centred f k * centred f k) width + Ideal.ofBits .f32 0x3727C5AC#32)

/-- The layer norm of a row's rectified entries. -/
def normed (v g b : Fin 512 → EReal) (j : Fin 512) : EReal :=
  centred (fun k => gelu (v k)) j * rstd (fun k => gelu (v k)) * g j + b j

/-- Row `p`, column `e` of a chunk: the group's matrix mixes the chunk's normed rows. -/
def gated (u v : Fin 128 → Fin 512 → EReal) (g b : Fin 512 → EReal) (w : Fin 4 → Fin 128 → Fin 128 → EReal) (bs : Fin 128 → Fin 4 → EReal)
    (p : Fin 128) (e : Fin 512) : EReal :=
  gelu (u p e) * (∑ q, w ⟨e.val / 128, by omega⟩ p q * normed (v q) g b e + bs p ⟨e.val / 128, by omega⟩)

/-! ### The body -/

local notation "B" => Vec Ideal S128x512 EltTy.f32
local notation "BR" => Vec Ideal S1x512 EltTy.f32

/-- The rectified block. -/
theorem gelu_apply (x : B) (p : Fin 128) (e : Fin 512) : k0_pay3 x (ix2 p e) = gelu (x (ix2 p e)) := by
  unfold gelu
  pointwise [k0_pay3]

/-- The other half's, less each row's mean. -/
theorem centred_apply (x : B) (p : Fin 128) (e : Fin 512) : k0_pay4 x (ix2 p e) = centred (fun k => gelu (x (ix2 p k))) e := by
  unfold centred gelu width
  pointwise [k0_pay4]

/-- The reciprocals of its rows' deviations. -/
theorem rstd_apply (x : B) (p : Fin 128) : k0_pay5 x (ix2 p 0) = rstd (fun k => gelu (x (ix2 p k))) := by
  unfold rstd width
  simp only [← centred_apply]
  pointwise [k0_pay5]

/-- The normed block. -/
theorem normed_apply (v : B) (g b : BR) (p : Fin 128) (e : Fin 512) :
    k0_pay6 (k0_pay4 v) (k0_pay5 v) g b (ix2 p e) = normed (fun k => v (ix2 p k)) (fun k => g (ix2 0 k)) (fun k => b (ix2 0 k)) e := by
  unfold normed
  rw [← centred_apply, ← rstd_apply]
  pointwise [k0_pay6]

/-- Each group's payload, at an index: its slice starts at a multiple of 128. -/
theorem groups (v13 : FVec Ideal S128x512 .f32) (v33 : FVec Ideal S128x512 .f32) (v41 : FVec Ideal S128x1 .f32) (g b : BR)
    (v52 : FVec Ideal S128x512 .bf16) (w : Vec Ideal S1x128x128 .f32) (bs : Vec Ideal S128x1 .f32) (p k : Fin 128) :
    k0_pay7 v13 v33 v41 g b w bs (ix2 p k) = v13 (ix2 p ⟨k.val, by omega⟩)
        * (∑ q, w (ix3 0 p q) * k0_pay6 v33 v41 g b (ix2 q ⟨k.val, by omega⟩) + bs (ix2 p 0))
    ∧ k0_pay8 v13 v33 v41 g b w bs (ix2 p k) = v13 (ix2 p ⟨128 + k.val, by omega⟩)
        * (∑ q, w (ix3 0 p q) * k0_pay6 v33 v41 g b (ix2 q ⟨128 + k.val, by omega⟩) + bs (ix2 p 0))
    ∧ k0_pay1 v13 v52 w bs (ix2 p k) = v13 (ix2 p ⟨256 + k.val, by omega⟩)
        * (∑ q, w (ix3 0 p q) * v52 (ix2 q ⟨256 + k.val, by omega⟩) + bs (ix2 p 0))
    ∧ k0_pay2 v13 v52 w bs (ix2 p k) = v13 (ix2 p ⟨384 + k.val, by omega⟩)
        * (∑ q, w (ix3 0 p q) * v52 (ix2 q ⟨384 + k.val, by omega⟩) + bs (ix2 p 0)) := by
  refine ⟨?_, ?_, ?_, ?_⟩
  · pointwise [k0_pay7]
  · pointwise [k0_pay8]
  · pointwise [k0_pay1]
  · pointwise [k0_pay2]

/-- A box of the matrices or of the biases that a group loads. -/
theorem loaded (w : Vec Ideal S4x128x128 .f32) (bs : Vec Ideal S128x4 .f32) (a : Fin 4)
    (inbw : ∀ i, (![a.val, 0, 0] : Fin 3 → ℕ) i + S1x128x128.size i ≤ S4x128x128.size i)
    (inbs : ∀ i, (![0, a.val] : Fin 2 → ℕ) i + S128x1.size i ≤ S128x4.size i) (p q : Fin 128) :
    View.ld w (Rect.unit (s := S4x128x128) ![a.val, 0, 0] S1x128x128.size inbw) (ix3 0 p q) = w (ix3 a p q)
    ∧ View.ld bs (Rect.unit (s := S128x4) ![0, a.val] S128x1.size inbs) (ix2 p 0) = bs (ix2 p a) := by
  refine ⟨congrArg w (funext fun i => Fin.ext ?_), congrArg bs (funext fun i => Fin.ext ?_)⟩
  · match i with
    | 0 => show a.val + 1 * 0 = a.val; omega
    | 1 => show 0 + 1 * p.val = p.val; omega
    | 2 => show 0 + 1 * q.val = q.val; omega
  · match i with
    | 0 => show 0 + 1 * p.val = p.val; omega
    | 1 => show a.val + 1 * 0 = a.val; omega

/-- A group's payload is its columns of the gated chunk. -/
theorem piece (u v : B) (g b : BR) (w : Vec Ideal S4x128x128 .f32) (bs : Vec Ideal S128x4 .f32) (a : Fin 4)
    (inbw : ∀ i, (![a.val, 0, 0] : Fin 3 → ℕ) i + S1x128x128.size i ≤ S4x128x128.size i)
    (inbs : ∀ i, (![0, a.val] : Fin 2 → ℕ) i + S128x1.size i ≤ S128x4.size i) (p : Fin 128) (e : Fin 512) (he : e.val / 128 = a.val) :
    k0_pay3 u (ix2 p e) * (∑ q, View.ld w (Rect.unit (s := S4x128x128) ![a.val, 0, 0] S1x128x128.size inbw) (ix3 0 p q)
        * k0_pay6 (k0_pay4 v) (k0_pay5 v) g b (ix2 q e) + View.ld bs (Rect.unit (s := S128x4) ![0, a.val] S128x1.size inbs) (ix2 p 0))
      = gated (fun p e => u (ix2 p e)) (fun p e => v (ix2 p e)) (fun e => g (ix2 0 e)) (fun e => b (ix2 0 e)) (fun a p q => w (ix3 a p q))
        (fun p a => bs (ix2 p a)) p e := by
  have ha : (⟨e.val / 128, by omega⟩ : Fin 4) = a := Fin.ext he
  unfold gated
  rw [ha, (loaded w bs a inbw inbs p 0).2, gelu_apply]
  simp only [(loaded w bs a inbw inbs p _).1, normed_apply]

/-- What the body leaves in the result's block. -/
theorem stored (u v : B) (g b : BR) (w : Vec Ideal S4x128x128 .f32) (bs : Vec Ideal S128x4 .f32) (p : Fin 128) (e : Fin 512) :
    out0_6 u v g b w bs (ix2 p e)
      = gated (fun p e => u (ix2 p e)) (fun p e => v (ix2 p e)) (fun e => g (ix2 0 e)) (fun e => b (ix2 0 e)) (fun a p q => w (ix3 a p q))
        (fun p a => bs (ix2 p a)) p e := by
  have hb := piece u v g b w bs
  unfold out0_6 k0_pay9 k0_pay10 k0_pay11 k0_pay12
  unfold k0_pay10 k0_pay11
  rw [View.ld_unit_lit _ u (by decide), View.ld_unit_lit _ v (by decide), View.ld_unit_lit _ g (by decide), View.ld_unit_lit _ b (by decide)]
  canon_tiles x h using View.cover_of_tiledBy _ ![128, 128] (by sl_kernel_rfl) (ix2 p e)
  · obtain ⟨a, y, rfl⟩ : ∃ a y : Fin 128, x = ix2 a y := ⟨x 0, x 1, eq_ix2 x⟩
    change p.val = a.val at h0
    change e.val = 384 + y.val at h1
    have hx : y.val < 128 := y.isLt
    obtain rfl : p = a := Fin.ext (by omega)
    have he : 384 + y.val < 512 := by omega
    obtain rfl : e = ⟨384 + y.val, he⟩ := Fin.ext (by show e.val = 384 + y.val; omega)
    exact ((groups _ (k0_pay4 v) (k0_pay5 v) g b (k0_pay6 (k0_pay4 v) (k0_pay5 v) g b) _ _ _ _).2.2.2).trans (hb 3 _ _ _ _ (by show (384 + y.val) / 128 = 3; omega))
  · obtain ⟨a, y, rfl⟩ : ∃ a y : Fin 128, x = ix2 a y := ⟨x 0, x 1, eq_ix2 x⟩
    change p.val = a.val at h0
    change e.val = 256 + y.val at h1
    have hx : y.val < 128 := y.isLt
    obtain rfl : p = a := Fin.ext (by omega)
    have he : 256 + y.val < 512 := by omega
    obtain rfl : e = ⟨256 + y.val, he⟩ := Fin.ext (by show e.val = 256 + y.val; omega)
    exact ((groups _ (k0_pay4 v) (k0_pay5 v) g b (k0_pay6 (k0_pay4 v) (k0_pay5 v) g b) _ _ _ _).2.2.1).trans (hb 2 _ _ _ _ (by show (256 + y.val) / 128 = 2; omega))
  · obtain ⟨a, y, rfl⟩ : ∃ a y : Fin 128, x = ix2 a y := ⟨x 0, x 1, eq_ix2 x⟩
    change p.val = a.val at h0
    change e.val = 128 + y.val at h1
    have hx : y.val < 128 := y.isLt
    obtain rfl : p = a := Fin.ext (by omega)
    have he : 128 + y.val < 512 := by omega
    obtain rfl : e = ⟨128 + y.val, he⟩ := Fin.ext (by show e.val = 128 + y.val; omega)
    exact ((groups _ (k0_pay4 v) (k0_pay5 v) g b (k0_pay6 (k0_pay4 v) (k0_pay5 v) g b) _ _ _ _).2.1).trans (hb 1 _ _ _ _ (by show (128 + y.val) / 128 = 1; omega))
  · obtain ⟨a, y, rfl⟩ : ∃ a y : Fin 128, x = ix2 a y := ⟨x 0, x 1, eq_ix2 x⟩
    change p.val = a.val at h0
    change e.val = y.val at h1
    have hx : y.val < 128 := y.isLt
    obtain rfl : p = a := Fin.ext (by omega)
    have he : y.val < 512 := by omega
    obtain rfl : e = ⟨y.val, he⟩ := Fin.ext (by show e.val = y.val; omega)
    exact ((groups _ (k0_pay4 v) (k0_pay5 v) g b (k0_pay6 (k0_pay4 v) (k0_pay5 v) g b) _ _ _ _).1).trans (hb 0 _ _ _ _ (by show (y.val) / 128 = 0; omega))
/-! ### The array -/

/-- Row `p` of chunk `t`. -/
def crow (t : Fin 18) (p : Fin 128) : Fin 2304 := ⟨t.val * 128 + p.val, by omega⟩

/-- Every token lies in a chunk. -/
theorem eq_crow (i : Fin 2304) : ∃ t p, i = crow t p :=
  ⟨⟨i.val / 128, by omega⟩, ⟨i.val % 128, by omega⟩, Fin.ext (by show i.val = i.val / 128 * 128 + i.val % 128; omega)⟩

/-- Chunk `t` of the gated tokens. -/
def result (x : Vec Ideal S2304x4608 .f32) (g b : Vec Ideal S512 .f32) (w : Vec Ideal S4x128x128 .f32) (bs : Vec Ideal S4x128 .f32) (t : Fin 18) :
    Fin 128 → Fin 512 → EReal :=
  gated (fun p e => x (ix2 (crow t p) ⟨2048 + e.val, by omega⟩)) (fun p e => x (ix2 (crow t p) ⟨2560 + e.val, by omega⟩))
    (fun e => g (ix1 e)) (fun e => b (ix1 e)) (fun a p q => w (ix3 a p q)) (fun p a => bs (ix2 a p))

/-- Grid point `t` takes a chunk's rows, of two column blocks of the tokens. -/
theorem index (t : Fin cfg0.N) : (win0_0.index t 0 = t.val ∧ win0_0.index t 1 = 4) ∧ (win0_1.index t 0 = t.val ∧ win0_1.index t 1 = 5)
    ∧ (win0_2.index t 0 = 0 ∧ win0_2.index t 1 = 0) ∧ (win0_3.index t 0 = 0 ∧ win0_3.index t 1 = 0)
    ∧ (win0_4.index t 0 = 0 ∧ win0_4.index t 1 = 0 ∧ win0_4.index t 2 = 0) ∧ (win0_5.index t 0 = 0 ∧ win0_5.index t 1 = 0)
    ∧ (win0_6.index t 0 = t.val ∧ win0_6.index t 1 = 0) := by
  revert t
  change ∀ t : Fin grid0.N, _
  decide +kernel

variable (m : (ℓ : Loc nD τ sig) → Buf (Elt Ideal) ℓ) (c : Dev nD)

/-- The argument arrays. -/
abbrev arg0 : Vec Ideal S2304x4608 .f32 := m ((c : Thread nD τ).loc main_arg0)
abbrev arg1 : Vec Ideal S512 .f32 := m ((c : Thread nD τ).loc main_arg1)
abbrev arg2 : Vec Ideal S512 .f32 := m ((c : Thread nD τ).loc main_arg2)
abbrev arg3 : Vec Ideal S4x128x128 .f32 := m ((c : Thread nD τ).loc main_arg3)
abbrev arg4 : Vec Ideal S4x128 .f32 := m ((c : Thread nD τ).loc main_arg4)

/-- The two halves' blocks of the tokens. -/
abbrev blk0 (t : Fin cfg0.N) : Vec Ideal S128x512 .f32 := iblk m c 0 t
abbrev blk1 (t : Fin cfg0.N) : Vec Ideal S128x512 .f32 := iblk m c 1 t
/-- The gains' and the biases' blocks. -/
abbrev blk2 (t : Fin cfg0.N) : Vec Ideal S1x512 .f32 := iblk m c 2 t
abbrev blk3 (t : Fin cfg0.N) : Vec Ideal S1x512 .f32 := iblk m c 3 t
/-- The mixing matrices' and their biases' blocks. -/
abbrev blk4 (t : Fin cfg0.N) : Vec Ideal S4x128x128 .f32 := iblk m c 4 t
abbrev blk5 (t : Fin cfg0.N) : Vec Ideal S128x4 .f32 := iblk m c 5 t

/-- The half that gates: columns 2048 on. -/
theorem block0 (t : Fin cfg0.N) (p : Fin 128) (e : Fin 512) :
    blk0 m c t (ix2 p e) = (arg0 m c) (ix2 (crow t p) ⟨2048 + e.val, by omega⟩) := by
  obtain ⟨i, -⟩ := index t
  unfold blk0 iblk
  rw [View.read_apply]
  show V m c main_arg0 _ = _
  rw [V_main_arg0]
  refine congrArg (arg0 m c) (funext fun a => Fin.ext ?_)
  match a with
  | ⟨0, _⟩ => show win0_0.index t 0 * 128 + 1 * p.val = t.val * 128 + p.val; rw [i.1]; omega
  | ⟨1, _⟩ => show win0_0.index t 1 * 512 + 1 * e.val = 2048 + e.val; rw [i.2]; omega

/-- The half that is gated: columns 2560 on. -/
theorem block1 (t : Fin cfg0.N) (p : Fin 128) (e : Fin 512) :
    blk1 m c t (ix2 p e) = (arg0 m c) (ix2 (crow t p) ⟨2560 + e.val, by omega⟩) := by
  obtain ⟨-, i, -⟩ := index t
  unfold blk1 iblk
  rw [View.read_apply]
  show V m c main_arg0 _ = _
  rw [V_main_arg0]
  refine congrArg (arg0 m c) (funext fun a => Fin.ext ?_)
  match a with
  | ⟨0, _⟩ => show win0_1.index t 0 * 128 + 1 * p.val = t.val * 128 + p.val; rw [i.1]; omega
  | ⟨1, _⟩ => show win0_1.index t 1 * 512 + 1 * e.val = 2560 + e.val; rw [i.2]; omega

/-- The host gives the gains a unit axis, -/
theorem host2 (e : Fin 512) : (V m c main_v0 : Vec Ideal S1x512 .f32) (ix2 0 e) = (arg1 m c) (ix1 e) := by
  entry_read
  pointwise

/-- the biases too, -/
theorem host3 (e : Fin 512) : (V m c main_v1 : Vec Ideal S1x512 .f32) (ix2 0 e) = (arg2 m c) (ix1 e) := by
  entry_read
  pointwise

/-- and transposes the biases of the mixing. -/
theorem host5 (p : Fin 128) (a : Fin 4) : (V m c main_v2 : Vec Ideal S128x4 .f32) (ix2 p a) = (arg4 m c) (ix2 a p) := by
  entry_read
  pointwise

/-- The gains' block. -/
theorem block2 (t : Fin cfg0.N) (e : Fin 512) : blk2 m c t (ix2 0 e) = (arg1 m c) (ix1 e) := by
  obtain ⟨-, -, i, -⟩ := index t
  unfold blk2 iblk
  rw [View.read_apply]
  show V m c main_v0 _ = _
  refine Eq.trans (congrArg (V m c main_v0) (funext fun a => Fin.ext ?_)) (host2 m c e)
  match a with
  | ⟨0, _⟩ => show win0_2.index t 0 * 1 + 1 * 0 = 0; rw [i.1]
  | ⟨1, _⟩ => show win0_2.index t 1 * 512 + 1 * e.val = e.val; rw [i.2]; omega

/-- The biases' block. -/
theorem block3 (t : Fin cfg0.N) (e : Fin 512) : blk3 m c t (ix2 0 e) = (arg2 m c) (ix1 e) := by
  obtain ⟨-, -, -, i, -⟩ := index t
  unfold blk3 iblk
  rw [View.read_apply]
  show V m c main_v1 _ = _
  refine Eq.trans (congrArg (V m c main_v1) (funext fun a => Fin.ext ?_)) (host3 m c e)
  match a with
  | ⟨0, _⟩ => show win0_3.index t 0 * 1 + 1 * 0 = 0; rw [i.1]
  | ⟨1, _⟩ => show win0_3.index t 1 * 512 + 1 * e.val = e.val; rw [i.2]; omega

/-- The mixing matrices' block. -/
theorem block4 (t : Fin cfg0.N) (a : Fin 4) (p q : Fin 128) :
    blk4 m c t (ix3 a p q) = (arg3 m c) (ix3 a p q) := by
  obtain ⟨-, -, -, -, i, -⟩ := index t
  unfold blk4 iblk
  rw [View.read_apply]
  show V m c main_arg3 _ = _
  rw [V_main_arg3]
  refine congrArg (arg3 m c) (funext fun b => Fin.ext ?_)
  match b with
  | ⟨0, _⟩ => show win0_4.index t 0 * 4 + 1 * a.val = a.val; rw [i.1]; omega
  | ⟨1, _⟩ => show win0_4.index t 1 * 128 + 1 * p.val = p.val; rw [i.2.1]; omega
  | ⟨2, _⟩ => show win0_4.index t 2 * 128 + 1 * q.val = q.val; rw [i.2.2]; omega

/-- Their biases' block. -/
theorem block5 (t : Fin cfg0.N) (p : Fin 128) (a : Fin 4) : blk5 m c t (ix2 p a) = (arg4 m c) (ix2 a p) := by
  obtain ⟨-, -, -, -, -, i, -⟩ := index t
  unfold blk5 iblk
  rw [View.read_apply]
  show V m c main_v2 _ = _
  refine Eq.trans (congrArg (V m c main_v2) (funext fun b => Fin.ext ?_)) (host5 m c p a)
  match b with
  | ⟨0, _⟩ => show win0_5.index t 0 * 128 + 1 * p.val = p.val; rw [i.1]; omega
  | ⟨1, _⟩ => show win0_5.index t 1 * 4 + 1 * a.val = a.val; rw [i.2]; omega

/-- The result, chunk by chunk. -/
theorem kernel_entry (t : Fin cfg0.N) (p : Fin 128) (e : Fin 512) :
    ((dats m 0 c).arrAt 6 cfg0.N : Vec Ideal S2304x512 .bf16) (ix2 (crow t p) e)
      = result (arg0 m c) (arg1 m c) (arg2 m c)
        (arg3 m c) (arg4 m c) t p e := by
  obtain ⟨-, -, -, -, -, -, i⟩ := index t
  have b := congrFun (Value.blocks6 m c t (flush0_6 t)) (ix2 p e)
  rw [View.read_apply, Value.flushed6] at b
  have hy : (((cfg0.win 6).blk t).view.emb (ix2 p e) : S2304x512.Idx) = (ix2 (crow t p) e) := by
    refine funext fun a => Fin.ext ?_
    match a with
    | ⟨0, _⟩ => show win0_6.index t 0 * 128 + 1 * p.val = t.val * 128 + p.val; rw [i.1]; omega
    | ⟨1, _⟩ => show win0_6.index t 1 * 512 + 1 * e.val = e.val; rw [i.2]; omega
  rw [hy] at b
  refine (b.trans (stored (blk0 m c t) (blk1 m c t) (blk2 m c t) (blk3 m c t) (blk4 m c t) (blk5 m c t) p e)).trans ?_
  simp only [block0, block1, block2, block3, block4, block5]
  rfl

/-! ### The reference -/

section Reference
open Cert.SguFwdReferenceIdeal.Read
variable (x : Vec Ideal S2304x4608 .f32) (g b : Vec Ideal S512 .f32) (w : Vec Ideal S4x128x128 .f32) (bs : Vec Ideal S4x128 .f32)

/-- The rectifier as the reference orders its factors. -/
theorem ref_gelu (x : EReal) : x * (Ideal.ofBits .f32 0x3F000000#32 * (1 + Ideal.tanh (Ideal.ofBits .f32 0x3F4C422A#32
    * (x + Ideal.ofBits .f32 0x3D372713#32 * (x * x * x))))) = gelu x := by
  unfold gelu
  rw [← mul_assoc, mul_comm x, ← mul_assoc (Ideal.ofBits .f32 0x3D372713#32), ← mul_assoc (Ideal.ofBits .f32 0x3D372713#32)]

/-- The rectified gate. -/
theorem ref_u (R : Fin 2304) (e : Fin 512) : val_main_v13 (F := Ideal) x (ix2 R e) = gelu (x (ix2 R ⟨2048 + e.val, by omega⟩)) := by
  rw [← ref_gelu]
  pointwise [val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

/-- The rectified other half. -/
theorem ref_v (R : Fin 2304) (e : Fin 512) : val_main_v27 (F := Ideal) x (ix2 R e) = gelu (x (ix2 R ⟨2560 + e.val, by omega⟩)) := by
  rw [← ref_gelu]
  pointwise [val_main_v27, val_main_v26, val_main_v25, val_main_v24, val_main_v23, val_main_v22, val_main_v21, val_main_v20, val_main_v19, val_main_v18, val_main_v17, val_main_v16, val_main_v15, val_main_v14, val_main_cst_3, val_main_cst_4, val_main_cst_5, val_main_cst_6]

/-- It less each row's mean. -/
theorem ref_centred (R : Fin 2304) (e : Fin 512) :
    val_main_v33 (F := Ideal) x (ix2 R e) = centred (fun k => gelu (x (ix2 R ⟨2560 + k.val, by omega⟩))) e := by
  unfold centred width
  simp only [← ref_v]
  pointwise [val_main_v33, val_main_v32, val_main_v31, val_main_v30, val_main_v29, val_main_v28, val_main_cst_7, val_main_cst_8]

/-- The reciprocals of the rows' deviations. -/
theorem ref_rstd (R : Fin 2304) : val_main_v43 (F := Ideal) x (ix2 R 0) = rstd (fun k => gelu (x (ix2 R ⟨2560 + k.val, by omega⟩))) := by
  unfold rstd width
  simp only [← ref_centred]
  pointwise [val_main_v43, val_main_v42, val_main_v41, val_main_v38, val_main_v37, val_main_v36, val_main_v35, val_main_v34, val_main_cst_9, val_main_cst_10, val_main_cst_11]

/-- The normed half. -/
theorem ref_normed (R : Fin 2304) (e : Fin 512) : val_main_v51 (F := Ideal) x g b (ix2 R e)
    = normed (fun k => x (ix2 R ⟨2560 + k.val, by omega⟩)) (fun k => g (ix1 k)) (fun k => b (ix1 k)) e := by
  have h : val_main_v40 (F := Ideal) x = val_main_v33 (F := Ideal) x := rfl
  unfold normed
  rw [← ref_centred, ← ref_rstd, ← h]
  pointwise [val_main_v51, val_main_v50, val_main_v49, val_main_v48, val_main_v47, val_main_v46, val_main_v45, val_main_v44]

/-- The mixed chunks. -/
theorem ref_mixed (t : Fin 18) (p : Fin 128) (a : Fin 4) (k : Fin 128) : val_main_v54 (F := Ideal) x g b w (ix4 t p a k)
    = ∑ q, w (ix3 a p q) * val_main_v51 (F := Ideal) x g b (ix2 (crow t q) ⟨a.val * 128 + k.val, by omega⟩) := by
  simp only [mul_comm (w _)]
  pointwise [val_main_v54, val_main_v53, val_main_v52]
  refine Finset.sum_congr rfl fun q _ => congrArg (fun R => val_main_v51 (F := Ideal) x g b R * w (ix3 a p q)) ?_
  refine congrArg₂ ix2 (Fin.ext ?_) (Fin.ext ?_)
  · show _ = t.val * 128 + q.val
    dsimp only
  · show _ = a.val * 128 + k.val
    dsimp only

/-- The reference's result, chunk by chunk. -/
theorem reference_entry (t : Fin 18) (p : Fin 128) (e : Fin 512) : val_main_v61 (F := Ideal) x g b w bs (ix2 (crow t p) e) = result x g b w bs t p e := by
  unfold result gated
  have h : ∀ q : Fin 128, normed (fun e => x (ix2 (crow t q) ⟨2560 + e.val, by omega⟩)) (fun e => g (ix1 e)) (fun e => b (ix1 e)) e
      = val_main_v51 (F := Ideal) x g b (ix2 (crow t q) ⟨(⟨e.val / 128, by omega⟩ : Fin 4).val * 128 + (⟨e.val % 128, by omega⟩ : Fin 128).val, by omega⟩) := fun q => by
    rw [ref_normed]
    exact congrArg _ (Fin.ext (by show e.val = e.val / 128 * 128 + e.val % 128; omega))
  simp only [h]
  rw [← ref_mixed (a := ⟨e.val / 128, by omega⟩) (k := ⟨e.val % 128, by omega⟩), ← ref_u]
  have e1 : (crow t p).val = t.val * 128 + p.val := rfl
  pointwise [val_main_v61, val_main_v60, val_main_v59, val_main_v58, val_main_v57, val_main_v56, val_main_v55]
  have i1 : ∀ h, (⟨(crow t p).val / 128, h⟩ : Fin 18) = t := fun h => Fin.ext (by show (crow t p).val / 128 = t.val; omega)
  have i2 : ∀ h, (⟨(crow t p).val % 128, h⟩ : Fin 128) = p := fun h => Fin.ext (by show (crow t p).val % 128 = p.val; omega)
  simp only [i1, i2]

end Reference

/-- The kernel runs on the machine, keeps its arguments, and ends with every counter at zero. -/
theorem frame : Cert.quiescent_SguFwd := fun m ρ _ => Cert.SguFwd.Gen.frame m ρ

/-- The same of its idealization. -/
theorem frameIdeal : Cert.quiescent_SguFwdIdeal := fun m ρ _ => Cert.SguFwdIdeal.Gen.frame m ρ

/-- The same of the reference. -/
theorem frameReference : Cert.quiescent_SguFwdReferenceIdeal := fun m ρ _ =>
  (θ_run Cert.SguFwdReferenceIdeal.defs _ _).mono (fun r h => ⟨fun c => (h c).2, sem_eq_zero_of_no_sems (by decide) r.2⟩)
    (Cert.SguFwdReferenceIdeal.Value.run (F := Ideal) m ρ)

/-- The kernel's gated tokens are the reference's. -/
theorem algebraic : Cert.algebraic_SguFwdIdeal_SguFwdReferenceIdeal := by
  intro m g m' g' _ hin
  refine ⟨_, Value.run_blocks m g, (θ_run Cert.SguFwdReferenceIdeal.defs _ _).mono (fun r h c => ?_)
    (Cert.SguFwdReferenceIdeal.Value.run (F := Ideal) m' g')⟩
  obtain ⟨h0, hargs⟩ := h c
  obtain ⟨a0, a1, a2, a3, a4⟩ := hin c
  refine ⟨(h0.trans (Cert.SguFwdReferenceIdeal.Read.val_main_v61_eq _ _)).trans ?_, hargs⟩
  rw [a0, a1, a2, a3, a4]
  funext i
  rw [eq_ix2 i]
  obtain ⟨t, p, e⟩ := eq_crow (i 0)
  rw [e]
  exact (reference_entry _ _ _ _ _ t p _).trans (kernel_entry m c t p _).symm

end Cert.SguFwdProof

end
-- ==== Proof.SlabSum.lean ====
module

public import proofs.«01_k».proof.Defs
public import proofs.«01_k».proof.Proof.Gen.SlabSum.Frame
public import proofs.«01_k».proof.Proof.Gen.SlabSumIdeal.Value
public import proofs.«01_k».proof.Proof.Gen.SlabSumReferenceIdeal.Run
public import proofs.«01_k».proof.Proof.Gen.SlabSumReferenceIdeal.Read
public import Idealize.ShloMosaic.Lib.Pipeline.ValueKit
public import Idealize.ShloMosaic.Lib.Claim
public import Idealize.ShloMosaic.Lib.Pointwise
public import Idealize.ShloMosaic.Lib.Pipeline.ValueKit.Basic

/- The sum over the eight devices of the slabs that hold the loss and the small weights' gradients: kernel and reference. -/

@[expose] public section

set_option maxRecDepth 16384

noncomputable section

namespace Cert.SlabSumProof

open Idealize.ShloMosaic Idealize.ShloMosaic.TcCoe Idealize.SL.Sem Cert.SlabSumIdeal Cert.SlabSumIdeal.Gen

/-- Grid point `t` takes 344 rows of every slab. -/
theorem index (t : Fin cfg0.N) : (win0_0.index t 0 = 0 ∧ win0_0.index t 1 = t.val ∧ win0_0.index t 2 = 0)
    ∧ (win0_1.index t 0 = t.val ∧ win0_1.index t 1 = 0) := by
  revert t
  change ∀ t : Fin grid0.N, _
  decide +kernel

/-- Entry `(r, n)` of the sum of the slabs. -/
def total (x : Vec Ideal S8x2752x128 .f32) (r : Fin 2752) (n : Fin 128) : EReal := ∑ d : Fin 8, x (ix3 d r n)

/-- What the body stores. -/
theorem stored (x : Vec Ideal S8x344x128 .f32) (r : Fin 344) (n : Fin 128) : out0_1 x (ix2 r n) = ∑ d : Fin 8, x (ix3 d r n) := by
  have e : ∀ a0 a1 a2 a3 a4 a5 a6 a7 : Vec Ideal S1x344x128 .f32, k0_pay1 a0 a1 a2 a3 a4 a5 a6 a7 (ix2 r n)
      = a0 (ix3 0 r n) + a1 (ix3 0 r n) + a2 (ix3 0 r n) + a3 (ix3 0 r n) + a4 (ix3 0 r n) + a5 (ix3 0 r n) + a6 (ix3 0 r n) + a7 (ix3 0 r n) :=
    fun _ _ _ _ _ _ _ _ => by pointwise [k0_pay1]
  unfold out0_1
  rw [View.canon_cons_unit_lit _ _ _ (by decide), e, Fin.sum_univ_eight]
  refine congrArg₂ (· + ·) (congrArg₂ (· + ·) (congrArg₂ (· + ·) (congrArg₂ (· + ·) (congrArg₂ (· + ·) (congrArg₂ (· + ·)
    (congrArg₂ (· + ·) ?_ ?_) ?_) ?_) ?_) ?_) ?_) ?_
  all_goals
    refine View.ld_unit_apply_of _ _ _ _ _ _ fun a => ?_
    match a with
    | ⟨0, _⟩ => rfl
    | ⟨1, _⟩ => show r.val = 0 + r.val; omega
    | ⟨2, _⟩ => show n.val = 0 + n.val; omega

variable (m : (ℓ : Loc nD τ sig) → Buf (Elt Ideal) ℓ) (c : Dev nD)

/-- The result array of the kernel. -/
theorem kernel_entry (r : Fin 2752) (n : Fin 128) : ((dats m 0 c).arrAt 1 cfg0.N : Vec Ideal S2752x128 .f32) (ix2 r n)
    = total (m ((c : Thread nD τ).loc main_arg0)) r n := by
  obtain ⟨t, ht⟩ : ∃ t : Fin cfg0.N, t.val = r.val / 344 := ⟨⟨r.val / 344, lt_of_lt_of_eq (by omega) N_0.symm⟩, rfl⟩
  obtain ⟨i0, i1⟩ := index t
  have b := congrFun (Value.blocks1 m c t (flush0_1 t)) (ix2 ⟨r.val % 344, by omega⟩ n)
  rw [View.read_apply, Value.flushed1] at b
  have hy : (((cfg0.win 1).blk t).view.emb (ix2 ⟨r.val % 344, by omega⟩ n) : S2752x128.Idx) = ix2 r n := by
    refine funext fun a => Fin.ext ?_
    match a with
    | ⟨0, _⟩ => show win0_1.index t 0 * 344 + 1 * (r.val % 344) = r.val; rw [i1.1] <;> omega
    | ⟨1, _⟩ => show win0_1.index t 1 * 128 + 1 * n.val = n.val; rw [i1.2] <;> omega
  rw [hy] at b
  refine b.trans ((stored _ _ _).trans (Finset.sum_congr rfl fun d _ => ?_))
  unfold iblk
  rw [View.read_apply]
  show V m c main_arg0 _ = _
  rw [V_main_arg0]
  refine congrArg (m ((c : Thread nD τ).loc main_arg0)) (funext fun a => Fin.ext ?_)
  match a with
  | ⟨0, _⟩ => show win0_0.index t 0 * 8 + 1 * d.val = d.val; rw [i0.1] <;> omega
  | ⟨1, _⟩ => show win0_0.index t 1 * 344 + 1 * (r.val % 344) = r.val; rw [i0.2.1] <;> omega
  | ⟨2, _⟩ => show win0_0.index t 2 * 128 + 1 * n.val = n.val; rw [i0.2.2] <;> omega

open Cert.SlabSumReferenceIdeal.Read in
/-- The result array of the reference. -/
theorem reference_entry (x0 : Vec Ideal S8x2752x128 .f32) (r : Fin 2752) (n : Fin 128) :
    val_main_v0 (F := Ideal) x0 (ix2 r n) = total x0 r n := by
  unfold total
  pointwise [val_main_v0, val_main_cst]

/-- The kernel runs on the machine, keeps its arguments, and ends with every counter at zero. -/
theorem frame : Cert.quiescent_SlabSum := fun m ρ _ => Cert.SlabSum.Gen.frame m ρ

/-- The same of its idealization. -/
theorem frameIdeal : Cert.quiescent_SlabSumIdeal := fun m ρ _ => Cert.SlabSumIdeal.Gen.frame m ρ

/-- The same of the reference. -/
theorem frameReference : Cert.quiescent_SlabSumReferenceIdeal := fun m ρ _ =>
  (θ_run Cert.SlabSumReferenceIdeal.defs _ _).mono (fun r h => ⟨fun c => (h c).2, sem_eq_zero_of_no_sems (by decide) r.2⟩)
    (Cert.SlabSumReferenceIdeal.Value.run (F := Ideal) m ρ)

/-- The kernel's sum is the reference's. -/
theorem algebraic : Cert.algebraic_SlabSumIdeal_SlabSumReferenceIdeal := by
  intro m g m' g' _ hin
  refine ⟨_, Value.run_blocks m g, (θ_run Cert.SlabSumReferenceIdeal.defs _ _).mono (fun r h c => ?_)
    (Cert.SlabSumReferenceIdeal.Value.run (F := Ideal) m' g')⟩
  obtain ⟨h0, hargs⟩ := h c
  refine ⟨(h0.trans (Cert.SlabSumReferenceIdeal.Read.val_main_v0_eq _)).trans ?_, hargs⟩
  rw [hin c]
  funext i
  rw [eq_ix2 i]
  exact (reference_entry _ _ _).trans (kernel_entry m c _ _).symm

end Cert.SlabSumProof

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Algebraic
public import proofs.«01_k».proof.Proof.FfDown
public import proofs.«01_k».proof.Proof.FfUp
public import proofs.«01_k».proof.Proof.NtFf
public import proofs.«01_k».proof.Proof.TnFf
public import proofs.«01_k».proof.Proof.TnFfDown
public import proofs.«01_k».proof.Proof.NtGate
public import proofs.«01_k».proof.Proof.TnGate
public import proofs.«01_k».proof.Proof.MergeBwd
public import proofs.«01_k».proof.Proof.MergeFwd
public import proofs.«01_k».proof.Proof.MmGate
public import proofs.«01_k».proof.Proof.MmFfDown
public import proofs.«01_k».proof.Proof.MmIn
public import proofs.«01_k».proof.Proof.NtIn
public import proofs.«01_k».proof.Proof.TnIn
public import proofs.«01_k».proof.Proof.MmOut
public import proofs.«01_k».proof.Proof.NtOut
public import proofs.«01_k».proof.Proof.TnOut
public import proofs.«01_k».proof.Proof.MmAttn
public import proofs.«01_k».proof.Proof.NtAttn
public import proofs.«01_k».proof.Proof.TnAttn
public import proofs.«01_k».proof.Proof.MmBranch
public import proofs.«01_k».proof.Proof.NtBranch
public import proofs.«01_k».proof.Proof.TnBranch
public import proofs.«01_k».proof.Proof.AdaFwd
public import proofs.«01_k».proof.Proof.AdaBwd
public import proofs.«01_k».proof.Proof.AdamAda
public import proofs.«01_k».proof.Proof.AdamSmall
public import proofs.«01_k».proof.Proof.AdamIn
public import proofs.«01_k».proof.Proof.CctxGrad
public import proofs.«01_k».proof.Proof.ModBwd
public import proofs.«01_k».proof.Proof.Modulate
public import proofs.«01_k».proof.Proof.LnBwd
public import proofs.«01_k».proof.Proof.ResidLn
public import proofs.«01_k».proof.Proof.LossHead
public import proofs.«01_k».proof.Proof.ConvFwd
public import proofs.«01_k».proof.Proof.AttnFwd
public import proofs.«01_k».proof.Proof.SguFwd
public import proofs.«01_k».proof.Proof.SlabSum

@[expose] public section

noncomputable section

namespace Cert.Proof

open Cert.AttnClaims

/-- Every claim of the certificate. -/
theorem claim : Cert.Claim :=
  ⟨Cert.Kernel.Gen.facts, Cert.KernelIdeal.Gen.facts, Cert.ReferenceIdeal.Gen.facts,
    Cert.FfDown.Gen.facts, Cert.FfDownIdeal.Gen.facts, Cert.FfDownReferenceIdeal.Gen.facts,
    Cert.FfUp.Gen.facts, Cert.FfUpIdeal.Gen.facts, Cert.FfUpReferenceIdeal.Gen.facts,
    Cert.NtFf.Gen.facts, Cert.NtFfIdeal.Gen.facts, Cert.NtFfReferenceIdeal.Gen.facts,
    Cert.TnFf.Gen.facts, Cert.TnFfIdeal.Gen.facts, Cert.TnFfReferenceIdeal.Gen.facts,
    Cert.TnFfDown.Gen.facts, Cert.TnFfDownIdeal.Gen.facts, Cert.TnFfDownReferenceIdeal.Gen.facts,
    Cert.NtGate.Gen.facts, Cert.NtGateIdeal.Gen.facts, Cert.NtGateReferenceIdeal.Gen.facts,
    Cert.TnGate.Gen.facts, Cert.TnGateIdeal.Gen.facts, Cert.TnGateReferenceIdeal.Gen.facts,
    Cert.MergeBwd.Gen.facts, Cert.MergeBwdIdeal.Gen.facts, Cert.MergeBwdReferenceIdeal.Gen.facts,
    Cert.MergeFwd.Gen.facts, Cert.MergeFwdIdeal.Gen.facts, Cert.MergeFwdReferenceIdeal.Gen.facts,
    Cert.MmGate.Gen.facts, Cert.MmGateIdeal.Gen.facts, Cert.MmGateReferenceIdeal.Gen.facts,
    Cert.MmFfDown.Gen.facts, Cert.MmFfDownIdeal.Gen.facts, Cert.MmFfDownReferenceIdeal.Gen.facts,
    Cert.MmIn.Gen.facts, Cert.MmInIdeal.Gen.facts, Cert.MmInReferenceIdeal.Gen.facts,
    Cert.NtIn.Gen.facts, Cert.NtInIdeal.Gen.facts, Cert.NtInReferenceIdeal.Gen.facts,
    Cert.TnIn.Gen.facts, Cert.TnInIdeal.Gen.facts, Cert.TnInReferenceIdeal.Gen.facts,
    Cert.MmOut.Gen.facts, Cert.MmOutIdeal.Gen.facts, Cert.MmOutReferenceIdeal.Gen.facts,
    Cert.NtOut.Gen.facts, Cert.NtOutIdeal.Gen.facts, Cert.NtOutReferenceIdeal.Gen.facts,
    Cert.TnOut.Gen.facts, Cert.TnOutIdeal.Gen.facts, Cert.TnOutReferenceIdeal.Gen.facts,
    Cert.MmAttn.Gen.facts, Cert.MmAttnIdeal.Gen.facts, Cert.MmAttnReferenceIdeal.Gen.facts,
    Cert.NtAttn.Gen.facts, Cert.NtAttnIdeal.Gen.facts, Cert.NtAttnReferenceIdeal.Gen.facts,
    Cert.TnAttn.Gen.facts, Cert.TnAttnIdeal.Gen.facts, Cert.TnAttnReferenceIdeal.Gen.facts,
    Cert.MmBranch.Gen.facts, Cert.MmBranchIdeal.Gen.facts, Cert.MmBranchReferenceIdeal.Gen.facts,
    Cert.NtBranch.Gen.facts, Cert.NtBranchIdeal.Gen.facts, Cert.NtBranchReferenceIdeal.Gen.facts,
    Cert.TnBranch.Gen.facts, Cert.TnBranchIdeal.Gen.facts, Cert.TnBranchReferenceIdeal.Gen.facts,
    Cert.AdaFwd.Gen.facts, Cert.AdaFwdIdeal.Gen.facts, Cert.AdaFwdReferenceIdeal.Gen.facts,
    Cert.AdaBwd.Gen.facts, Cert.AdaBwdIdeal.Gen.facts, Cert.AdaBwdReferenceIdeal.Gen.facts,
    Cert.AdamAda.Gen.facts, Cert.AdamAdaIdeal.Gen.facts, Cert.AdamAdaReferenceIdeal.Gen.facts,
    Cert.AdamSmall.Gen.facts, Cert.AdamSmallIdeal.Gen.facts, Cert.AdamSmallReferenceIdeal.Gen.facts,
    Cert.AdamIn.Gen.facts, Cert.AdamInIdeal.Gen.facts, Cert.AdamInReferenceIdeal.Gen.facts,
    Cert.CctxGrad.Gen.facts, Cert.CctxGradIdeal.Gen.facts, Cert.CctxGradReferenceIdeal.Gen.facts,
    Cert.ModBwd.Gen.facts, Cert.ModBwdIdeal.Gen.facts, Cert.ModBwdReferenceIdeal.Gen.facts,
    Cert.Modulate.Gen.facts, Cert.ModulateIdeal.Gen.facts, Cert.ModulateReferenceIdeal.Gen.facts,
    Cert.LnBwd.Gen.facts, Cert.LnBwdIdeal.Gen.facts, Cert.LnBwdReferenceIdeal.Gen.facts,
    Cert.ResidLn.Gen.facts, Cert.ResidLnIdeal.Gen.facts, Cert.ResidLnReferenceIdeal.Gen.facts,
    Cert.LossHead.Gen.facts, Cert.LossHeadIdeal.Gen.facts, Cert.LossHeadReferenceIdeal.Gen.facts,
    Cert.ConvFwd.Gen.facts, Cert.ConvFwdIdeal.Gen.facts, Cert.ConvFwdReferenceIdeal.Gen.facts,
    Cert.AttnFwd.Gen.facts, Cert.AttnFwdIdeal.Gen.facts, Cert.AttnFwdReferenceIdeal.Gen.facts,
    Cert.SguFwd.Gen.facts, Cert.SguFwdIdeal.Gen.facts, Cert.SguFwdReferenceIdeal.Gen.facts,
    Cert.SlabSum.Gen.facts, Cert.SlabSumIdeal.Gen.facts, Cert.SlabSumReferenceIdeal.Gen.facts,
    preFacts, Cert.FfDownProof.preFacts, Cert.CctxGradProof.preFacts, Cert.LnBwdProof.preFacts, Cert.AttnFwdProof.preFacts,
    frame_kernel, frame_kernelIdeal, frame_kernelIdeal_pre, frame_referenceIdeal, frame_referenceIdeal_pre,
    Cert.FfDownProof.frame, Cert.FfDownProof.frameIdeal, Cert.FfDownProof.frameIdeal_pre, Cert.FfDownProof.frameReference, Cert.FfDownProof.frameReference_pre,
    Cert.FfUpProof.frame, Cert.FfUpProof.frameIdeal, Cert.FfUpProof.frameReference,
    Cert.NtFfProof.frame, Cert.NtFfProof.frameIdeal, Cert.NtFfProof.frameReference,
    Cert.TnFfProof.frame, Cert.TnFfProof.frameIdeal, Cert.TnFfProof.frameReference,
    Cert.TnFfDownProof.frame, Cert.TnFfDownProof.frameIdeal, Cert.TnFfDownProof.frameReference,
    Cert.NtGateProof.frame, Cert.NtGateProof.frameIdeal, Cert.NtGateProof.frameReference,
    Cert.TnGateProof.frame, Cert.TnGateProof.frameIdeal, Cert.TnGateProof.frameReference,
    Cert.MergeBwdProof.frame, Cert.MergeBwdProof.frameIdeal, Cert.MergeBwdProof.frameReference,
    Cert.MergeFwdProof.frame, Cert.MergeFwdProof.frameIdeal, Cert.MergeFwdProof.frameReference,
    Cert.MmGateProof.frame, Cert.MmGateProof.frameIdeal, Cert.MmGateProof.frameReference,
    Cert.MmFfDownProof.frame, Cert.MmFfDownProof.frameIdeal, Cert.MmFfDownProof.frameReference,
    Cert.MmInProof.frame, Cert.MmInProof.frameIdeal, Cert.MmInProof.frameReference,
    Cert.NtInProof.frame, Cert.NtInProof.frameIdeal, Cert.NtInProof.frameReference,
    Cert.TnInProof.frame, Cert.TnInProof.frameIdeal, Cert.TnInProof.frameReference,
    Cert.MmOutProof.frame, Cert.MmOutProof.frameIdeal, Cert.MmOutProof.frameReference,
    Cert.NtOutProof.frame, Cert.NtOutProof.frameIdeal, Cert.NtOutProof.frameReference,
    Cert.TnOutProof.frame, Cert.TnOutProof.frameIdeal, Cert.TnOutProof.frameReference,
    Cert.MmAttnProof.frame, Cert.MmAttnProof.frameIdeal, Cert.MmAttnProof.frameReference,
    Cert.NtAttnProof.frame, Cert.NtAttnProof.frameIdeal, Cert.NtAttnProof.frameReference,
    Cert.TnAttnProof.frame, Cert.TnAttnProof.frameIdeal, Cert.TnAttnProof.frameReference,
    Cert.MmBranchProof.frame, Cert.MmBranchProof.frameIdeal, Cert.MmBranchProof.frameReference,
    Cert.NtBranchProof.frame, Cert.NtBranchProof.frameIdeal, Cert.NtBranchProof.frameReference,
    Cert.TnBranchProof.frame, Cert.TnBranchProof.frameIdeal, Cert.TnBranchProof.frameReference,
    Cert.AdaFwdProof.frame, Cert.AdaFwdProof.frameIdeal, Cert.AdaFwdProof.frameReference,
    Cert.AdaBwdProof.frame, Cert.AdaBwdProof.frameIdeal, Cert.AdaBwdProof.frameReference,
    Cert.AdamAdaProof.frame, Cert.AdamAdaProof.frameIdeal, Cert.AdamAdaProof.frameReference,
    Cert.AdamSmallProof.frame, Cert.AdamSmallProof.frameIdeal, Cert.AdamSmallProof.frameReference,
    Cert.AdamInProof.frame, Cert.AdamInProof.frameIdeal, Cert.AdamInProof.frameReference,
    Cert.CctxGradProof.frame, Cert.CctxGradProof.frameIdeal, Cert.CctxGradProof.frameIdeal_pre, Cert.CctxGradProof.frameReference, Cert.CctxGradProof.frameReference_pre,
    Cert.ModBwdProof.frame, Cert.ModBwdProof.frameIdeal, Cert.ModBwdProof.frameReference,
    Cert.ModulateProof.frame, Cert.ModulateProof.frameIdeal, Cert.ModulateProof.frameReference,
    Cert.LnBwdProof.frame, Cert.LnBwdProof.frameIdeal, Cert.LnBwdProof.frameIdeal_pre, Cert.LnBwdProof.frameReference, Cert.LnBwdProof.frameReference_pre,
    Cert.ResidLnProof.frame, Cert.ResidLnProof.frameIdeal, Cert.ResidLnProof.frameReference,
    Cert.LossHeadProof.frame, Cert.LossHeadProof.frameIdeal, Cert.LossHeadProof.frameReference,
    Cert.ConvFwdProof.frame, Cert.ConvFwdProof.frameIdeal, Cert.ConvFwdProof.frameReference,
    Cert.AttnFwdProof.frame, Cert.AttnFwdProof.frameIdeal, Cert.AttnFwdProof.frameIdeal_pre, Cert.AttnFwdProof.frameReference, Cert.AttnFwdProof.frameReference_pre,
    Cert.SguFwdProof.frame, Cert.SguFwdProof.frameIdeal, Cert.SguFwdProof.frameReference,
    Cert.SlabSumProof.frame, Cert.SlabSumProof.frameIdeal, Cert.SlabSumProof.frameReference,
    preserves, Cert.Attn.algebraic,
    trivial, Cert.FfDownProof.algebraic,
    trivial, Cert.FfUpProof.algebraic,
    trivial, Cert.NtFfProof.algebraic,
    trivial, Cert.TnFfProof.algebraic,
    trivial, Cert.TnFfDownProof.algebraic,
    trivial, Cert.NtGateProof.algebraic,
    trivial, Cert.TnGateProof.algebraic,
    trivial, Cert.MergeBwdProof.algebraic,
    trivial, Cert.MergeFwdProof.algebraic,
    trivial, Cert.MmGateProof.algebraic,
    trivial, Cert.MmFfDownProof.algebraic,
    trivial, Cert.MmInProof.algebraic,
    trivial, Cert.NtInProof.algebraic,
    trivial, Cert.TnInProof.algebraic,
    trivial, Cert.MmOutProof.algebraic,
    trivial, Cert.NtOutProof.algebraic,
    trivial, Cert.TnOutProof.algebraic,
    trivial, Cert.MmAttnProof.algebraic,
    trivial, Cert.NtAttnProof.algebraic,
    trivial, Cert.TnAttnProof.algebraic,
    trivial, Cert.MmBranchProof.algebraic,
    trivial, Cert.NtBranchProof.algebraic,
    trivial, Cert.TnBranchProof.algebraic,
    trivial, Cert.AdaFwdProof.algebraic,
    trivial, Cert.AdaBwdProof.algebraic,
    trivial, Cert.AdamAdaProof.algebraic,
    trivial, Cert.AdamSmallProof.algebraic,
    trivial, Cert.AdamInProof.algebraic,
    trivial, Cert.CctxGradProof.algebraic,
    trivial, Cert.ModBwdProof.algebraic,
    trivial, Cert.ModulateProof.algebraic,
    trivial, Cert.LnBwdProof.algebraic,
    trivial, Cert.ResidLnProof.algebraic,
    trivial, Cert.LossHeadProof.algebraic,
    trivial, Cert.ConvFwdProof.algebraic,
    trivial, Cert.AttnFwdProof.algebraic,
    trivial, Cert.SguFwdProof.algebraic,
    trivial, Cert.SlabSumProof.algebraic⟩

end Cert.Proof

end
